-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_XbcIn (m : (ℓ : Loc Cert.XbcIn.nD Cert.XbcIn.τ Cert.XbcIn.sig) → Buf (Elt Bits) ℓ) : Prop :=
  True

def Pre_XbcInIdeal (m : (ℓ : Loc Cert.XbcInIdeal.nD Cert.XbcInIdeal.τ Cert.XbcInIdeal.sig) → Buf (Elt Ideal) ℓ) : Prop :=
  True

def Pre_XbcInRefIdeal (m : (ℓ : Loc Cert.XbcInRefIdeal.nD Cert.XbcInRefIdeal.τ Cert.XbcInRefIdeal.sig) → Buf (Elt Ideal) ℓ) : Prop :=
  True

def Pre_ZIn (m : (ℓ : Loc Cert.ZIn.nD Cert.ZIn.τ Cert.ZIn.sig) → Buf (Elt Bits) ℓ) : Prop :=
  True

def Pre_ZInIdeal (m : (ℓ : Loc Cert.ZInIdeal.nD Cert.ZInIdeal.τ Cert.ZInIdeal.sig) → Buf (Elt Ideal) ℓ) : Prop :=
  True

def Pre_ZInRefIdeal (m : (ℓ : Loc Cert.ZInRefIdeal.nD Cert.ZInRefIdeal.τ Cert.ZInRefIdeal.sig) → Buf (Elt Ideal) ℓ) : Prop :=
  True

def Pre_DtIn (m : (ℓ : Loc Cert.DtIn.nD Cert.DtIn.τ Cert.DtIn.sig) → Buf (Elt Bits) ℓ) : Prop :=
  True

def Pre_DtInIdeal (m : (ℓ : Loc Cert.DtInIdeal.nD Cert.DtInIdeal.τ Cert.DtInIdeal.sig) → Buf (Elt Ideal) ℓ) : Prop :=
  True

def Pre_DtInRefIdeal (m : (ℓ : Loc Cert.DtInRefIdeal.nD Cert.DtInRefIdeal.τ Cert.DtInRefIdeal.sig) → Buf (Elt Ideal) ℓ) : Prop :=
  True

def Pre_SsmOut (m : (ℓ : Loc Cert.SsmOut.nD Cert.SsmOut.τ Cert.SsmOut.sig) → Buf (Elt Bits) ℓ) : Prop :=
  True

def Pre_SsmOutIdeal (m : (ℓ : Loc Cert.SsmOutIdeal.nD Cert.SsmOutIdeal.τ Cert.SsmOutIdeal.sig) → Buf (Elt Ideal) ℓ) : Prop :=
  True

def Pre_SsmOutRefIdeal (m : (ℓ : Loc Cert.SsmOutRefIdeal.nD Cert.SsmOutRefIdeal.τ Cert.SsmOutRefIdeal.sig) → Buf (Elt Ideal) ℓ) : Prop :=
  True

def Pre_AttOut (m : (ℓ : Loc Cert.AttOut.nD Cert.AttOut.τ Cert.AttOut.sig) → Buf (Elt Bits) ℓ) : Prop :=
  True

def Pre_AttOutIdeal (m : (ℓ : Loc Cert.AttOutIdeal.nD Cert.AttOutIdeal.τ Cert.AttOutIdeal.sig) → Buf (Elt Ideal) ℓ) : Prop :=
  True

def Pre_AttOutRefIdeal (m : (ℓ : Loc Cert.AttOutRefIdeal.nD Cert.AttOutRefIdeal.τ Cert.AttOutRefIdeal.sig) → Buf (Elt Ideal) ℓ) : Prop :=
  True

def Pre_PleGate (m : (ℓ : Loc Cert.PleGate.nD Cert.PleGate.τ Cert.PleGate.sig) → Buf (Elt Bits) ℓ) : Prop :=
  True

def Pre_PleGateIdeal (m : (ℓ : Loc Cert.PleGateIdeal.nD Cert.PleGateIdeal.τ Cert.PleGateIdeal.sig) → Buf (Elt Ideal) ℓ) : Prop :=
  True

def Pre_PleGateRefIdeal (m : (ℓ : Loc Cert.PleGateRefIdeal.nD Cert.PleGateRefIdeal.τ Cert.PleGateRefIdeal.sig) → Buf (Elt Ideal) ℓ) : Prop :=
  True

def Pre_PleProj (m : (ℓ : Loc Cert.PleProj.nD Cert.PleProj.τ Cert.PleProj.sig) → Buf (Elt Bits) ℓ) : Prop :=
  True

def Pre_PleProjIdeal (m : (ℓ : Loc Cert.PleProjIdeal.nD Cert.PleProjIdeal.τ Cert.PleProjIdeal.sig) → Buf (Elt Ideal) ℓ) : Prop :=
  True

def Pre_PleProjRefIdeal (m : (ℓ : Loc Cert.PleProjRefIdeal.nD Cert.PleProjRefIdeal.τ Cert.PleProjRefIdeal.sig) → Buf (Elt Ideal) ℓ) : Prop :=
  True

def Pre_ZProj (m : (ℓ : Loc Cert.ZProj.nD Cert.ZProj.τ Cert.ZProj.sig) → Buf (Elt Bits) ℓ) : Prop :=
  True

def Pre_ZProjIdeal (m : (ℓ : Loc Cert.ZProjIdeal.nD Cert.ZProjIdeal.τ Cert.ZProjIdeal.sig) → Buf (Elt Ideal) ℓ) : Prop :=
  True

def Pre_ZProjRefIdeal (m : (ℓ : Loc Cert.ZProjRefIdeal.nD Cert.ZProjRefIdeal.τ Cert.ZProjRefIdeal.sig) → Buf (Elt Ideal) ℓ) : Prop :=
  True

def Pre_XbcProj (m : (ℓ : Loc Cert.XbcProj.nD Cert.XbcProj.τ Cert.XbcProj.sig) → Buf (Elt Bits) ℓ) : Prop :=
  True

def Pre_XbcProjIdeal (m : (ℓ : Loc Cert.XbcProjIdeal.nD Cert.XbcProjIdeal.τ Cert.XbcProjIdeal.sig) → Buf (Elt Ideal) ℓ) : Prop :=
  True

def Pre_XbcProjRefIdeal (m : (ℓ : Loc Cert.XbcProjRefIdeal.nD Cert.XbcProjRefIdeal.τ Cert.XbcProjRefIdeal.sig) → Buf (Elt Ideal) ℓ) : Prop :=
  True

def Pre_DtProj (m : (ℓ : Loc Cert.DtProj.nD Cert.DtProj.τ Cert.DtProj.sig) → Buf (Elt Bits) ℓ) : Prop :=
  True

def Pre_DtProjIdeal (m : (ℓ : Loc Cert.DtProjIdeal.nD Cert.DtProjIdeal.τ Cert.DtProjIdeal.sig) → Buf (Elt Ideal) ℓ) : Prop :=
  True

def Pre_DtProjRefIdeal (m : (ℓ : Loc Cert.DtProjRefIdeal.nD Cert.DtProjRefIdeal.τ Cert.DtProjRefIdeal.sig) → Buf (Elt Ideal) ℓ) : Prop :=
  True

def Pre_DownProj (m : (ℓ : Loc Cert.DownProj.nD Cert.DownProj.τ Cert.DownProj.sig) → Buf (Elt Bits) ℓ) : Prop :=
  True

def Pre_DownProjIdeal (m : (ℓ : Loc Cert.DownProjIdeal.nD Cert.DownProjIdeal.τ Cert.DownProjIdeal.sig) → Buf (Elt Ideal) ℓ) : Prop :=
  True

def Pre_DownProjRefIdeal (m : (ℓ : Loc Cert.DownProjRefIdeal.nD Cert.DownProjRefIdeal.τ Cert.DownProjRefIdeal.sig) → Buf (Elt Ideal) ℓ) : Prop :=
  True

def Pre_ZBack (m : (ℓ : Loc Cert.ZBack.nD Cert.ZBack.τ Cert.ZBack.sig) → Buf (Elt Bits) ℓ) : Prop :=
  True

def Pre_ZBackIdeal (m : (ℓ : Loc Cert.ZBackIdeal.nD Cert.ZBackIdeal.τ Cert.ZBackIdeal.sig) → Buf (Elt Ideal) ℓ) : Prop :=
  True

def Pre_ZBackRefIdeal (m : (ℓ : Loc Cert.ZBackRefIdeal.nD Cert.ZBackRefIdeal.τ Cert.ZBackRefIdeal.sig) → Buf (Elt Ideal) ℓ) : Prop :=
  True

def Pre_XbcBack (m : (ℓ : Loc Cert.XbcBack.nD Cert.XbcBack.τ Cert.XbcBack.sig) → Buf (Elt Bits) ℓ) : Prop :=
  True

def Pre_XbcBackIdeal (m : (ℓ : Loc Cert.XbcBackIdeal.nD Cert.XbcBackIdeal.τ Cert.XbcBackIdeal.sig) → Buf (Elt Ideal) ℓ) : Prop :=
  True

def Pre_XbcBackRefIdeal (m : (ℓ : Loc Cert.XbcBackRefIdeal.nD Cert.XbcBackRefIdeal.τ Cert.XbcBackRefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_FfnBack (m : (ℓ : Loc Cert.FfnBack.nD Cert.FfnBack.τ Cert.FfnBack.sig) → Buf (Elt Bits) ℓ) : Prop :=
  True

def Pre_FfnBackIdeal (m : (ℓ : Loc Cert.FfnBackIdeal.nD Cert.FfnBackIdeal.τ Cert.FfnBackIdeal.sig) → Buf (Elt Ideal) ℓ) : Prop :=
  True

def Pre_FfnBackIdeal_ffn_back_finite [hPre_ffn_back_finite : Cert.Pre_ffn_back_finite.Facts] (m : (ℓ : Loc Cert.FfnBackIdeal.nD Cert.FfnBackIdeal.τ Cert.FfnBackIdeal.sig) → Buf (Elt Ideal) ℓ) : Prop :=
  ∀ c : Dev Cert.FfnBackIdeal.nD,
    (Cert.Pre_ffn_back_finite.fn (F := Ideal) (m ((c.tc : Thread Cert.FfnBackIdeal.nD Cert.FfnBackIdeal.τ).loc Cert.FfnBackIdeal.main_arg0)) (m ((c.tc : Thread Cert.FfnBackIdeal.nD Cert.FfnBackIdeal.τ).loc Cert.FfnBackIdeal.main_arg1)) (m ((c.tc : Thread Cert.FfnBackIdeal.nD Cert.FfnBackIdeal.τ).loc Cert.FfnBackIdeal.main_arg2)) (m ((c.tc : Thread Cert.FfnBackIdeal.nD Cert.FfnBackIdeal.τ).loc Cert.FfnBackIdeal.main_arg3))) = (fun _ => 1#1)

def Pre_FfnBackRefIdeal (m : (ℓ : Loc Cert.FfnBackRefIdeal.nD Cert.FfnBackRefIdeal.τ Cert.FfnBackRefIdeal.sig) → Buf (Elt Ideal) ℓ) : Prop :=
  True

def Pre_FfnBackRefIdeal_ffn_back_finite [hPre_ffn_back_finite : Cert.Pre_ffn_back_finite.Facts] (m : (ℓ : Loc Cert.FfnBackRefIdeal.nD Cert.FfnBackRefIdeal.τ Cert.FfnBackRefIdeal.sig) → Buf (Elt Ideal) ℓ) : Prop :=
  ∀ c : Dev Cert.FfnBackRefIdeal.nD,
    (Cert.Pre_ffn_back_finite.fn (F := Ideal) (m ((c.tc : Thread Cert.FfnBackRefIdeal.nD Cert.FfnBackRefIdeal.τ).loc Cert.FfnBackRefIdeal.main_arg0)) (m ((c.tc : Thread Cert.FfnBackRefIdeal.nD Cert.FfnBackRefIdeal.τ).loc Cert.FfnBackRefIdeal.main_arg1)) (m ((c.tc : Thread Cert.FfnBackRefIdeal.nD Cert.FfnBackRefIdeal.τ).loc Cert.FfnBackRefIdeal.main_arg2)) (m ((c.tc : Thread Cert.FfnBackRefIdeal.nD Cert.FfnBackRefIdeal.τ).loc Cert.FfnBackRefIdeal.main_arg3))) = (fun _ => 1#1)

def Pre_FfnDh (m : (ℓ : Loc Cert.FfnDh.nD Cert.FfnDh.τ Cert.FfnDh.sig) → Buf (Elt Bits) ℓ) : Prop :=
  True

def Pre_FfnDhIdeal (m : (ℓ : Loc Cert.FfnDhIdeal.nD Cert.FfnDhIdeal.τ Cert.FfnDhIdeal.sig) → Buf (Elt Ideal) ℓ) : Prop :=
  True

def Pre_FfnDhRefIdeal (m : (ℓ : Loc Cert.FfnDhRefIdeal.nD Cert.FfnDhRefIdeal.τ Cert.FfnDhRefIdeal.sig) → Buf (Elt Ideal) ℓ) : Prop :=
  True

def Pre_QkvDx (m : (ℓ : Loc Cert.QkvDx.nD Cert.QkvDx.τ Cert.QkvDx.sig) → Buf (Elt Bits) ℓ) : Prop :=
  True

def Pre_QkvDxIdeal (m : (ℓ : Loc Cert.QkvDxIdeal.nD Cert.QkvDxIdeal.τ Cert.QkvDxIdeal.sig) → Buf (Elt Ideal) ℓ) : Prop :=
  True

def Pre_QkvDxRefIdeal (m : (ℓ : Loc Cert.QkvDxRefIdeal.nD Cert.QkvDxRefIdeal.τ Cert.QkvDxRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
      ∧ r.2.sem = fun _ => 0)

def quiescent_XbcIn [hXbcIn : Cert.XbcIn.Facts] : Prop :=
  ∀ (m : (ℓ : Loc Cert.XbcIn.nD Cert.XbcIn.τ Cert.XbcIn.sig) → Buf (Elt Bits) ℓ) (g : Dev Cert.XbcIn.nD → PrngReg), Pre_XbcIn m →
    θ_run (Cert.XbcIn.defs (F := Bits)) (onTc (τ := Cert.XbcIn.τ) (Cert.XbcIn.main (F := Bits))) ⟨m, fun _ => 0, g⟩ (fun r => (∀ c : Dev Cert.XbcIn.nD,
      r.2.mem ((c.tc : Thread Cert.XbcIn.nD Cert.XbcIn.τ).loc Cert.XbcIn.main_arg0) = m ((c.tc : Thread Cert.XbcIn.nD Cert.XbcIn.τ).loc Cert.XbcIn.main_arg0)
      ∧ r.2.mem ((c.tc : Thread Cert.XbcIn.nD Cert.XbcIn.τ).loc Cert.XbcIn.main_arg1) = m ((c.tc : Thread Cert.XbcIn.nD Cert.XbcIn.τ).loc Cert.XbcIn.main_arg1))
      ∧ r.2.sem = fun _ => 0)

def quiescent_XbcInIdeal [hXbcInIdeal : Cert.XbcInIdeal.Facts] : Prop :=
  ∀ (m : (ℓ : Loc Cert.XbcInIdeal.nD Cert.XbcInIdeal.τ Cert.XbcInIdeal.sig) → Buf (Elt Ideal) ℓ) (g : Dev Cert.XbcInIdeal.nD → PrngReg), Pre_XbcInIdeal m →
    θ_run (Cert.XbcInIdeal.defs (F := Ideal)) (onTc (τ := Cert.XbcInIdeal.τ) (Cert.XbcInIdeal.main (F := Ideal))) ⟨m, fun _ => 0, g⟩ (fun r => (∀ c : Dev Cert.XbcInIdeal.nD,
      r.2.mem ((c.tc : Thread Cert.XbcInIdeal.nD Cert.XbcInIdeal.τ).loc Cert.XbcInIdeal.main_arg0) = m ((c.tc : Thread Cert.XbcInIdeal.nD Cert.XbcInIdeal.τ).loc Cert.XbcInIdeal.main_arg0)
      ∧ r.2.mem ((c.tc : Thread Cert.XbcInIdeal.nD Cert.XbcInIdeal.τ).loc Cert.XbcInIdeal.main_arg1) = m ((c.tc : Thread Cert.XbcInIdeal.nD Cert.XbcInIdeal.τ).loc Cert.XbcInIdeal.main_arg1))
      ∧ r.2.sem = fun _ => 0)

def quiescent_XbcInRefIdeal [hXbcInRefIdeal : Cert.XbcInRefIdeal.Facts] : Prop :=
  ∀ (m : (ℓ : Loc Cert.XbcInRefIdeal.nD Cert.XbcInRefIdeal.τ Cert.XbcInRefIdeal.sig) → Buf (Elt Ideal) ℓ) (g : Dev Cert.XbcInRefIdeal.nD → PrngReg), Pre_XbcInRefIdeal m →
    θ_run (Cert.XbcInRefIdeal.defs (F := Ideal)) (onTc (τ := Cert.XbcInRefIdeal.τ) (Cert.XbcInRefIdeal.main (F := Ideal))) ⟨m, fun _ => 0, g⟩ (fun r => (∀ c : Dev Cert.XbcInRefIdeal.nD,
      r.2.mem ((c.tc : Thread Cert.XbcInRefIdeal.nD Cert.XbcInRefIdeal.τ).loc Cert.XbcInRefIdeal.main_arg0) = m ((c.tc : Thread Cert.XbcInRefIdeal.nD Cert.XbcInRefIdeal.τ).loc Cert.XbcInRefIdeal.main_arg0)
      ∧ r.2.mem ((c.tc : Thread Cert.XbcInRefIdeal.nD Cert.XbcInRefIdeal.τ).loc Cert.XbcInRefIdeal.main_arg1) = m ((c.tc : Thread Cert.XbcInRefIdeal.nD Cert.XbcInRefIdeal.τ).loc Cert.XbcInRefIdeal.main_arg1))
      ∧ r.2.sem = fun _ => 0)

def quiescent_ZIn [hZIn : Cert.ZIn.Facts] : Prop :=
  ∀ (m : (ℓ : Loc Cert.ZIn.nD Cert.ZIn.τ Cert.ZIn.sig) → Buf (Elt Bits) ℓ) (g : Dev Cert.ZIn.nD → PrngReg), Pre_ZIn m →
    θ_run (Cert.ZIn.defs (F := Bits)) (onTc (τ := Cert.ZIn.τ) (Cert.ZIn.main (F := Bits))) ⟨m, fun _ => 0, g⟩ (fun r => (∀ c : Dev Cert.ZIn.nD,
      r.2.mem ((c.tc : Thread Cert.ZIn.nD Cert.ZIn.τ).loc Cert.ZIn.main_arg0) = m ((c.tc : Thread Cert.ZIn.nD Cert.ZIn.τ).loc Cert.ZIn.main_arg0)
      ∧ r.2.mem ((c.tc : Thread Cert.ZIn.nD Cert.ZIn.τ).loc Cert.ZIn.main_arg1) = m ((c.tc : Thread Cert.ZIn.nD Cert.ZIn.τ).loc Cert.ZIn.main_arg1))
      ∧ r.2.sem = fun _ => 0)

def quiescent_ZInIdeal [hZInIdeal : Cert.ZInIdeal.Facts] : Prop :=
  ∀ (m : (ℓ : Loc Cert.ZInIdeal.nD Cert.ZInIdeal.τ Cert.ZInIdeal.sig) → Buf (Elt Ideal) ℓ) (g : Dev Cert.ZInIdeal.nD → PrngReg), Pre_ZInIdeal m →
    θ_run (Cert.ZInIdeal.defs (F := Ideal)) (onTc (τ := Cert.ZInIdeal.τ) (Cert.ZInIdeal.main (F := Ideal))) ⟨m, fun _ => 0, g⟩ (fun r => (∀ c : Dev Cert.ZInIdeal.nD,
      r.2.mem ((c.tc : Thread Cert.ZInIdeal.nD Cert.ZInIdeal.τ).loc Cert.ZInIdeal.main_arg0) = m ((c.tc : Thread Cert.ZInIdeal.nD Cert.ZInIdeal.τ).loc Cert.ZInIdeal.main_arg0)
      ∧ r.2.mem ((c.tc : Thread Cert.ZInIdeal.nD Cert.ZInIdeal.τ).loc Cert.ZInIdeal.main_arg1) = m ((c.tc : Thread Cert.ZInIdeal.nD Cert.ZInIdeal.τ).loc Cert.ZInIdeal.main_arg1))
      ∧ r.2.sem = fun _ => 0)

def quiescent_ZInRefIdeal [hZInRefIdeal : Cert.ZInRefIdeal.Facts] : Prop :=
  ∀ (m : (ℓ : Loc Cert.ZInRefIdeal.nD Cert.ZInRefIdeal.τ Cert.ZInRefIdeal.sig) → Buf (Elt Ideal) ℓ) (g : Dev Cert.ZInRefIdeal.nD → PrngReg), Pre_ZInRefIdeal m →
    θ_run (Cert.ZInRefIdeal.defs (F := Ideal)) (onTc (τ := Cert.ZInRefIdeal.τ) (Cert.ZInRefIdeal.main (F := Ideal))) ⟨m, fun _ => 0, g⟩ (fun r => (∀ c : Dev Cert.ZInRefIdeal.nD,
      r.2.mem ((c.tc : Thread Cert.ZInRefIdeal.nD Cert.ZInRefIdeal.τ).loc Cert.ZInRefIdeal.main_arg0) = m ((c.tc : Thread Cert.ZInRefIdeal.nD Cert.ZInRefIdeal.τ).loc Cert.ZInRefIdeal.main_arg0)
      ∧ r.2.mem ((c.tc : Thread Cert.ZInRefIdeal.nD Cert.ZInRefIdeal.τ).loc Cert.ZInRefIdeal.main_arg1) = m ((c.tc : Thread Cert.ZInRefIdeal.nD Cert.ZInRefIdeal.τ).loc Cert.ZInRefIdeal.main_arg1))
      ∧ r.2.sem = fun _ => 0)

def quiescent_DtIn [hDtIn : Cert.DtIn.Facts] : Prop :=
  ∀ (m : (ℓ : Loc Cert.DtIn.nD Cert.DtIn.τ Cert.DtIn.sig) → Buf (Elt Bits) ℓ) (g : Dev Cert.DtIn.nD → PrngReg), Pre_DtIn m →
    θ_run (Cert.DtIn.defs (F := Bits)) (onTc (τ := Cert.DtIn.τ) (Cert.DtIn.main (F := Bits))) ⟨m, fun _ => 0, g⟩ (fun r => (∀ c : Dev Cert.DtIn.nD,
      r.2.mem ((c.tc : Thread Cert.DtIn.nD Cert.DtIn.τ).loc Cert.DtIn.main_arg0) = m ((c.tc : Thread Cert.DtIn.nD Cert.DtIn.τ).loc Cert.DtIn.main_arg0)
      ∧ r.2.mem ((c.tc : Thread Cert.DtIn.nD Cert.DtIn.τ).loc Cert.DtIn.main_arg1) = m ((c.tc : Thread Cert.DtIn.nD Cert.DtIn.τ).loc Cert.DtIn.main_arg1))
      ∧ r.2.sem = fun _ => 0)

def quiescent_DtInIdeal [hDtInIdeal : Cert.DtInIdeal.Facts] : Prop :=
  ∀ (m : (ℓ : Loc Cert.DtInIdeal.nD Cert.DtInIdeal.τ Cert.DtInIdeal.sig) → Buf (Elt Ideal) ℓ) (g : Dev Cert.DtInIdeal.nD → PrngReg), Pre_DtInIdeal m →
    θ_run (Cert.DtInIdeal.defs (F := Ideal)) (onTc (τ := Cert.DtInIdeal.τ) (Cert.DtInIdeal.main (F := Ideal))) ⟨m, fun _ => 0, g⟩ (fun r => (∀ c : Dev Cert.DtInIdeal.nD,
      r.2.mem ((c.tc : Thread Cert.DtInIdeal.nD Cert.DtInIdeal.τ).loc Cert.DtInIdeal.main_arg0) = m ((c.tc : Thread Cert.DtInIdeal.nD Cert.DtInIdeal.τ).loc Cert.DtInIdeal.main_arg0)
      ∧ r.2.mem ((c.tc : Thread Cert.DtInIdeal.nD Cert.DtInIdeal.τ).loc Cert.DtInIdeal.main_arg1) = m ((c.tc : Thread Cert.DtInIdeal.nD Cert.DtInIdeal.τ).loc Cert.DtInIdeal.main_arg1))
      ∧ r.2.sem = fun _ => 0)

def quiescent_DtInRefIdeal [hDtInRefIdeal : Cert.DtInRefIdeal.Facts] : Prop :=
  ∀ (m : (ℓ : Loc Cert.DtInRefIdeal.nD Cert.DtInRefIdeal.τ Cert.DtInRefIdeal.sig) → Buf (Elt Ideal) ℓ) (g : Dev Cert.DtInRefIdeal.nD → PrngReg), Pre_DtInRefIdeal m →
    θ_run (Cert.DtInRefIdeal.defs (F := Ideal)) (onTc (τ := Cert.DtInRefIdeal.τ) (Cert.DtInRefIdeal.main (F := Ideal))) ⟨m, fun _ => 0, g⟩ (fun r => (∀ c : Dev Cert.DtInRefIdeal.nD,
      r.2.mem ((c.tc : Thread Cert.DtInRefIdeal.nD Cert.DtInRefIdeal.τ).loc Cert.DtInRefIdeal.main_arg0) = m ((c.tc : Thread Cert.DtInRefIdeal.nD Cert.DtInRefIdeal.τ).loc Cert.DtInRefIdeal.main_arg0)
      ∧ r.2.mem ((c.tc : Thread Cert.DtInRefIdeal.nD Cert.DtInRefIdeal.τ).loc Cert.DtInRefIdeal.main_arg1) = m ((c.tc : Thread Cert.DtInRefIdeal.nD Cert.DtInRefIdeal.τ).loc Cert.DtInRefIdeal.main_arg1))
      ∧ r.2.sem = fun _ => 0)

def quiescent_SsmOut [hSsmOut : Cert.SsmOut.Facts] : Prop :=
  ∀ (m : (ℓ : Loc Cert.SsmOut.nD Cert.SsmOut.τ Cert.SsmOut.sig) → Buf (Elt Bits) ℓ) (g : Dev Cert.SsmOut.nD → PrngReg), Pre_SsmOut m →
    θ_run (Cert.SsmOut.defs (F := Bits)) (onTc (τ := Cert.SsmOut.τ) (Cert.SsmOut.main (F := Bits))) ⟨m, fun _ => 0, g⟩ (fun r => (∀ c : Dev Cert.SsmOut.nD,
      r.2.mem ((c.tc : Thread Cert.SsmOut.nD Cert.SsmOut.τ).loc Cert.SsmOut.main_arg0) = m ((c.tc : Thread Cert.SsmOut.nD Cert.SsmOut.τ).loc Cert.SsmOut.main_arg0)
      ∧ r.2.mem ((c.tc : Thread Cert.SsmOut.nD Cert.SsmOut.τ).loc Cert.SsmOut.main_arg1) = m ((c.tc : Thread Cert.SsmOut.nD Cert.SsmOut.τ).loc Cert.SsmOut.main_arg1))
      ∧ r.2.sem = fun _ => 0)

def quiescent_SsmOutIdeal [hSsmOutIdeal : Cert.SsmOutIdeal.Facts] : Prop :=
  ∀ (m : (ℓ : Loc Cert.SsmOutIdeal.nD Cert.SsmOutIdeal.τ Cert.SsmOutIdeal.sig) → Buf (Elt Ideal) ℓ) (g : Dev Cert.SsmOutIdeal.nD → PrngReg), Pre_SsmOutIdeal m →
    θ_run (Cert.SsmOutIdeal.defs (F := Ideal)) (onTc (τ := Cert.SsmOutIdeal.τ) (Cert.SsmOutIdeal.main (F := Ideal))) ⟨m, fun _ => 0, g⟩ (fun r => (∀ c : Dev Cert.SsmOutIdeal.nD,
      r.2.mem ((c.tc : Thread Cert.SsmOutIdeal.nD Cert.SsmOutIdeal.τ).loc Cert.SsmOutIdeal.main_arg0) = m ((c.tc : Thread Cert.SsmOutIdeal.nD Cert.SsmOutIdeal.τ).loc Cert.SsmOutIdeal.main_arg0)
      ∧ r.2.mem ((c.tc : Thread Cert.SsmOutIdeal.nD Cert.SsmOutIdeal.τ).loc Cert.SsmOutIdeal.main_arg1) = m ((c.tc : Thread Cert.SsmOutIdeal.nD Cert.SsmOutIdeal.τ).loc Cert.SsmOutIdeal.main_arg1))
      ∧ r.2.sem = fun _ => 0)

def quiescent_SsmOutRefIdeal [hSsmOutRefIdeal : Cert.SsmOutRefIdeal.Facts] : Prop :=
  ∀ (m : (ℓ : Loc Cert.SsmOutRefIdeal.nD Cert.SsmOutRefIdeal.τ Cert.SsmOutRefIdeal.sig) → Buf (Elt Ideal) ℓ) (g : Dev Cert.SsmOutRefIdeal.nD → PrngReg), Pre_SsmOutRefIdeal m →
    θ_run (Cert.SsmOutRefIdeal.defs (F := Ideal)) (onTc (τ := Cert.SsmOutRefIdeal.τ) (Cert.SsmOutRefIdeal.main (F := Ideal))) ⟨m, fun _ => 0, g⟩ (fun r => (∀ c : Dev Cert.SsmOutRefIdeal.nD,
      r.2.mem ((c.tc : Thread Cert.SsmOutRefIdeal.nD Cert.SsmOutRefIdeal.τ).loc Cert.SsmOutRefIdeal.main_arg0) = m ((c.tc : Thread Cert.SsmOutRefIdeal.nD Cert.SsmOutRefIdeal.τ).loc Cert.SsmOutRefIdeal.main_arg0)
      ∧ r.2.mem ((c.tc : Thread Cert.SsmOutRefIdeal.nD Cert.SsmOutRefIdeal.τ).loc Cert.SsmOutRefIdeal.main_arg1) = m ((c.tc : Thread Cert.SsmOutRefIdeal.nD Cert.SsmOutRefIdeal.τ).loc Cert.SsmOutRefIdeal.main_arg1))
      ∧ r.2.sem = fun _ => 0)

def quiescent_AttOut [hAttOut : Cert.AttOut.Facts] : Prop :=
  ∀ (m : (ℓ : Loc Cert.AttOut.nD Cert.AttOut.τ Cert.AttOut.sig) → Buf (Elt Bits) ℓ) (g : Dev Cert.AttOut.nD → PrngReg), Pre_AttOut m →
    θ_run (Cert.AttOut.defs (F := Bits)) (onTc (τ := Cert.AttOut.τ) (Cert.AttOut.main (F := Bits))) ⟨m, fun _ => 0, g⟩ (fun r => (∀ c : Dev Cert.AttOut.nD,
      r.2.mem ((c.tc : Thread Cert.AttOut.nD Cert.AttOut.τ).loc Cert.AttOut.main_arg0) = m ((c.tc : Thread Cert.AttOut.nD Cert.AttOut.τ).loc Cert.AttOut.main_arg0)
      ∧ r.2.mem ((c.tc : Thread Cert.AttOut.nD Cert.AttOut.τ).loc Cert.AttOut.main_arg1) = m ((c.tc : Thread Cert.AttOut.nD Cert.AttOut.τ).loc Cert.AttOut.main_arg1))
      ∧ r.2.sem = fun _ => 0)

def quiescent_AttOutIdeal [hAttOutIdeal : Cert.AttOutIdeal.Facts] : Prop :=
  ∀ (m : (ℓ : Loc Cert.AttOutIdeal.nD Cert.AttOutIdeal.τ Cert.AttOutIdeal.sig) → Buf (Elt Ideal) ℓ) (g : Dev Cert.AttOutIdeal.nD → PrngReg), Pre_AttOutIdeal m →
    θ_run (Cert.AttOutIdeal.defs (F := Ideal)) (onTc (τ := Cert.AttOutIdeal.τ) (Cert.AttOutIdeal.main (F := Ideal))) ⟨m, fun _ => 0, g⟩ (fun r => (∀ c : Dev Cert.AttOutIdeal.nD,
      r.2.mem ((c.tc : Thread Cert.AttOutIdeal.nD Cert.AttOutIdeal.τ).loc Cert.AttOutIdeal.main_arg0) = m ((c.tc : Thread Cert.AttOutIdeal.nD Cert.AttOutIdeal.τ).loc Cert.AttOutIdeal.main_arg0)
      ∧ r.2.mem ((c.tc : Thread Cert.AttOutIdeal.nD Cert.AttOutIdeal.τ).loc Cert.AttOutIdeal.main_arg1) = m ((c.tc : Thread Cert.AttOutIdeal.nD Cert.AttOutIdeal.τ).loc Cert.AttOutIdeal.main_arg1))
      ∧ r.2.sem = fun _ => 0)

def quiescent_AttOutRefIdeal [hAttOutRefIdeal : Cert.AttOutRefIdeal.Facts] : Prop :=
  ∀ (m : (ℓ : Loc Cert.AttOutRefIdeal.nD Cert.AttOutRefIdeal.τ Cert.AttOutRefIdeal.sig) → Buf (Elt Ideal) ℓ) (g : Dev Cert.AttOutRefIdeal.nD → PrngReg), Pre_AttOutRefIdeal m →
    θ_run (Cert.AttOutRefIdeal.defs (F := Ideal)) (onTc (τ := Cert.AttOutRefIdeal.τ) (Cert.AttOutRefIdeal.main (F := Ideal))) ⟨m, fun _ => 0, g⟩ (fun r => (∀ c : Dev Cert.AttOutRefIdeal.nD,
      r.2.mem ((c.tc : Thread Cert.AttOutRefIdeal.nD Cert.AttOutRefIdeal.τ).loc Cert.AttOutRefIdeal.main_arg0) = m ((c.tc : Thread Cert.AttOutRefIdeal.nD Cert.AttOutRefIdeal.τ).loc Cert.AttOutRefIdeal.main_arg0)
      ∧ r.2.mem ((c.tc : Thread Cert.AttOutRefIdeal.nD Cert.AttOutRefIdeal.τ).loc Cert.AttOutRefIdeal.main_arg1) = m ((c.tc : Thread Cert.AttOutRefIdeal.nD Cert.AttOutRefIdeal.τ).loc Cert.AttOutRefIdeal.main_arg1))
      ∧ r.2.sem = fun _ => 0)

def quiescent_PleGate [hPleGate : Cert.PleGate.Facts] : Prop :=
  ∀ (m : (ℓ : Loc Cert.PleGate.nD Cert.PleGate.τ Cert.PleGate.sig) → Buf (Elt Bits) ℓ) (g : Dev Cert.PleGate.nD → PrngReg), Pre_PleGate m →
    θ_run (Cert.PleGate.defs (F := Bits)) (onTc (τ := Cert.PleGate.τ) (Cert.PleGate.main (F := Bits))) ⟨m, fun _ => 0, g⟩ (fun r => (∀ c : Dev Cert.PleGate.nD,
      r.2.mem ((c.tc : Thread Cert.PleGate.nD Cert.PleGate.τ).loc Cert.PleGate.main_arg0) = m ((c.tc : Thread Cert.PleGate.nD Cert.PleGate.τ).loc Cert.PleGate.main_arg0)
      ∧ r.2.mem ((c.tc : Thread Cert.PleGate.nD Cert.PleGate.τ).loc Cert.PleGate.main_arg1) = m ((c.tc : Thread Cert.PleGate.nD Cert.PleGate.τ).loc Cert.PleGate.main_arg1))
      ∧ r.2.sem = fun _ => 0)

def quiescent_PleGateIdeal [hPleGateIdeal : Cert.PleGateIdeal.Facts] : Prop :=
  ∀ (m : (ℓ : Loc Cert.PleGateIdeal.nD Cert.PleGateIdeal.τ Cert.PleGateIdeal.sig) → Buf (Elt Ideal) ℓ) (g : Dev Cert.PleGateIdeal.nD → PrngReg), Pre_PleGateIdeal m →
    θ_run (Cert.PleGateIdeal.defs (F := Ideal)) (onTc (τ := Cert.PleGateIdeal.τ) (Cert.PleGateIdeal.main (F := Ideal))) ⟨m, fun _ => 0, g⟩ (fun r => (∀ c : Dev Cert.PleGateIdeal.nD,
      r.2.mem ((c.tc : Thread Cert.PleGateIdeal.nD Cert.PleGateIdeal.τ).loc Cert.PleGateIdeal.main_arg0) = m ((c.tc : Thread Cert.PleGateIdeal.nD Cert.PleGateIdeal.τ).loc Cert.PleGateIdeal.main_arg0)
      ∧ r.2.mem ((c.tc : Thread Cert.PleGateIdeal.nD Cert.PleGateIdeal.τ).loc Cert.PleGateIdeal.main_arg1) = m ((c.tc : Thread Cert.PleGateIdeal.nD Cert.PleGateIdeal.τ).loc Cert.PleGateIdeal.main_arg1))
      ∧ r.2.sem = fun _ => 0)

def quiescent_PleGateRefIdeal [hPleGateRefIdeal : Cert.PleGateRefIdeal.Facts] : Prop :=
  ∀ (m : (ℓ : Loc Cert.PleGateRefIdeal.nD Cert.PleGateRefIdeal.τ Cert.PleGateRefIdeal.sig) → Buf (Elt Ideal) ℓ) (g : Dev Cert.PleGateRefIdeal.nD → PrngReg), Pre_PleGateRefIdeal m →
    θ_run (Cert.PleGateRefIdeal.defs (F := Ideal)) (onTc (τ := Cert.PleGateRefIdeal.τ) (Cert.PleGateRefIdeal.main (F := Ideal))) ⟨m, fun _ => 0, g⟩ (fun r => (∀ c : Dev Cert.PleGateRefIdeal.nD,
      r.2.mem ((c.tc : Thread Cert.PleGateRefIdeal.nD Cert.PleGateRefIdeal.τ).loc Cert.PleGateRefIdeal.main_arg0) = m ((c.tc : Thread Cert.PleGateRefIdeal.nD Cert.PleGateRefIdeal.τ).loc Cert.PleGateRefIdeal.main_arg0)
      ∧ r.2.mem ((c.tc : Thread Cert.PleGateRefIdeal.nD Cert.PleGateRefIdeal.τ).loc Cert.PleGateRefIdeal.main_arg1) = m ((c.tc : Thread Cert.PleGateRefIdeal.nD Cert.PleGateRefIdeal.τ).loc Cert.PleGateRefIdeal.main_arg1))
      ∧ r.2.sem = fun _ => 0)

def quiescent_PleProj [hPleProj : Cert.PleProj.Facts] : Prop :=
  ∀ (m : (ℓ : Loc Cert.PleProj.nD Cert.PleProj.τ Cert.PleProj.sig) → Buf (Elt Bits) ℓ) (g : Dev Cert.PleProj.nD → PrngReg), Pre_PleProj m →
    θ_run (Cert.PleProj.defs (F := Bits)) (onTc (τ := Cert.PleProj.τ) (Cert.PleProj.main (F := Bits))) ⟨m, fun _ => 0, g⟩ (fun r => (∀ c : Dev Cert.PleProj.nD,
      r.2.mem ((c.tc : Thread Cert.PleProj.nD Cert.PleProj.τ).loc Cert.PleProj.main_arg0) = m ((c.tc : Thread Cert.PleProj.nD Cert.PleProj.τ).loc Cert.PleProj.main_arg0)
      ∧ r.2.mem ((c.tc : Thread Cert.PleProj.nD Cert.PleProj.τ).loc Cert.PleProj.main_arg1) = m ((c.tc : Thread Cert.PleProj.nD Cert.PleProj.τ).loc Cert.PleProj.main_arg1))
      ∧ r.2.sem = fun _ => 0)

def quiescent_PleProjIdeal [hPleProjIdeal : Cert.PleProjIdeal.Facts] : Prop :=
  ∀ (m : (ℓ : Loc Cert.PleProjIdeal.nD Cert.PleProjIdeal.τ Cert.PleProjIdeal.sig) → Buf (Elt Ideal) ℓ) (g : Dev Cert.PleProjIdeal.nD → PrngReg), Pre_PleProjIdeal m →
    θ_run (Cert.PleProjIdeal.defs (F := Ideal)) (onTc (τ := Cert.PleProjIdeal.τ) (Cert.PleProjIdeal.main (F := Ideal))) ⟨m, fun _ => 0, g⟩ (fun r => (∀ c : Dev Cert.PleProjIdeal.nD,
      r.2.mem ((c.tc : Thread Cert.PleProjIdeal.nD Cert.PleProjIdeal.τ).loc Cert.PleProjIdeal.main_arg0) = m ((c.tc : Thread Cert.PleProjIdeal.nD Cert.PleProjIdeal.τ).loc Cert.PleProjIdeal.main_arg0)
      ∧ r.2.mem ((c.tc : Thread Cert.PleProjIdeal.nD Cert.PleProjIdeal.τ).loc Cert.PleProjIdeal.main_arg1) = m ((c.tc : Thread Cert.PleProjIdeal.nD Cert.PleProjIdeal.τ).loc Cert.PleProjIdeal.main_arg1))
      ∧ r.2.sem = fun _ => 0)

def quiescent_PleProjRefIdeal [hPleProjRefIdeal : Cert.PleProjRefIdeal.Facts] : Prop :=
  ∀ (m : (ℓ : Loc Cert.PleProjRefIdeal.nD Cert.PleProjRefIdeal.τ Cert.PleProjRefIdeal.sig) → Buf (Elt Ideal) ℓ) (g : Dev Cert.PleProjRefIdeal.nD → PrngReg), Pre_PleProjRefIdeal m →
    θ_run (Cert.PleProjRefIdeal.defs (F := Ideal)) (onTc (τ := Cert.PleProjRefIdeal.τ) (Cert.PleProjRefIdeal.main (F := Ideal))) ⟨m, fun _ => 0, g⟩ (fun r => (∀ c : Dev Cert.PleProjRefIdeal.nD,
      r.2.mem ((c.tc : Thread Cert.PleProjRefIdeal.nD Cert.PleProjRefIdeal.τ).loc Cert.PleProjRefIdeal.main_arg0) = m ((c.tc : Thread Cert.PleProjRefIdeal.nD Cert.PleProjRefIdeal.τ).loc Cert.PleProjRefIdeal.main_arg0)
      ∧ r.2.mem ((c.tc : Thread Cert.PleProjRefIdeal.nD Cert.PleProjRefIdeal.τ).loc Cert.PleProjRefIdeal.main_arg1) = m ((c.tc : Thread Cert.PleProjRefIdeal.nD Cert.PleProjRefIdeal.τ).loc Cert.PleProjRefIdeal.main_arg1))
      ∧ r.2.sem = fun _ => 0)

def quiescent_ZProj [hZProj : Cert.ZProj.Facts] : Prop :=
  ∀ (m : (ℓ : Loc Cert.ZProj.nD Cert.ZProj.τ Cert.ZProj.sig) → Buf (Elt Bits) ℓ) (g : Dev Cert.ZProj.nD → PrngReg), Pre_ZProj m →
    θ_run (Cert.ZProj.defs (F := Bits)) (onTc (τ := Cert.ZProj.τ) (Cert.ZProj.main (F := Bits))) ⟨m, fun _ => 0, g⟩ (fun r => (∀ c : Dev Cert.ZProj.nD,
      r.2.mem ((c.tc : Thread Cert.ZProj.nD Cert.ZProj.τ).loc Cert.ZProj.main_arg0) = m ((c.tc : Thread Cert.ZProj.nD Cert.ZProj.τ).loc Cert.ZProj.main_arg0)
      ∧ r.2.mem ((c.tc : Thread Cert.ZProj.nD Cert.ZProj.τ).loc Cert.ZProj.main_arg1) = m ((c.tc : Thread Cert.ZProj.nD Cert.ZProj.τ).loc Cert.ZProj.main_arg1))
      ∧ r.2.sem = fun _ => 0)

def quiescent_ZProjIdeal [hZProjIdeal : Cert.ZProjIdeal.Facts] : Prop :=
  ∀ (m : (ℓ : Loc Cert.ZProjIdeal.nD Cert.ZProjIdeal.τ Cert.ZProjIdeal.sig) → Buf (Elt Ideal) ℓ) (g : Dev Cert.ZProjIdeal.nD → PrngReg), Pre_ZProjIdeal m →
    θ_run (Cert.ZProjIdeal.defs (F := Ideal)) (onTc (τ := Cert.ZProjIdeal.τ) (Cert.ZProjIdeal.main (F := Ideal))) ⟨m, fun _ => 0, g⟩ (fun r => (∀ c : Dev Cert.ZProjIdeal.nD,
      r.2.mem ((c.tc : Thread Cert.ZProjIdeal.nD Cert.ZProjIdeal.τ).loc Cert.ZProjIdeal.main_arg0) = m ((c.tc : Thread Cert.ZProjIdeal.nD Cert.ZProjIdeal.τ).loc Cert.ZProjIdeal.main_arg0)
      ∧ r.2.mem ((c.tc : Thread Cert.ZProjIdeal.nD Cert.ZProjIdeal.τ).loc Cert.ZProjIdeal.main_arg1) = m ((c.tc : Thread Cert.ZProjIdeal.nD Cert.ZProjIdeal.τ).loc Cert.ZProjIdeal.main_arg1))
      ∧ r.2.sem = fun _ => 0)

def quiescent_ZProjRefIdeal [hZProjRefIdeal : Cert.ZProjRefIdeal.Facts] : Prop :=
  ∀ (m : (ℓ : Loc Cert.ZProjRefIdeal.nD Cert.ZProjRefIdeal.τ Cert.ZProjRefIdeal.sig) → Buf (Elt Ideal) ℓ) (g : Dev Cert.ZProjRefIdeal.nD → PrngReg), Pre_ZProjRefIdeal m →
    θ_run (Cert.ZProjRefIdeal.defs (F := Ideal)) (onTc (τ := Cert.ZProjRefIdeal.τ) (Cert.ZProjRefIdeal.main (F := Ideal))) ⟨m, fun _ => 0, g⟩ (fun r => (∀ c : Dev Cert.ZProjRefIdeal.nD,
      r.2.mem ((c.tc : Thread Cert.ZProjRefIdeal.nD Cert.ZProjRefIdeal.τ).loc Cert.ZProjRefIdeal.main_arg0) = m ((c.tc : Thread Cert.ZProjRefIdeal.nD Cert.ZProjRefIdeal.τ).loc Cert.ZProjRefIdeal.main_arg0)
      ∧ r.2.mem ((c.tc : Thread Cert.ZProjRefIdeal.nD Cert.ZProjRefIdeal.τ).loc Cert.ZProjRefIdeal.main_arg1) = m ((c.tc : Thread Cert.ZProjRefIdeal.nD Cert.ZProjRefIdeal.τ).loc Cert.ZProjRefIdeal.main_arg1))
      ∧ r.2.sem = fun _ => 0)

def quiescent_XbcProj [hXbcProj : Cert.XbcProj.Facts] : Prop :=
  ∀ (m : (ℓ : Loc Cert.XbcProj.nD Cert.XbcProj.τ Cert.XbcProj.sig) → Buf (Elt Bits) ℓ) (g : Dev Cert.XbcProj.nD → PrngReg), Pre_XbcProj m →
    θ_run (Cert.XbcProj.defs (F := Bits)) (onTc (τ := Cert.XbcProj.τ) (Cert.XbcProj.main (F := Bits))) ⟨m, fun _ => 0, g⟩ (fun r => (∀ c : Dev Cert.XbcProj.nD,
      r.2.mem ((c.tc : Thread Cert.XbcProj.nD Cert.XbcProj.τ).loc Cert.XbcProj.main_arg0) = m ((c.tc : Thread Cert.XbcProj.nD Cert.XbcProj.τ).loc Cert.XbcProj.main_arg0)
      ∧ r.2.mem ((c.tc : Thread Cert.XbcProj.nD Cert.XbcProj.τ).loc Cert.XbcProj.main_arg1) = m ((c.tc : Thread Cert.XbcProj.nD Cert.XbcProj.τ).loc Cert.XbcProj.main_arg1))
      ∧ r.2.sem = fun _ => 0)

def quiescent_XbcProjIdeal [hXbcProjIdeal : Cert.XbcProjIdeal.Facts] : Prop :=
  ∀ (m : (ℓ : Loc Cert.XbcProjIdeal.nD Cert.XbcProjIdeal.τ Cert.XbcProjIdeal.sig) → Buf (Elt Ideal) ℓ) (g : Dev Cert.XbcProjIdeal.nD → PrngReg), Pre_XbcProjIdeal m →
    θ_run (Cert.XbcProjIdeal.defs (F := Ideal)) (onTc (τ := Cert.XbcProjIdeal.τ) (Cert.XbcProjIdeal.main (F := Ideal))) ⟨m, fun _ => 0, g⟩ (fun r => (∀ c : Dev Cert.XbcProjIdeal.nD,
      r.2.mem ((c.tc : Thread Cert.XbcProjIdeal.nD Cert.XbcProjIdeal.τ).loc Cert.XbcProjIdeal.main_arg0) = m ((c.tc : Thread Cert.XbcProjIdeal.nD Cert.XbcProjIdeal.τ).loc Cert.XbcProjIdeal.main_arg0)
      ∧ r.2.mem ((c.tc : Thread Cert.XbcProjIdeal.nD Cert.XbcProjIdeal.τ).loc Cert.XbcProjIdeal.main_arg1) = m ((c.tc : Thread Cert.XbcProjIdeal.nD Cert.XbcProjIdeal.τ).loc Cert.XbcProjIdeal.main_arg1))
      ∧ r.2.sem = fun _ => 0)

def quiescent_XbcProjRefIdeal [hXbcProjRefIdeal : Cert.XbcProjRefIdeal.Facts] : Prop :=
  ∀ (m : (ℓ : Loc Cert.XbcProjRefIdeal.nD Cert.XbcProjRefIdeal.τ Cert.XbcProjRefIdeal.sig) → Buf (Elt Ideal) ℓ) (g : Dev Cert.XbcProjRefIdeal.nD → PrngReg), Pre_XbcProjRefIdeal m →
    θ_run (Cert.XbcProjRefIdeal.defs (F := Ideal)) (onTc (τ := Cert.XbcProjRefIdeal.τ) (Cert.XbcProjRefIdeal.main (F := Ideal))) ⟨m, fun _ => 0, g⟩ (fun r => (∀ c : Dev Cert.XbcProjRefIdeal.nD,
      r.2.mem ((c.tc : Thread Cert.XbcProjRefIdeal.nD Cert.XbcProjRefIdeal.τ).loc Cert.XbcProjRefIdeal.main_arg0) = m ((c.tc : Thread Cert.XbcProjRefIdeal.nD Cert.XbcProjRefIdeal.τ).loc Cert.XbcProjRefIdeal.main_arg0)
      ∧ r.2.mem ((c.tc : Thread Cert.XbcProjRefIdeal.nD Cert.XbcProjRefIdeal.τ).loc Cert.XbcProjRefIdeal.main_arg1) = m ((c.tc : Thread Cert.XbcProjRefIdeal.nD Cert.XbcProjRefIdeal.τ).loc Cert.XbcProjRefIdeal.main_arg1))
      ∧ r.2.sem = fun _ => 0)

def quiescent_DtProj [hDtProj : Cert.DtProj.Facts] : Prop :=
  ∀ (m : (ℓ : Loc Cert.DtProj.nD Cert.DtProj.τ Cert.DtProj.sig) → Buf (Elt Bits) ℓ) (g : Dev Cert.DtProj.nD → PrngReg), Pre_DtProj m →
    θ_run (Cert.DtProj.defs (F := Bits)) (onTc (τ := Cert.DtProj.τ) (Cert.DtProj.main (F := Bits))) ⟨m, fun _ => 0, g⟩ (fun r => (∀ c : Dev Cert.DtProj.nD,
      r.2.mem ((c.tc : Thread Cert.DtProj.nD Cert.DtProj.τ).loc Cert.DtProj.main_arg0) = m ((c.tc : Thread Cert.DtProj.nD Cert.DtProj.τ).loc Cert.DtProj.main_arg0)
      ∧ r.2.mem ((c.tc : Thread Cert.DtProj.nD Cert.DtProj.τ).loc Cert.DtProj.main_arg1) = m ((c.tc : Thread Cert.DtProj.nD Cert.DtProj.τ).loc Cert.DtProj.main_arg1))
      ∧ r.2.sem = fun _ => 0)

def quiescent_DtProjIdeal [hDtProjIdeal : Cert.DtProjIdeal.Facts] : Prop :=
  ∀ (m : (ℓ : Loc Cert.DtProjIdeal.nD Cert.DtProjIdeal.τ Cert.DtProjIdeal.sig) → Buf (Elt Ideal) ℓ) (g : Dev Cert.DtProjIdeal.nD → PrngReg), Pre_DtProjIdeal m →
    θ_run (Cert.DtProjIdeal.defs (F := Ideal)) (onTc (τ := Cert.DtProjIdeal.τ) (Cert.DtProjIdeal.main (F := Ideal))) ⟨m, fun _ => 0, g⟩ (fun r => (∀ c : Dev Cert.DtProjIdeal.nD,
      r.2.mem ((c.tc : Thread Cert.DtProjIdeal.nD Cert.DtProjIdeal.τ).loc Cert.DtProjIdeal.main_arg0) = m ((c.tc : Thread Cert.DtProjIdeal.nD Cert.DtProjIdeal.τ).loc Cert.DtProjIdeal.main_arg0)
      ∧ r.2.mem ((c.tc : Thread Cert.DtProjIdeal.nD Cert.DtProjIdeal.τ).loc Cert.DtProjIdeal.main_arg1) = m ((c.tc : Thread Cert.DtProjIdeal.nD Cert.DtProjIdeal.τ).loc Cert.DtProjIdeal.main_arg1))
      ∧ r.2.sem = fun _ => 0)

def quiescent_DtProjRefIdeal [hDtProjRefIdeal : Cert.DtProjRefIdeal.Facts] : Prop :=
  ∀ (m : (ℓ : Loc Cert.DtProjRefIdeal.nD Cert.DtProjRefIdeal.τ Cert.DtProjRefIdeal.sig) → Buf (Elt Ideal) ℓ) (g : Dev Cert.DtProjRefIdeal.nD → PrngReg), Pre_DtProjRefIdeal m →
    θ_run (Cert.DtProjRefIdeal.defs (F := Ideal)) (onTc (τ := Cert.DtProjRefIdeal.τ) (Cert.DtProjRefIdeal.main (F := Ideal))) ⟨m, fun _ => 0, g⟩ (fun r => (∀ c : Dev Cert.DtProjRefIdeal.nD,
      r.2.mem ((c.tc : Thread Cert.DtProjRefIdeal.nD Cert.DtProjRefIdeal.τ).loc Cert.DtProjRefIdeal.main_arg0) = m ((c.tc : Thread Cert.DtProjRefIdeal.nD Cert.DtProjRefIdeal.τ).loc Cert.DtProjRefIdeal.main_arg0)
      ∧ r.2.mem ((c.tc : Thread Cert.DtProjRefIdeal.nD Cert.DtProjRefIdeal.τ).loc Cert.DtProjRefIdeal.main_arg1) = m ((c.tc : Thread Cert.DtProjRefIdeal.nD Cert.DtProjRefIdeal.τ).loc Cert.DtProjRefIdeal.main_arg1))
      ∧ r.2.sem = fun _ => 0)

def quiescent_DownProj [hDownProj : Cert.DownProj.Facts] : Prop :=
  ∀ (m : (ℓ : Loc Cert.DownProj.nD Cert.DownProj.τ Cert.DownProj.sig) → Buf (Elt Bits) ℓ) (g : Dev Cert.DownProj.nD → PrngReg), Pre_DownProj m →
    θ_run (Cert.DownProj.defs (F := Bits)) (onTc (τ := Cert.DownProj.τ) (Cert.DownProj.main (F := Bits))) ⟨m, fun _ => 0, g⟩ (fun r => (∀ c : Dev Cert.DownProj.nD,
      r.2.mem ((c.tc : Thread Cert.DownProj.nD Cert.DownProj.τ).loc Cert.DownProj.main_arg0) = m ((c.tc : Thread Cert.DownProj.nD Cert.DownProj.τ).loc Cert.DownProj.main_arg0)
      ∧ r.2.mem ((c.tc : Thread Cert.DownProj.nD Cert.DownProj.τ).loc Cert.DownProj.main_arg1) = m ((c.tc : Thread Cert.DownProj.nD Cert.DownProj.τ).loc Cert.DownProj.main_arg1)
      ∧ r.2.mem ((c.tc : Thread Cert.DownProj.nD Cert.DownProj.τ).loc Cert.DownProj.main_arg2) = m ((c.tc : Thread Cert.DownProj.nD Cert.DownProj.τ).loc Cert.DownProj.main_arg2))
      ∧ r.2.sem = fun _ => 0)

def quiescent_DownProjIdeal [hDownProjIdeal : Cert.DownProjIdeal.Facts] : Prop :=
  ∀ (m : (ℓ : Loc Cert.DownProjIdeal.nD Cert.DownProjIdeal.τ Cert.DownProjIdeal.sig) → Buf (Elt Ideal) ℓ) (g : Dev Cert.DownProjIdeal.nD → PrngReg), Pre_DownProjIdeal m →
    θ_run (Cert.DownProjIdeal.defs (F := Ideal)) (onTc (τ := Cert.DownProjIdeal.τ) (Cert.DownProjIdeal.main (F := Ideal))) ⟨m, fun _ => 0, g⟩ (fun r => (∀ c : Dev Cert.DownProjIdeal.nD,
      r.2.mem ((c.tc : Thread Cert.DownProjIdeal.nD Cert.DownProjIdeal.τ).loc Cert.DownProjIdeal.main_arg0) = m ((c.tc : Thread Cert.DownProjIdeal.nD Cert.DownProjIdeal.τ).loc Cert.DownProjIdeal.main_arg0)
      ∧ r.2.mem ((c.tc : Thread Cert.DownProjIdeal.nD Cert.DownProjIdeal.τ).loc Cert.DownProjIdeal.main_arg1) = m ((c.tc : Thread Cert.DownProjIdeal.nD Cert.DownProjIdeal.τ).loc Cert.DownProjIdeal.main_arg1)
      ∧ r.2.mem ((c.tc : Thread Cert.DownProjIdeal.nD Cert.DownProjIdeal.τ).loc Cert.DownProjIdeal.main_arg2) = m ((c.tc : Thread Cert.DownProjIdeal.nD Cert.DownProjIdeal.τ).loc Cert.DownProjIdeal.main_arg2))
      ∧ r.2.sem = fun _ => 0)

def quiescent_DownProjRefIdeal [hDownProjRefIdeal : Cert.DownProjRefIdeal.Facts] : Prop :=
  ∀ (m : (ℓ : Loc Cert.DownProjRefIdeal.nD Cert.DownProjRefIdeal.τ Cert.DownProjRefIdeal.sig) → Buf (Elt Ideal) ℓ) (g : Dev Cert.DownProjRefIdeal.nD → PrngReg), Pre_DownProjRefIdeal m →
    θ_run (Cert.DownProjRefIdeal.defs (F := Ideal)) (onTc (τ := Cert.DownProjRefIdeal.τ) (Cert.DownProjRefIdeal.main (F := Ideal))) ⟨m, fun _ => 0, g⟩ (fun r => (∀ c : Dev Cert.DownProjRefIdeal.nD,
      r.2.mem ((c.tc : Thread Cert.DownProjRefIdeal.nD Cert.DownProjRefIdeal.τ).loc Cert.DownProjRefIdeal.main_arg0) = m ((c.tc : Thread Cert.DownProjRefIdeal.nD Cert.DownProjRefIdeal.τ).loc Cert.DownProjRefIdeal.main_arg0)
      ∧ r.2.mem ((c.tc : Thread Cert.DownProjRefIdeal.nD Cert.DownProjRefIdeal.τ).loc Cert.DownProjRefIdeal.main_arg1) = m ((c.tc : Thread Cert.DownProjRefIdeal.nD Cert.DownProjRefIdeal.τ).loc Cert.DownProjRefIdeal.main_arg1)
      ∧ r.2.mem ((c.tc : Thread Cert.DownProjRefIdeal.nD Cert.DownProjRefIdeal.τ).loc Cert.DownProjRefIdeal.main_arg2) = m ((c.tc : Thread Cert.DownProjRefIdeal.nD Cert.DownProjRefIdeal.τ).loc Cert.DownProjRefIdeal.main_arg2))
      ∧ r.2.sem = fun _ => 0)

def quiescent_ZBack [hZBack : Cert.ZBack.Facts] : Prop :=
  ∀ (m : (ℓ : Loc Cert.ZBack.nD Cert.ZBack.τ Cert.ZBack.sig) → Buf (Elt Bits) ℓ) (g : Dev Cert.ZBack.nD → PrngReg), Pre_ZBack m →
    θ_run (Cert.ZBack.defs (F := Bits)) (onTc (τ := Cert.ZBack.τ) (Cert.ZBack.main (F := Bits))) ⟨m, fun _ => 0, g⟩ (fun r => (∀ c : Dev Cert.ZBack.nD,
      r.2.mem ((c.tc : Thread Cert.ZBack.nD Cert.ZBack.τ).loc Cert.ZBack.main_arg0) = m ((c.tc : Thread Cert.ZBack.nD Cert.ZBack.τ).loc Cert.ZBack.main_arg0)
      ∧ r.2.mem ((c.tc : Thread Cert.ZBack.nD Cert.ZBack.τ).loc Cert.ZBack.main_arg1) = m ((c.tc : Thread Cert.ZBack.nD Cert.ZBack.τ).loc Cert.ZBack.main_arg1))
      ∧ r.2.sem = fun _ => 0)

def quiescent_ZBackIdeal [hZBackIdeal : Cert.ZBackIdeal.Facts] : Prop :=
  ∀ (m : (ℓ : Loc Cert.ZBackIdeal.nD Cert.ZBackIdeal.τ Cert.ZBackIdeal.sig) → Buf (Elt Ideal) ℓ) (g : Dev Cert.ZBackIdeal.nD → PrngReg), Pre_ZBackIdeal m →
    θ_run (Cert.ZBackIdeal.defs (F := Ideal)) (onTc (τ := Cert.ZBackIdeal.τ) (Cert.ZBackIdeal.main (F := Ideal))) ⟨m, fun _ => 0, g⟩ (fun r => (∀ c : Dev Cert.ZBackIdeal.nD,
      r.2.mem ((c.tc : Thread Cert.ZBackIdeal.nD Cert.ZBackIdeal.τ).loc Cert.ZBackIdeal.main_arg0) = m ((c.tc : Thread Cert.ZBackIdeal.nD Cert.ZBackIdeal.τ).loc Cert.ZBackIdeal.main_arg0)
      ∧ r.2.mem ((c.tc : Thread Cert.ZBackIdeal.nD Cert.ZBackIdeal.τ).loc Cert.ZBackIdeal.main_arg1) = m ((c.tc : Thread Cert.ZBackIdeal.nD Cert.ZBackIdeal.τ).loc Cert.ZBackIdeal.main_arg1))
      ∧ r.2.sem = fun _ => 0)

def quiescent_ZBackRefIdeal [hZBackRefIdeal : Cert.ZBackRefIdeal.Facts] : Prop :=
  ∀ (m : (ℓ : Loc Cert.ZBackRefIdeal.nD Cert.ZBackRefIdeal.τ Cert.ZBackRefIdeal.sig) → Buf (Elt Ideal) ℓ) (g : Dev Cert.ZBackRefIdeal.nD → PrngReg), Pre_ZBackRefIdeal m →
    θ_run (Cert.ZBackRefIdeal.defs (F := Ideal)) (onTc (τ := Cert.ZBackRefIdeal.τ) (Cert.ZBackRefIdeal.main (F := Ideal))) ⟨m, fun _ => 0, g⟩ (fun r => (∀ c : Dev Cert.ZBackRefIdeal.nD,
      r.2.mem ((c.tc : Thread Cert.ZBackRefIdeal.nD Cert.ZBackRefIdeal.τ).loc Cert.ZBackRefIdeal.main_arg0) = m ((c.tc : Thread Cert.ZBackRefIdeal.nD Cert.ZBackRefIdeal.τ).loc Cert.ZBackRefIdeal.main_arg0)
      ∧ r.2.mem ((c.tc : Thread Cert.ZBackRefIdeal.nD Cert.ZBackRefIdeal.τ).loc Cert.ZBackRefIdeal.main_arg1) = m ((c.tc : Thread Cert.ZBackRefIdeal.nD Cert.ZBackRefIdeal.τ).loc Cert.ZBackRefIdeal.main_arg1))
      ∧ r.2.sem = fun _ => 0)

def quiescent_XbcBack [hXbcBack : Cert.XbcBack.Facts] : Prop :=
  ∀ (m : (ℓ : Loc Cert.XbcBack.nD Cert.XbcBack.τ Cert.XbcBack.sig) → Buf (Elt Bits) ℓ) (g : Dev Cert.XbcBack.nD → PrngReg), Pre_XbcBack m →
    θ_run (Cert.XbcBack.defs (F := Bits)) (onTc (τ := Cert.XbcBack.τ) (Cert.XbcBack.main (F := Bits))) ⟨m, fun _ => 0, g⟩ (fun r => (∀ c : Dev Cert.XbcBack.nD,
      r.2.mem ((c.tc : Thread Cert.XbcBack.nD Cert.XbcBack.τ).loc Cert.XbcBack.main_arg0) = m ((c.tc : Thread Cert.XbcBack.nD Cert.XbcBack.τ).loc Cert.XbcBack.main_arg0)
      ∧ r.2.mem ((c.tc : Thread Cert.XbcBack.nD Cert.XbcBack.τ).loc Cert.XbcBack.main_arg1) = m ((c.tc : Thread Cert.XbcBack.nD Cert.XbcBack.τ).loc Cert.XbcBack.main_arg1)
      ∧ r.2.mem ((c.tc : Thread Cert.XbcBack.nD Cert.XbcBack.τ).loc Cert.XbcBack.main_arg2) = m ((c.tc : Thread Cert.XbcBack.nD Cert.XbcBack.τ).loc Cert.XbcBack.main_arg2))
      ∧ r.2.sem = fun _ => 0)

def quiescent_XbcBackIdeal [hXbcBackIdeal : Cert.XbcBackIdeal.Facts] : Prop :=
  ∀ (m : (ℓ : Loc Cert.XbcBackIdeal.nD Cert.XbcBackIdeal.τ Cert.XbcBackIdeal.sig) → Buf (Elt Ideal) ℓ) (g : Dev Cert.XbcBackIdeal.nD → PrngReg), Pre_XbcBackIdeal m →
    θ_run (Cert.XbcBackIdeal.defs (F := Ideal)) (onTc (τ := Cert.XbcBackIdeal.τ) (Cert.XbcBackIdeal.main (F := Ideal))) ⟨m, fun _ => 0, g⟩ (fun r => (∀ c : Dev Cert.XbcBackIdeal.nD,
      r.2.mem ((c.tc : Thread Cert.XbcBackIdeal.nD Cert.XbcBackIdeal.τ).loc Cert.XbcBackIdeal.main_arg0) = m ((c.tc : Thread Cert.XbcBackIdeal.nD Cert.XbcBackIdeal.τ).loc Cert.XbcBackIdeal.main_arg0)
      ∧ r.2.mem ((c.tc : Thread Cert.XbcBackIdeal.nD Cert.XbcBackIdeal.τ).loc Cert.XbcBackIdeal.main_arg1) = m ((c.tc : Thread Cert.XbcBackIdeal.nD Cert.XbcBackIdeal.τ).loc Cert.XbcBackIdeal.main_arg1)
      ∧ r.2.mem ((c.tc : Thread Cert.XbcBackIdeal.nD Cert.XbcBackIdeal.τ).loc Cert.XbcBackIdeal.main_arg2) = m ((c.tc : Thread Cert.XbcBackIdeal.nD Cert.XbcBackIdeal.τ).loc Cert.XbcBackIdeal.main_arg2))
      ∧ r.2.sem = fun _ => 0)

def quiescent_XbcBackRefIdeal [hXbcBackRefIdeal : Cert.XbcBackRefIdeal.Facts] : Prop :=
  ∀ (m : (ℓ : Loc Cert.XbcBackRefIdeal.nD Cert.XbcBackRefIdeal.τ Cert.XbcBackRefIdeal.sig) → Buf (Elt Ideal) ℓ) (g : Dev Cert.XbcBackRefIdeal.nD → PrngReg), Pre_XbcBackRefIdeal m →
    θ_run (Cert.XbcBackRefIdeal.defs (F := Ideal)) (onTc (τ := Cert.XbcBackRefIdeal.τ) (Cert.XbcBackRefIdeal.main (F := Ideal))) ⟨m, fun _ => 0, g⟩ (fun r => (∀ c : Dev Cert.XbcBackRefIdeal.nD,
      r.2.mem ((c.tc : Thread Cert.XbcBackRefIdeal.nD Cert.XbcBackRefIdeal.τ).loc Cert.XbcBackRefIdeal.main_arg0) = m ((c.tc : Thread Cert.XbcBackRefIdeal.nD Cert.XbcBackRefIdeal.τ).loc Cert.XbcBackRefIdeal.main_arg0)
      ∧ r.2.mem ((c.tc : Thread Cert.XbcBackRefIdeal.nD Cert.XbcBackRefIdeal.τ).loc Cert.XbcBackRefIdeal.main_arg1) = m ((c.tc : Thread Cert.XbcBackRefIdeal.nD Cert.XbcBackRefIdeal.τ).loc Cert.XbcBackRefIdeal.main_arg1)
      ∧ r.2.mem ((c.tc : Thread Cert.XbcBackRefIdeal.nD Cert.XbcBackRefIdeal.τ).loc Cert.XbcBackRefIdeal.main_arg2) = m ((c.tc : Thread Cert.XbcBackRefIdeal.nD Cert.XbcBackRefIdeal.τ).loc Cert.XbcBackRefIdeal.main_arg2))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2))
      ∧ r.2.sem = fun _ => 0)

def quiescent_FfnBack [hFfnBack : Cert.FfnBack.Facts] : Prop :=
  ∀ (m : (ℓ : Loc Cert.FfnBack.nD Cert.FfnBack.τ Cert.FfnBack.sig) → Buf (Elt Bits) ℓ) (g : Dev Cert.FfnBack.nD → PrngReg), Pre_FfnBack m →
    θ_run (Cert.FfnBack.defs (F := Bits)) (onTc (τ := Cert.FfnBack.τ) (Cert.FfnBack.main (F := Bits))) ⟨m, fun _ => 0, g⟩ (fun r => (∀ c : Dev Cert.FfnBack.nD,
      r.2.mem ((c.tc : Thread Cert.FfnBack.nD Cert.FfnBack.τ).loc Cert.FfnBack.main_arg0) = m ((c.tc : Thread Cert.FfnBack.nD Cert.FfnBack.τ).loc Cert.FfnBack.main_arg0)
      ∧ r.2.mem ((c.tc : Thread Cert.FfnBack.nD Cert.FfnBack.τ).loc Cert.FfnBack.main_arg1) = m ((c.tc : Thread Cert.FfnBack.nD Cert.FfnBack.τ).loc Cert.FfnBack.main_arg1)
      ∧ r.2.mem ((c.tc : Thread Cert.FfnBack.nD Cert.FfnBack.τ).loc Cert.FfnBack.main_arg2) = m ((c.tc : Thread Cert.FfnBack.nD Cert.FfnBack.τ).loc Cert.FfnBack.main_arg2)
      ∧ r.2.mem ((c.tc : Thread Cert.FfnBack.nD Cert.FfnBack.τ).loc Cert.FfnBack.main_arg3) = m ((c.tc : Thread Cert.FfnBack.nD Cert.FfnBack.τ).loc Cert.FfnBack.main_arg3))
      ∧ r.2.sem = fun _ => 0)

def quiescent_FfnBackIdeal [hFfnBackIdeal : Cert.FfnBackIdeal.Facts] : Prop :=
  ∀ (m : (ℓ : Loc Cert.FfnBackIdeal.nD Cert.FfnBackIdeal.τ Cert.FfnBackIdeal.sig) → Buf (Elt Ideal) ℓ) (g : Dev Cert.FfnBackIdeal.nD → PrngReg), Pre_FfnBackIdeal m →
    θ_run (Cert.FfnBackIdeal.defs (F := Ideal)) (onTc (τ := Cert.FfnBackIdeal.τ) (Cert.FfnBackIdeal.main (F := Ideal))) ⟨m, fun _ => 0, g⟩ (fun r => (∀ c : Dev Cert.FfnBackIdeal.nD,
      r.2.mem ((c.tc : Thread Cert.FfnBackIdeal.nD Cert.FfnBackIdeal.τ).loc Cert.FfnBackIdeal.main_arg0) = m ((c.tc : Thread Cert.FfnBackIdeal.nD Cert.FfnBackIdeal.τ).loc Cert.FfnBackIdeal.main_arg0)
      ∧ r.2.mem ((c.tc : Thread Cert.FfnBackIdeal.nD Cert.FfnBackIdeal.τ).loc Cert.FfnBackIdeal.main_arg1) = m ((c.tc : Thread Cert.FfnBackIdeal.nD Cert.FfnBackIdeal.τ).loc Cert.FfnBackIdeal.main_arg1)
      ∧ r.2.mem ((c.tc : Thread Cert.FfnBackIdeal.nD Cert.FfnBackIdeal.τ).loc Cert.FfnBackIdeal.main_arg2) = m ((c.tc : Thread Cert.FfnBackIdeal.nD Cert.FfnBackIdeal.τ).loc Cert.FfnBackIdeal.main_arg2)
      ∧ r.2.mem ((c.tc : Thread Cert.FfnBackIdeal.nD Cert.FfnBackIdeal.τ).loc Cert.FfnBackIdeal.main_arg3) = m ((c.tc : Thread Cert.FfnBackIdeal.nD Cert.FfnBackIdeal.τ).loc Cert.FfnBackIdeal.main_arg3))
      ∧ r.2.sem = fun _ => 0)

def quiescent_FfnBackIdeal_pre_ffn_back_finite [hFfnBackIdeal : Cert.FfnBackIdeal.Facts] [hPre_ffn_back_finite : Cert.Pre_ffn_back_finite.Facts] : Prop :=
  ∀ (m : (ℓ : Loc Cert.FfnBackIdeal.nD Cert.FfnBackIdeal.τ Cert.FfnBackIdeal.sig) → Buf (Elt Ideal) ℓ) (g : Dev Cert.FfnBackIdeal.nD → PrngReg), Pre_FfnBackIdeal_ffn_back_finite m →
    θ_run (Cert.FfnBackIdeal.defs (F := Ideal)) (onTc (τ := Cert.FfnBackIdeal.τ) (Cert.FfnBackIdeal.main (F := Ideal))) ⟨m, fun _ => 0, g⟩ (fun r => (∀ c : Dev Cert.FfnBackIdeal.nD,
      r.2.mem ((c.tc : Thread Cert.FfnBackIdeal.nD Cert.FfnBackIdeal.τ).loc Cert.FfnBackIdeal.main_arg0) = m ((c.tc : Thread Cert.FfnBackIdeal.nD Cert.FfnBackIdeal.τ).loc Cert.FfnBackIdeal.main_arg0)
      ∧ r.2.mem ((c.tc : Thread Cert.FfnBackIdeal.nD Cert.FfnBackIdeal.τ).loc Cert.FfnBackIdeal.main_arg1) = m ((c.tc : Thread Cert.FfnBackIdeal.nD Cert.FfnBackIdeal.τ).loc Cert.FfnBackIdeal.main_arg1)
      ∧ r.2.mem ((c.tc : Thread Cert.FfnBackIdeal.nD Cert.FfnBackIdeal.τ).loc Cert.FfnBackIdeal.main_arg2) = m ((c.tc : Thread Cert.FfnBackIdeal.nD Cert.FfnBackIdeal.τ).loc Cert.FfnBackIdeal.main_arg2)
      ∧ r.2.mem ((c.tc : Thread Cert.FfnBackIdeal.nD Cert.FfnBackIdeal.τ).loc Cert.FfnBackIdeal.main_arg3) = m ((c.tc : Thread Cert.FfnBackIdeal.nD Cert.FfnBackIdeal.τ).loc Cert.FfnBackIdeal.main_arg3))
      ∧ r.2.sem = fun _ => 0)

def quiescent_FfnBackRefIdeal [hFfnBackRefIdeal : Cert.FfnBackRefIdeal.Facts] : Prop :=
  ∀ (m : (ℓ : Loc Cert.FfnBackRefIdeal.nD Cert.FfnBackRefIdeal.τ Cert.FfnBackRefIdeal.sig) → Buf (Elt Ideal) ℓ) (g : Dev Cert.FfnBackRefIdeal.nD → PrngReg), Pre_FfnBackRefIdeal m →
    θ_run (Cert.FfnBackRefIdeal.defs (F := Ideal)) (onTc (τ := Cert.FfnBackRefIdeal.τ) (Cert.FfnBackRefIdeal.main (F := Ideal))) ⟨m, fun _ => 0, g⟩ (fun r => (∀ c : Dev Cert.FfnBackRefIdeal.nD,
      r.2.mem ((c.tc : Thread Cert.FfnBackRefIdeal.nD Cert.FfnBackRefIdeal.τ).loc Cert.FfnBackRefIdeal.main_arg0) = m ((c.tc : Thread Cert.FfnBackRefIdeal.nD Cert.FfnBackRefIdeal.τ).loc Cert.FfnBackRefIdeal.main_arg0)
      ∧ r.2.mem ((c.tc : Thread Cert.FfnBackRefIdeal.nD Cert.FfnBackRefIdeal.τ).loc Cert.FfnBackRefIdeal.main_arg1) = m ((c.tc : Thread Cert.FfnBackRefIdeal.nD Cert.FfnBackRefIdeal.τ).loc Cert.FfnBackRefIdeal.main_arg1)
      ∧ r.2.mem ((c.tc : Thread Cert.FfnBackRefIdeal.nD Cert.FfnBackRefIdeal.τ).loc Cert.FfnBackRefIdeal.main_arg2) = m ((c.tc : Thread Cert.FfnBackRefIdeal.nD Cert.FfnBackRefIdeal.τ).loc Cert.FfnBackRefIdeal.main_arg2)
      ∧ r.2.mem ((c.tc : Thread Cert.FfnBackRefIdeal.nD Cert.FfnBackRefIdeal.τ).loc Cert.FfnBackRefIdeal.main_arg3) = m ((c.tc : Thread Cert.FfnBackRefIdeal.nD Cert.FfnBackRefIdeal.τ).loc Cert.FfnBackRefIdeal.main_arg3))
      ∧ r.2.sem = fun _ => 0)

def quiescent_FfnBackRefIdeal_pre_ffn_back_finite [hFfnBackRefIdeal : Cert.FfnBackRefIdeal.Facts] [hPre_ffn_back_finite : Cert.Pre_ffn_back_finite.Facts] : Prop :=
  ∀ (m : (ℓ : Loc Cert.FfnBackRefIdeal.nD Cert.FfnBackRefIdeal.τ Cert.FfnBackRefIdeal.sig) → Buf (Elt Ideal) ℓ) (g : Dev Cert.FfnBackRefIdeal.nD → PrngReg), Pre_FfnBackRefIdeal_ffn_back_finite m →
    θ_run (Cert.FfnBackRefIdeal.defs (F := Ideal)) (onTc (τ := Cert.FfnBackRefIdeal.τ) (Cert.FfnBackRefIdeal.main (F := Ideal))) ⟨m, fun _ => 0, g⟩ (fun r => (∀ c : Dev Cert.FfnBackRefIdeal.nD,
      r.2.mem ((c.tc : Thread Cert.FfnBackRefIdeal.nD Cert.FfnBackRefIdeal.τ).loc Cert.FfnBackRefIdeal.main_arg0) = m ((c.tc : Thread Cert.FfnBackRefIdeal.nD Cert.FfnBackRefIdeal.τ).loc Cert.FfnBackRefIdeal.main_arg0)
      ∧ r.2.mem ((c.tc : Thread Cert.FfnBackRefIdeal.nD Cert.FfnBackRefIdeal.τ).loc Cert.FfnBackRefIdeal.main_arg1) = m ((c.tc : Thread Cert.FfnBackRefIdeal.nD Cert.FfnBackRefIdeal.τ).loc Cert.FfnBackRefIdeal.main_arg1)
      ∧ r.2.mem ((c.tc : Thread Cert.FfnBackRefIdeal.nD Cert.FfnBackRefIdeal.τ).loc Cert.FfnBackRefIdeal.main_arg2) = m ((c.tc : Thread Cert.FfnBackRefIdeal.nD Cert.FfnBackRefIdeal.τ).loc Cert.FfnBackRefIdeal.main_arg2)
      ∧ r.2.mem ((c.tc : Thread Cert.FfnBackRefIdeal.nD Cert.FfnBackRefIdeal.τ).loc Cert.FfnBackRefIdeal.main_arg3) = m ((c.tc : Thread Cert.FfnBackRefIdeal.nD Cert.FfnBackRefIdeal.τ).loc Cert.FfnBackRefIdeal.main_arg3))
      ∧ r.2.sem = fun _ => 0)

def quiescent_FfnDh [hFfnDh : Cert.FfnDh.Facts] : Prop :=
  ∀ (m : (ℓ : Loc Cert.FfnDh.nD Cert.FfnDh.τ Cert.FfnDh.sig) → Buf (Elt Bits) ℓ) (g : Dev Cert.FfnDh.nD → PrngReg), Pre_FfnDh m →
    θ_run (Cert.FfnDh.defs (F := Bits)) (onTc (τ := Cert.FfnDh.τ) (Cert.FfnDh.main (F := Bits))) ⟨m, fun _ => 0, g⟩ (fun r => (∀ c : Dev Cert.FfnDh.nD,
      r.2.mem ((c.tc : Thread Cert.FfnDh.nD Cert.FfnDh.τ).loc Cert.FfnDh.main_arg0) = m ((c.tc : Thread Cert.FfnDh.nD Cert.FfnDh.τ).loc Cert.FfnDh.main_arg0)
      ∧ r.2.mem ((c.tc : Thread Cert.FfnDh.nD Cert.FfnDh.τ).loc Cert.FfnDh.main_arg1) = m ((c.tc : Thread Cert.FfnDh.nD Cert.FfnDh.τ).loc Cert.FfnDh.main_arg1)
      ∧ r.2.mem ((c.tc : Thread Cert.FfnDh.nD Cert.FfnDh.τ).loc Cert.FfnDh.main_arg2) = m ((c.tc : Thread Cert.FfnDh.nD Cert.FfnDh.τ).loc Cert.FfnDh.main_arg2)
      ∧ r.2.mem ((c.tc : Thread Cert.FfnDh.nD Cert.FfnDh.τ).loc Cert.FfnDh.main_arg3) = m ((c.tc : Thread Cert.FfnDh.nD Cert.FfnDh.τ).loc Cert.FfnDh.main_arg3)
      ∧ r.2.mem ((c.tc : Thread Cert.FfnDh.nD Cert.FfnDh.τ).loc Cert.FfnDh.main_arg4) = m ((c.tc : Thread Cert.FfnDh.nD Cert.FfnDh.τ).loc Cert.FfnDh.main_arg4)
      ∧ r.2.mem ((c.tc : Thread Cert.FfnDh.nD Cert.FfnDh.τ).loc Cert.FfnDh.main_arg5) = m ((c.tc : Thread Cert.FfnDh.nD Cert.FfnDh.τ).loc Cert.FfnDh.main_arg5)
      ∧ r.2.mem ((c.tc : Thread Cert.FfnDh.nD Cert.FfnDh.τ).loc Cert.FfnDh.main_arg6) = m ((c.tc : Thread Cert.FfnDh.nD Cert.FfnDh.τ).loc Cert.FfnDh.main_arg6))
      ∧ r.2.sem = fun _ => 0)

def quiescent_FfnDhIdeal [hFfnDhIdeal : Cert.FfnDhIdeal.Facts] : Prop :=
  ∀ (m : (ℓ : Loc Cert.FfnDhIdeal.nD Cert.FfnDhIdeal.τ Cert.FfnDhIdeal.sig) → Buf (Elt Ideal) ℓ) (g : Dev Cert.FfnDhIdeal.nD → PrngReg), Pre_FfnDhIdeal m →
    θ_run (Cert.FfnDhIdeal.defs (F := Ideal)) (onTc (τ := Cert.FfnDhIdeal.τ) (Cert.FfnDhIdeal.main (F := Ideal))) ⟨m, fun _ => 0, g⟩ (fun r => (∀ c : Dev Cert.FfnDhIdeal.nD,
      r.2.mem ((c.tc : Thread Cert.FfnDhIdeal.nD Cert.FfnDhIdeal.τ).loc Cert.FfnDhIdeal.main_arg0) = m ((c.tc : Thread Cert.FfnDhIdeal.nD Cert.FfnDhIdeal.τ).loc Cert.FfnDhIdeal.main_arg0)
      ∧ r.2.mem ((c.tc : Thread Cert.FfnDhIdeal.nD Cert.FfnDhIdeal.τ).loc Cert.FfnDhIdeal.main_arg1) = m ((c.tc : Thread Cert.FfnDhIdeal.nD Cert.FfnDhIdeal.τ).loc Cert.FfnDhIdeal.main_arg1)
      ∧ r.2.mem ((c.tc : Thread Cert.FfnDhIdeal.nD Cert.FfnDhIdeal.τ).loc Cert.FfnDhIdeal.main_arg2) = m ((c.tc : Thread Cert.FfnDhIdeal.nD Cert.FfnDhIdeal.τ).loc Cert.FfnDhIdeal.main_arg2)
      ∧ r.2.mem ((c.tc : Thread Cert.FfnDhIdeal.nD Cert.FfnDhIdeal.τ).loc Cert.FfnDhIdeal.main_arg3) = m ((c.tc : Thread Cert.FfnDhIdeal.nD Cert.FfnDhIdeal.τ).loc Cert.FfnDhIdeal.main_arg3)
      ∧ r.2.mem ((c.tc : Thread Cert.FfnDhIdeal.nD Cert.FfnDhIdeal.τ).loc Cert.FfnDhIdeal.main_arg4) = m ((c.tc : Thread Cert.FfnDhIdeal.nD Cert.FfnDhIdeal.τ).loc Cert.FfnDhIdeal.main_arg4)
      ∧ r.2.mem ((c.tc : Thread Cert.FfnDhIdeal.nD Cert.FfnDhIdeal.τ).loc Cert.FfnDhIdeal.main_arg5) = m ((c.tc : Thread Cert.FfnDhIdeal.nD Cert.FfnDhIdeal.τ).loc Cert.FfnDhIdeal.main_arg5)
      ∧ r.2.mem ((c.tc : Thread Cert.FfnDhIdeal.nD Cert.FfnDhIdeal.τ).loc Cert.FfnDhIdeal.main_arg6) = m ((c.tc : Thread Cert.FfnDhIdeal.nD Cert.FfnDhIdeal.τ).loc Cert.FfnDhIdeal.main_arg6))
      ∧ r.2.sem = fun _ => 0)

def quiescent_FfnDhRefIdeal [hFfnDhRefIdeal : Cert.FfnDhRefIdeal.Facts] : Prop :=
  ∀ (m : (ℓ : Loc Cert.FfnDhRefIdeal.nD Cert.FfnDhRefIdeal.τ Cert.FfnDhRefIdeal.sig) → Buf (Elt Ideal) ℓ) (g : Dev Cert.FfnDhRefIdeal.nD → PrngReg), Pre_FfnDhRefIdeal m →
    θ_run (Cert.FfnDhRefIdeal.defs (F := Ideal)) (onTc (τ := Cert.FfnDhRefIdeal.τ) (Cert.FfnDhRefIdeal.main (F := Ideal))) ⟨m, fun _ => 0, g⟩ (fun r => (∀ c : Dev Cert.FfnDhRefIdeal.nD,
      r.2.mem ((c.tc : Thread Cert.FfnDhRefIdeal.nD Cert.FfnDhRefIdeal.τ).loc Cert.FfnDhRefIdeal.main_arg0) = m ((c.tc : Thread Cert.FfnDhRefIdeal.nD Cert.FfnDhRefIdeal.τ).loc Cert.FfnDhRefIdeal.main_arg0)
      ∧ r.2.mem ((c.tc : Thread Cert.FfnDhRefIdeal.nD Cert.FfnDhRefIdeal.τ).loc Cert.FfnDhRefIdeal.main_arg1) = m ((c.tc : Thread Cert.FfnDhRefIdeal.nD Cert.FfnDhRefIdeal.τ).loc Cert.FfnDhRefIdeal.main_arg1)
      ∧ r.2.mem ((c.tc : Thread Cert.FfnDhRefIdeal.nD Cert.FfnDhRefIdeal.τ).loc Cert.FfnDhRefIdeal.main_arg2) = m ((c.tc : Thread Cert.FfnDhRefIdeal.nD Cert.FfnDhRefIdeal.τ).loc Cert.FfnDhRefIdeal.main_arg2)
      ∧ r.2.mem ((c.tc : Thread Cert.FfnDhRefIdeal.nD Cert.FfnDhRefIdeal.τ).loc Cert.FfnDhRefIdeal.main_arg3) = m ((c.tc : Thread Cert.FfnDhRefIdeal.nD Cert.FfnDhRefIdeal.τ).loc Cert.FfnDhRefIdeal.main_arg3)
      ∧ r.2.mem ((c.tc : Thread Cert.FfnDhRefIdeal.nD Cert.FfnDhRefIdeal.τ).loc Cert.FfnDhRefIdeal.main_arg4) = m ((c.tc : Thread Cert.FfnDhRefIdeal.nD Cert.FfnDhRefIdeal.τ).loc Cert.FfnDhRefIdeal.main_arg4)
      ∧ r.2.mem ((c.tc : Thread Cert.FfnDhRefIdeal.nD Cert.FfnDhRefIdeal.τ).loc Cert.FfnDhRefIdeal.main_arg5) = m ((c.tc : Thread Cert.FfnDhRefIdeal.nD Cert.FfnDhRefIdeal.τ).loc Cert.FfnDhRefIdeal.main_arg5)
      ∧ r.2.mem ((c.tc : Thread Cert.FfnDhRefIdeal.nD Cert.FfnDhRefIdeal.τ).loc Cert.FfnDhRefIdeal.main_arg6) = m ((c.tc : Thread Cert.FfnDhRefIdeal.nD Cert.FfnDhRefIdeal.τ).loc Cert.FfnDhRefIdeal.main_arg6))
      ∧ r.2.sem = fun _ => 0)

def quiescent_QkvDx [hQkvDx : Cert.QkvDx.Facts] : Prop :=
  ∀ (m : (ℓ : Loc Cert.QkvDx.nD Cert.QkvDx.τ Cert.QkvDx.sig) → Buf (Elt Bits) ℓ) (g : Dev Cert.QkvDx.nD → PrngReg), Pre_QkvDx m →
    θ_run (Cert.QkvDx.defs (F := Bits)) (onTc (τ := Cert.QkvDx.τ) (Cert.QkvDx.main (F := Bits))) ⟨m, fun _ => 0, g⟩ (fun r => (∀ c : Dev Cert.QkvDx.nD,
      r.2.mem ((c.tc : Thread Cert.QkvDx.nD Cert.QkvDx.τ).loc Cert.QkvDx.main_arg0) = m ((c.tc : Thread Cert.QkvDx.nD Cert.QkvDx.τ).loc Cert.QkvDx.main_arg0)
      ∧ r.2.mem ((c.tc : Thread Cert.QkvDx.nD Cert.QkvDx.τ).loc Cert.QkvDx.main_arg1) = m ((c.tc : Thread Cert.QkvDx.nD Cert.QkvDx.τ).loc Cert.QkvDx.main_arg1)
      ∧ r.2.mem ((c.tc : Thread Cert.QkvDx.nD Cert.QkvDx.τ).loc Cert.QkvDx.main_arg2) = m ((c.tc : Thread Cert.QkvDx.nD Cert.QkvDx.τ).loc Cert.QkvDx.main_arg2)
      ∧ r.2.mem ((c.tc : Thread Cert.QkvDx.nD Cert.QkvDx.τ).loc Cert.QkvDx.main_arg3) = m ((c.tc : Thread Cert.QkvDx.nD Cert.QkvDx.τ).loc Cert.QkvDx.main_arg3)
      ∧ r.2.mem ((c.tc : Thread Cert.QkvDx.nD Cert.QkvDx.τ).loc Cert.QkvDx.main_arg4) = m ((c.tc : Thread Cert.QkvDx.nD Cert.QkvDx.τ).loc Cert.QkvDx.main_arg4))
      ∧ r.2.sem = fun _ => 0)

def quiescent_QkvDxIdeal [hQkvDxIdeal : Cert.QkvDxIdeal.Facts] : Prop :=
  ∀ (m : (ℓ : Loc Cert.QkvDxIdeal.nD Cert.QkvDxIdeal.τ Cert.QkvDxIdeal.sig) → Buf (Elt Ideal) ℓ) (g : Dev Cert.QkvDxIdeal.nD → PrngReg), Pre_QkvDxIdeal m →
    θ_run (Cert.QkvDxIdeal.defs (F := Ideal)) (onTc (τ := Cert.QkvDxIdeal.τ) (Cert.QkvDxIdeal.main (F := Ideal))) ⟨m, fun _ => 0, g⟩ (fun r => (∀ c : Dev Cert.QkvDxIdeal.nD,
      r.2.mem ((c.tc : Thread Cert.QkvDxIdeal.nD Cert.QkvDxIdeal.τ).loc Cert.QkvDxIdeal.main_arg0) = m ((c.tc : Thread Cert.QkvDxIdeal.nD Cert.QkvDxIdeal.τ).loc Cert.QkvDxIdeal.main_arg0)
      ∧ r.2.mem ((c.tc : Thread Cert.QkvDxIdeal.nD Cert.QkvDxIdeal.τ).loc Cert.QkvDxIdeal.main_arg1) = m ((c.tc : Thread Cert.QkvDxIdeal.nD Cert.QkvDxIdeal.τ).loc Cert.QkvDxIdeal.main_arg1)
      ∧ r.2.mem ((c.tc : Thread Cert.QkvDxIdeal.nD Cert.QkvDxIdeal.τ).loc Cert.QkvDxIdeal.main_arg2) = m ((c.tc : Thread Cert.QkvDxIdeal.nD Cert.QkvDxIdeal.τ).loc Cert.QkvDxIdeal.main_arg2)
      ∧ r.2.mem ((c.tc : Thread Cert.QkvDxIdeal.nD Cert.QkvDxIdeal.τ).loc Cert.QkvDxIdeal.main_arg3) = m ((c.tc : Thread Cert.QkvDxIdeal.nD Cert.QkvDxIdeal.τ).loc Cert.QkvDxIdeal.main_arg3)
      ∧ r.2.mem ((c.tc : Thread Cert.QkvDxIdeal.nD Cert.QkvDxIdeal.τ).loc Cert.QkvDxIdeal.main_arg4) = m ((c.tc : Thread Cert.QkvDxIdeal.nD Cert.QkvDxIdeal.τ).loc Cert.QkvDxIdeal.main_arg4))
      ∧ r.2.sem = fun _ => 0)

def quiescent_QkvDxRefIdeal [hQkvDxRefIdeal : Cert.QkvDxRefIdeal.Facts] : Prop :=
  ∀ (m : (ℓ : Loc Cert.QkvDxRefIdeal.nD Cert.QkvDxRefIdeal.τ Cert.QkvDxRefIdeal.sig) → Buf (Elt Ideal) ℓ) (g : Dev Cert.QkvDxRefIdeal.nD → PrngReg), Pre_QkvDxRefIdeal m →
    θ_run (Cert.QkvDxRefIdeal.defs (F := Ideal)) (onTc (τ := Cert.QkvDxRefIdeal.τ) (Cert.QkvDxRefIdeal.main (F := Ideal))) ⟨m, fun _ => 0, g⟩ (fun r => (∀ c : Dev Cert.QkvDxRefIdeal.nD,
      r.2.mem ((c.tc : Thread Cert.QkvDxRefIdeal.nD Cert.QkvDxRefIdeal.τ).loc Cert.QkvDxRefIdeal.main_arg0) = m ((c.tc : Thread Cert.QkvDxRefIdeal.nD Cert.QkvDxRefIdeal.τ).loc Cert.QkvDxRefIdeal.main_arg0)
      ∧ r.2.mem ((c.tc : Thread Cert.QkvDxRefIdeal.nD Cert.QkvDxRefIdeal.τ).loc Cert.QkvDxRefIdeal.main_arg1) = m ((c.tc : Thread Cert.QkvDxRefIdeal.nD Cert.QkvDxRefIdeal.τ).loc Cert.QkvDxRefIdeal.main_arg1)
      ∧ r.2.mem ((c.tc : Thread Cert.QkvDxRefIdeal.nD Cert.QkvDxRefIdeal.τ).loc Cert.QkvDxRefIdeal.main_arg2) = m ((c.tc : Thread Cert.QkvDxRefIdeal.nD Cert.QkvDxRefIdeal.τ).loc Cert.QkvDxRefIdeal.main_arg2)
      ∧ r.2.mem ((c.tc : Thread Cert.QkvDxRefIdeal.nD Cert.QkvDxRefIdeal.τ).loc Cert.QkvDxRefIdeal.main_arg3) = m ((c.tc : Thread Cert.QkvDxRefIdeal.nD Cert.QkvDxRefIdeal.τ).loc Cert.QkvDxRefIdeal.main_arg3)
      ∧ r.2.mem ((c.tc : Thread Cert.QkvDxRefIdeal.nD Cert.QkvDxRefIdeal.τ).loc Cert.QkvDxRefIdeal.main_arg4) = m ((c.tc : Thread Cert.QkvDxRefIdeal.nD Cert.QkvDxRefIdeal.τ).loc Cert.QkvDxRefIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v47_0)) (v1 : (c : Dev Cert.KernelIdeal.nD) → Buf (Elt Ideal) ((c.tc : Thread Cert.KernelIdeal.nD Cert.KernelIdeal.τ).loc Cert.KernelIdeal.main_v47_1)) (v2 : (c : Dev Cert.KernelIdeal.nD) → Buf (Elt Ideal) ((c.tc : Thread Cert.KernelIdeal.nD Cert.KernelIdeal.τ).loc Cert.KernelIdeal.main_v47_2)) (v3 : (c : Dev Cert.KernelIdeal.nD) → Buf (Elt Ideal) ((c.tc : Thread Cert.KernelIdeal.nD Cert.KernelIdeal.τ).loc Cert.KernelIdeal.main_v47_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47_0) = v0 c
          ∧ r.2.mem ((c.tc : Thread Cert.KernelIdeal.nD Cert.KernelIdeal.τ).loc Cert.KernelIdeal.main_v47_1) = v1 c
          ∧ r.2.mem ((c.tc : Thread Cert.KernelIdeal.nD Cert.KernelIdeal.τ).loc Cert.KernelIdeal.main_v47_2) = v2 c
          ∧ r.2.mem ((c.tc : Thread Cert.KernelIdeal.nD Cert.KernelIdeal.τ).loc Cert.KernelIdeal.main_v47_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_v97) = v2 c
          ∧ r.2.mem ((c.tc : Thread Cert.ReferenceIdeal.nD Cert.ReferenceIdeal.τ).loc Cert.ReferenceIdeal.main_v100) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v4) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v0)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v6) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v0)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v6) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1))

def preserves_XbcIn_XbcInIdeal : Prop :=
  True

def algebraic_XbcInIdeal_XbcInRefIdeal [hXbcInIdeal : Cert.XbcInIdeal.Facts] [hXbcInRefIdeal : Cert.XbcInRefIdeal.Facts] : Prop :=
  ∀ (m : (ℓ : Loc Cert.XbcInIdeal.nD Cert.XbcInIdeal.τ Cert.XbcInIdeal.sig) → Buf (Elt Ideal) ℓ) (g : Dev Cert.XbcInIdeal.nD → PrngReg)
    (m' : (ℓ : Loc Cert.XbcInRefIdeal.nD Cert.XbcInRefIdeal.τ Cert.XbcInRefIdeal.sig) → Buf (Elt Ideal) ℓ) (g' : Dev Cert.XbcInRefIdeal.nD → PrngReg), Pre_XbcInIdeal m →
    (∀ c : Dev Cert.XbcInIdeal.nD,
      m' ((c.tc : Thread Cert.XbcInRefIdeal.nD Cert.XbcInRefIdeal.τ).loc Cert.XbcInRefIdeal.main_arg0) = m ((c.tc : Thread Cert.XbcInIdeal.nD Cert.XbcInIdeal.τ).loc Cert.XbcInIdeal.main_arg0)
      ∧ m' ((c.tc : Thread Cert.XbcInRefIdeal.nD Cert.XbcInRefIdeal.τ).loc Cert.XbcInRefIdeal.main_arg1) = m ((c.tc : Thread Cert.XbcInIdeal.nD Cert.XbcInIdeal.τ).loc Cert.XbcInIdeal.main_arg1)) →
    ∃ (v0 : (c : Dev Cert.XbcInIdeal.nD) → Buf (Elt Ideal) ((c.tc : Thread Cert.XbcInIdeal.nD Cert.XbcInIdeal.τ).loc Cert.XbcInIdeal.main_v0)),
      θ_run (Cert.XbcInIdeal.defs (F := Ideal)) (onTc (τ := Cert.XbcInIdeal.τ) (Cert.XbcInIdeal.main (F := Ideal))) ⟨m, fun _ => 0, g⟩ (fun r => ∀ c : Dev Cert.XbcInIdeal.nD,
          r.2.mem ((c.tc : Thread Cert.XbcInIdeal.nD Cert.XbcInIdeal.τ).loc Cert.XbcInIdeal.main_v0) = v0 c
          ∧ r.2.mem ((c.tc : Thread Cert.XbcInIdeal.nD Cert.XbcInIdeal.τ).loc Cert.XbcInIdeal.main_arg0) = m ((c.tc : Thread Cert.XbcInIdeal.nD Cert.XbcInIdeal.τ).loc Cert.XbcInIdeal.main_arg0)
          ∧ r.2.mem ((c.tc : Thread Cert.XbcInIdeal.nD Cert.XbcInIdeal.τ).loc Cert.XbcInIdeal.main_arg1) = m ((c.tc : Thread Cert.XbcInIdeal.nD Cert.XbcInIdeal.τ).loc Cert.XbcInIdeal.main_arg1))
      ∧ θ_run (Cert.XbcInRefIdeal.defs (F := Ideal)) (onTc (τ := Cert.XbcInRefIdeal.τ) (Cert.XbcInRefIdeal.main (F := Ideal))) ⟨m', fun _ => 0, g'⟩ (fun r => ∀ c : Dev Cert.XbcInRefIdeal.nD,
          r.2.mem ((c.tc : Thread Cert.XbcInRefIdeal.nD Cert.XbcInRefIdeal.τ).loc Cert.XbcInRefIdeal.main_v6) = v0 c
          ∧ r.2.mem ((c.tc : Thread Cert.XbcInRefIdeal.nD Cert.XbcInRefIdeal.τ).loc Cert.XbcInRefIdeal.main_arg0) = m' ((c.tc : Thread Cert.XbcInRefIdeal.nD Cert.XbcInRefIdeal.τ).loc Cert.XbcInRefIdeal.main_arg0)
          ∧ r.2.mem ((c.tc : Thread Cert.XbcInRefIdeal.nD Cert.XbcInRefIdeal.τ).loc Cert.XbcInRefIdeal.main_arg1) = m' ((c.tc : Thread Cert.XbcInRefIdeal.nD Cert.XbcInRefIdeal.τ).loc Cert.XbcInRefIdeal.main_arg1))

def preserves_ZIn_ZInIdeal : Prop :=
  True

def algebraic_ZInIdeal_ZInRefIdeal [hZInIdeal : Cert.ZInIdeal.Facts] [hZInRefIdeal : Cert.ZInRefIdeal.Facts] : Prop :=
  ∀ (m : (ℓ : Loc Cert.ZInIdeal.nD Cert.ZInIdeal.τ Cert.ZInIdeal.sig) → Buf (Elt Ideal) ℓ) (g : Dev Cert.ZInIdeal.nD → PrngReg)
    (m' : (ℓ : Loc Cert.ZInRefIdeal.nD Cert.ZInRefIdeal.τ Cert.ZInRefIdeal.sig) → Buf (Elt Ideal) ℓ) (g' : Dev Cert.ZInRefIdeal.nD → PrngReg), Pre_ZInIdeal m →
    (∀ c : Dev Cert.ZInIdeal.nD,
      m' ((c.tc : Thread Cert.ZInRefIdeal.nD Cert.ZInRefIdeal.τ).loc Cert.ZInRefIdeal.main_arg0) = m ((c.tc : Thread Cert.ZInIdeal.nD Cert.ZInIdeal.τ).loc Cert.ZInIdeal.main_arg0)
      ∧ m' ((c.tc : Thread Cert.ZInRefIdeal.nD Cert.ZInRefIdeal.τ).loc Cert.ZInRefIdeal.main_arg1) = m ((c.tc : Thread Cert.ZInIdeal.nD Cert.ZInIdeal.τ).loc Cert.ZInIdeal.main_arg1)) →
    ∃ (v0 : (c : Dev Cert.ZInIdeal.nD) → Buf (Elt Ideal) ((c.tc : Thread Cert.ZInIdeal.nD Cert.ZInIdeal.τ).loc Cert.ZInIdeal.main_v0)),
      θ_run (Cert.ZInIdeal.defs (F := Ideal)) (onTc (τ := Cert.ZInIdeal.τ) (Cert.ZInIdeal.main (F := Ideal))) ⟨m, fun _ => 0, g⟩ (fun r => ∀ c : Dev Cert.ZInIdeal.nD,
          r.2.mem ((c.tc : Thread Cert.ZInIdeal.nD Cert.ZInIdeal.τ).loc Cert.ZInIdeal.main_v0) = v0 c
          ∧ r.2.mem ((c.tc : Thread Cert.ZInIdeal.nD Cert.ZInIdeal.τ).loc Cert.ZInIdeal.main_arg0) = m ((c.tc : Thread Cert.ZInIdeal.nD Cert.ZInIdeal.τ).loc Cert.ZInIdeal.main_arg0)
          ∧ r.2.mem ((c.tc : Thread Cert.ZInIdeal.nD Cert.ZInIdeal.τ).loc Cert.ZInIdeal.main_arg1) = m ((c.tc : Thread Cert.ZInIdeal.nD Cert.ZInIdeal.τ).loc Cert.ZInIdeal.main_arg1))
      ∧ θ_run (Cert.ZInRefIdeal.defs (F := Ideal)) (onTc (τ := Cert.ZInRefIdeal.τ) (Cert.ZInRefIdeal.main (F := Ideal))) ⟨m', fun _ => 0, g'⟩ (fun r => ∀ c : Dev Cert.ZInRefIdeal.nD,
          r.2.mem ((c.tc : Thread Cert.ZInRefIdeal.nD Cert.ZInRefIdeal.τ).loc Cert.ZInRefIdeal.main_v6) = v0 c
          ∧ r.2.mem ((c.tc : Thread Cert.ZInRefIdeal.nD Cert.ZInRefIdeal.τ).loc Cert.ZInRefIdeal.main_arg0) = m' ((c.tc : Thread Cert.ZInRefIdeal.nD Cert.ZInRefIdeal.τ).loc Cert.ZInRefIdeal.main_arg0)
          ∧ r.2.mem ((c.tc : Thread Cert.ZInRefIdeal.nD Cert.ZInRefIdeal.τ).loc Cert.ZInRefIdeal.main_arg1) = m' ((c.tc : Thread Cert.ZInRefIdeal.nD Cert.ZInRefIdeal.τ).loc Cert.ZInRefIdeal.main_arg1))

def preserves_DtIn_DtInIdeal : Prop :=
  True

def algebraic_DtInIdeal_DtInRefIdeal [hDtInIdeal : Cert.DtInIdeal.Facts] [hDtInRefIdeal : Cert.DtInRefIdeal.Facts] : Prop :=
  ∀ (m : (ℓ : Loc Cert.DtInIdeal.nD Cert.DtInIdeal.τ Cert.DtInIdeal.sig) → Buf (Elt Ideal) ℓ) (g : Dev Cert.DtInIdeal.nD → PrngReg)
    (m' : (ℓ : Loc Cert.DtInRefIdeal.nD Cert.DtInRefIdeal.τ Cert.DtInRefIdeal.sig) → Buf (Elt Ideal) ℓ) (g' : Dev Cert.DtInRefIdeal.nD → PrngReg), Pre_DtInIdeal m →
    (∀ c : Dev Cert.DtInIdeal.nD,
      m' ((c.tc : Thread Cert.DtInRefIdeal.nD Cert.DtInRefIdeal.τ).loc Cert.DtInRefIdeal.main_arg0) = m ((c.tc : Thread Cert.DtInIdeal.nD Cert.DtInIdeal.τ).loc Cert.DtInIdeal.main_arg0)
      ∧ m' ((c.tc : Thread Cert.DtInRefIdeal.nD Cert.DtInRefIdeal.τ).loc Cert.DtInRefIdeal.main_arg1) = m ((c.tc : Thread Cert.DtInIdeal.nD Cert.DtInIdeal.τ).loc Cert.DtInIdeal.main_arg1)) →
    ∃ (v0 : (c : Dev Cert.DtInIdeal.nD) → Buf (Elt Ideal) ((c.tc : Thread Cert.DtInIdeal.nD Cert.DtInIdeal.τ).loc Cert.DtInIdeal.main_v0)),
      θ_run (Cert.DtInIdeal.defs (F := Ideal)) (onTc (τ := Cert.DtInIdeal.τ) (Cert.DtInIdeal.main (F := Ideal))) ⟨m, fun _ => 0, g⟩ (fun r => ∀ c : Dev Cert.DtInIdeal.nD,
          r.2.mem ((c.tc : Thread Cert.DtInIdeal.nD Cert.DtInIdeal.τ).loc Cert.DtInIdeal.main_v0) = v0 c
          ∧ r.2.mem ((c.tc : Thread Cert.DtInIdeal.nD Cert.DtInIdeal.τ).loc Cert.DtInIdeal.main_arg0) = m ((c.tc : Thread Cert.DtInIdeal.nD Cert.DtInIdeal.τ).loc Cert.DtInIdeal.main_arg0)
          ∧ r.2.mem ((c.tc : Thread Cert.DtInIdeal.nD Cert.DtInIdeal.τ).loc Cert.DtInIdeal.main_arg1) = m ((c.tc : Thread Cert.DtInIdeal.nD Cert.DtInIdeal.τ).loc Cert.DtInIdeal.main_arg1))
      ∧ θ_run (Cert.DtInRefIdeal.defs (F := Ideal)) (onTc (τ := Cert.DtInRefIdeal.τ) (Cert.DtInRefIdeal.main (F := Ideal))) ⟨m', fun _ => 0, g'⟩ (fun r => ∀ c : Dev Cert.DtInRefIdeal.nD,
          r.2.mem ((c.tc : Thread Cert.DtInRefIdeal.nD Cert.DtInRefIdeal.τ).loc Cert.DtInRefIdeal.main_v6) = v0 c
          ∧ r.2.mem ((c.tc : Thread Cert.DtInRefIdeal.nD Cert.DtInRefIdeal.τ).loc Cert.DtInRefIdeal.main_arg0) = m' ((c.tc : Thread Cert.DtInRefIdeal.nD Cert.DtInRefIdeal.τ).loc Cert.DtInRefIdeal.main_arg0)
          ∧ r.2.mem ((c.tc : Thread Cert.DtInRefIdeal.nD Cert.DtInRefIdeal.τ).loc Cert.DtInRefIdeal.main_arg1) = m' ((c.tc : Thread Cert.DtInRefIdeal.nD Cert.DtInRefIdeal.τ).loc Cert.DtInRefIdeal.main_arg1))

def preserves_SsmOut_SsmOutIdeal : Prop :=
  True

def algebraic_SsmOutIdeal_SsmOutRefIdeal [hSsmOutIdeal : Cert.SsmOutIdeal.Facts] [hSsmOutRefIdeal : Cert.SsmOutRefIdeal.Facts] : Prop :=
  ∀ (m : (ℓ : Loc Cert.SsmOutIdeal.nD Cert.SsmOutIdeal.τ Cert.SsmOutIdeal.sig) → Buf (Elt Ideal) ℓ) (g : Dev Cert.SsmOutIdeal.nD → PrngReg)
    (m' : (ℓ : Loc Cert.SsmOutRefIdeal.nD Cert.SsmOutRefIdeal.τ Cert.SsmOutRefIdeal.sig) → Buf (Elt Ideal) ℓ) (g' : Dev Cert.SsmOutRefIdeal.nD → PrngReg), Pre_SsmOutIdeal m →
    (∀ c : Dev Cert.SsmOutIdeal.nD,
      m' ((c.tc : Thread Cert.SsmOutRefIdeal.nD Cert.SsmOutRefIdeal.τ).loc Cert.SsmOutRefIdeal.main_arg0) = m ((c.tc : Thread Cert.SsmOutIdeal.nD Cert.SsmOutIdeal.τ).loc Cert.SsmOutIdeal.main_arg0)
      ∧ m' ((c.tc : Thread Cert.SsmOutRefIdeal.nD Cert.SsmOutRefIdeal.τ).loc Cert.SsmOutRefIdeal.main_arg1) = m ((c.tc : Thread Cert.SsmOutIdeal.nD Cert.SsmOutIdeal.τ).loc Cert.SsmOutIdeal.main_arg1)) →
    ∃ (v0 : (c : Dev Cert.SsmOutIdeal.nD) → Buf (Elt Ideal) ((c.tc : Thread Cert.SsmOutIdeal.nD Cert.SsmOutIdeal.τ).loc Cert.SsmOutIdeal.main_v0)),
      θ_run (Cert.SsmOutIdeal.defs (F := Ideal)) (onTc (τ := Cert.SsmOutIdeal.τ) (Cert.SsmOutIdeal.main (F := Ideal))) ⟨m, fun _ => 0, g⟩ (fun r => ∀ c : Dev Cert.SsmOutIdeal.nD,
          r.2.mem ((c.tc : Thread Cert.SsmOutIdeal.nD Cert.SsmOutIdeal.τ).loc Cert.SsmOutIdeal.main_v0) = v0 c
          ∧ r.2.mem ((c.tc : Thread Cert.SsmOutIdeal.nD Cert.SsmOutIdeal.τ).loc Cert.SsmOutIdeal.main_arg0) = m ((c.tc : Thread Cert.SsmOutIdeal.nD Cert.SsmOutIdeal.τ).loc Cert.SsmOutIdeal.main_arg0)
          ∧ r.2.mem ((c.tc : Thread Cert.SsmOutIdeal.nD Cert.SsmOutIdeal.τ).loc Cert.SsmOutIdeal.main_arg1) = m ((c.tc : Thread Cert.SsmOutIdeal.nD Cert.SsmOutIdeal.τ).loc Cert.SsmOutIdeal.main_arg1))
      ∧ θ_run (Cert.SsmOutRefIdeal.defs (F := Ideal)) (onTc (τ := Cert.SsmOutRefIdeal.τ) (Cert.SsmOutRefIdeal.main (F := Ideal))) ⟨m', fun _ => 0, g'⟩ (fun r => ∀ c : Dev Cert.SsmOutRefIdeal.nD,
          r.2.mem ((c.tc : Thread Cert.SsmOutRefIdeal.nD Cert.SsmOutRefIdeal.τ).loc Cert.SsmOutRefIdeal.main_v4) = v0 c
          ∧ r.2.mem ((c.tc : Thread Cert.SsmOutRefIdeal.nD Cert.SsmOutRefIdeal.τ).loc Cert.SsmOutRefIdeal.main_arg0) = m' ((c.tc : Thread Cert.SsmOutRefIdeal.nD Cert.SsmOutRefIdeal.τ).loc Cert.SsmOutRefIdeal.main_arg0)
          ∧ r.2.mem ((c.tc : Thread Cert.SsmOutRefIdeal.nD Cert.SsmOutRefIdeal.τ).loc Cert.SsmOutRefIdeal.main_arg1) = m' ((c.tc : Thread Cert.SsmOutRefIdeal.nD Cert.SsmOutRefIdeal.τ).loc Cert.SsmOutRefIdeal.main_arg1))

def preserves_AttOut_AttOutIdeal : Prop :=
  True

def algebraic_AttOutIdeal_AttOutRefIdeal [hAttOutIdeal : Cert.AttOutIdeal.Facts] [hAttOutRefIdeal : Cert.AttOutRefIdeal.Facts] : Prop :=
  ∀ (m : (ℓ : Loc Cert.AttOutIdeal.nD Cert.AttOutIdeal.τ Cert.AttOutIdeal.sig) → Buf (Elt Ideal) ℓ) (g : Dev Cert.AttOutIdeal.nD → PrngReg)
    (m' : (ℓ : Loc Cert.AttOutRefIdeal.nD Cert.AttOutRefIdeal.τ Cert.AttOutRefIdeal.sig) → Buf (Elt Ideal) ℓ) (g' : Dev Cert.AttOutRefIdeal.nD → PrngReg), Pre_AttOutIdeal m →
    (∀ c : Dev Cert.AttOutIdeal.nD,
      m' ((c.tc : Thread Cert.AttOutRefIdeal.nD Cert.AttOutRefIdeal.τ).loc Cert.AttOutRefIdeal.main_arg0) = m ((c.tc : Thread Cert.AttOutIdeal.nD Cert.AttOutIdeal.τ).loc Cert.AttOutIdeal.main_arg0)
      ∧ m' ((c.tc : Thread Cert.AttOutRefIdeal.nD Cert.AttOutRefIdeal.τ).loc Cert.AttOutRefIdeal.main_arg1) = m ((c.tc : Thread Cert.AttOutIdeal.nD Cert.AttOutIdeal.τ).loc Cert.AttOutIdeal.main_arg1)) →
    ∃ (v0 : (c : Dev Cert.AttOutIdeal.nD) → Buf (Elt Ideal) ((c.tc : Thread Cert.AttOutIdeal.nD Cert.AttOutIdeal.τ).loc Cert.AttOutIdeal.main_v0)),
      θ_run (Cert.AttOutIdeal.defs (F := Ideal)) (onTc (τ := Cert.AttOutIdeal.τ) (Cert.AttOutIdeal.main (F := Ideal))) ⟨m, fun _ => 0, g⟩ (fun r => ∀ c : Dev Cert.AttOutIdeal.nD,
          r.2.mem ((c.tc : Thread Cert.AttOutIdeal.nD Cert.AttOutIdeal.τ).loc Cert.AttOutIdeal.main_v0) = v0 c
          ∧ r.2.mem ((c.tc : Thread Cert.AttOutIdeal.nD Cert.AttOutIdeal.τ).loc Cert.AttOutIdeal.main_arg0) = m ((c.tc : Thread Cert.AttOutIdeal.nD Cert.AttOutIdeal.τ).loc Cert.AttOutIdeal.main_arg0)
          ∧ r.2.mem ((c.tc : Thread Cert.AttOutIdeal.nD Cert.AttOutIdeal.τ).loc Cert.AttOutIdeal.main_arg1) = m ((c.tc : Thread Cert.AttOutIdeal.nD Cert.AttOutIdeal.τ).loc Cert.AttOutIdeal.main_arg1))
      ∧ θ_run (Cert.AttOutRefIdeal.defs (F := Ideal)) (onTc (τ := Cert.AttOutRefIdeal.τ) (Cert.AttOutRefIdeal.main (F := Ideal))) ⟨m', fun _ => 0, g'⟩ (fun r => ∀ c : Dev Cert.AttOutRefIdeal.nD,
          r.2.mem ((c.tc : Thread Cert.AttOutRefIdeal.nD Cert.AttOutRefIdeal.τ).loc Cert.AttOutRefIdeal.main_v3) = v0 c
          ∧ r.2.mem ((c.tc : Thread Cert.AttOutRefIdeal.nD Cert.AttOutRefIdeal.τ).loc Cert.AttOutRefIdeal.main_arg0) = m' ((c.tc : Thread Cert.AttOutRefIdeal.nD Cert.AttOutRefIdeal.τ).loc Cert.AttOutRefIdeal.main_arg0)
          ∧ r.2.mem ((c.tc : Thread Cert.AttOutRefIdeal.nD Cert.AttOutRefIdeal.τ).loc Cert.AttOutRefIdeal.main_arg1) = m' ((c.tc : Thread Cert.AttOutRefIdeal.nD Cert.AttOutRefIdeal.τ).loc Cert.AttOutRefIdeal.main_arg1))

def preserves_PleGate_PleGateIdeal : Prop :=
  True

def algebraic_PleGateIdeal_PleGateRefIdeal [hPleGateIdeal : Cert.PleGateIdeal.Facts] [hPleGateRefIdeal : Cert.PleGateRefIdeal.Facts] : Prop :=
  ∀ (m : (ℓ : Loc Cert.PleGateIdeal.nD Cert.PleGateIdeal.τ Cert.PleGateIdeal.sig) → Buf (Elt Ideal) ℓ) (g : Dev Cert.PleGateIdeal.nD → PrngReg)
    (m' : (ℓ : Loc Cert.PleGateRefIdeal.nD Cert.PleGateRefIdeal.τ Cert.PleGateRefIdeal.sig) → Buf (Elt Ideal) ℓ) (g' : Dev Cert.PleGateRefIdeal.nD → PrngReg), Pre_PleGateIdeal m →
    (∀ c : Dev Cert.PleGateIdeal.nD,
      m' ((c.tc : Thread Cert.PleGateRefIdeal.nD Cert.PleGateRefIdeal.τ).loc Cert.PleGateRefIdeal.main_arg0) = m ((c.tc : Thread Cert.PleGateIdeal.nD Cert.PleGateIdeal.τ).loc Cert.PleGateIdeal.main_arg0)
      ∧ m' ((c.tc : Thread Cert.PleGateRefIdeal.nD Cert.PleGateRefIdeal.τ).loc Cert.PleGateRefIdeal.main_arg1) = m ((c.tc : Thread Cert.PleGateIdeal.nD Cert.PleGateIdeal.τ).loc Cert.PleGateIdeal.main_arg1)) →
    ∃ (v0 : (c : Dev Cert.PleGateIdeal.nD) → Buf (Elt Ideal) ((c.tc : Thread Cert.PleGateIdeal.nD Cert.PleGateIdeal.τ).loc Cert.PleGateIdeal.main_v0)),
      θ_run (Cert.PleGateIdeal.defs (F := Ideal)) (onTc (τ := Cert.PleGateIdeal.τ) (Cert.PleGateIdeal.main (F := Ideal))) ⟨m, fun _ => 0, g⟩ (fun r => ∀ c : Dev Cert.PleGateIdeal.nD,
          r.2.mem ((c.tc : Thread Cert.PleGateIdeal.nD Cert.PleGateIdeal.τ).loc Cert.PleGateIdeal.main_v0) = v0 c
          ∧ r.2.mem ((c.tc : Thread Cert.PleGateIdeal.nD Cert.PleGateIdeal.τ).loc Cert.PleGateIdeal.main_arg0) = m ((c.tc : Thread Cert.PleGateIdeal.nD Cert.PleGateIdeal.τ).loc Cert.PleGateIdeal.main_arg0)
          ∧ r.2.mem ((c.tc : Thread Cert.PleGateIdeal.nD Cert.PleGateIdeal.τ).loc Cert.PleGateIdeal.main_arg1) = m ((c.tc : Thread Cert.PleGateIdeal.nD Cert.PleGateIdeal.τ).loc Cert.PleGateIdeal.main_arg1))
      ∧ θ_run (Cert.PleGateRefIdeal.defs (F := Ideal)) (onTc (τ := Cert.PleGateRefIdeal.τ) (Cert.PleGateRefIdeal.main (F := Ideal))) ⟨m', fun _ => 0, g'⟩ (fun r => ∀ c : Dev Cert.PleGateRefIdeal.nD,
          r.2.mem ((c.tc : Thread Cert.PleGateRefIdeal.nD Cert.PleGateRefIdeal.τ).loc Cert.PleGateRefIdeal.main_v4) = v0 c
          ∧ r.2.mem ((c.tc : Thread Cert.PleGateRefIdeal.nD Cert.PleGateRefIdeal.τ).loc Cert.PleGateRefIdeal.main_arg0) = m' ((c.tc : Thread Cert.PleGateRefIdeal.nD Cert.PleGateRefIdeal.τ).loc Cert.PleGateRefIdeal.main_arg0)
          ∧ r.2.mem ((c.tc : Thread Cert.PleGateRefIdeal.nD Cert.PleGateRefIdeal.τ).loc Cert.PleGateRefIdeal.main_arg1) = m' ((c.tc : Thread Cert.PleGateRefIdeal.nD Cert.PleGateRefIdeal.τ).loc Cert.PleGateRefIdeal.main_arg1))

def preserves_PleProj_PleProjIdeal : Prop :=
  True

def algebraic_PleProjIdeal_PleProjRefIdeal [hPleProjIdeal : Cert.PleProjIdeal.Facts] [hPleProjRefIdeal : Cert.PleProjRefIdeal.Facts] : Prop :=
  ∀ (m : (ℓ : Loc Cert.PleProjIdeal.nD Cert.PleProjIdeal.τ Cert.PleProjIdeal.sig) → Buf (Elt Ideal) ℓ) (g : Dev Cert.PleProjIdeal.nD → PrngReg)
    (m' : (ℓ : Loc Cert.PleProjRefIdeal.nD Cert.PleProjRefIdeal.τ Cert.PleProjRefIdeal.sig) → Buf (Elt Ideal) ℓ) (g' : Dev Cert.PleProjRefIdeal.nD → PrngReg), Pre_PleProjIdeal m →
    (∀ c : Dev Cert.PleProjIdeal.nD,
      m' ((c.tc : Thread Cert.PleProjRefIdeal.nD Cert.PleProjRefIdeal.τ).loc Cert.PleProjRefIdeal.main_arg0) = m ((c.tc : Thread Cert.PleProjIdeal.nD Cert.PleProjIdeal.τ).loc Cert.PleProjIdeal.main_arg0)
      ∧ m' ((c.tc : Thread Cert.PleProjRefIdeal.nD Cert.PleProjRefIdeal.τ).loc Cert.PleProjRefIdeal.main_arg1) = m ((c.tc : Thread Cert.PleProjIdeal.nD Cert.PleProjIdeal.τ).loc Cert.PleProjIdeal.main_arg1)) →
    ∃ (v0 : (c : Dev Cert.PleProjIdeal.nD) → Buf (Elt Ideal) ((c.tc : Thread Cert.PleProjIdeal.nD Cert.PleProjIdeal.τ).loc Cert.PleProjIdeal.main_v0)),
      θ_run (Cert.PleProjIdeal.defs (F := Ideal)) (onTc (τ := Cert.PleProjIdeal.τ) (Cert.PleProjIdeal.main (F := Ideal))) ⟨m, fun _ => 0, g⟩ (fun r => ∀ c : Dev Cert.PleProjIdeal.nD,
          r.2.mem ((c.tc : Thread Cert.PleProjIdeal.nD Cert.PleProjIdeal.τ).loc Cert.PleProjIdeal.main_v0) = v0 c
          ∧ r.2.mem ((c.tc : Thread Cert.PleProjIdeal.nD Cert.PleProjIdeal.τ).loc Cert.PleProjIdeal.main_arg0) = m ((c.tc : Thread Cert.PleProjIdeal.nD Cert.PleProjIdeal.τ).loc Cert.PleProjIdeal.main_arg0)
          ∧ r.2.mem ((c.tc : Thread Cert.PleProjIdeal.nD Cert.PleProjIdeal.τ).loc Cert.PleProjIdeal.main_arg1) = m ((c.tc : Thread Cert.PleProjIdeal.nD Cert.PleProjIdeal.τ).loc Cert.PleProjIdeal.main_arg1))
      ∧ θ_run (Cert.PleProjRefIdeal.defs (F := Ideal)) (onTc (τ := Cert.PleProjRefIdeal.τ) (Cert.PleProjRefIdeal.main (F := Ideal))) ⟨m', fun _ => 0, g'⟩ (fun r => ∀ c : Dev Cert.PleProjRefIdeal.nD,
          r.2.mem ((c.tc : Thread Cert.PleProjRefIdeal.nD Cert.PleProjRefIdeal.τ).loc Cert.PleProjRefIdeal.main_v5) = v0 c
          ∧ r.2.mem ((c.tc : Thread Cert.PleProjRefIdeal.nD Cert.PleProjRefIdeal.τ).loc Cert.PleProjRefIdeal.main_arg0) = m' ((c.tc : Thread Cert.PleProjRefIdeal.nD Cert.PleProjRefIdeal.τ).loc Cert.PleProjRefIdeal.main_arg0)
          ∧ r.2.mem ((c.tc : Thread Cert.PleProjRefIdeal.nD Cert.PleProjRefIdeal.τ).loc Cert.PleProjRefIdeal.main_arg1) = m' ((c.tc : Thread Cert.PleProjRefIdeal.nD Cert.PleProjRefIdeal.τ).loc Cert.PleProjRefIdeal.main_arg1))

def preserves_ZProj_ZProjIdeal : Prop :=
  True

def algebraic_ZProjIdeal_ZProjRefIdeal [hZProjIdeal : Cert.ZProjIdeal.Facts] [hZProjRefIdeal : Cert.ZProjRefIdeal.Facts] : Prop :=
  ∀ (m : (ℓ : Loc Cert.ZProjIdeal.nD Cert.ZProjIdeal.τ Cert.ZProjIdeal.sig) → Buf (Elt Ideal) ℓ) (g : Dev Cert.ZProjIdeal.nD → PrngReg)
    (m' : (ℓ : Loc Cert.ZProjRefIdeal.nD Cert.ZProjRefIdeal.τ Cert.ZProjRefIdeal.sig) → Buf (Elt Ideal) ℓ) (g' : Dev Cert.ZProjRefIdeal.nD → PrngReg), Pre_ZProjIdeal m →
    (∀ c : Dev Cert.ZProjIdeal.nD,
      m' ((c.tc : Thread Cert.ZProjRefIdeal.nD Cert.ZProjRefIdeal.τ).loc Cert.ZProjRefIdeal.main_arg0) = m ((c.tc : Thread Cert.ZProjIdeal.nD Cert.ZProjIdeal.τ).loc Cert.ZProjIdeal.main_arg0)
      ∧ m' ((c.tc : Thread Cert.ZProjRefIdeal.nD Cert.ZProjRefIdeal.τ).loc Cert.ZProjRefIdeal.main_arg1) = m ((c.tc : Thread Cert.ZProjIdeal.nD Cert.ZProjIdeal.τ).loc Cert.ZProjIdeal.main_arg1)) →
    ∃ (v0 : (c : Dev Cert.ZProjIdeal.nD) → Buf (Elt Ideal) ((c.tc : Thread Cert.ZProjIdeal.nD Cert.ZProjIdeal.τ).loc Cert.ZProjIdeal.main_v0)),
      θ_run (Cert.ZProjIdeal.defs (F := Ideal)) (onTc (τ := Cert.ZProjIdeal.τ) (Cert.ZProjIdeal.main (F := Ideal))) ⟨m, fun _ => 0, g⟩ (fun r => ∀ c : Dev Cert.ZProjIdeal.nD,
          r.2.mem ((c.tc : Thread Cert.ZProjIdeal.nD Cert.ZProjIdeal.τ).loc Cert.ZProjIdeal.main_v0) = v0 c
          ∧ r.2.mem ((c.tc : Thread Cert.ZProjIdeal.nD Cert.ZProjIdeal.τ).loc Cert.ZProjIdeal.main_arg0) = m ((c.tc : Thread Cert.ZProjIdeal.nD Cert.ZProjIdeal.τ).loc Cert.ZProjIdeal.main_arg0)
          ∧ r.2.mem ((c.tc : Thread Cert.ZProjIdeal.nD Cert.ZProjIdeal.τ).loc Cert.ZProjIdeal.main_arg1) = m ((c.tc : Thread Cert.ZProjIdeal.nD Cert.ZProjIdeal.τ).loc Cert.ZProjIdeal.main_arg1))
      ∧ θ_run (Cert.ZProjRefIdeal.defs (F := Ideal)) (onTc (τ := Cert.ZProjRefIdeal.τ) (Cert.ZProjRefIdeal.main (F := Ideal))) ⟨m', fun _ => 0, g'⟩ (fun r => ∀ c : Dev Cert.ZProjRefIdeal.nD,
          r.2.mem ((c.tc : Thread Cert.ZProjRefIdeal.nD Cert.ZProjRefIdeal.τ).loc Cert.ZProjRefIdeal.main_v3) = v0 c
          ∧ r.2.mem ((c.tc : Thread Cert.ZProjRefIdeal.nD Cert.ZProjRefIdeal.τ).loc Cert.ZProjRefIdeal.main_arg0) = m' ((c.tc : Thread Cert.ZProjRefIdeal.nD Cert.ZProjRefIdeal.τ).loc Cert.ZProjRefIdeal.main_arg0)
          ∧ r.2.mem ((c.tc : Thread Cert.ZProjRefIdeal.nD Cert.ZProjRefIdeal.τ).loc Cert.ZProjRefIdeal.main_arg1) = m' ((c.tc : Thread Cert.ZProjRefIdeal.nD Cert.ZProjRefIdeal.τ).loc Cert.ZProjRefIdeal.main_arg1))

def preserves_XbcProj_XbcProjIdeal : Prop :=
  True

def algebraic_XbcProjIdeal_XbcProjRefIdeal [hXbcProjIdeal : Cert.XbcProjIdeal.Facts] [hXbcProjRefIdeal : Cert.XbcProjRefIdeal.Facts] : Prop :=
  ∀ (m : (ℓ : Loc Cert.XbcProjIdeal.nD Cert.XbcProjIdeal.τ Cert.XbcProjIdeal.sig) → Buf (Elt Ideal) ℓ) (g : Dev Cert.XbcProjIdeal.nD → PrngReg)
    (m' : (ℓ : Loc Cert.XbcProjRefIdeal.nD Cert.XbcProjRefIdeal.τ Cert.XbcProjRefIdeal.sig) → Buf (Elt Ideal) ℓ) (g' : Dev Cert.XbcProjRefIdeal.nD → PrngReg), Pre_XbcProjIdeal m →
    (∀ c : Dev Cert.XbcProjIdeal.nD,
      m' ((c.tc : Thread Cert.XbcProjRefIdeal.nD Cert.XbcProjRefIdeal.τ).loc Cert.XbcProjRefIdeal.main_arg0) = m ((c.tc : Thread Cert.XbcProjIdeal.nD Cert.XbcProjIdeal.τ).loc Cert.XbcProjIdeal.main_arg0)
      ∧ m' ((c.tc : Thread Cert.XbcProjRefIdeal.nD Cert.XbcProjRefIdeal.τ).loc Cert.XbcProjRefIdeal.main_arg1) = m ((c.tc : Thread Cert.XbcProjIdeal.nD Cert.XbcProjIdeal.τ).loc Cert.XbcProjIdeal.main_arg1)) →
    ∃ (v0 : (c : Dev Cert.XbcProjIdeal.nD) → Buf (Elt Ideal) ((c.tc : Thread Cert.XbcProjIdeal.nD Cert.XbcProjIdeal.τ).loc Cert.XbcProjIdeal.main_v0)),
      θ_run (Cert.XbcProjIdeal.defs (F := Ideal)) (onTc (τ := Cert.XbcProjIdeal.τ) (Cert.XbcProjIdeal.main (F := Ideal))) ⟨m, fun _ => 0, g⟩ (fun r => ∀ c : Dev Cert.XbcProjIdeal.nD,
          r.2.mem ((c.tc : Thread Cert.XbcProjIdeal.nD Cert.XbcProjIdeal.τ).loc Cert.XbcProjIdeal.main_v0) = v0 c
          ∧ r.2.mem ((c.tc : Thread Cert.XbcProjIdeal.nD Cert.XbcProjIdeal.τ).loc Cert.XbcProjIdeal.main_arg0) = m ((c.tc : Thread Cert.XbcProjIdeal.nD Cert.XbcProjIdeal.τ).loc Cert.XbcProjIdeal.main_arg0)
          ∧ r.2.mem ((c.tc : Thread Cert.XbcProjIdeal.nD Cert.XbcProjIdeal.τ).loc Cert.XbcProjIdeal.main_arg1) = m ((c.tc : Thread Cert.XbcProjIdeal.nD Cert.XbcProjIdeal.τ).loc Cert.XbcProjIdeal.main_arg1))
      ∧ θ_run (Cert.XbcProjRefIdeal.defs (F := Ideal)) (onTc (τ := Cert.XbcProjRefIdeal.τ) (Cert.XbcProjRefIdeal.main (F := Ideal))) ⟨m', fun _ => 0, g'⟩ (fun r => ∀ c : Dev Cert.XbcProjRefIdeal.nD,
          r.2.mem ((c.tc : Thread Cert.XbcProjRefIdeal.nD Cert.XbcProjRefIdeal.τ).loc Cert.XbcProjRefIdeal.main_v3) = v0 c
          ∧ r.2.mem ((c.tc : Thread Cert.XbcProjRefIdeal.nD Cert.XbcProjRefIdeal.τ).loc Cert.XbcProjRefIdeal.main_arg0) = m' ((c.tc : Thread Cert.XbcProjRefIdeal.nD Cert.XbcProjRefIdeal.τ).loc Cert.XbcProjRefIdeal.main_arg0)
          ∧ r.2.mem ((c.tc : Thread Cert.XbcProjRefIdeal.nD Cert.XbcProjRefIdeal.τ).loc Cert.XbcProjRefIdeal.main_arg1) = m' ((c.tc : Thread Cert.XbcProjRefIdeal.nD Cert.XbcProjRefIdeal.τ).loc Cert.XbcProjRefIdeal.main_arg1))

def preserves_DtProj_DtProjIdeal : Prop :=
  True

def algebraic_DtProjIdeal_DtProjRefIdeal [hDtProjIdeal : Cert.DtProjIdeal.Facts] [hDtProjRefIdeal : Cert.DtProjRefIdeal.Facts] : Prop :=
  ∀ (m : (ℓ : Loc Cert.DtProjIdeal.nD Cert.DtProjIdeal.τ Cert.DtProjIdeal.sig) → Buf (Elt Ideal) ℓ) (g : Dev Cert.DtProjIdeal.nD → PrngReg)
    (m' : (ℓ : Loc Cert.DtProjRefIdeal.nD Cert.DtProjRefIdeal.τ Cert.DtProjRefIdeal.sig) → Buf (Elt Ideal) ℓ) (g' : Dev Cert.DtProjRefIdeal.nD → PrngReg), Pre_DtProjIdeal m →
    (∀ c : Dev Cert.DtProjIdeal.nD,
      m' ((c.tc : Thread Cert.DtProjRefIdeal.nD Cert.DtProjRefIdeal.τ).loc Cert.DtProjRefIdeal.main_arg0) = m ((c.tc : Thread Cert.DtProjIdeal.nD Cert.DtProjIdeal.τ).loc Cert.DtProjIdeal.main_arg0)
      ∧ m' ((c.tc : Thread Cert.DtProjRefIdeal.nD Cert.DtProjRefIdeal.τ).loc Cert.DtProjRefIdeal.main_arg1) = m ((c.tc : Thread Cert.DtProjIdeal.nD Cert.DtProjIdeal.τ).loc Cert.DtProjIdeal.main_arg1)) →
    ∃ (v0 : (c : Dev Cert.DtProjIdeal.nD) → Buf (Elt Ideal) ((c.tc : Thread Cert.DtProjIdeal.nD Cert.DtProjIdeal.τ).loc Cert.DtProjIdeal.main_v0)),
      θ_run (Cert.DtProjIdeal.defs (F := Ideal)) (onTc (τ := Cert.DtProjIdeal.τ) (Cert.DtProjIdeal.main (F := Ideal))) ⟨m, fun _ => 0, g⟩ (fun r => ∀ c : Dev Cert.DtProjIdeal.nD,
          r.2.mem ((c.tc : Thread Cert.DtProjIdeal.nD Cert.DtProjIdeal.τ).loc Cert.DtProjIdeal.main_v0) = v0 c
          ∧ r.2.mem ((c.tc : Thread Cert.DtProjIdeal.nD Cert.DtProjIdeal.τ).loc Cert.DtProjIdeal.main_arg0) = m ((c.tc : Thread Cert.DtProjIdeal.nD Cert.DtProjIdeal.τ).loc Cert.DtProjIdeal.main_arg0)
          ∧ r.2.mem ((c.tc : Thread Cert.DtProjIdeal.nD Cert.DtProjIdeal.τ).loc Cert.DtProjIdeal.main_arg1) = m ((c.tc : Thread Cert.DtProjIdeal.nD Cert.DtProjIdeal.τ).loc Cert.DtProjIdeal.main_arg1))
      ∧ θ_run (Cert.DtProjRefIdeal.defs (F := Ideal)) (onTc (τ := Cert.DtProjRefIdeal.τ) (Cert.DtProjRefIdeal.main (F := Ideal))) ⟨m', fun _ => 0, g'⟩ (fun r => ∀ c : Dev Cert.DtProjRefIdeal.nD,
          r.2.mem ((c.tc : Thread Cert.DtProjRefIdeal.nD Cert.DtProjRefIdeal.τ).loc Cert.DtProjRefIdeal.main_v3) = v0 c
          ∧ r.2.mem ((c.tc : Thread Cert.DtProjRefIdeal.nD Cert.DtProjRefIdeal.τ).loc Cert.DtProjRefIdeal.main_arg0) = m' ((c.tc : Thread Cert.DtProjRefIdeal.nD Cert.DtProjRefIdeal.τ).loc Cert.DtProjRefIdeal.main_arg0)
          ∧ r.2.mem ((c.tc : Thread Cert.DtProjRefIdeal.nD Cert.DtProjRefIdeal.τ).loc Cert.DtProjRefIdeal.main_arg1) = m' ((c.tc : Thread Cert.DtProjRefIdeal.nD Cert.DtProjRefIdeal.τ).loc Cert.DtProjRefIdeal.main_arg1))

def preserves_DownProj_DownProjIdeal : Prop :=
  True

def algebraic_DownProjIdeal_DownProjRefIdeal [hDownProjIdeal : Cert.DownProjIdeal.Facts] [hDownProjRefIdeal : Cert.DownProjRefIdeal.Facts] : Prop :=
  ∀ (m : (ℓ : Loc Cert.DownProjIdeal.nD Cert.DownProjIdeal.τ Cert.DownProjIdeal.sig) → Buf (Elt Ideal) ℓ) (g : Dev Cert.DownProjIdeal.nD → PrngReg)
    (m' : (ℓ : Loc Cert.DownProjRefIdeal.nD Cert.DownProjRefIdeal.τ Cert.DownProjRefIdeal.sig) → Buf (Elt Ideal) ℓ) (g' : Dev Cert.DownProjRefIdeal.nD → PrngReg), Pre_DownProjIdeal m →
    (∀ c : Dev Cert.DownProjIdeal.nD,
      m' ((c.tc : Thread Cert.DownProjRefIdeal.nD Cert.DownProjRefIdeal.τ).loc Cert.DownProjRefIdeal.main_arg0) = m ((c.tc : Thread Cert.DownProjIdeal.nD Cert.DownProjIdeal.τ).loc Cert.DownProjIdeal.main_arg0)
      ∧ m' ((c.tc : Thread Cert.DownProjRefIdeal.nD Cert.DownProjRefIdeal.τ).loc Cert.DownProjRefIdeal.main_arg1) = m ((c.tc : Thread Cert.DownProjIdeal.nD Cert.DownProjIdeal.τ).loc Cert.DownProjIdeal.main_arg1)
      ∧ m' ((c.tc : Thread Cert.DownProjRefIdeal.nD Cert.DownProjRefIdeal.τ).loc Cert.DownProjRefIdeal.main_arg2) = m ((c.tc : Thread Cert.DownProjIdeal.nD Cert.DownProjIdeal.τ).loc Cert.DownProjIdeal.main_arg2)) →
    ∃ (v0 : (c : Dev Cert.DownProjIdeal.nD) → Buf (Elt Ideal) ((c.tc : Thread Cert.DownProjIdeal.nD Cert.DownProjIdeal.τ).loc Cert.DownProjIdeal.main_v0)),
      θ_run (Cert.DownProjIdeal.defs (F := Ideal)) (onTc (τ := Cert.DownProjIdeal.τ) (Cert.DownProjIdeal.main (F := Ideal))) ⟨m, fun _ => 0, g⟩ (fun r => ∀ c : Dev Cert.DownProjIdeal.nD,
          r.2.mem ((c.tc : Thread Cert.DownProjIdeal.nD Cert.DownProjIdeal.τ).loc Cert.DownProjIdeal.main_v0) = v0 c
          ∧ r.2.mem ((c.tc : Thread Cert.DownProjIdeal.nD Cert.DownProjIdeal.τ).loc Cert.DownProjIdeal.main_arg0) = m ((c.tc : Thread Cert.DownProjIdeal.nD Cert.DownProjIdeal.τ).loc Cert.DownProjIdeal.main_arg0)
          ∧ r.2.mem ((c.tc : Thread Cert.DownProjIdeal.nD Cert.DownProjIdeal.τ).loc Cert.DownProjIdeal.main_arg1) = m ((c.tc : Thread Cert.DownProjIdeal.nD Cert.DownProjIdeal.τ).loc Cert.DownProjIdeal.main_arg1)
          ∧ r.2.mem ((c.tc : Thread Cert.DownProjIdeal.nD Cert.DownProjIdeal.τ).loc Cert.DownProjIdeal.main_arg2) = m ((c.tc : Thread Cert.DownProjIdeal.nD Cert.DownProjIdeal.τ).loc Cert.DownProjIdeal.main_arg2))
      ∧ θ_run (Cert.DownProjRefIdeal.defs (F := Ideal)) (onTc (τ := Cert.DownProjRefIdeal.τ) (Cert.DownProjRefIdeal.main (F := Ideal))) ⟨m', fun _ => 0, g'⟩ (fun r => ∀ c : Dev Cert.DownProjRefIdeal.nD,
          r.2.mem ((c.tc : Thread Cert.DownProjRefIdeal.nD Cert.DownProjRefIdeal.τ).loc Cert.DownProjRefIdeal.main_v3) = v0 c
          ∧ r.2.mem ((c.tc : Thread Cert.DownProjRefIdeal.nD Cert.DownProjRefIdeal.τ).loc Cert.DownProjRefIdeal.main_arg0) = m' ((c.tc : Thread Cert.DownProjRefIdeal.nD Cert.DownProjRefIdeal.τ).loc Cert.DownProjRefIdeal.main_arg0)
          ∧ r.2.mem ((c.tc : Thread Cert.DownProjRefIdeal.nD Cert.DownProjRefIdeal.τ).loc Cert.DownProjRefIdeal.main_arg1) = m' ((c.tc : Thread Cert.DownProjRefIdeal.nD Cert.DownProjRefIdeal.τ).loc Cert.DownProjRefIdeal.main_arg1)
          ∧ r.2.mem ((c.tc : Thread Cert.DownProjRefIdeal.nD Cert.DownProjRefIdeal.τ).loc Cert.DownProjRefIdeal.main_arg2) = m' ((c.tc : Thread Cert.DownProjRefIdeal.nD Cert.DownProjRefIdeal.τ).loc Cert.DownProjRefIdeal.main_arg2))

def preserves_ZBack_ZBackIdeal : Prop :=
  True

def algebraic_ZBackIdeal_ZBackRefIdeal [hZBackIdeal : Cert.ZBackIdeal.Facts] [hZBackRefIdeal : Cert.ZBackRefIdeal.Facts] : Prop :=
  ∀ (m : (ℓ : Loc Cert.ZBackIdeal.nD Cert.ZBackIdeal.τ Cert.ZBackIdeal.sig) → Buf (Elt Ideal) ℓ) (g : Dev Cert.ZBackIdeal.nD → PrngReg)
    (m' : (ℓ : Loc Cert.ZBackRefIdeal.nD Cert.ZBackRefIdeal.τ Cert.ZBackRefIdeal.sig) → Buf (Elt Ideal) ℓ) (g' : Dev Cert.ZBackRefIdeal.nD → PrngReg), Pre_ZBackIdeal m →
    (∀ c : Dev Cert.ZBackIdeal.nD,
      m' ((c.tc : Thread Cert.ZBackRefIdeal.nD Cert.ZBackRefIdeal.τ).loc Cert.ZBackRefIdeal.main_arg0) = m ((c.tc : Thread Cert.ZBackIdeal.nD Cert.ZBackIdeal.τ).loc Cert.ZBackIdeal.main_arg0)
      ∧ m' ((c.tc : Thread Cert.ZBackRefIdeal.nD Cert.ZBackRefIdeal.τ).loc Cert.ZBackRefIdeal.main_arg1) = m ((c.tc : Thread Cert.ZBackIdeal.nD Cert.ZBackIdeal.τ).loc Cert.ZBackIdeal.main_arg1)) →
    ∃ (v0 : (c : Dev Cert.ZBackIdeal.nD) → Buf (Elt Ideal) ((c.tc : Thread Cert.ZBackIdeal.nD Cert.ZBackIdeal.τ).loc Cert.ZBackIdeal.main_v0)),
      θ_run (Cert.ZBackIdeal.defs (F := Ideal)) (onTc (τ := Cert.ZBackIdeal.τ) (Cert.ZBackIdeal.main (F := Ideal))) ⟨m, fun _ => 0, g⟩ (fun r => ∀ c : Dev Cert.ZBackIdeal.nD,
          r.2.mem ((c.tc : Thread Cert.ZBackIdeal.nD Cert.ZBackIdeal.τ).loc Cert.ZBackIdeal.main_v0) = v0 c
          ∧ r.2.mem ((c.tc : Thread Cert.ZBackIdeal.nD Cert.ZBackIdeal.τ).loc Cert.ZBackIdeal.main_arg0) = m ((c.tc : Thread Cert.ZBackIdeal.nD Cert.ZBackIdeal.τ).loc Cert.ZBackIdeal.main_arg0)
          ∧ r.2.mem ((c.tc : Thread Cert.ZBackIdeal.nD Cert.ZBackIdeal.τ).loc Cert.ZBackIdeal.main_arg1) = m ((c.tc : Thread Cert.ZBackIdeal.nD Cert.ZBackIdeal.τ).loc Cert.ZBackIdeal.main_arg1))
      ∧ θ_run (Cert.ZBackRefIdeal.defs (F := Ideal)) (onTc (τ := Cert.ZBackRefIdeal.τ) (Cert.ZBackRefIdeal.main (F := Ideal))) ⟨m', fun _ => 0, g'⟩ (fun r => ∀ c : Dev Cert.ZBackRefIdeal.nD,
          r.2.mem ((c.tc : Thread Cert.ZBackRefIdeal.nD Cert.ZBackRefIdeal.τ).loc Cert.ZBackRefIdeal.main_v5) = v0 c
          ∧ r.2.mem ((c.tc : Thread Cert.ZBackRefIdeal.nD Cert.ZBackRefIdeal.τ).loc Cert.ZBackRefIdeal.main_arg0) = m' ((c.tc : Thread Cert.ZBackRefIdeal.nD Cert.ZBackRefIdeal.τ).loc Cert.ZBackRefIdeal.main_arg0)
          ∧ r.2.mem ((c.tc : Thread Cert.ZBackRefIdeal.nD Cert.ZBackRefIdeal.τ).loc Cert.ZBackRefIdeal.main_arg1) = m' ((c.tc : Thread Cert.ZBackRefIdeal.nD Cert.ZBackRefIdeal.τ).loc Cert.ZBackRefIdeal.main_arg1))

def preserves_XbcBack_XbcBackIdeal : Prop :=
  True

def algebraic_XbcBackIdeal_XbcBackRefIdeal [hXbcBackIdeal : Cert.XbcBackIdeal.Facts] [hXbcBackRefIdeal : Cert.XbcBackRefIdeal.Facts] : Prop :=
  ∀ (m : (ℓ : Loc Cert.XbcBackIdeal.nD Cert.XbcBackIdeal.τ Cert.XbcBackIdeal.sig) → Buf (Elt Ideal) ℓ) (g : Dev Cert.XbcBackIdeal.nD → PrngReg)
    (m' : (ℓ : Loc Cert.XbcBackRefIdeal.nD Cert.XbcBackRefIdeal.τ Cert.XbcBackRefIdeal.sig) → Buf (Elt Ideal) ℓ) (g' : Dev Cert.XbcBackRefIdeal.nD → PrngReg), Pre_XbcBackIdeal m →
    (∀ c : Dev Cert.XbcBackIdeal.nD,
      m' ((c.tc : Thread Cert.XbcBackRefIdeal.nD Cert.XbcBackRefIdeal.τ).loc Cert.XbcBackRefIdeal.main_arg0) = m ((c.tc : Thread Cert.XbcBackIdeal.nD Cert.XbcBackIdeal.τ).loc Cert.XbcBackIdeal.main_arg0)
      ∧ m' ((c.tc : Thread Cert.XbcBackRefIdeal.nD Cert.XbcBackRefIdeal.τ).loc Cert.XbcBackRefIdeal.main_arg1) = m ((c.tc : Thread Cert.XbcBackIdeal.nD Cert.XbcBackIdeal.τ).loc Cert.XbcBackIdeal.main_arg1)
      ∧ m' ((c.tc : Thread Cert.XbcBackRefIdeal.nD Cert.XbcBackRefIdeal.τ).loc Cert.XbcBackRefIdeal.main_arg2) = m ((c.tc : Thread Cert.XbcBackIdeal.nD Cert.XbcBackIdeal.τ).loc Cert.XbcBackIdeal.main_arg2)) →
    ∃ (v0 : (c : Dev Cert.XbcBackIdeal.nD) → Buf (Elt Ideal) ((c.tc : Thread Cert.XbcBackIdeal.nD Cert.XbcBackIdeal.τ).loc Cert.XbcBackIdeal.main_v0)),
      θ_run (Cert.XbcBackIdeal.defs (F := Ideal)) (onTc (τ := Cert.XbcBackIdeal.τ) (Cert.XbcBackIdeal.main (F := Ideal))) ⟨m, fun _ => 0, g⟩ (fun r => ∀ c : Dev Cert.XbcBackIdeal.nD,
          r.2.mem ((c.tc : Thread Cert.XbcBackIdeal.nD Cert.XbcBackIdeal.τ).loc Cert.XbcBackIdeal.main_v0) = v0 c
          ∧ r.2.mem ((c.tc : Thread Cert.XbcBackIdeal.nD Cert.XbcBackIdeal.τ).loc Cert.XbcBackIdeal.main_arg0) = m ((c.tc : Thread Cert.XbcBackIdeal.nD Cert.XbcBackIdeal.τ).loc Cert.XbcBackIdeal.main_arg0)
          ∧ r.2.mem ((c.tc : Thread Cert.XbcBackIdeal.nD Cert.XbcBackIdeal.τ).loc Cert.XbcBackIdeal.main_arg1) = m ((c.tc : Thread Cert.XbcBackIdeal.nD Cert.XbcBackIdeal.τ).loc Cert.XbcBackIdeal.main_arg1)
          ∧ r.2.mem ((c.tc : Thread Cert.XbcBackIdeal.nD Cert.XbcBackIdeal.τ).loc Cert.XbcBackIdeal.main_arg2) = m ((c.tc : Thread Cert.XbcBackIdeal.nD Cert.XbcBackIdeal.τ).loc Cert.XbcBackIdeal.main_arg2))
      ∧ θ_run (Cert.XbcBackRefIdeal.defs (F := Ideal)) (onTc (τ := Cert.XbcBackRefIdeal.τ) (Cert.XbcBackRefIdeal.main (F := Ideal))) ⟨m', fun _ => 0, g'⟩ (fun r => ∀ c : Dev Cert.XbcBackRefIdeal.nD,
          r.2.mem ((c.tc : Thread Cert.XbcBackRefIdeal.nD Cert.XbcBackRefIdeal.τ).loc Cert.XbcBackRefIdeal.main_v6) = v0 c
          ∧ r.2.mem ((c.tc : Thread Cert.XbcBackRefIdeal.nD Cert.XbcBackRefIdeal.τ).loc Cert.XbcBackRefIdeal.main_arg0) = m' ((c.tc : Thread Cert.XbcBackRefIdeal.nD Cert.XbcBackRefIdeal.τ).loc Cert.XbcBackRefIdeal.main_arg0)
          ∧ r.2.mem ((c.tc : Thread Cert.XbcBackRefIdeal.nD Cert.XbcBackRefIdeal.τ).loc Cert.XbcBackRefIdeal.main_arg1) = m' ((c.tc : Thread Cert.XbcBackRefIdeal.nD Cert.XbcBackRefIdeal.τ).loc Cert.XbcBackRefIdeal.main_arg1)
          ∧ r.2.mem ((c.tc : Thread Cert.XbcBackRefIdeal.nD Cert.XbcBackRefIdeal.τ).loc Cert.XbcBackRefIdeal.main_arg2) = m' ((c.tc : Thread Cert.XbcBackRefIdeal.nD Cert.XbcBackRefIdeal.τ).loc Cert.XbcBackRefIdeal.main_arg2))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)) →
    ∃ (v0 : (c : Dev Cert.FfnInIdeal.nD) → Buf (Elt Ideal) ((c.tc : Thread Cert.FfnInIdeal.nD Cert.FfnInIdeal.τ).loc Cert.FfnInIdeal.main_v0_0)) (v1 : (c : Dev Cert.FfnInIdeal.nD) → Buf (Elt Ideal) ((c.tc : Thread Cert.FfnInIdeal.nD Cert.FfnInIdeal.τ).loc Cert.FfnInIdeal.main_v0_1)) (v2 : (c : Dev Cert.FfnInIdeal.nD) → Buf (Elt Ideal) ((c.tc : Thread Cert.FfnInIdeal.nD Cert.FfnInIdeal.τ).loc Cert.FfnInIdeal.main_v0_2)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v0_0) = v0 c
          ∧ r.2.mem ((c.tc : Thread Cert.FfnInIdeal.nD Cert.FfnInIdeal.τ).loc Cert.FfnInIdeal.main_v0_1) = v1 c
          ∧ r.2.mem ((c.tc : Thread Cert.FfnInIdeal.nD Cert.FfnInIdeal.τ).loc Cert.FfnInIdeal.main_v0_2) = v2 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v8) = v0 c
          ∧ r.2.mem ((c.tc : Thread Cert.FfnInRefIdeal.nD Cert.FfnInRefIdeal.τ).loc Cert.FfnInRefIdeal.main_v9) = v1 c
          ∧ r.2.mem ((c.tc : Thread Cert.FfnInRefIdeal.nD Cert.FfnInRefIdeal.τ).loc Cert.FfnInRefIdeal.main_v12) = v2 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2))

def preserves_FfnBack_FfnBackIdeal : Prop :=
  True

def algebraic_FfnBackIdeal_FfnBackRefIdeal_pre_ffn_back_finite [hFfnBackIdeal : Cert.FfnBackIdeal.Facts] [hFfnBackRefIdeal : Cert.FfnBackRefIdeal.Facts] [hPre_ffn_back_finite : Cert.Pre_ffn_back_finite.Facts] : Prop :=
  ∀ (m : (ℓ : Loc Cert.FfnBackIdeal.nD Cert.FfnBackIdeal.τ Cert.FfnBackIdeal.sig) → Buf (Elt Ideal) ℓ) (g : Dev Cert.FfnBackIdeal.nD → PrngReg)
    (m' : (ℓ : Loc Cert.FfnBackRefIdeal.nD Cert.FfnBackRefIdeal.τ Cert.FfnBackRefIdeal.sig) → Buf (Elt Ideal) ℓ) (g' : Dev Cert.FfnBackRefIdeal.nD → PrngReg), Pre_FfnBackIdeal_ffn_back_finite m →
    (∀ c : Dev Cert.FfnBackIdeal.nD,
      m' ((c.tc : Thread Cert.FfnBackRefIdeal.nD Cert.FfnBackRefIdeal.τ).loc Cert.FfnBackRefIdeal.main_arg0) = m ((c.tc : Thread Cert.FfnBackIdeal.nD Cert.FfnBackIdeal.τ).loc Cert.FfnBackIdeal.main_arg0)
      ∧ m' ((c.tc : Thread Cert.FfnBackRefIdeal.nD Cert.FfnBackRefIdeal.τ).loc Cert.FfnBackRefIdeal.main_arg1) = m ((c.tc : Thread Cert.FfnBackIdeal.nD Cert.FfnBackIdeal.τ).loc Cert.FfnBackIdeal.main_arg1)
      ∧ m' ((c.tc : Thread Cert.FfnBackRefIdeal.nD Cert.FfnBackRefIdeal.τ).loc Cert.FfnBackRefIdeal.main_arg2) = m ((c.tc : Thread Cert.FfnBackIdeal.nD Cert.FfnBackIdeal.τ).loc Cert.FfnBackIdeal.main_arg2)
      ∧ m' ((c.tc : Thread Cert.FfnBackRefIdeal.nD Cert.FfnBackRefIdeal.τ).loc Cert.FfnBackRefIdeal.main_arg3) = m ((c.tc : Thread Cert.FfnBackIdeal.nD Cert.FfnBackIdeal.τ).loc Cert.FfnBackIdeal.main_arg3)) →
    ∃ (v0 : (c : Dev Cert.FfnBackIdeal.nD) → Buf (Elt Ideal) ((c.tc : Thread Cert.FfnBackIdeal.nD Cert.FfnBackIdeal.τ).loc Cert.FfnBackIdeal.main_v0_0)) (v1 : (c : Dev Cert.FfnBackIdeal.nD) → Buf (Elt Ideal) ((c.tc : Thread Cert.FfnBackIdeal.nD Cert.FfnBackIdeal.τ).loc Cert.FfnBackIdeal.main_v0_1)),
      θ_run (Cert.FfnBackIdeal.defs (F := Ideal)) (onTc (τ := Cert.FfnBackIdeal.τ) (Cert.FfnBackIdeal.main (F := Ideal))) ⟨m, fun _ => 0, g⟩ (fun r => ∀ c : Dev Cert.FfnBackIdeal.nD,
          r.2.mem ((c.tc : Thread Cert.FfnBackIdeal.nD Cert.FfnBackIdeal.τ).loc Cert.FfnBackIdeal.main_v0_0) = v0 c
          ∧ r.2.mem ((c.tc : Thread Cert.FfnBackIdeal.nD Cert.FfnBackIdeal.τ).loc Cert.FfnBackIdeal.main_v0_1) = v1 c
          ∧ r.2.mem ((c.tc : Thread Cert.FfnBackIdeal.nD Cert.FfnBackIdeal.τ).loc Cert.FfnBackIdeal.main_arg0) = m ((c.tc : Thread Cert.FfnBackIdeal.nD Cert.FfnBackIdeal.τ).loc Cert.FfnBackIdeal.main_arg0)
          ∧ r.2.mem ((c.tc : Thread Cert.FfnBackIdeal.nD Cert.FfnBackIdeal.τ).loc Cert.FfnBackIdeal.main_arg1) = m ((c.tc : Thread Cert.FfnBackIdeal.nD Cert.FfnBackIdeal.τ).loc Cert.FfnBackIdeal.main_arg1)
          ∧ r.2.mem ((c.tc : Thread Cert.FfnBackIdeal.nD Cert.FfnBackIdeal.τ).loc Cert.FfnBackIdeal.main_arg2) = m ((c.tc : Thread Cert.FfnBackIdeal.nD Cert.FfnBackIdeal.τ).loc Cert.FfnBackIdeal.main_arg2)
          ∧ r.2.mem ((c.tc : Thread Cert.FfnBackIdeal.nD Cert.FfnBackIdeal.τ).loc Cert.FfnBackIdeal.main_arg3) = m ((c.tc : Thread Cert.FfnBackIdeal.nD Cert.FfnBackIdeal.τ).loc Cert.FfnBackIdeal.main_arg3))
      ∧ θ_run (Cert.FfnBackRefIdeal.defs (F := Ideal)) (onTc (τ := Cert.FfnBackRefIdeal.τ) (Cert.FfnBackRefIdeal.main (F := Ideal))) ⟨m', fun _ => 0, g'⟩ (fun r => ∀ c : Dev Cert.FfnBackRefIdeal.nD,
          r.2.mem ((c.tc : Thread Cert.FfnBackRefIdeal.nD Cert.FfnBackRefIdeal.τ).loc Cert.FfnBackRefIdeal.main_v10) = v0 c
          ∧ r.2.mem ((c.tc : Thread Cert.FfnBackRefIdeal.nD Cert.FfnBackRefIdeal.τ).loc Cert.FfnBackRefIdeal.main_v11) = v1 c
          ∧ r.2.mem ((c.tc : Thread Cert.FfnBackRefIdeal.nD Cert.FfnBackRefIdeal.τ).loc Cert.FfnBackRefIdeal.main_arg0) = m' ((c.tc : Thread Cert.FfnBackRefIdeal.nD Cert.FfnBackRefIdeal.τ).loc Cert.FfnBackRefIdeal.main_arg0)
          ∧ r.2.mem ((c.tc : Thread Cert.FfnBackRefIdeal.nD Cert.FfnBackRefIdeal.τ).loc Cert.FfnBackRefIdeal.main_arg1) = m' ((c.tc : Thread Cert.FfnBackRefIdeal.nD Cert.FfnBackRefIdeal.τ).loc Cert.FfnBackRefIdeal.main_arg1)
          ∧ r.2.mem ((c.tc : Thread Cert.FfnBackRefIdeal.nD Cert.FfnBackRefIdeal.τ).loc Cert.FfnBackRefIdeal.main_arg2) = m' ((c.tc : Thread Cert.FfnBackRefIdeal.nD Cert.FfnBackRefIdeal.τ).loc Cert.FfnBackRefIdeal.main_arg2)
          ∧ r.2.mem ((c.tc : Thread Cert.FfnBackRefIdeal.nD Cert.FfnBackRefIdeal.τ).loc Cert.FfnBackRefIdeal.main_arg3) = m' ((c.tc : Thread Cert.FfnBackRefIdeal.nD Cert.FfnBackRefIdeal.τ).loc Cert.FfnBackRefIdeal.main_arg3))

def preserves_FfnDh_FfnDhIdeal : Prop :=
  True

def algebraic_FfnDhIdeal_FfnDhRefIdeal [hFfnDhIdeal : Cert.FfnDhIdeal.Facts] [hFfnDhRefIdeal : Cert.FfnDhRefIdeal.Facts] : Prop :=
  ∀ (m : (ℓ : Loc Cert.FfnDhIdeal.nD Cert.FfnDhIdeal.τ Cert.FfnDhIdeal.sig) → Buf (Elt Ideal) ℓ) (g : Dev Cert.FfnDhIdeal.nD → PrngReg)
    (m' : (ℓ : Loc Cert.FfnDhRefIdeal.nD Cert.FfnDhRefIdeal.τ Cert.FfnDhRefIdeal.sig) → Buf (Elt Ideal) ℓ) (g' : Dev Cert.FfnDhRefIdeal.nD → PrngReg), Pre_FfnDhIdeal m →
    (∀ c : Dev Cert.FfnDhIdeal.nD,
      m' ((c.tc : Thread Cert.FfnDhRefIdeal.nD Cert.FfnDhRefIdeal.τ).loc Cert.FfnDhRefIdeal.main_arg0) = m ((c.tc : Thread Cert.FfnDhIdeal.nD Cert.FfnDhIdeal.τ).loc Cert.FfnDhIdeal.main_arg0)
      ∧ m' ((c.tc : Thread Cert.FfnDhRefIdeal.nD Cert.FfnDhRefIdeal.τ).loc Cert.FfnDhRefIdeal.main_arg1) = m ((c.tc : Thread Cert.FfnDhIdeal.nD Cert.FfnDhIdeal.τ).loc Cert.FfnDhIdeal.main_arg1)
      ∧ m' ((c.tc : Thread Cert.FfnDhRefIdeal.nD Cert.FfnDhRefIdeal.τ).loc Cert.FfnDhRefIdeal.main_arg2) = m ((c.tc : Thread Cert.FfnDhIdeal.nD Cert.FfnDhIdeal.τ).loc Cert.FfnDhIdeal.main_arg2)
      ∧ m' ((c.tc : Thread Cert.FfnDhRefIdeal.nD Cert.FfnDhRefIdeal.τ).loc Cert.FfnDhRefIdeal.main_arg3) = m ((c.tc : Thread Cert.FfnDhIdeal.nD Cert.FfnDhIdeal.τ).loc Cert.FfnDhIdeal.main_arg3)
      ∧ m' ((c.tc : Thread Cert.FfnDhRefIdeal.nD Cert.FfnDhRefIdeal.τ).loc Cert.FfnDhRefIdeal.main_arg4) = m ((c.tc : Thread Cert.FfnDhIdeal.nD Cert.FfnDhIdeal.τ).loc Cert.FfnDhIdeal.main_arg4)
      ∧ m' ((c.tc : Thread Cert.FfnDhRefIdeal.nD Cert.FfnDhRefIdeal.τ).loc Cert.FfnDhRefIdeal.main_arg5) = m ((c.tc : Thread Cert.FfnDhIdeal.nD Cert.FfnDhIdeal.τ).loc Cert.FfnDhIdeal.main_arg5)
      ∧ m' ((c.tc : Thread Cert.FfnDhRefIdeal.nD Cert.FfnDhRefIdeal.τ).loc Cert.FfnDhRefIdeal.main_arg6) = m ((c.tc : Thread Cert.FfnDhIdeal.nD Cert.FfnDhIdeal.τ).loc Cert.FfnDhIdeal.main_arg6)) →
    ∃ (v0 : (c : Dev Cert.FfnDhIdeal.nD) → Buf (Elt Ideal) ((c.tc : Thread Cert.FfnDhIdeal.nD Cert.FfnDhIdeal.τ).loc Cert.FfnDhIdeal.main_v0_0)),
      θ_run (Cert.FfnDhIdeal.defs (F := Ideal)) (onTc (τ := Cert.FfnDhIdeal.τ) (Cert.FfnDhIdeal.main (F := Ideal))) ⟨m, fun _ => 0, g⟩ (fun r => ∀ c : Dev Cert.FfnDhIdeal.nD,
          r.2.mem ((c.tc : Thread Cert.FfnDhIdeal.nD Cert.FfnDhIdeal.τ).loc Cert.FfnDhIdeal.main_v0_0) = v0 c
          ∧ r.2.mem ((c.tc : Thread Cert.FfnDhIdeal.nD Cert.FfnDhIdeal.τ).loc Cert.FfnDhIdeal.main_arg0) = m ((c.tc : Thread Cert.FfnDhIdeal.nD Cert.FfnDhIdeal.τ).loc Cert.FfnDhIdeal.main_arg0)
          ∧ r.2.mem ((c.tc : Thread Cert.FfnDhIdeal.nD Cert.FfnDhIdeal.τ).loc Cert.FfnDhIdeal.main_arg1) = m ((c.tc : Thread Cert.FfnDhIdeal.nD Cert.FfnDhIdeal.τ).loc Cert.FfnDhIdeal.main_arg1)
          ∧ r.2.mem ((c.tc : Thread Cert.FfnDhIdeal.nD Cert.FfnDhIdeal.τ).loc Cert.FfnDhIdeal.main_arg2) = m ((c.tc : Thread Cert.FfnDhIdeal.nD Cert.FfnDhIdeal.τ).loc Cert.FfnDhIdeal.main_arg2)
          ∧ r.2.mem ((c.tc : Thread Cert.FfnDhIdeal.nD Cert.FfnDhIdeal.τ).loc Cert.FfnDhIdeal.main_arg3) = m ((c.tc : Thread Cert.FfnDhIdeal.nD Cert.FfnDhIdeal.τ).loc Cert.FfnDhIdeal.main_arg3)
          ∧ r.2.mem ((c.tc : Thread Cert.FfnDhIdeal.nD Cert.FfnDhIdeal.τ).loc Cert.FfnDhIdeal.main_arg4) = m ((c.tc : Thread Cert.FfnDhIdeal.nD Cert.FfnDhIdeal.τ).loc Cert.FfnDhIdeal.main_arg4)
          ∧ r.2.mem ((c.tc : Thread Cert.FfnDhIdeal.nD Cert.FfnDhIdeal.τ).loc Cert.FfnDhIdeal.main_arg5) = m ((c.tc : Thread Cert.FfnDhIdeal.nD Cert.FfnDhIdeal.τ).loc Cert.FfnDhIdeal.main_arg5)
          ∧ r.2.mem ((c.tc : Thread Cert.FfnDhIdeal.nD Cert.FfnDhIdeal.τ).loc Cert.FfnDhIdeal.main_arg6) = m ((c.tc : Thread Cert.FfnDhIdeal.nD Cert.FfnDhIdeal.τ).loc Cert.FfnDhIdeal.main_arg6))
      ∧ θ_run (Cert.FfnDhRefIdeal.defs (F := Ideal)) (onTc (τ := Cert.FfnDhRefIdeal.τ) (Cert.FfnDhRefIdeal.main (F := Ideal))) ⟨m', fun _ => 0, g'⟩ (fun r => ∀ c : Dev Cert.FfnDhRefIdeal.nD,
          r.2.mem ((c.tc : Thread Cert.FfnDhRefIdeal.nD Cert.FfnDhRefIdeal.τ).loc Cert.FfnDhRefIdeal.main_v42) = v0 c
          ∧ r.2.mem ((c.tc : Thread Cert.FfnDhRefIdeal.nD Cert.FfnDhRefIdeal.τ).loc Cert.FfnDhRefIdeal.main_arg0) = m' ((c.tc : Thread Cert.FfnDhRefIdeal.nD Cert.FfnDhRefIdeal.τ).loc Cert.FfnDhRefIdeal.main_arg0)
          ∧ r.2.mem ((c.tc : Thread Cert.FfnDhRefIdeal.nD Cert.FfnDhRefIdeal.τ).loc Cert.FfnDhRefIdeal.main_arg1) = m' ((c.tc : Thread Cert.FfnDhRefIdeal.nD Cert.FfnDhRefIdeal.τ).loc Cert.FfnDhRefIdeal.main_arg1)
          ∧ r.2.mem ((c.tc : Thread Cert.FfnDhRefIdeal.nD Cert.FfnDhRefIdeal.τ).loc Cert.FfnDhRefIdeal.main_arg2) = m' ((c.tc : Thread Cert.FfnDhRefIdeal.nD Cert.FfnDhRefIdeal.τ).loc Cert.FfnDhRefIdeal.main_arg2)
          ∧ r.2.mem ((c.tc : Thread Cert.FfnDhRefIdeal.nD Cert.FfnDhRefIdeal.τ).loc Cert.FfnDhRefIdeal.main_arg3) = m' ((c.tc : Thread Cert.FfnDhRefIdeal.nD Cert.FfnDhRefIdeal.τ).loc Cert.FfnDhRefIdeal.main_arg3)
          ∧ r.2.mem ((c.tc : Thread Cert.FfnDhRefIdeal.nD Cert.FfnDhRefIdeal.τ).loc Cert.FfnDhRefIdeal.main_arg4) = m' ((c.tc : Thread Cert.FfnDhRefIdeal.nD Cert.FfnDhRefIdeal.τ).loc Cert.FfnDhRefIdeal.main_arg4)
          ∧ r.2.mem ((c.tc : Thread Cert.FfnDhRefIdeal.nD Cert.FfnDhRefIdeal.τ).loc Cert.FfnDhRefIdeal.main_arg5) = m' ((c.tc : Thread Cert.FfnDhRefIdeal.nD Cert.FfnDhRefIdeal.τ).loc Cert.FfnDhRefIdeal.main_arg5)
          ∧ r.2.mem ((c.tc : Thread Cert.FfnDhRefIdeal.nD Cert.FfnDhRefIdeal.τ).loc Cert.FfnDhRefIdeal.main_arg6) = m' ((c.tc : Thread Cert.FfnDhRefIdeal.nD Cert.FfnDhRefIdeal.τ).loc Cert.FfnDhRefIdeal.main_arg6))

def preserves_QkvDx_QkvDxIdeal : Prop :=
  True

def algebraic_QkvDxIdeal_QkvDxRefIdeal [hQkvDxIdeal : Cert.QkvDxIdeal.Facts] [hQkvDxRefIdeal : Cert.QkvDxRefIdeal.Facts] : Prop :=
  ∀ (m : (ℓ : Loc Cert.QkvDxIdeal.nD Cert.QkvDxIdeal.τ Cert.QkvDxIdeal.sig) → Buf (Elt Ideal) ℓ) (g : Dev Cert.QkvDxIdeal.nD → PrngReg)
    (m' : (ℓ : Loc Cert.QkvDxRefIdeal.nD Cert.QkvDxRefIdeal.τ Cert.QkvDxRefIdeal.sig) → Buf (Elt Ideal) ℓ) (g' : Dev Cert.QkvDxRefIdeal.nD → PrngReg), Pre_QkvDxIdeal m →
    (∀ c : Dev Cert.QkvDxIdeal.nD,
      m' ((c.tc : Thread Cert.QkvDxRefIdeal.nD Cert.QkvDxRefIdeal.τ).loc Cert.QkvDxRefIdeal.main_arg0) = m ((c.tc : Thread Cert.QkvDxIdeal.nD Cert.QkvDxIdeal.τ).loc Cert.QkvDxIdeal.main_arg0)
      ∧ m' ((c.tc : Thread Cert.QkvDxRefIdeal.nD Cert.QkvDxRefIdeal.τ).loc Cert.QkvDxRefIdeal.main_arg1) = m ((c.tc : Thread Cert.QkvDxIdeal.nD Cert.QkvDxIdeal.τ).loc Cert.QkvDxIdeal.main_arg1)
      ∧ m' ((c.tc : Thread Cert.QkvDxRefIdeal.nD Cert.QkvDxRefIdeal.τ).loc Cert.QkvDxRefIdeal.main_arg2) = m ((c.tc : Thread Cert.QkvDxIdeal.nD Cert.QkvDxIdeal.τ).loc Cert.QkvDxIdeal.main_arg2)
      ∧ m' ((c.tc : Thread Cert.QkvDxRefIdeal.nD Cert.QkvDxRefIdeal.τ).loc Cert.QkvDxRefIdeal.main_arg3) = m ((c.tc : Thread Cert.QkvDxIdeal.nD Cert.QkvDxIdeal.τ).loc Cert.QkvDxIdeal.main_arg3)
      ∧ m' ((c.tc : Thread Cert.QkvDxRefIdeal.nD Cert.QkvDxRefIdeal.τ).loc Cert.QkvDxRefIdeal.main_arg4) = m ((c.tc : Thread Cert.QkvDxIdeal.nD Cert.QkvDxIdeal.τ).loc Cert.QkvDxIdeal.main_arg4)) →
    ∃ (v0 : (c : Dev Cert.QkvDxIdeal.nD) → Buf (Elt Ideal) ((c.tc : Thread Cert.QkvDxIdeal.nD Cert.QkvDxIdeal.τ).loc Cert.QkvDxIdeal.main_v0_0)),
      θ_run (Cert.QkvDxIdeal.defs (F := Ideal)) (onTc (τ := Cert.QkvDxIdeal.τ) (Cert.QkvDxIdeal.main (F := Ideal))) ⟨m, fun _ => 0, g⟩ (fun r => ∀ c : Dev Cert.QkvDxIdeal.nD,
          r.2.mem ((c.tc : Thread Cert.QkvDxIdeal.nD Cert.QkvDxIdeal.τ).loc Cert.QkvDxIdeal.main_v0_0) = v0 c
          ∧ r.2.mem ((c.tc : Thread Cert.QkvDxIdeal.nD Cert.QkvDxIdeal.τ).loc Cert.QkvDxIdeal.main_arg0) = m ((c.tc : Thread Cert.QkvDxIdeal.nD Cert.QkvDxIdeal.τ).loc Cert.QkvDxIdeal.main_arg0)
          ∧ r.2.mem ((c.tc : Thread Cert.QkvDxIdeal.nD Cert.QkvDxIdeal.τ).loc Cert.QkvDxIdeal.main_arg1) = m ((c.tc : Thread Cert.QkvDxIdeal.nD Cert.QkvDxIdeal.τ).loc Cert.QkvDxIdeal.main_arg1)
          ∧ r.2.mem ((c.tc : Thread Cert.QkvDxIdeal.nD Cert.QkvDxIdeal.τ).loc Cert.QkvDxIdeal.main_arg2) = m ((c.tc : Thread Cert.QkvDxIdeal.nD Cert.QkvDxIdeal.τ).loc Cert.QkvDxIdeal.main_arg2)
          ∧ r.2.mem ((c.tc : Thread Cert.QkvDxIdeal.nD Cert.QkvDxIdeal.τ).loc Cert.QkvDxIdeal.main_arg3) = m ((c.tc : Thread Cert.QkvDxIdeal.nD Cert.QkvDxIdeal.τ).loc Cert.QkvDxIdeal.main_arg3)
          ∧ r.2.mem ((c.tc : Thread Cert.QkvDxIdeal.nD Cert.QkvDxIdeal.τ).loc Cert.QkvDxIdeal.main_arg4) = m ((c.tc : Thread Cert.QkvDxIdeal.nD Cert.QkvDxIdeal.τ).loc Cert.QkvDxIdeal.main_arg4))
      ∧ θ_run (Cert.QkvDxRefIdeal.defs (F := Ideal)) (onTc (τ := Cert.QkvDxRefIdeal.τ) (Cert.QkvDxRefIdeal.main (F := Ideal))) ⟨m', fun _ => 0, g'⟩ (fun r => ∀ c : Dev Cert.QkvDxRefIdeal.nD,
          r.2.mem ((c.tc : Thread Cert.QkvDxRefIdeal.nD Cert.QkvDxRefIdeal.τ).loc Cert.QkvDxRefIdeal.main_v36) = v0 c
          ∧ r.2.mem ((c.tc : Thread Cert.QkvDxRefIdeal.nD Cert.QkvDxRefIdeal.τ).loc Cert.QkvDxRefIdeal.main_arg0) = m' ((c.tc : Thread Cert.QkvDxRefIdeal.nD Cert.QkvDxRefIdeal.τ).loc Cert.QkvDxRefIdeal.main_arg0)
          ∧ r.2.mem ((c.tc : Thread Cert.QkvDxRefIdeal.nD Cert.QkvDxRefIdeal.τ).loc Cert.QkvDxRefIdeal.main_arg1) = m' ((c.tc : Thread Cert.QkvDxRefIdeal.nD Cert.QkvDxRefIdeal.τ).loc Cert.QkvDxRefIdeal.main_arg1)
          ∧ r.2.mem ((c.tc : Thread Cert.QkvDxRefIdeal.nD Cert.QkvDxRefIdeal.τ).loc Cert.QkvDxRefIdeal.main_arg2) = m' ((c.tc : Thread Cert.QkvDxRefIdeal.nD Cert.QkvDxRefIdeal.τ).loc Cert.QkvDxRefIdeal.main_arg2)
          ∧ r.2.mem ((c.tc : Thread Cert.QkvDxRefIdeal.nD Cert.QkvDxRefIdeal.τ).loc Cert.QkvDxRefIdeal.main_arg3) = m' ((c.tc : Thread Cert.QkvDxRefIdeal.nD Cert.QkvDxRefIdeal.τ).loc Cert.QkvDxRefIdeal.main_arg3)
          ∧ r.2.mem ((c.tc : Thread Cert.QkvDxRefIdeal.nD Cert.QkvDxRefIdeal.τ).loc Cert.QkvDxRefIdeal.main_arg4) = m' ((c.tc : Thread Cert.QkvDxRefIdeal.nD Cert.QkvDxRefIdeal.τ).loc Cert.QkvDxRefIdeal.main_arg4))

def Claim : Prop :=
  ∃ (hKernel : Cert.Kernel.Facts) (hKernelIdeal : Cert.KernelIdeal.Facts) (hReferenceIdeal : Cert.ReferenceIdeal.Facts) (hDown : Cert.Down.Facts) (hDownIdeal : Cert.DownIdeal.Facts) (hDownRefIdeal : Cert.DownRefIdeal.Facts) (hGate : Cert.Gate.Facts) (hGateIdeal : Cert.GateIdeal.Facts) (hGateRefIdeal : Cert.GateRefIdeal.Facts) (hQkv : Cert.Qkv.Facts) (hQkvIdeal : Cert.QkvIdeal.Facts) (hQkvRefIdeal : Cert.QkvRefIdeal.Facts) (hXbcIn : Cert.XbcIn.Facts) (hXbcInIdeal : Cert.XbcInIdeal.Facts) (hXbcInRefIdeal : Cert.XbcInRefIdeal.Facts) (hZIn : Cert.ZIn.Facts) (hZInIdeal : Cert.ZInIdeal.Facts) (hZInRefIdeal : Cert.ZInRefIdeal.Facts) (hDtIn : Cert.DtIn.Facts) (hDtInIdeal : Cert.DtInIdeal.Facts) (hDtInRefIdeal : Cert.DtInRefIdeal.Facts) (hSsmOut : Cert.SsmOut.Facts) (hSsmOutIdeal : Cert.SsmOutIdeal.Facts) (hSsmOutRefIdeal : Cert.SsmOutRefIdeal.Facts) (hAttOut : Cert.AttOut.Facts) (hAttOutIdeal : Cert.AttOutIdeal.Facts) (hAttOutRefIdeal : Cert.AttOutRefIdeal.Facts) (hPleGate : Cert.PleGate.Facts) (hPleGateIdeal : Cert.PleGateIdeal.Facts) (hPleGateRefIdeal : Cert.PleGateRefIdeal.Facts) (hPleProj : Cert.PleProj.Facts) (hPleProjIdeal : Cert.PleProjIdeal.Facts) (hPleProjRefIdeal : Cert.PleProjRefIdeal.Facts) (hZProj : Cert.ZProj.Facts) (hZProjIdeal : Cert.ZProjIdeal.Facts) (hZProjRefIdeal : Cert.ZProjRefIdeal.Facts) (hXbcProj : Cert.XbcProj.Facts) (hXbcProjIdeal : Cert.XbcProjIdeal.Facts) (hXbcProjRefIdeal : Cert.XbcProjRefIdeal.Facts) (hDtProj : Cert.DtProj.Facts) (hDtProjIdeal : Cert.DtProjIdeal.Facts) (hDtProjRefIdeal : Cert.DtProjRefIdeal.Facts) (hDownProj : Cert.DownProj.Facts) (hDownProjIdeal : Cert.DownProjIdeal.Facts) (hDownProjRefIdeal : Cert.DownProjRefIdeal.Facts) (hZBack : Cert.ZBack.Facts) (hZBackIdeal : Cert.ZBackIdeal.Facts) (hZBackRefIdeal : Cert.ZBackRefIdeal.Facts) (hXbcBack : Cert.XbcBack.Facts) (hXbcBackIdeal : Cert.XbcBackIdeal.Facts) (hXbcBackRefIdeal : Cert.XbcBackRefIdeal.Facts) (hFfnIn : Cert.FfnIn.Facts) (hFfnInIdeal : Cert.FfnInIdeal.Facts) (hFfnInRefIdeal : Cert.FfnInRefIdeal.Facts) (hFfnBack : Cert.FfnBack.Facts) (hFfnBackIdeal : Cert.FfnBackIdeal.Facts) (hFfnBackRefIdeal : Cert.FfnBackRefIdeal.Facts) (hFfnDh : Cert.FfnDh.Facts) (hFfnDhIdeal : Cert.FfnDhIdeal.Facts) (hFfnDhRefIdeal : Cert.FfnDhRefIdeal.Facts) (hQkvDx : Cert.QkvDx.Facts) (hQkvDxIdeal : Cert.QkvDxIdeal.Facts) (hQkvDxRefIdeal : Cert.QkvDxRefIdeal.Facts) (hPre_finite : Cert.Pre_finite.Facts) (hPre_ffn_back_finite : Cert.Pre_ffn_back_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Down (hDown := hDown)
    ∧ quiescent_DownIdeal (hDownIdeal := hDownIdeal)
    ∧ quiescent_DownRefIdeal (hDownRefIdeal := hDownRefIdeal)
    ∧ quiescent_Gate (hGate := hGate)
    ∧ quiescent_GateIdeal (hGateIdeal := hGateIdeal)
    ∧ quiescent_GateRefIdeal (hGateRefIdeal := hGateRefIdeal)
    ∧ quiescent_Qkv (hQkv := hQkv)
    ∧ quiescent_QkvIdeal (hQkvIdeal := hQkvIdeal)
    ∧ quiescent_QkvRefIdeal (hQkvRefIdeal := hQkvRefIdeal)
    ∧ quiescent_XbcIn (hXbcIn := hXbcIn)
    ∧ quiescent_XbcInIdeal (hXbcInIdeal := hXbcInIdeal)
    ∧ quiescent_XbcInRefIdeal (hXbcInRefIdeal := hXbcInRefIdeal)
    ∧ quiescent_ZIn (hZIn := hZIn)
    ∧ quiescent_ZInIdeal (hZInIdeal := hZInIdeal)
    ∧ quiescent_ZInRefIdeal (hZInRefIdeal := hZInRefIdeal)
    ∧ quiescent_DtIn (hDtIn := hDtIn)
    ∧ quiescent_DtInIdeal (hDtInIdeal := hDtInIdeal)
    ∧ quiescent_DtInRefIdeal (hDtInRefIdeal := hDtInRefIdeal)
    ∧ quiescent_SsmOut (hSsmOut := hSsmOut)
    ∧ quiescent_SsmOutIdeal (hSsmOutIdeal := hSsmOutIdeal)
    ∧ quiescent_SsmOutRefIdeal (hSsmOutRefIdeal := hSsmOutRefIdeal)
    ∧ quiescent_AttOut (hAttOut := hAttOut)
    ∧ quiescent_AttOutIdeal (hAttOutIdeal := hAttOutIdeal)
    ∧ quiescent_AttOutRefIdeal (hAttOutRefIdeal := hAttOutRefIdeal)
    ∧ quiescent_PleGate (hPleGate := hPleGate)
    ∧ quiescent_PleGateIdeal (hPleGateIdeal := hPleGateIdeal)
    ∧ quiescent_PleGateRefIdeal (hPleGateRefIdeal := hPleGateRefIdeal)
    ∧ quiescent_PleProj (hPleProj := hPleProj)
    ∧ quiescent_PleProjIdeal (hPleProjIdeal := hPleProjIdeal)
    ∧ quiescent_PleProjRefIdeal (hPleProjRefIdeal := hPleProjRefIdeal)
    ∧ quiescent_ZProj (hZProj := hZProj)
    ∧ quiescent_ZProjIdeal (hZProjIdeal := hZProjIdeal)
    ∧ quiescent_ZProjRefIdeal (hZProjRefIdeal := hZProjRefIdeal)
    ∧ quiescent_XbcProj (hXbcProj := hXbcProj)
    ∧ quiescent_XbcProjIdeal (hXbcProjIdeal := hXbcProjIdeal)
    ∧ quiescent_XbcProjRefIdeal (hXbcProjRefIdeal := hXbcProjRefIdeal)
    ∧ quiescent_DtProj (hDtProj := hDtProj)
    ∧ quiescent_DtProjIdeal (hDtProjIdeal := hDtProjIdeal)
    ∧ quiescent_DtProjRefIdeal (hDtProjRefIdeal := hDtProjRefIdeal)
    ∧ quiescent_DownProj (hDownProj := hDownProj)
    ∧ quiescent_DownProjIdeal (hDownProjIdeal := hDownProjIdeal)
    ∧ quiescent_DownProjRefIdeal (hDownProjRefIdeal := hDownProjRefIdeal)
    ∧ quiescent_ZBack (hZBack := hZBack)
    ∧ quiescent_ZBackIdeal (hZBackIdeal := hZBackIdeal)
    ∧ quiescent_ZBackRefIdeal (hZBackRefIdeal := hZBackRefIdeal)
    ∧ quiescent_XbcBack (hXbcBack := hXbcBack)
    ∧ quiescent_XbcBackIdeal (hXbcBackIdeal := hXbcBackIdeal)
    ∧ quiescent_XbcBackRefIdeal (hXbcBackRefIdeal := hXbcBackRefIdeal)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_FfnBack (hFfnBack := hFfnBack)
    ∧ quiescent_FfnBackIdeal (hFfnBackIdeal := hFfnBackIdeal)
    ∧ quiescent_FfnBackIdeal_pre_ffn_back_finite (hFfnBackIdeal := hFfnBackIdeal) (hPre_ffn_back_finite := hPre_ffn_back_finite)
    ∧ quiescent_FfnBackRefIdeal (hFfnBackRefIdeal := hFfnBackRefIdeal)
    ∧ quiescent_FfnBackRefIdeal_pre_ffn_back_finite (hFfnBackRefIdeal := hFfnBackRefIdeal) (hPre_ffn_back_finite := hPre_ffn_back_finite)
    ∧ quiescent_FfnDh (hFfnDh := hFfnDh)
    ∧ quiescent_FfnDhIdeal (hFfnDhIdeal := hFfnDhIdeal)
    ∧ quiescent_FfnDhRefIdeal (hFfnDhRefIdeal := hFfnDhRefIdeal)
    ∧ quiescent_QkvDx (hQkvDx := hQkvDx)
    ∧ quiescent_QkvDxIdeal (hQkvDxIdeal := hQkvDxIdeal)
    ∧ quiescent_QkvDxRefIdeal (hQkvDxRefIdeal := hQkvDxRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Down_DownIdeal
    ∧ algebraic_DownIdeal_DownRefIdeal (hDownIdeal := hDownIdeal) (hDownRefIdeal := hDownRefIdeal)
    ∧ preserves_Gate_GateIdeal
    ∧ algebraic_GateIdeal_GateRefIdeal (hGateIdeal := hGateIdeal) (hGateRefIdeal := hGateRefIdeal)
    ∧ preserves_Qkv_QkvIdeal
    ∧ algebraic_QkvIdeal_QkvRefIdeal (hQkvIdeal := hQkvIdeal) (hQkvRefIdeal := hQkvRefIdeal)
    ∧ preserves_XbcIn_XbcInIdeal
    ∧ algebraic_XbcInIdeal_XbcInRefIdeal (hXbcInIdeal := hXbcInIdeal) (hXbcInRefIdeal := hXbcInRefIdeal)
    ∧ preserves_ZIn_ZInIdeal
    ∧ algebraic_ZInIdeal_ZInRefIdeal (hZInIdeal := hZInIdeal) (hZInRefIdeal := hZInRefIdeal)
    ∧ preserves_DtIn_DtInIdeal
    ∧ algebraic_DtInIdeal_DtInRefIdeal (hDtInIdeal := hDtInIdeal) (hDtInRefIdeal := hDtInRefIdeal)
    ∧ preserves_SsmOut_SsmOutIdeal
    ∧ algebraic_SsmOutIdeal_SsmOutRefIdeal (hSsmOutIdeal := hSsmOutIdeal) (hSsmOutRefIdeal := hSsmOutRefIdeal)
    ∧ preserves_AttOut_AttOutIdeal
    ∧ algebraic_AttOutIdeal_AttOutRefIdeal (hAttOutIdeal := hAttOutIdeal) (hAttOutRefIdeal := hAttOutRefIdeal)
    ∧ preserves_PleGate_PleGateIdeal
    ∧ algebraic_PleGateIdeal_PleGateRefIdeal (hPleGateIdeal := hPleGateIdeal) (hPleGateRefIdeal := hPleGateRefIdeal)
    ∧ preserves_PleProj_PleProjIdeal
    ∧ algebraic_PleProjIdeal_PleProjRefIdeal (hPleProjIdeal := hPleProjIdeal) (hPleProjRefIdeal := hPleProjRefIdeal)
    ∧ preserves_ZProj_ZProjIdeal
    ∧ algebraic_ZProjIdeal_ZProjRefIdeal (hZProjIdeal := hZProjIdeal) (hZProjRefIdeal := hZProjRefIdeal)
    ∧ preserves_XbcProj_XbcProjIdeal
    ∧ algebraic_XbcProjIdeal_XbcProjRefIdeal (hXbcProjIdeal := hXbcProjIdeal) (hXbcProjRefIdeal := hXbcProjRefIdeal)
    ∧ preserves_DtProj_DtProjIdeal
    ∧ algebraic_DtProjIdeal_DtProjRefIdeal (hDtProjIdeal := hDtProjIdeal) (hDtProjRefIdeal := hDtProjRefIdeal)
    ∧ preserves_DownProj_DownProjIdeal
    ∧ algebraic_DownProjIdeal_DownProjRefIdeal (hDownProjIdeal := hDownProjIdeal) (hDownProjRefIdeal := hDownProjRefIdeal)
    ∧ preserves_ZBack_ZBackIdeal
    ∧ algebraic_ZBackIdeal_ZBackRefIdeal (hZBackIdeal := hZBackIdeal) (hZBackRefIdeal := hZBackRefIdeal)
    ∧ preserves_XbcBack_XbcBackIdeal
    ∧ algebraic_XbcBackIdeal_XbcBackRefIdeal (hXbcBackIdeal := hXbcBackIdeal) (hXbcBackRefIdeal := hXbcBackRefIdeal)
    ∧ preserves_FfnIn_FfnInIdeal
    ∧ algebraic_FfnInIdeal_FfnInRefIdeal (hFfnInIdeal := hFfnInIdeal) (hFfnInRefIdeal := hFfnInRefIdeal)
    ∧ preserves_FfnBack_FfnBackIdeal
    ∧ algebraic_FfnBackIdeal_FfnBackRefIdeal_pre_ffn_back_finite (hFfnBackIdeal := hFfnBackIdeal) (hFfnBackRefIdeal := hFfnBackRefIdeal) (hPre_ffn_back_finite := hPre_ffn_back_finite)
    ∧ preserves_FfnDh_FfnDhIdeal
    ∧ algebraic_FfnDhIdeal_FfnDhRefIdeal (hFfnDhIdeal := hFfnDhIdeal) (hFfnDhRefIdeal := hFfnDhRefIdeal)
    ∧ preserves_QkvDx_QkvDxIdeal
    ∧ algebraic_QkvDxIdeal_QkvDxRefIdeal (hQkvDxIdeal := hQkvDxIdeal) (hQkvDxRefIdeal := hQkvDxRefIdeal)
-- ==== Pre_ffn_back_finite.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bitsLt_bf16_f32 : FTy.bits .bf16 < FTy.bits .f32
  bcast_S_S2816x1024 : S_.BroadcastsInDim S2816x1024 (![] : Fin 0 → Fin S2816x1024.rank)
  reducesTo_S2816x1024_S_d0_1 : S2816x1024.ReducesTo [0, 1] S_
  bcast_S_S4096x2816 : S_.BroadcastsInDim S4096x2816 (![] : Fin 0 → Fin S4096x2816.rank)
  reducesTo_S4096x2816_S_d0_1 : S4096x2816.ReducesTo [0, 1] S_

variable [Facts]

def fn_part1 {F : FTy → Type} [FloatOps F] (main_v15 : IVec S_ 1) (main_v17 : FVec F S4096x2816 .f32) : IVec S_ 1 :=
  let main_cst_4 : FVec F S_ .f32 := constant S_ .f32 0x7F800000#32
  let main_v18 : FVec F S4096x2816 .f32 := broadcastInDim S4096x2816 ![] bcast_S_S4096x2816 main_cst_4
  let main_v19 : IVec S4096x2816 1 := cmpf .olt main_v17 main_v18
  let main_c_5 : IVec S_ 1 := constantI S_ 1 1#1
  let main_v20 : IVec S_ 1 := (fun x v => Host.reduce IntOp.andi x v reducesTo_S4096x2816_S_d0_1 h_S_) main_v19 main_c_5
  let main_v21 : IVec S_ 1 := andi main_v15 main_v20
  main_v21

def fn {F : FTy → Type} [FloatOps F] (main_arg0 : FVec F S4096x1024 .f32) (main_arg1 : FVec F S2816x1024 .bf16) (main_arg2 : FVec F S4096x2816 .bf16) (main_arg3 : FVec F S4096x2816 .bf16) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S2816x1024 .f32 := (extf .f32 · bitsLt_bf16_f32) main_arg1
  let main_v5 : FVec F S2816x1024 .f32 := Host.absf main_v4
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_c_1 : IVec S_ 1 := constantI S_ 1 1#1
  let main_v8 : IVec S_ 1 := (fun x v => Host.reduce IntOp.andi x v reducesTo_S2816x1024_S_d0_1 h_S_) main_v7 main_c_1
  let main_v9 : IVec S_ 1 := andi main_v3 main_v8
  let main_v10 : FVec F S4096x2816 .f32 := (extf .f32 · bitsLt_bf16_f32) main_arg2
  let main_v11 : FVec F S4096x2816 .f32 := Host.absf main_v10
  let main_cst_2 : FVec F S_ .f32 := constant S_ .f32 0x7F800000#32
  let main_v12 : FVec F S4096x2816 .f32 := broadcastInDim S4096x2816 ![] bcast_S_S4096x2816 main_cst_2
  let main_v13 : IVec S4096x2816 1 := cmpf .olt main_v11 main_v12
  let main_c_3 : IVec S_ 1 := constantI S_ 1 1#1
  let main_v14 : IVec S_ 1 := (fun x v => Host.reduce IntOp.andi x v reducesTo_S4096x2816_S_d0_1 h_S_) main_v13 main_c_3
  let main_v15 : IVec S_ 1 := andi main_v9 main_v14
  let main_v16 : FVec F S4096x2816 .f32 := (extf .f32 · bitsLt_bf16_f32) main_arg3
  let main_v17 : FVec F S4096x2816 .f32 := Host.absf main_v16
  fn_part1 (F := F) main_v15 main_v17
-- ==== Pre_finite.lean ====
abbrev S4096x3072 : Shape := ⟨2, ![4096, 3072]⟩
abbrev S4096x32 : Shape := ⟨2, ![4096, 32]⟩
abbrev S32 : Shape := ⟨1, ![32]⟩
abbrev S4096x2048 : Shape := ⟨2, ![4096, 2048]⟩
abbrev S_ : Shape := ⟨0, ![]⟩

class Facts : Prop where
  bcast_S_S4096x3072 : S_.BroadcastsInDim S4096x3072 (![] : Fin 0 → Fin S4096x3072.rank)
  reducesTo_S4096x3072_S_d0_1 : S4096x3072.ReducesTo [0, 1] S_
  h_S_ : 0 < S_.numel
  bcast_S_S4096x32 : S_.BroadcastsInDim S4096x32 (![] : Fin 0 → Fin S4096x32.rank)
  reducesTo_S4096x32_S_d0_1 : S4096x32.ReducesTo [0, 1] S_
  bcast_S_S32 : S_.BroadcastsInDim S32 (![] : Fin 0 → Fin S32.rank)
  reducesTo_S32_S_d0 : S32.ReducesTo [0] S_
  bcast_S_S4096x2048 : S_.BroadcastsInDim S4096x2048 (![] : Fin 0 → Fin S4096x2048.rank)
  reducesTo_S4096x2048_S_d0_1 : S4096x2048.ReducesTo [0, 1] S_

variable [Facts]

def fn_part1 {F : FTy → Type} [FloatOps F] (main_arg4 : FVec F S4096x2048 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S4096x2048 .f32 := Host.absf main_arg4
  let main_cst_6 : FVec F S_ .f32 := constant S_ .f32 0x7F800000#32
  let main_v20 : FVec F S4096x2048 .f32 := broadcastInDim S4096x2048 ![] bcast_S_S4096x2048 main_cst_6
  let main_v21 : IVec S4096x2048 1 := cmpf .olt main_v19 main_v20
  let main_c_7 : IVec S_ 1 := constantI S_ 1 1#1
  let main_v22 : IVec S_ 1 := (fun x v => Host.reduce IntOp.andi x v reducesTo_S4096x2048_S_d0_1 h_S_) main_v21 main_c_7
  let main_v23 : IVec S_ 1 := andi main_v18 main_v22
  main_v23

def fn {F : FTy → Type} [FloatOps F] (main_arg0 : FVec F S4096x3072 .f32) (main_arg1 : FVec F S4096x32 .f32) (main_arg2 : FVec F S32 .f32) (main_arg3 : FVec F S32 .f32) (main_arg4 : FVec F S4096x2048 .f32) : IVec S_ 1 :=
  let main_v0 : FVec F S4096x3072 .f32 := Host.absf main_arg0
  let main_cst : FVec F S_ .f32 := constant S_ .f32 0x7F800000#32
  let main_v1 : FVec F S4096x3072 .f32 := broadcastInDim S4096x3072 ![] bcast_S_S4096x3072 main_cst
  let main_v2 : IVec S4096x3072 1 := cmpf .olt main_v0 main_v1
  let main_c : IVec S_ 1 := constantI S_ 1 1#1
  let main_v3 : IVec S_ 1 := (fun x v => Host.reduce IntOp.andi x v reducesTo_S4096x3072_S_d0_1 h_S_) main_v2 main_c
  let main_v4 : FVec F S4096x32 .f32 := Host.absf main_arg1
  let main_cst_0 : FVec F S_ .f32 := constant S_ .f32 0x7F800000#32
  let main_v5 : FVec F S4096x32 .f32 := broadcastInDim S4096x32 ![] bcast_S_S4096x32 main_cst_0
  let main_v6 : IVec S4096x32 1 := cmpf .olt main_v4 main_v5
  let main_c_1 : IVec S_ 1 := constantI S_ 1 1#1
  let main_v7 : IVec S_ 1 := (fun x v => Host.reduce IntOp.andi x v reducesTo_S4096x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_v13 main_v16
-- ==== Kernel.lean ====
abbrev S4096x3072 : Shape := ⟨2, ![4096, 3072]⟩
abbrev S4096x32 : Shape := ⟨2, ![4096, 32]⟩
abbrev S32 : Shape := ⟨1, ![32]⟩
abbrev S4096x2048 : Shape := ⟨2, ![4096, 2048]⟩
abbrev S1x32 : Shape := ⟨2, ![1, 32]⟩
abbrev S32x128x32 : Shape := ⟨3, ![32, 128, 32]⟩
abbrev S_ : Shape := ⟨0, ![]⟩
abbrev S31x32 : Shape := ⟨2, ![31, 32]⟩
abbrev S32x32 : Shape := ⟨2, ![32, 32]⟩
abbrev S32x4096x32 : Shape := ⟨3, ![32, 4096, 32]⟩
abbrev S32x1x32 : Shape := ⟨3, ![32, 1, 32]⟩
abbrev S1x4096x32 : Shape := ⟨3, ![1, 4096, 32]⟩
abbrev S4096x32x64 : Shape := ⟨3, ![4096, 32, 64]⟩
abbrev S4096x512 : Shape := ⟨2, ![4096, 512]⟩
abbrev S4096x4x128 : Shape := ⟨3, ![4096, 4, 128]⟩
abbrev S32x4096x32x64 : Shape := ⟨4, ![32, 4096, 32, 64]⟩
abbrev S32x4096x2048 : Shape := ⟨3, ![32, 4096, 2048]⟩
abbrev S1x4096x2048 : Shape := ⟨3, ![1, 4096, 2048]⟩
abbrev S32x4096x4x512 : Shape := ⟨4, ![32, 4096, 4, 512]⟩
abbrev S4x32x512x128 : Shape := ⟨4, ![4, 32, 512, 128]⟩
abbrev S32x128x4x512 : Shape := ⟨4, ![32, 128, 4, 512]⟩
abbrev S32x128x2048 : Shape := ⟨3, ![32, 128, 2048]⟩
abbrev S32x4096 : Shape := ⟨2, ![32, 4096]⟩
abbrev S32x64 : Shape := ⟨2, ![32, 64]⟩
abbrev S2048 : Shape := ⟨1, ![2048]⟩
abbrev S1x2048 : Shape := ⟨2, ![1, 2048]⟩
abbrev S4096x128 : Shape := ⟨2, ![4096, 128]⟩
abbrev S128x3072 : Shape := ⟨2, ![128, 3072]⟩
abbrev S128x2048 : Shape := ⟨2, ![128, 2048]⟩
abbrev S32x128 : Shape := ⟨2, ![32, 128]⟩
abbrev S1x128x2048 : Shape := ⟨3, ![1, 128, 2048]⟩
abbrev S128x128 : Shape := ⟨2, ![128, 128]⟩
abbrev S128x512 : Shape := ⟨2, ![128, 512]⟩
abbrev S1x512 : Shape := ⟨2, ![1, 512]⟩
abbrev S1x128x512 : Shape := ⟨3, ![1, 128, 512]⟩
abbrev S512 : Shape := ⟨1, ![512]⟩
abbrev S1x128 : Shape := ⟨2, ![1, 128]⟩
abbrev S128 : Shape := ⟨1, ![128]⟩
abbrev S128x1 : Shape := ⟨2, ![128, 1]⟩
abbrev S2048x128 : Shape := ⟨2, ![2048, 128]⟩

abbrev nBuf : Space → Nat
  | .hbm => 66
  | .vmem => 23
  | .smem => 0
  | _ => 0

abbrev bufTy : (tb : Table) → Fin (tcTables nBuf tb) → BufTy
  | .hbm, ⟨0, _⟩ => ⟨S4096x3072, .f32⟩
  | .hbm, ⟨1, _⟩ => ⟨S4096x32, .f32⟩
  | .hbm, ⟨2, _⟩ => ⟨S32, .f32⟩
  | .hbm, ⟨3, _⟩ => ⟨S32, .f32⟩
  | .hbm, ⟨4, _⟩ => ⟨S4096x2048, .f32⟩
  | .hbm, ⟨5, _⟩ => ⟨S1x32, .f32⟩
  | .hbm, ⟨6, _⟩ => ⟨S4096x32, .f32⟩
  | .hbm, ⟨7, _⟩ => ⟨S4096x32, .f32⟩
  | .hbm, ⟨8, _⟩ => ⟨S32x128x32, .f32⟩
  | .hbm, ⟨9, _⟩ => ⟨S_, .f32⟩
  | .hbm, ⟨10, _⟩ => ⟨S_, .f32⟩
  | .hbm, ⟨11, _⟩ => ⟨S32x128x32, .f32⟩
  | .hbm, ⟨12, _⟩ => ⟨S4096x32, .f32⟩
  | .hbm, ⟨13, _⟩ => ⟨S_, .f32⟩
  | .hbm, ⟨14, _⟩ => ⟨S_, .f32⟩
  | .hbm, ⟨15, _⟩ => ⟨S4096x32, .f32⟩
  | .hbm, ⟨16, _⟩ => ⟨S31x32, .f32⟩
  | .hbm, ⟨17, _⟩ => ⟨S_, .i32⟩
  | .hbm, ⟨18, _⟩ => ⟨S_, .f32⟩
  | .hbm, ⟨19, _⟩ => ⟨S32x32, .f32⟩
  | .hbm, ⟨20, _⟩ => ⟨S32x4096x32, .i32⟩
  | .hbm, ⟨21, _⟩ => ⟨S32x4096x32, .i32⟩
  | .hbm, ⟨22, _⟩ => ⟨S_, .i32⟩
  | .hbm, ⟨23, _⟩ => ⟨S32x4096x32, .i32⟩
  | .hbm, ⟨24, _⟩ => ⟨S32x4096x32, .i32⟩
  | .hbm, ⟨25, _⟩ => ⟨S32x4096x32, .i1⟩
  | .hbm, ⟨26, _⟩ => ⟨S32x1x32, .f32⟩
  | .hbm, ⟨27, _⟩ => ⟨S1x4096x32, .f32⟩
  | .hbm, ⟨28, _⟩ => ⟨S32x4096x32, .f32⟩
  | .hbm, ⟨29, _⟩ => ⟨S32x4096x32, .f32⟩
  | .hbm, ⟨30, _⟩ => ⟨S32x4096x32, .f32⟩
  | .hbm, ⟨31, _⟩ => ⟨S_, .f32⟩
  | .hbm, ⟨32, _⟩ => ⟨S_, .f32⟩
  | .hbm, ⟨33, _⟩ => ⟨S32x4096x32, .f32⟩
  | .hbm, ⟨34, _⟩ => ⟨S32x4096x32, .f32⟩
  | .hbm, ⟨35, _⟩ => ⟨S32x4096x32, .f32⟩
  | .hbm, ⟨36, _⟩ => ⟨S4096x2048, .f32⟩
  | .hbm, ⟨37, _⟩ => ⟨S4096x32x64, .f32⟩
  | .hbm, ⟨38, _⟩ => ⟨S4096x2048, .f32⟩
  | .hbm, ⟨39, _⟩ => ⟨S4096x2048, .f32⟩
  | .hbm, ⟨40, _⟩ => ⟨S4096x512, .f32⟩
  | .hbm, ⟨41, _⟩ => ⟨S4096x4x128, .f32⟩
  | .hbm, ⟨42, _⟩ => ⟨S32x4096x32x64, .f32⟩
  | .hbm, ⟨43, _⟩ => ⟨S32x4096x2048, .f32⟩
  | .hbm, ⟨44, _⟩ => ⟨S1x4096x2048, .f32⟩
  | .hbm, ⟨45, _⟩ => ⟨S32x4096x2048, .f32⟩
  | .hbm, ⟨46, _⟩ => ⟨S32x4096x2048, .f32⟩
  | .hbm, ⟨47, _⟩ => ⟨S32x4096x4x512, .f32⟩
  | .hbm, ⟨48, _⟩ => ⟨S4x32x512x128, .f32⟩
  | .hbm, ⟨49, _⟩ => ⟨S32x128x4x512, .f32⟩
  | .hbm, ⟨50, _⟩ => ⟨S32x128x2048, .f32⟩
  | .hbm, ⟨51, _⟩ => ⟨S4096x32x64, .f32⟩
  | .hbm, ⟨52, _⟩ => ⟨S4096x2048, .f32⟩
  | .hbm, ⟨53, _⟩ => ⟨S4096x32x64, .f32⟩
  | .hbm, ⟨54, _⟩ => ⟨S4096x2048, .f32⟩
  | .hbm, ⟨55, _⟩ => ⟨S32x4096, .f32⟩
  | .hbm, ⟨56, _⟩ => ⟨S32x64, .f32⟩
  | .hbm, ⟨57, _⟩ => ⟨S2048, .f32⟩
  | .hbm, ⟨58, _⟩ => ⟨S1x2048, .f32⟩
  | .hbm, ⟨59, _⟩ => ⟨S32x64, .f32⟩
  | .hbm, ⟨60, _⟩ => ⟨S2048, .f32⟩
  | .hbm, ⟨61, _⟩ => ⟨S1x2048, .f32⟩
  | .hbm, ⟨62, _⟩ => ⟨S4096x3072, .f32⟩
  | .hbm, ⟨63, _⟩ => ⟨S4096x128, .f32⟩
  | .hbm, ⟨64, _⟩ => ⟨S1x2048, .f32⟩
  | .hbm, ⟨65, _⟩ => ⟨S1x2048, .f32⟩
  | .local _ .vmem, ⟨0, _⟩ => ⟨S128x3072, .f32⟩
  | .local _ .vmem, ⟨1, _⟩ => ⟨S128x3072, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S32x128, .f32⟩
  | .local _ .vmem, ⟨7, _⟩ => ⟨S32x128, .f32⟩
  | .local _ .vmem, ⟨8, _⟩ => ⟨S1x2048, .f32⟩
  | .local _ .vmem, ⟨9, _⟩ => ⟨S1x2048, .f32⟩
  | .local _ .vmem, ⟨10, _⟩ => ⟨S1x128x2048, .f32⟩
  | .local _ .vmem, ⟨11, _⟩ => ⟨S1x128x2048, .f32⟩
  | .local _ .vmem, ⟨12, _⟩ => ⟨S128x2048, .f32⟩
  | .local _ .vmem, ⟨13, _⟩ => ⟨S128x2048, .f32⟩
  | .local _ .vmem, ⟨14, _⟩ => ⟨S128x3072, .f32⟩
  | .local _ .vmem, ⟨15, _⟩ => ⟨S128x3072, .f32⟩
  | .local _ .vmem, ⟨16, _⟩ => ⟨S128x128, .f32⟩
  | .local _ .vmem, ⟨17, _⟩ => ⟨S128x128, .f32⟩
  | .local _ .vmem, ⟨18, _⟩ => ⟨S1x2048, .f32⟩
  | .local _ .vmem, ⟨19, _⟩ => ⟨S1x2048, .f32⟩
  | .local _ .vmem, ⟨20, _⟩ => ⟨S128x2048, .f32⟩
  | .local _ .vmem, ⟨21, _⟩ => ⟨S128x2048, .f32⟩
  | .local _ .vmem, ⟨22, _⟩ => ⟨S128x2048, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_call0_cst : Ref sig .tc := ⟨.hbm, 9, rfl⟩
abbrev main_call0_call0_v0 : Ref sig .tc := ⟨.hbm, 10, rfl⟩
abbrev main_v4 : Ref sig .tc := ⟨.hbm, 11, rfl⟩
abbrev main_v5 : Ref sig .tc := ⟨.hbm, 12, rfl⟩
abbrev main_call1_call0_cst : Ref sig .tc := ⟨.hbm, 13, rfl⟩
abbrev main_call1_call0_v0 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_call2_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_call3_v0 : Ref sig .tc := ⟨.hbm, 32, rfl⟩
abbrev main_call3_v1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47_0 : Ref sig .tc := ⟨.hbm, 62, rfl⟩
abbrev main_v47_1 : Ref sig .tc := ⟨.hbm, 63, rfl⟩
abbrev main_v47_2 : Ref sig .tc := ⟨.hbm, 64, rfl⟩
abbrev main_v47_3 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x3072 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S4096x3072 : Shape := ⟨2, ![4096, 3072]⟩
abbrev S4096x32 : Shape := ⟨2, ![4096, 32]⟩
abbrev S32 : Shape := ⟨1, ![32]⟩
abbrev S4096x2048 : Shape := ⟨2, ![4096, 2048]⟩
abbrev S4096x512 : Shape := ⟨2, ![4096, 512]⟩
abbrev S4096x4x8x64 : Shape := ⟨4, ![4096, 4, 8, 64]⟩
abbrev S4096x4x128 : Shape := ⟨3, ![4096, 4, 128]⟩
abbrev S4096x4x8 : Shape := ⟨3, ![4096, 4, 8]⟩
abbrev S4096x4x8x1 : Shape := ⟨4, ![4096, 4, 8, 1]⟩
abbrev S4x8 : Shape := ⟨2, ![4, 8]⟩
abbrev S1x4x8 : Shape := ⟨3, ![1, 4, 8]⟩
abbrev S_ : Shape := ⟨0, ![]⟩
abbrev S4x8x4096 : Shape := ⟨3, ![4, 8, 4096]⟩
abbrev S4096x4096 : Shape := ⟨2, ![4096, 4096]⟩
abbrev S4x8x4096x1 : Shape := ⟨4, ![4, 8, 4096, 1]⟩
abbrev S4x8x1x4096 : Shape := ⟨4, ![4, 8, 1, 4096]⟩
abbrev S4x8x4096x4096 : Shape := ⟨4, ![4, 8, 4096, 4096]⟩
abbrev S4x4096x4096 : Shape := ⟨3, ![4, 4096, 4096]⟩
abbrev S4x1x4096x4096 : Shape := ⟨4, ![4, 1, 4096, 4096]⟩
abbrev S4x8x64x4096 : Shape := ⟨4, ![4, 8, 64, 4096]⟩
abbrev S4x8x1 : Shape := ⟨3, ![4, 8, 1]⟩
abbrev S1x4x8x1 : Shape := ⟨4, ![1, 4, 8, 1]⟩
abbrev S4x4096x128 : Shape := ⟨3, ![4, 4096, 128]⟩
abbrev S4096x128 : Shape := ⟨2, ![4096, 128]⟩
abbrev S32x64 : Shape := ⟨2, ![32, 64]⟩
abbrev S2048 : Shape := ⟨1, ![2048]⟩
abbrev S1x2048 : Shape := ⟨2, ![1, 2048]⟩

abbrev nBuf : Space → Nat
  | .hbm => 142
  | .vmem => 0
  | .smem => 0
  | _ => 0

abbrev hbmTy0_0 (i : Nat) : BufTy := match i % 128 with
  | 0 => ⟨S4096x3072, .f32⟩
  | 1 => ⟨S4096x32, .f32⟩
  | 2 => ⟨S32, .f32⟩
  | 3 => ⟨S32, .f32⟩
  | 4 => ⟨S4096x2048, .f32⟩
  | 5 => ⟨S4096x2048, .f32⟩
  | 6 => ⟨S4096x512, .f32⟩
  | 7 => ⟨S4096x512, .f32⟩
  | 8 => ⟨S4096x4x8x64, .f32⟩
  | 9 => ⟨S4096x4x128, .f32⟩
  | 10 => ⟨S4096x4x128, .f32⟩
  | 11 => ⟨S4096x4x8, .f32⟩
  | 12 => ⟨S4096x4x8x1, .f32⟩
  | 13 => ⟨S4096x4x8x64, .f32⟩
  | 14 => ⟨S4096x4x8x64, .f32⟩
  | 15 => ⟨S4x8, .f32⟩
  | 16 => ⟨S1x4x8, .f32⟩
  | 17 => ⟨S4096x4x8, .f32⟩
  | 18 => ⟨S4096x4x8, .f32⟩
  | 19 => ⟨S_, .f32⟩
  | 20 => ⟨S_, .f32⟩
  | 21 => ⟨S4096x4x8, .f32⟩
  | 22 => ⟨S4x8x4096, .f32⟩
  | 23 => ⟨S_, .i1⟩
  | 24 => ⟨S4096x4096, .i1⟩
  | 25 => ⟨S4096x4096, .i32⟩
  | 26 => ⟨S_, .i32⟩
  | 27 => ⟨S4096x4096, .i32⟩
  | 28 => ⟨S4096x4096, .i32⟩
  | 29 => ⟨S4096x4096, .i32⟩
  | 30 => ⟨S4096x4096, .i1⟩
  | 31 => ⟨S_, .i1⟩
  | 32 => ⟨S4096x4096, .i1⟩
  | 33 => ⟨S4096x4096, .i1⟩
  | 34 => ⟨S4x8x4096x1, .f32⟩
  | 35 => ⟨S4x8x1x4096, .f32⟩
  | 36 => ⟨S4x8x4096x4096, .f32⟩
  | 37 => ⟨S4x8x4096x4096, .f32⟩
  | 38 => ⟨S4x8x4096x4096, .f32⟩
  | 39 => ⟨S_, .f32⟩
  | 40 => ⟨S_, .f32⟩
  | 41 => ⟨S4x8x4096x4096, .i1⟩
  | 42 => ⟨S4x8x4096x4096, .f32⟩
  | 43 => ⟨S4x8x4096x4096, .f32⟩
  | 44 => ⟨S_, .f32⟩
  | 45 => ⟨S4x8x4096x4096, .f32⟩
  | 46 => ⟨S4x8x4096x4096, .f32⟩
  | 47 => ⟨S4x4096x4096, .f32⟩
  | 48 => ⟨S4x1x4096x4096, .f32⟩
  | 49 => ⟨S4x8x4096x4096, .f32⟩
  | 50 => ⟨S4x8x4096x4096, .f32⟩
  | 51 => ⟨S4x8x64x4096, .f32⟩
  | 52 => ⟨S4096x4x8x64, .f32⟩
  | 53 => ⟨S4x8, .f32⟩
  | 54 => ⟨S4x8x1, .f32⟩
  | 55 => ⟨S1x4x8x1, .f32⟩
  | 56 => ⟨S4096x4x8x64, .f32⟩
  | 57 => ⟨S4096x4x8x64, .f32⟩
  | 58 => ⟨S4096x4x8x64, .f32⟩
  | 59 => ⟨S4096x2048, .f32⟩
  | 60 => ⟨S4096x4x8x64, .f32⟩
  | 61 => ⟨S4096x4x8x64, .f32⟩
  | 62 => ⟨S_, .f32⟩
  | 63 => ⟨S4x8, .f32⟩
  | 64 => ⟨S1x4x8x1, .f32⟩
  | 65 => ⟨S4096x4x8x64, .f32⟩
  | 66 => ⟨S4096x4x8x64, .f32⟩
  | 67 => ⟨S_, .f32⟩
  | 68 => ⟨S4x8, .f32⟩
  | 69 => ⟨S4x8x1, .f32⟩
  | 70 => ⟨S_, .f32⟩
  | 71 => ⟨S4x8, .f32⟩
  | 72 => ⟨S32, .f32⟩
  | 73 => ⟨S4x8x64x4096, .f32⟩
  | 74 => ⟨S4x8x4096x4096, .f32⟩
  | 75 => ⟨S4x8x64x4096, .f32⟩
  | 76 => ⟨S4096x4x8x64, .f32⟩
  | 77 => ⟨S4x8x4096x4096, .f32⟩
  | 78 => ⟨S4x8x4096x4096, .f32⟩
  | 79 => ⟨S4x8x4096x4096, .f32⟩
  | 80 => ⟨S_, .f32⟩
  | 81 => ⟨S4x4096x4096, .f32⟩
  | 82 => ⟨S4x1x4096x4096, .f32⟩
  | 83 => ⟨S_, .f32⟩
  | 84 => ⟨S4x4096x4096, .f32⟩
  | 85 => ⟨S4x4096x128, .f32⟩
  | 86 => ⟨S4096x4x128, .f32⟩
  | 87 => ⟨S4x4096x128, .f32⟩
  | 88 => ⟨S4096x4x128, .f32⟩
  | 89 => ⟨S4x8x4096x4096, .f32⟩
  | 90 => ⟨S_, .f32⟩
  | 91 => ⟨S4x8x4096x4096, .f32⟩
  | 92 => ⟨S4x8x4096x4096, .f32⟩
  | 93 => ⟨S_, .f32⟩
  | 94 => ⟨S4x8x4096, .f32⟩
  | 95 => ⟨S4x8x4096x1, .f32⟩
  | 96 => ⟨S4x8x4096x4096, .f32⟩
  | 97 => ⟨S_, .f32⟩
  | 98 => ⟨S4x8x4096, .f32⟩
  | 99 => ⟨S4x8x1x4096, .f32⟩
  | 100 => ⟨S_, .f32⟩
  | 101 => ⟨S4x8x4096, .f32⟩
  | 102 => ⟨S_, .f32⟩
  | 103 => ⟨S4x8x4096, .f32⟩
  | 104 => ⟨S4x8x4096, .f32⟩
  | 105 => ⟨S4096x4x8, .f32⟩
  | 106 => ⟨S_, .f32⟩
  | 107 => ⟨S_, .f32⟩
  | 108 => ⟨S4096x4x8, .f32⟩
  | 109 => ⟨S4096x4x8, .f32⟩
  | 110 => ⟨S_, .f32⟩
  | 111 => ⟨S4x8, .f32⟩
  | 112 => ⟨S1x4x8, .f32⟩
  | 113 => ⟨S4096x4x8, .f32⟩
  | 114 => ⟨S4096x4x8, .f32⟩
  | 115 => ⟨S_, .f32⟩
  | 116 => ⟨S4x8, .f32⟩
  | 117 => ⟨S32, .f32⟩
  | 118 => ⟨S4096x4x8x64, .f32⟩
  | 119 => ⟨S_, .f32⟩
  | 120 => ⟨S4096x4x8, .f32⟩
  | 121 => ⟨S4096x4x8x1, .f32⟩
  | 122 => ⟨S4096x4x8x64, .f32⟩
  | 123 => ⟨S4096x4x8x64, .f32⟩
  | 124 => ⟨S4096x4x8x64, .f32⟩
  | 125 => ⟨S_, .f32⟩
  | 126 => ⟨S4096x4x8, .f32⟩
  | 127 => ⟨S4096x4x8, .f32⟩
  | _ => ⟨S4096x3072, .f32⟩

abbrev hbmTy0_1 (i : Nat) : BufTy := match i % 128 with
  | 0 => ⟨S4096x32, .f32⟩
  | 1 => ⟨S4096x512, .f32⟩
  | 2 => ⟨S4096x512, .f32⟩
  | 3 => ⟨S4096x2048, .f32⟩
  | 4 => ⟨S4096x3072, .f32⟩
  | 5 => ⟨S_, .i32⟩
  | 6 => ⟨S_, .f32⟩
  | 7 => ⟨S4096x128, .f32⟩
  | 8 => ⟨S32x64, .f32⟩
  | 9 => ⟨S2048, .f32⟩
  | 10 => ⟨S1x2048, .f32⟩
  | 11 => ⟨S32x64, .f32⟩
  | 12 => ⟨S2048, .f32⟩
  | 13 => ⟨S1x2048, .f32⟩
  | _ => ⟨S4096x3072, .f32⟩

abbrev hbmTy (i : Nat) : BufTy := match i / 128 with
  | 0 => hbmTy0_0 i
  | 1 => hbmTy0_1 i
  | _ => ⟨S4096x3072, .f32⟩

abbrev bufTy : (tb : Table) → Fin (tcTables nBuf tb) → BufTy
  | .hbm, ⟨i, _⟩ => hbmTy i
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_call0_cst : Ref sig .tc := ⟨.hbm, 19, rfl⟩
abbrev main_call0_call0_v0 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_v16 : Ref sig .tc := ⟨.hbm, 24, rfl⟩
abbrev main_call1_v0 : Ref sig .tc := ⟨.hbm, 25, rfl⟩
abbrev main_call1_c : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_c_0 : Ref sig .tc := ⟨.hbm, 31, rfl⟩
abbrev main_call1_v5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst : Ref sig .tc := ⟨.hbm, 39, rfl⟩
abbrev main_call2_v0 : Ref sig .tc := ⟨.hbm, 40, rfl⟩
abbrev main_v23_1 : Ref sig .tc := ⟨.hbm, 41, rfl⟩
abbrev main_call2_v2 : Ref sig .tc := ⟨.hbm, 42, rfl⟩
abbrev main_v23_0 : Ref sig .tc := ⟨.hbm, 43, rfl⟩
abbrev main_call2_cst : Ref sig .tc := ⟨.hbm, 44, rfl⟩
abbrev main_v23_2 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_0 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_1 : Ref sig .tc := ⟨.hbm, 67, rfl⟩
abbrev main_v44 : Ref sig .tc := ⟨.hbm, 68, rfl⟩
abbrev main_v45 : Ref sig .tc := ⟨.hbm, 69, rfl⟩
abbrev main_cst_2 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_3 : Ref sig .tc := ⟨.hbm, 80, rfl⟩
abbrev main_v55 : Ref sig .tc := ⟨.hbm, 81, rfl⟩
abbrev main_v56 : Ref sig .tc := ⟨.hbm, 82, rfl⟩
abbrev main_cst_4 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_call3_cst : Ref sig .tc := ⟨.hbm, 90, rfl⟩
abbrev main_call3_v0 : Ref sig .tc := ⟨.hbm, 91, rfl⟩
abbrev main_v63 : Ref sig .tc := ⟨.hbm, 92, rfl⟩
abbrev main_cst_5 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_6 : Ref sig .tc := ⟨.hbm, 97, rfl⟩
abbrev main_v67 : Ref sig .tc := ⟨.hbm, 98, rfl⟩
abbrev main_v68 : Ref sig .tc := ⟨.hbm, 99, rfl⟩
abbrev main_cst_7 : Ref sig .tc := ⟨.hbm, 100, rfl⟩
abbrev main_v69 : Ref sig .tc := ⟨.hbm, 101, rfl⟩
abbrev main_cst_8 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_call4_call0_cst : Ref sig .tc := ⟨.hbm, 106, rfl⟩
abbrev main_call4_call0_v0 : Ref sig .tc := ⟨.hbm, 107, rfl⟩
abbrev main_v73 : Ref sig .tc := ⟨.hbm, 108, rfl⟩
abbrev main_v74 : Ref sig .tc := ⟨.hbm, 109, rfl⟩
abbrev main_cst_9 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_10 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_11 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_cst_12 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_c_13 : Ref sig .tc := ⟨.hbm, 133, rfl⟩
abbrev main_call5_v0 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩

abbrev nD : Nat := 1
abbrev τ : Topo := Topo.v7x

variable {F : FTy → Type} [FloatOps F]
-- ==== Down.lean ====
abbrev S4096x2816 : Shape := ⟨2, ![4096, 2816]⟩
abbrev S4096x1024 : Shape := ⟨2, ![4096, 1024]⟩
abbrev S2816x1024 : Shape := ⟨2, ![2816, 1024]⟩
abbrev S4096x1408 : Shape := ⟨2, ![4096, 1408]⟩
abbrev S4096x512 : Shape := ⟨2, ![4096, 512]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2816x1024, .f32⟩
  | .local _ .vmem, ⟨0, _⟩ => ⟨S4096x1408, .bf16⟩
  | .local _ .vmem, ⟨1, _⟩ => ⟨S4096x1408, .bf16⟩
  | .local _ .vmem, ⟨2, _⟩ => ⟨S4096x512, .f32⟩
  | .local _ .vmem, ⟨3, _⟩ => ⟨S4096x512, .f32⟩
  | .local _ .vmem, ⟨4, _⟩ => ⟨S1408x512, .f32⟩
  | .local _ .vmem, ⟨5, _⟩ => ⟨S1408x512, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S4096x2816, .f32⟩
  | .hbm, ⟨3, _⟩ => ⟨S_, .f32⟩
  | .hbm, ⟨4, _⟩ => ⟨S2816x1024, .f32⟩
  | .hbm, ⟨5, _⟩ => ⟨S4096x1024, .f32⟩
  | .hbm, ⟨6, _⟩ => ⟨S1024x2816, .f32⟩
  | .hbm, ⟨7, _⟩ => ⟨S2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Gate.lean ====
abbrev S4096x2816 : Shape := ⟨2, ![4096, 2816]⟩
abbrev S4096x1024 : Shape := ⟨2, ![4096, 1024]⟩
abbrev S2816x1024 : Shape := ⟨2, ![2816, 1024]⟩
abbrev S4096x1408 : Shape := ⟨2, ![4096, 1408]⟩
abbrev S4096x512 : Shape := ⟨2, ![4096, 512]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .f32⟩
  | .local _ .vmem, ⟨0, _⟩ => ⟨S4096x1408, .bf16⟩
  | .local _ .vmem, ⟨1, _⟩ => ⟨S4096x1408, .bf16⟩
  | .local _ .vmem, ⟨2, _⟩ => ⟨S4096x512, .bf16⟩
  | .local _ .vmem, ⟨3, _⟩ => ⟨S4096x512, .bf16⟩
  | .local _ .vmem, ⟨4, _⟩ => ⟨S1408x512, .f32⟩
  | .local _ .vmem, ⟨5, _⟩ => ⟨S1408x512, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateRefIdeal.lean ====
abbrev S4096x2816 : Shape := ⟨2, ![4096, 2816]⟩
abbrev S4096x1024 : Shape := ⟨2, ![4096, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x1024, .f32⟩
  | .hbm, ⟨3, _⟩ => ⟨S4096x2816, .f32⟩
  | .hbm, ⟨4, _⟩ => ⟨S_, .f32⟩
  | .hbm, ⟨5, _⟩ => ⟨S1024x2816, .f32⟩
  | .hbm, ⟨6, _⟩ => ⟨S4096x2816, .f32⟩
  | .hbm, ⟨7, _⟩ => ⟨S2816x1024, .f32⟩
  | .hbm, ⟨8, _⟩ => ⟨S1024x2816, .f32⟩
  | .hbm, ⟨9, _⟩ => ⟨S2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Qkv.lean ====
abbrev S4096x9216 : Shape := ⟨2, ![4096, 9216]⟩
abbrev S4096x1024 : Shape := ⟨2, ![4096, 1024]⟩
abbrev S9216x1024 : Shape := ⟨2, ![9216, 1024]⟩
abbrev S4096x1152 : Shape := ⟨2, ![4096, 1152]⟩
abbrev S4096x512 : Shape := ⟨2, ![4096, 512]⟩
abbrev S1152x512 : Shape := ⟨2, ![1152, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x9216, .bf16⟩
  | .hbm, ⟨1, _⟩ => ⟨S4096x1024, .bf16⟩
  | .hbm, ⟨2, _⟩ => ⟨S9216x1024, .f32⟩
  | .local _ .vmem, ⟨0, _⟩ => ⟨S4096x1152, .bf16⟩
  | .local _ .vmem, ⟨1, _⟩ => ⟨S4096x1152, .bf16⟩
  | .local _ .vmem, ⟨2, _⟩ => ⟨S4096x512, .bf16⟩
  | .local _ .vmem, ⟨3, _⟩ => ⟨S4096x512, .bf16⟩
  | .local _ .vmem, ⟨4, _⟩ => ⟨S1152x512, .f32⟩
  | .local _ .vmem, ⟨5, _⟩ => ⟨S1152x512, .f32⟩
  | _, _ => ⟨S4096x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvRefIdeal.lean ====
abbrev S4096x9216 : Shape := ⟨2, ![4096, 9216]⟩
abbrev S4096x1024 : Shape := ⟨2, ![4096, 1024]⟩
abbrev S_ : Shape := ⟨0, ![]⟩
abbrev S1024x9216 : Shape := ⟨2, ![1024, 9216]⟩
abbrev S9216x1024 : Shape := ⟨2, ![9216, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x9216, .bf16⟩
  | .hbm, ⟨1, _⟩ => ⟨S4096x1024, .bf16⟩
  | .hbm, ⟨2, _⟩ => ⟨S4096x1024, .f32⟩
  | .hbm, ⟨3, _⟩ => ⟨S4096x9216, .f32⟩
  | .hbm, ⟨4, _⟩ => ⟨S_, .f32⟩
  | .hbm, ⟨5, _⟩ => ⟨S1024x9216, .f32⟩
  | .hbm, ⟨6, _⟩ => ⟨S4096x9216, .f32⟩
  | .hbm, ⟨7, _⟩ => ⟨S9216x1024, .f32⟩
  | .hbm, ⟨8, _⟩ => ⟨S1024x9216, .f32⟩
  | .hbm, ⟨9, _⟩ => ⟨S9216x1024, .f32⟩
  | _, _ => ⟨S4096x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== XbcIn.lean ====
abbrev S4096x3072 : Shape := ⟨2, ![4096, 3072]⟩
abbrev S4096x1024 : Shape := ⟨2, ![4096, 1024]⟩
abbrev S3072x1024 : Shape := ⟨2, ![3072, 1024]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S3072x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== XbcInRefIdeal.lean ====
abbrev S4096x3072 : Shape := ⟨2, ![4096, 3072]⟩
abbrev S4096x1024 : Shape := ⟨2, ![4096, 1024]⟩
abbrev S_ : Shape := ⟨0, ![]⟩
abbrev S1024x3072 : Shape := ⟨2, ![1024, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S4096x1024, .f32⟩
  | .hbm, ⟨3, _⟩ => ⟨S4096x3072, .f32⟩
  | .hbm, ⟨4, _⟩ => ⟨S_, .f32⟩
  | .hbm, ⟨5, _⟩ => ⟨S1024x3072, .f32⟩
  | .hbm, ⟨6, _⟩ => ⟨S4096x3072, .f32⟩
  | .hbm, ⟨7, _⟩ => ⟨S3072x1024, .f32⟩
  | .hbm, ⟨8, _⟩ => ⟨S1024x3072, .f32⟩
  | .hbm, ⟨9, _⟩ => ⟨S3072x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ZIn.lean ====
abbrev S4096x2048 : Shape := ⟨2, ![4096, 2048]⟩
abbrev S4096x1024 : Shape := ⟨2, ![4096, 1024]⟩
abbrev S2048x1024 : Shape := ⟨2, ![2048, 1024]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2048x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ZInRefIdeal.lean ====
abbrev S4096x2048 : Shape := ⟨2, ![4096, 2048]⟩
abbrev S4096x1024 : Shape := ⟨2, ![4096, 1024]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S4096x1024, .f32⟩
  | .hbm, ⟨3, _⟩ => ⟨S4096x2048, .f32⟩
  | .hbm, ⟨4, _⟩ => ⟨S_, .f32⟩
  | .hbm, ⟨5, _⟩ => ⟨S1024x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S2048x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DtIn.lean ====
abbrev S4096x128 : Shape := ⟨2, ![4096, 128]⟩
abbrev S4096x1024 : Shape := ⟨2, ![4096, 1024]⟩
abbrev S128x1024 : Shape := ⟨2, ![128, 1024]⟩
abbrev S4096x512 : Shape := ⟨2, ![4096, 512]⟩
abbrev S128x512 : Shape := ⟨2, ![128, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x128, .bf16⟩
  | .hbm, ⟨1, _⟩ => ⟨S4096x1024, .bf16⟩
  | .hbm, ⟨2, _⟩ => ⟨S128x1024, .f32⟩
  | .local _ .vmem, ⟨0, _⟩ => ⟨S4096x128, .bf16⟩
  | .local _ .vmem, ⟨1, _⟩ => ⟨S4096x512, .bf16⟩
  | .local _ .vmem, ⟨2, _⟩ => ⟨S4096x512, .bf16⟩
  | .local _ .vmem, ⟨3, _⟩ => ⟨S128x512, .f32⟩
  | .local _ .vmem, ⟨4, _⟩ => ⟨S128x512, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DtInRefIdeal.lean ====
abbrev S4096x128 : Shape := ⟨2, ![4096, 128]⟩
abbrev S4096x1024 : Shape := ⟨2, ![4096, 1024]⟩
abbrev S_ : Shape := ⟨0, ![]⟩
abbrev S1024x128 : Shape := ⟨2, ![1024, 128]⟩
abbrev S128x1024 : Shape := ⟨2, ![128, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S4096x1024, .bf16⟩
  | .hbm, ⟨2, _⟩ => ⟨S4096x1024, .f32⟩
  | .hbm, ⟨3, _⟩ => ⟨S4096x128, .f32⟩
  | .hbm, ⟨4, _⟩ => ⟨S_, .f32⟩
  | .hbm, ⟨5, _⟩ => ⟨S1024x128, .f32⟩
  | .hbm, ⟨6, _⟩ => ⟨S4096x128, .f32⟩
  | .hbm, ⟨7, _⟩ => ⟨S128x1024, .f32⟩
  | .hbm, ⟨8, _⟩ => ⟨S1024x128, .f32⟩
  | .hbm, ⟨9, _⟩ => ⟨S128x1024, .f32⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== SsmOut.lean ====
abbrev S4096x2048 : Shape := ⟨2, ![4096, 2048]⟩
abbrev S4096x1024 : Shape := ⟨2, ![4096, 1024]⟩
abbrev S2048x1024 : Shape := ⟨2, ![2048, 1024]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .f32⟩
  | .hbm, ⟨2, _⟩ => ⟨S2048x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmOutRefIdeal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .f32⟩
  | .hbm, ⟨2, _⟩ => ⟨S4096x2048, .f32⟩
  | .hbm, ⟨3, _⟩ => ⟨S_, .f32⟩
  | .hbm, ⟨4, _⟩ => ⟨S2048x1024, .f32⟩
  | .hbm, ⟨5, _⟩ => ⟨S4096x1024, .f32⟩
  | .hbm, ⟨6, _⟩ => ⟨S1024x2048, .f32⟩
  | .hbm, ⟨7, _⟩ => ⟨S2048x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AttOut.lean ====
abbrev S4096x1024 : Shape := ⟨2, ![4096, 1024]⟩
abbrev S1024x1024 : Shape := ⟨2, ![1024, 1024]⟩
abbrev S4096x512 : Shape := ⟨2, ![4096, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .local _ .vmem, ⟨0, _⟩ => ⟨S4096x1024, .f32⟩
  | .local _ .vmem, ⟨1, _⟩ => ⟨S4096x512, .f32⟩
  | .local _ .vmem, ⟨2, _⟩ => ⟨S4096x512, .f32⟩
  | .local _ .vmem, ⟨3, _⟩ => ⟨S1024x512, .f32⟩
  | .local _ .vmem, ⟨4, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttOutRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== PleGate.lean ====
abbrev S4096x1024 : Shape := ⟨2, ![4096, 1024]⟩
abbrev S1024x1024 : Shape := ⟨2, ![1024, 1024]⟩
abbrev S4096x512 : Shape := ⟨2, ![4096, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .f32⟩
  | .local _ .vmem, ⟨0, _⟩ => ⟨S4096x1024, .f32⟩
  | .local _ .vmem, ⟨1, _⟩ => ⟨S4096x512, .bf16⟩
  | .local _ .vmem, ⟨2, _⟩ => ⟨S4096x512, .bf16⟩
  | .local _ .vmem, ⟨3, _⟩ => ⟨S1024x512, .f32⟩
  | .local _ .vmem, ⟨4, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleGateRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S1024x1024, .f32⟩
  | .hbm, ⟨7, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== PleProj.lean ====
abbrev S4096x1024 : Shape := ⟨2, ![4096, 1024]⟩
abbrev S4096x256 : Shape := ⟨2, ![4096, 256]⟩
abbrev S1024x256 : Shape := ⟨2, ![1024, 256]⟩

abbrev nBuf : Space → Nat
  | .hbm => 3
  | .vmem => 3
  | .smem => 0
  | _ => 0

abbrev bufTy : (tb : Table) → Fin (tcTables nBuf tb) → BufTy
  | .hbm, ⟨0, _⟩ => ⟨S4096x1024, .bf16⟩
  | .hbm, ⟨1, _⟩ => ⟨S4096x256, .f32⟩
  | .hbm, ⟨2, _⟩ => ⟨S1024x256, .f32⟩
  | .local _ .vmem, ⟨0, _⟩ => ⟨S4096x1024, .bf16⟩
  | .local _ .vmem, ⟨1, _⟩ => ⟨S4096x256, .f32⟩
  | .local _ .vmem, ⟨2, _⟩ => ⟨S1024x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== PleProjRefIdeal.lean ====
abbrev S4096x1024 : Shape := ⟨2, ![4096, 1024]⟩
abbrev S4096x256 : Shape := ⟨2, ![4096, 256]⟩
abbrev S_ : Shape := ⟨0, ![]⟩
abbrev S256x1024 : Shape := ⟨2, ![256, 1024]⟩
abbrev S1024x256 : Shape := ⟨2, ![1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x256, .f32⟩
  | .hbm, ⟨2, _⟩ => ⟨S4096x1024, .f32⟩
  | .hbm, ⟨3, _⟩ => ⟨S_, .f32⟩
  | .hbm, ⟨4, _⟩ => ⟨S256x1024, .f32⟩
  | .hbm, ⟨5, _⟩ => ⟨S4096x1024, .f32⟩
  | .hbm, ⟨6, _⟩ => ⟨S1024x256, .f32⟩
  | .hbm, ⟨7, _⟩ => ⟨S256x1024, .f32⟩
  | .hbm, ⟨8, _⟩ => ⟨S1024x256, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ZProj.lean ====
abbrev S4096x1024 : Shape := ⟨2, ![4096, 1024]⟩
abbrev S2048x1024 : Shape := ⟨2, ![2048, 1024]⟩
abbrev S4096x2048 : Shape := ⟨2, ![4096, 2048]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ZProjRefIdeal.lean ====
abbrev S4096x1024 : Shape := ⟨2, ![4096, 1024]⟩
abbrev S2048x1024 : Shape := ⟨2, ![2048, 1024]⟩
abbrev S1024x2048 : Shape := ⟨2, ![1024, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S4096x1024, .f32⟩
  | .hbm, ⟨3, _⟩ => ⟨S2048x1024, .f32⟩
  | .hbm, ⟨4, _⟩ => ⟨S1024x2048, .f32⟩
  | .hbm, ⟨5, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== XbcProj.lean ====
abbrev S4096x1024 : Shape := ⟨2, ![4096, 1024]⟩
abbrev S3072x1024 : Shape := ⟨2, ![3072, 1024]⟩
abbrev S4096x3072 : Shape := ⟨2, ![4096, 3072]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S3072x1024, .bf16⟩
  | .hbm, ⟨2, _⟩ => ⟨S4096x3072, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== XbcProjRefIdeal.lean ====
abbrev S4096x1024 : Shape := ⟨2, ![4096, 1024]⟩
abbrev S3072x1024 : Shape := ⟨2, ![3072, 1024]⟩
abbrev S1024x3072 : Shape := ⟨2, ![1024, 3072]⟩
abbrev S4096x3072 : Shape := ⟨2, ![4096, 3072]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S3072x1024, .bf16⟩
  | .hbm, ⟨2, _⟩ => ⟨S4096x1024, .f32⟩
  | .hbm, ⟨3, _⟩ => ⟨S3072x1024, .f32⟩
  | .hbm, ⟨4, _⟩ => ⟨S1024x3072, .f32⟩
  | .hbm, ⟨5, _⟩ => ⟨S4096x3072, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DtProj.lean ====
abbrev S4096x1024 : Shape := ⟨2, ![4096, 1024]⟩
abbrev S128x1024 : Shape := ⟨2, ![128, 1024]⟩
abbrev S4096x128 : Shape := ⟨2, ![4096, 128]⟩
abbrev S1024x1024 : Shape := ⟨2, ![1024, 1024]⟩
abbrev S1024x128 : Shape := ⟨2, ![1024, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S128x1024, .bf16⟩
  | .hbm, ⟨2, _⟩ => ⟨S4096x128, .f32⟩
  | .local _ .vmem, ⟨0, _⟩ => ⟨S1024x1024, .bf16⟩
  | .local _ .vmem, ⟨1, _⟩ => ⟨S1024x1024, .bf16⟩
  | .local _ .vmem, ⟨2, _⟩ => ⟨S128x1024, .bf16⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DtProjRefIdeal.lean ====
abbrev S4096x1024 : Shape := ⟨2, ![4096, 1024]⟩
abbrev S128x1024 : Shape := ⟨2, ![128, 1024]⟩
abbrev S1024x128 : Shape := ⟨2, ![1024, 128]⟩
abbrev S4096x128 : Shape := ⟨2, ![4096, 128]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S128x1024, .bf16⟩
  | .hbm, ⟨2, _⟩ => ⟨S4096x1024, .f32⟩
  | .hbm, ⟨3, _⟩ => ⟨S128x1024, .f32⟩
  | .hbm, ⟨4, _⟩ => ⟨S1024x128, .f32⟩
  | .hbm, ⟨5, _⟩ => ⟨S4096x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DownProj.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩
abbrev S2816x512 : Shape := ⟨2, ![2816, 512]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x512, .bf16⟩
  | .local _ .vmem, ⟨3, _⟩ => ⟨S2816x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownProjRefIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ZBack.lean ====
abbrev S4096x2048 : Shape := ⟨2, ![4096, 2048]⟩
abbrev S2048x1024 : Shape := ⟨2, ![2048, 1024]⟩
abbrev S4096x1024 : Shape := ⟨2, ![4096, 1024]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ZBackRefIdeal.lean ====
abbrev S4096x2048 : Shape := ⟨2, ![4096, 2048]⟩
abbrev S2048x1024 : Shape := ⟨2, ![2048, 1024]⟩
abbrev S_ : Shape := ⟨0, ![]⟩
abbrev S4096x1024 : Shape := ⟨2, ![4096, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S_, .f32⟩
  | .hbm, ⟨3, _⟩ => ⟨S4096x1024, .f32⟩
  | .hbm, ⟨4, _⟩ => ⟨S2048x1024, .f32⟩
  | .hbm, ⟨5, _⟩ => ⟨S1024x2048, .f32⟩
  | .hbm, ⟨6, _⟩ => ⟨S4096x2048, .f32⟩
  | .hbm, ⟨7, _⟩ => ⟨S4096x2048, .f32⟩
  | .hbm, ⟨8, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== XbcBack.lean ====
abbrev S4096x3072 : Shape := ⟨2, ![4096, 3072]⟩
abbrev S3072x1024 : Shape := ⟨2, ![3072, 1024]⟩
abbrev S4096x1024 : Shape := ⟨2, ![4096, 1024]⟩
abbrev S1024x3072 : Shape := ⟨2, ![1024, 3072]⟩
abbrev S3072x512 : Shape := ⟨2, ![3072, 512]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S4096x3072, .bf16⟩
  | .hbm, ⟨1, _⟩ => ⟨S3072x1024, .bf16⟩
  | .hbm, ⟨2, _⟩ => ⟨S4096x1024, .f32⟩
  | .hbm, ⟨3, _⟩ => ⟨S4096x1024, .f32⟩
  | .local _ .vmem, ⟨0, _⟩ => ⟨S1024x3072, .bf16⟩
  | .local _ .vmem, ⟨1, _⟩ => ⟨S1024x3072, .bf16⟩
  | .local _ .vmem, ⟨2, _⟩ => ⟨S3072x512, .bf16⟩
  | .local _ .vmem, ⟨3, _⟩ => ⟨S3072x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S3072x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== XbcBackRefIdeal.lean ====
abbrev S4096x3072 : Shape := ⟨2, ![4096, 3072]⟩
abbrev S3072x1024 : Shape := ⟨2, ![3072, 1024]⟩
abbrev S4096x1024 : Shape := ⟨2, ![4096, 1024]⟩
abbrev S_ : Shape := ⟨0, ![]⟩
abbrev S1024x3072 : Shape := ⟨2, ![1024, 3072]⟩

abbrev nBuf : Space → Nat
  | .hbm => 11
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S3072x1024, .bf16⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S3072x1024, .f32⟩
  | .hbm, ⟨6, _⟩ => ⟨S1024x3072, .f32⟩
  | .hbm, ⟨7, _⟩ => ⟨S4096x3072, .f32⟩
  | .hbm, ⟨8, _⟩ => ⟨S4096x3072, .f32⟩
  | .hbm, ⟨9, _⟩ => ⟨S4096x1024, .f32⟩
  | .hbm, ⟨10, _⟩ => ⟨S4096x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== FfnIn.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S256x1024 : Shape := ⟨2, ![256, 1024]⟩
abbrev S1024x256 : Shape := ⟨2, ![1024, 256]⟩

abbrev nBuf : Space → Nat
  | .hbm => 6
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2816x1024, .bf16⟩
  | .hbm, ⟨3, _⟩ => ⟨S4096x2816, .bf16⟩
  | .hbm, ⟨4, _⟩ => ⟨S4096x2816, .bf16⟩
  | .hbm, ⟨5, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnInRefIdeal.lean ====
abbrev S4096x1024 : Shape := ⟨2, ![4096, 1024]⟩
abbrev S2816x1024 : Shape := ⟨2, ![2816, 1024]⟩
abbrev S1024x2816 : Shape := ⟨2, ![1024, 2816]⟩
abbrev S4096x2816 : Shape := ⟨2, ![4096, 2816]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2816x1024, .bf16⟩
  | .hbm, ⟨3, _⟩ => ⟨S4096x1024, .f32⟩
  | .hbm, ⟨4, _⟩ => ⟨S2816x1024, .f32⟩
  | .hbm, ⟨5, _⟩ => ⟨S1024x2816, .f32⟩
  | .hbm, ⟨6, _⟩ => ⟨S4096x2816, .f32⟩
  | .hbm, ⟨7, _⟩ => ⟨S4096x1024, .f32⟩
  | .hbm, ⟨8, _⟩ => ⟨S2816x1024, .f32⟩
  | .hbm, ⟨9, _⟩ => ⟨S1024x2816, .f32⟩
  | .hbm, ⟨10, _⟩ => ⟨S4096x2816, .f32⟩
  | .hbm, ⟨11, _⟩ => ⟨S4096x2816, .bf16⟩
  | .hbm, ⟨12, _⟩ => ⟨S4096x2816, .bf16⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S_, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩

abbrev nD : Nat := 1
abbrev τ : Topo := Topo.v7x

variable {F : FTy → Type} [FloatOps F]
-- ==== FfnBack.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S256x1024 : Shape := ⟨2, ![256, 1024]⟩
abbrev S1024x256 : Shape := ⟨2, ![1024, 256]⟩

abbrev nBuf : Space → Nat
  | .hbm => 6
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x2816, .bf16⟩
  | .hbm, ⟨3, _⟩ => ⟨S4096x2816, .bf16⟩
  | .hbm, ⟨4, _⟩ => ⟨S4096x2816, .bf16⟩
  | .hbm, ⟨5, _⟩ => ⟨S4096x2816, .bf16⟩
  | .local _ .vmem, ⟨0, _⟩ => ⟨S1024x1024, .f32⟩
  | .local _ .vmem, ⟨1, _⟩ => ⟨S1024x1024, .f32⟩
  | .local _ .vmem, ⟨2, _⟩ => ⟨S256x1024, .bf16⟩
  | .local _ .vmem, ⟨3, _⟩ => ⟨S256x1024, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnBackRefIdeal.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x2816, .bf16⟩
  | .hbm, ⟨3, _⟩ => ⟨S4096x2816, .bf16⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S2816x1024, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .bf16⟩
  | .hbm, ⟨30, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩

abbrev nD : Nat := 1
abbrev τ : Topo := Topo.v7x

variable {F : FTy → Type} [FloatOps F]
-- ==== FfnDh.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 9
  | .vmem => 15
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S2816x1024, .bf16⟩
  | .hbm, ⟨3, _⟩ => ⟨S2816x1024, .bf16⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S2816x1024, .bf16⟩
  | .local _ .vmem, ⟨3, _⟩ => ⟨S256x2816, .bf16⟩
  | .local _ .vmem, ⟨4, _⟩ => ⟨S256x2816, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S256x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨2, ![16, 1], ![false, false]⟩

def k0_cond3 (i : grid0.Coords) : BitVec 1 :=
  let arg1 : BitVec 32 := BitVec.ofNat 32 (i 1).val
  let c0_i32_11 : BitVec 32 := 0#32
  let v13 : BitVec 1 := Scalar.cmpi .eq arg1 c0_i32_11
  let v14 : BitVec 32 := Scalar.extui v13
  let c0_i32_12 : BitVec 32 := 0#32
  let v15 : BitVec 1 := Scalar.cmpi .ne v14 c0_i32_12
  v15

def k0_cond4 (i : grid0.Coords) : BitVec 1 :=
  let arg0 : BitVec 32 := BitVec.ofNat 32 (i 0).val
  let c0_i32_29 : BitVec 32 := 0#32
  let v47 : BitVec 1 := Scalar.cmpi .eq arg0 c0_i32_29
  let v48 : BitVec 32 := Scalar.extui v47
  let c0_i32_30 : BitVec 32 := 0#32
  let v49 : BitVec 1 := Scalar.cmpi .ne v48 c0_i32_30
  v49

def k0_cond5 (i : grid0.Coords) : BitVec 1 :=
  let arg0 : BitVec 32 := BitVec.ofNat 32 (i 0).val
  let c0_i32_31 : BitVec 32 := 0#32
  let v50 : BitVec 1 := Scalar.cmpi .sgt arg0 c0_i32_31
  let v51 : BitVec 32 := Scalar.extui v50
  let c0_i32_32 : BitVec 32 := 0#32
  let v52 : BitVec 1 := Scalar.cmpi .ne v51 c0_i32_32
  v52

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== FfnDhRefIdeal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩

abbrev nBuf : Space → Nat
  | .hbm => 57
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S2816x1024, .bf16⟩
  | .hbm, ⟨3, _⟩ => ⟨S2816x1024, .bf16⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S2816x1024, .f32⟩
  | .hbm, ⟨27, _⟩ => ⟨S1024x2816, .f32⟩
  | .hbm, ⟨28, _⟩ => ⟨S4096x2816, .f32⟩
  | .hbm, ⟨29, _⟩ => ⟨S2816x1024, .f32⟩
  | .hbm, ⟨30, _⟩ => ⟨S1024x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== QkvDx.lean ====
abbrev S4096x9216 : Shape := ⟨2, ![4096, 9216]⟩
abbrev S9216x1024 : Shape := ⟨2, ![9216, 1024]⟩
abbrev S4096x1024 : Shape := ⟨2, ![4096, 1024]⟩
abbrev S1x1024 : Shape := ⟨2, ![1, 1024]⟩
abbrev S512x3072 : Shape := ⟨2, ![512, 3072]⟩
abbrev S3072x1024 : Shape := ⟨2, ![3072, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 13
  | .smem => 0
  | _ => 0

abbrev bufTy : (tb : Table) → Fin (tcTables nBuf tb) → BufTy
  | .hbm, ⟨0, _⟩ => ⟨S4096x9216, .bf16⟩
  | .hbm, ⟨1, _⟩ => ⟨S9216x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S3072x1024, .bf16⟩
  | .local _ .vmem, ⟨3, _⟩ => ⟨S3072x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | _, _ => ⟨S4096x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 3], ![false, false]⟩

def k0_cond3 (i : grid0.Coords) : BitVec 1 :=
  let arg1 : BitVec 32 := BitVec.ofNat 32 (i 1).val
  let c2_i32 : BitVec 32 := 2#32
  let v9 : BitVec 1 := Scalar.cmpi .eq arg1 c2_i32
  let v10 : BitVec 32 := Scalar.extui v9
  let c0_i32_6 : BitVec 32 := 0#32
  let v11 : BitVec 1 := Scalar.cmpi .ne v10 c0_i32_6
  v11

def k0_cond4 (i : grid0.Coords) : BitVec 1 :=
  let arg0 : BitVec 32 := BitVec.ofNat 32 (i 0).val
  let c0_i32_23 : BitVec 32 := 0#32
  let v43 : BitVec 1 := Scalar.cmpi .eq arg0 c0_i32_23
  let v44 : BitVec 32 := Scalar.extui v43
  let c0_i32_24 : BitVec 32 := 0#32
  let v45 : BitVec 1 := Scalar.cmpi .ne v44 c0_i32_24
  v45

def k0_cond5 (i : grid0.Coords) : BitVec 1 :=
  let arg0 : BitVec 32 := BitVec.ofNat 32 (i 0).val
  let c0_i32_25 : BitVec 32 := 0#32
  let v46 : BitVec 1 := Scalar.cmpi .sgt arg0 c0_i32_25
  let v47 : BitVec 32 := Scalar.extui v46
  let c0_i32_26 : BitVec 32 := 0#32
  let v48 : BitVec 1 := Scalar.cmpi .ne v47 c0_i32_26
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3072x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== QkvDxRefIdeal.lean ====
abbrev S4096x9216 : Shape := ⟨2, ![4096, 9216]⟩
abbrev S9216x1024 : Shape := ⟨2, ![9216, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x9216 : Shape := ⟨2, ![1024, 9216]⟩

abbrev nBuf : Space → Nat
  | .hbm => 49
  | .vmem => 0
  | .smem => 0
  | _ => 0

abbrev bufTy : (tb : Table) → Fin (tcTables nBuf tb) → BufTy
  | .hbm, ⟨0, _⟩ => ⟨S4096x9216, .bf16⟩
  | .hbm, ⟨1, _⟩ => ⟨S9216x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S9216x1024, .f32⟩
  | .hbm, ⟨25, _⟩ => ⟨S1024x9216, .f32⟩
  | .hbm, ⟨26, _⟩ => ⟨S4096x9216, .f32⟩
  | .hbm, ⟨27, _⟩ => ⟨S4096x9216, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | _, _ => ⟨S4096x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Proof.Frames.lean ====
/- The programs run, leave their arguments unchanged and end quiescent; the one rewritten constant is the one named. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

namespace Cert.Proof

open Idealize.ShloMosaic Idealize.ShloMosaic.TcCoe Idealize.SL.Sem

theorem kernel_frame : Cert.quiescent_Kernel := fun m ρ _ => Cert.Kernel.Gen.frame m ρ

theorem ideal_frame : Cert.quiescent_KernelIdeal := fun m ρ _ => Cert.KernelIdeal.Gen.frame m ρ

/-- The reference is host code without semaphores: every counter is zero. -/
theorem reference_frame : Cert.quiescent_ReferenceIdeal := fun m ρ _ =>
  (θ_run (Cert.ReferenceIdeal.defs (F := Ideal)) _ _).mono (fun r h => ⟨fun c => (h c).2.2.2.2, sem_eq_zero_of_no_sems (by decide) r.2⟩)
    (Cert.ReferenceIdeal.Value.run (F := Ideal) m ρ)

/-- The mask's literal stands for minus infinity. -/
theorem mask_named : Cert.preserves_Kernel_KernelIdeal :=
  IdealRules.named_const.statement Cert.KernelIdeal.κ "mask" .f32 0xF149F2CA#32 ⊥ rfl

end Cert.Proof
-- ==== Proof.Scan.Body.lean ====
/- The kernel body's arithmetic, written once for any group of heads, any pair of heads in it, and any head of the
   pair. Each definition takes the blocks the body has read; `Pieces.lean` says which blocks each store's text reads. -/
module

public import proofs.«01_k».proof.Proof.Gen.KernelIdeal.Skeleton

@[expose] public section

namespace Scan.Body

open Idealize.ShloMosaic Cert.KernelIdeal
open Cert.KernelIdeal.Facts₀ Cert.KernelIdeal.Facts
open Cert.KernelIdeal.Gen (k0_pay25 k0_pay26 k0_pay27 k0_pay28 k0_pay29 k0_pay30 k0_pay31 k0_pay32 k0_pay33)

noncomputable section

/-- A 128 × 128 matrix of 32-bit values. -/
abbrev Sq := FVec Ideal S128x128 .f32
/-- The same in the narrow format. -/
abbrev SqH := FVec Ideal S128x128 .bf16
/-- One group's 512 lanes over a chunk. -/
abbrev Wide := FVec Ideal S128x512 .f32
/-- One row of a group's lanes. -/
abbrev WideRow := FVec Ideal S1x512 .f32
/-- All 2048 lanes over a chunk. -/
abbrev Full := FVec Ideal S128x2048 .f32
/-- One row of all lanes. -/
abbrev FullRow := FVec Ideal S1x2048 .f32
/-- A mask over a 128 × 128 matrix. -/
abbrev SqM := IVec S128x128 1

/-- What is left of a value after its narrow rounding, rounded in turn. -/
def rest {s : Shape} (v : FVec Ideal s .f32) : FVec Ideal s .bf16 :=
  truncf .bf16 (subf v (extf .f32 (truncf .bf16 v bitsLt_bf16_f32) bitsLt_bf16_f32)) bitsLt_bf16_f32

/-- One 128-lane part of a per-head sum of a matrix's lanes. -/
def headPart {s : Shape} (bd : SqH) (v : FVec Ideal s .f32) (off : Fin s.rank → ℕ) (h : s.Slices off S128x128) : Sq :=
  addf (matmul dot_S128x128_S128x128_S128x128_1_0_0_1_n_n none (extractStridedSlice S128x128 off (truncf .bf16 v bitsLt_bf16_f32) h) bd (constant S128x128 .f32 0x00000000#32))
    (matmul dot_S128x128_S128x128_S128x128_1_0_0_1_n_n none (extractStridedSlice S128x128 off (rest v) h) bd (constant S128x128 .f32 0x00000000#32))

/-- The same for a single row. -/
def headPartRow {s : Shape} (bd : SqH) (v : FVec Ideal s .f32) (off : Fin s.rank → ℕ) (h : s.Slices off S1x128) : FVec Ideal S1x128 .f32 :=
  addf (matmul dot_S1x128_S128x128_S1x128_1_0_0_1_n_n none (extractStridedSlice S1x128 off (truncf .bf16 v bitsLt_bf16_f32) h) bd (constant S1x128 .f32 0x00000000#32))
    (matmul dot_S1x128_S128x128_S1x128_1_0_0_1_n_n none (extractStridedSlice S1x128 off (rest v) h) bd (constant S1x128 .f32 0x00000000#32))

/-- Each head's sum over its 64 lanes, left on each of them: a group's lanes. -/
def heads (bd : SqH) (v : Wide) : Wide :=
  concatenate S128x512 1 [⟨S128x128, headPart bd v ![0, 0] slices_S128x512_o0_0_S128x128⟩,
    ⟨S128x128, headPart bd v ![0, 128] slices_S128x512_o0_128_S128x128⟩,
    ⟨S128x128, headPart bd v ![0, 256] slices_S128x512_o0_256_S128x128⟩,
    ⟨S128x128, headPart bd v ![0, 384] slices_S128x512_o0_384_S128x128⟩]
    concatenates_S128x128_S128x128_S128x128_S128x128_S128x512_d1

/-- The same for one row of a group's lanes. -/
def headsRow (bd : SqH) (v : WideRow) : WideRow :=
  concatenate S1x512 1 [⟨S1x128, headPartRow bd v ![0, 0] slices_S1x512_o0_0_S1x128⟩,
    ⟨S1x128, headPartRow bd v ![0, 128] slices_S1x512_o0_128_S1x128⟩,
    ⟨S1x128, headPartRow bd v ![0, 256] slices_S1x512_o0_256_S1x128⟩,
    ⟨S1x128, headPartRow bd v ![0, 384] slices_S1x512_o0_384_S1x128⟩]
    concatenates_S1x128_S1x128_S1x128_S1x128_S1x512_d1

/-- The same for all lanes. -/
def headsFull (bd : SqH) (v : Full) : Full :=
  concatenate S128x2048 1 [
    ⟨S128x128, headPart bd v ![0, 0] slices_S128x2048_o0_0_S128x128⟩,
    ⟨S128x128, headPart bd v ![0, 128] slices_S128x2048_o0_128_S128x128⟩,
    ⟨S128x128, headPart bd v ![0, 256] slices_S128x2048_o0_256_S128x128⟩,
    ⟨S128x128, headPart bd v ![0, 384] slices_S128x2048_o0_384_S128x128⟩,
    ⟨S128x128, headPart bd v ![0, 512] slices_S128x2048_o0_512_S128x128⟩,
    ⟨S128x128, headPart bd v ![0, 640] slices_S128x2048_o0_640_S128x128⟩,
    ⟨S128x128, headPart bd v ![0, 768] slices_S128x2048_o0_768_S128x128⟩,
    ⟨S128x128, headPart bd v ![0, 896] slices_S128x2048_o0_896_S128x128⟩,
    ⟨S128x128, headPart bd v ![0, 1024] slices_S128x2048_o0_1024_S128x128⟩,
    ⟨S128x128, headPart bd v ![0, 1152] slices_S128x2048_o0_1152_S128x128⟩,
    ⟨S128x128, headPart bd v ![0, 1280] slices_S128x2048_o0_1280_S128x128⟩,
    ⟨S128x128, headPart bd v ![0, 1408] slices_S128x2048_o0_1408_S128x128⟩,
    ⟨S128x128, headPart bd v ![0, 1536] slices_S128x2048_o0_1536_S128x128⟩,
    ⟨S128x128, headPart bd v ![0, 1664] slices_S128x2048_o0_1664_S128x128⟩,
    ⟨S128x128, headPart bd v ![0, 1792] slices_S128x2048_o0_1792_S128x128⟩,
    ⟨S128x128, headPart bd v ![0, 1920] slices_S128x2048_o0_1920_S128x128⟩]
    concatenates_S128x128_S128x128_S128x128_S128x128_S128x128_S128x128_S128x128_S128x128_S128x128_S128x128_S128x128_S128x128_S128x128_S128x128_S128x128_S128x128_S128x2048_d1

/-- The same for one row of all lanes. -/
def headsFullRow (bd : SqH) (v : FullRow) : FullRow :=
  concatenate S1x2048 1 [
    ⟨S1x128, headPartRow bd v ![0, 0] slices_S1x2048_o0_0_S1x128⟩,
    ⟨S1x128, headPartRow bd v ![0, 128] slices_S1x2048_o0_128_S1x128⟩,
    ⟨S1x128, headPartRow bd v ![0, 256] slices_S1x2048_o0_256_S1x128⟩,
    ⟨S1x128, headPartRow bd v ![0, 384] slices_S1x2048_o0_384_S1x128⟩,
    ⟨S1x128, headPartRow bd v ![0, 512] slices_S1x2048_o0_512_S1x128⟩,
    ⟨S1x128, headPartRow bd v ![0, 640] slices_S1x2048_o0_640_S1x128⟩,
    ⟨S1x128, headPartRow bd v ![0, 768] slices_S1x2048_o0_768_S1x128⟩,
    ⟨S1x128, headPartRow bd v ![0, 896] slices_S1x2048_o0_896_S1x128⟩,
    ⟨S1x128, headPartRow bd v ![0, 1024] slices_S1x2048_o0_1024_S1x128⟩,
    ⟨S1x128, headPartRow bd v ![0, 1152] slices_S1x2048_o0_1152_S1x128⟩,
    ⟨S1x128, headPartRow bd v ![0, 1280] slices_S1x2048_o0_1280_S1x128⟩,
    ⟨S1x128, headPartRow bd v ![0, 1408] slices_S1x2048_o0_1408_S1x128⟩,
    ⟨S1x128, headPartRow bd v ![0, 1536] slices_S1x2048_o0_1536_S1x128⟩,
    ⟨S1x128, headPartRow bd v ![0, 1664] slices_S1x2048_o0_1664_S1x128⟩,
    ⟨S1x128, headPartRow bd v ![0, 1792] slices_S1x2048_o0_1792_S1x128⟩,
    ⟨S1x128, headPartRow bd v ![0, 1920] slices_S1x2048_o0_1920_S1x128⟩]
    concatenates_S1x128_S1x128_S1x128_S1x128_S1x128_S1x128_S1x128_S1x128_S1x128_S1x128_S1x128_S1x128_S1x128_S1x128_S1x128_S1x128_S1x2048_d1

/-! ## One group of heads -/

/-- The last row of the running sums. -/
def endRow (acs : Wide) : WideRow := extractStridedSlice S1x512 ![127, 0] acs slices_S128x512_o127_0_S1x512

/-- The decay from each row to the chunk's end. -/
def toEnd (acs : Wide) : Wide := exp (subf (broadcastTo S128x512 (endRow acs) broadcasts_S1x512_S128x512) acs)

/-- The arriving gradient times the decay from the chunk's start. -/
def dye (dy acs : Wide) : FVec Ideal S128x512 .bf16 := truncf .bf16 (mulf dy (exp acs)) bitsLt_bf16_f32

/-- The scaled input times the decay to the chunk's end. -/
def xdk (xdt acs : Wide) : Wide := mulf xdt (toEnd acs)

/-- `B` times the gradient of the state the chunk leaves. -/
def bdh (bg : Sq) (dh : Wide) : Wide :=
  matmul dot_S128x128_S128x512_S128x512_1_0_0_1_n_n none (truncf .bf16 bg bitsLt_bf16_f32) (truncf .bf16 dh bitsLt_bf16_f32) (constant S128x512 .f32 0x00000000#32)

/-- The state's gradient handed to the chunk before. -/
def stateOut (cg : Sq) (acs dy dh : Wide) : Wide :=
  shapeCast S128x512 (addf (mulf dh (broadcastTo S128x512 (exp (endRow acs)) broadcasts_S1x512_S128x512))
    (matmul dot_S128x128_S128x512_S128x512_1_0_0_1_n_n none (truncf .bf16 (transpose S128x128 [1, 0] cg transposes_S128x128_p1_0_S128x128) bitsLt_bf16_f32) (dye dy acs) (constant S128x512 .f32 0x00000000#32)))
    shapeCasts_S128x512_S128x512

/-- The pairs that cross the chunk's end, summed per head at the row they start from. -/
def crossing (bd : SqH) (bg : Sq) (xdt acs dh : Wide) : Wide := heads bd (mulf (bdh bg dh) (xdk xdt acs))

/-- All pairs that cross the chunk's end, per head. -/
def crossingAll (bd : SqH) (bg : Sq) (xdt acs hin dh : Wide) : WideRow :=
  addf (shapeCast S1x512 (multiReduction .add [0] S512 (crossing bd bg xdt acs dh) 0x00000000#32 reduces_S128x512_S512 (.inl rfl) rfl) shapeCasts_S512_S1x512)
    (mulf (exp (endRow acs)) (headsRow bd (shapeCast S1x512 (multiReduction .add [0] S512 (mulf dh hin) 0x00000000#32 reduces_S128x512_S512 (.inl rfl) rfl) shapeCasts_S512_S1x512)))

/-- What the decay's logarithm collects at each row from pairs that leave the chunk on either side. -/
def netOuter (bd : SqH) (last : IVec S128x512 1) (bg cg : Sq) (xdt acs hin dy dh : Wide) : Wide :=
  addf (subf (heads bd (mulf (mulf dy (matmul dot_S128x128_S128x512_S128x512_1_0_0_1_n_n none (truncf .bf16 cg bitsLt_bf16_f32) (truncf .bf16 hin bitsLt_bf16_f32) (constant S128x512 .f32 0x00000000#32))) (exp acs)))
      (crossing bd bg xdt acs dh))
    (select last (broadcastTo S128x512 (shapeCast S1x512 (crossingAll bd bg xdt acs hin dh) shapeCasts_S1x512_S1x512) broadcasts_S1x512_S128x512)
      (broadcast S128x512 (Scalar.ofBits .f32 0x00000000#32)))

/-- The input gradient that arrives from beyond the chunk. -/
def inOuter (bg : Sq) (acs dh : Wide) : Wide := mulf (bdh bg dh) (toEnd acs)

/-- The gradient of `C` through the state the chunk starts from. -/
def cOuter (acs hin dy : Wide) : Sq :=
  matmul dot_S128x512_S128x512_S128x128_1_1_0_0_n_n none (dye dy acs) (truncf .bf16 hin bitsLt_bf16_f32) (constant S128x128 .f32 0x00000000#32)

/-- The gradient of `B` through the state the chunk leaves. -/
def bOuter (xdt acs dh : Wide) : Sq :=
  matmul dot_S128x512_S128x512_S128x128_1_1_0_0_n_n none (truncf .bf16 (xdk xdt acs) bitsLt_bf16_f32) (truncf .bf16 dh bitsLt_bf16_f32) (constant S128x128 .f32 0x00000000#32)

/-- `C Bᵀ` (and with the operands exchanged its transpose). -/
def gram (u v : Sq) : Sq :=
  matmul dot_S128x128_S128x128_S128x128_1_1_0_0_n_n none (truncf .bf16 u bitsLt_bf16_f32) (truncf .bf16 v bitsLt_bf16_f32) (constant S128x128 .f32 0x00000000#32)

/-! ## One pair of heads, and one head of the pair -/

/-- A pair's 128 lanes. -/
def lanes (off : Fin 2 → ℕ) (h : S128x512.Slices off S128x128) (v : Wide) : Sq := extractStridedSlice S128x128 off v h

/-- A pair's lanes of the scaled input. -/
def lanesH (off : Fin 2 → ℕ) (h : S128x512.Slices off S128x128) (v : Wide) : SqH :=
  extractStridedSlice S128x128 off (truncf .bf16 v bitsLt_bf16_f32) h

/-- The first head's running sums on all of the pair's lanes. -/
def col0 (lt : SqM) (ap : Sq) : Sq := select lt ap (dynamicRotate 1 64#32 none ap rotates_S128x128_d1)
/-- The second head's. -/
def col1 (lt : SqM) (ap : Sq) : Sq := select lt (dynamicRotate 1 64#32 none ap rotates_S128x128_d1) ap

/-- The second head's lanes. -/
def ge (lt : SqM) : SqM := xori lt (constantI S128x128 1 1#1)

/-- The mask's number outside the triangle. -/
def masked : Ideal .f32 := Named.named κ "mask" 0xF149F2CA#32

/-- The decay from column to row inside the chunk. -/
def decay (lower : SqM) (col : Sq) (row : FVec Ideal S1x128 .f32) : Sq :=
  exp (select lower (subf col (broadcastTo S128x128 row broadcasts_S1x128_S128x128)) (broadcast S128x128 masked))
/-- The decay from row to column. -/
def decayT (upper : SqM) (col : Sq) (row : FVec Ideal S1x128 .f32) : Sq :=
  exp (select upper (subf (broadcastTo S128x128 row broadcasts_S1x128_S128x128) col) (broadcast S128x128 masked))

/-- One head's product of the first matrix (its lanes only) by the second. -/
def headDot (mine : SqM) (u v : SqH) : Sq :=
  matmul dot_S128x128_S128x128_S128x128_1_1_0_0_n_n none (select mine u (broadcast S128x128 (Scalar.ofBits .bf16 0x0000#16))) v (constant S128x128 .f32 0x00000000#32)

/-- One head's input gradient from the chunk itself. -/
def inInner (mT : Sq) (dyp : SqH) : Sq :=
  matmul dot_S128x128_S128x128_S128x128_1_0_0_1_n_n none (truncf .bf16 mT bitsLt_bf16_f32) dyp (constant S128x128 .f32 0x00000000#32)

/-- One head's net flow inside the chunk. -/
def netInner (dm g lm dmT mT : Sq) : FVec Ideal S128x1 .f32 :=
  subf (shapeCast S128x1 (multiReduction .add [1] S128 (mulf dm (mulf g lm)) 0x00000000#32 reduces_S128x128_S128 (.inl rfl) rfl) shapeCasts_S128_S128x1)
    (shapeCast S128x1 (multiReduction .add [1] S128 (mulf dmT mT) 0x00000000#32 reduces_S128x128_S128 (.inl rfl) rfl) shapeCasts_S128_S128x1)

/-- A pair's input gradient. -/
def inPair (lt : SqM) (outer a b : Sq) : Sq := shapeCast S128x128 (addf outer (select lt a b)) shapeCasts_S128x128_S128x128

/-- A pair's net flow. -/
def netPair (lt : SqM) (outer : Sq) (a b : FVec Ideal S128x1 .f32) : Sq :=
  shapeCast S128x128 (addf outer (select lt (broadcastTo S128x128 (shapeCast S128x1 a shapeCasts_S128x1_S128x1) broadcasts_S128x1_S128x128)
    (broadcastTo S128x128 (shapeCast S128x1 b shapeCasts_S128x1_S128x1) broadcasts_S128x1_S128x128))) shapeCasts_S128x128_S128x128

/-- A projection's gradient: the part through the states, and the chunk's own. -/
def projOut (outer s : Sq) (v : Sq) : Sq :=
  addf outer (matmul dot_S128x128_S128x128_S128x128_1_0_0_1_n_n none (truncf .bf16 s bitsLt_bf16_f32) (truncf .bf16 v bitsLt_bf16_f32) (constant S128x128 .f32 0x00000000#32))

/-- The sum of a group's eight heads' products, in the body's order. -/
def eight (a b c d e f g h : Sq) : Sq :=
  addf (addf (addf (addf (addf (addf (addf (addf (broadcast S128x128 (Scalar.ofBits .f32 0x00000000#32)) a) b) c) d) e) f) g) h

/-! ## The end of the body -/

/-- Each row's sum of the rows from it on. -/
def tailSum (upper : SqM) (v : Full) : Full :=
  addf (matmul dot_S128x128_S128x2048_S128x2048_1_0_0_1_n_n none (truncf .bf16 (sitofp .f32 (extui 32 upper natLt_1_32)) bitsLt_bf16_f32) (truncf .bf16 v bitsLt_bf16_f32) (constant S128x2048 .f32 0x00000000#32))
    (matmul dot_S128x128_S128x2048_S128x2048_1_0_0_1_n_n none (truncf .bf16 (sitofp .f32 (extui 32 upper natLt_1_32)) bitsLt_bf16_f32) (rest v) (constant S128x2048 .f32 0x00000000#32))

/-- The step size's gradient, on every lane of its head. -/
def stepGrad (bd : SqH) (upper : SqM) (dacs dxs x : Full) (a : FullRow) : Full :=
  addf (mulf (tailSum upper dacs) (broadcastTo S128x2048 (shapeCast S1x2048 a shapeCasts_S1x2048_S1x2048) broadcasts_S1x2048_S128x2048))
    (headsFull bd (mulf dxs x))

/-- The matrix that takes each head's first lane. -/
def pick : FVec Ideal S2048x128 .bf16 :=
  truncf .bf16 (sitofp .f32 (extui 32 (cmpi .eq (iota .tc S2048x128 32 [0] iota_S2048x128_d0_w32)
    (muli (iota .tc S2048x128 32 [1] iota_S2048x128_d1_w32) (broadcast S2048x128 64#32))) natLt_1_32)) bitsLt_bf16_f32

/-- A product with a selecting matrix, in three narrow terms. -/
def pickDot (z : Full) : Sq :=
  addf (addf (addf (broadcast S128x128 (Scalar.ofBits .f32 0x00000000#32))
    (matmul dot_S128x2048_S2048x128_S128x128_1_0_0_1_n_n none (truncf .bf16 z bitsLt_bf16_f32) pick (constant S128x128 .f32 0x00000000#32)))
    (matmul dot_S128x2048_S2048x128_S128x128_1_0_0_1_n_n none (rest z) pick (constant S128x128 .f32 0x00000000#32)))
    (matmul dot_S128x2048_S2048x128_S128x128_1_0_0_1_n_n none (rest (subf z (extf .f32 (truncf .bf16 z bitsLt_bf16_f32) bitsLt_bf16_f32))) pick (constant S128x128 .f32 0x00000000#32))

/-- The input's gradient. -/
def inGrad (dxs dt dy : Full) (d : FullRow) : Full :=
  addf (mulf dxs dt) (mulf dy (broadcastTo S128x2048 (shapeCast S1x2048 d shapeCasts_S1x2048_S1x2048) broadcasts_S1x2048_S128x2048))

/-- A row with a chunk's column sums added. -/
def addRows (old : FullRow) (v : Full) : FullRow :=
  addf (shapeCast S1x2048 old shapeCasts_S1x2048_S1x2048)
    (shapeCast S1x2048 (multiReduction .add [0] S2048 v 0x00000000#32 reduces_S128x2048_S2048 (.inl rfl) rfl) shapeCasts_S2048_S1x2048)

/-! ## From the blocks read to the blocks written -/

/-- The matrix that sums each block of 64 lanes. -/
def blockDiag : SqH :=
  k0_pay29 k0_pay25 (iota .tc S128x128 32 [1] iota_S128x128_d1_w32) 64#32 k0_pay26 k0_pay27 k0_pay28

/-- The scaled input of a group. -/
def scaled (x dt : Wide) : Wide := mulf x (shapeCast S128x512 dt shapeCasts_S128x512_S128x512)

/-- A group's running sums as read. -/
def sums (acs : Wide) : Wide := shapeCast S128x512 acs shapeCasts_S128x512_S128x512

/-- One head's row of running sums as read. -/
def row (r : FVec Ideal S1x128 .f32) : FVec Ideal S1x128 .f32 := shapeCast S1x128 r shapeCasts_S1x128_S1x128

/-- One head's products of arriving gradient and input, with the decay. -/
def headS (mine : SqM) (col : Sq) (r : FVec Ideal S1x128 .f32) (xp yp : SqH) : Sq :=
  mulf (headDot mine yp xp) (decay k0_pay31 col r)
/-- The same transposed. -/
def headST (mine : SqM) (col : Sq) (r : FVec Ideal S1x128 .f32) (xp yp : SqH) : Sq :=
  mulf (headDot mine xp yp) (decayT k0_pay32 col r)
/-- The transposed `C Bᵀ` with one head's decay. -/
def headMT (bg cg : Sq) (col : Sq) (r : FVec Ideal S1x128 .f32) : Sq := mulf (gram bg cg) (decayT k0_pay32 col r)
/-- One head's net flow. -/
def headNet (mine : SqM) (bg cg : Sq) (col : Sq) (r : FVec Ideal S1x128 .f32) (xp yp : SqH) : FVec Ideal S128x1 .f32 :=
  netInner (headDot mine yp xp) (gram cg bg) (decay k0_pay31 col r) (headDot mine xp yp) (headMT bg cg col r)

section Pair
variable (off : Fin 2 → ℕ) (h : S128x512.Slices off S128x128)

/-- A pair's running sums, scaled input and arriving gradient. -/
def pairA (acs : Wide) : Sq := lanes off h (sums acs)
@[inherit_doc pairA] def pairX (x dt : Wide) : SqH := lanesH off h (scaled x dt)
@[inherit_doc pairA] def pairY (dy : Wide) : SqH := truncf .bf16 (lanes off h dy) bitsLt_bf16_f32

/-- A pair's input gradient. -/
def pairIn (bg cg : Sq) (acs dh dy : Wide) (r0 r1 : FVec Ideal S1x128 .f32) : Sq :=
  inPair k0_pay30 (lanes off h (inOuter bg (sums acs) dh))
    (inInner (headMT bg cg (col0 k0_pay30 (pairA off h acs)) (row r0)) (pairY off h dy))
    (inInner (headMT bg cg (col1 k0_pay30 (pairA off h acs)) (row r1)) (pairY off h dy))

/-- A pair's net flow. -/
def pairNet (bg cg : Sq) (x dt acs hin dh dy : Wide) (r0 r1 : FVec Ideal S1x128 .f32) : Sq :=
  netPair k0_pay30 (lanes off h (netOuter blockDiag k0_pay33 bg cg (scaled x dt) (sums acs) hin dy dh))
    (headNet k0_pay30 bg cg (col0 k0_pay30 (pairA off h acs)) (row r0) (pairX off h x dt) (pairY off h dy))
    (headNet (ge k0_pay30) bg cg (col1 k0_pay30 (pairA off h acs)) (row r1) (pairX off h x dt) (pairY off h dy))

/-- The first head's decayed products. -/
def pairS0 (x dt acs dy : Wide) (r : FVec Ideal S1x128 .f32) : Sq :=
  headS k0_pay30 (col0 k0_pay30 (pairA off h acs)) (row r) (pairX off h x dt) (pairY off h dy)
/-- The second head's. -/
def pairS1 (x dt acs dy : Wide) (r : FVec Ideal S1x128 .f32) : Sq :=
  headS (ge k0_pay30) (col1 k0_pay30 (pairA off h acs)) (row r) (pairX off h x dt) (pairY off h dy)
/-- The first head's, transposed. -/
def pairT0 (x dt acs dy : Wide) (r : FVec Ideal S1x128 .f32) : Sq :=
  headST k0_pay30 (col0 k0_pay30 (pairA off h acs)) (row r) (pairX off h x dt) (pairY off h dy)
/-- The second head's, transposed. -/
def pairT1 (x dt acs dy : Wide) (r : FVec Ideal S1x128 .f32) : Sq :=
  headST (ge k0_pay30) (col1 k0_pay30 (pairA off h acs)) (row r) (pairX off h x dt) (pairY off h dy)

end Pair

/-- A group's gradient of `C`. -/
def groupC (bg : Sq) (x dt acs hin dy : Wide) (r : Fin 8 → FVec Ideal S1x128 .f32) : Sq :=
  projOut (cOuter (sums acs) hin dy) (eight
    (pairS0 ![0, 0] slices_S128x512_o0_0_S128x128 x dt acs dy (r 0)) (pairS1 ![0, 0] slices_S128x512_o0_0_S128x128 x dt acs dy (r 1))
    (pairS0 ![0, 128] slices_S128x512_o0_128_S128x128 x dt acs dy (r 2)) (pairS1 ![0, 128] slices_S128x512_o0_128_S128x128 x dt acs dy (r 3))
    (pairS0 ![0, 256] slices_S128x512_o0_256_S128x128 x dt acs dy (r 4)) (pairS1 ![0, 256] slices_S128x512_o0_256_S128x128 x dt acs dy (r 5))
    (pairS0 ![0, 384] slices_S128x512_o0_384_S128x128 x dt acs dy (r 6)) (pairS1 ![0, 384] slices_S128x512_o0_384_S128x128 x dt acs dy (r 7))) bg

/-- A group's gradient of `B`. -/
def groupB (cg : Sq) (x dt acs dh dy : Wide) (r : Fin 8 → FVec Ideal S1x128 .f32) : Sq :=
  projOut (bOuter (scaled x dt) (sums acs) dh) (eight
    (pairT0 ![0, 0] slices_S128x512_o0_0_S128x128 x dt acs dy (r 0)) (pairT1 ![0, 0] slices_S128x512_o0_0_S128x128 x dt acs dy (r 1))
    (pairT0 ![0, 128] slices_S128x512_o0_128_S128x128 x dt acs dy (r 2)) (pairT1 ![0, 128] slices_S128x512_o0_128_S128x128 x dt acs dy (r 3))
    (pairT0 ![0, 256] slices_S128x512_o0_256_S128x128 x dt acs dy (r 4)) (pairT1 ![0, 256] slices_S128x512_o0_256_S128x128 x dt acs dy (r 5))
    (pairT0 ![0, 384] slices_S128x512_o0_384_S128x128 x dt acs dy (r 6)) (pairT1 ![0, 384] slices_S128x512_o0_384_S128x128 x dt acs dy (r 7))) cg

end

end Scan.Body
-- ==== Proof.Scan.Pieces.lean ====
/- The blocks one grid point reads, and the pieces it writes, as lists of stores over those blocks. -/
module

public import proofs.«01_k».proof.Proof.Scan.Body
public import Idealize.ShloMosaic.Lib.Pipeline.Value

@[expose] public section

namespace Scan.Body

open Idealize.ShloMosaic Cert.KernelIdeal
open Cert.KernelIdeal.Facts₀ Cert.KernelIdeal.Facts

noncomputable section

/-- What one grid point's body reads: each group's blocks, each head's row of running sums, the full blocks, and the two running rows. -/
structure Blocks where
  x : Fin 4 → Wide
  b : Fin 4 → Sq
  c : Fin 4 → Sq
  dt : Fin 4 → Wide
  acs : Fin 4 → Wide
  hin : Fin 4 → FVec Ideal S1x128x512 .f32
  dh : Fin 4 → Wide
  dy : Fin 4 → Wide
  rows : Fin 32 → FVec Ideal S1x128 .f32
  xF : Full
  dtF : Full
  dyF : Full
  aF : FullRow
  dF : FullRow
  oldA : FullRow
  oldD : FullRow

namespace Blocks

variable (R : Blocks)

/-- A group's entering states as a matrix. -/
def hinW (g : Fin 4) : Wide := shapeCast S128x512 (R.hin g) shapeCasts_S1x128x512_S128x512

/-- The rows of one group's heads. -/
def rowsOf (g : Fin 4) (k : Fin 8) : FVec Ideal S1x128 .f32 := R.rows ⟨8 * g.val + k.val, by omega⟩

/-- One pair's store of the input gradient. -/
def inP (g : Fin 4) (off : Fin 2 → ℕ) (h : S128x512.Slices off S128x128) (k0 k1 : Fin 8) : Sq :=
  pairIn off h (R.b g) (R.c g) (R.acs g) (R.dh g) (R.dy g) (R.rowsOf g k0) (R.rowsOf g k1)
/-- One pair's store of the net flow. -/
def netP (g : Fin 4) (off : Fin 2 → ℕ) (h : S128x512.Slices off S128x128) (k0 k1 : Fin 8) : Sq :=
  pairNet off h (R.b g) (R.c g) (R.x g) (R.dt g) (R.acs g) (R.hinW g) (R.dh g) (R.dy g) (R.rowsOf g k0) (R.rowsOf g k1)
/-- One group's store of the gradient of `C`. -/
def cP (g : Fin 4) : Sq := groupC (R.b g) (R.x g) (R.dt g) (R.acs g) (R.hinW g) (R.dy g) (R.rowsOf g)
/-- One group's store of the gradient of `B`. -/
def bP (g : Fin 4) : Sq := groupB (R.c g) (R.x g) (R.dt g) (R.acs g) (R.dh g) (R.dy g) (R.rowsOf g)
/-- One group's store of the state's gradient. -/
def stP (g : Fin 4) : Wide := stateOut (R.c g) (sums (R.acs g)) (R.dy g) (R.dh g)

/-- The stores of the input gradient, last first. -/
def inL : List (View.Piece (Elt Ideal) S128x2048 .f32) := [
  ⟨Rect.unit ![0, 1920] S128x128.size inb_S128x2048_S128x128_0_1920, R.inP 3 ![0, 384] slices_S128x512_o0_384_S128x128 6 7⟩,
  ⟨Rect.unit ![0, 1792] S128x128.size inb_S128x2048_S128x128_0_1792, R.inP 3 ![0, 256] slices_S128x512_o0_256_S128x128 4 5⟩,
  ⟨Rect.unit ![0, 1664] S128x128.size inb_S128x2048_S128x128_0_1664, R.inP 3 ![0, 128] slices_S128x512_o0_128_S128x128 2 3⟩,
  ⟨Rect.unit ![0, 1536] S128x128.size inb_S128x2048_S128x128_0_1536, R.inP 3 ![0, 0] slices_S128x512_o0_0_S128x128 0 1⟩,
  ⟨Rect.unit ![0, 1408] S128x128.size inb_S128x2048_S128x128_0_1408, R.inP 2 ![0, 384] slices_S128x512_o0_384_S128x128 6 7⟩,
  ⟨Rect.unit ![0, 1280] S128x128.size inb_S128x2048_S128x128_0_1280, R.inP 2 ![0, 256] slices_S128x512_o0_256_S128x128 4 5⟩,
  ⟨Rect.unit ![0, 1152] S128x128.size inb_S128x2048_S128x128_0_1152, R.inP 2 ![0, 128] slices_S128x512_o0_128_S128x128 2 3⟩,
  ⟨Rect.unit ![0, 1024] S128x128.size inb_S128x2048_S128x128_0_1024, R.inP 2 ![0, 0] slices_S128x512_o0_0_S128x128 0 1⟩,
  ⟨Rect.unit ![0, 896] S128x128.size inb_S128x2048_S128x128_0_896, R.inP 1 ![0, 384] slices_S128x512_o0_384_S128x128 6 7⟩,
  ⟨Rect.unit ![0, 768] S128x128.size inb_S128x2048_S128x128_0_768, R.inP 1 ![0, 256] slices_S128x512_o0_256_S128x128 4 5⟩,
  ⟨Rect.unit ![0, 640] S128x128.size inb_S128x2048_S128x128_0_640, R.inP 1 ![0, 128] slices_S128x512_o0_128_S128x128 2 3⟩,
  ⟨Rect.unit ![0, 512] S128x128.size inb_S128x2048_S128x128_0_512, R.inP 1 ![0, 0] slices_S128x512_o0_0_S128x128 0 1⟩,
  ⟨Rect.unit ![0, 384] S128x128.size inb_S128x2048_S128x128_0_384, R.inP 0 ![0, 384] slices_S128x512_o0_384_S128x128 6 7⟩,
  ⟨Rect.unit ![0, 256] S128x128.size inb_S128x2048_S128x128_0_256, R.inP 0 ![0, 256] slices_S128x512_o0_256_S128x128 4 5⟩,
  ⟨Rect.unit ![0, 128] S128x128.size inb_S128x2048_S128x128_0_128, R.inP 0 ![0, 128] slices_S128x512_o0_128_S128x128 2 3⟩,
  ⟨Rect.unit ![0, 0] S128x128.size inb_S128x2048_S128x128_0_0, R.inP 0 ![0, 0] slices_S128x512_o0_0_S128x128 0 1⟩]

/-- The stores of the net flow, last first. -/
def netL : List (View.Piece (Elt Ideal) S128x2048 .f32) := [
  ⟨Rect.unit ![0, 1920] S128x128.size inb_S128x2048_S128x128_0_1920, R.netP 3 ![0, 384] slices_S128x512_o0_384_S128x128 6 7⟩,
  ⟨Rect.unit ![0, 1792] S128x128.size inb_S128x2048_S128x128_0_1792, R.netP 3 ![0, 256] slices_S128x512_o0_256_S128x128 4 5⟩,
  ⟨Rect.unit ![0, 1664] S128x128.size inb_S128x2048_S128x128_0_1664, R.netP 3 ![0, 128] slices_S128x512_o0_128_S128x128 2 3⟩,
  ⟨Rect.unit ![0, 1536] S128x128.size inb_S128x2048_S128x128_0_1536, R.netP 3 ![0, 0] slices_S128x512_o0_0_S128x128 0 1⟩,
  ⟨Rect.unit ![0, 1408] S128x128.size inb_S128x2048_S128x128_0_1408, R.netP 2 ![0, 384] slices_S128x512_o0_384_S128x128 6 7⟩,
  ⟨Rect.unit ![0, 1280] S128x128.size inb_S128x2048_S128x128_0_1280, R.netP 2 ![0, 256] slices_S128x512_o0_256_S128x128 4 5⟩,
  ⟨Rect.unit ![0, 1152] S128x128.size inb_S128x2048_S128x128_0_1152, R.netP 2 ![0, 128] slices_S128x512_o0_128_S128x128 2 3⟩,
  ⟨Rect.unit ![0, 1024] S128x128.size inb_S128x2048_S128x128_0_1024, R.netP 2 ![0, 0] slices_S128x512_o0_0_S128x128 0 1⟩,
  ⟨Rect.unit ![0, 896] S128x128.size inb_S128x2048_S128x128_0_896, R.netP 1 ![0, 384] slices_S128x512_o0_384_S128x128 6 7⟩,
  ⟨Rect.unit ![0, 768] S128x128.size inb_S128x2048_S128x128_0_768, R.netP 1 ![0, 256] slices_S128x512_o0_256_S128x128 4 5⟩,
  ⟨Rect.unit ![0, 640] S128x128.size inb_S128x2048_S128x128_0_640, R.netP 1 ![0, 128] slices_S128x512_o0_128_S128x128 2 3⟩,
  ⟨Rect.unit ![0, 512] S128x128.size inb_S128x2048_S128x128_0_512, R.netP 1 ![0, 0] slices_S128x512_o0_0_S128x128 0 1⟩,
  ⟨Rect.unit ![0, 384] S128x128.size inb_S128x2048_S128x128_0_384, R.netP 0 ![0, 384] slices_S128x512_o0_384_S128x128 6 7⟩,
  ⟨Rect.unit ![0, 256] S128x128.size inb_S128x2048_S128x128_0_256, R.netP 0 ![0, 256] slices_S128x512_o0_256_S128x128 4 5⟩,
  ⟨Rect.unit ![0, 128] S128x128.size inb_S128x2048_S128x128_0_128, R.netP 0 ![0, 128] slices_S128x512_o0_128_S128x128 2 3⟩,
  ⟨Rect.unit ![0, 0] S128x128.size inb_S128x2048_S128x128_0_0, R.netP 0 ![0, 0] slices_S128x512_o0_0_S128x128 0 1⟩]

/-- The stores of the state's gradient, last first. -/
def stL : List (View.Piece (Elt Ideal) S128x2048 .f32) := [
  ⟨Rect.unit ![0, 1536] S128x512.size inb_S128x2048_S128x512_0_1536, R.stP 3⟩,
  ⟨Rect.unit ![0, 1024] S128x512.size inb_S128x2048_S128x512_0_1024, R.stP 2⟩,
  ⟨Rect.unit ![0, 512] S128x512.size inb_S128x2048_S128x512_0_512, R.stP 1⟩,
  ⟨Rect.unit ![0, 0] S128x512.size inb_S128x2048_S128x512_0_0, R.stP 0⟩]

/-- The step size to every lane. -/
def dtC : Full := shapeCast S128x2048 R.dtF shapeCasts_S128x2048_S128x2048

/-- The stores of the first output, last first. -/
def outL (dxs : Full) : List (View.Piece (Elt Ideal) S128x3072 .f32) := [
  ⟨Rect.unit ![0, 0] S128x2048.size inb_S128x3072_S128x2048_0_0, inGrad dxs R.dtC R.dyF R.dF⟩,
  ⟨Rect.unit ![0, 2432] S128x128.size inb_S128x3072_S128x128_0_2432, R.bP 3⟩,
  ⟨Rect.unit ![0, 2944] S128x128.size inb_S128x3072_S128x128_0_2944, R.cP 3⟩,
  ⟨Rect.unit ![0, 2304] S128x128.size inb_S128x3072_S128x128_0_2304, R.bP 2⟩,
  ⟨Rect.unit ![0, 2816] S128x128.size inb_S128x3072_S128x128_0_2816, R.cP 2⟩,
  ⟨Rect.unit ![0, 2176] S128x128.size inb_S128x3072_S128x128_0_2176, R.bP 1⟩,
  ⟨Rect.unit ![0, 2688] S128x128.size inb_S128x3072_S128x128_0_2688, R.cP 1⟩,
  ⟨Rect.unit ![0, 2048] S128x128.size inb_S128x3072_S128x128_0_2048, R.bP 0⟩,
  ⟨Rect.unit ![0, 2560] S128x128.size inb_S128x3072_S128x128_0_2560, R.cP 0⟩]

/-- The step size's gradient as stored. -/
def stepP (dacs dxs : Full) : Sq := pickDot (stepGrad blockDiag Gen.k0_pay32 dacs dxs R.xF R.aF)
/-- The running gradient of `a`. -/
def aP (dacs : Full) : FullRow := addRows R.oldA (mulf (tailSum Gen.k0_pay32 dacs) R.dtC)
/-- The running gradient of `d`, before the heads are summed. -/
def dP : FullRow := addRows R.oldD (mulf R.dyF R.xF)

end Blocks

end

end Scan.Body
-- ==== Proof.Scan.FoundA.lean ====
/- The stores found for one grid point of case A: the lists of `Pieces.lean` at the blocks this case reads. -/
module

public import proofs.«01_k».proof.Proof.Gen.KernelIdeal.Frame
public import proofs.«01_k».proof.Proof.Scan.Pieces

@[expose] public section

namespace Scan.Body

open Idealize.ShloMosaic Idealize.ShloMosaic.TcCoe Cert.KernelIdeal Cert.KernelIdeal.Gen

noncomputable section

variable (c : Dev nD) (i : grid0.Coords)
  (arg1 : Memref sig .tc .vmem S128x3072 .f32) (harg1 : arg1.IsWhole)
  (arg2 : Memref sig .tc .vmem S128x2048 .f32) (harg2 : arg2.IsWhole)
  (arg3 : Memref sig .tc .vmem S128x2048 .f32) (harg3 : arg3.IsWhole)
  (arg4 : Memref sig .tc .vmem S32x128 .f32) (harg4 : arg4.IsWhole)
  (arg5 : Memref sig .tc .vmem S1x2048 .f32) (harg5 : arg5.IsWhole)
  (arg6 : Memref sig .tc .vmem S1x2048 .f32) (harg6 : arg6.IsWhole)
  (arg7 : Memref sig .tc .vmem S1x128x2048 .f32) (harg7 : arg7.IsWhole)
  (arg8 : Memref sig .tc .vmem S128x2048 .f32) (harg8 : arg8.IsWhole)
  (arg9 : Memref sig .tc .vmem S128x3072 .f32) (harg9 : arg9.IsWhole)
  (arg10 : Memref sig .tc .vmem S128x128 .f32) (harg10 : arg10.IsWhole)
  (arg11 : Memref sig .tc .vmem S1x2048 .f32) (harg11 : arg11.IsWhole)
  (arg12 : Memref sig .tc .vmem S1x2048 .f32) (harg12 : arg12.IsWhole)
  (arg13 : Memref sig .tc .vmem S128x2048 .f32) (harg13 : arg13.IsWhole)
  (arg14 : Memref sig .tc .vmem S128x2048 .f32) (harg14 : arg14.IsWhole)
  (arg15 : Memref sig .tc .vmem S128x2048 .f32) (harg15 : arg15.IsWhole)
  (hc0 : cond0_0 i) (hc1 : ¬cond0_1 i)
  (x0 : Vec Ideal S128x3072 .f32) (x1 x2 : Vec Ideal S128x2048 .f32) (x3 : Vec Ideal S32x128 .f32) (x4 x5 : Vec Ideal S1x2048 .f32) (x6 : Vec Ideal S1x128x2048 .f32) (x7 : Vec Ideal S128x2048 .f32)

/-- The state's gradient this case reads for group 0: zeros, the groups before already replaced. -/
def dhA0 : Wide := arg13.view.readCov ([⟨Rect.unit ![0, 0] S128x2048.size inb_S128x2048_S128x2048_0_0, (k0_pay22 (F := Ideal))⟩] : List (View.Piece (Elt Ideal) S128x2048 .f32)) (Rect.unit (s := S128x2048) ![0, 0] S128x512.size inb_S128x2048_S128x512_0_0).toLoadRect
/-- The state's gradient this case reads for group 1: zeros, the groups before already replaced. -/
def dhA1 : Wide := arg13.view.readCov ([⟨Rect.unit ![0, 0] S128x512.size inb_S128x2048_S128x512_0_0, stateOut (View.readAt (Elt Ideal) arg1.view (Rect.unit (s := S128x3072) ![0, 2560] S128x128.size inb_S128x3072_S128x128_0_2560).toLoadRect (harg1.unread x0)) (sums (View.readAt (Elt Ideal) arg3.view (Rect.unit (s := S128x2048) ![0, 0] S128x512.size inb_S128x2048_S128x512_0_0).toLoadRect (harg3.unread x2))) (View.readAt (Elt Ideal) arg8.view (Rect.unit (s := S128x2048) ![0, 0] S128x512.size inb_S128x2048_S128x512_0_0).toLoadRect (harg8.unread x7)) (dhA0 arg13)⟩, ⟨Rect.unit ![0, 0] S128x2048.size inb_S128x2048_S128x2048_0_0, (k0_pay22 (F := Ideal))⟩] : List (View.Piece (Elt Ideal) S128x2048 .f32)) (Rect.unit (s := S128x2048) ![0, 512] S128x512.size inb_S128x2048_S128x512_0_512).toLoadRect
/-- The state's gradient this case reads for group 2: zeros, the groups before already replaced. -/
def dhA2 : Wide := arg13.view.readCov ([⟨Rect.unit ![0, 512] S128x512.size inb_S128x2048_S128x512_0_512, stateOut (View.readAt (Elt Ideal) arg1.view (Rect.unit (s := S128x3072) ![0, 2688] S128x128.size inb_S128x3072_S128x128_0_2688).toLoadRect (harg1.unread x0)) (sums (View.readAt (Elt Ideal) arg3.view (Rect.unit (s := S128x2048) ![0, 512] S128x512.size inb_S128x2048_S128x512_0_512).toLoadRect (harg3.unread x2))) (View.readAt (Elt Ideal) arg8.view (Rect.unit (s := S128x2048) ![0, 512] S128x512.size inb_S128x2048_S128x512_0_512).toLoadRect (harg8.unread x7)) (dhA1 arg1 harg1 arg3 harg3 arg8 harg8 arg13 x0 x2 x7)⟩, ⟨Rect.unit ![0, 0] S128x512.size inb_S128x2048_S128x512_0_0, stateOut (View.readAt (Elt Ideal) arg1.view (Rect.unit (s := S128x3072) ![0, 2560] S128x128.size inb_S128x3072_S128x128_0_2560).toLoadRect (harg1.unread x0)) (sums (View.readAt (Elt Ideal) arg3.view (Rect.unit (s := S128x2048) ![0, 0] S128x512.size inb_S128x2048_S128x512_0_0).toLoadRect (harg3.unread x2))) (View.readAt (Elt Ideal) arg8.view (Rect.unit (s := S128x2048) ![0, 0] S128x512.size inb_S128x2048_S128x512_0_0).toLoadRect (harg8.unread x7)) (dhA0 arg13)⟩, ⟨Rect.unit ![0, 0] S128x2048.size inb_S128x2048_S128x2048_0_0, (k0_pay22 (F := Ideal))⟩] : List (View.Piece (Elt Ideal) S128x2048 .f32)) (Rect.unit (s := S128x2048) ![0, 1024] S128x512.size inb_S128x2048_S128x512_0_1024).toLoadRect
/-- The state's gradient this case reads for group 3: zeros, the groups before already replaced. -/
def dhA3 : Wide := arg13.view.readCov ([⟨Rect.unit ![0, 1024] S128x512.size inb_S128x2048_S128x512_0_1024, stateOut (View.readAt (Elt Ideal) arg1.view (Rect.unit (s := S128x3072) ![0, 2816] S128x128.size inb_S128x3072_S128x128_0_2816).toLoadRect (harg1.unread x0)) (sums (View.readAt (Elt Ideal) arg3.view (Rect.unit (s := S128x2048) ![0, 1024] S128x512.size inb_S128x2048_S128x512_0_1024).toLoadRect (harg3.unread x2))) (View.readAt (Elt Ideal) arg8.view (Rect.unit (s := S128x2048) ![0, 1024] S128x512.size inb_S128x2048_S128x512_0_1024).toLoadRect (harg8.unread x7)) (dhA2 arg1 harg1 arg3 harg3 arg8 harg8 arg13 x0 x2 x7)⟩, ⟨Rect.unit ![0, 512] S128x512.size inb_S128x2048_S128x512_0_512, stateOut (View.readAt (Elt Ideal) arg1.view (Rect.unit (s := S128x3072) ![0, 2688] S128x128.size inb_S128x3072_S128x128_0_2688).toLoadRect (harg1.unread x0)) (sums (View.readAt (Elt Ideal) arg3.view (Rect.unit (s := S128x2048) ![0, 512] S128x512.size inb_S128x2048_S128x512_0_512).toLoadRect (harg3.unread x2))) (View.readAt (Elt Ideal) arg8.view (Rect.unit (s := S128x2048) ![0, 512] S128x512.size inb_S128x2048_S128x512_0_512).toLoadRect (harg8.unread x7)) (dhA1 arg1 harg1 arg3 harg3 arg8 harg8 arg13 x0 x2 x7)⟩, ⟨Rect.unit ![0, 0] S128x512.size inb_S128x2048_S128x512_0_0, stateOut (View.readAt (Elt Ideal) arg1.view (Rect.unit (s := S128x3072) ![0, 2560] S128x128.size inb_S128x3072_S128x128_0_2560).toLoadRect (harg1.unread x0)) (sums (View.readAt (Elt Ideal) arg3.view (Rect.unit (s := S128x2048) ![0, 0] S128x512.size inb_S128x2048_S128x512_0_0).toLoadRect (harg3.unread x2))) (View.readAt (Elt Ideal) arg8.view (Rect.unit (s := S128x2048) ![0, 0] S128x512.size inb_S128x2048_S128x512_0_0).toLoadRect (harg8.unread x7)) (dhA0 arg13)⟩, ⟨Rect.unit ![0, 0] S128x2048.size inb_S128x2048_S128x2048_0_0, (k0_pay22 (F := Ideal))⟩] : List (View.Piece (Elt Ideal) S128x2048 .f32)) (Rect.unit (s := S128x2048) ![0, 1536] S128x512.size inb_S128x2048_S128x512_0_1536).toLoadRect

/-- The blocks this case reads. -/
def blocksA : Blocks where
  x := ![
    View.readAt (Elt Ideal) arg1.view (Rect.unit (s := S128x3072) ![0, 0] S128x512.size inb_S128x3072_S128x512_0_0).toLoadRect (harg1.unread x0),
    View.readAt (Elt Ideal) arg1.view (Rect.unit (s := S128x3072) ![0, 512] S128x512.size inb_S128x3072_S128x512_0_512).toLoadRect (harg1.unread x0),
    View.readAt (Elt Ideal) arg1.view (Rect.unit (s := S128x3072) ![0, 1024] S128x512.size inb_S128x3072_S128x512_0_1024).toLoadRect (harg1.unread x0),
    View.readAt (Elt Ideal) arg1.view (Rect.unit (s := S128x3072) ![0, 1536] S128x512.size inb_S128x3072_S128x512_0_1536).toLoadRect (harg1.unread x0)]
  b := ![
    View.readAt (Elt Ideal) arg1.view (Rect.unit (s := S128x3072) ![0, 2048] S128x128.size inb_S128x3072_S128x128_0_2048).toLoadRect (harg1.unread x0),
    View.readAt (Elt Ideal) arg1.view (Rect.unit (s := S128x3072) ![0, 2176] S128x128.size inb_S128x3072_S128x128_0_2176).toLoadRect (harg1.unread x0),
    View.readAt (Elt Ideal) arg1.view (Rect.unit (s := S128x3072) ![0, 2304] S128x128.size inb_S128x3072_S128x128_0_2304).toLoadRect (harg1.unread x0),
    View.readAt (Elt Ideal) arg1.view (Rect.unit (s := S128x3072) ![0, 2432] S128x128.size inb_S128x3072_S128x128_0_2432).toLoadRect (harg1.unread x0)]
  c := ![
    View.readAt (Elt Ideal) arg1.view (Rect.unit (s := S128x3072) ![0, 2560] S128x128.size inb_S128x3072_S128x128_0_2560).toLoadRect (harg1.unread x0),
    View.readAt (Elt Ideal) arg1.view (Rect.unit (s := S128x3072) ![0, 2688] S128x128.size inb_S128x3072_S128x128_0_2688).toLoadRect (harg1.unread x0),
    View.readAt (Elt Ideal) arg1.view (Rect.unit (s := S128x3072) ![0, 2816] S128x128.size inb_S128x3072_S128x128_0_2816).toLoadRect (harg1.unread x0),
    View.readAt (Elt Ideal) arg1.view (Rect.unit (s := S128x3072) ![0, 2944] S128x128.size inb_S128x3072_S128x128_0_2944).toLoadRect (harg1.unread x0)]
  dt := ![
    View.readAt (Elt Ideal) arg2.view (Rect.unit (s := S128x2048) ![0, 0] S128x512.size inb_S128x2048_S128x512_0_0).toLoadRect (harg2.unread x1),
    View.readAt (Elt Ideal) arg2.view (Rect.unit (s := S128x2048) ![0, 512] S128x512.size inb_S128x2048_S128x512_0_512).toLoadRect (harg2.unread x1),
    View.readAt (Elt Ideal) arg2.view (Rect.unit (s := S128x2048) ![0, 1024] S128x512.size inb_S128x2048_S128x512_0_1024).toLoadRect (harg2.unread x1),
    View.readAt (Elt Ideal) arg2.view (Rect.unit (s := S128x2048) ![0, 1536] S128x512.size inb_S128x2048_S128x512_0_1536).toLoadRect (harg2.unread x1)]
  acs := ![
    View.readAt (Elt Ideal) arg3.view (Rect.unit (s := S128x2048) ![0, 0] S128x512.size inb_S128x2048_S128x512_0_0).toLoadRect (harg3.unread x2),
    View.readAt (Elt Ideal) arg3.view (Rect.unit (s := S128x2048) ![0, 512] S128x512.size inb_S128x2048_S128x512_0_512).toLoadRect (harg3.unread x2),
    View.readAt (Elt Ideal) arg3.view (Rect.unit (s := S128x2048) ![0, 1024] S128x512.size inb_S128x2048_S128x512_0_1024).toLoadRect (harg3.unread x2),
    View.readAt (Elt Ideal) arg3.view (Rect.unit (s := S128x2048) ![0, 1536] S128x512.size inb_S128x2048_S128x512_0_1536).toLoadRect (harg3.unread x2)]
  hin := ![
    View.readAt (Elt Ideal) arg7.view (Rect.unit (s := S1x128x2048) ![0, 0, 0] S1x128x512.size inb_S1x128x2048_S1x128x512_0_0_0).toLoadRect (harg7.unread x6),
    View.readAt (Elt Ideal) arg7.view (Rect.unit (s := S1x128x2048) ![0, 0, 512] S1x128x512.size inb_S1x128x2048_S1x128x512_0_0_512).toLoadRect (harg7.unread x6),
    View.readAt (Elt Ideal) arg7.view (Rect.unit (s := S1x128x2048) ![0, 0, 1024] S1x128x512.size inb_S1x128x2048_S1x128x512_0_0_1024).toLoadRect (harg7.unread x6),
    View.readAt (Elt Ideal) arg7.view (Rect.unit (s := S1x128x2048) ![0, 0, 1536] S1x128x512.size inb_S1x128x2048_S1x128x512_0_0_1536).toLoadRect (harg7.unread x6)]
  dh := ![
    dhA0 arg13,
    dhA1 arg1 harg1 arg3 harg3 arg8 harg8 arg13 x0 x2 x7,
    dhA2 arg1 harg1 arg3 harg3 arg8 harg8 arg13 x0 x2 x7,
    dhA3 arg1 harg1 arg3 harg3 arg8 harg8 arg13 x0 x2 x7]
  dy := ![
    View.readAt (Elt Ideal) arg8.view (Rect.unit (s := S128x2048) ![0, 0] S128x512.size inb_S128x2048_S128x512_0_0).toLoadRect (harg8.unread x7),
    View.readAt (Elt Ideal) arg8.view (Rect.unit (s := S128x2048) ![0, 512] S128x512.size inb_S128x2048_S128x512_0_512).toLoadRect (harg8.unread x7),
    View.readAt (Elt Ideal) arg8.view (Rect.unit (s := S128x2048) ![0, 1024] S128x512.size inb_S128x2048_S128x512_0_1024).toLoadRect (harg8.unread x7),
    View.readAt (Elt Ideal) arg8.view (Rect.unit (s := S128x2048) ![0, 1536] S128x512.size inb_S128x2048_S128x512_0_1536).toLoadRect (harg8.unread x7)]
  rows := ![
    View.readAt (Elt Ideal) arg4.view (Rect.unit (s := S32x128) ![0, 0] S1x128.size inb_S32x128_S1x128_0_0).toLoadRect (harg4.unread x3),
    View.readAt (Elt Ideal) arg4.view (Rect.unit (s := S32x128) ![1, 0] S1x128.size inb_S32x128_S1x128_1_0).toLoadRect (harg4.unread x3),
    View.readAt (Elt Ideal) arg4.view (Rect.unit (s := S32x128) ![2, 0] S1x128.size inb_S32x128_S1x128_2_0).toLoadRect (harg4.unread x3),
    View.readAt (Elt Ideal) arg4.view (Rect.unit (s := S32x128) ![3, 0] S1x128.size inb_S32x128_S1x128_3_0).toLoadRect (harg4.unread x3),
    View.readAt (Elt Ideal) arg4.view (Rect.unit (s := S32x128) ![4, 0] S1x128.size inb_S32x128_S1x128_4_0).toLoadRect (harg4.unread x3),
    View.readAt (Elt Ideal) arg4.view (Rect.unit (s := S32x128) ![5, 0] S1x128.size inb_S32x128_S1x128_5_0).toLoadRect (harg4.unread x3),
    View.readAt (Elt Ideal) arg4.view (Rect.unit (s := S32x128) ![6, 0] S1x128.size inb_S32x128_S1x128_6_0).toLoadRect (harg4.unread x3),
    View.readAt (Elt Ideal) arg4.view (Rect.unit (s := S32x128) ![7, 0] S1x128.size inb_S32x128_S1x128_7_0).toLoadRect (harg4.unread x3),
    View.readAt (Elt Ideal) arg4.view (Rect.unit (s := S32x128) ![8, 0] S1x128.size inb_S32x128_S1x128_8_0).toLoadRect (harg4.unread x3),
    View.readAt (Elt Ideal) arg4.view (Rect.unit (s := S32x128) ![9, 0] S1x128.size inb_S32x128_S1x128_9_0).toLoadRect (harg4.unread x3),
    View.readAt (Elt Ideal) arg4.view (Rect.unit (s := S32x128) ![10, 0] S1x128.size inb_S32x128_S1x128_10_0).toLoadRect (harg4.unread x3),
    View.readAt (Elt Ideal) arg4.view (Rect.unit (s := S32x128) ![11, 0] S1x128.size inb_S32x128_S1x128_11_0).toLoadRect (harg4.unread x3),
    View.readAt (Elt Ideal) arg4.view (Rect.unit (s := S32x128) ![12, 0] S1x128.size inb_S32x128_S1x128_12_0).toLoadRect (harg4.unread x3),
    View.readAt (Elt Ideal) arg4.view (Rect.unit (s := S32x128) ![13, 0] S1x128.size inb_S32x128_S1x128_13_0).toLoadRect (harg4.unread x3),
    View.readAt (Elt Ideal) arg4.view (Rect.unit (s := S32x128) ![14, 0] S1x128.size inb_S32x128_S1x128_14_0).toLoadRect (harg4.unread x3),
    View.readAt (Elt Ideal) arg4.view (Rect.unit (s := S32x128) ![15, 0] S1x128.size inb_S32x128_S1x128_15_0).toLoadRect (harg4.unread x3),
    View.readAt (Elt Ideal) arg4.view (Rect.unit (s := S32x128) ![16, 0] S1x128.size inb_S32x128_S1x128_16_0).toLoadRect (harg4.unread x3),
    View.readAt (Elt Ideal) arg4.view (Rect.unit (s := S32x128) ![17, 0] S1x128.size inb_S32x128_S1x128_17_0).toLoadRect (harg4.unread x3),
    View.readAt (Elt Ideal) arg4.view (Rect.unit (s := S32x128) ![18, 0] S1x128.size inb_S32x128_S1x128_18_0).toLoadRect (harg4.unread x3),
    View.readAt (Elt Ideal) arg4.view (Rect.unit (s := S32x128) ![19, 0] S1x128.size inb_S32x128_S1x128_19_0).toLoadRect (harg4.unread x3),
    View.readAt (Elt Ideal) arg4.view (Rect.unit (s := S32x128) ![20, 0] S1x128.size inb_S32x128_S1x128_20_0).toLoadRect (harg4.unread x3),
    View.readAt (Elt Ideal) arg4.view (Rect.unit (s := S32x128) ![21, 0] S1x128.size inb_S32x128_S1x128_21_0).toLoadRect (harg4.unread x3),
    View.readAt (Elt Ideal) arg4.view (Rect.unit (s := S32x128) ![22, 0] S1x128.size inb_S32x128_S1x128_22_0).toLoadRect (harg4.unread x3),
    View.readAt (Elt Ideal) arg4.view (Rect.unit (s := S32x128) ![23, 0] S1x128.size inb_S32x128_S1x128_23_0).toLoadRect (harg4.unread x3),
    View.readAt (Elt Ideal) arg4.view (Rect.unit (s := S32x128) ![24, 0] S1x128.size inb_S32x128_S1x128_24_0).toLoadRect (harg4.unread x3),
    View.readAt (Elt Ideal) arg4.view (Rect.unit (s := S32x128) ![25, 0] S1x128.size inb_S32x128_S1x128_25_0).toLoadRect (harg4.unread x3),
    View.readAt (Elt Ideal) arg4.view (Rect.unit (s := S32x128) ![26, 0] S1x128.size inb_S32x128_S1x128_26_0).toLoadRect (harg4.unread x3),
    View.readAt (Elt Ideal) arg4.view (Rect.unit (s := S32x128) ![27, 0] S1x128.size inb_S32x128_S1x128_27_0).toLoadRect (harg4.unread x3),
    View.readAt (Elt Ideal) arg4.view (Rect.unit (s := S32x128) ![28, 0] S1x128.size inb_S32x128_S1x128_28_0).toLoadRect (harg4.unread x3),
    View.readAt (Elt Ideal) arg4.view (Rect.unit (s := S32x128) ![29, 0] S1x128.size inb_S32x128_S1x128_29_0).toLoadRect (harg4.unread x3),
    View.readAt (Elt Ideal) arg4.view (Rect.unit (s := S32x128) ![30, 0] S1x128.size inb_S32x128_S1x128_30_0).toLoadRect (harg4.unread x3),
    View.readAt (Elt Ideal) arg4.view (Rect.unit (s := S32x128) ![31, 0] S1x128.size inb_S32x128_S1x128_31_0).toLoadRect (harg4.unread x3)]
  xF := View.readAt (Elt Ideal) arg1.view (Rect.unit (s := S128x3072) ![0, 0] S128x2048.size inb_S128x3072_S128x2048_0_0).toLoadRect (harg1.unread x0)
  dtF := View.readAt (Elt Ideal) arg2.view (Rect.unit (s := S128x2048) ![0, 0] S128x2048.size inb_S128x2048_S128x2048_0_0).toLoadRect (harg2.unread x1)
  dyF := View.readAt (Elt Ideal) arg8.view (Rect.unit (s := S128x2048) ![0, 0] S128x2048.size inb_S128x2048_S128x2048_0_0).toLoadRect (harg8.unread x7)
  aF := View.readAt (Elt Ideal) arg6.view (Rect.unit (s := S1x2048) ![0, 0] S1x2048.size inb_S1x2048_S1x2048_0_0).toLoadRect (harg6.unread x5)
  dF := View.readAt (Elt Ideal) arg5.view (Rect.unit (s := S1x2048) ![0, 0] S1x2048.size inb_S1x2048_S1x2048_0_0).toLoadRect (harg5.unread x4)
  oldA := arg11.view.readCov ([⟨Rect.unit ![0, 0] S1x2048.size inb_S1x2048_S1x2048_0_0, (k0_pay23 (F := Ideal))⟩] : List (View.Piece (Elt Ideal) S1x2048 .f32)) (Rect.unit ![0, 0] S1x2048.size inb_S1x2048_S1x2048_0_0).toLoadRect
  oldD := arg12.view.readCov ([⟨Rect.unit ![0, 0] S1x2048.size inb_S1x2048_S1x2048_0_0, (k0_pay24 (F := Ideal))⟩] : List (View.Piece (Elt Ideal) S1x2048 .f32)) (Rect.unit ![0, 0] S1x2048.size inb_S1x2048_S1x2048_0_0).toLoadRect

/-- The scaled input's gradient, read back. -/
def dxsA : Full := arg15.view.readCov (Blocks.inL (blocksA arg1 harg1 arg2 harg2 arg3 harg3 arg4 harg4 arg5 harg5 arg6 harg6 arg7 harg7 arg8 harg8 arg11 arg12 arg13 x0 x1 x2 x3 x4 x5 x6 x7)) (Rect.unit ![0, 0] S128x2048.size inb_S128x2048_S128x2048_0_0).toLoadRect
/-- The net flow, read back. -/
def netA : Full := arg14.view.readCov (Blocks.netL (blocksA arg1 harg1 arg2 harg2 arg3 harg3 arg4 harg4 arg5 harg5 arg6 harg6 arg7 harg7 arg8 harg8 arg11 arg12 arg13 x0 x1 x2 x3 x4 x5 x6 x7)) (Rect.unit ![0, 0] S128x2048.size inb_S128x2048_S128x2048_0_0).toLoadRect

theorem stateA_found : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.2.2.2.1 = (blocksA arg1 harg1 arg2 harg2 arg3 harg3 arg4 harg4 arg5 harg5 arg6 harg6 arg7 harg7 arg8 harg8 arg11 arg12 arg13 x0 x1 x2 x3 x4 x5 x6 x7).stL ++ [⟨Rect.unit ![0, 0] S128x2048.size inb_S128x2048_S128x2048_0_0, (k0_pay22 (F := Ideal))⟩] := by
  sl_kernel_rfl
theorem netA_found : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.2.2.2.2.1 = (blocksA arg1 harg1 arg2 harg2 arg3 harg3 arg4 harg4 arg5 harg5 arg6 harg6 arg7 harg7 arg8 harg8 arg11 arg12 arg13 x0 x1 x2 x3 x4 x5 x6 x7).netL := by
  sl_kernel_rfl
theorem inA_found : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.2.2.2.2.2.1 = (blocksA arg1 harg1 arg2 harg2 arg3 harg3 arg4 harg4 arg5 harg5 arg6 harg6 arg7 harg7 arg8 harg8 arg11 arg12 arg13 x0 x1 x2 x3 x4 x5 x6 x7).inL := by
  sl_kernel_rfl
theorem outA_found : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).1 = (blocksA arg1 harg1 arg2 harg2 arg3 harg3 arg4 harg4 arg5 harg5 arg6 harg6 arg7 harg7 arg8 harg8 arg11 arg12 arg13 x0 x1 x2 x3 x4 x5 x6 x7).outL (dxsA arg1 harg1 arg2 harg2 arg3 harg3 arg4 harg4 arg5 harg5 arg6 harg6 arg7 harg7 arg8 harg8 arg11 arg12 arg13 arg15 x0 x1 x2 x3 x4 x5 x6 x7) := by
  sl_kernel_rfl
theorem stepA_found : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.1 = [⟨Rect.unit ![0, 0] S128x128.size inb_S128x128_S128x128_0_0, (blocksA arg1 harg1 arg2 harg2 arg3 harg3 arg4 harg4 arg5 harg5 arg6 harg6 arg7 harg7 arg8 harg8 arg11 arg12 arg13 x0 x1 x2 x3 x4 x5 x6 x7).stepP (netA arg1 harg1 arg2 harg2 arg3 harg3 arg4 harg4 arg5 harg5 arg6 harg6 arg7 harg7 arg8 harg8 arg11 arg12 arg13 arg14 x0 x1 x2 x3 x4 x5 x6 x7) (dxsA arg1 harg1 arg2 harg2 arg3 harg3 arg4 harg4 arg5 harg5 arg6 harg6 arg7 harg7 arg8 harg8 arg11 arg12 arg13 arg15 x0 x1 x2 x3 x4 x5 x6 x7)⟩] := by
  sl_kernel_rfl
theorem aA_found : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.2.1 = [⟨Rect.unit ![0, 0] S1x2048.size inb_S1x2048_S1x2048_0_0, (blocksA arg1 harg1 arg2 harg2 arg3 harg3 arg4 harg4 arg5 harg5 arg6 harg6 arg7 harg7 arg8 harg8 arg11 arg12 arg13 x0 x1 x2 x3 x4 x5 x6 x7).aP (netA arg1 harg1 arg2 harg2 arg3 harg3 arg4 harg4 arg5 harg5 arg6 harg6 arg7 harg7 arg8 harg8 arg11 arg12 arg13 arg14 x0 x1 x2 x3 x4 x5 x6 x7)⟩] ++ [⟨Rect.unit ![0, 0] S1x2048.size inb_S1x2048_S1x2048_0_0, (k0_pay23 (F := Ideal))⟩] := by
  sl_kernel_rfl

theorem dA_found : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.2.2.1 = [⟨Rect.unit ![0, 0] S1x2048.size inb_S1x2048_S1x2048_0_0, (blocksA arg1 harg1 arg2 harg2 arg3 harg3 arg4 harg4 arg5 harg5 arg6 harg6 arg7 harg7 arg8 harg8 arg11 arg12 arg13 x0 x1 x2 x3 x4 x5 x6 x7).dP⟩] ++ [⟨Rect.unit ![0, 0] S1x2048.size inb_S1x2048_S1x2048_0_0, (k0_pay24 (F := Ideal))⟩] := by
  sl_kernel_rfl

end

end Scan.Body
-- ==== Proof.Scan.Reads.lean ====
/- Matrices of ideal values that are real: `Is v f` says the matrix `v` holds the real `f r c` at row `r`, column `c`.
   One lemma per operation of the kernel's body: from what the operands hold to what the result holds. -/
module

public import Idealize.ShloMosaic.PureOps.Ideal.Laws
public import Idealize.ShloMosaic.Lib.ValueIdx
public import Idealize.ShloMosaic.Lib.MatmulPlain
public import Idealize.ShloMosaic.Lib.Pipeline.Value
public import Idealize.ShloMosaic.Lib.KernelVsHost
public import Mathlib.Algebra.BigOperators.Intervals

@[expose] public section

namespace Scan

open Idealize.ShloMosaic Idealize.ShloMosaic.ValueIdx Finset
open scoped BigOperators

noncomputable section

/-- The matrix `v` holds the reals `f`. -/
def Is {M N : ℕ} (v : (⟨2, ![M, N]⟩ : Shape).Idx → EReal) (f : ℕ → ℕ → ℝ) : Prop :=
  ∀ (r : Fin M) (c : Fin N), v (ix2 r c) = ((f r.val c.val : ℝ) : EReal)

/-- The mask `v` is set exactly where `p` holds. -/
def Mask {M N : ℕ} (v : (⟨2, ![M, N]⟩ : Shape).Idx → BitVec 1) (p : ℕ → ℕ → Prop) : Prop :=
  ∀ (r : Fin M) (c : Fin N), (p r.val c.val → v (ix2 r c) = 1#1) ∧ (¬p r.val c.val → v (ix2 r c) = 0#1)

/-- A finite sum of reals read as an ideal value. -/
theorem coe_sum {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- A sum over `Fin n` of reals is the sum over the naturals below `n`. -/
theorem sum_coe (n : ℕ) (f : ℕ → ℝ) : ∑ i : Fin n, (f i.val : EReal) = ((∑ i ∈ range n, f i : ℝ) : EReal) := by
  rw [Finset.sum_range, coe_sum]

variable {M N K : ℕ} {φ ψ : FTy} {f g h : ℕ → ℕ → ℝ}

theorem Is.at {v : (⟨2, ![M, N]⟩ : Shape).Idx → EReal} (hv : Is v f) (j : (⟨2, ![M, N]⟩ : Shape).Idx) :
    v j = ((f (j 0).val (j 1).val : ℝ) : EReal) := by
  conv_lhs => rw [eq_ix2 j]
  exact hv (j 0) (j 1)

theorem Is.congr {v : (⟨2, ![M, N]⟩ : Shape).Idx → EReal} (hv : Is v f) (e : ∀ r < M, ∀ c < N, f r c = g r c) : Is v g :=
  fun r c => by rw [hv r c, e r.val r.isLt c.val c.isLt]

theorem Is.addf {x y : FVec Ideal ⟨2, ![M, N]⟩ φ} (hx : Is x f) (hy : Is y g) : Is (addf x y) fun r c => f r c + g r c :=
  fun r c => by show x _ + y _ = _; rw [hx, hy, EReal.coe_add]

theorem Is.subf {x y : FVec Ideal ⟨2, ![M, N]⟩ φ} (hx : Is x f) (hy : Is y g) : Is (subf x y) fun r c => f r c - g r c :=
  fun r c => by show x _ - y _ = _; rw [hx, hy, EReal.coe_sub]

theorem Is.mulf {x y : FVec Ideal ⟨2, ![M, N]⟩ φ} (hx : Is x f) (hy : Is y g) : Is (mulf x y) fun r c => f r c * g r c :=
  fun r c => by show x _ * y _ = _; rw [hx, hy, EReal.coe_mul]

theorem Is.exp {x : FVec Ideal ⟨2, ![M, N]⟩ φ} (hx : Is x f) : Is (exp x) fun r c => Real.exp (f r c) :=
  fun r c => by show Ideal.exp (x _) = _; rw [hx]; rfl

theorem Is.truncf {x : FVec Ideal ⟨2, ![M, N]⟩ φ} (hx : Is x f) (hb : ψ.bits < φ.bits) : Is (truncf ψ x hb) f :=
  fun r c => hx r c

theorem Is.extf {x : FVec Ideal ⟨2, ![M, N]⟩ φ} (hx : Is x f) (hb : φ.bits < ψ.bits) : Is (extf ψ x hb) f :=
  fun r c => hx r c

theorem Is.shapeCast {x : (⟨2, ![M, N]⟩ : Shape).Idx → EReal} (hx : Is x f) (hs : (⟨2, ![M, N]⟩ : Shape).ShapeCasts ⟨2, ![M, N]⟩) :
    Is (shapeCast ⟨2, ![M, N]⟩ x hs) f := by rw [shapeCast_self]; exact hx

theorem Is.zero : Is (constant (F := Ideal) ⟨2, ![M, N]⟩ .f32 0x00000000#32) fun _ _ => 0 :=
  fun r c => by show Ideal.ofBits .f32 0x00000000#32 = _; rw [Ideal.ofBits_zero_f32]; rfl

theorem Is.zeroSplat : Is (broadcast ⟨2, ![M, N]⟩ (Scalar.ofBits (F := Ideal) .f32 0x00000000#32)) fun _ _ => 0 :=
  fun r c => by show Ideal.ofBits .f32 0x00000000#32 = _; rw [Ideal.ofBits_zero_f32]; rfl

theorem Is.zeroSplat16 : Is (broadcast ⟨2, ![M, N]⟩ (Scalar.ofBits (F := Ideal) .bf16 0x0000#16)) fun _ _ => 0 :=
  fun r c => by show Ideal.ofBits .bf16 0x0000#16 = _; simp [Ideal.ofBits, Ideal.ieee]

/-- A product onto a real accumulator. -/
theorem Is.matmul {x : FVec Ideal ⟨2, ![M, K]⟩ φ} {y : FVec Ideal ⟨2, ![K, N]⟩ ψ} {z : FVec Ideal ⟨2, ![M, N]⟩ .f32}
    (prec : Option ContractPrecision) (hx : Is x f) (hy : Is y g) (hz : Is z h) :
    Is (FloatOps.matmul (DotDims.plain M K N) prec x y z) fun r c => h r c + ∑ k ∈ range K, f r k * g k c := by
  intro r c
  rw [Ideal.matmul_plain_apply, hz, EReal.coe_add, ← sum_coe K fun k => f r.val k * g k c.val]
  exact congrArg _ (Finset.sum_congr rfl fun k _ => by rw [hx, hy, EReal.coe_mul])

/-- A product by a transposed right operand. -/
theorem Is.matmulT {x : FVec Ideal ⟨2, ![M, K]⟩ φ} {y : FVec Ideal ⟨2, ![N, K]⟩ ψ} {z : FVec Ideal ⟨2, ![M, N]⟩ .f32}
    (prec : Option ContractPrecision) (hx : Is x f) (hy : Is y g) (hz : Is z h) :
    Is (FloatOps.matmul (DotDims.transposedRhs M K N) prec x y z) fun r c => h r c + ∑ k ∈ range K, f r k * g c k := by
  intro r c
  rw [Ideal.matmul_transposedRhs_apply, hz, EReal.coe_add, ← sum_coe K fun k => f r.val k * g c.val k]
  exact congrArg _ (Finset.sum_congr rfl fun k _ => by rw [hx, hy, EReal.coe_mul])

/-- A rectangle cut out at row `a`, column `b`. -/
theorem Is.slice {M' N' : ℕ} {x : (⟨2, ![M, N]⟩ : Shape).Idx → EReal} (hx : Is x f) (a b : ℕ)
    (hs : (⟨2, ![M, N]⟩ : Shape).Slices ![a, b] ⟨2, ![M', N']⟩) :
    Is (extractStridedSlice ⟨2, ![M', N']⟩ ![a, b] x hs) fun r c => f (a + r) (b + c) := by
  intro r c
  have h0 : a + M' ≤ M := hs.2 0
  have h1 : b + N' ≤ N := hs.2 1
  rw [extractStridedSlice_apply ![a, b] x hs (ix2 r c) (ix2 ⟨a + r.val, by omega⟩ ⟨b + c.val, by omega⟩)
    (fun d => match d with | ⟨0, _⟩ => rfl | ⟨1, _⟩ => rfl)]
  exact hx _ _

theorem Is.transpose {x : (⟨2, ![M, N]⟩ : Shape).Idx → EReal} (hx : Is x f)
    (ht : (⟨2, ![M, N]⟩ : Shape).Transposes [1, 0] ⟨2, ![N, M]⟩) : Is (transpose ⟨2, ![N, M]⟩ [1, 0] x ht) fun r c => f c r := by
  intro r c
  rw [transpose_apply [1, 0] x ht (ix2 r c) (ix2 c r) (fun d => match d with | ⟨0, _⟩ => rfl | ⟨1, _⟩ => rfl)]
  exact hx _ _

/-- One row copied to every row. -/
theorem Is.rows {x : (⟨2, ![1, N]⟩ : Shape).Idx → EReal} (hx : Is x f) (hN : N ≠ 1)
    (hb : (⟨2, ![1, N]⟩ : Shape).Broadcasts ⟨2, ![M, N]⟩) : Is (broadcastTo ⟨2, ![M, N]⟩ x hb) fun _ c => f 0 c := by
  intro r c
  rw [broadcastTo_apply x hb (ix2 r c) (ix2 0 c)
    (fun d => match d with | ⟨0, _⟩ => rfl | ⟨1, _⟩ => (if_neg hN).symm)]
  exact hx _ _

/-- One column copied to every column. -/
theorem Is.cols {x : (⟨2, ![M, 1]⟩ : Shape).Idx → EReal} (hx : Is x f) (hM : M ≠ 1)
    (hb : (⟨2, ![M, 1]⟩ : Shape).Broadcasts ⟨2, ![M, N]⟩) : Is (broadcastTo ⟨2, ![M, N]⟩ x hb) fun r _ => f r 0 := by
  intro r c
  rw [broadcastTo_apply x hb (ix2 r c) (ix2 r 0)
    (fun d => match d with | ⟨0, _⟩ => (if_neg hM).symm | ⟨1, _⟩ => rfl)]
  exact hx _ _

/-- The sum of a matrix's rows, kept as one row. -/
theorem Is.sumRows {x : FVec Ideal ⟨2, ![M, N]⟩ .f32} (hx : Is x f) (hr : (⟨2, ![M, N]⟩ : Shape).Reduces [0] ⟨1, ![N]⟩)
    (hφ : FKind.Formats .f32) (hacc : (0x00000000#32 : BitVec 32) = FKind.add.neutral .f32 hφ)
    (hs : (⟨1, ![N]⟩ : Shape).ShapeCasts ⟨2, ![1, N]⟩) :
    Is (Idealize.ShloMosaic.shapeCast ⟨2, ![1, N]⟩ (multiReduction .add [0] ⟨1, ![N]⟩ x 0x00000000#32 hr hφ hacc) hs)
      fun _ c => ∑ r ∈ range M, f r c := by
  intro r c
  rw [shapeCast_apply _ hs (ix2 r c) (ix1 c) (by
    rw [Shape.rowMajor_val_one, Shape.rowMajor_val_two]; have := r.isLt; show c.val = r.val * N + c.val; simp),
    Ideal.multiReduction_add_single, ← sum_coe M fun k => f k c.val]
  refine Finset.sum_congr rfl fun k _ => ?_
  exact hx.at _

/-- The sum of a matrix's columns, kept as one column. -/
theorem Is.sumCols {x : FVec Ideal ⟨2, ![M, N]⟩ .f32} (hx : Is x f) (hr : (⟨2, ![M, N]⟩ : Shape).Reduces [1] ⟨1, ![M]⟩)
    (hφ : FKind.Formats .f32) (hacc : (0x00000000#32 : BitVec 32) = FKind.add.neutral .f32 hφ)
    (hs : (⟨1, ![M]⟩ : Shape).ShapeCasts ⟨2, ![M, 1]⟩) :
    Is (Idealize.ShloMosaic.shapeCast ⟨2, ![M, 1]⟩ (multiReduction .add [1] ⟨1, ![M]⟩ x 0x00000000#32 hr hφ hacc) hs)
      fun r _ => ∑ c ∈ range N, f r c := by
  intro r c
  rw [shapeCast_apply _ hs (ix2 r c) (ix1 r) (by
    rw [Shape.rowMajor_val_one, Shape.rowMajor_val_two]; have := c.isLt; show r.val = r.val * 1 + c.val; omega),
    Ideal.multiReduction_add_single, ← sum_coe N fun k => f r.val k]
  refine Finset.sum_congr rfl fun k _ => ?_
  exact hx.at _

/-- The lanes of a row moved around by `s`. -/
theorem Is.rotate {x : (⟨2, ![M, N]⟩ : Shape).Idx → EReal} (hx : Is x f) (s : BitVec 32) (hs : s.toNat < N)
    (hr : (⟨2, ![M, N]⟩ : Shape).Rotates 1 none) :
    Is (dynamicRotate 1 s none x hr) fun r c => f r ((c + N - s.toNat) % N) := by
  intro r c
  have hN : 0 < N := by omega
  rw [dynamicRotate_apply 1 s x hr (ix2 r c) (ix2 r ⟨(c.val + N - s.toNat) % N, Nat.mod_lt _ hN⟩) (fun d => ?_)]
  · exact hx _ _
  · match d with
    | ⟨0, _⟩ => rfl
    | ⟨1, _⟩ =>
      show (c.val + N - s.toNat) % N = (c.val + N - s.toNat % N) % N
      rw [Nat.mod_eq_of_lt hs]

/-- A choice by a mask. -/
theorem Is.select {m : IVec ⟨2, ![M, N]⟩ 1} {p : ℕ → ℕ → Prop} [∀ r c, Decidable (p r c)]
    {x y : (⟨2, ![M, N]⟩ : Shape).Idx → EReal} (hm : Mask m p)
    (hx : Is x f) (hy : Is y g) : Is (select m x y) fun r c => if p r c then f r c else g r c := by
  intro r c
  show Scalar.select (m (ix2 r c)) (x (ix2 r c)) (y (ix2 r c)) = _
  by_cases hp : p r.val c.val
  · rw [(hm r c).1 hp, select_one, hx]; simp only [if_pos hp]
  · rw [(hm r c).2 hp, select_zero, hy]; simp only [if_neg hp]

/-- The exponential of a matrix with `-∞` outside a mask: zero there. -/
theorem Is.expSelect {m : IVec ⟨2, ![M, N]⟩ 1} {p : ℕ → ℕ → Prop} [∀ r c, Decidable (p r c)]
    {x : FVec Ideal ⟨2, ![M, N]⟩ .f32} {z : Ideal .f32} (hm : Mask m p)
    (hx : Is x f) (hz : z = ⊥) :
    Is (Idealize.ShloMosaic.exp (Idealize.ShloMosaic.select m x (broadcast ⟨2, ![M, N]⟩ z) : FVec Ideal ⟨2, ![M, N]⟩ .f32))
      fun r c => if p r c then Real.exp (f r c) else 0 := by
  intro r c
  show Ideal.exp (Scalar.select (m (ix2 r c)) (x (ix2 r c)) z) = _
  by_cases hp : p r.val c.val
  · rw [(hm r c).1 hp, select_one, hx]; simp only [if_pos hp]; rfl
  · rw [(hm r c).2 hp, select_zero, hz]; simp only [if_neg hp]; rfl

end

end Scan
-- ==== Proof.Scan.BodyReads.lean ====
/- What the body's masks and products hold, over the reals: one lemma per definition of `Body.lean`. -/
module

public import proofs.«01_k».proof.Proof.Scan.Body
public import proofs.«01_k».proof.Proof.Scan.Reads

@[expose] public section

namespace Scan.Body

open Idealize.ShloMosaic Idealize.ShloMosaic.ValueIdx Cert.KernelIdeal Finset
open Cert.KernelIdeal.Facts₀ Cert.KernelIdeal.Facts
open Cert.KernelIdeal.Gen (k0_pay25 k0_pay26 k0_pay27 k0_pay28 k0_pay29 k0_pay30 k0_pay31 k0_pay32 k0_pay33)
open scoped BigOperators

noncomputable section

/-! ## The masks -/

theorem mask_lt64 : Mask (N := 128) (M := 128) k0_pay30 fun _ c => c < 64 := by
  intro r c
  have key : ∀ c : Fin 128, (c.val < 64 → IntOp.cmpi .slt (BitVec.ofNat 32 (0 * 128 + c.val)) 64#32 = 1#1)
      ∧ (¬ c.val < 64 → IntOp.cmpi .slt (BitVec.ofNat 32 (0 * 128 + c.val)) 64#32 = 0#1) := by decide +kernel
  exact key c

theorem mask_ge64 : Mask (N := 128) (M := 128) (ge k0_pay30) fun _ c => ¬ c < 64 := by
  intro r c
  have h := mask_lt64 r c
  constructor
  · intro hc
    show IntOp.xori (k0_pay30 (ix2 r c)) 1#1 = 1#1
    rw [h.2 hc]; rfl
  · intro hc
    show IntOp.xori (k0_pay30 (ix2 r c)) 1#1 = 0#1
    rw [h.1 (not_not.1 hc)]; rfl

theorem mask_lower : Mask (N := 128) (M := 128) k0_pay31 fun r c => c ≤ r := by
  intro r c
  have key : ∀ r c : Fin 128, (c.val ≤ r.val → IntOp.cmpi .sge (BitVec.ofNat 32 (0 * 128 + r.val)) (BitVec.ofNat 32 (0 * 128 + c.val)) = 1#1)
      ∧ (¬ c.val ≤ r.val → IntOp.cmpi .sge (BitVec.ofNat 32 (0 * 128 + r.val)) (BitVec.ofNat 32 (0 * 128 + c.val)) = 0#1) := by decide +kernel
  exact key r c

theorem mask_upper : Mask (N := 128) (M := 128) k0_pay32 fun r c => r ≤ c := by
  intro r c
  exact mask_lower c r

theorem mask_last : Mask (N := 512) (M := 128) k0_pay33 fun r _ => r = 127 := by
  intro r c
  have key : ∀ r : Fin 128, (r.val = 127 → IntOp.cmpi .eq (BitVec.ofNat 32 (0 * 128 + r.val)) 127#32 = 1#1)
      ∧ (¬ r.val = 127 → IntOp.cmpi .eq (BitVec.ofNat 32 (0 * 128 + r.val)) 127#32 = 0#1) := by decide +kernel
  exact key r

theorem is_ofMask {M N : ℕ} {m : IVec ⟨2, ![M, N]⟩ 1} {p : ℕ → ℕ → Prop} [∀ r c, Decidable (p r c)] (hm : Mask m p) (h : 1 < 32) :
    Is (sitofp (F := Ideal) .f32 (extui 32 m h)) fun r c => if p r c then 1 else 0 := by
  intro r c
  show ((((m (ix2 r c)).setWidth 32).toInt : ℝ) : EReal) = _
  by_cases hp : p r.val c.val
  · rw [(hm r c).1 hp]; simp only [if_pos hp]; norm_num
  · rw [(hm r c).2 hp]; simp only [if_neg hp]; norm_num

theorem is_blockDiag : Is blockDiag fun r c => if r / 64 = c / 64 then 1 else 0 := by
  have kr : ∀ r c : Fin 128, k0_pay25 (ix2 (n0 := 128) (n1 := 128) r c) = BitVec.ofNat 32 (r.val / 64) := by
    have key : ∀ r : Fin 128, k0_pay25 (ix2 (n0 := 128) (n1 := 128) r 0) = BitVec.ofNat 32 (r.val / 64) := by decide +kernel
    exact fun r c => key r
  have hm : Mask (M := 128) (N := 128) (cmpi .eq k0_pay25 (select (andi (cmpi .ne k0_pay27 k0_pay28)
      (cmpi .ne (remsi (iota .tc S128x128 32 [1] iota_S128x128_d1_w32) (broadcast S128x128 64#32)) (broadcast S128x128 0#32)))
      (subi k0_pay26 (broadcast S128x128 1#32)) k0_pay26)) fun r c => r / 64 = c / 64 := by
    intro r c
    have kc : ∀ c : Fin 128, (select (andi (cmpi .ne k0_pay27 k0_pay28)
      (cmpi .ne (remsi (iota .tc S128x128 32 [1] iota_S128x128_d1_w32) (broadcast S128x128 64#32)) (broadcast S128x128 0#32)))
      (subi k0_pay26 (broadcast S128x128 1#32)) k0_pay26) (ix2 (n0 := 128) (n1 := 128) 0 c) = BitVec.ofNat 32 (c.val / 64) := by decide +kernel
    have kc' : (select (andi (cmpi .ne k0_pay27 k0_pay28)
      (cmpi .ne (remsi (iota .tc S128x128 32 [1] iota_S128x128_d1_w32) (broadcast S128x128 64#32)) (broadcast S128x128 0#32)))
      (subi k0_pay26 (broadcast S128x128 1#32)) k0_pay26) (ix2 (n0 := 128) (n1 := 128) r c) = BitVec.ofNat 32 (c.val / 64) := kc c
    have fin : ∀ p q : Fin 2, (p = q → IntOp.cmpi .eq (BitVec.ofNat 32 p.val) (BitVec.ofNat 32 q.val) = 1#1)
        ∧ (¬ p = q → IntOp.cmpi .eq (BitVec.ofNat 32 p.val) (BitVec.ofNat 32 q.val) = 0#1) := by decide
    have e : cmpi .eq k0_pay25 (select (andi (cmpi .ne k0_pay27 k0_pay28)
      (cmpi .ne (remsi (iota .tc S128x128 32 [1] iota_S128x128_d1_w32) (broadcast S128x128 64#32)) (broadcast S128x128 0#32)))
      (subi k0_pay26 (broadcast S128x128 1#32)) k0_pay26) (ix2 (n0 := 128) (n1 := 128) r c)
        = IntOp.cmpi .eq (BitVec.ofNat 32 (r.val / 64)) (BitVec.ofNat 32 (c.val / 64)) := by
      rw [← kr r c, ← kc']; rfl
    have hr := r.isLt; have hc := c.isLt
    have := fin ⟨r.val / 64, by omega⟩ ⟨c.val / 64, by omega⟩
    simp only [Fin.mk.injEq] at this
    rw [e]; exact this
  exact (is_ofMask hm natLt_1_32).truncf bitsLt_bf16_f32

/-! ## Per-head sums -/

/-- The sum of a head's 64 lanes, the head being that of lane `c`. -/
def headSum (f : ℕ → ℕ → ℝ) (r c : ℕ) : ℝ := ∑ k ∈ range 64, f r (64 * (c / 64) + k)

theorem sum_block (f : ℕ → ℝ) {c : ℕ} (hc : c < 128) :
    ∑ k ∈ range 128, f k * (if k / 64 = c / 64 then 1 else 0) = ∑ k ∈ range 64, f (64 * (c / 64) + k) := by
  have h2 : (128 : ℕ) = 64 + 64 := rfl
  rw [h2, sum_range_add]
  rcases (by omega : c / 64 = 0 ∨ c / 64 = 1) with h | h
  · rw [h, sum_congr rfl (g := f) (fun k hk => by rw [if_pos (by have := mem_range.1 hk; omega), mul_one]),
      sum_congr rfl (s₁ := range 64) (g := fun _ => (0 : ℝ)) (f := fun x => f (64 + x) * _) (fun k hk => by rw [if_neg (by omega), mul_zero]), sum_const_zero, add_zero]
    simp
  · rw [h, sum_congr rfl (f := fun k => f k * _) (g := fun _ => (0 : ℝ)) (fun k hk => by rw [if_neg (by have := mem_range.1 hk; omega), mul_zero]), sum_const_zero, zero_add]
    exact sum_congr rfl fun k hk => by rw [if_pos (by have := mem_range.1 hk; omega), mul_one]

variable {f g : ℕ → ℕ → ℝ}

theorem is_rest {M N : ℕ} {v : FVec Ideal ⟨2, ![M, N]⟩ .f32} (hv : Is v f) : Is (rest v) fun _ _ => 0 :=
  ((hv.subf ((hv.truncf bitsLt_bf16_f32).extf bitsLt_bf16_f32)).truncf bitsLt_bf16_f32).congr fun _ _ _ _ => sub_self _

theorem is_headPart {M N : ℕ} {v : FVec Ideal ⟨2, ![M, N]⟩ .f32} (hv : Is v f) (b : ℕ) (hb : b % 64 = 0)
    (h : (⟨2, ![M, N]⟩ : Shape).Slices ![0, b] S128x128) : Is (headPart blockDiag v ![0, b] h) fun r c => headSum f r (b + c) := by
  have h1 := Is.matmul (φ := .bf16) (M := 128) (K := 128) (N := 128) none ((hv.truncf bitsLt_bf16_f32).slice 0 b h) is_blockDiag Is.zero
  have h2 := Is.matmul (φ := .bf16) (M := 128) (K := 128) (N := 128) none ((is_rest hv).slice 0 b h) is_blockDiag Is.zero
  refine (h1.addf h2).congr fun r hr c hc => ?_
  rw [sum_block (fun k => f (0 + r) (b + k)) hc]
  simp only [zero_add, zero_mul, sum_const_zero, add_zero, headSum]
  refine sum_congr rfl fun k _ => ?_
  congr 1; omega

theorem is_headPartRow {M N : ℕ} {v : FVec Ideal ⟨2, ![M, N]⟩ .f32} (hv : Is v f) (b : ℕ) (hb : b % 64 = 0)
    (h : (⟨2, ![M, N]⟩ : Shape).Slices ![0, b] S1x128) : Is (headPartRow blockDiag v ![0, b] h) fun r c => headSum f r (b + c) := by
  have h1 := Is.matmul (φ := .bf16) (M := 1) (K := 128) (N := 128) none ((hv.truncf bitsLt_bf16_f32).slice 0 b h) is_blockDiag Is.zero
  have h2 := Is.matmul (φ := .bf16) (M := 1) (K := 128) (N := 128) none ((is_rest hv).slice 0 b h) is_blockDiag Is.zero
  refine (h1.addf h2).congr fun r hr c hc => ?_
  rw [sum_block (fun k => f (0 + r) (b + k)) hc]
  simp only [zero_add, zero_mul, sum_const_zero, add_zero, headSum]
  refine sum_congr rfl fun k _ => ?_
  congr 1; omega

/-- Blocks of `K` lanes side by side. -/
theorem is_concat {M K n : ℕ} (p : Fin n → FVec Ideal ⟨2, ![M, K]⟩ .f32)
    (h : Shape.Concatenates ((List.ofFn fun i : Fin n => (⟨⟨2, ![M, K]⟩, p i⟩ : (s : Shape) × (s.Idx → Ideal .f32))).map (·.1)) ⟨2, ![M, K * n]⟩ 1)
    (hp : ∀ i, Is (p i) fun r c => f r (K * i.val + c)) :
    Is (concatenate ⟨2, ![M, K * n]⟩ 1 (List.ofFn fun i : Fin n => (⟨⟨2, ![M, K]⟩, p i⟩ : (s : Shape) × (s.Idx → Ideal .f32))) h) f := by
  intro r c
  have hc := c.isLt
  have hK : 0 < K := Nat.pos_of_ne_zero fun h0 => by subst h0; simp at hc
  have hd : c.val / K < n := Nat.div_lt_of_lt_mul hc
  rw [concatenate_ofFn_apply (t := ⟨2, ![M, K * n]⟩) (s₁ := ⟨2, ![M, K]⟩) (1 : Fin 2) p h rfl K rfl (ix2 (n1 := K * n) r c) ⟨c.val / K, hd⟩ rfl
    (ix2 (n1 := K) r ⟨c.val % K, Nat.mod_lt _ hK⟩) rfl (fun b hb => by
      match b with
      | ⟨0, _⟩ => rfl
      | ⟨1, _⟩ => exact absurd rfl hb), hp]
  show ((f r.val (K * (c.val / K) + c.val % K) : ℝ) : EReal) = _
  rw [Nat.div_add_mod]

theorem is_heads {v : Wide} (hv : Is v f) : Is (heads blockDiag v) (headSum f) := by
  refine is_concat (K := 128) (n := 4) ![_, _, _, _] concatenates_S128x128_S128x128_S128x128_S128x128_S128x512_d1 fun i => ?_
  match i with
  | ⟨0, _⟩ => exact is_headPart hv 0 rfl _
  | ⟨1, _⟩ => exact is_headPart hv 128 rfl _
  | ⟨2, _⟩ => exact is_headPart hv 256 rfl _
  | ⟨3, _⟩ => exact is_headPart hv 384 rfl _

theorem is_headsRow {v : WideRow} (hv : Is v f) : Is (headsRow blockDiag v) (headSum f) := by
  refine is_concat (K := 128) (n := 4) ![_, _, _, _] concatenates_S1x128_S1x128_S1x128_S1x128_S1x512_d1 fun i => ?_
  match i with
  | ⟨0, _⟩ => exact is_headPartRow hv 0 rfl _
  | ⟨1, _⟩ => exact is_headPartRow hv 128 rfl _
  | ⟨2, _⟩ => exact is_headPartRow hv 256 rfl _
  | ⟨3, _⟩ => exact is_headPartRow hv 384 rfl _

theorem is_headsFull {v : Full} (hv : Is v f) : Is (headsFull blockDiag v) (headSum f) := by
  refine is_concat (K := 128) (n := 16) ![_, _, _, _, _, _, _, _, _, _, _, _, _, _, _, _]
    concatenates_S128x128_S128x128_S128x128_S128x128_S128x128_S128x128_S128x128_S128x128_S128x128_S128x128_S128x128_S128x128_S128x128_S128x128_S128x128_S128x128_S128x2048_d1 fun i => ?_
  match i with
  | ⟨0, _⟩ => exact is_headPart hv 0 rfl _
  | ⟨1, _⟩ => exact is_headPart hv 128 rfl _
  | ⟨2, _⟩ => exact is_headPart hv 256 rfl _
  | ⟨3, _⟩ => exact is_headPart hv 384 rfl _
  | ⟨4, _⟩ => exact is_headPart hv 512 rfl _
  | ⟨5, _⟩ => exact is_headPart hv 640 rfl _
  | ⟨6, _⟩ => exact is_headPart hv 768 rfl _
  | ⟨7, _⟩ => exact is_headPart hv 896 rfl _
  | ⟨8, _⟩ => exact is_headPart hv 1024 rfl _
  | ⟨9, _⟩ => exact is_headPart hv 1152 rfl _
  | ⟨10, _⟩ => exact is_headPart hv 1280 rfl _
  | ⟨11, _⟩ => exact is_headPart hv 1408 rfl _
  | ⟨12, _⟩ => exact is_headPart hv 1536 rfl _
  | ⟨13, _⟩ => exact is_headPart hv 1664 rfl _
  | ⟨14, _⟩ => exact is_headPart hv 1792 rfl _
  | ⟨15, _⟩ => exact is_headPart hv 1920 rfl _
  | ⟨k + 16, hk⟩ => exact absurd hk (by omega)

theorem is_headsFullRow {v : FullRow} (hv : Is v f) : Is (headsFullRow blockDiag v) (headSum f) := by
  refine is_concat (K := 128) (n := 16) ![_, _, _, _, _, _, _, _, _, _, _, _, _, _, _, _]
    concatenates_S1x128_S1x128_S1x128_S1x128_S1x128_S1x128_S1x128_S1x128_S1x128_S1x128_S1x128_S1x128_S1x128_S1x128_S1x128_S1x128_S1x2048_d1 fun i => ?_
  match i with
  | ⟨0, _⟩ => exact is_headPartRow hv 0 rfl _
  | ⟨1, _⟩ => exact is_headPartRow hv 128 rfl _
  | ⟨2, _⟩ => exact is_headPartRow hv 256 rfl _
  | ⟨3, _⟩ => exact is_headPartRow hv 384 rfl _
  | ⟨4, _⟩ => exact is_headPartRow hv 512 rfl _
  | ⟨5, _⟩ => exact is_headPartRow hv 640 rfl _
  | ⟨6, _⟩ => exact is_headPartRow hv 768 rfl _
  | ⟨7, _⟩ => exact is_headPartRow hv 896 rfl _
  | ⟨8, _⟩ => exact is_headPartRow hv 1024 rfl _
  | ⟨9, _⟩ => exact is_headPartRow hv 1152 rfl _
  | ⟨10, _⟩ => exact is_headPartRow hv 1280 rfl _
  | ⟨11, _⟩ => exact is_headPartRow hv 1408 rfl _
  | ⟨12, _⟩ => exact is_headPartRow hv 1536 rfl _
  | ⟨13, _⟩ => exact is_headPartRow hv 1664 rfl _
  | ⟨14, _⟩ => exact is_headPartRow hv 1792 rfl _
  | ⟨15, _⟩ => exact is_headPartRow hv 1920 rfl _
  | ⟨k + 16, hk⟩ => exact absurd hk (by omega)

end

end Scan.Body
-- ==== Proof.Scan.GroupReads.lean ====
/- What one group's stores hold, over the reals, from what the blocks it reads hold. -/
module

public import proofs.«01_k».proof.Proof.Scan.BodyReads

@[expose] public section

namespace Scan.Body

open Idealize.ShloMosaic Idealize.ShloMosaic.ValueIdx Cert.KernelIdeal Finset
open Cert.KernelIdeal.Facts₀ Cert.KernelIdeal.Facts
open Cert.KernelIdeal.Gen (k0_pay25 k0_pay26 k0_pay27 k0_pay28 k0_pay29 k0_pay30 k0_pay31 k0_pay32 k0_pay33)
open scoped BigOperators

noncomputable section

/-- The decay from row `m` to row `l` of a chunk whose running sums are `a`. -/
def dec (a : ℕ → ℝ) (l m : ℕ) : ℝ := if m ≤ l then Real.exp (a l - a m) else 0

/-- `C Bᵀ` inside the chunk. -/
def gramR (c b : ℕ → ℕ → ℝ) (l m : ℕ) : ℝ := ∑ n ∈ range 128, c l n * b m n

/-- One head's products of gradient and input, the head's lanes starting at `o`. -/
def prodR (y x : ℕ → ℕ → ℝ) (o l m : ℕ) : ℝ := ∑ k ∈ range 64, y l (o + k) * x m (o + k)

variable {x b c dt acs hin dh dy : ℕ → ℕ → ℝ} {al : ℕ → ℕ → ℝ}

theorem masked_eq : masked = ⊥ := rfl

/-! ## One group -/

section Group

variable {bg cg : Sq} {ac xd hg dg yg : Wide}

theorem is_endRow (ha : Is ac acs) : Is (endRow ac) fun _ q => acs 127 q :=
  (ha.slice 127 0 slices_S128x512_o127_0_S1x512).congr fun r hr q _ => by
    rw [show 127 + r = 127 by omega, zero_add]

theorem is_toEnd (ha : Is ac acs) : Is (toEnd ac) fun r q => Real.exp (acs 127 q - acs r q) :=
  (((is_endRow ha).rows (by decide) broadcasts_S1x512_S128x512).subf ha).exp

theorem is_dye (hy : Is yg dy) (ha : Is ac acs) : Is (dye yg ac) fun r q => dy r q * Real.exp (acs r q) :=
  (hy.mulf ha.exp).truncf bitsLt_bf16_f32

theorem is_xdk (hx : Is xd x) (ha : Is ac acs) : Is (xdk xd ac) fun r q => x r q * Real.exp (acs 127 q - acs r q) :=
  hx.mulf (is_toEnd ha)

theorem is_bdh (hb : Is bg b) (hd : Is dg dh) : Is (bdh bg dg) fun r q => ∑ n ∈ range 128, b r n * dh n q :=
  (Is.matmul (M := 128) (K := 128) (N := 512) none (hb.truncf bitsLt_bf16_f32) (hd.truncf bitsLt_bf16_f32) Is.zero).congr
    fun _ _ _ _ => zero_add _

theorem is_stateOut (hc : Is cg c) (ha : Is ac acs) (hy : Is yg dy) (hd : Is dg dh) :
    Is (stateOut cg ac yg dg) fun n q => dh n q * Real.exp (acs 127 q) + ∑ l ∈ range 128, c l n * (dy l q * Real.exp (acs l q)) := by
  have h1 := Is.matmul (M := 128) (K := 128) (N := 512) none
    ((hc.transpose transposes_S128x128_p1_0_S128x128).truncf (ψ := .bf16) (φ := .f32) bitsLt_bf16_f32) (is_dye hy ha) Is.zero
  refine (((hd.mulf ((is_endRow ha).exp.rows (by decide) broadcasts_S1x512_S128x512)).addf h1).shapeCast shapeCasts_S128x512_S128x512).congr
    fun n _ q _ => ?_
  rw [zero_add]

theorem is_crossing (hb : Is bg b) (hx : Is xd x) (ha : Is ac acs) (hd : Is dg dh) :
    Is (crossing blockDiag bg xd ac dg)
      (headSum fun r q => (∑ n ∈ range 128, b r n * dh n q) * (x r q * Real.exp (acs 127 q - acs r q))) :=
  is_heads ((is_bdh hb hd).mulf (is_xdk hx ha))

theorem is_crossingAll (hb : Is bg b) (hx : Is xd x) (ha : Is ac acs) (hh : Is hg hin) (hd : Is dg dh) :
    Is (crossingAll blockDiag bg xd ac hg dg) fun _ q =>
      ∑ r ∈ range 128, headSum (fun r q => (∑ n ∈ range 128, b r n * dh n q) * (x r q * Real.exp (acs 127 q - acs r q))) r q
        + Real.exp (acs 127 q) * headSum (fun _ q => ∑ n ∈ range 128, dh n q * hin n q) 0 q := by
  have h1 := (is_crossing hb hx ha hd).sumRows reduces_S128x512_S512 (.inl rfl) rfl shapeCasts_S512_S1x512
  have h2 := is_headsRow ((hd.mulf hh).sumRows reduces_S128x512_S512 (.inl rfl) rfl shapeCasts_S512_S1x512)
  exact (h1.addf ((is_endRow ha).exp.mulf h2)).congr fun r hr q _ => rfl

theorem is_netOuter (hb : Is bg b) (hc : Is cg c) (hx : Is xd x) (ha : Is ac acs) (hh : Is hg hin) (hy : Is yg dy) (hd : Is dg dh) :
    Is (netOuter blockDiag k0_pay33 bg cg xd ac hg yg dg) fun r q =>
      headSum (fun r q => dy r q * (∑ n ∈ range 128, c r n * hin n q) * Real.exp (acs r q)) r q
        - headSum (fun r q => (∑ n ∈ range 128, b r n * dh n q) * (x r q * Real.exp (acs 127 q - acs r q))) r q
        + if r = 127 then ∑ r ∈ range 128, headSum (fun r q => (∑ n ∈ range 128, b r n * dh n q) * (x r q * Real.exp (acs 127 q - acs r q))) r q
        + Real.exp (acs 127 q) * headSum (fun _ q => ∑ n ∈ range 128, dh n q * hin n q) 0 q else 0 := by
  have h1 := (Is.matmul (M := 128) (K := 128) (N := 512) none (hc.truncf bitsLt_bf16_f32) (hh.truncf bitsLt_bf16_f32) Is.zero).congr
    (g := fun r q => ∑ n ∈ range 128, c r n * hin n q) fun _ _ _ _ => zero_add _
  exact ((is_heads ((hy.mulf h1).mulf ha.exp)).subf (is_crossing hb hx ha hd)).addf
    (Is.select mask_last (((is_crossingAll hb hx ha hh hd).shapeCast shapeCasts_S1x512_S1x512).rows (by decide) broadcasts_S1x512_S128x512)
      Is.zeroSplat)

theorem is_inOuter (hb : Is bg b) (ha : Is ac acs) (hd : Is dg dh) :
    Is (inOuter bg ac dg) fun r q => (∑ n ∈ range 128, b r n * dh n q) * Real.exp (acs 127 q - acs r q) :=
  (is_bdh hb hd).mulf (is_toEnd ha)

theorem is_cOuter (ha : Is ac acs) (hh : Is hg hin) (hy : Is yg dy) :
    Is (cOuter ac hg yg) fun r n => ∑ q ∈ range 512, (dy r q * Real.exp (acs r q)) * hin n q :=
  (Is.matmulT (M := 128) (K := 512) (N := 128) none (is_dye hy ha) (hh.truncf bitsLt_bf16_f32) Is.zero).congr fun _ _ _ _ => zero_add _

theorem is_bOuter (hx : Is xd x) (ha : Is ac acs) (hd : Is dg dh) :
    Is (bOuter xd ac dg) fun r n => ∑ q ∈ range 512, (x r q * Real.exp (acs 127 q - acs r q)) * dh n q :=
  (Is.matmulT (M := 128) (K := 512) (N := 128) none ((is_xdk hx ha).truncf bitsLt_bf16_f32) (hd.truncf bitsLt_bf16_f32) Is.zero).congr
    fun _ _ _ _ => zero_add _

theorem is_gram (hc : Is cg c) (hb : Is bg b) : Is (gram cg bg) (gramR c b) :=
  (Is.matmulT (M := 128) (K := 128) (N := 128) none (hc.truncf bitsLt_bf16_f32) (hb.truncf bitsLt_bf16_f32) Is.zero).congr
    fun _ _ _ _ => zero_add _

end Group

/-! ## One pair and its heads -/

section Head

variable {ap : Sq} {xp yp : SqH} {a0 a1 a : ℕ → ℝ} {X Y : ℕ → ℕ → ℝ} {r : FVec Ideal S1x128 .f32} {col : Sq} {bg cg : Sq}

theorem is_col0 (ha : Is ap fun l q => if q < 64 then a0 l else a1 l) : Is (col0 k0_pay30 ap) fun l _ => a0 l := by
  refine (Is.select mask_lt64 ha (ha.rotate 64#32 (by decide) rotates_S128x128_d1)).congr fun l _ q hq => ?_
  by_cases h : q < 64
  · simp only [if_pos h]
  · simp only [if_neg h]
    rw [if_pos (by show (q + 128 - 64) % 128 < 64; omega)]

theorem is_col1 (ha : Is ap fun l q => if q < 64 then a0 l else a1 l) : Is (col1 k0_pay30 ap) fun l _ => a1 l := by
  refine (Is.select mask_lt64 (ha.rotate 64#32 (by decide) rotates_S128x128_d1) ha).congr fun l _ q hq => ?_
  by_cases h : q < 64
  · simp only [if_pos h]
    rw [if_neg (by show ¬ (q + 128 - 64) % 128 < 64; omega)]
  · simp only [if_neg h]

theorem is_decay (hcol : Is col fun l _ => a l) (hr : Is r fun _ m => a m) : Is (decay k0_pay31 col (row r)) (dec a) :=
  Is.expSelect mask_lower (hcol.subf ((hr.shapeCast shapeCasts_S1x128_S1x128).rows (by decide) broadcasts_S1x128_S128x128)) masked_eq

theorem is_decayT (hcol : Is col fun l _ => a l) (hr : Is r fun _ m => a m) :
    Is (decayT k0_pay32 col (row r)) fun m l => dec a l m :=
  Is.expSelect mask_upper (((hr.shapeCast shapeCasts_S1x128_S1x128).rows (by decide) broadcasts_S1x128_S128x128).subf hcol) masked_eq

theorem is_dot0 (hx : Is xp X) (hy : Is yp Y) : Is (headDot k0_pay30 yp xp) (prodR Y X 0) := by
  refine (Is.matmulT (M := 128) (K := 128) (N := 128) none (Is.select mask_lt64 hy Is.zeroSplat16) hx Is.zero).congr fun l _ m _ => ?_
  rw [zero_add, show (128 : ℕ) = 64 + 64 from rfl, sum_range_add,
    sum_congr rfl (s₁ := range 64) (g := fun _ => (0 : ℝ)) (f := fun k => (if 64 + k < 64 then Y l (64 + k) else 0) * X m (64 + k))
      (fun k _ => by rw [if_neg (by omega), zero_mul]), sum_const_zero, add_zero]
  exact sum_congr rfl fun k hk => by rw [if_pos (mem_range.1 hk), zero_add]

theorem is_dot1 (hx : Is xp X) (hy : Is yp Y) : Is (headDot (ge k0_pay30) yp xp) (prodR Y X 64) := by
  refine (Is.matmulT (M := 128) (K := 128) (N := 128) none (Is.select mask_ge64 hy Is.zeroSplat16) hx Is.zero).congr fun l _ m _ => ?_
  rw [zero_add, show (128 : ℕ) = 64 + 64 from rfl, sum_range_add,
    sum_congr rfl (s₁ := range 64) (g := fun _ => (0 : ℝ)) (f := fun k => (if ¬ k < 64 then Y l k else 0) * X m k)
      (fun k hk => by rw [if_neg (not_not.2 (mem_range.1 hk)), zero_mul]), sum_const_zero, zero_add]
  exact sum_congr rfl fun k hk => by rw [if_pos (by omega)]

theorem prodR_swap (o l m : ℕ) : prodR X Y o m l = prodR Y X o l m := sum_congr rfl fun _ _ => mul_comm _ _

theorem gramR_swap (b c : ℕ → ℕ → ℝ) (l m : ℕ) : gramR b c m l = gramR c b l m := sum_congr rfl fun _ _ => mul_comm _ _

theorem is_headMT (hb : Is bg b) (hc : Is cg c) (hcol : Is col fun l _ => a l) (hr : Is r fun _ m => a m) :
    Is (headMT bg cg col (row r)) fun m l => gramR c b l m * dec a l m :=
  ((is_gram hb hc).mulf (is_decayT hcol hr)).congr fun _ _ _ _ => by rw [gramR_swap]

theorem is_inInner (hb : Is bg b) (hc : Is cg c) (hcol : Is col fun l _ => a l) (hr : Is r fun _ m => a m) (hy : Is yp Y) :
    Is (inInner (headMT bg cg col (row r)) yp) fun m q => ∑ l ∈ range 128, (gramR c b l m * dec a l m) * Y l q :=
  (Is.matmul (M := 128) (K := 128) (N := 128) none ((is_headMT hb hc hcol hr).truncf bitsLt_bf16_f32) hy Is.zero).congr fun _ _ _ _ => zero_add _

/-- One head's net flow inside a chunk. -/
def netR (c b y x : ℕ → ℕ → ℝ) (a : ℕ → ℝ) (o r : ℕ) : ℝ :=
  ∑ m ∈ range 128, prodR y x o r m * (gramR c b r m * dec a r m) - ∑ l ∈ range 128, prodR y x o l r * (gramR c b l r * dec a l r)

theorem is_net0 (hb : Is bg b) (hc : Is cg c) (hcol : Is col fun l _ => a l) (hr : Is r fun _ m => a m) (hx : Is xp X) (hy : Is yp Y) :
    Is (headNet k0_pay30 bg cg col (row r) xp yp) fun l _ => netR c b Y X a 0 l := by
  have h1 := ((is_dot0 hx hy).mulf ((is_gram hc hb).mulf (is_decay hcol hr))).sumCols reduces_S128x128_S128 (.inl rfl) rfl shapeCasts_S128_S128x1
  have h2 := ((is_dot0 hy hx).mulf (is_headMT hb hc hcol hr)).sumCols reduces_S128x128_S128 (.inl rfl) rfl shapeCasts_S128_S128x1
  refine (h1.subf h2).congr fun l _ _ _ => ?_
  simp only [netR, prodR_swap]

theorem is_net1 (hb : Is bg b) (hc : Is cg c) (hcol : Is col fun l _ => a l) (hr : Is r fun _ m => a m) (hx : Is xp X) (hy : Is yp Y) :
    Is (headNet (ge k0_pay30) bg cg col (row r) xp yp) fun l _ => netR c b Y X a 64 l := by
  have h1 := ((is_dot1 hx hy).mulf ((is_gram hc hb).mulf (is_decay hcol hr))).sumCols reduces_S128x128_S128 (.inl rfl) rfl shapeCasts_S128_S128x1
  have h2 := ((is_dot1 hy hx).mulf (is_headMT hb hc hcol hr)).sumCols reduces_S128x128_S128 (.inl rfl) rfl shapeCasts_S128_S128x1
  refine (h1.subf h2).congr fun l _ _ _ => ?_
  simp only [netR, prodR_swap]

end Head

section Pair

variable {bg cg : Sq} {xg tg ac hg dg yg : Wide} {r0 r1 : FVec Ideal S1x128 .f32} (o : ℕ) (h : S128x512.Slices ![0, 128 * o] S128x128)

theorem is_scaled (hx : Is xg x) (ht : Is tg dt) : Is (scaled xg tg) fun r q => x r q * dt r q :=
  hx.mulf (ht.shapeCast shapeCasts_S128x512_S128x512)

theorem is_sums (ha : Is ac acs) : Is (sums ac) acs := ha.shapeCast shapeCasts_S128x512_S128x512

theorem is_pairA (ha : Is ac fun r q => al (q / 64) r) :
    Is (pairA ![0, 128 * o] h ac) fun l q => if q < 64 then al (2 * o) l else al (2 * o + 1) l :=
  ((is_sums ha).slice 0 (128 * o) h).congr fun l _ q hq => by
    show al ((128 * o + q) / 64) (0 + l) = _
    by_cases hlt : q < 64
    · rw [if_pos hlt, zero_add]; congr 1; omega
    · rw [if_neg hlt, zero_add]; congr 1; omega

theorem is_pairX (hx : Is xg x) (ht : Is tg dt) :
    Is (pairX ![0, 128 * o] h xg tg) fun r q => x r (128 * o + q) * dt r (128 * o + q) :=
  (((is_scaled hx ht).truncf bitsLt_bf16_f32).slice 0 (128 * o) h).congr fun r _ q _ => by rw [zero_add]

theorem is_pairY (hy : Is yg dy) : Is (pairY ![0, 128 * o] h yg) fun r q => dy r (128 * o + q) :=
  ((hy.slice 0 (128 * o) h).truncf (ψ := .bf16) (φ := .f32) bitsLt_bf16_f32).congr fun r _ q _ => by rw [zero_add]

theorem is_pairIn (hb : Is bg b) (hc : Is cg c) (ha : Is ac fun r q => al (q / 64) r) (hd : Is dg dh) (hy : Is yg dy)
    (h0 : Is r0 fun _ m => al (2 * o) m) (h1 : Is r1 fun _ m => al (2 * o + 1) m) :
    Is (pairIn ![0, 128 * o] h bg cg ac dg yg r0 r1) fun m q =>
      (∑ n ∈ range 128, b m n * dh n (128 * o + q)) * Real.exp (al ((128 * o + q) / 64) 127 - al ((128 * o + q) / 64) m)
        + ∑ l ∈ range 128, (gramR c b l m * dec (al ((128 * o + q) / 64)) l m) * dy l (128 * o + q) := by
  have hA := is_pairA o h ha
  have hY := is_pairY o h hy
  refine (Is.shapeCast (((is_inOuter hb (is_sums ha) hd).slice 0 (128 * o) h).addf
    (Is.select mask_lt64 (is_inInner hb hc (is_col0 hA) h0 hY) (is_inInner hb hc (is_col1 hA) h1 hY))) shapeCasts_S128x128_S128x128).congr
    fun m _ q hq => ?_
  simp only [zero_add]
  by_cases hlt : q < 64
  · rw [if_pos hlt, show (128 * o + q) / 64 = 2 * o by omega]
  · rw [if_neg hlt, show (128 * o + q) / 64 = 2 * o + 1 by omega]

theorem is_pairNet (hb : Is bg b) (hc : Is cg c) (hx : Is xg x) (ht : Is tg dt) (ha : Is ac fun r q => al (q / 64) r) (hh : Is hg hin)
    (hd : Is dg dh) (hy : Is yg dy) (h0 : Is r0 fun _ m => al (2 * o) m) (h1 : Is r1 fun _ m => al (2 * o + 1) m) :
    Is (pairNet ![0, 128 * o] h bg cg xg tg ac hg dg yg r0 r1) fun r q =>
      headSum (fun r q => dy r q * (∑ n ∈ range 128, c r n * hin n q) * Real.exp (al (q / 64) r)) r (128 * o + q)
        - headSum (fun r q => (∑ n ∈ range 128, b r n * dh n q) * (x r q * dt r q * Real.exp (al (q / 64) 127 - al (q / 64) r))) r (128 * o + q)
        + (if r = 127 then ∑ r ∈ range 128, headSum (fun r q => (∑ n ∈ range 128, b r n * dh n q) * (x r q * dt r q * Real.exp (al (q / 64) 127 - al (q / 64) r))) r (128 * o + q)
        + Real.exp (al ((128 * o + q) / 64) 127) * headSum (fun _ q => ∑ n ∈ range 128, dh n q * hin n q) 0 (128 * o + q) else 0)
        + netR c b dy (fun r q => x r q * dt r q) (al ((128 * o + q) / 64)) (64 * ((128 * o + q) / 64)) r := by
  have hA := is_pairA o h ha
  have hY := is_pairY o h hy
  have hX := is_pairX o h hx ht
  refine (Is.shapeCast (((is_netOuter hb hc (is_scaled hx ht) (is_sums ha) hh hy hd).slice 0 (128 * o) h).addf
    (Is.select mask_lt64
      (((is_net0 hb hc (is_col0 hA) h0 hX hY).shapeCast shapeCasts_S128x1_S128x1).cols (by decide) broadcasts_S128x1_S128x128)
      (((is_net1 hb hc (is_col1 hA) h1 hX hY).shapeCast shapeCasts_S128x1_S128x1).cols (by decide) broadcasts_S128x1_S128x128)))
    shapeCasts_S128x128_S128x128).congr fun r _ q hq => ?_
  simp only [zero_add]
  congr 1
  by_cases hlt : q < 64
  · rw [if_pos hlt, show (128 * o + q) / 64 = 2 * o by omega]
    simp only [netR, prodR, zero_add, show 64 * (2 * o) = 128 * o by omega]
  · rw [if_neg hlt, show (128 * o + q) / 64 = 2 * o + 1 by omega]
    simp only [netR, prodR, show 64 * (2 * o + 1) = 128 * o + 64 by omega, add_assoc]

/-- One head's decayed products. -/
def prodDec (y x : ℕ → ℕ → ℝ) (al : ℕ → ℕ → ℝ) (k l m : ℕ) : ℝ := prodR y x (64 * k) l m * dec (al k) l m

theorem is_pairS0 (hx : Is xg x) (ht : Is tg dt) (ha : Is ac fun r q => al (q / 64) r) (hy : Is yg dy) (h0 : Is r0 fun _ m => al (2 * o) m) :
    Is (pairS0 ![0, 128 * o] h xg tg ac yg r0) (prodDec dy (fun r q => x r q * dt r q) al (2 * o)) := by
  refine ((is_dot0 (is_pairX o h hx ht) (is_pairY o h hy)).mulf (is_decay (is_col0 (is_pairA o h ha)) h0)).congr fun l _ m _ => ?_
  simp only [prodDec, prodR, zero_add, show 64 * (2 * o) = 128 * o by omega]

theorem is_pairS1 (hx : Is xg x) (ht : Is tg dt) (ha : Is ac fun r q => al (q / 64) r) (hy : Is yg dy) (h1 : Is r1 fun _ m => al (2 * o + 1) m) :
    Is (pairS1 ![0, 128 * o] h xg tg ac yg r1) (prodDec dy (fun r q => x r q * dt r q) al (2 * o + 1)) := by
  refine ((is_dot1 (is_pairX o h hx ht) (is_pairY o h hy)).mulf (is_decay (is_col1 (is_pairA o h ha)) h1)).congr fun l _ m _ => ?_
  simp only [prodDec, prodR, show 64 * (2 * o + 1) = 128 * o + 64 by omega, add_assoc]

theorem is_pairT0 (hx : Is xg x) (ht : Is tg dt) (ha : Is ac fun r q => al (q / 64) r) (hy : Is yg dy) (h0 : Is r0 fun _ m => al (2 * o) m) :
    Is (pairT0 ![0, 128 * o] h xg tg ac yg r0) fun m l => prodDec dy (fun r q => x r q * dt r q) al (2 * o) l m := by
  refine ((is_dot0 (is_pairY o h hy) (is_pairX o h hx ht)).mulf (is_decayT (is_col0 (is_pairA o h ha)) h0)).congr fun m _ l _ => ?_
  rw [prodR_swap]
  simp only [prodDec, prodR, zero_add, show 64 * (2 * o) = 128 * o by omega]

theorem is_pairT1 (hx : Is xg x) (ht : Is tg dt) (ha : Is ac fun r q => al (q / 64) r) (hy : Is yg dy) (h1 : Is r1 fun _ m => al (2 * o + 1) m) :
    Is (pairT1 ![0, 128 * o] h xg tg ac yg r1) fun m l => prodDec dy (fun r q => x r q * dt r q) al (2 * o + 1) l m := by
  refine ((is_dot1 (is_pairY o h hy) (is_pairX o h hx ht)).mulf (is_decayT (is_col1 (is_pairA o h ha)) h1)).congr fun m _ l _ => ?_
  rw [prodR_swap]
  simp only [prodDec, prodR, show 64 * (2 * o + 1) = 128 * o + 64 by omega, add_assoc]

end Pair

/-! ## A group's projections -/

section Proj

variable {bg cg : Sq} {xg tg ac hg dg yg : Wide} {r : Fin 8 → FVec Ideal S1x128 .f32}

theorem is_eight {s : Fin 8 → Sq} {f : ℕ → ℕ → ℕ → ℝ} (hs : ∀ k : Fin 8, Is (s k) (f k.val)) :
    Is (eight (s 0) (s 1) (s 2) (s 3) (s 4) (s 5) (s 6) (s 7)) fun l m => ∑ k ∈ range 8, f k l m := by
  refine ((((((((Is.zeroSplat.addf (hs 0)).addf (hs 1)).addf (hs 2)).addf (hs 3)).addf (hs 4)).addf (hs 5)).addf (hs 6)).addf (hs 7)).congr
    fun l _ m _ => ?_
  simp only [sum_range_succ, range_zero, sum_empty]
  rfl

theorem is_projOut {outer s v : Sq} {f S V : ℕ → ℕ → ℝ} (ho : Is outer f) (hs : Is s S) (hv : Is v V) :
    Is (projOut outer s v) fun l n => f l n + ∑ m ∈ range 128, S l m * V m n :=
  (ho.addf (Is.matmul (M := 128) (K := 128) (N := 128) none (hs.truncf bitsLt_bf16_f32) (hv.truncf bitsLt_bf16_f32) Is.zero)).congr
    fun _ _ _ _ => by rw [zero_add]

theorem is_groupC (hb : Is bg b) (hx : Is xg x) (ht : Is tg dt) (ha : Is ac fun r q => al (q / 64) r) (hh : Is hg hin) (hy : Is yg dy)
    (hr : ∀ k : Fin 8, Is (r k) fun _ m => al k.val m) :
    Is (groupC bg xg tg ac hg yg r) fun l n => ∑ q ∈ range 512, (dy l q * Real.exp (al (q / 64) l)) * hin n q
      + ∑ m ∈ range 128, (∑ k ∈ range 8, prodDec dy (fun r q => x r q * dt r q) al k l m) * b m n := by
  refine is_projOut (is_cOuter (is_sums ha) hh hy) (is_eight (s := ![_, _, _, _, _, _, _, _]) fun k => ?_) hb
  match k with
  | ⟨0, _⟩ => exact is_pairS0 0 _ hx ht ha hy (hr 0)
  | ⟨1, _⟩ => exact is_pairS1 0 _ hx ht ha hy (hr 1)
  | ⟨2, _⟩ => exact is_pairS0 1 _ hx ht ha hy (hr 2)
  | ⟨3, _⟩ => exact is_pairS1 1 _ hx ht ha hy (hr 3)
  | ⟨4, _⟩ => exact is_pairS0 2 _ hx ht ha hy (hr 4)
  | ⟨5, _⟩ => exact is_pairS1 2 _ hx ht ha hy (hr 5)
  | ⟨6, _⟩ => exact is_pairS0 3 _ hx ht ha hy (hr 6)
  | ⟨7, _⟩ => exact is_pairS1 3 _ hx ht ha hy (hr 7)

theorem is_groupB (hc : Is cg c) (hx : Is xg x) (ht : Is tg dt) (ha : Is ac fun r q => al (q / 64) r) (hd : Is dg dh) (hy : Is yg dy)
    (hr : ∀ k : Fin 8, Is (r k) fun _ m => al k.val m) :
    Is (groupB cg xg tg ac dg yg r) fun m n =>
      ∑ q ∈ range 512, (x m q * dt m q * Real.exp (al (q / 64) 127 - al (q / 64) m)) * dh n q
      + ∑ l ∈ range 128, (∑ k ∈ range 8, prodDec dy (fun r q => x r q * dt r q) al k l m) * c l n := by
  refine is_projOut (is_bOuter (is_scaled hx ht) (is_sums ha) hd)
    (is_eight (s := ![_, _, _, _, _, _, _, _]) (f := fun k m l => prodDec dy (fun r q => x r q * dt r q) al k l m) fun k => ?_) hc
  match k with
  | ⟨0, _⟩ => exact is_pairT0 0 _ hx ht ha hy (hr 0)
  | ⟨1, _⟩ => exact is_pairT1 0 _ hx ht ha hy (hr 1)
  | ⟨2, _⟩ => exact is_pairT0 1 _ hx ht ha hy (hr 2)
  | ⟨3, _⟩ => exact is_pairT1 1 _ hx ht ha hy (hr 3)
  | ⟨4, _⟩ => exact is_pairT0 2 _ hx ht ha hy (hr 4)
  | ⟨5, _⟩ => exact is_pairT1 2 _ hx ht ha hy (hr 5)
  | ⟨6, _⟩ => exact is_pairT0 3 _ hx ht ha hy (hr 6)
  | ⟨7, _⟩ => exact is_pairT1 3 _ hx ht ha hy (hr 7)

end Proj

end

end Scan.Body
-- ==== Proof.Scan.PointReads.lean ====
/- What one grid point's stores hold, over the reals, from what the blocks it reads hold. -/
module

public import proofs.«01_k».proof.Proof.Scan.GroupReads
public import proofs.«01_k».proof.Proof.Scan.Pieces
public import Idealize.ShloMosaic.Lib.Ring
public import Idealize.ShloMosaic.Lib.Tactic

@[expose] public section

namespace Scan.Body

open Idealize.ShloMosaic Idealize.ShloMosaic.ValueIdx Cert.KernelIdeal Finset
open Cert.KernelIdeal.Facts₀ Cert.KernelIdeal.Facts
open Cert.KernelIdeal.Gen (k0_pay25 k0_pay26 k0_pay27 k0_pay28 k0_pay29 k0_pay30 k0_pay31 k0_pay32 k0_pay33)
open scoped BigOperators

noncomputable section

variable {f g : ℕ → ℕ → ℝ}

/-! ## The end of the body -/

theorem is_tailSum {v : Full} (hv : Is v f) : Is (tailSum k0_pay32 v) fun r q => ∑ k ∈ range 128, if r ≤ k then f k q else 0 := by
  have hu := (is_ofMask mask_upper natLt_1_32).truncf bitsLt_bf16_f32 (φ := .f32) (ψ := .bf16)
  have h1 := Is.matmul (M := 128) (K := 128) (N := 2048) none hu (hv.truncf bitsLt_bf16_f32) Is.zero
  have h2 := Is.matmul (M := 128) (K := 128) (N := 2048) none hu (is_rest hv) Is.zero
  refine (h1.addf h2).congr fun r _ q _ => ?_
  simp only [zero_add, mul_zero, sum_const_zero, add_zero, ite_mul, one_mul, zero_mul]

theorem is_stepGrad {n s x : Full} {a : FullRow} {N S X A : ℕ → ℕ → ℝ} (hn : Is n N) (hs : Is s S) (hx : Is x X) (ha : Is a A) :
    Is (stepGrad blockDiag k0_pay32 n s x a) fun r q => (∑ k ∈ range 128, if r ≤ k then N k q else 0) * A 0 q
      + headSum (fun r q => S r q * X r q) r q :=
  ((is_tailSum hn).mulf ((ha.shapeCast shapeCasts_S1x2048_S1x2048).rows (by decide) broadcasts_S1x2048_S128x2048)).addf
    (is_headsFull (hs.mulf hx))

theorem is_pick : Is pick fun r c => if r = 64 * c then 1 else 0 := by
  have hm : Mask (M := 2048) (N := 128) (cmpi .eq (iota .tc S2048x128 32 [0] iota_S2048x128_d0_w32)
    (muli (iota .tc S2048x128 32 [1] iota_S2048x128_d1_w32) (broadcast S2048x128 64#32))) fun r c => r = 64 * c := by
    intro r c
    have hr := r.isLt; have hc := c.isLt
    have kc : ∀ c : Fin 128, (muli (iota .tc S2048x128 32 [1] iota_S2048x128_d1_w32) (broadcast S2048x128 64#32)) (ix2 (n0 := 2048) (n1 := 128) 0 c)
      = BitVec.ofNat 32 (64 * c.val) := by decide +kernel
    have kr : ∀ r : Fin 2048, (iota .tc S2048x128 32 [0] iota_S2048x128_d0_w32) (ix2 (n0 := 2048) (n1 := 128) r 0) = BitVec.ofNat 32 r.val := by
      decide +kernel
    have e : (cmpi .eq (iota .tc S2048x128 32 [0] iota_S2048x128_d0_w32)
      (muli (iota .tc S2048x128 32 [1] iota_S2048x128_d1_w32) (broadcast S2048x128 64#32))) (ix2 r c)
        = IntOp.cmpi .eq (BitVec.ofNat 32 r.val) (BitVec.ofNat 32 (64 * c.val)) := by
      rw [← kr r, ← kc c]; rfl
    rw [e]
    have h2 : BitVec.ofNat 32 r.val = BitVec.ofNat 32 (64 * c.val) ↔ r.val = 64 * c.val := by
      rw [← BitVec.toNat_inj, BitVec.toNat_ofNat, BitVec.toNat_ofNat]
      omega
    constructor
    · intro h
      show BitVec.ofBool (decide (BitVec.ofNat 32 r.val = BitVec.ofNat 32 (64 * c.val))) = 1#1
      rw [decide_eq_true (h2.2 h)]; rfl
    · intro h
      show BitVec.ofBool (decide (BitVec.ofNat 32 r.val = BitVec.ofNat 32 (64 * c.val))) = 0#1
      rw [decide_eq_false (fun e => h (h2.1 e))]; rfl
  exact (is_ofMask hm natLt_1_32).truncf bitsLt_bf16_f32

theorem is_pickDot {z : Full} (hz : Is z f) : Is (pickDot z) fun r c => if c < 32 then f r (64 * c) else 0 := by
  have h1 := Is.matmul (M := 128) (K := 2048) (N := 128) none (hz.truncf bitsLt_bf16_f32) is_pick Is.zero
  have h2 := Is.matmul (M := 128) (K := 2048) (N := 128) none (is_rest hz) is_pick Is.zero
  have h3 := Is.matmul (M := 128) (K := 2048) (N := 128) none
    (is_rest (hz.subf ((hz.truncf bitsLt_bf16_f32).extf bitsLt_bf16_f32))) is_pick Is.zero
  refine (((Is.zeroSplat.addf h1).addf h2).addf h3).congr fun r _ c _ => ?_
  simp only [zero_add, zero_mul, sum_const_zero, add_zero, mul_ite, mul_one, mul_zero, ite_self]
  rw [sum_ite_eq' (range 2048) (64 * c) (fun k => f r k)]
  simp only [mem_range]
  by_cases h : c < 32
  · rw [if_pos h, if_pos (by omega)]
  · rw [if_neg h, if_neg (by omega)]

theorem is_inGrad {s t y : Full} {d : FullRow} {S T Y D : ℕ → ℕ → ℝ} (hs : Is s S) (ht : Is t T) (hy : Is y Y) (hd : Is d D) :
    Is (inGrad s t y d) fun r q => S r q * T r q + Y r q * D 0 q :=
  (hs.mulf ht).addf (hy.mulf ((hd.shapeCast shapeCasts_S1x2048_S1x2048).rows (by decide) broadcasts_S1x2048_S128x2048))

theorem is_addRows {o : FullRow} {v : Full} (ho : Is o f) (hv : Is v g) :
    Is (addRows o v) fun _ q => f 0 q + ∑ r ∈ range 128, g r q := by
  refine ((ho.shapeCast shapeCasts_S1x2048_S1x2048).addf (hv.sumRows reduces_S128x2048_S2048 (.inl rfl) rfl shapeCasts_S2048_S1x2048)).congr
    fun r hr q _ => ?_
  rw [show r = 0 by omega]

/-! ## Stores side by side -/

/-- A store's payload is the wanted matrix at the store's place. -/
def Fits {M N : ℕ} (G : ℕ → ℕ → ℝ) (p : View.Piece (Elt Ideal) ⟨2, ![M, N]⟩ .f32) : Prop :=
  ∀ x : p.1.shape.Idx, p.2 x = ((G (p.1.emb x 0).val (p.1.emb x 1).val : ℝ) : EReal)

theorem fits {M N M' N' a b : ℕ} {G : ℕ → ℕ → ℝ} {inb} {v : FVec Ideal ⟨2, ![M', N']⟩ .f32}
    (hv : Is v fun r c => G (a + r) (b + c)) :
    Fits G (⟨Rect.unit (s := ⟨2, ![M, N]⟩) ![a, b] ![M', N'] inb, v⟩ : View.Piece (Elt Ideal) ⟨2, ![M, N]⟩ .f32) := by
  intro x
  refine (hv.at x).trans ?_
  show ((G (a + (x 0).val) (b + (x 1).val) : ℝ) : EReal) = ((G (a + 1 * (x 0).val) (b + 1 * (x 1).val) : ℝ) : EReal)
  rw [one_mul, one_mul]

theorem is_canon {M N : ℕ} {G : ℕ → ℕ → ℝ} {L : List (View.Piece (Elt Ideal) ⟨2, ![M, N]⟩ .f32)} (h : ∀ p ∈ L, Fits G p)
    (cov : ∀ y, ∃ p ∈ L, y ∈ p.1.set) : Is (View.canon L) G := by
  intro r c
  exact View.canon_apply_of_pieces (Val := Elt Ideal) (S := ⟨2, ![M, N]⟩) (e := .f32) (fun y => ((G (y 0).val (y 1).val : ℝ) : EReal)) L h (ix2 r c) (cov _)

theorem is_load {M N M' N' a b : ℕ} {G : ℕ → ℕ → ℝ} {X : (⟨2, ![M, N]⟩ : Shape).Idx → Elt Ideal .f32} (hX : Is X G) (inb) :
    Is (M := M') (N := N') (View.ld (Val := Elt Ideal) (e' := .f32) X (Rect.unit (s := ⟨2, ![M, N]⟩) ![a, b] ![M', N'] inb)) fun r c => G (a + r) (b + c) := by
  intro r c
  refine (hX.at _).trans ?_
  show ((G (a + 1 * r.val) (b + 1 * c.val) : ℝ) : EReal) = _
  rw [one_mul, one_mul]

/-! ## A grid point's reals -/

/-- The reals one grid point reads. -/
structure Point where
  x : ℕ → ℕ → ℝ
  b : ℕ → ℕ → ℝ
  c : ℕ → ℕ → ℝ
  dt : ℕ → ℕ → ℝ
  al : ℕ → ℕ → ℝ
  hin : ℕ → ℕ → ℝ
  dh : ℕ → ℕ → ℝ
  dy : ℕ → ℕ → ℝ
  a : ℕ → ℝ
  d : ℕ → ℝ
  oldA : ℕ → ℝ
  oldD : ℕ → ℝ

namespace Point

variable (m : Point)

/-- The scaled input. -/
def xd (r q : ℕ) : ℝ := m.x r q * m.dt r q
/-- `B` times the later state's gradient. -/
def bh (r q : ℕ) : ℝ := ∑ n ∈ range 128, m.b r (128 * (q / 512) + n) * m.dh n q
/-- `C` times the earlier state. -/
def ch (r q : ℕ) : ℝ := ∑ n ∈ range 128, m.c r (128 * (q / 512) + n) * m.hin n q
/-- `C Bᵀ` of a group. -/
def gm (g l k : ℕ) : ℝ := ∑ n ∈ range 128, m.c l (128 * g + n) * m.b k (128 * g + n)
/-- The decay to the chunk's end. -/
def rem (r q : ℕ) : ℝ := Real.exp (m.al (q / 64) 127 - m.al (q / 64) r)
/-- The products of arriving gradient and scaled input of a head. -/
def pr (h l k : ℕ) : ℝ := ∑ p ∈ range 64, m.dy l (64 * h + p) * m.xd k (64 * h + p)
/-- The pairs that start at a row and end after the chunk. -/
def over (r q : ℕ) : ℝ := headSum (fun r q => m.bh r q * (m.xd r q * m.rem r q)) r q
/-- The scaled input's gradient. -/
def inR (r q : ℕ) : ℝ :=
  m.bh r q * m.rem r q + ∑ l ∈ range 128, (m.gm (q / 512) l r * dec (m.al (q / 64)) l r) * m.dy l q
/-- The net flow. -/
def netV (r q : ℕ) : ℝ :=
  headSum (fun r q => m.dy r q * m.ch r q * Real.exp (m.al (q / 64) r)) r q - m.over r q
    + (if r = 127 then ∑ r ∈ range 128, m.over r q + Real.exp (m.al (q / 64) 127) * headSum (fun _ q => ∑ n ∈ range 128, m.dh n q * m.hin n q) 0 q else 0)
    + (∑ k ∈ range 128, m.pr (q / 64) r k * (m.gm (q / 512) r k * dec (m.al (q / 64)) r k)
      - ∑ l ∈ range 128, m.pr (q / 64) l r * (m.gm (q / 512) l r * dec (m.al (q / 64)) l r))
/-- A group's gradient of `C`. -/
def cR (g l n : ℕ) : ℝ :=
  ∑ q ∈ range 512, (m.dy l (512 * g + q) * Real.exp (m.al (8 * g + q / 64) l)) * m.hin n (512 * g + q)
    + ∑ k ∈ range 128, (∑ j ∈ range 8, m.pr (8 * g + j) l k * dec (m.al (8 * g + j)) l k) * m.b k (128 * g + n)
/-- A group's gradient of `B`. -/
def bR (g k n : ℕ) : ℝ :=
  ∑ q ∈ range 512, (m.xd k (512 * g + q) * Real.exp (m.al (8 * g + q / 64) 127 - m.al (8 * g + q / 64) k)) * m.dh n (512 * g + q)
    + ∑ l ∈ range 128, (∑ j ∈ range 8, m.pr (8 * g + j) l k * dec (m.al (8 * g + j)) l k) * m.c l (128 * g + n)
/-- The state's gradient before the chunk. -/
def stR (n q : ℕ) : ℝ :=
  m.dh n q * Real.exp (m.al (q / 64) 127) + ∑ l ∈ range 128, m.c l (128 * (q / 512) + n) * (m.dy l q * Real.exp (m.al (q / 64) l))
/-- The net flow from a row to the chunk's end. -/
def tail (r q : ℕ) : ℝ := ∑ k ∈ range 128, if r ≤ k then m.netV k q else 0
/-- The step size's gradient, on every lane of its head. -/
def stepR (r q : ℕ) : ℝ := m.tail r q * m.a q + headSum (fun r q => m.inR r q * m.x r q) r q
/-- The first output. -/
def outR (r q : ℕ) : ℝ :=
  if q < 2048 then m.inR r q * m.dt r q + m.dy r q * m.d q
  else if q < 2560 then m.bR ((q - 2048) / 128) r ((q - 2048) % 128)
  else m.cR ((q - 2560) / 128) r ((q - 2560) % 128)
/-- The running gradient of `a`. -/
def aR (q : ℕ) : ℝ := m.oldA q + ∑ r ∈ range 128, m.tail r q * m.dt r q
/-- The running gradient of `d`. -/
def dR (q : ℕ) : ℝ := m.oldD q + ∑ r ∈ range 128, m.dy r q * m.x r q

end Point

/-- The blocks hold the reals. -/
structure Blocks.Holds (R : Blocks) (m : Point) : Prop where
  x : ∀ g, Is (R.x g) fun r q => m.x r (512 * g.val + q)
  b : ∀ g, Is (R.b g) fun r n => m.b r (128 * g.val + n)
  c : ∀ g, Is (R.c g) fun r n => m.c r (128 * g.val + n)
  dt : ∀ g, Is (R.dt g) fun r q => m.dt r (512 * g.val + q)
  acs : ∀ g, Is (R.acs g) fun r q => m.al ((512 * g.val + q) / 64) r
  hin : ∀ g, Is (R.hinW g) fun n q => m.hin n (512 * g.val + q)
  dh : ∀ g, Is (R.dh g) fun n q => m.dh n (512 * g.val + q)
  dy : ∀ g, Is (R.dy g) fun r q => m.dy r (512 * g.val + q)
  rows : ∀ k, Is (R.rows k) fun _ l => m.al k.val l
  xF : Is R.xF m.x
  dtF : Is R.dtF m.dt
  dyF : Is R.dyF m.dy
  aF : Is R.aF fun _ q => m.a q
  dF : Is R.dF fun _ q => m.d q
  oldA : Is R.oldA fun _ q => m.oldA q
  oldD : Is R.oldD fun _ q => m.oldD q

/-- A head's sum inside a group is the sum at the absolute lane. -/
theorem headSum_group {F : ℕ → ℕ → ℝ} (g : ℕ) {f : ℕ → ℕ → ℝ} (e : ∀ q < 512, ∀ r, f r q = F r (512 * g + q)) (r : ℕ) {q : ℕ} (hq : q < 512) :
    headSum f r q = headSum F r (512 * g + q) := by
  refine sum_congr rfl fun k hk => ?_
  have := mem_range.1 hk
  rw [e _ (by omega)]
  congr 1; omega

namespace Blocks.Holds

variable {R : Blocks} {m : Point} (H : R.Holds m)
include H

theorem sumsG (g : Fin 4) : Is (R.acs g) fun r q => (fun k => m.al (8 * g.val + k)) (q / 64) r :=
  (H.acs g).congr fun r _ q _ => by
    show m.al _ r = m.al _ r
    congr 1; omega

theorem rowsG (g : Fin 4) (k : Fin 8) : Is (R.rowsOf g k) fun _ l => (fun k => m.al (8 * g.val + k)) k.val l := H.rows _

theorem is_inP (g : Fin 4) (o : ℕ) (ho : o < 4) (h : S128x512.Slices ![0, 128 * o] S128x128) (k0 k1 : Fin 8)
    (e0 : k0.val = 2 * o) (e1 : k1.val = 2 * o + 1) :
    Is (R.inP g ![0, 128 * o] h k0 k1) fun r q => m.inR r (512 * g.val + (128 * o + q)) := by
  have h0 := H.rowsG g k0
  have h1 := H.rowsG g k1
  rw [e0] at h0; rw [e1] at h1
  refine (is_pairIn o h (al := fun k => m.al (8 * g.val + k)) (H.b g) (H.c g) (H.sumsG g) (H.dh g) (H.dy g) h0 h1).congr fun r _ q hq => ?_
  have e2 : (512 * g.val + (128 * o + q)) / 512 = g.val := by omega
  have e3 : (512 * g.val + (128 * o + q)) / 64 = 8 * g.val + (128 * o + q) / 64 := by omega
  simp only [Point.inR, Point.bh, Point.rem, Point.gm, gramR, e2, e3]

theorem is_netP (g : Fin 4) (o : ℕ) (ho : o < 4) (h : S128x512.Slices ![0, 128 * o] S128x128) (k0 k1 : Fin 8)
    (e0 : k0.val = 2 * o) (e1 : k1.val = 2 * o + 1) :
    Is (R.netP g ![0, 128 * o] h k0 k1) fun r q => m.netV r (512 * g.val + (128 * o + q)) := by
  have h0 := H.rowsG g k0
  have h1 := H.rowsG g k1
  rw [e0] at h0; rw [e1] at h1
  refine (is_pairNet o h (al := fun k => m.al (8 * g.val + k)) (H.b g) (H.c g) (H.x g) (H.dt g) (H.sumsG g) (H.hin g) (H.dh g) (H.dy g) h0 h1).congr fun r _ q hq => ?_
  have e2 : (512 * g.val + (128 * o + q)) / 512 = g.val := by omega
  have e3 : (512 * g.val + (128 * o + q)) / 64 = 8 * g.val + (128 * o + q) / 64 := by omega
  have e4 : ∀ q < 512, (512 * g.val + q) / 512 = g.val := fun q hq => by omega
  have e5 : ∀ q < 512, (512 * g.val + q) / 64 = 8 * g.val + q / 64 := fun q hq => by omega
  have hq' : 128 * o + q < 512 := by omega
  rw [headSum_group (F := fun r q => m.dy r q * m.ch r q * Real.exp (m.al (q / 64) r)) g.val
      (fun q hq r => by simp only [Point.ch, e4 q hq, e5 q hq]) r hq',
    headSum_group (F := fun r q => m.bh r q * (m.xd r q * m.rem r q)) g.val
      (fun q hq r => by simp only [Point.bh, Point.xd, Point.rem, e4 q hq, e5 q hq]) r hq',
    sum_congr rfl (fun r _ => headSum_group (F := fun r q => m.bh r q * (m.xd r q * m.rem r q)) g.val
      (fun q hq r => by simp only [Point.bh, Point.xd, Point.rem, e4 q hq, e5 q hq]) r hq'),
    headSum_group (F := fun _ q => ∑ n ∈ range 128, m.dh n q * m.hin n q) g.val (fun q hq r => rfl) 0 hq']
  simp only [Point.netV, Point.over, netR, gramR, prodR, Point.gm, Point.pr, Point.xd, e2, e3]
  have e6 : ∀ k, 64 * (8 * g.val + (128 * o + q) / 64) + k = 512 * g.val + (64 * ((128 * o + q) / 64) + k) := fun k => by omega
  simp only [e6]

theorem is_cP (g : Fin 4) : Is (R.cP g) fun l n => m.cR g.val l n := by
  refine (is_groupC (al := fun k => m.al (8 * g.val + k)) (H.b g) (H.x g) (H.dt g) (H.sumsG g) (H.hin g) (H.dy g) (H.rowsG g)).congr fun l _ n _ => ?_
  have e6 : ∀ j k, 64 * (8 * g.val + j) + k = 512 * g.val + (64 * j + k) := fun j k => by omega
  simp only [Point.cR, Point.pr, Point.xd, prodDec, prodR, e6]

theorem is_bP (g : Fin 4) : Is (R.bP g) fun k n => m.bR g.val k n := by
  refine (is_groupB (al := fun k => m.al (8 * g.val + k)) (H.c g) (H.x g) (H.dt g) (H.sumsG g) (H.dh g) (H.dy g) (H.rowsG g)).congr fun l _ n _ => ?_
  have e6 : ∀ j k, 64 * (8 * g.val + j) + k = 512 * g.val + (64 * j + k) := fun j k => by omega
  simp only [Point.bR, Point.pr, Point.xd, prodDec, prodR, e6]

theorem is_stP (g : Fin 4) : Is (R.stP g) fun n q => m.stR n (512 * g.val + q) := by
  refine (is_stateOut (H.c g) (is_sums (H.sumsG g)) (H.dy g) (H.dh g)).congr fun n _ q hq => ?_
  have e2 : (512 * g.val + q) / 512 = g.val := by omega
  have e3 : (512 * g.val + q) / 64 = 8 * g.val + q / 64 := by omega
  simp only [Point.stR, e2, e3]

theorem fits_st : ∀ p ∈ R.stL, Fits m.stR p := by
  intro p hp
  simp only [Blocks.stL, List.mem_cons, List.not_mem_nil, or_false] at hp
  rcases hp with rfl | rfl | rfl | rfl
  · exact fits ((H.is_stP 3).congr fun _ _ _ _ => by rw [zero_add]; rfl)
  · exact fits ((H.is_stP 2).congr fun _ _ _ _ => by rw [zero_add]; rfl)
  · exact fits ((H.is_stP 1).congr fun _ _ _ _ => by rw [zero_add]; rfl)
  · exact fits ((H.is_stP 0).congr fun _ _ _ _ => by rw [zero_add]; rfl)

theorem is_state : Is (View.canon R.stL) m.stR :=
  is_canon H.fits_st (View.cover_of_tiledBy R.stL ![128, 128] (by sl_kernel_rfl))

theorem is_in : Is (View.canon R.inL) m.inR := by
  have hp : ∀ (g : Fin 4) (o : ℕ) (ho : o < 4) (h : S128x512.Slices ![0, 128 * o] S128x128) (k0 k1 : Fin 8) (e0 : k0.val = 2 * o) (e1 : k1.val = 2 * o + 1)
      (b : ℕ), b = 512 * g.val + 128 * o → Is (R.inP g ![0, 128 * o] h k0 k1) fun r q => m.inR (0 + r) (b + q) :=
    fun g o ho h k0 k1 e0 e1 b hb => (H.is_inP g o ho h k0 k1 e0 e1).congr fun r _ q _ => by rw [hb, zero_add, add_assoc]
  refine is_canon (fun p h => ?_) (View.cover_of_tiledBy R.inL ![128, 128] (by sl_kernel_rfl))
  simp only [Blocks.inL, List.mem_cons, List.not_mem_nil, or_false] at h
  rcases h with rfl | rfl | rfl | rfl | rfl | rfl | rfl | rfl | rfl | rfl | rfl | rfl | rfl | rfl | rfl | rfl
  · exact fits (hp 3 3 (by decide) _ 6 7 rfl rfl 1920 rfl)
  · exact fits (hp 3 2 (by decide) _ 4 5 rfl rfl 1792 rfl)
  · exact fits (hp 3 1 (by decide) _ 2 3 rfl rfl 1664 rfl)
  · exact fits (hp 3 0 (by decide) _ 0 1 rfl rfl 1536 rfl)
  · exact fits (hp 2 3 (by decide) _ 6 7 rfl rfl 1408 rfl)
  · exact fits (hp 2 2 (by decide) _ 4 5 rfl rfl 1280 rfl)
  · exact fits (hp 2 1 (by decide) _ 2 3 rfl rfl 1152 rfl)
  · exact fits (hp 2 0 (by decide) _ 0 1 rfl rfl 1024 rfl)
  · exact fits (hp 1 3 (by decide) _ 6 7 rfl rfl 896 rfl)
  · exact fits (hp 1 2 (by decide) _ 4 5 rfl rfl 768 rfl)
  · exact fits (hp 1 1 (by decide) _ 2 3 rfl rfl 640 rfl)
  · exact fits (hp 1 0 (by decide) _ 0 1 rfl rfl 512 rfl)
  · exact fits (hp 0 3 (by decide) _ 6 7 rfl rfl 384 rfl)
  · exact fits (hp 0 2 (by decide) _ 4 5 rfl rfl 256 rfl)
  · exact fits (hp 0 1 (by decide) _ 2 3 rfl rfl 128 rfl)
  · exact fits (hp 0 0 (by decide) _ 0 1 rfl rfl 0 rfl)

theorem is_net : Is (View.canon R.netL) m.netV := by
  have hp : ∀ (g : Fin 4) (o : ℕ) (ho : o < 4) (h : S128x512.Slices ![0, 128 * o] S128x128) (k0 k1 : Fin 8) (e0 : k0.val = 2 * o) (e1 : k1.val = 2 * o + 1)
      (b : ℕ), b = 512 * g.val + 128 * o → Is (R.netP g ![0, 128 * o] h k0 k1) fun r q => m.netV (0 + r) (b + q) :=
    fun g o ho h k0 k1 e0 e1 b hb => (H.is_netP g o ho h k0 k1 e0 e1).congr fun r _ q _ => by rw [hb, zero_add, add_assoc]
  refine is_canon (fun p h => ?_) (View.cover_of_tiledBy R.netL ![128, 128] (by sl_kernel_rfl))
  simp only [Blocks.netL, List.mem_cons, List.not_mem_nil, or_false] at h
  rcases h with rfl | rfl | rfl | rfl | rfl | rfl | rfl | rfl | rfl | rfl | rfl | rfl | rfl | rfl | rfl | rfl
  · exact fits (hp 3 3 (by decide) _ 6 7 rfl rfl 1920 rfl)
  · exact fits (hp 3 2 (by decide) _ 4 5 rfl rfl 1792 rfl)
  · exact fits (hp 3 1 (by decide) _ 2 3 rfl rfl 1664 rfl)
  · exact fits (hp 3 0 (by decide) _ 0 1 rfl rfl 1536 rfl)
  · exact fits (hp 2 3 (by decide) _ 6 7 rfl rfl 1408 rfl)
  · exact fits (hp 2 2 (by decide) _ 4 5 rfl rfl 1280 rfl)
  · exact fits (hp 2 1 (by decide) _ 2 3 rfl rfl 1152 rfl)
  · exact fits (hp 2 0 (by decide) _ 0 1 rfl rfl 1024 rfl)
  · exact fits (hp 1 3 (by decide) _ 6 7 rfl rfl 896 rfl)
  · exact fits (hp 1 2 (by decide) _ 4 5 rfl rfl 768 rfl)
  · exact fits (hp 1 1 (by decide) _ 2 3 rfl rfl 640 rfl)
  · exact fits (hp 1 0 (by decide) _ 0 1 rfl rfl 512 rfl)
  · exact fits (hp 0 3 (by decide) _ 6 7 rfl rfl 384 rfl)
  · exact fits (hp 0 2 (by decide) _ 4 5 rfl rfl 256 rfl)
  · exact fits (hp 0 1 (by decide) _ 2 3 rfl rfl 128 rfl)
  · exact fits (hp 0 0 (by decide) _ 0 1 rfl rfl 0 rfl)

theorem is_out {dxs : Full} (hs : Is dxs m.inR) : Is (View.canon (R.outL dxs)) m.outR := by
  refine is_canon (fun p h => ?_) (View.cover_of_tiledBy (R.outL dxs) ![128, 128] (by sl_kernel_rfl))
  have hb : ∀ (g : Fin 4) (b : ℕ), b = 2048 + 128 * g.val → Is (R.bP g) fun r n => m.outR (0 + r) (b + n) :=
    fun g b e => (H.is_bP g).congr fun r _ n hn => by
      have hg := g.isLt
      rw [zero_add, Point.outR, if_neg (by omega), if_pos (by omega), show (b + n - 2048) / 128 = g.val by omega,
        show (b + n - 2048) % 128 = n by omega]
  have hc : ∀ (g : Fin 4) (b : ℕ), b = 2560 + 128 * g.val → Is (R.cP g) fun r n => m.outR (0 + r) (b + n) :=
    fun g b e => (H.is_cP g).congr fun r _ n hn => by
      have hg := g.isLt
      rw [zero_add, Point.outR, if_neg (by omega), if_neg (by omega), show (b + n - 2560) / 128 = g.val by omega,
        show (b + n - 2560) % 128 = n by omega]
  simp only [Blocks.outL, List.mem_cons, List.not_mem_nil, or_false] at h
  rcases h with rfl | rfl | rfl | rfl | rfl | rfl | rfl | rfl | rfl
  · exact fits ((is_inGrad hs (H.dtF.shapeCast shapeCasts_S128x2048_S128x2048) H.dyF H.dF).congr fun r _ q hq => by
      rw [zero_add, zero_add, Point.outR, if_pos hq])
  · exact fits (hb 3 2432 rfl)
  · exact fits (hc 3 2944 rfl)
  · exact fits (hb 2 2304 rfl)
  · exact fits (hc 2 2816 rfl)
  · exact fits (hb 1 2176 rfl)
  · exact fits (hc 1 2688 rfl)
  · exact fits (hb 0 2048 rfl)
  · exact fits (hc 0 2560 rfl)

theorem is_step {dacs dxs : Full} (hn : Is dacs m.netV) (hs : Is dxs m.inR) :
    Is (R.stepP dacs dxs) fun r c => if c < 32 then m.stepR r (64 * c) else 0 :=
  is_pickDot (is_stepGrad hn hs H.xF H.aF)

theorem is_a {dacs : Full} (hn : Is dacs m.netV) : Is (R.aP dacs) fun _ q => m.aR q :=
  is_addRows H.oldA ((is_tailSum hn).mulf (H.dtF.shapeCast shapeCasts_S128x2048_S128x2048))

theorem is_d : Is R.dP fun _ q => m.dR q := is_addRows H.oldD (H.dyF.mulf H.xF)

end Blocks.Holds

end

end Scan.Body
-- ==== Proof.Scan.LoadReads.lean ====
/- What the loads of one grid point hold: a load of a window's block, and a load of what earlier stores left. -/
module

public import proofs.«01_k».proof.Proof.Scan.PointReads
public import Idealize.ShloMosaic.Lib.Pipeline.ReadBack
public import proofs.«01_k».proof.Proof.Gen.KernelIdeal.Skeleton

@[expose] public section

namespace Scan.Body

open Idealize.ShloMosaic Idealize.ShloMosaic.ValueIdx Cert.KernelIdeal Finset
open Cert.KernelIdeal.Facts₀ Cert.KernelIdeal.Facts
open scoped BigOperators

noncomputable section

variable {M N M' N' a b : ℕ} {G : ℕ → ℕ → ℝ}

/-- A rectangle of a block. -/
theorem is_read {arg : Memref sig .tc .vmem ⟨2, ![M, N]⟩ .f32} (h : arg.IsWhole) {X : Vec Ideal ⟨2, ![M, N]⟩ .f32} (hX : Is X G) (inb) :
    Is (M := M') (N := N') (View.readAt (Elt Ideal) arg.view (Rect.unit (s := ⟨2, ![M, N]⟩) ![a, b] ![M', N'] inb).toLoadRect (h.unread X))
      fun r c => G (a + r) (b + c) := by
  rw [View.readAt_eq_ld, h.read_unread]
  exact is_load hX inb

/-- The whole of a block. -/
theorem is_readAll {arg : Memref sig .tc .vmem ⟨2, ![M, N]⟩ .f32} (h : arg.IsWhole) {X : Vec Ideal ⟨2, ![M, N]⟩ .f32} (hX : Is X G) (inb) :
    Is (M := M') (N := N') (View.readAt (Elt Ideal) arg.view (Rect.unit (s := ⟨2, ![M, N]⟩) ![0, 0] ![M', N'] inb).toLoadRect (h.unread X)) G :=
  (is_read h hX inb).congr fun _ _ _ _ => by rw [zero_add, zero_add]

/-- A rectangle of a block with a leading unit axis, as a matrix. -/
theorem is_read3 {arg : Memref sig .tc .vmem ⟨3, ![1, M, N]⟩ .f32} (h : arg.IsWhole) {X : Vec Ideal ⟨3, ![1, M, N]⟩ .f32}
    (hX : ∀ (r : Fin M) (c : Fin N), X (ix3 0 r c) = ((G r.val c.val : ℝ) : EReal)) (inb)
    (hs : (⟨3, ![1, M', N']⟩ : Shape).ShapeCasts ⟨2, ![M', N']⟩) :
    Is (M := M') (N := N') (shapeCast ⟨2, ![M', N']⟩ (View.readAt (Elt Ideal) arg.view (Rect.unit (s := ⟨3, ![1, M, N]⟩) ![0, a, b] ![1, M', N'] inb).toLoadRect (h.unread X)) hs)
      fun r c => G (a + r) (b + c) := by
  intro r c
  rw [View.readAt_eq_ld, h.read_unread]
  rw [shapeCast_apply _ hs (ix2 r c) (ix3 0 r c) (by
    rw [Shape.rowMajor_val_three, Shape.rowMajor_val_two]
    show (0 * M' + r.val) * N' + c.val = r.val * N' + c.val
    rw [zero_mul, zero_add])]
  have h1 : a + M' ≤ M := inb 1
  have h2 : b + N' ≤ N := inb 2
  refine Eq.trans (congrArg X ?_) (hX ⟨a + r.val, by omega⟩ ⟨b + c.val, by omega⟩)
  funext d
  match d with
  | ⟨0, _⟩ => exact Fin.ext rfl
  | ⟨1, _⟩ => exact Fin.ext (show a + 1 * r.val = a + r.val by rw [one_mul])
  | ⟨2, _⟩ => exact Fin.ext (show b + 1 * c.val = b + c.val by rw [one_mul])

/-- A load of the whole of what a list of stores left. -/
theorem is_back {sig' : RefSig} {κ' : Kind} {sp : Space} (v : View sig' κ' sp ⟨2, ![M, N]⟩ .f32) {L : List (View.Piece (Elt Ideal) ⟨2, ![M, N]⟩ .f32)}
    (h : Is (View.canon L) G) (inb) :
    Is (M := M) (N := N) (v.readCov L (Rect.unit (s := ⟨2, ![M, N]⟩) ![0, 0] ![M, N] inb).toLoadRect) G := by
  rw [View.readCov_eq_canon']
  intro r c
  refine (h.at _).trans ?_
  show ((G (0 + 1 * r.val) (0 + 1 * c.val) : ℝ) : EReal) = _
  rw [one_mul, one_mul, zero_add, zero_add]

/-- One store of the whole. -/
theorem is_canon_whole {v : FVec Ideal ⟨2, ![M, N]⟩ .f32} (hv : Is v G) {inb} {L : List (View.Piece (Elt Ideal) ⟨2, ![M, N]⟩ .f32)} :
    Is (View.canon ((⟨Rect.unit (s := ⟨2, ![M, N]⟩) ![0, 0] ![M, N] inb, v⟩ : View.Piece (Elt Ideal) ⟨2, ![M, N]⟩ .f32) :: L)) G := by
  have e : (![0, 0] : Fin 2 → ℕ) = fun _ => 0 := by decide
  intro r c
  rw [View.canon_cons_unit_zero (S := ⟨2, ![M, N]⟩) e inb v L]
  exact hv r c

/-- Stores side by side over earlier ones. -/
theorem is_canon_append {L L' : List (View.Piece (Elt Ideal) ⟨2, ![M, N]⟩ .f32)} (h : ∀ p ∈ L, Fits G p)
    (cov : ∀ y, ∃ p ∈ L, y ∈ p.1.set) : Is (View.canon (L ++ L')) G := by
  have key : ∀ (L : List (View.Piece (Elt Ideal) ⟨2, ![M, N]⟩ .f32)) (_ : ∀ p ∈ L, Fits G p) (y : (⟨2, ![M, N]⟩ : Shape).Idx) (_ : ∃ p ∈ L, y ∈ p.1.set),
      View.canon (L ++ L') y = ((G (y 0).val (y 1).val : ℝ) : EReal) := by
    intro L
    induction L with
    | nil => intro _ y hy; obtain ⟨p, hp, _⟩ := hy; exact absurd hp List.not_mem_nil
    | cons p L ih =>
      intro hL y hy
      rw [List.cons_append]
      by_cases hm : y ∈ p.1.set
      · obtain ⟨x, rfl⟩ := p.1.exists_idx_of_mem hm
        rw [show p.1.idx x = p.1.emb x from rfl, View.canon_cons_emb]
        exact hL p List.mem_cons_self x
      · rw [View.canon_cons_of_not_mem _ _ hm]
        refine ih (fun q hq => hL q (List.mem_cons_of_mem _ hq)) y ?_
        obtain ⟨q, hq, hyq⟩ := hy
        rcases List.mem_cons.mp hq with rfl | hq'
        · exact absurd hyq hm
        · exact ⟨q, hq', hyq⟩
  exact fun r c => key L h (ix2 r c) (cov _)

theorem is_zeroFull : Is (M := 128) (N := 2048) (Gen.k0_pay22 (F := Ideal)) fun _ _ => 0 :=
  Is.shapeCast Is.zeroSplat shapeCasts_S128x2048_S128x2048

theorem is_zeroA : Is (M := 1) (N := 2048) (Gen.k0_pay23 (F := Ideal)) fun _ _ => 0 := Is.zeroSplat

theorem is_zeroD : Is (M := 1) (N := 2048) (Gen.k0_pay24 (F := Ideal)) fun _ _ => 0 := Is.zeroSplat

/-- A load after a fill with zeros, the stores in between elsewhere. -/
theorem is_fill {sig' : RefSig} {κ' : Kind} {sp : Space} (v : View sig' κ' sp ⟨2, ![M, N]⟩ .f32) {Z : FVec Ideal ⟨2, ![M, N]⟩ .f32} (hZ : Is Z fun _ _ => 0) (inb) (inb') :
    Is (M := M') (N := N') (v.readCov ([⟨Rect.unit (s := ⟨2, ![M, N]⟩) ![0, 0] ![M, N] inb, Z⟩] : List (View.Piece (Elt Ideal) ⟨2, ![M, N]⟩ .f32))
      (Rect.unit (s := ⟨2, ![M, N]⟩) ![a, b] ![M', N'] inb').toLoadRect) fun _ _ => 0 := by
  have e := View.readCov_fill (Val := Elt Ideal) v (s := ⟨2, ![M, N]⟩) (off := ![0, 0]) inb Z [] (Rect.unit (s := ⟨2, ![M, N]⟩) ![a, b] ![M', N'] inb')
    (fun d => match d with | ⟨0, _⟩ => rfl | ⟨1, _⟩ => rfl)
  intro r c
  exact (congrFun e (ix2 r c)).trans (is_load hZ inb' r c)

/-- A family of blocks listed one by one. -/
theorem is_cons {M N n : ℕ} {v : (⟨2, ![M, N]⟩ : Shape).Idx → EReal} {w : Fin n → (⟨2, ![M, N]⟩ : Shape).Idx → EReal} {f : Fin (n + 1) → ℕ → ℕ → ℝ}
    (h0 : Is v (f 0)) (h : ∀ k : Fin n, Is (w k) (f k.succ)) : ∀ k, Is (Matrix.vecCons v w k) (f k) :=
  Fin.cases h0 h

/-- A family of states, each under one outer axis of length one, listed one by one. -/
theorem is_consH {n : ℕ} {hs : S1x128x512.ShapeCasts S128x512} {v : Vec Ideal S1x128x512 .f32} {w : Fin n → Vec Ideal S1x128x512 .f32} {f : Fin (n + 1) → ℕ → ℕ → ℝ}
    (h0 : Is (M := 128) (N := 512) (shapeCast S128x512 v hs) (f 0)) (h : ∀ k : Fin n, Is (M := 128) (N := 512) (shapeCast S128x512 (w k) hs) (f k.succ)) :
    ∀ k, Is (M := 128) (N := 512) (shapeCast S128x512 (Matrix.vecCons v w k) hs) (f k) :=
  Fin.cases h0 h

theorem is_nilH {hs : S1x128x512.ShapeCasts S128x512} {w : Fin 0 → Vec Ideal S1x128x512 .f32} {f : Fin 0 → ℕ → ℕ → ℝ} :
    ∀ k : Fin 0, Is (M := 128) (N := 512) (shapeCast S128x512 (w k) hs) (f k) :=
  fun k => k.elim0

theorem is_nil {M N : ℕ} {w : Fin 0 → (⟨2, ![M, N]⟩ : Shape).Idx → EReal} {f : Fin 0 → ℕ → ℕ → ℝ} : ∀ k : Fin 0, Is (w k) (f k) :=
  fun k => k.elim0

/-- What one grid point's windows hold. -/
structure Inputs (x0 : Vec Ideal S128x3072 .f32) (x1 x2 : Vec Ideal S128x2048 .f32) (x3 : Vec Ideal S32x128 .f32) (x4 x5 : Vec Ideal S1x2048 .f32)
    (x6 : Vec Ideal S1x128x2048 .f32) (x7 : Vec Ideal S128x2048 .f32) (m : Point) : Prop where
  x0 : Is (M := 128) (N := 3072) x0 fun r q => if q < 2048 then m.x r q else if q < 2560 then m.b r (q - 2048) else m.c r (q - 2560)
  x1 : Is (M := 128) (N := 2048) x1 m.dt
  x2 : Is (M := 128) (N := 2048) x2 fun r q => m.al (q / 64) r
  x3 : Is (M := 32) (N := 128) x3 m.al
  x4 : Is (M := 1) (N := 2048) x4 fun _ q => m.d q
  x5 : Is (M := 1) (N := 2048) x5 fun _ q => m.a q
  x6 : ∀ (n : Fin 128) (q : Fin 2048), x6 (ix3 0 n q) = ((m.hin n.val q.val : ℝ) : EReal)
  x7 : Is (M := 128) (N := 2048) x7 m.dy

namespace Inputs

variable {x0 : Vec Ideal S128x3072 .f32} {x1 x2 : Vec Ideal S128x2048 .f32} {x3 : Vec Ideal S32x128 .f32} {x4 x5 : Vec Ideal S1x2048 .f32}
    {x6 : Vec Ideal S1x128x2048 .f32} {x7 : Vec Ideal S128x2048 .f32} {m : Point} (H : Inputs x0 x1 x2 x3 x4 x5 x6 x7 m)
include H

theorem readH {arg : Memref sig .tc .vmem S1x128x2048 .f32} (h : arg.IsWhole) (g o : ℕ) (ho : o = 512 * g) (inb) (hs) :
    Is (M := 128) (N := 512) (shapeCast S128x512 (View.readAt (Elt Ideal) arg.view (Rect.unit (s := S1x128x2048) ![0, 0, o] S1x128x512.size inb).toLoadRect (h.unread x6)) hs)
      fun n q => m.hin n (512 * g + q) :=
  (is_read3 (a := 0) (b := o) h H.x6 inb hs).congr fun n _ q _ => by rw [zero_add, ho]

theorem readX {arg : Memref sig .tc .vmem S128x3072 .f32} (h : arg.IsWhole) (g o : ℕ) (ho : o = 512 * g) (hg : g < 4) (inb) :
    Is (M := 128) (N := 512) (View.readAt (Elt Ideal) arg.view (Rect.unit (s := S128x3072) ![0, o] S128x512.size inb).toLoadRect (h.unread x0))
      fun r q => m.x r (512 * g + q) :=
  (is_read (a := 0) (b := o) h H.x0 inb).congr fun r _ q hq => by
    rw [if_pos (by omega), zero_add, ho]

theorem readB {arg : Memref sig .tc .vmem S128x3072 .f32} (h : arg.IsWhole) (g o : ℕ) (ho : o = 2048 + 128 * g) (hg : g < 4) (inb) :
    Is (M := 128) (N := 128) (View.readAt (Elt Ideal) arg.view (Rect.unit (s := S128x3072) ![0, o] S128x128.size inb).toLoadRect (h.unread x0))
      fun r q => m.b r (128 * g + q) :=
  (is_read (a := 0) (b := o) h H.x0 inb).congr fun r _ q hq => by
    rw [if_neg (by omega), if_pos (by omega), zero_add, show o + q - 2048 = 128 * g + q by omega]

theorem readC {arg : Memref sig .tc .vmem S128x3072 .f32} (h : arg.IsWhole) (g o : ℕ) (ho : o = 2560 + 128 * g) (hg : g < 4) (inb) :
    Is (M := 128) (N := 128) (View.readAt (Elt Ideal) arg.view (Rect.unit (s := S128x3072) ![0, o] S128x128.size inb).toLoadRect (h.unread x0))
      fun r q => m.c r (128 * g + q) :=
  (is_read (a := 0) (b := o) h H.x0 inb).congr fun r _ q hq => by
    rw [if_neg (by omega), if_neg (by omega), zero_add, show o + q - 2560 = 128 * g + q by omega]

theorem readXF {arg : Memref sig .tc .vmem S128x3072 .f32} (h : arg.IsWhole) (inb) :
    Is (M := 128) (N := 2048) (View.readAt (Elt Ideal) arg.view (Rect.unit (s := S128x3072) ![0, 0] S128x2048.size inb).toLoadRect (h.unread x0)) m.x :=
  (is_read (a := 0) (b := 0) h H.x0 inb).congr fun r _ q hq => by
    rw [if_pos (by omega), zero_add, zero_add]

end Inputs

/-- A group's lanes of a full block. -/
theorem is_readW {arg : Memref sig .tc .vmem S128x2048 .f32} (h : arg.IsWhole) {X : Vec Ideal S128x2048 .f32} (hX : Is (M := 128) (N := 2048) X G) (g o : ℕ) (ho : o = 512 * g) (inb) :
    Is (M := 128) (N := 512) (View.readAt (Elt Ideal) arg.view (Rect.unit (s := S128x2048) ![0, o] S128x512.size inb).toLoadRect (h.unread X))
      fun r q => G r (512 * g + q) :=
  (is_read (a := 0) (b := o) h hX inb).congr fun r _ q hq => by rw [zero_add, ho]

/-- One row of the transposed running sums. -/
theorem is_readRow {arg : Memref sig .tc .vmem S32x128 .f32} (h : arg.IsWhole) {X : Vec Ideal S32x128 .f32} (hX : Is (M := 32) (N := 128) X G) (k : ℕ) (inb) :
    Is (M := 1) (N := 128) (View.readAt (Elt Ideal) arg.view (Rect.unit (s := S32x128) ![k, 0] S1x128.size inb).toLoadRect (h.unread X))
      fun _ l => G k l :=
  (is_read (a := k) (b := 0) h hX inb).congr fun r hr q hq => by rw [zero_add, show r = 0 by omega, add_zero]

end

end Scan.Body
-- ==== Proof.Scan.CaseA.lean ====
/- What one grid point of case A leaves in its windows and in the carried scratch, over the reals. -/
module

public import proofs.«01_k».proof.Proof.Scan.FoundA
public import proofs.«01_k».proof.Proof.Scan.LoadReads

@[expose] public section

namespace Scan.Body

open Idealize.ShloMosaic Idealize.ShloMosaic.ValueIdx Idealize.ShloMosaic.TcCoe Cert.KernelIdeal Cert.KernelIdeal.Gen

noncomputable section

variable (c : Dev nD) (i : grid0.Coords)
  (arg1 : Memref sig .tc .vmem S128x3072 .f32) (harg1 : arg1.IsWhole)
  (arg2 : Memref sig .tc .vmem S128x2048 .f32) (harg2 : arg2.IsWhole)
  (arg3 : Memref sig .tc .vmem S128x2048 .f32) (harg3 : arg3.IsWhole)
  (arg4 : Memref sig .tc .vmem S32x128 .f32) (harg4 : arg4.IsWhole)
  (arg5 : Memref sig .tc .vmem S1x2048 .f32) (harg5 : arg5.IsWhole)
  (arg6 : Memref sig .tc .vmem S1x2048 .f32) (harg6 : arg6.IsWhole)
  (arg7 : Memref sig .tc .vmem S1x128x2048 .f32) (harg7 : arg7.IsWhole)
  (arg8 : Memref sig .tc .vmem S128x2048 .f32) (harg8 : arg8.IsWhole)
  (arg9 : Memref sig .tc .vmem S128x3072 .f32) (harg9 : arg9.IsWhole)
  (arg10 : Memref sig .tc .vmem S128x128 .f32) (harg10 : arg10.IsWhole)
  (arg11 : Memref sig .tc .vmem S1x2048 .f32) (harg11 : arg11.IsWhole)
  (arg12 : Memref sig .tc .vmem S1x2048 .f32) (harg12 : arg12.IsWhole)
  (arg13 : Memref sig .tc .vmem S128x2048 .f32) (harg13 : arg13.IsWhole)
  (arg14 : Memref sig .tc .vmem S128x2048 .f32) (harg14 : arg14.IsWhole)
  (arg15 : Memref sig .tc .vmem S128x2048 .f32) (harg15 : arg15.IsWhole)
  (hc0 : cond0_0 i) (hc1 : ¬cond0_1 i)
  {x0 : Vec Ideal S128x3072 .f32} {x1 x2 : Vec Ideal S128x2048 .f32} {x3 : Vec Ideal S32x128 .f32} {x4 x5 : Vec Ideal S1x2048 .f32} {x6 : Vec Ideal S1x128x2048 .f32} {x7 : Vec Ideal S128x2048 .f32}
  {m : Point} (H : Inputs x0 x1 x2 x3 x4 x5 x6 x7 m)
  (ha : m.oldA = fun _ => 0) (hd : m.oldD = fun _ => 0) (hs : m.dh = fun _ _ => 0)

theorem is_dhA0 : Is (dhA0 arg13) fun _ _ => 0 := by
  unfold dhA0
  exact is_fill _ is_zeroFull _ _

theorem is_dhA1 : Is (dhA1 arg1 harg1 arg3 harg3 arg8 harg8 arg13 x0 x2 x7) fun _ _ => 0 := by
  unfold dhA1
  rw [View.readCov_skip (h := by decide)]
  exact is_fill _ is_zeroFull _ _

theorem is_dhA2 : Is (dhA2 arg1 harg1 arg3 harg3 arg8 harg8 arg13 x0 x2 x7) fun _ _ => 0 := by
  unfold dhA2
  rw [View.readCov_skip (h := by decide)]
  rw [View.readCov_skip (h := by decide)]
  exact is_fill _ is_zeroFull _ _

theorem is_dhA3 : Is (dhA3 arg1 harg1 arg3 harg3 arg8 harg8 arg13 x0 x2 x7) fun _ _ => 0 := by
  unfold dhA3
  rw [View.readCov_skip (h := by decide)]
  rw [View.readCov_skip (h := by decide)]
  rw [View.readCov_skip (h := by decide)]
  exact is_fill _ is_zeroFull _ _

include H ha hd hs

set_option maxHeartbeats 2000000 in
/-- The blocks read hold the point's reals. -/
theorem holdsA : (blocksA arg1 harg1 arg2 harg2 arg3 harg3 arg4 harg4 arg5 harg5 arg6 harg6 arg7 harg7 arg8 harg8 arg11 arg12 arg13 x0 x1 x2 x3 x4 x5 x6 x7).Holds m := by
  unfold blocksA
  exact {
  x :=
    is_cons (H.readX harg1 0 0 rfl (by decide) _) <|
    is_cons (H.readX harg1 1 512 rfl (by decide) _) <|
    is_cons (H.readX harg1 2 1024 rfl (by decide) _) <|
    is_cons (H.readX harg1 3 1536 rfl (by decide) _) <|
    is_nil
  b :=
    is_cons (H.readB harg1 0 2048 rfl (by decide) _) <|
    is_cons (H.readB harg1 1 2176 rfl (by decide) _) <|
    is_cons (H.readB harg1 2 2304 rfl (by decide) _) <|
    is_cons (H.readB harg1 3 2432 rfl (by decide) _) <|
    is_nil
  c :=
    is_cons (H.readC harg1 0 2560 rfl (by decide) _) <|
    is_cons (H.readC harg1 1 2688 rfl (by decide) _) <|
    is_cons (H.readC harg1 2 2816 rfl (by decide) _) <|
    is_cons (H.readC harg1 3 2944 rfl (by decide) _) <|
    is_nil
  dt :=
    is_cons (is_readW harg2 H.x1 0 0 rfl _) <|
    is_cons (is_readW harg2 H.x1 1 512 rfl _) <|
    is_cons (is_readW harg2 H.x1 2 1024 rfl _) <|
    is_cons (is_readW harg2 H.x1 3 1536 rfl _) <|
    is_nil
  acs :=
    is_cons (is_readW harg3 H.x2 0 0 rfl _) <|
    is_cons (is_readW harg3 H.x2 1 512 rfl _) <|
    is_cons (is_readW harg3 H.x2 2 1024 rfl _) <|
    is_cons (is_readW harg3 H.x2 3 1536 rfl _) <|
    is_nil
  hin :=
    is_consH (H.readH harg7 0 0 rfl _ _) <|
    is_consH (H.readH harg7 1 512 rfl _ _) <|
    is_consH (H.readH harg7 2 1024 rfl _ _) <|
    is_consH (H.readH harg7 3 1536 rfl _ _) <|
    is_nilH
  dh :=
    is_cons ((is_dhA0 arg13).congr fun _ _ _ _ => by rw [hs]) <|
    is_cons ((is_dhA1 arg1 harg1 arg3 harg3 arg8 harg8 arg13).congr fun _ _ _ _ => by rw [hs]) <|
    is_cons ((is_dhA2 arg1 harg1 arg3 harg3 arg8 harg8 arg13).congr fun _ _ _ _ => by rw [hs]) <|
    is_cons ((is_dhA3 arg1 harg1 arg3 harg3 arg8 harg8 arg13).congr fun _ _ _ _ => by rw [hs]) <|
    is_nil
  dy :=
    is_cons (is_readW harg8 H.x7 0 0 rfl _) <|
    is_cons (is_readW harg8 H.x7 1 512 rfl _) <|
    is_cons (is_readW harg8 H.x7 2 1024 rfl _) <|
    is_cons (is_readW harg8 H.x7 3 1536 rfl _) <|
    is_nil
  rows :=
    is_cons (is_readRow harg4 H.x3 0 _) <|
    is_cons (is_readRow harg4 H.x3 1 _) <|
    is_cons (is_readRow harg4 H.x3 2 _) <|
    is_cons (is_readRow harg4 H.x3 3 _) <|
    is_cons (is_readRow harg4 H.x3 4 _) <|
    is_cons (is_readRow harg4 H.x3 5 _) <|
    is_cons (is_readRow harg4 H.x3 6 _) <|
    is_cons (is_readRow harg4 H.x3 7 _) <|
    is_cons (is_readRow harg4 H.x3 8 _) <|
    is_cons (is_readRow harg4 H.x3 9 _) <|
    is_cons (is_readRow harg4 H.x3 10 _) <|
    is_cons (is_readRow harg4 H.x3 11 _) <|
    is_cons (is_readRow harg4 H.x3 12 _) <|
    is_cons (is_readRow harg4 H.x3 13 _) <|
    is_cons (is_readRow harg4 H.x3 14 _) <|
    is_cons (is_readRow harg4 H.x3 15 _) <|
    is_cons (is_readRow harg4 H.x3 16 _) <|
    is_cons (is_readRow harg4 H.x3 17 _) <|
    is_cons (is_readRow harg4 H.x3 18 _) <|
    is_cons (is_readRow harg4 H.x3 19 _) <|
    is_cons (is_readRow harg4 H.x3 20 _) <|
    is_cons (is_readRow harg4 H.x3 21 _) <|
    is_cons (is_readRow harg4 H.x3 22 _) <|
    is_cons (is_readRow harg4 H.x3 23 _) <|
    is_cons (is_readRow harg4 H.x3 24 _) <|
    is_cons (is_readRow harg4 H.x3 25 _) <|
    is_cons (is_readRow harg4 H.x3 26 _) <|
    is_cons (is_readRow harg4 H.x3 27 _) <|
    is_cons (is_readRow harg4 H.x3 28 _) <|
    is_cons (is_readRow harg4 H.x3 29 _) <|
    is_cons (is_readRow harg4 H.x3 30 _) <|
    is_cons (is_readRow harg4 H.x3 31 _) <|
    is_nil
  xF := H.readXF harg1 _
  dtF := is_readAll harg2 H.x1 _
  dyF := is_readAll harg8 H.x7 _
  aF := is_readAll harg6 H.x5 _
  dF := is_readAll harg5 H.x4 _
  oldA := (is_fill (a := 0) (b := 0) arg11.view is_zeroA _ _).congr fun _ _ _ _ => by rw [ha]
  oldD := (is_fill (a := 0) (b := 0) arg12.view is_zeroD _ _).congr fun _ _ _ _ => by rw [hd]
  }

theorem is_dxsA : Is (dxsA arg1 harg1 arg2 harg2 arg3 harg3 arg4 harg4 arg5 harg5 arg6 harg6 arg7 harg7 arg8 harg8 arg11 arg12 arg13 arg15 x0 x1 x2 x3 x4 x5 x6 x7) m.inR := is_back _ (holdsA arg1 harg1 arg2 harg2 arg3 harg3 arg4 harg4 arg5 harg5 arg6 harg6 arg7 harg7 arg8 harg8 arg11 arg12 arg13 H ha hd hs).is_in _

theorem is_netA : Is (netA arg1 harg1 arg2 harg2 arg3 harg3 arg4 harg4 arg5 harg5 arg6 harg6 arg7 harg7 arg8 harg8 arg11 arg12 arg13 arg14 x0 x1 x2 x3 x4 x5 x6 x7) m.netV := is_back _ (holdsA arg1 harg1 arg2 harg2 arg3 harg3 arg4 harg4 arg5 harg5 arg6 harg6 arg7 harg7 arg8 harg8 arg11 arg12 arg13 H ha hd hs).is_net _

theorem is_outA_8 : Is (M := 128) (N := 3072) (out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7) m.outR := by
  unfold out0_A_8
  rw [View.read_writes_junk_eq_canon, outA_found]
  exact (holdsA arg1 harg1 arg2 harg2 arg3 harg3 arg4 harg4 arg5 harg5 arg6 harg6 arg7 harg7 arg8 harg8 arg11 arg12 arg13 H ha hd hs).is_out (is_dxsA arg1 harg1 arg2 harg2 arg3 harg3 arg4 harg4 arg5 harg5 arg6 harg6 arg7 harg7 arg8 harg8 arg11 arg12 arg13 arg15 H ha hd hs)

theorem is_outA_9 : Is (M := 128) (N := 128) (out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7) fun r c => if c < 32 then m.stepR r (64 * c) else 0 := by
  unfold out0_A_9
  rw [View.read_writes_junk_eq_canon, stepA_found]
  exact is_canon_whole ((holdsA arg1 harg1 arg2 harg2 arg3 harg3 arg4 harg4 arg5 harg5 arg6 harg6 arg7 harg7 arg8 harg8 arg11 arg12 arg13 H ha hd hs).is_step (is_netA arg1 harg1 arg2 harg2 arg3 harg3 arg4 harg4 arg5 harg5 arg6 harg6 arg7 harg7 arg8 harg8 arg11 arg12 arg13 arg14 H ha hd hs) (is_dxsA arg1 harg1 arg2 harg2 arg3 harg3 arg4 harg4 arg5 harg5 arg6 harg6 arg7 harg7 arg8 harg8 arg11 arg12 arg13 arg15 H ha hd hs))

theorem is_outA_10 : Is (M := 1) (N := 2048) (out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7) fun _ q => m.aR q := by
  unfold out0_A_10
  rw [View.read_writes_junk_eq_canon, aA_found]
  exact is_canon_whole ((holdsA arg1 harg1 arg2 harg2 arg3 harg3 arg4 harg4 arg5 harg5 arg6 harg6 arg7 harg7 arg8 harg8 arg11 arg12 arg13 H ha hd hs).is_a (is_netA arg1 harg1 arg2 harg2 arg3 harg3 arg4 harg4 arg5 harg5 arg6 harg6 arg7 harg7 arg8 harg8 arg11 arg12 arg13 arg14 H ha hd hs))

theorem is_outA_11 : Is (M := 1) (N := 2048) (out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7) fun _ q => m.dR q := by
  unfold out0_A_11
  rw [View.read_writes_junk_eq_canon, dA_found]
  exact is_canon_whole (holdsA arg1 harg1 arg2 harg2 arg3 harg3 arg4 harg4 arg5 harg5 arg6 harg6 arg7 harg7 arg8 harg8 arg11 arg12 arg13 H ha hd hs).is_d

theorem is_soutA : Is (M := 128) (N := 2048) (sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7) m.stR := by
  unfold sout0_A_0
  rw [View.read_writes_junk_eq_canon, stateA_found]
  exact is_canon_append (holdsA arg1 harg1 arg2 harg2 arg3 harg3 arg4 harg4 arg5 harg5 arg6 harg6 arg7 harg7 arg8 harg8 arg11 arg12 arg13 H ha hd hs).fits_st (View.cover_of_tiledBy _ ![128, 128] (by sl_kernel_rfl))

end

end Scan.Body
-- ==== Proof.Scan.FoundB.lean ====
/- The stores found for one grid point of case B: the lists of `Pieces.lean` at the blocks this case reads. -/
module

public import proofs.«01_k».proof.Proof.Gen.KernelIdeal.Frame
public import proofs.«01_k».proof.Proof.Scan.Pieces

@[expose] public section

namespace Scan.Body

open Idealize.ShloMosaic Idealize.ShloMosaic.TcCoe Cert.KernelIdeal Cert.KernelIdeal.Gen

noncomputable section

variable (c : Dev nD) (i : grid0.Coords)
  (arg1 : Memref sig .tc .vmem S128x3072 .f32) (harg1 : arg1.IsWhole)
  (arg2 : Memref sig .tc .vmem S128x2048 .f32) (harg2 : arg2.IsWhole)
  (arg3 : Memref sig .tc .vmem S128x2048 .f32) (harg3 : arg3.IsWhole)
  (arg4 : Memref sig .tc .vmem S32x128 .f32) (harg4 : arg4.IsWhole)
  (arg5 : Memref sig .tc .vmem S1x2048 .f32) (harg5 : arg5.IsWhole)
  (arg6 : Memref sig .tc .vmem S1x2048 .f32) (harg6 : arg6.IsWhole)
  (arg7 : Memref sig .tc .vmem S1x128x2048 .f32) (harg7 : arg7.IsWhole)
  (arg8 : Memref sig .tc .vmem S128x2048 .f32) (harg8 : arg8.IsWhole)
  (arg9 : Memref sig .tc .vmem S128x3072 .f32) (harg9 : arg9.IsWhole)
  (arg10 : Memref sig .tc .vmem S128x128 .f32) (harg10 : arg10.IsWhole)
  (arg11 : Memref sig .tc .vmem S1x2048 .f32) (harg11 : arg11.IsWhole)
  (arg12 : Memref sig .tc .vmem S1x2048 .f32) (harg12 : arg12.IsWhole)
  (arg13 : Memref sig .tc .vmem S128x2048 .f32) (harg13 : arg13.IsWhole)
  (arg14 : Memref sig .tc .vmem S128x2048 .f32) (harg14 : arg14.IsWhole)
  (arg15 : Memref sig .tc .vmem S128x2048 .f32) (harg15 : arg15.IsWhole)
  (hc0 : ¬cond0_0 i) (hc1 : ¬cond0_1 i)
  (x0 : Vec Ideal S128x3072 .f32) (x1 x2 : Vec Ideal S128x2048 .f32) (x3 : Vec Ideal S32x128 .f32) (x4 x5 : Vec Ideal S1x2048 .f32) (x6 : Vec Ideal S1x128x2048 .f32) (x7 : Vec Ideal S128x2048 .f32) (xo10 xo11 : Vec Ideal S1x2048 .f32) (xs0 : Vec Ideal S128x2048 .f32)

/-- The blocks this case reads. -/
def blocksB : Blocks where
  x := ![
    View.readAt (Elt Ideal) arg1.view (Rect.unit (s := S128x3072) ![0, 0] S128x512.size inb_S128x3072_S128x512_0_0).toLoadRect (harg1.unread x0),
    View.readAt (Elt Ideal) arg1.view (Rect.unit (s := S128x3072) ![0, 512] S128x512.size inb_S128x3072_S128x512_0_512).toLoadRect (harg1.unread x0),
    View.readAt (Elt Ideal) arg1.view (Rect.unit (s := S128x3072) ![0, 1024] S128x512.size inb_S128x3072_S128x512_0_1024).toLoadRect (harg1.unread x0),
    View.readAt (Elt Ideal) arg1.view (Rect.unit (s := S128x3072) ![0, 1536] S128x512.size inb_S128x3072_S128x512_0_1536).toLoadRect (harg1.unread x0)]
  b := ![
    View.readAt (Elt Ideal) arg1.view (Rect.unit (s := S128x3072) ![0, 2048] S128x128.size inb_S128x3072_S128x128_0_2048).toLoadRect (harg1.unread x0),
    View.readAt (Elt Ideal) arg1.view (Rect.unit (s := S128x3072) ![0, 2176] S128x128.size inb_S128x3072_S128x128_0_2176).toLoadRect (harg1.unread x0),
    View.readAt (Elt Ideal) arg1.view (Rect.unit (s := S128x3072) ![0, 2304] S128x128.size inb_S128x3072_S128x128_0_2304).toLoadRect (harg1.unread x0),
    View.readAt (Elt Ideal) arg1.view (Rect.unit (s := S128x3072) ![0, 2432] S128x128.size inb_S128x3072_S128x128_0_2432).toLoadRect (harg1.unread x0)]
  c := ![
    View.readAt (Elt Ideal) arg1.view (Rect.unit (s := S128x3072) ![0, 2560] S128x128.size inb_S128x3072_S128x128_0_2560).toLoadRect (harg1.unread x0),
    View.readAt (Elt Ideal) arg1.view (Rect.unit (s := S128x3072) ![0, 2688] S128x128.size inb_S128x3072_S128x128_0_2688).toLoadRect (harg1.unread x0),
    View.readAt (Elt Ideal) arg1.view (Rect.unit (s := S128x3072) ![0, 2816] S128x128.size inb_S128x3072_S128x128_0_2816).toLoadRect (harg1.unread x0),
    View.readAt (Elt Ideal) arg1.view (Rect.unit (s := S128x3072) ![0, 2944] S128x128.size inb_S128x3072_S128x128_0_2944).toLoadRect (harg1.unread x0)]
  dt := ![
    View.readAt (Elt Ideal) arg2.view (Rect.unit (s := S128x2048) ![0, 0] S128x512.size inb_S128x2048_S128x512_0_0).toLoadRect (harg2.unread x1),
    View.readAt (Elt Ideal) arg2.view (Rect.unit (s := S128x2048) ![0, 512] S128x512.size inb_S128x2048_S128x512_0_512).toLoadRect (harg2.unread x1),
    View.readAt (Elt Ideal) arg2.view (Rect.unit (s := S128x2048) ![0, 1024] S128x512.size inb_S128x2048_S128x512_0_1024).toLoadRect (harg2.unread x1),
    View.readAt (Elt Ideal) arg2.view (Rect.unit (s := S128x2048) ![0, 1536] S128x512.size inb_S128x2048_S128x512_0_1536).toLoadRect (harg2.unread x1)]
  acs := ![
    View.readAt (Elt Ideal) arg3.view (Rect.unit (s := S128x2048) ![0, 0] S128x512.size inb_S128x2048_S128x512_0_0).toLoadRect (harg3.unread x2),
    View.readAt (Elt Ideal) arg3.view (Rect.unit (s := S128x2048) ![0, 512] S128x512.size inb_S128x2048_S128x512_0_512).toLoadRect (harg3.unread x2),
    View.readAt (Elt Ideal) arg3.view (Rect.unit (s := S128x2048) ![0, 1024] S128x512.size inb_S128x2048_S128x512_0_1024).toLoadRect (harg3.unread x2),
    View.readAt (Elt Ideal) arg3.view (Rect.unit (s := S128x2048) ![0, 1536] S128x512.size inb_S128x2048_S128x512_0_1536).toLoadRect (harg3.unread x2)]
  hin := ![
    View.readAt (Elt Ideal) arg7.view (Rect.unit (s := S1x128x2048) ![0, 0, 0] S1x128x512.size inb_S1x128x2048_S1x128x512_0_0_0).toLoadRect (harg7.unread x6),
    View.readAt (Elt Ideal) arg7.view (Rect.unit (s := S1x128x2048) ![0, 0, 512] S1x128x512.size inb_S1x128x2048_S1x128x512_0_0_512).toLoadRect (harg7.unread x6),
    View.readAt (Elt Ideal) arg7.view (Rect.unit (s := S1x128x2048) ![0, 0, 1024] S1x128x512.size inb_S1x128x2048_S1x128x512_0_0_1024).toLoadRect (harg7.unread x6),
    View.readAt (Elt Ideal) arg7.view (Rect.unit (s := S1x128x2048) ![0, 0, 1536] S1x128x512.size inb_S1x128x2048_S1x128x512_0_0_1536).toLoadRect (harg7.unread x6)]
  dh := ![
    View.readAt (Elt Ideal) arg13.view (Rect.unit (s := S128x2048) ![0, 0] S128x512.size inb_S128x2048_S128x512_0_0).toLoadRect (harg13.unread xs0),
    View.readAt (Elt Ideal) arg13.view (Rect.unit (s := S128x2048) ![0, 512] S128x512.size inb_S128x2048_S128x512_0_512).toLoadRect (harg13.unread xs0),
    View.readAt (Elt Ideal) arg13.view (Rect.unit (s := S128x2048) ![0, 1024] S128x512.size inb_S128x2048_S128x512_0_1024).toLoadRect (harg13.unread xs0),
    View.readAt (Elt Ideal) arg13.view (Rect.unit (s := S128x2048) ![0, 1536] S128x512.size inb_S128x2048_S128x512_0_1536).toLoadRect (harg13.unread xs0)]
  dy := ![
    View.readAt (Elt Ideal) arg8.view (Rect.unit (s := S128x2048) ![0, 0] S128x512.size inb_S128x2048_S128x512_0_0).toLoadRect (harg8.unread x7),
    View.readAt (Elt Ideal) arg8.view (Rect.unit (s := S128x2048) ![0, 512] S128x512.size inb_S128x2048_S128x512_0_512).toLoadRect (harg8.unread x7),
    View.readAt (Elt Ideal) arg8.view (Rect.unit (s := S128x2048) ![0, 1024] S128x512.size inb_S128x2048_S128x512_0_1024).toLoadRect (harg8.unread x7),
    View.readAt (Elt Ideal) arg8.view (Rect.unit (s := S128x2048) ![0, 1536] S128x512.size inb_S128x2048_S128x512_0_1536).toLoadRect (harg8.unread x7)]
  rows := ![
    View.readAt (Elt Ideal) arg4.view (Rect.unit (s := S32x128) ![0, 0] S1x128.size inb_S32x128_S1x128_0_0).toLoadRect (harg4.unread x3),
    View.readAt (Elt Ideal) arg4.view (Rect.unit (s := S32x128) ![1, 0] S1x128.size inb_S32x128_S1x128_1_0).toLoadRect (harg4.unread x3),
    View.readAt (Elt Ideal) arg4.view (Rect.unit (s := S32x128) ![2, 0] S1x128.size inb_S32x128_S1x128_2_0).toLoadRect (harg4.unread x3),
    View.readAt (Elt Ideal) arg4.view (Rect.unit (s := S32x128) ![3, 0] S1x128.size inb_S32x128_S1x128_3_0).toLoadRect (harg4.unread x3),
    View.readAt (Elt Ideal) arg4.view (Rect.unit (s := S32x128) ![4, 0] S1x128.size inb_S32x128_S1x128_4_0).toLoadRect (harg4.unread x3),
    View.readAt (Elt Ideal) arg4.view (Rect.unit (s := S32x128) ![5, 0] S1x128.size inb_S32x128_S1x128_5_0).toLoadRect (harg4.unread x3),
    View.readAt (Elt Ideal) arg4.view (Rect.unit (s := S32x128) ![6, 0] S1x128.size inb_S32x128_S1x128_6_0).toLoadRect (harg4.unread x3),
    View.readAt (Elt Ideal) arg4.view (Rect.unit (s := S32x128) ![7, 0] S1x128.size inb_S32x128_S1x128_7_0).toLoadRect (harg4.unread x3),
    View.readAt (Elt Ideal) arg4.view (Rect.unit (s := S32x128) ![8, 0] S1x128.size inb_S32x128_S1x128_8_0).toLoadRect (harg4.unread x3),
    View.readAt (Elt Ideal) arg4.view (Rect.unit (s := S32x128) ![9, 0] S1x128.size inb_S32x128_S1x128_9_0).toLoadRect (harg4.unread x3),
    View.readAt (Elt Ideal) arg4.view (Rect.unit (s := S32x128) ![10, 0] S1x128.size inb_S32x128_S1x128_10_0).toLoadRect (harg4.unread x3),
    View.readAt (Elt Ideal) arg4.view (Rect.unit (s := S32x128) ![11, 0] S1x128.size inb_S32x128_S1x128_11_0).toLoadRect (harg4.unread x3),
    View.readAt (Elt Ideal) arg4.view (Rect.unit (s := S32x128) ![12, 0] S1x128.size inb_S32x128_S1x128_12_0).toLoadRect (harg4.unread x3),
    View.readAt (Elt Ideal) arg4.view (Rect.unit (s := S32x128) ![13, 0] S1x128.size inb_S32x128_S1x128_13_0).toLoadRect (harg4.unread x3),
    View.readAt (Elt Ideal) arg4.view (Rect.unit (s := S32x128) ![14, 0] S1x128.size inb_S32x128_S1x128_14_0).toLoadRect (harg4.unread x3),
    View.readAt (Elt Ideal) arg4.view (Rect.unit (s := S32x128) ![15, 0] S1x128.size inb_S32x128_S1x128_15_0).toLoadRect (harg4.unread x3),
    View.readAt (Elt Ideal) arg4.view (Rect.unit (s := S32x128) ![16, 0] S1x128.size inb_S32x128_S1x128_16_0).toLoadRect (harg4.unread x3),
    View.readAt (Elt Ideal) arg4.view (Rect.unit (s := S32x128) ![17, 0] S1x128.size inb_S32x128_S1x128_17_0).toLoadRect (harg4.unread x3),
    View.readAt (Elt Ideal) arg4.view (Rect.unit (s := S32x128) ![18, 0] S1x128.size inb_S32x128_S1x128_18_0).toLoadRect (harg4.unread x3),
    View.readAt (Elt Ideal) arg4.view (Rect.unit (s := S32x128) ![19, 0] S1x128.size inb_S32x128_S1x128_19_0).toLoadRect (harg4.unread x3),
    View.readAt (Elt Ideal) arg4.view (Rect.unit (s := S32x128) ![20, 0] S1x128.size inb_S32x128_S1x128_20_0).toLoadRect (harg4.unread x3),
    View.readAt (Elt Ideal) arg4.view (Rect.unit (s := S32x128) ![21, 0] S1x128.size inb_S32x128_S1x128_21_0).toLoadRect (harg4.unread x3),
    View.readAt (Elt Ideal) arg4.view (Rect.unit (s := S32x128) ![22, 0] S1x128.size inb_S32x128_S1x128_22_0).toLoadRect (harg4.unread x3),
    View.readAt (Elt Ideal) arg4.view (Rect.unit (s := S32x128) ![23, 0] S1x128.size inb_S32x128_S1x128_23_0).toLoadRect (harg4.unread x3),
    View.readAt (Elt Ideal) arg4.view (Rect.unit (s := S32x128) ![24, 0] S1x128.size inb_S32x128_S1x128_24_0).toLoadRect (harg4.unread x3),
    View.readAt (Elt Ideal) arg4.view (Rect.unit (s := S32x128) ![25, 0] S1x128.size inb_S32x128_S1x128_25_0).toLoadRect (harg4.unread x3),
    View.readAt (Elt Ideal) arg4.view (Rect.unit (s := S32x128) ![26, 0] S1x128.size inb_S32x128_S1x128_26_0).toLoadRect (harg4.unread x3),
    View.readAt (Elt Ideal) arg4.view (Rect.unit (s := S32x128) ![27, 0] S1x128.size inb_S32x128_S1x128_27_0).toLoadRect (harg4.unread x3),
    View.readAt (Elt Ideal) arg4.view (Rect.unit (s := S32x128) ![28, 0] S1x128.size inb_S32x128_S1x128_28_0).toLoadRect (harg4.unread x3),
    View.readAt (Elt Ideal) arg4.view (Rect.unit (s := S32x128) ![29, 0] S1x128.size inb_S32x128_S1x128_29_0).toLoadRect (harg4.unread x3),
    View.readAt (Elt Ideal) arg4.view (Rect.unit (s := S32x128) ![30, 0] S1x128.size inb_S32x128_S1x128_30_0).toLoadRect (harg4.unread x3),
    View.readAt (Elt Ideal) arg4.view (Rect.unit (s := S32x128) ![31, 0] S1x128.size inb_S32x128_S1x128_31_0).toLoadRect (harg4.unread x3)]
  xF := View.readAt (Elt Ideal) arg1.view (Rect.unit (s := S128x3072) ![0, 0] S128x2048.size inb_S128x3072_S128x2048_0_0).toLoadRect (harg1.unread x0)
  dtF := View.readAt (Elt Ideal) arg2.view (Rect.unit (s := S128x2048) ![0, 0] S128x2048.size inb_S128x2048_S128x2048_0_0).toLoadRect (harg2.unread x1)
  dyF := View.readAt (Elt Ideal) arg8.view (Rect.unit (s := S128x2048) ![0, 0] S128x2048.size inb_S128x2048_S128x2048_0_0).toLoadRect (harg8.unread x7)
  aF := View.readAt (Elt Ideal) arg6.view (Rect.unit (s := S1x2048) ![0, 0] S1x2048.size inb_S1x2048_S1x2048_0_0).toLoadRect (harg6.unread x5)
  dF := View.readAt (Elt Ideal) arg5.view (Rect.unit (s := S1x2048) ![0, 0] S1x2048.size inb_S1x2048_S1x2048_0_0).toLoadRect (harg5.unread x4)
  oldA := View.readAt (Elt Ideal) arg11.view (Rect.unit (s := S1x2048) ![0, 0] S1x2048.size inb_S1x2048_S1x2048_0_0).toLoadRect (harg11.unread xo10)
  oldD := View.readAt (Elt Ideal) arg12.view (Rect.unit (s := S1x2048) ![0, 0] S1x2048.size inb_S1x2048_S1x2048_0_0).toLoadRect (harg12.unread xo11)

/-- The scaled input's gradient, read back. -/
def dxsB : Full := arg15.view.readCov (Blocks.inL (blocksB arg1 harg1 arg2 harg2 arg3 harg3 arg4 harg4 arg5 harg5 arg6 harg6 arg7 harg7 arg8 harg8 arg11 harg11 arg12 harg12 arg13 harg13 x0 x1 x2 x3 x4 x5 x6 x7 xo10 xo11 xs0)) (Rect.unit ![0, 0] S128x2048.size inb_S128x2048_S128x2048_0_0).toLoadRect
/-- The net flow, read back. -/
def netB : Full := arg14.view.readCov (Blocks.netL (blocksB arg1 harg1 arg2 harg2 arg3 harg3 arg4 harg4 arg5 harg5 arg6 harg6 arg7 harg7 arg8 harg8 arg11 harg11 arg12 harg12 arg13 harg13 x0 x1 x2 x3 x4 x5 x6 x7 xo10 xo11 xs0)) (Rect.unit ![0, 0] S128x2048.size inb_S128x2048_S128x2048_0_0).toLoadRect

theorem stateB_found : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo10 xo11 xs0).2.2.2.2.1 = (blocksB arg1 harg1 arg2 harg2 arg3 harg3 arg4 harg4 arg5 harg5 arg6 harg6 arg7 harg7 arg8 harg8 arg11 harg11 arg12 harg12 arg13 harg13 x0 x1 x2 x3 x4 x5 x6 x7 xo10 xo11 xs0).stL := by
  sl_kernel_rfl
theorem netB_found : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo10 xo11 xs0).2.2.2.2.2.1 = (blocksB arg1 harg1 arg2 harg2 arg3 harg3 arg4 harg4 arg5 harg5 arg6 harg6 arg7 harg7 arg8 harg8 arg11 harg11 arg12 harg12 arg13 harg13 x0 x1 x2 x3 x4 x5 x6 x7 xo10 xo11 xs0).netL := by
  sl_kernel_rfl
theorem inB_found : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo10 xo11 xs0).2.2.2.2.2.2.1 = (blocksB arg1 harg1 arg2 harg2 arg3 harg3 arg4 harg4 arg5 harg5 arg6 harg6 arg7 harg7 arg8 harg8 arg11 harg11 arg12 harg12 arg13 harg13 x0 x1 x2 x3 x4 x5 x6 x7 xo10 xo11 xs0).inL := by
  sl_kernel_rfl
theorem outB_found : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo10 xo11 xs0).1 = (blocksB arg1 harg1 arg2 harg2 arg3 harg3 arg4 harg4 arg5 harg5 arg6 harg6 arg7 harg7 arg8 harg8 arg11 harg11 arg12 harg12 arg13 harg13 x0 x1 x2 x3 x4 x5 x6 x7 xo10 xo11 xs0).outL (dxsB arg1 harg1 arg2 harg2 arg3 harg3 arg4 harg4 arg5 harg5 arg6 harg6 arg7 harg7 arg8 harg8 arg11 harg11 arg12 harg12 arg13 harg13 arg15 x0 x1 x2 x3 x4 x5 x6 x7 xo10 xo11 xs0) := by
  sl_kernel_rfl
theorem stepB_found : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo10 xo11 xs0).2.1 = [⟨Rect.unit ![0, 0] S128x128.size inb_S128x128_S128x128_0_0, (blocksB arg1 harg1 arg2 harg2 arg3 harg3 arg4 harg4 arg5 harg5 arg6 harg6 arg7 harg7 arg8 harg8 arg11 harg11 arg12 harg12 arg13 harg13 x0 x1 x2 x3 x4 x5 x6 x7 xo10 xo11 xs0).stepP (netB arg1 harg1 arg2 harg2 arg3 harg3 arg4 harg4 arg5 harg5 arg6 harg6 arg7 harg7 arg8 harg8 arg11 harg11 arg12 harg12 arg13 harg13 arg14 x0 x1 x2 x3 x4 x5 x6 x7 xo10 xo11 xs0) (dxsB arg1 harg1 arg2 harg2 arg3 harg3 arg4 harg4 arg5 harg5 arg6 harg6 arg7 harg7 arg8 harg8 arg11 harg11 arg12 harg12 arg13 harg13 arg15 x0 x1 x2 x3 x4 x5 x6 x7 xo10 xo11 xs0)⟩] := by
  sl_kernel_rfl
theorem aB_found : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo10 xo11 xs0).2.2.1 = [⟨Rect.unit ![0, 0] S1x2048.size inb_S1x2048_S1x2048_0_0, (blocksB arg1 harg1 arg2 harg2 arg3 harg3 arg4 harg4 arg5 harg5 arg6 harg6 arg7 harg7 arg8 harg8 arg11 harg11 arg12 harg12 arg13 harg13 x0 x1 x2 x3 x4 x5 x6 x7 xo10 xo11 xs0).aP (netB arg1 harg1 arg2 harg2 arg3 harg3 arg4 harg4 arg5 harg5 arg6 harg6 arg7 harg7 arg8 harg8 arg11 harg11 arg12 harg12 arg13 harg13 arg14 x0 x1 x2 x3 x4 x5 x6 x7 xo10 xo11 xs0)⟩] := by
  sl_kernel_rfl

theorem dB_found : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo10 xo11 xs0).2.2.2.1 = [⟨Rect.unit ![0, 0] S1x2048.size inb_S1x2048_S1x2048_0_0, (blocksB arg1 harg1 arg2 harg2 arg3 harg3 arg4 harg4 arg5 harg5 arg6 harg6 arg7 harg7 arg8 harg8 arg11 harg11 arg12 harg12 arg13 harg13 x0 x1 x2 x3 x4 x5 x6 x7 xo10 xo11 xs0).dP⟩] := by
  sl_kernel_rfl

end

end Scan.Body
-- ==== Proof.Scan.CaseB.lean ====
/- What one grid point of case B leaves in its windows and in the carried scratch, over the reals. -/
module

public import proofs.«01_k».proof.Proof.Scan.FoundB
public import proofs.«01_k».proof.Proof.Scan.LoadReads

@[expose] public section

namespace Scan.Body

open Idealize.ShloMosaic Idealize.ShloMosaic.ValueIdx Idealize.ShloMosaic.TcCoe Cert.KernelIdeal Cert.KernelIdeal.Gen

noncomputable section

variable (c : Dev nD) (i : grid0.Coords)
  (arg1 : Memref sig .tc .vmem S128x3072 .f32) (harg1 : arg1.IsWhole)
  (arg2 : Memref sig .tc .vmem S128x2048 .f32) (harg2 : arg2.IsWhole)
  (arg3 : Memref sig .tc .vmem S128x2048 .f32) (harg3 : arg3.IsWhole)
  (arg4 : Memref sig .tc .vmem S32x128 .f32) (harg4 : arg4.IsWhole)
  (arg5 : Memref sig .tc .vmem S1x2048 .f32) (harg5 : arg5.IsWhole)
  (arg6 : Memref sig .tc .vmem S1x2048 .f32) (harg6 : arg6.IsWhole)
  (arg7 : Memref sig .tc .vmem S1x128x2048 .f32) (harg7 : arg7.IsWhole)
  (arg8 : Memref sig .tc .vmem S128x2048 .f32) (harg8 : arg8.IsWhole)
  (arg9 : Memref sig .tc .vmem S128x3072 .f32) (harg9 : arg9.IsWhole)
  (arg10 : Memref sig .tc .vmem S128x128 .f32) (harg10 : arg10.IsWhole)
  (arg11 : Memref sig .tc .vmem S1x2048 .f32) (harg11 : arg11.IsWhole)
  (arg12 : Memref sig .tc .vmem S1x2048 .f32) (harg12 : arg12.IsWhole)
  (arg13 : Memref sig .tc .vmem S128x2048 .f32) (harg13 : arg13.IsWhole)
  (arg14 : Memref sig .tc .vmem S128x2048 .f32) (harg14 : arg14.IsWhole)
  (arg15 : Memref sig .tc .vmem S128x2048 .f32) (harg15 : arg15.IsWhole)
  (hc0 : ¬cond0_0 i) (hc1 : ¬cond0_1 i)
  {x0 : Vec Ideal S128x3072 .f32} {x1 x2 : Vec Ideal S128x2048 .f32} {x3 : Vec Ideal S32x128 .f32} {x4 x5 : Vec Ideal S1x2048 .f32} {x6 : Vec Ideal S1x128x2048 .f32} {x7 : Vec Ideal S128x2048 .f32} {xo10 xo11 : Vec Ideal S1x2048 .f32} {xs0 : Vec Ideal S128x2048 .f32}
  {m : Point} (H : Inputs x0 x1 x2 x3 x4 x5 x6 x7 m)
  (ha : Is (M := 1) (N := 2048) xo10 fun _ q => m.oldA q) (hd : Is (M := 1) (N := 2048) xo11 fun _ q => m.oldD q) (hs : Is (M := 128) (N := 2048) xs0 m.dh)

include H ha hd hs

set_option maxHeartbeats 2000000 in
/-- The blocks read hold the point's reals. -/
theorem holdsB : (blocksB arg1 harg1 arg2 harg2 arg3 harg3 arg4 harg4 arg5 harg5 arg6 harg6 arg7 harg7 arg8 harg8 arg11 harg11 arg12 harg12 arg13 harg13 x0 x1 x2 x3 x4 x5 x6 x7 xo10 xo11 xs0).Holds m := by
  unfold blocksB
  exact {
  x :=
    is_cons (H.readX harg1 0 0 rfl (by decide) _) <|
    is_cons (H.readX harg1 1 512 rfl (by decide) _) <|
    is_cons (H.readX harg1 2 1024 rfl (by decide) _) <|
    is_cons (H.readX harg1 3 1536 rfl (by decide) _) <|
    is_nil
  b :=
    is_cons (H.readB harg1 0 2048 rfl (by decide) _) <|
    is_cons (H.readB harg1 1 2176 rfl (by decide) _) <|
    is_cons (H.readB harg1 2 2304 rfl (by decide) _) <|
    is_cons (H.readB harg1 3 2432 rfl (by decide) _) <|
    is_nil
  c :=
    is_cons (H.readC harg1 0 2560 rfl (by decide) _) <|
    is_cons (H.readC harg1 1 2688 rfl (by decide) _) <|
    is_cons (H.readC harg1 2 2816 rfl (by decide) _) <|
    is_cons (H.readC harg1 3 2944 rfl (by decide) _) <|
    is_nil
  dt :=
    is_cons (is_readW harg2 H.x1 0 0 rfl _) <|
    is_cons (is_readW harg2 H.x1 1 512 rfl _) <|
    is_cons (is_readW harg2 H.x1 2 1024 rfl _) <|
    is_cons (is_readW harg2 H.x1 3 1536 rfl _) <|
    is_nil
  acs :=
    is_cons (is_readW harg3 H.x2 0 0 rfl _) <|
    is_cons (is_readW harg3 H.x2 1 512 rfl _) <|
    is_cons (is_readW harg3 H.x2 2 1024 rfl _) <|
    is_cons (is_readW harg3 H.x2 3 1536 rfl _) <|
    is_nil
  hin :=
    is_consH (H.readH harg7 0 0 rfl _ _) <|
    is_consH (H.readH harg7 1 512 rfl _ _) <|
    is_consH (H.readH harg7 2 1024 rfl _ _) <|
    is_consH (H.readH harg7 3 1536 rfl _ _) <|
    is_nilH
  dh :=
    is_cons (is_readW harg13 hs 0 0 rfl _) <|
    is_cons (is_readW harg13 hs 1 512 rfl _) <|
    is_cons (is_readW harg13 hs 2 1024 rfl _) <|
    is_cons (is_readW harg13 hs 3 1536 rfl _) <|
    is_nil
  dy :=
    is_cons (is_readW harg8 H.x7 0 0 rfl _) <|
    is_cons (is_readW harg8 H.x7 1 512 rfl _) <|
    is_cons (is_readW harg8 H.x7 2 1024 rfl _) <|
    is_cons (is_readW harg8 H.x7 3 1536 rfl _) <|
    is_nil
  rows :=
    is_cons (is_readRow harg4 H.x3 0 _) <|
    is_cons (is_readRow harg4 H.x3 1 _) <|
    is_cons (is_readRow harg4 H.x3 2 _) <|
    is_cons (is_readRow harg4 H.x3 3 _) <|
    is_cons (is_readRow harg4 H.x3 4 _) <|
    is_cons (is_readRow harg4 H.x3 5 _) <|
    is_cons (is_readRow harg4 H.x3 6 _) <|
    is_cons (is_readRow harg4 H.x3 7 _) <|
    is_cons (is_readRow harg4 H.x3 8 _) <|
    is_cons (is_readRow harg4 H.x3 9 _) <|
    is_cons (is_readRow harg4 H.x3 10 _) <|
    is_cons (is_readRow harg4 H.x3 11 _) <|
    is_cons (is_readRow harg4 H.x3 12 _) <|
    is_cons (is_readRow harg4 H.x3 13 _) <|
    is_cons (is_readRow harg4 H.x3 14 _) <|
    is_cons (is_readRow harg4 H.x3 15 _) <|
    is_cons (is_readRow harg4 H.x3 16 _) <|
    is_cons (is_readRow harg4 H.x3 17 _) <|
    is_cons (is_readRow harg4 H.x3 18 _) <|
    is_cons (is_readRow harg4 H.x3 19 _) <|
    is_cons (is_readRow harg4 H.x3 20 _) <|
    is_cons (is_readRow harg4 H.x3 21 _) <|
    is_cons (is_readRow harg4 H.x3 22 _) <|
    is_cons (is_readRow harg4 H.x3 23 _) <|
    is_cons (is_readRow harg4 H.x3 24 _) <|
    is_cons (is_readRow harg4 H.x3 25 _) <|
    is_cons (is_readRow harg4 H.x3 26 _) <|
    is_cons (is_readRow harg4 H.x3 27 _) <|
    is_cons (is_readRow harg4 H.x3 28 _) <|
    is_cons (is_readRow harg4 H.x3 29 _) <|
    is_cons (is_readRow harg4 H.x3 30 _) <|
    is_cons (is_readRow harg4 H.x3 31 _) <|
    is_nil
  xF := H.readXF harg1 _
  dtF := is_readAll harg2 H.x1 _
  dyF := is_readAll harg8 H.x7 _
  aF := is_readAll harg6 H.x5 _
  dF := is_readAll harg5 H.x4 _
  oldA := is_readAll harg11 ha _
  oldD := is_readAll harg12 hd _
  }

theorem is_dxsB : Is (dxsB arg1 harg1 arg2 harg2 arg3 harg3 arg4 harg4 arg5 harg5 arg6 harg6 arg7 harg7 arg8 harg8 arg11 harg11 arg12 harg12 arg13 harg13 arg15 x0 x1 x2 x3 x4 x5 x6 x7 xo10 xo11 xs0) m.inR := is_back _ (holdsB arg1 harg1 arg2 harg2 arg3 harg3 arg4 harg4 arg5 harg5 arg6 harg6 arg7 harg7 arg8 harg8 arg11 harg11 arg12 harg12 arg13 harg13 H ha hd hs).is_in _

theorem is_netB : Is (netB arg1 harg1 arg2 harg2 arg3 harg3 arg4 harg4 arg5 harg5 arg6 harg6 arg7 harg7 arg8 harg8 arg11 harg11 arg12 harg12 arg13 harg13 arg14 x0 x1 x2 x3 x4 x5 x6 x7 xo10 xo11 xs0) m.netV := is_back _ (holdsB arg1 harg1 arg2 harg2 arg3 harg3 arg4 harg4 arg5 harg5 arg6 harg6 arg7 harg7 arg8 harg8 arg11 harg11 arg12 harg12 arg13 harg13 H ha hd hs).is_net _

theorem is_outB_8 : Is (M := 128) (N := 3072) (out0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo10 xo11 xs0) m.outR := by
  unfold out0_B_8
  rw [View.read_writes_junk_eq_canon, outB_found]
  exact (holdsB arg1 harg1 arg2 harg2 arg3 harg3 arg4 harg4 arg5 harg5 arg6 harg6 arg7 harg7 arg8 harg8 arg11 harg11 arg12 harg12 arg13 harg13 H ha hd hs).is_out (is_dxsB arg1 harg1 arg2 harg2 arg3 harg3 arg4 harg4 arg5 harg5 arg6 harg6 arg7 harg7 arg8 harg8 arg11 harg11 arg12 harg12 arg13 harg13 arg15 H ha hd hs)

theorem is_outB_9 : Is (M := 128) (N := 128) (out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo10 xo11 xs0) fun r c => if c < 32 then m.stepR r (64 * c) else 0 := by
  unfold out0_B_9
  rw [View.read_writes_junk_eq_canon, stepB_found]
  exact is_canon_whole ((holdsB arg1 harg1 arg2 harg2 arg3 harg3 arg4 harg4 arg5 harg5 arg6 harg6 arg7 harg7 arg8 harg8 arg11 harg11 arg12 harg12 arg13 harg13 H ha hd hs).is_step (is_netB arg1 harg1 arg2 harg2 arg3 harg3 arg4 harg4 arg5 harg5 arg6 harg6 arg7 harg7 arg8 harg8 arg11 harg11 arg12 harg12 arg13 harg13 arg14 H ha hd hs) (is_dxsB arg1 harg1 arg2 harg2 arg3 harg3 arg4 harg4 arg5 harg5 arg6 harg6 arg7 harg7 arg8 harg8 arg11 harg11 arg12 harg12 arg13 harg13 arg15 H ha hd hs))

theorem is_outB_10 : Is (M := 1) (N := 2048) (out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo10 xo11 xs0) fun _ q => m.aR q := by
  unfold out0_B_10
  rw [View.read_writes_junk_eq_canon, aB_found]
  exact is_canon_whole ((holdsB arg1 harg1 arg2 harg2 arg3 harg3 arg4 harg4 arg5 harg5 arg6 harg6 arg7 harg7 arg8 harg8 arg11 harg11 arg12 harg12 arg13 harg13 H ha hd hs).is_a (is_netB arg1 harg1 arg2 harg2 arg3 harg3 arg4 harg4 arg5 harg5 arg6 harg6 arg7 harg7 arg8 harg8 arg11 harg11 arg12 harg12 arg13 harg13 arg14 H ha hd hs))

theorem is_outB_11 : Is (M := 1) (N := 2048) (out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo10 xo11 xs0) fun _ q => m.dR q := by
  unfold out0_B_11
  rw [View.read_writes_junk_eq_canon, dB_found]
  exact is_canon_whole (holdsB arg1 harg1 arg2 harg2 arg3 harg3 arg4 harg4 arg5 harg5 arg6 harg6 arg7 harg7 arg8 harg8 arg11 harg11 arg12 harg12 arg13 harg13 H ha hd hs).is_d

theorem is_soutB : Is (M := 128) (N := 2048) (sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo10 xo11 xs0) m.stR := by
  unfold sout0_B_0
  rw [View.read_writes_junk_eq_canon, stateB_found]
  exact (holdsB arg1 harg1 arg2 harg2 arg3 harg3 arg4 harg4 arg5 harg5 arg6 harg6 arg7 harg7 arg8 harg8 arg11 harg11 arg12 harg12 arg13 harg13 H ha hd hs).is_state

end

end Scan.Body
-- ==== Proof.Scan.FoundC.lean ====
/- The stores found for one grid point of case C: the lists of `Pieces.lean` at the blocks this case reads. -/
module

public import proofs.«01_k».proof.Proof.Gen.KernelIdeal.Frame
public import proofs.«01_k».proof.Proof.Scan.Pieces

@[expose] public section

namespace Scan.Body

open Idealize.ShloMosaic Idealize.ShloMosaic.TcCoe Cert.KernelIdeal Cert.KernelIdeal.Gen

noncomputable section

variable (c : Dev nD) (i : grid0.Coords)
  (arg1 : Memref sig .tc .vmem S128x3072 .f32) (harg1 : arg1.IsWhole)
  (arg2 : Memref sig .tc .vmem S128x2048 .f32) (harg2 : arg2.IsWhole)
  (arg3 : Memref sig .tc .vmem S128x2048 .f32) (harg3 : arg3.IsWhole)
  (arg4 : Memref sig .tc .vmem S32x128 .f32) (harg4 : arg4.IsWhole)
  (arg5 : Memref sig .tc .vmem S1x2048 .f32) (harg5 : arg5.IsWhole)
  (arg6 : Memref sig .tc .vmem S1x2048 .f32) (harg6 : arg6.IsWhole)
  (arg7 : Memref sig .tc .vmem S1x128x2048 .f32) (harg7 : arg7.IsWhole)
  (arg8 : Memref sig .tc .vmem S128x2048 .f32) (harg8 : arg8.IsWhole)
  (arg9 : Memref sig .tc .vmem S128x3072 .f32) (harg9 : arg9.IsWhole)
  (arg10 : Memref sig .tc .vmem S128x128 .f32) (harg10 : arg10.IsWhole)
  (arg11 : Memref sig .tc .vmem S1x2048 .f32) (harg11 : arg11.IsWhole)
  (arg12 : Memref sig .tc .vmem S1x2048 .f32) (harg12 : arg12.IsWhole)
  (arg13 : Memref sig .tc .vmem S128x2048 .f32) (harg13 : arg13.IsWhole)
  (arg14 : Memref sig .tc .vmem S128x2048 .f32) (harg14 : arg14.IsWhole)
  (arg15 : Memref sig .tc .vmem S128x2048 .f32) (harg15 : arg15.IsWhole)
  (hc0 : ¬cond0_0 i) (hc1 : cond0_1 i)
  (x0 : Vec Ideal S128x3072 .f32) (x1 x2 : Vec Ideal S128x2048 .f32) (x3 : Vec Ideal S32x128 .f32) (x4 x5 : Vec Ideal S1x2048 .f32) (x6 : Vec Ideal S1x128x2048 .f32) (x7 : Vec Ideal S128x2048 .f32) (xo10 xo11 : Vec Ideal S1x2048 .f32) (xs0 : Vec Ideal S128x2048 .f32)

/-- The blocks this case reads. -/
def blocksC : Blocks where
  x := ![
    View.readAt (Elt Ideal) arg1.view (Rect.unit (s := S128x3072) ![0, 0] S128x512.size inb_S128x3072_S128x512_0_0).toLoadRect (harg1.unread x0),
    View.readAt (Elt Ideal) arg1.view (Rect.unit (s := S128x3072) ![0, 512] S128x512.size inb_S128x3072_S128x512_0_512).toLoadRect (harg1.unread x0),
    View.readAt (Elt Ideal) arg1.view (Rect.unit (s := S128x3072) ![0, 1024] S128x512.size inb_S128x3072_S128x512_0_1024).toLoadRect (harg1.unread x0),
    View.readAt (Elt Ideal) arg1.view (Rect.unit (s := S128x3072) ![0, 1536] S128x512.size inb_S128x3072_S128x512_0_1536).toLoadRect (harg1.unread x0)]
  b := ![
    View.readAt (Elt Ideal) arg1.view (Rect.unit (s := S128x3072) ![0, 2048] S128x128.size inb_S128x3072_S128x128_0_2048).toLoadRect (harg1.unread x0),
    View.readAt (Elt Ideal) arg1.view (Rect.unit (s := S128x3072) ![0, 2176] S128x128.size inb_S128x3072_S128x128_0_2176).toLoadRect (harg1.unread x0),
    View.readAt (Elt Ideal) arg1.view (Rect.unit (s := S128x3072) ![0, 2304] S128x128.size inb_S128x3072_S128x128_0_2304).toLoadRect (harg1.unread x0),
    View.readAt (Elt Ideal) arg1.view (Rect.unit (s := S128x3072) ![0, 2432] S128x128.size inb_S128x3072_S128x128_0_2432).toLoadRect (harg1.unread x0)]
  c := ![
    View.readAt (Elt Ideal) arg1.view (Rect.unit (s := S128x3072) ![0, 2560] S128x128.size inb_S128x3072_S128x128_0_2560).toLoadRect (harg1.unread x0),
    View.readAt (Elt Ideal) arg1.view (Rect.unit (s := S128x3072) ![0, 2688] S128x128.size inb_S128x3072_S128x128_0_2688).toLoadRect (harg1.unread x0),
    View.readAt (Elt Ideal) arg1.view (Rect.unit (s := S128x3072) ![0, 2816] S128x128.size inb_S128x3072_S128x128_0_2816).toLoadRect (harg1.unread x0),
    View.readAt (Elt Ideal) arg1.view (Rect.unit (s := S128x3072) ![0, 2944] S128x128.size inb_S128x3072_S128x128_0_2944).toLoadRect (harg1.unread x0)]
  dt := ![
    View.readAt (Elt Ideal) arg2.view (Rect.unit (s := S128x2048) ![0, 0] S128x512.size inb_S128x2048_S128x512_0_0).toLoadRect (harg2.unread x1),
    View.readAt (Elt Ideal) arg2.view (Rect.unit (s := S128x2048) ![0, 512] S128x512.size inb_S128x2048_S128x512_0_512).toLoadRect (harg2.unread x1),
    View.readAt (Elt Ideal) arg2.view (Rect.unit (s := S128x2048) ![0, 1024] S128x512.size inb_S128x2048_S128x512_0_1024).toLoadRect (harg2.unread x1),
    View.readAt (Elt Ideal) arg2.view (Rect.unit (s := S128x2048) ![0, 1536] S128x512.size inb_S128x2048_S128x512_0_1536).toLoadRect (harg2.unread x1)]
  acs := ![
    View.readAt (Elt Ideal) arg3.view (Rect.unit (s := S128x2048) ![0, 0] S128x512.size inb_S128x2048_S128x512_0_0).toLoadRect (harg3.unread x2),
    View.readAt (Elt Ideal) arg3.view (Rect.unit (s := S128x2048) ![0, 512] S128x512.size inb_S128x2048_S128x512_0_512).toLoadRect (harg3.unread x2),
    View.readAt (Elt Ideal) arg3.view (Rect.unit (s := S128x2048) ![0, 1024] S128x512.size inb_S128x2048_S128x512_0_1024).toLoadRect (harg3.unread x2),
    View.readAt (Elt Ideal) arg3.view (Rect.unit (s := S128x2048) ![0, 1536] S128x512.size inb_S128x2048_S128x512_0_1536).toLoadRect (harg3.unread x2)]
  hin := ![
    View.readAt (Elt Ideal) arg7.view (Rect.unit (s := S1x128x2048) ![0, 0, 0] S1x128x512.size inb_S1x128x2048_S1x128x512_0_0_0).toLoadRect (harg7.unread x6),
    View.readAt (Elt Ideal) arg7.view (Rect.unit (s := S1x128x2048) ![0, 0, 512] S1x128x512.size inb_S1x128x2048_S1x128x512_0_0_512).toLoadRect (harg7.unread x6),
    View.readAt (Elt Ideal) arg7.view (Rect.unit (s := S1x128x2048) ![0, 0, 1024] S1x128x512.size inb_S1x128x2048_S1x128x512_0_0_1024).toLoadRect (harg7.unread x6),
    View.readAt (Elt Ideal) arg7.view (Rect.unit (s := S1x128x2048) ![0, 0, 1536] S1x128x512.size inb_S1x128x2048_S1x128x512_0_0_1536).toLoadRect (harg7.unread x6)]
  dh := ![
    View.readAt (Elt Ideal) arg13.view (Rect.unit (s := S128x2048) ![0, 0] S128x512.size inb_S128x2048_S128x512_0_0).toLoadRect (harg13.unread xs0),
    View.readAt (Elt Ideal) arg13.view (Rect.unit (s := S128x2048) ![0, 512] S128x512.size inb_S128x2048_S128x512_0_512).toLoadRect (harg13.unread xs0),
    View.readAt (Elt Ideal) arg13.view (Rect.unit (s := S128x2048) ![0, 1024] S128x512.size inb_S128x2048_S128x512_0_1024).toLoadRect (harg13.unread xs0),
    View.readAt (Elt Ideal) arg13.view (Rect.unit (s := S128x2048) ![0, 1536] S128x512.size inb_S128x2048_S128x512_0_1536).toLoadRect (harg13.unread xs0)]
  dy := ![
    View.readAt (Elt Ideal) arg8.view (Rect.unit (s := S128x2048) ![0, 0] S128x512.size inb_S128x2048_S128x512_0_0).toLoadRect (harg8.unread x7),
    View.readAt (Elt Ideal) arg8.view (Rect.unit (s := S128x2048) ![0, 512] S128x512.size inb_S128x2048_S128x512_0_512).toLoadRect (harg8.unread x7),
    View.readAt (Elt Ideal) arg8.view (Rect.unit (s := S128x2048) ![0, 1024] S128x512.size inb_S128x2048_S128x512_0_1024).toLoadRect (harg8.unread x7),
    View.readAt (Elt Ideal) arg8.view (Rect.unit (s := S128x2048) ![0, 1536] S128x512.size inb_S128x2048_S128x512_0_1536).toLoadRect (harg8.unread x7)]
  rows := ![
    View.readAt (Elt Ideal) arg4.view (Rect.unit (s := S32x128) ![0, 0] S1x128.size inb_S32x128_S1x128_0_0).toLoadRect (harg4.unread x3),
    View.readAt (Elt Ideal) arg4.view (Rect.unit (s := S32x128) ![1, 0] S1x128.size inb_S32x128_S1x128_1_0).toLoadRect (harg4.unread x3),
    View.readAt (Elt Ideal) arg4.view (Rect.unit (s := S32x128) ![2, 0] S1x128.size inb_S32x128_S1x128_2_0).toLoadRect (harg4.unread x3),
    View.readAt (Elt Ideal) arg4.view (Rect.unit (s := S32x128) ![3, 0] S1x128.size inb_S32x128_S1x128_3_0).toLoadRect (harg4.unread x3),
    View.readAt (Elt Ideal) arg4.view (Rect.unit (s := S32x128) ![4, 0] S1x128.size inb_S32x128_S1x128_4_0).toLoadRect (harg4.unread x3),
    View.readAt (Elt Ideal) arg4.view (Rect.unit (s := S32x128) ![5, 0] S1x128.size inb_S32x128_S1x128_5_0).toLoadRect (harg4.unread x3),
    View.readAt (Elt Ideal) arg4.view (Rect.unit (s := S32x128) ![6, 0] S1x128.size inb_S32x128_S1x128_6_0).toLoadRect (harg4.unread x3),
    View.readAt (Elt Ideal) arg4.view (Rect.unit (s := S32x128) ![7, 0] S1x128.size inb_S32x128_S1x128_7_0).toLoadRect (harg4.unread x3),
    View.readAt (Elt Ideal) arg4.view (Rect.unit (s := S32x128) ![8, 0] S1x128.size inb_S32x128_S1x128_8_0).toLoadRect (harg4.unread x3),
    View.readAt (Elt Ideal) arg4.view (Rect.unit (s := S32x128) ![9, 0] S1x128.size inb_S32x128_S1x128_9_0).toLoadRect (harg4.unread x3),
    View.readAt (Elt Ideal) arg4.view (Rect.unit (s := S32x128) ![10, 0] S1x128.size inb_S32x128_S1x128_10_0).toLoadRect (harg4.unread x3),
    View.readAt (Elt Ideal) arg4.view (Rect.unit (s := S32x128) ![11, 0] S1x128.size inb_S32x128_S1x128_11_0).toLoadRect (harg4.unread x3),
    View.readAt (Elt Ideal) arg4.view (Rect.unit (s := S32x128) ![12, 0] S1x128.size inb_S32x128_S1x128_12_0).toLoadRect (harg4.unread x3),
    View.readAt (Elt Ideal) arg4.view (Rect.unit (s := S32x128) ![13, 0] S1x128.size inb_S32x128_S1x128_13_0).toLoadRect (harg4.unread x3),
    View.readAt (Elt Ideal) arg4.view (Rect.unit (s := S32x128) ![14, 0] S1x128.size inb_S32x128_S1x128_14_0).toLoadRect (harg4.unread x3),
    View.readAt (Elt Ideal) arg4.view (Rect.unit (s := S32x128) ![15, 0] S1x128.size inb_S32x128_S1x128_15_0).toLoadRect (harg4.unread x3),
    View.readAt (Elt Ideal) arg4.view (Rect.unit (s := S32x128) ![16, 0] S1x128.size inb_S32x128_S1x128_16_0).toLoadRect (harg4.unread x3),
    View.readAt (Elt Ideal) arg4.view (Rect.unit (s := S32x128) ![17, 0] S1x128.size inb_S32x128_S1x128_17_0).toLoadRect (harg4.unread x3),
    View.readAt (Elt Ideal) arg4.view (Rect.unit (s := S32x128) ![18, 0] S1x128.size inb_S32x128_S1x128_18_0).toLoadRect (harg4.unread x3),
    View.readAt (Elt Ideal) arg4.view (Rect.unit (s := S32x128) ![19, 0] S1x128.size inb_S32x128_S1x128_19_0).toLoadRect (harg4.unread x3),
    View.readAt (Elt Ideal) arg4.view (Rect.unit (s := S32x128) ![20, 0] S1x128.size inb_S32x128_S1x128_20_0).toLoadRect (harg4.unread x3),
    View.readAt (Elt Ideal) arg4.view (Rect.unit (s := S32x128) ![21, 0] S1x128.size inb_S32x128_S1x128_21_0).toLoadRect (harg4.unread x3),
    View.readAt (Elt Ideal) arg4.view (Rect.unit (s := S32x128) ![22, 0] S1x128.size inb_S32x128_S1x128_22_0).toLoadRect (harg4.unread x3),
    View.readAt (Elt Ideal) arg4.view (Rect.unit (s := S32x128) ![23, 0] S1x128.size inb_S32x128_S1x128_23_0).toLoadRect (harg4.unread x3),
    View.readAt (Elt Ideal) arg4.view (Rect.unit (s := S32x128) ![24, 0] S1x128.size inb_S32x128_S1x128_24_0).toLoadRect (harg4.unread x3),
    View.readAt (Elt Ideal) arg4.view (Rect.unit (s := S32x128) ![25, 0] S1x128.size inb_S32x128_S1x128_25_0).toLoadRect (harg4.unread x3),
    View.readAt (Elt Ideal) arg4.view (Rect.unit (s := S32x128) ![26, 0] S1x128.size inb_S32x128_S1x128_26_0).toLoadRect (harg4.unread x3),
    View.readAt (Elt Ideal) arg4.view (Rect.unit (s := S32x128) ![27, 0] S1x128.size inb_S32x128_S1x128_27_0).toLoadRect (harg4.unread x3),
    View.readAt (Elt Ideal) arg4.view (Rect.unit (s := S32x128) ![28, 0] S1x128.size inb_S32x128_S1x128_28_0).toLoadRect (harg4.unread x3),
    View.readAt (Elt Ideal) arg4.view (Rect.unit (s := S32x128) ![29, 0] S1x128.size inb_S32x128_S1x128_29_0).toLoadRect (harg4.unread x3),
    View.readAt (Elt Ideal) arg4.view (Rect.unit (s := S32x128) ![30, 0] S1x128.size inb_S32x128_S1x128_30_0).toLoadRect (harg4.unread x3),
    View.readAt (Elt Ideal) arg4.view (Rect.unit (s := S32x128) ![31, 0] S1x128.size inb_S32x128_S1x128_31_0).toLoadRect (harg4.unread x3)]
  xF := View.readAt (Elt Ideal) arg1.view (Rect.unit (s := S128x3072) ![0, 0] S128x2048.size inb_S128x3072_S128x2048_0_0).toLoadRect (harg1.unread x0)
  dtF := View.readAt (Elt Ideal) arg2.view (Rect.unit (s := S128x2048) ![0, 0] S128x2048.size inb_S128x2048_S128x2048_0_0).toLoadRect (harg2.unread x1)
  dyF := View.readAt (Elt Ideal) arg8.view (Rect.unit (s := S128x2048) ![0, 0] S128x2048.size inb_S128x2048_S128x2048_0_0).toLoadRect (harg8.unread x7)
  aF := View.readAt (Elt Ideal) arg6.view (Rect.unit (s := S1x2048) ![0, 0] S1x2048.size inb_S1x2048_S1x2048_0_0).toLoadRect (harg6.unread x5)
  dF := View.readAt (Elt Ideal) arg5.view (Rect.unit (s := S1x2048) ![0, 0] S1x2048.size inb_S1x2048_S1x2048_0_0).toLoadRect (harg5.unread x4)
  oldA := View.readAt (Elt Ideal) arg11.view (Rect.unit (s := S1x2048) ![0, 0] S1x2048.size inb_S1x2048_S1x2048_0_0).toLoadRect (harg11.unread xo10)
  oldD := View.readAt (Elt Ideal) arg12.view (Rect.unit (s := S1x2048) ![0, 0] S1x2048.size inb_S1x2048_S1x2048_0_0).toLoadRect (harg12.unread xo11)

/-- The scaled input's gradient, read back. -/
def dxsC : Full := arg15.view.readCov (Blocks.inL (blocksC arg1 harg1 arg2 harg2 arg3 harg3 arg4 harg4 arg5 harg5 arg6 harg6 arg7 harg7 arg8 harg8 arg11 harg11 arg12 harg12 arg13 harg13 x0 x1 x2 x3 x4 x5 x6 x7 xo10 xo11 xs0)) (Rect.unit ![0, 0] S128x2048.size inb_S128x2048_S128x2048_0_0).toLoadRect
/-- The net flow, read back. -/
def netC : Full := arg14.view.readCov (Blocks.netL (blocksC arg1 harg1 arg2 harg2 arg3 harg3 arg4 harg4 arg5 harg5 arg6 harg6 arg7 harg7 arg8 harg8 arg11 harg11 arg12 harg12 arg13 harg13 x0 x1 x2 x3 x4 x5 x6 x7 xo10 xo11 xs0)) (Rect.unit ![0, 0] S128x2048.size inb_S128x2048_S128x2048_0_0).toLoadRect

theorem stateC_found : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo10 xo11 xs0).2.2.2.2.1 = (blocksC arg1 harg1 arg2 harg2 arg3 harg3 arg4 harg4 arg5 harg5 arg6 harg6 arg7 harg7 arg8 harg8 arg11 harg11 arg12 harg12 arg13 harg13 x0 x1 x2 x3 x4 x5 x6 x7 xo10 xo11 xs0).stL := by
  sl_kernel_rfl
theorem netC_found : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo10 xo11 xs0).2.2.2.2.2.1 = (blocksC arg1 harg1 arg2 harg2 arg3 harg3 arg4 harg4 arg5 harg5 arg6 harg6 arg7 harg7 arg8 harg8 arg11 harg11 arg12 harg12 arg13 harg13 x0 x1 x2 x3 x4 x5 x6 x7 xo10 xo11 xs0).netL := by
  sl_kernel_rfl
theorem inC_found : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo10 xo11 xs0).2.2.2.2.2.2.1 = (blocksC arg1 harg1 arg2 harg2 arg3 harg3 arg4 harg4 arg5 harg5 arg6 harg6 arg7 harg7 arg8 harg8 arg11 harg11 arg12 harg12 arg13 harg13 x0 x1 x2 x3 x4 x5 x6 x7 xo10 xo11 xs0).inL := by
  sl_kernel_rfl
theorem outC_found : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo10 xo11 xs0).1 = (blocksC arg1 harg1 arg2 harg2 arg3 harg3 arg4 harg4 arg5 harg5 arg6 harg6 arg7 harg7 arg8 harg8 arg11 harg11 arg12 harg12 arg13 harg13 x0 x1 x2 x3 x4 x5 x6 x7 xo10 xo11 xs0).outL (dxsC arg1 harg1 arg2 harg2 arg3 harg3 arg4 harg4 arg5 harg5 arg6 harg6 arg7 harg7 arg8 harg8 arg11 harg11 arg12 harg12 arg13 harg13 arg15 x0 x1 x2 x3 x4 x5 x6 x7 xo10 xo11 xs0) := by
  sl_kernel_rfl
theorem stepC_found : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo10 xo11 xs0).2.1 = [⟨Rect.unit ![0, 0] S128x128.size inb_S128x128_S128x128_0_0, (blocksC arg1 harg1 arg2 harg2 arg3 harg3 arg4 harg4 arg5 harg5 arg6 harg6 arg7 harg7 arg8 harg8 arg11 harg11 arg12 harg12 arg13 harg13 x0 x1 x2 x3 x4 x5 x6 x7 xo10 xo11 xs0).stepP (netC arg1 harg1 arg2 harg2 arg3 harg3 arg4 harg4 arg5 harg5 arg6 harg6 arg7 harg7 arg8 harg8 arg11 harg11 arg12 harg12 arg13 harg13 arg14 x0 x1 x2 x3 x4 x5 x6 x7 xo10 xo11 xs0) (dxsC arg1 harg1 arg2 harg2 arg3 harg3 arg4 harg4 arg5 harg5 arg6 harg6 arg7 harg7 arg8 harg8 arg11 harg11 arg12 harg12 arg13 harg13 arg15 x0 x1 x2 x3 x4 x5 x6 x7 xo10 xo11 xs0)⟩] := by
  sl_kernel_rfl
theorem aC_found : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo10 xo11 xs0).2.2.1 = [⟨Rect.unit ![0, 0] S1x2048.size inb_S1x2048_S1x2048_0_0, (blocksC arg1 harg1 arg2 harg2 arg3 harg3 arg4 harg4 arg5 harg5 arg6 harg6 arg7 harg7 arg8 harg8 arg11 harg11 arg12 harg12 arg13 harg13 x0 x1 x2 x3 x4 x5 x6 x7 xo10 xo11 xs0).aP (netC arg1 harg1 arg2 harg2 arg3 harg3 arg4 harg4 arg5 harg5 arg6 harg6 arg7 harg7 arg8 harg8 arg11 harg11 arg12 harg12 arg13 harg13 arg14 x0 x1 x2 x3 x4 x5 x6 x7 xo10 xo11 xs0)⟩] := by
  sl_kernel_rfl

theorem dC_found : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo10 xo11 xs0).2.2.2.1 = [⟨Rect.unit ![0, 0] S1x2048.size inb_S1x2048_S1x2048_0_0, headsFullRow blockDiag (shapeCast S1x2048 (arg12.view.readCov ([⟨Rect.unit ![0, 0] S1x2048.size inb_S1x2048_S1x2048_0_0, (blocksC arg1 harg1 arg2 harg2 arg3 harg3 arg4 harg4 arg5 harg5 arg6 harg6 arg7 harg7 arg8 harg8 arg11 harg11 arg12 harg12 arg13 harg13 x0 x1 x2 x3 x4 x5 x6 x7 xo10 xo11 xs0).dP⟩] : List (View.Piece (Elt Ideal) S1x2048 .f32)) (Rect.unit ![0, 0] S1x2048.size inb_S1x2048_S1x2048_0_0).toLoadRect) shapeCasts_S1x2048_S1x2048)⟩, ⟨Rect.unit ![0, 0] S1x2048.size inb_S1x2048_S1x2048_0_0, (blocksC arg1 harg1 arg2 harg2 arg3 harg3 arg4 harg4 arg5 harg5 arg6 harg6 arg7 harg7 arg8 harg8 arg11 harg11 arg12 harg12 arg13 harg13 x0 x1 x2 x3 x4 x5 x6 x7 xo10 xo11 xs0).dP⟩] := by
  sl_kernel_rfl

end

end Scan.Body
-- ==== Proof.Scan.CaseC.lean ====
/- What one grid point of case C leaves in its windows and in the carried scratch, over the reals. -/
module

public import proofs.«01_k».proof.Proof.Scan.FoundC
public import proofs.«01_k».proof.Proof.Scan.LoadReads

@[expose] public section

namespace Scan.Body

open Idealize.ShloMosaic Idealize.ShloMosaic.ValueIdx Idealize.ShloMosaic.TcCoe Cert.KernelIdeal Cert.KernelIdeal.Gen

noncomputable section

variable (c : Dev nD) (i : grid0.Coords)
  (arg1 : Memref sig .tc .vmem S128x3072 .f32) (harg1 : arg1.IsWhole)
  (arg2 : Memref sig .tc .vmem S128x2048 .f32) (harg2 : arg2.IsWhole)
  (arg3 : Memref sig .tc .vmem S128x2048 .f32) (harg3 : arg3.IsWhole)
  (arg4 : Memref sig .tc .vmem S32x128 .f32) (harg4 : arg4.IsWhole)
  (arg5 : Memref sig .tc .vmem S1x2048 .f32) (harg5 : arg5.IsWhole)
  (arg6 : Memref sig .tc .vmem S1x2048 .f32) (harg6 : arg6.IsWhole)
  (arg7 : Memref sig .tc .vmem S1x128x2048 .f32) (harg7 : arg7.IsWhole)
  (arg8 : Memref sig .tc .vmem S128x2048 .f32) (harg8 : arg8.IsWhole)
  (arg9 : Memref sig .tc .vmem S128x3072 .f32) (harg9 : arg9.IsWhole)
  (arg10 : Memref sig .tc .vmem S128x128 .f32) (harg10 : arg10.IsWhole)
  (arg11 : Memref sig .tc .vmem S1x2048 .f32) (harg11 : arg11.IsWhole)
  (arg12 : Memref sig .tc .vmem S1x2048 .f32) (harg12 : arg12.IsWhole)
  (arg13 : Memref sig .tc .vmem S128x2048 .f32) (harg13 : arg13.IsWhole)
  (arg14 : Memref sig .tc .vmem S128x2048 .f32) (harg14 : arg14.IsWhole)
  (arg15 : Memref sig .tc .vmem S128x2048 .f32) (harg15 : arg15.IsWhole)
  (hc0 : ¬cond0_0 i) (hc1 : cond0_1 i)
  {x0 : Vec Ideal S128x3072 .f32} {x1 x2 : Vec Ideal S128x2048 .f32} {x3 : Vec Ideal S32x128 .f32} {x4 x5 : Vec Ideal S1x2048 .f32} {x6 : Vec Ideal S1x128x2048 .f32} {x7 : Vec Ideal S128x2048 .f32} {xo10 xo11 : Vec Ideal S1x2048 .f32} {xs0 : Vec Ideal S128x2048 .f32}
  {m : Point} (H : Inputs x0 x1 x2 x3 x4 x5 x6 x7 m)
  (ha : Is (M := 1) (N := 2048) xo10 fun _ q => m.oldA q) (hd : Is (M := 1) (N := 2048) xo11 fun _ q => m.oldD q) (hs : Is (M := 128) (N := 2048) xs0 m.dh)

include H ha hd hs

set_option maxHeartbeats 2000000 in
/-- The blocks read hold the point's reals. -/
theorem holdsC : (blocksC arg1 harg1 arg2 harg2 arg3 harg3 arg4 harg4 arg5 harg5 arg6 harg6 arg7 harg7 arg8 harg8 arg11 harg11 arg12 harg12 arg13 harg13 x0 x1 x2 x3 x4 x5 x6 x7 xo10 xo11 xs0).Holds m := by
  unfold blocksC
  exact {
  x :=
    is_cons (H.readX harg1 0 0 rfl (by decide) _) <|
    is_cons (H.readX harg1 1 512 rfl (by decide) _) <|
    is_cons (H.readX harg1 2 1024 rfl (by decide) _) <|
    is_cons (H.readX harg1 3 1536 rfl (by decide) _) <|
    is_nil
  b :=
    is_cons (H.readB harg1 0 2048 rfl (by decide) _) <|
    is_cons (H.readB harg1 1 2176 rfl (by decide) _) <|
    is_cons (H.readB harg1 2 2304 rfl (by decide) _) <|
    is_cons (H.readB harg1 3 2432 rfl (by decide) _) <|
    is_nil
  c :=
    is_cons (H.readC harg1 0 2560 rfl (by decide) _) <|
    is_cons (H.readC harg1 1 2688 rfl (by decide) _) <|
    is_cons (H.readC harg1 2 2816 rfl (by decide) _) <|
    is_cons (H.readC harg1 3 2944 rfl (by decide) _) <|
    is_nil
  dt :=
    is_cons (is_readW harg2 H.x1 0 0 rfl _) <|
    is_cons (is_readW harg2 H.x1 1 512 rfl _) <|
    is_cons (is_readW harg2 H.x1 2 1024 rfl _) <|
    is_cons (is_readW harg2 H.x1 3 1536 rfl _) <|
    is_nil
  acs :=
    is_cons (is_readW harg3 H.x2 0 0 rfl _) <|
    is_cons (is_readW harg3 H.x2 1 512 rfl _) <|
    is_cons (is_readW harg3 H.x2 2 1024 rfl _) <|
    is_cons (is_readW harg3 H.x2 3 1536 rfl _) <|
    is_nil
  hin :=
    is_consH (H.readH harg7 0 0 rfl _ _) <|
    is_consH (H.readH harg7 1 512 rfl _ _) <|
    is_consH (H.readH harg7 2 1024 rfl _ _) <|
    is_consH (H.readH harg7 3 1536 rfl _ _) <|
    is_nilH
  dh :=
    is_cons (is_readW harg13 hs 0 0 rfl _) <|
    is_cons (is_readW harg13 hs 1 512 rfl _) <|
    is_cons (is_readW harg13 hs 2 1024 rfl _) <|
    is_cons (is_readW harg13 hs 3 1536 rfl _) <|
    is_nil
  dy :=
    is_cons (is_readW harg8 H.x7 0 0 rfl _) <|
    is_cons (is_readW harg8 H.x7 1 512 rfl _) <|
    is_cons (is_readW harg8 H.x7 2 1024 rfl _) <|
    is_cons (is_readW harg8 H.x7 3 1536 rfl _) <|
    is_nil
  rows :=
    is_cons (is_readRow harg4 H.x3 0 _) <|
    is_cons (is_readRow harg4 H.x3 1 _) <|
    is_cons (is_readRow harg4 H.x3 2 _) <|
    is_cons (is_readRow harg4 H.x3 3 _) <|
    is_cons (is_readRow harg4 H.x3 4 _) <|
    is_cons (is_readRow harg4 H.x3 5 _) <|
    is_cons (is_readRow harg4 H.x3 6 _) <|
    is_cons (is_readRow harg4 H.x3 7 _) <|
    is_cons (is_readRow harg4 H.x3 8 _) <|
    is_cons (is_readRow harg4 H.x3 9 _) <|
    is_cons (is_readRow harg4 H.x3 10 _) <|
    is_cons (is_readRow harg4 H.x3 11 _) <|
    is_cons (is_readRow harg4 H.x3 12 _) <|
    is_cons (is_readRow harg4 H.x3 13 _) <|
    is_cons (is_readRow harg4 H.x3 14 _) <|
    is_cons (is_readRow harg4 H.x3 15 _) <|
    is_cons (is_readRow harg4 H.x3 16 _) <|
    is_cons (is_readRow harg4 H.x3 17 _) <|
    is_cons (is_readRow harg4 H.x3 18 _) <|
    is_cons (is_readRow harg4 H.x3 19 _) <|
    is_cons (is_readRow harg4 H.x3 20 _) <|
    is_cons (is_readRow harg4 H.x3 21 _) <|
    is_cons (is_readRow harg4 H.x3 22 _) <|
    is_cons (is_readRow harg4 H.x3 23 _) <|
    is_cons (is_readRow harg4 H.x3 24 _) <|
    is_cons (is_readRow harg4 H.x3 25 _) <|
    is_cons (is_readRow harg4 H.x3 26 _) <|
    is_cons (is_readRow harg4 H.x3 27 _) <|
    is_cons (is_readRow harg4 H.x3 28 _) <|
    is_cons (is_readRow harg4 H.x3 29 _) <|
    is_cons (is_readRow harg4 H.x3 30 _) <|
    is_cons (is_readRow harg4 H.x3 31 _) <|
    is_nil
  xF := H.readXF harg1 _
  dtF := is_readAll harg2 H.x1 _
  dyF := is_readAll harg8 H.x7 _
  aF := is_readAll harg6 H.x5 _
  dF := is_readAll harg5 H.x4 _
  oldA := is_readAll harg11 ha _
  oldD := is_readAll harg12 hd _
  }

theorem is_dxsC : Is (dxsC arg1 harg1 arg2 harg2 arg3 harg3 arg4 harg4 arg5 harg5 arg6 harg6 arg7 harg7 arg8 harg8 arg11 harg11 arg12 harg12 arg13 harg13 arg15 x0 x1 x2 x3 x4 x5 x6 x7 xo10 xo11 xs0) m.inR := is_back _ (holdsC arg1 harg1 arg2 harg2 arg3 harg3 arg4 harg4 arg5 harg5 arg6 harg6 arg7 harg7 arg8 harg8 arg11 harg11 arg12 harg12 arg13 harg13 H ha hd hs).is_in _

theorem is_netC : Is (netC arg1 harg1 arg2 harg2 arg3 harg3 arg4 harg4 arg5 harg5 arg6 harg6 arg7 harg7 arg8 harg8 arg11 harg11 arg12 harg12 arg13 harg13 arg14 x0 x1 x2 x3 x4 x5 x6 x7 xo10 xo11 xs0) m.netV := is_back _ (holdsC arg1 harg1 arg2 harg2 arg3 harg3 arg4 harg4 arg5 harg5 arg6 harg6 arg7 harg7 arg8 harg8 arg11 harg11 arg12 harg12 arg13 harg13 H ha hd hs).is_net _

theorem is_outC_8 : Is (M := 128) (N := 3072) (out0_C_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo10 xo11 xs0) m.outR := by
  unfold out0_C_8
  rw [View.read_writes_junk_eq_canon, outC_found]
  exact (holdsC arg1 harg1 arg2 harg2 arg3 harg3 arg4 harg4 arg5 harg5 arg6 harg6 arg7 harg7 arg8 harg8 arg11 harg11 arg12 harg12 arg13 harg13 H ha hd hs).is_out (is_dxsC arg1 harg1 arg2 harg2 arg3 harg3 arg4 harg4 arg5 harg5 arg6 harg6 arg7 harg7 arg8 harg8 arg11 harg11 arg12 harg12 arg13 harg13 arg15 H ha hd hs)

theorem is_outC_9 : Is (M := 128) (N := 128) (out0_C_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo10 xo11 xs0) fun r c => if c < 32 then m.stepR r (64 * c) else 0 := by
  unfold out0_C_9
  rw [View.read_writes_junk_eq_canon, stepC_found]
  exact is_canon_whole ((holdsC arg1 harg1 arg2 harg2 arg3 harg3 arg4 harg4 arg5 harg5 arg6 harg6 arg7 harg7 arg8 harg8 arg11 harg11 arg12 harg12 arg13 harg13 H ha hd hs).is_step (is_netC arg1 harg1 arg2 harg2 arg3 harg3 arg4 harg4 arg5 harg5 arg6 harg6 arg7 harg7 arg8 harg8 arg11 harg11 arg12 harg12 arg13 harg13 arg14 H ha hd hs) (is_dxsC arg1 harg1 arg2 harg2 arg3 harg3 arg4 harg4 arg5 harg5 arg6 harg6 arg7 harg7 arg8 harg8 arg11 harg11 arg12 harg12 arg13 harg13 arg15 H ha hd hs))

theorem is_outC_10 : Is (M := 1) (N := 2048) (out0_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo10 xo11 xs0) fun _ q => m.aR q := by
  unfold out0_C_10
  rw [View.read_writes_junk_eq_canon, aC_found]
  exact is_canon_whole ((holdsC arg1 harg1 arg2 harg2 arg3 harg3 arg4 harg4 arg5 harg5 arg6 harg6 arg7 harg7 arg8 harg8 arg11 harg11 arg12 harg12 arg13 harg13 H ha hd hs).is_a (is_netC arg1 harg1 arg2 harg2 arg3 harg3 arg4 harg4 arg5 harg5 arg6 harg6 arg7 harg7 arg8 harg8 arg11 harg11 arg12 harg12 arg13 harg13 arg14 H ha hd hs))

theorem is_outC_11 : Is (M := 1) (N := 2048) (out0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo10 xo11 xs0) (Body.headSum fun _ q => m.dR q) := by
  unfold out0_C_11
  rw [View.read_writes_junk_eq_canon, dC_found]
  exact is_canon_whole (is_headsFullRow (Is.shapeCast (is_back _ (is_canon_whole (holdsC arg1 harg1 arg2 harg2 arg3 harg3 arg4 harg4 arg5 harg5 arg6 harg6 arg7 harg7 arg8 harg8 arg11 harg11 arg12 harg12 arg13 harg13 H ha hd hs).is_d) _) _))

theorem is_soutC : Is (M := 128) (N := 2048) (sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo10 xo11 xs0) m.stR := by
  unfold sout0_C_0
  rw [View.read_writes_junk_eq_canon, stateC_found]
  exact (holdsC arg1 harg1 arg2 harg2 arg3 harg3 arg4 harg4 arg5 harg5 arg6 harg6 arg7 harg7 arg8 harg8 arg11 harg11 arg12 harg12 arg13 harg13 H ha hd hs).is_state

end

end Scan.Body
-- ==== Proof.Scan.Chunk.lean ====
/- The scan's gradient over the reals, for one head: the sums over all pairs of tokens (a later token `t`
   reading an earlier token `s`), and the same sums cut at one chunk `[T0, T1)` of the tokens.

   `P` is the running sum of `dt · a` (exclusive), so that the decay from `s` to `t` is
   `exp (P (t+1) - P (s+1))`; `B`, `C` are the state's two projections, `X` the scaled input `dt · x`,
   `Y` the gradient that arrives; `J` is the number of state coordinates, `W` the head's width. -/
module

public import Mathlib.Analysis.SpecialFunctions.Exp
public import Mathlib.Algebra.BigOperators.Intervals
public import Mathlib.Algebra.BigOperators.Ring.Finset

@[expose] public section

namespace Scan

open Finset
open scoped BigOperators

noncomputable section

/-- The decay from token `s` to token `t`: nothing when `t` comes before `s`. -/
def decay (P : ℕ → ℝ) (t s : ℕ) : ℝ := if s ≤ t then Real.exp (P (t + 1) - P (s + 1)) else 0

/-- How strongly token `t` reads the state token `s` wrote. -/
def gram (J : ℕ) (C B : ℕ → ℕ → ℝ) (t s : ℕ) : ℝ := ∑ n ∈ range J, C t n * B s n

/-- The product of the arriving gradient at `t` with the input at `s`. -/
def pair (W : ℕ) (Y X : ℕ → ℕ → ℝ) (t s : ℕ) : ℝ := ∑ p ∈ range W, Y t p * X s p

/-- The state at the start of the chunk that begins at `T0`. -/
def enter (P : ℕ → ℝ) (B X : ℕ → ℕ → ℝ) (T0 n p : ℕ) : ℝ :=
  ∑ s ∈ range T0, B s n * (Real.exp (P T0 - P (s + 1)) * X s p)

/-- The gradient of the state at `T1`, where a chunk ends: what the tokens from `T1` to `N` send back. -/
def leave (P : ℕ → ℝ) (C Y : ℕ → ℕ → ℝ) (N T1 n p : ℕ) : ℝ :=
  ∑ t ∈ Ico T1 N, C t n * (Real.exp (P (t + 1) - P T1) * Y t p)

/-- The pair gradient: the derivative of the loss by the logarithm of the decay from `s` to `t`. -/
def flow (P : ℕ → ℝ) (J W : ℕ) (C B Y X : ℕ → ℕ → ℝ) (t s : ℕ) : ℝ :=
  decay P t s * gram J C B t s * pair W Y X t s

variable {P : ℕ → ℝ} {J W : ℕ} {C B Y X : ℕ → ℕ → ℝ} {N T0 T1 : ℕ}

theorem decay_of_lt {t s : ℕ} (h : t < s) : decay P t s = 0 := if_neg (by omega)

theorem flow_of_lt {t s : ℕ} (h : t < s) : flow P J W C B Y X t s = 0 := by
  rw [flow, decay_of_lt h]; ring

/-- A decay across a boundary `T` is the product of the decays on its two sides. -/
theorem decay_split {t s T : ℕ} (hs : s < T) (ht : T ≤ t + 1) :
    decay P t s = Real.exp (P (t + 1) - P T) * Real.exp (P T - P (s + 1)) := by
  rw [decay, if_pos (by omega), ← Real.exp_add]; congr 1; ring

/-- A sum over `s` cut at the chunk, when the terms after the chunk vanish. -/
theorem sum_cut_below (f : ℕ → ℝ) (h01 : T0 ≤ T1) (h1 : T1 ≤ N) (hz : ∀ s, T1 ≤ s → f s = 0) :
    ∑ s ∈ range N, f s = ∑ s ∈ range T0, f s + ∑ m ∈ range (T1 - T0), f (T0 + m) := by
  rw [← sum_range_add_sum_Ico f h1, sum_eq_zero (s := Ico T1 N) fun s hs => hz s (mem_Ico.1 hs).1, add_zero,
    ← sum_range_add_sum_Ico f h01, sum_Ico_eq_sum_range]

/-- A sum over `t` cut at the chunk, when the terms before the chunk vanish. -/
theorem sum_cut_above (f : ℕ → ℝ) (h01 : T0 ≤ T1) (h1 : T1 ≤ N) (hz : ∀ t, t < T0 → f t = 0) :
    ∑ t ∈ range N, f t = ∑ t ∈ Ico T1 N, f t + ∑ l ∈ range (T1 - T0), f (T0 + l) := by
  rw [← sum_range_add_sum_Ico f h1, ← sum_range_add_sum_Ico f h01,
    sum_eq_zero (s := range T0) fun s hs => hz s (mem_range.1 hs), zero_add, sum_Ico_eq_sum_range, add_comm]

/-- The entering state read by a token of the chunk. -/
theorem read_enter {t : ℕ} (ht : T0 ≤ t) (p : ℕ) :
    (∑ n ∈ range J, C t n * enter P B X T0 n p) * Real.exp (P (t + 1) - P T0)
      = ∑ s ∈ range T0, decay P t s * gram J C B t s * X s p := by
  simp only [enter, mul_sum, sum_mul, gram]
  rw [sum_comm]
  refine sum_congr rfl fun s hs => sum_congr rfl fun n _ => ?_
  rw [decay_split (mem_range.1 hs) (by omega)]; ring

/-- The leaving state's gradient read by a token of the chunk. -/
theorem read_leave {s : ℕ} (hs : s < T1) (p : ℕ) :
    (∑ n ∈ range J, B s n * leave P C Y N T1 n p) * Real.exp (P T1 - P (s + 1))
      = ∑ t ∈ Ico T1 N, decay P t s * gram J C B t s * Y t p := by
  simp only [leave, mul_sum, sum_mul, gram]
  rw [sum_comm]
  refine sum_congr rfl fun t ht => sum_congr rfl fun n _ => ?_
  rw [decay_split hs (le_trans (mem_Ico.1 ht).1 (Nat.le_succ t))]; ring

/-- The gradient of the scaled input: what comes from beyond the chunk, and from the chunk itself. -/
theorem input_grad {m : ℕ} (h01 : T0 ≤ T1) (h1 : T1 ≤ N) (hm : m < T1 - T0) (p : ℕ) :
    (∑ n ∈ range J, B (T0 + m) n * leave P C Y N T1 n p) * Real.exp (P T1 - P (T0 + m + 1))
        + ∑ l ∈ range (T1 - T0), (gram J C B (T0 + l) (T0 + m) * decay P (T0 + l) (T0 + m)) * Y (T0 + l) p
      = ∑ t ∈ range N, decay P t (T0 + m) * gram J C B t (T0 + m) * Y t p := by
  rw [read_leave (by omega), sum_cut_above _ h01 h1 (fun t ht => by rw [decay_of_lt (by omega)]; ring)]
  refine congrArg _ (sum_congr rfl fun l _ => by ring)

/-- The entering state's share of the gradient of `C`. -/
theorem grad_c_enter {t : ℕ} (ht : T0 ≤ t) (n : ℕ) :
    ∑ p ∈ range W, (Y t p * Real.exp (P (t + 1) - P T0)) * enter P B X T0 n p
      = ∑ s ∈ range T0, pair W Y X t s * decay P t s * B s n := by
  simp only [enter, mul_sum, sum_mul, pair]
  rw [sum_comm]
  refine sum_congr rfl fun s hs => sum_congr rfl fun p _ => ?_
  rw [decay_split (mem_range.1 hs) (by omega)]; ring

/-- The leaving state's share of the gradient of `B`. -/
theorem grad_b_leave {s : ℕ} (hs : s < T1) (n : ℕ) :
    ∑ p ∈ range W, (X s p * Real.exp (P T1 - P (s + 1))) * leave P C Y N T1 n p
      = ∑ t ∈ Ico T1 N, pair W Y X t s * decay P t s * C t n := by
  simp only [leave, mul_sum, sum_mul, pair]
  rw [sum_comm]
  refine sum_congr rfl fun t ht => sum_congr rfl fun p _ => ?_
  rw [decay_split hs (le_trans (mem_Ico.1 ht).1 (Nat.le_succ t))]; ring

/-- The gradient of `C` at a token of the chunk. -/
theorem grad_c {l : ℕ} (h01 : T0 ≤ T1) (h1 : T1 ≤ N) (hl : l < T1 - T0) (n : ℕ) :
    ∑ p ∈ range W, (Y (T0 + l) p * Real.exp (P (T0 + l + 1) - P T0)) * enter P B X T0 n p
        + ∑ m ∈ range (T1 - T0), (pair W Y X (T0 + l) (T0 + m) * decay P (T0 + l) (T0 + m)) * B (T0 + m) n
      = ∑ s ∈ range N, pair W Y X (T0 + l) s * decay P (T0 + l) s * B s n := by
  rw [grad_c_enter (by omega), sum_cut_below _ h01 h1 (fun t ht => by rw [decay_of_lt (by omega)]; ring)]

/-- The gradient of `B` at a token of the chunk. -/
theorem grad_b {m : ℕ} (h01 : T0 ≤ T1) (h1 : T1 ≤ N) (hm : m < T1 - T0) (n : ℕ) :
    ∑ p ∈ range W, (X (T0 + m) p * Real.exp (P T1 - P (T0 + m + 1))) * leave P C Y N T1 n p
        + ∑ l ∈ range (T1 - T0), (pair W Y X (T0 + l) (T0 + m) * decay P (T0 + l) (T0 + m)) * C (T0 + l) n
      = ∑ t ∈ range N, pair W Y X t (T0 + m) * decay P t (T0 + m) * C t n := by
  rw [grad_b_leave (by omega), sum_cut_above _ h01 h1 (fun t ht => by rw [decay_of_lt (by omega)]; ring)]

/-- The leaving state's gradient one chunk earlier. -/
theorem leave_step (h01 : T0 ≤ T1) (h1 : T1 ≤ N) (n p : ℕ) :
    leave P C Y N T1 n p * Real.exp (P T1 - P T0)
        + ∑ l ∈ range (T1 - T0), C (T0 + l) n * (Y (T0 + l) p * Real.exp (P (T0 + l + 1) - P T0))
      = leave P C Y N T0 n p := by
  have hsplit : leave P C Y N T0 n p
      = ∑ t ∈ Ico T0 T1, C t n * (Real.exp (P (t + 1) - P T0) * Y t p)
        + ∑ t ∈ Ico T1 N, C t n * (Real.exp (P (t + 1) - P T0) * Y t p) :=
    (sum_Ico_consecutive _ h01 h1).symm
  rw [hsplit, sum_Ico_eq_sum_range, add_comm]
  refine congrArg₂ _ (sum_congr rfl fun l _ => by ring) ?_
  rw [leave, sum_mul]
  refine sum_congr rfl fun t _ => ?_
  have : Real.exp (P (t + 1) - P T0) = Real.exp (P (t + 1) - P T1) * Real.exp (P T1 - P T0) := by
    rw [← Real.exp_add]; congr 1; ring
  rw [this]; ring

/-- The pairs that read the entering state. -/
theorem flow_enter {t : ℕ} (ht : T0 ≤ t) :
    ∑ p ∈ range W, Y t p * (∑ n ∈ range J, C t n * enter P B X T0 n p) * Real.exp (P (t + 1) - P T0)
      = ∑ s ∈ range T0, flow P J W C B Y X t s := by
  have : ∀ p, Y t p * (∑ n ∈ range J, C t n * enter P B X T0 n p) * Real.exp (P (t + 1) - P T0)
      = ∑ s ∈ range T0, decay P t s * gram J C B t s * (Y t p * X s p) := fun p => by
    rw [mul_assoc, read_enter ht, mul_sum]; exact sum_congr rfl fun s _ => by ring
  simp only [this]
  rw [sum_comm]
  refine sum_congr rfl fun s _ => ?_
  rw [flow, pair, mul_sum]

/-- The pairs that cross the chunk's end from one of its tokens. -/
theorem flow_leave {s : ℕ} (hs : s < T1) :
    ∑ p ∈ range W, (∑ n ∈ range J, B s n * leave P C Y N T1 n p) * (X s p * Real.exp (P T1 - P (s + 1)))
      = ∑ t ∈ Ico T1 N, flow P J W C B Y X t s := by
  have : ∀ p, (∑ n ∈ range J, B s n * leave P C Y N T1 n p) * (X s p * Real.exp (P T1 - P (s + 1)))
      = ∑ t ∈ Ico T1 N, decay P t s * gram J C B t s * (Y t p * X s p) := fun p => by
    rw [mul_comm (X s p), ← mul_assoc, read_leave hs, sum_mul]; exact sum_congr rfl fun t _ => by ring
  simp only [this]
  rw [sum_comm]
  refine sum_congr rfl fun t _ => ?_
  rw [flow, pair, mul_sum]

/-- The pairs that jump over the whole chunk. -/
theorem flow_over (h01 : T0 ≤ T1) :
    Real.exp (P T1 - P T0) * ∑ p ∈ range W, ∑ n ∈ range J, leave P C Y N T1 n p * enter P B X T0 n p
      = ∑ t ∈ Ico T1 N, ∑ s ∈ range T0, flow P J W C B Y X t s := by
  have hflow : ∀ t ∈ Ico T1 N, ∀ s ∈ range T0, flow P J W C B Y X t s
      = ∑ p ∈ range W, ∑ n ∈ range J, Real.exp (P T1 - P T0) *
          ((C t n * (Real.exp (P (t + 1) - P T1) * Y t p)) * (B s n * (Real.exp (P T0 - P (s + 1)) * X s p))) := by
    intro t ht s hs
    have h1 := (mem_Ico.1 ht).1
    have h2 := mem_range.1 hs
    have e : decay P t s = Real.exp (P (t + 1) - P T1) * Real.exp (P T1 - P T0) * Real.exp (P T0 - P (s + 1)) := by
      rw [decay, if_pos (by omega), ← Real.exp_add, ← Real.exp_add]; congr 1; ring
    rw [flow, gram, pair, e, mul_sum]
    refine sum_congr rfl fun p _ => ?_
    rw [mul_sum, sum_mul]
    exact sum_congr rfl fun n _ => by ring
  rw [sum_congr rfl fun t ht => sum_congr rfl fun s hs => hflow t ht s hs]
  simp only [leave, enter, sum_mul, mul_sum]
  refine Eq.trans ?_ sum_comm
  refine (sum_congr rfl fun p _ => sum_comm).trans (sum_comm.trans (sum_congr rfl fun t _ => ?_))
  exact (sum_congr rfl fun p _ => sum_comm).trans sum_comm

/-- What the decay's logarithm collects at token `u`: the pairs that end there less the pairs that start there. -/
def net (P : ℕ → ℝ) (J W : ℕ) (C B Y X : ℕ → ℕ → ℝ) (N u : ℕ) : ℝ :=
  ∑ s ∈ range N, flow P J W C B Y X u s - ∑ t ∈ range N, flow P J W C B Y X t u

/-- Summed from `u0` on, a net flow leaves the pairs that cross `u0`. -/
theorem net_tail (f : ℕ → ℕ → ℝ) (hf : ∀ t s, t < s → f t s = 0) {u0 : ℕ} (h : u0 ≤ N) :
    ∑ u ∈ Ico u0 N, (∑ s ∈ range N, f u s - ∑ t ∈ range N, f t u) = ∑ u ∈ Ico u0 N, ∑ s ∈ range u0, f u s := by
  rw [sum_sub_distrib]
  have e1 : ∑ u ∈ Ico u0 N, ∑ s ∈ range N, f u s
      = ∑ u ∈ Ico u0 N, ∑ s ∈ range u0, f u s + ∑ u ∈ Ico u0 N, ∑ s ∈ Ico u0 N, f u s := by
    rw [← sum_add_distrib]
    exact sum_congr rfl fun u _ => (sum_range_add_sum_Ico _ h).symm
  have e2 : ∑ u ∈ Ico u0 N, ∑ t ∈ range N, f t u = ∑ u ∈ Ico u0 N, ∑ t ∈ Ico u0 N, f t u := by
    refine sum_congr rfl fun u hu => ?_
    rw [← sum_range_add_sum_Ico _ h, sum_eq_zero fun t ht => hf t u ?_, zero_add]
    have := (mem_Ico.1 hu).1
    have := mem_range.1 ht
    omega
  rw [e1, e2, sum_comm (s := Ico u0 N) (t := Ico u0 N) (f := fun u t => f t u)]
  ring

/-- The same sum inside one chunk: the pairs that end in the chunk, less those that start there, from `u0` to
    the chunk's end, and the pairs that cross the chunk's end. -/
theorem net_chunk (f : ℕ → ℕ → ℝ) (hf : ∀ t s, t < s → f t s = 0) {u0 : ℕ} (h0 : T0 ≤ u0) (hu : u0 ≤ T1) (h1 : T1 ≤ N) :
    ∑ u ∈ Ico u0 T1, (∑ s ∈ range T1, f u s - ∑ t ∈ Ico T0 N, f t u) + ∑ t ∈ Ico T1 N, ∑ s ∈ range T1, f t s
      = ∑ u ∈ Ico u0 N, ∑ s ∈ range u0, f u s := by
  have hT : u0 ≤ N := le_trans hu h1
  rw [sum_sub_distrib]
  have e1 : ∑ u ∈ Ico u0 T1, ∑ s ∈ range T1, f u s
      = ∑ u ∈ Ico u0 T1, ∑ s ∈ range u0, f u s + ∑ u ∈ Ico u0 T1, ∑ s ∈ Ico u0 T1, f u s := by
    rw [← sum_add_distrib]
    exact sum_congr rfl fun u _ => (sum_range_add_sum_Ico _ hu).symm
  have e2 : ∑ u ∈ Ico u0 T1, ∑ t ∈ Ico T0 N, f t u
      = ∑ u ∈ Ico u0 T1, ∑ t ∈ Ico u0 T1, f t u + ∑ u ∈ Ico u0 T1, ∑ t ∈ Ico T1 N, f t u := by
    rw [← sum_add_distrib]
    refine sum_congr rfl fun u hu' => ?_
    rw [← sum_Ico_consecutive _ h0 hT, sum_eq_zero fun t ht => hf t u ?_, zero_add, sum_Ico_consecutive _ hu h1]
    have := (mem_Ico.1 hu').1
    have := (mem_Ico.1 ht).2
    omega
  have e3 : ∑ t ∈ Ico T1 N, ∑ s ∈ range T1, f t s
      = ∑ t ∈ Ico T1 N, ∑ s ∈ range u0, f t s + ∑ t ∈ Ico T1 N, ∑ s ∈ Ico u0 T1, f t s := by
    rw [← sum_add_distrib]
    exact sum_congr rfl fun u _ => (sum_range_add_sum_Ico _ hu).symm
  rw [e1, e2, e3, sum_comm (s := Ico u0 T1) (t := Ico u0 T1) (f := fun u t => f t u),
    sum_comm (s := Ico T1 N) (t := Ico u0 T1), ← sum_Ico_consecutive (fun u => ∑ s ∈ range u0, f u s) hu h1]
  ring

/-- A sum over `a * b` places is a sum over `a` blocks of `b` places. -/
theorem sum_range_blocks (f : ℕ → ℝ) (a b : ℕ) : ∑ i ∈ range (a * b), f i = ∑ i ∈ range a, ∑ j ∈ range b, f (i * b + j) := by
  induction a with
  | zero => simp
  | succ a ih => rw [Nat.succ_mul, sum_range_add, ih, sum_range_succ]

end

end Scan
-- ==== Proof.Scan.Model.lean ====
/- The whole sequence over the reals: what the gradient is (sums over all pairs of tokens, one head at a time), and that
   the kernel's point for chunk `k` — whose states are the sums over the tokens before and after the chunk — computes it. -/
module

public import proofs.«01_k».proof.Proof.Scan.Chunk
public import proofs.«01_k».proof.Proof.Scan.PointReads

@[expose] public section

namespace Scan

open Finset Scan.Body
open scoped BigOperators

noncomputable section

/-- The arguments as reals: tokens first, then lanes or heads. -/
structure Args where
  x : ℕ → ℕ → ℝ
  b : ℕ → ℕ → ℝ
  c : ℕ → ℕ → ℝ
  dt : ℕ → ℕ → ℝ
  a : ℕ → ℝ
  d : ℕ → ℝ
  dy : ℕ → ℕ → ℝ

namespace Args

variable (A : Args)

/-- The running sum of `dt · a`, exclusive. -/
def P (h n : ℕ) : ℝ := ∑ s ∈ range n, A.dt s h * A.a h
/-- A head's projections, scaled input and arriving gradient. -/
def B (h t n : ℕ) : ℝ := A.b t (128 * (h / 8) + n)
def C (h t n : ℕ) : ℝ := A.c t (128 * (h / 8) + n)
def X (h s p : ℕ) : ℝ := A.x s (64 * h + p) * A.dt s h
def Y (h t p : ℕ) : ℝ := A.dy t (64 * h + p)
/-- What flows from token `s` to token `t` in head `h`. -/
def fl (h t s : ℕ) : ℝ := flow (A.P h) 128 64 (A.C h) (A.B h) (A.Y h) (A.X h) t s
/-- The gradient of the scaled input. -/
def inG (h s p : ℕ) : ℝ := ∑ t ∈ range 4096, decay (A.P h) t s * gram 128 (A.C h) (A.B h) t s * A.Y h t p
/-- The gradients of a group's two projections. -/
def cG (g t n : ℕ) : ℝ := ∑ j ∈ range 8, ∑ s ∈ range 4096, pair 64 (A.Y (8 * g + j)) (A.X (8 * g + j)) t s * decay (A.P (8 * g + j)) t s * A.b s (128 * g + n)
def bG (g s n : ℕ) : ℝ := ∑ j ∈ range 8, ∑ t ∈ range 4096, pair 64 (A.Y (8 * g + j)) (A.X (8 * g + j)) t s * decay (A.P (8 * g + j)) t s * A.c t (128 * g + n)
/-- The gradient of the running sum's step at token `u`: the net flow of the tokens from `u` on. -/
def tl (h u : ℕ) : ℝ := ∑ v ∈ Ico u 4096, (∑ s ∈ range 4096, A.fl h v s - ∑ t ∈ range 4096, A.fl h t v)
/-- The gradient of `dt`. -/
def stepG (t h : ℕ) : ℝ := A.tl h t * A.a h + ∑ p ∈ range 64, A.inG h t p * A.x t (64 * h + p)
/-- The gradient of `a`. -/
def aG (h : ℕ) : ℝ := ∑ t ∈ range 4096, A.tl h t * A.dt t h
/-- The gradient of `d`. -/
def dG (h : ℕ) : ℝ := ∑ t ∈ range 4096, ∑ p ∈ range 64, A.dy t (64 * h + p) * A.x t (64 * h + p)
/-- The gradients of `x`, `B`, `C` side by side. -/
def outG (t q : ℕ) : ℝ :=
  if q < 2048 then A.inG (q / 64) t (q % 64) * A.dt t (q / 64) + A.dy t q * A.d (q / 64)
  else if q < 2560 then A.bG ((q - 2048) / 128) t ((q - 2048) % 128)
  else A.cG ((q - 2560) / 128) t ((q - 2560) % 128)

/-- The point of chunk `k`. -/
def point (k : ℕ) (oldA oldD : ℕ → ℝ) : Point where
  x r q := A.x (128 * k + r) q
  b r n := A.b (128 * k + r) n
  c r n := A.c (128 * k + r) n
  dt r q := A.dt (128 * k + r) (q / 64)
  al h l := A.P h (128 * k + l + 1) - A.P h (128 * k)
  hin n q := enter (A.P (q / 64)) (A.B (q / 64)) (A.X (q / 64)) (128 * k) n (q % 64)
  dh n q := leave (A.P (q / 64)) (A.C (q / 64)) (A.Y (q / 64)) 4096 (128 * (k + 1)) n (q % 64)
  dy r q := A.dy (128 * k + r) q
  a q := A.a (q / 64)
  d q := A.d (q / 64)
  oldA := oldA
  oldD := oldD

variable {A} {k : ℕ} {oldA oldD : ℕ → ℝ}

theorem lane_div {h p : ℕ} (hp : p < 64) : (64 * h + p) / 64 = h := by omega
theorem lane_mod {h p : ℕ} (hp : p < 64) : (64 * h + p) % 64 = p := by omega
theorem lane_group {h p : ℕ} (hp : p < 64) : (64 * h + p) / 512 = h / 8 := by omega

theorem end_sub : 128 * (k + 1) - 128 * k = 128 := by omega

theorem hin_at {n h p : ℕ} (hp : p < 64) : (A.point k oldA oldD).hin n (64 * h + p) = enter (A.P h) (A.B h) (A.X h) (128 * k) n p := by
  show enter _ _ _ _ _ _ = _
  rw [lane_div hp, lane_mod hp]

theorem dh_at {n h p : ℕ} (hp : p < 64) : (A.point k oldA oldD).dh n (64 * h + p) = leave (A.P h) (A.C h) (A.Y h) 4096 (128 * (k + 1)) n p := by
  show leave _ _ _ _ _ _ _ = _
  rw [lane_div hp, lane_mod hp]

theorem xd_at {r h p : ℕ} (hp : p < 64) : (A.point k oldA oldD).xd r (64 * h + p) = A.X h (128 * k + r) p := by
  show A.x _ _ * A.dt _ ((64 * h + p) / 64) = _
  rw [lane_div hp]; rfl

theorem rem_al (h r : ℕ) : (A.point k oldA oldD).al h 127 - (A.point k oldA oldD).al h r = A.P h (128 * (k + 1)) - A.P h (128 * k + r + 1) := by
  show (A.P h (128 * k + 127 + 1) - A.P h (128 * k)) - (A.P h (128 * k + r + 1) - A.P h (128 * k)) = _
  rw [show 128 * k + 127 + 1 = 128 * (k + 1) by omega]; ring

theorem rem_at {r h p : ℕ} (hp : p < 64) :
    (A.point k oldA oldD).rem r (64 * h + p) = Real.exp (A.P h (128 * (k + 1)) - A.P h (128 * k + r + 1)) := by
  unfold Point.rem
  rw [lane_div hp, rem_al]

theorem bh_at {r h p : ℕ} (hp : p < 64) :
    (A.point k oldA oldD).bh r (64 * h + p) = ∑ n ∈ range 128, A.B h (128 * k + r) n * leave (A.P h) (A.C h) (A.Y h) 4096 (128 * (k + 1)) n p :=
  sum_congr rfl fun n _ => by rw [dh_at hp, lane_group hp]; rfl

theorem ch_at {r h p : ℕ} (hp : p < 64) :
    (A.point k oldA oldD).ch r (64 * h + p) = ∑ n ∈ range 128, A.C h (128 * k + r) n * enter (A.P h) (A.B h) (A.X h) (128 * k) n p :=
  sum_congr rfl fun n _ => by rw [hin_at hp, lane_group hp]; rfl

theorem dec_at (h l m : ℕ) : dec ((A.point k oldA oldD).al h) l m = decay (A.P h) (128 * k + l) (128 * k + m) := by
  unfold dec decay
  by_cases hml : m ≤ l
  · rw [if_pos hml, if_pos (by omega)]
    show Real.exp ((A.P h (128 * k + l + 1) - A.P h (128 * k)) - (A.P h (128 * k + m + 1) - A.P h (128 * k))) = _
    congr 1; ring
  · rw [if_neg hml, if_neg (by omega)]

theorem gm_at (h l m : ℕ) : (A.point k oldA oldD).gm (h / 8) l m = gram 128 (A.C h) (A.B h) (128 * k + l) (128 * k + m) := rfl

theorem pr_at (h l m : ℕ) : (A.point k oldA oldD).pr h l m = pair 64 (A.Y h) (A.X h) (128 * k + l) (128 * k + m) :=
  sum_congr rfl fun p hp => by rw [xd_at (mem_range.1 hp)]; rfl

theorem headSum_at (f : ℕ → ℕ → ℝ) (r : ℕ) {h p : ℕ} (hp : p < 64) : headSum f r (64 * h + p) = ∑ i ∈ range 64, f r (64 * h + i) := by
  unfold headSum; rw [lane_div hp]

variable (hk : k < 32)
include hk

theorem below : 128 * (k + 1) ≤ 4096 := by omega

/-- The gradient of the scaled input. -/
theorem inR_at {r h p : ℕ} (hr : r < 128) (hp : p < 64) : (A.point k oldA oldD).inR r (64 * h + p) = A.inG h (128 * k + r) p := by
  have e := input_grad (P := A.P h) (J := 128) (C := A.C h) (B := A.B h) (Y := A.Y h) (N := 4096) (T0 := 128 * k) (T1 := 128 * (k + 1)) (m := r)
    (by omega) (below hk) (by omega) p
  rw [end_sub] at e
  unfold Point.inR inG
  rw [← e, bh_at hp, rem_at hp, lane_group hp, lane_div hp]
  congr 1
  exact sum_congr rfl fun l _ => by rw [gm_at, dec_at]; rfl

/-- The state's gradient before the chunk. -/
theorem stR_at {n h p : ℕ} (hp : p < 64) : (A.point k oldA oldD).stR n (64 * h + p) = leave (A.P h) (A.C h) (A.Y h) 4096 (128 * k) n p := by
  have e := leave_step (P := A.P h) (C := A.C h) (Y := A.Y h) (N := 4096) (T0 := 128 * k) (T1 := 128 * (k + 1)) (by omega) (below hk) n p
  rw [end_sub] at e
  unfold Point.stR
  rw [← e, dh_at hp, lane_div hp, lane_group hp]
  congr 1

/-- A group's lanes are its heads' lanes. -/
theorem sum_lanes (f : ℕ → ℝ) : ∑ q ∈ range 512, f q = ∑ j ∈ range 8, ∑ p ∈ range 64, f (j * 64 + p) := sum_range_blocks f 8 64

theorem cR_at {g l n : ℕ} (hl : l < 128) : (A.point k oldA oldD).cR g l n = A.cG g (128 * k + l) n := by
  unfold Point.cR cG
  rw [sum_lanes hk]
  simp only [sum_mul]
  rw [sum_comm (s := range 128), ← sum_add_distrib]
  refine sum_congr rfl fun j hj => ?_
  have hj := mem_range.1 hj
  have e := grad_c (P := A.P (8 * g + j)) (W := 64) (B := A.B (8 * g + j)) (Y := A.Y (8 * g + j)) (X := A.X (8 * g + j)) (N := 4096) (T0 := 128 * k) (T1 := 128 * (k + 1)) (l := l)
    (by omega) (below hk) (by omega) n
  rw [end_sub] at e
  have hB : ∀ s, A.B (8 * g + j) s n = A.b s (128 * g + n) := fun s => by
    unfold B; rw [show (8 * g + j) / 8 = g by omega]
  simp only [hB] at e
  rw [← e]
  congr 1
  · refine sum_congr rfl fun p hp => ?_
    have hp := mem_range.1 hp
    rw [show 512 * g + (j * 64 + p) = 64 * (8 * g + j) + p by omega, hin_at hp, show (j * 64 + p) / 64 = j by omega]
    rfl
  · exact sum_congr rfl fun m _ => by rw [pr_at, dec_at]; rfl

theorem bR_at {g m n : ℕ} (hm : m < 128) : (A.point k oldA oldD).bR g m n = A.bG g (128 * k + m) n := by
  unfold Point.bR bG
  rw [sum_lanes hk]
  simp only [sum_mul]
  rw [sum_comm (s := range 128), ← sum_add_distrib]
  refine sum_congr rfl fun j hj => ?_
  have hj := mem_range.1 hj
  have e := grad_b (P := A.P (8 * g + j)) (W := 64) (C := A.C (8 * g + j)) (Y := A.Y (8 * g + j)) (X := A.X (8 * g + j)) (N := 4096) (T0 := 128 * k) (T1 := 128 * (k + 1)) (m := m)
    (by omega) (below hk) (by omega) n
  rw [end_sub] at e
  have hC : ∀ s, A.C (8 * g + j) s n = A.c s (128 * g + n) := fun s => by
    unfold C; rw [show (8 * g + j) / 8 = g by omega]
  simp only [hC] at e
  rw [← e]
  congr 1
  · refine sum_congr rfl fun p hp => ?_
    have hp := mem_range.1 hp
    rw [show 512 * g + (j * 64 + p) = 64 * (8 * g + j) + p by omega, dh_at hp, xd_at hp, show (j * 64 + p) / 64 = j by omega, rem_al]
  · exact sum_congr rfl fun l _ => by rw [pr_at, dec_at]; rfl

theorem over_at {r h p : ℕ} (hr : r < 128) (hp : p < 64) : (A.point k oldA oldD).over r (64 * h + p) = ∑ t ∈ Ico (128 * (k + 1)) 4096, A.fl h t (128 * k + r) := by
  unfold Point.over
  rw [headSum_at _ _ hp]
  refine Eq.trans ?_ (flow_leave (P := A.P h) (J := 128) (W := 64) (C := A.C h) (B := A.B h) (Y := A.Y h) (X := A.X h) (N := 4096) (T1 := 128 * (k + 1)) (s := 128 * k + r) (by omega))
  exact sum_congr rfl fun i hi => by
    have hi := mem_range.1 hi
    rw [bh_at hi, xd_at hi, rem_at hi]

/-- The flow from a chunk's row: from all tokens up to the chunk's end, less to all tokens from the chunk's start; the last row
    also has the flow over the chunk's end. -/
theorem netV_at {r h p : ℕ} (hr : r < 128) (hp : p < 64) : (A.point k oldA oldD).netV r (64 * h + p) =
    (∑ s ∈ range (128 * (k + 1)), A.fl h (128 * k + r) s - ∑ t ∈ Ico (128 * k) 4096, A.fl h t (128 * k + r))
      + (if r = 127 then ∑ t ∈ Ico (128 * (k + 1)) 4096, ∑ s ∈ range (128 * (k + 1)), A.fl h t s else 0) := by
  have e1 : headSum (fun r q => (A.point k oldA oldD).dy r q * (A.point k oldA oldD).ch r q * Real.exp ((A.point k oldA oldD).al (q / 64) r)) r (64 * h + p)
      = ∑ s ∈ range (128 * k), A.fl h (128 * k + r) s := by
    rw [headSum_at _ _ hp]
    refine Eq.trans ?_ (flow_enter (P := A.P h) (J := 128) (W := 64) (C := A.C h) (B := A.B h) (Y := A.Y h) (X := A.X h) (T0 := 128 * k) (t := 128 * k + r) (by omega))
    exact sum_congr rfl fun i hi => by
      have hi := mem_range.1 hi
      rw [ch_at hi, lane_div hi]; rfl
  have e2 : Real.exp ((A.point k oldA oldD).al h 127) * headSum (fun _ q => ∑ n ∈ range 128, (A.point k oldA oldD).dh n q * (A.point k oldA oldD).hin n q) 0 (64 * h + p)
      = ∑ t ∈ Ico (128 * (k + 1)) 4096, ∑ s ∈ range (128 * k), A.fl h t s := by
    rw [headSum_at _ _ hp]
    refine Eq.trans ?_ (flow_over (P := A.P h) (J := 128) (W := 64) (C := A.C h) (B := A.B h) (Y := A.Y h) (X := A.X h) (N := 4096) (T0 := 128 * k) (T1 := 128 * (k + 1)) (by omega))
    congr 1
    exact sum_congr rfl fun i hi => sum_congr rfl fun n _ => by
      have hi := mem_range.1 hi
      rw [dh_at hi, hin_at hi]
  have cut : ∀ f : ℕ → ℝ, ∑ s ∈ range (128 * (k + 1)), f s = ∑ s ∈ range (128 * k), f s + ∑ i ∈ range 128, f (128 * k + i) := fun f => by
    rw [show 128 * (k + 1) = 128 * k + 128 by ring, sum_range_add]
  have cut' : ∀ f : ℕ → ℝ, ∑ t ∈ Ico (128 * k) 4096, f t = ∑ i ∈ range 128, f (128 * k + i) + ∑ t ∈ Ico (128 * (k + 1)) 4096, f t := fun f => by
    rw [← sum_Ico_consecutive f (show 128 * k ≤ 128 * (k + 1) by omega) (below hk), sum_Ico_eq_sum_range, end_sub]
  have e3 : ∑ m ∈ range 128, (A.point k oldA oldD).pr h r m * ((A.point k oldA oldD).gm (h / 8) r m * dec ((A.point k oldA oldD).al h) r m)
      = ∑ m ∈ range 128, A.fl h (128 * k + r) (128 * k + m) := sum_congr rfl fun m _ => by
    rw [pr_at, gm_at, dec_at]; unfold fl flow; ring
  have e4 : ∑ l ∈ range 128, (A.point k oldA oldD).pr h l r * ((A.point k oldA oldD).gm (h / 8) l r * dec ((A.point k oldA oldD).al h) l r)
      = ∑ l ∈ range 128, A.fl h (128 * k + l) (128 * k + r) := sum_congr rfl fun m _ => by
    rw [pr_at, gm_at, dec_at]; unfold fl flow; ring
  have e5 : ∑ i ∈ range 128, (A.point k oldA oldD).over i (64 * h + p) = ∑ t ∈ Ico (128 * (k + 1)) 4096, ∑ i ∈ range 128, A.fl h t (128 * k + i) := by
    rw [sum_comm]
    exact sum_congr rfl fun i hi => over_at hk (mem_range.1 hi) hp
  unfold Point.netV
  rw [e1, over_at hk hr hp, lane_div hp, lane_group hp, e2, e3, e4, e5, cut, cut']
  by_cases h127 : r = 127
  · rw [if_pos h127, if_pos h127]
    simp only [cut]
    rw [sum_add_distrib]
    ring
  · rw [if_neg h127, if_neg h127]
    ring

/-- The net flow from a row on. -/
theorem tail_at {r h p : ℕ} (hr : r < 128) (hp : p < 64) : (A.point k oldA oldD).tail r (64 * h + p) = A.tl h (128 * k + r) := by
  have hf : ∀ t s, t < s → A.fl h t s = 0 := fun t s hts => flow_of_lt hts
  have e := net_chunk (T0 := 128 * k) (T1 := 128 * (k + 1)) (N := 4096) (A.fl h) hf (u0 := 128 * k + r) (by omega) (by omega) (below hk)
  have e' := net_tail (N := 4096) (A.fl h) hf (u0 := 128 * k + r) (by omega)
  unfold tl
  rw [e', ← e]
  unfold Point.tail
  rw [sum_congr rfl fun m hm => by rw [netV_at hk (mem_range.1 hm) hp]]
  rw [show (fun m => if r ≤ m then (∑ s ∈ range (128 * (k + 1)), A.fl h (128 * k + m) s - ∑ t ∈ Ico (128 * k) 4096, A.fl h t (128 * k + m))
      + (if m = 127 then ∑ t ∈ Ico (128 * (k + 1)) 4096, ∑ s ∈ range (128 * (k + 1)), A.fl h t s else 0) else 0)
    = fun m => (if r ≤ m then (∑ s ∈ range (128 * (k + 1)), A.fl h (128 * k + m) s - ∑ t ∈ Ico (128 * k) 4096, A.fl h t (128 * k + m)) else 0)
      + (if m = 127 then ∑ t ∈ Ico (128 * (k + 1)) 4096, ∑ s ∈ range (128 * (k + 1)), A.fl h t s else 0) from funext fun m => by
    by_cases h1 : r ≤ m
    · rw [if_pos h1, if_pos h1]
    · rw [if_neg h1, if_neg h1, if_neg (by omega), add_zero]]
  rw [sum_add_distrib, sum_ite_eq' (range 128) 127, if_pos (by decide)]
  congr 1
  rw [← sum_filter, sum_Ico_eq_sum_range, show 128 * (k + 1) - (128 * k + r) = 128 - r by omega,
    show (range 128).filter (fun m => r ≤ m) = Ico r 128 by ext m; simp [mem_filter, mem_Ico, and_comm], sum_Ico_eq_sum_range]
  exact sum_congr rfl fun m _ => by rw [add_assoc]

theorem step_at {r h p : ℕ} (hr : r < 128) (hp : p < 64) : (A.point k oldA oldD).stepR r (64 * h + p) = A.stepG (128 * k + r) h := by
  unfold Point.stepR stepG
  rw [tail_at hk hr hp, headSum_at _ _ hp]
  congr 1
  · show _ * A.a _ = _
    rw [lane_div hp]
  · exact sum_congr rfl fun i hi => by rw [inR_at hk hr (mem_range.1 hi)]; rfl

theorem out_at {r q : ℕ} (hr : r < 128) : (A.point k oldA oldD).outR r q = A.outG (128 * k + r) q := by
  unfold Point.outR outG
  by_cases h0 : q < 2048
  · rw [if_pos h0, if_pos h0]
    have e : q = 64 * (q / 64) + q % 64 := by omega
    have hp : q % 64 < 64 := Nat.mod_lt _ (by decide)
    have := inR_at (A := A) (oldA := oldA) (oldD := oldD) hk (h := q / 64) hr hp
    rw [← e] at this
    rw [this]; rfl
  · rw [if_neg h0, if_neg h0]
    by_cases h1 : q < 2560
    · rw [if_pos h1, if_pos h1, bR_at hk hr]
    · rw [if_neg h1, if_neg h1, cR_at hk hr]

theorem a_at {q : ℕ} : (A.point k oldA oldD).aR q = oldA q + ∑ r ∈ range 128, A.tl (q / 64) (128 * k + r) * A.dt (128 * k + r) (q / 64) := by
  unfold Point.aR
  congr 1
  refine sum_congr rfl fun r hr => ?_
  have e : q = 64 * (q / 64) + q % 64 := by omega
  have := tail_at (A := A) (oldA := oldA) (oldD := oldD) hk (h := q / 64) (mem_range.1 hr) (Nat.mod_lt q (show 0 < 64 by decide))
  rw [← e] at this
  rw [this]; rfl

omit hk in
theorem d_at {q : ℕ} : (A.point k oldA oldD).dR q = oldD q + ∑ r ∈ range 128, A.dy (128 * k + r) q * A.x (128 * k + r) q := rfl

end Args

end

end Scan
-- ==== Proof.Scan.Steps.lean ====
/- From the last chunk to the first: what each of the 32 points leaves in the outputs and in the carried state gradient. -/
module

public import proofs.«01_k».proof.Proof.Gen.KernelIdeal.Frame
public import proofs.«01_k».proof.Proof.Scan.CaseA
public import proofs.«01_k».proof.Proof.Scan.CaseB
public import proofs.«01_k».proof.Proof.Scan.CaseC
public import proofs.«01_k».proof.Proof.Scan.Model

@[expose] public section

namespace Scan

open Idealize.ShloMosaic Idealize.ShloMosaic.TcCoe Idealize.ShloMosaic.ValueIdx Idealize.SL.Sem Finset
open Cert.KernelIdeal Cert.KernelIdeal.Gen
open Scan.Body
open scoped BigOperators

noncomputable section

variable (A : Args)

/-- The gradient of `a` gathered on a lane by the points before `n`. -/
def sumA (n q : ℕ) : ℝ := ∑ i ∈ range n, ∑ r ∈ range 128, A.tl (q / 64) (128 * (31 - i) + r) * A.dt (128 * (31 - i) + r) (q / 64)
/-- The gradient of `d` gathered on a lane by the points before `n`. -/
def sumD (n q : ℕ) : ℝ := ∑ i ∈ range n, ∑ r ∈ range 128, A.dy (128 * (31 - i) + r) q * A.x (128 * (31 - i) + r) q
/-- The state's gradient that enters point `n`. -/
def later (n j q : ℕ) : ℝ := leave (A.P (q / 64)) (A.C (q / 64)) (A.Y (q / 64)) 4096 (128 * (32 - n)) j (q % 64)

variable {A} {m : (ℓ : Loc nD τ sig) → Buf (Elt Ideal) ℓ} {c : Dev nD}

/-- What the point `n` leaves. -/
structure Left (A : Args) (o : Vec Ideal S128x3072 .f32 × Vec Ideal S128x128 .f32 × Vec Ideal S1x2048 .f32 × Vec Ideal S1x2048 .f32 × Vec Ideal S128x2048 .f32) (n : ℕ) : Prop where
  out : Is (M := 128) (N := 3072) o.1 fun r q => A.outG (128 * (31 - n) + r) q
  step : Is (M := 128) (N := 128) o.2.1 fun r h => if h < 32 then A.stepG (128 * (31 - n) + r) h else 0
  a : Is (M := 1) (N := 2048) o.2.2.1 fun _ q => sumA A (n + 1) q
  d : Is (M := 1) (N := 2048) o.2.2.2.1 fun r q => if n = 31 then headSum (fun _ q => sumD A 32 q) r q else sumD A (n + 1) q
  state : Is (M := 128) (N := 2048) o.2.2.2.2 fun j q => later A (n + 1) j q

theorem Left.of_eq {A : Args} {o : Vec Ideal S128x3072 .f32 × Vec Ideal S128x128 .f32 × Vec Ideal S1x2048 .f32 × Vec Ideal S1x2048 .f32 × Vec Ideal S128x2048 .f32} {n : ℕ}
    {o8 : Vec Ideal S128x3072 .f32} {o9 : Vec Ideal S128x128 .f32} {o10 o11 : Vec Ideal S1x2048 .f32} {s : Vec Ideal S128x2048 .f32} (e : o = (o8, o9, o10, o11, s))
    (h8 : Is (M := 128) (N := 3072) o8 fun r q => A.outG (128 * (31 - n) + r) q)
    (h9 : Is (M := 128) (N := 128) o9 fun r h => if h < 32 then A.stepG (128 * (31 - n) + r) h else 0)
    (h10 : Is (M := 1) (N := 2048) o10 fun _ q => sumA A (n + 1) q)
    (h11 : Is (M := 1) (N := 2048) o11 fun r q => if n = 31 then headSum (fun _ q => sumD A 32 q) r q else sumD A (n + 1) q)
    (hs : Is (M := 128) (N := 2048) s fun j q => later A (n + 1) j q) : Left A o n := by
  subst e
  exact ⟨h8, h9, h10, h11, hs⟩

/-- The input blocks of every point hold the arguments' reals. -/
def Fed (A : Args) (m : (ℓ : Loc nD τ sig) → Buf (Elt Ideal) ℓ) (c : Dev nD) : Prop :=
  ∀ (t : Fin cfg0.N) (oldA oldD : ℕ → ℝ), Inputs (iblk m c 0 t) (iblk m c 1 t) (iblk m c 2 t) (iblk m c 3 t) (iblk m c 4 t) (iblk m c 5 t) (iblk m c 6 t) (iblk m c 7 t)
    (A.point (31 - t.val) oldA oldD)

theorem later_dh {n : ℕ} (hn : n < 32) {oldA oldD : ℕ → ℝ} (j q : ℕ) : (A.point (31 - n) oldA oldD).dh j q = later A n j q := by
  show leave _ _ _ _ _ _ _ = leave _ _ _ _ _ _ _
  rw [show 31 - n + 1 = 32 - n by omega]

theorem stR_later {n : ℕ} (hn : n < 32) {oldA oldD : ℕ → ℝ} (j q : ℕ) : (A.point (31 - n) oldA oldD).stR j q = later A (n + 1) j q := by
  have e : q = 64 * (q / 64) + q % 64 := by omega
  have := Args.stR_at (A := A) (k := 31 - n) (oldA := oldA) (oldD := oldD) (by omega) (n := j) (h := q / 64) (Nat.mod_lt q (show 0 < 64 by decide))
  rw [← e] at this
  rw [this, show 31 - n = 32 - (n + 1) by omega]; rfl

theorem aR_sumA {n : ℕ} (hn : n < 32) {oldD : ℕ → ℝ} (q : ℕ) : (A.point (31 - n) (sumA A n) oldD).aR q = sumA A (n + 1) q := by
  rw [Args.a_at (by omega)]; unfold sumA; rw [sum_range_succ _ n]

theorem dR_sumD {n : ℕ} {oldA : ℕ → ℝ} (q : ℕ) : (A.point (31 - n) oldA (sumD A n)).dR q = sumD A (n + 1) q := by
  rw [Args.d_at]; unfold sumD; rw [sum_range_succ _ n]

theorem step_lane {n : ℕ} (hn : n < 32) {oldA oldD : ℕ → ℝ} {r h : ℕ} (hr : r < 128) :
    (if h < 32 then (A.point (31 - n) oldA oldD).stepR r (64 * h) else 0) = if h < 32 then A.stepG (128 * (31 - n) + r) h else 0 := by
  have := Args.step_at (A := A) (k := 31 - n) (oldA := oldA) (oldD := oldD) (by omega) (r := r) (h := h) (p := 0) hr (by decide)
  rw [add_zero] at this
  rw [this]

set_option maxHeartbeats 400000 in
theorem left_A (F : Fed A m c) (t : Fin cfg0.N) (ht : t.val = 0) : Left A (outsAt0 m c t.val t.isLt) t.val := by
  have h0 : t.val % 32 = 0 := by rw [ht]
  have h1 : ¬t.val % 32 = 31 := by rw [ht]; decide
  have H := F t (sumA A t.val) (sumD A t.val)
  have hn : t.val < 32 := by omega
  have ha : (A.point (31 - t.val) (sumA A t.val) (sumD A t.val)).oldA = fun _ => 0 := by rw [ht]; rfl
  have hd : (A.point (31 - t.val) (sumA A t.val) (sumD A t.val)).oldD = fun _ => 0 := by rw [ht]; rfl
  have hs : (A.point (31 - t.val) (sumA A t.val) (sumD A t.val)).dh = fun _ _ => 0 := by
    funext j q
    rw [later_dh hn, ht]
    unfold later leave
    rw [show 128 * (32 - 0) = 4096 by rfl, Ico_self, sum_empty]
  have r8 := is_outA_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) (fun h => h1 ((hcond0_1 t).mp h)) H ha hd hs
  have r9 := is_outA_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) (fun h => h1 ((hcond0_1 t).mp h)) H ha hd hs
  have r10 := is_outA_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) (fun h => h1 ((hcond0_1 t).mp h)) H ha hd hs
  have r11 := is_outA_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) (fun h => h1 ((hcond0_1 t).mp h)) H ha hd hs
  have rs := is_soutA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) (fun h => h1 ((hcond0_1 t).mp h)) H ha hd hs
  exact Left.of_eq (outsAt0_A m c t h0 h1)
    (r8.congr fun r hr q _ => Args.out_at (by omega) hr)
    (r9.congr fun r hr q _ => step_lane hn hr)
    (r10.congr fun r hr q _ => aR_sumA hn q)
    (r11.congr fun r hr q _ => by rw [dR_sumD, if_neg (by omega)])
    (rs.congr fun j _ q _ => stR_later hn j q)

set_option maxHeartbeats 400000 in
theorem left_B (F : Fed A m c) (t : Fin cfg0.N) (h0 : ¬t.val % 32 = 0) (h1 : ¬t.val % 32 = 31) (hn : t.val < 32)
    (L : Left A (outsAt0 m c (t.val - 1) (Nat.lt_of_le_of_lt (Nat.sub_le _ _) t.isLt)) (t.val - 1)) : Left A (outsAt0 m c t.val t.isLt) t.val := by
  have H := F t (sumA A t.val) (sumD A t.val)
  have e1 : t.val - 1 + 1 = t.val := by omega
  have ha := L.a
  have hd := L.d
  have hs := L.state
  rw [e1] at ha hs
  rw [e1] at hd
  have hd := hd.congr fun _ _ _ _ => if_neg (show ¬t.val - 1 = 31 by omega)
  have hs := hs.congr fun j _ q _ => (later_dh (A := A) (oldA := sumA A t.val) (oldD := sumD A t.val) hn j q).symm
  have r8 := is_outB_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (fun h => h1 ((hcond0_1 t).mp h)) H ha hd hs
  have r9 := is_outB_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (fun h => h1 ((hcond0_1 t).mp h)) H ha hd hs
  have r10 := is_outB_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (fun h => h1 ((hcond0_1 t).mp h)) H ha hd hs
  have r11 := is_outB_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (fun h => h1 ((hcond0_1 t).mp h)) H ha hd hs
  have rs := is_soutB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (fun h => h1 ((hcond0_1 t).mp h)) H ha hd hs
  exact Left.of_eq (outsAt0_B m c t h0 h1)
    (r8.congr fun r hr q _ => Args.out_at (by omega) hr)
    (r9.congr fun r hr q _ => step_lane hn hr)
    (r10.congr fun r hr q _ => aR_sumA hn q)
    (r11.congr fun r hr q _ => by rw [dR_sumD, if_neg (by omega)])
    (rs.congr fun j _ q _ => stR_later hn j q)

set_option maxHeartbeats 400000 in
theorem left_C (F : Fed A m c) (t : Fin cfg0.N) (ht : t.val = 31)
    (L : Left A (outsAt0 m c (t.val - 1) (Nat.lt_of_le_of_lt (Nat.sub_le _ _) t.isLt)) (t.val - 1)) : Left A (outsAt0 m c t.val t.isLt) t.val := by
  have h0 : ¬t.val % 32 = 0 := by omega
  have h1 : t.val % 32 = 31 := by omega
  have hn : t.val < 32 := by omega
  have H := F t (sumA A t.val) (sumD A t.val)
  have e1 : t.val - 1 + 1 = t.val := by omega
  have ha := L.a
  have hd := L.d
  have hs := L.state
  rw [e1] at ha hs
  rw [e1] at hd
  have hd := hd.congr fun _ _ _ _ => if_neg (show ¬t.val - 1 = 31 by omega)
  have hs := hs.congr fun j _ q _ => (later_dh (A := A) (oldA := sumA A t.val) (oldD := sumD A t.val) hn j q).symm
  have r8 := is_outC_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) ((hcond0_1 t).mpr h1) H ha hd hs
  have r9 := is_outC_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) ((hcond0_1 t).mpr h1) H ha hd hs
  have r10 := is_outC_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) ((hcond0_1 t).mpr h1) H ha hd hs
  have r11 := is_outC_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) ((hcond0_1 t).mpr h1) H ha hd hs
  have rs := is_soutC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) ((hcond0_1 t).mpr h1) H ha hd hs
  exact Left.of_eq (outsAt0_C m c t h0 h1)
    (r8.congr fun r hr q _ => Args.out_at (by omega) hr)
    (r9.congr fun r hr q _ => step_lane hn hr)
    (r10.congr fun r hr q _ => aR_sumA hn q)
    (r11.congr fun r hr q _ => by
      rw [if_pos ht]
      exact sum_congr rfl fun k _ => by show Point.dR _ _ = sumD A 32 _; rw [dR_sumD, ht])
    (rs.congr fun j _ q _ => stR_later hn j q)

/-- Every point leaves what the gradient says. -/
theorem left (F : Fed A m c) : ∀ (n : ℕ) (hn : n < cfg0.N), Left A (outsAt0 m c n hn) n
  | 0, hn => left_A F ⟨0, hn⟩ rfl
  | n + 1, hn => by
    have h32 : n + 1 < 32 := hn
    by_cases h : n + 1 = 31
    · exact left_C F ⟨n + 1, hn⟩ h (left F n (Nat.lt_of_succ_lt hn))
    · exact left_B F ⟨n + 1, hn⟩ (show ¬(n + 1) % 32 = 0 by omega) (show ¬(n + 1) % 32 = 31 by omega) h32 (left F n (Nat.lt_of_succ_lt hn))

end

end Scan
-- ==== Proof.Scan.Outs.lean ====
/- The arrays the call leaves. -/
module

public import proofs.«01_k».proof.Proof.Scan.Steps
public import proofs.«01_k».proof.Proof.Gen.KernelIdeal.Value

@[expose] public section

namespace Scan

open Idealize.ShloMosaic
open Idealize.ShloMosaic.ValueIdx Finset
open Idealize.ShloMosaic.Pipeline
open Cert.KernelIdeal Cert.KernelIdeal.Gen
open scoped BigOperators

noncomputable section

variable {m : (ℓ : Loc nD τ sig) → Buf (Elt Ideal) ℓ} {c : Dev nD} {A : Args}

theorem idx8 : ∀ t : Fin cfg0.N, win0_8.index t (0 : Fin 2) = 31 - t.val ∧ win0_8.index t (1 : Fin 2) = 0 :=
  (by decide +kernel : ∀ t : Fin grid0.N, win0_8.index t (0 : Fin 2) = 31 - t.val ∧ win0_8.index t (1 : Fin 2) = 0)

theorem flush8 : ∀ t : Fin cfg0.N, (cfg0.win 8).flush t = true :=
  (by decide +kernel : ∀ t : Fin grid0.N, win0_8.flush t = true)

theorem point_lt (T : ℕ) : 31 - T / 128 < cfg0.N := by
  show 31 - T / 128 < 32
  omega

theorem out8 (F : Fed A m c) : Is (M := 4096) (N := 3072) ((dats m 0 c).arrAt 8 cfg0.N) A.outG := by
  intro T q
  have hT := T.isLt
  obtain ⟨e0, e1⟩ := idx8 ⟨31 - T.val / 128, point_lt _⟩
  have hb := congrFun (Value.blocks8 m c ⟨31 - T.val / 128, point_lt _⟩ (flush8 _)) (ix2 (⟨T.val % 128, Nat.mod_lt _ (by decide)⟩ : Fin 128) q)
  rw [Value.flushed8] at hb
  have hl := (left F (31 - T.val / 128) (point_lt _)).out ⟨T.val % 128, Nat.mod_lt _ (by decide)⟩ q
  have he : (ix2 T q : S4096x3072.Idx) = ((cfg0.win 8).blk ⟨31 - T.val / 128, point_lt _⟩).view.emb (ix2 (⟨T.val % 128, Nat.mod_lt _ (by decide)⟩ : Fin 128) q) := by
    refine funext fun a => Fin.ext (Eq.symm ?_)
    match a with
    | ⟨0, _⟩ =>
      refine (Window.rect_emb_val win0_8 ⟨31 - T.val / 128, point_lt _⟩ (ix2 (⟨T.val % 128, Nat.mod_lt _ (by decide)⟩ : Fin 128) q) 0).trans ?_
      rw [e0]; show (31 - (31 - T.val / 128)) * 128 + T.val % 128 = T.val; omega
    | ⟨1, _⟩ => exact Window.rect_emb_val_of_index_zero win0_8 _ 1 e1 _
  refine ((congrArg _ he).trans (hb.trans hl)).trans (congrArg _ ?_)
  show A.outG (128 * (31 - (31 - T.val / 128)) + T.val % 128) q.val = A.outG T.val q.val
  rw [show 128 * (31 - (31 - T.val / 128)) + T.val % 128 = T.val by omega]

end

end Scan
-- ==== Proof.Scan.Outs2.lean ====
/- The arrays the call leaves, the other three. -/
module

public import proofs.«01_k».proof.Proof.Scan.Outs

@[expose] public section

namespace Scan

open Idealize.ShloMosaic
open Idealize.ShloMosaic.ValueIdx Finset
open Idealize.ShloMosaic.Pipeline
open Cert.KernelIdeal Cert.KernelIdeal.Gen
open scoped BigOperators

noncomputable section

variable {m : (ℓ : Loc nD τ sig) → Buf (Elt Ideal) ℓ} {c : Dev nD} {A : Args}

theorem idx9 : ∀ t : Fin cfg0.N, win0_9.index t (0 : Fin 2) = 31 - t.val ∧ win0_9.index t (1 : Fin 2) = 0 :=
  (by decide +kernel : ∀ t : Fin grid0.N, win0_9.index t (0 : Fin 2) = 31 - t.val ∧ win0_9.index t (1 : Fin 2) = 0)

theorem flush9 : ∀ t : Fin cfg0.N, (cfg0.win 9).flush t = true :=
  (by decide +kernel : ∀ t : Fin grid0.N, win0_9.flush t = true)

theorem out9 (F : Fed A m c) : Is (M := 4096) (N := 128) ((dats m 0 c).arrAt 9 cfg0.N) fun t h => if h < 32 then A.stepG t h else 0 := by
  intro T q
  have hT := T.isLt
  obtain ⟨e0, e1⟩ := idx9 ⟨31 - T.val / 128, point_lt _⟩
  have hb := congrFun (Value.blocks9 m c ⟨31 - T.val / 128, point_lt _⟩ (flush9 _)) (ix2 (⟨T.val % 128, Nat.mod_lt _ (by decide)⟩ : Fin 128) q)
  rw [Value.flushed9] at hb
  have hl := (left F (31 - T.val / 128) (point_lt _)).step ⟨T.val % 128, Nat.mod_lt _ (by decide)⟩ q
  have he : (ix2 T q : S4096x128.Idx) = ((cfg0.win 9).blk ⟨31 - T.val / 128, point_lt _⟩).view.emb (ix2 (⟨T.val % 128, Nat.mod_lt _ (by decide)⟩ : Fin 128) q) := by
    refine funext fun a => Fin.ext (Eq.symm ?_)
    match a with
    | ⟨0, _⟩ =>
      refine (Window.rect_emb_val win0_9 ⟨31 - T.val / 128, point_lt _⟩ (ix2 (⟨T.val % 128, Nat.mod_lt _ (by decide)⟩ : Fin 128) q) 0).trans ?_
      rw [e0]; show (31 - (31 - T.val / 128)) * 128 + T.val % 128 = T.val; omega
    | ⟨1, _⟩ => exact Window.rect_emb_val_of_index_zero win0_9 _ 1 e1 _
  refine ((congrArg _ he).trans (hb.trans hl)).trans (congrArg _ ?_)
  show (if q.val < 32 then A.stepG (128 * (31 - (31 - T.val / 128)) + T.val % 128) q.val else 0) = if q.val < 32 then A.stepG T.val q.val else 0
  rw [show 128 * (31 - (31 - T.val / 128)) + T.val % 128 = T.val by omega]

theorem last_lt {n : ℕ} (hn : n = 31) : n < cfg0.N := by
  show n < 32
  omega

theorem idx10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)

theorem flush10 : ∀ t : Fin cfg0.N, (cfg0.win 10).flush t = true ↔ t.val = 31 :=
  (by decide +kernel : ∀ t : Fin grid0.N, win0_10.flush t = true ↔ t.val = 31)

theorem out10 (F : Fed A m c) : Is (M := 1) (N := 2048) ((dats m 0 c).arrAt 10 cfg0.N) (fun _ q => sumA A 32 q) := by
  intro r q
  obtain ⟨n, hn⟩ : ∃ n, n = 31 := ⟨_, rfl⟩
  obtain ⟨e0, e1⟩ := idx10 ⟨n, last_lt hn⟩
  have hb := congrFun ((dats m 0 c).read_blk_arrAt_eq_flushed 10 (fun t t' h h' hne => absurd (Fin.ext (((flush10 t).mp h).trans ((flush10 t').mp h').symm)) hne) cfg0.N
    ⟨n, last_lt hn⟩ (last_lt hn) ((flush10 _).mpr hn)) (ix2 r q)
  rw [Value.flushed10] at hb
  have hl := (left F n (last_lt hn)).a r q
  have he : (ix2 r q : S1x2048.Idx) = ((cfg0.win 10).blk ⟨n, last_lt hn⟩).view.emb (ix2 r q) := by
    refine funext fun a => Fin.ext (Eq.symm ?_)
    match a with
    | ⟨0, _⟩ => exact Window.rect_emb_val_of_index_zero win0_10 _ 0 e0 _
    | ⟨1, _⟩ => exact Window.rect_emb_val_of_index_zero win0_10 _ 1 e1 _
  refine ((congrArg _ he).trans (hb.trans hl)).trans (congrArg _ ?_)
  rw [hn]

theorem idx11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)

theorem flush11 : ∀ t : Fin cfg0.N, (cfg0.win 11).flush t = true ↔ t.val = 31 :=
  (by decide +kernel : ∀ t : Fin grid0.N, win0_11.flush t = true ↔ t.val = 31)

theorem out11 (F : Fed A m c) : Is (M := 1) (N := 2048) ((dats m 0 c).arrAt 11 cfg0.N) (Body.headSum (fun _ q => sumD A 32 q)) := by
  intro r q
  obtain ⟨n, hn⟩ : ∃ n, n = 31 := ⟨_, rfl⟩
  obtain ⟨e0, e1⟩ := idx11 ⟨n, last_lt hn⟩
  have hb := congrFun ((dats m 0 c).read_blk_arrAt_eq_flushed 11 (fun t t' h h' hne => absurd (Fin.ext (((flush11 t).mp h).trans ((flush11 t').mp h').symm)) hne) cfg0.N
    ⟨n, last_lt hn⟩ (last_lt hn) ((flush11 _).mpr hn)) (ix2 r q)
  rw [Value.flushed11] at hb
  have hl := (left F n (last_lt hn)).d r q
  have he : (ix2 r q : S1x2048.Idx) = ((cfg0.win 11).blk ⟨n, last_lt hn⟩).view.emb (ix2 r q) := by
    refine funext fun a => Fin.ext (Eq.symm ?_)
    match a with
    | ⟨0, _⟩ => exact Window.rect_emb_val_of_index_zero win0_11 _ 0 e0 _
    | ⟨1, _⟩ => exact Window.rect_emb_val_of_index_zero win0_11 _ 1 e1 _
  refine ((congrArg _ he).trans (hb.trans hl)).trans (congrArg _ ?_)
  exact if_pos hn

/-- Chunks from the last to the first are all the tokens. -/
theorem sum_chunks (f : ℕ → ℝ) : ∑ i ∈ range 32, ∑ r ∈ range 128, f (128 * (31 - i) + r) = ∑ t ∈ range 4096, f t := by
  have e : ∀ n, ∑ i ∈ range n, ∑ r ∈ range 128, f (128 * i + r) = ∑ t ∈ range (128 * n), f t := by
    intro n
    induction n with
    | zero => simp
    | succ n ih => rw [sum_range_succ, ih, Nat.mul_succ, sum_range_add]
  rw [← e 32, ← sum_range_reflect (fun i => ∑ r ∈ range 128, f (128 * i + r)) 32]

theorem sumA_all (q : ℕ) : sumA A 32 q = A.aG (q / 64) :=
  sum_chunks fun t => A.tl (q / 64) t * A.dt t (q / 64)

theorem sumD_all (r q : ℕ) : Body.headSum (fun _ q => sumD A 32 q) r q = A.dG (q / 64) := by
  unfold Body.headSum Args.dG
  rw [sum_comm]
  exact sum_congr rfl fun p _ => sum_chunks fun t => A.dy t (64 * (q / 64) + p) * A.x t (64 * (q / 64) + p)

end

end Scan
-- ==== Proof.Scan.HostTerms.lean ====
/- What the host hands the backward call, as values of the arguments: each array is written as the term the host's operations compose. -/
module

public import proofs.«01_k».proof.Proof.Gen.KernelIdeal.Frame
public import Idealize.ShloMosaic.Lib.StableHlo.ReadAt

@[expose] public section

namespace Scan.Host

open Idealize.ShloMosaic Idealize.ShloMosaic.TcCoe Idealize.ShloMosaic.ValueIdx Idealize.SL.Sem
open Cert.KernelIdeal Cert.KernelIdeal.Gen

noncomputable section

/-- `dt · a`. -/
def adt (dt : FVec Ideal S4096x32 .f32) (a : FVec Ideal S32 .f32) : FVec Ideal S4096x32 .f32 :=
  mulf dt (broadcastInDim S4096x32 ![0, 1] bcast_S1x32_S4096x32_0_1 (broadcastInDim S1x32 ![1] bcast_S32_S1x32_1 a))

/-- The zero a running sum starts from. -/
def zero : FVec Ideal S_ .f32 := broadcastInDim S_ ![] bcast_S_S_ (constant S_ .f32 0x00000000#32)

/-- The running sums within each chunk. -/
def acs (dt : FVec Ideal S4096x32 .f32) (a : FVec Ideal S32 .f32) : FVec Ideal S4096x32 .f32 :=
  shapeCast S4096x32
    (Host.reduceWindowAdd (F := Ideal) ![1, 128, 1] ![1, 1, 1] ![0, 127, 0] ![0, 0, 0] (shapeCast S32x128x32 (adt dt a) shapeCasts_S4096x32_S32x128x32) zero
      reduceWindows_S32x128x32_S32x128x32_w1s1p0_0_w128s1p127_0_w1s1p0_0 h_S_) shapeCasts_S32x128x32_S4096x32

/-- A head's entry on each of its 64 lanes. -/
def rep (v : FVec Ideal S4096x32 .f32) : FVec Ideal S4096x2048 .f32 :=
  shapeCast S4096x2048 (broadcastInDim S4096x32x64 ![0, 1] bcast_S4096x32_S4096x32x64_0_1 v) shapeCasts_S4096x32x64_S4096x2048

/-- A head's entry on each of its 64 lanes, as one row. -/
def repRow (v : FVec Ideal S32 .f32) : FVec Ideal S1x2048 .f32 :=
  broadcastInDim S1x2048 ![1] bcast_S2048_S1x2048_1
    (shapeCast S2048 (broadcastInDim S32x64 ![0] bcast_S32_S32x64_0 v) shapeCasts_S32x64_S2048)

/-- The running sums over the whole sequence. -/
def tot (dt : FVec Ideal S4096x32 .f32) (a : FVec Ideal S32 .f32) : FVec Ideal S4096x32 .f32 :=
  Host.reduceWindowAdd (F := Ideal) ![4096, 1] ![1, 1] ![4095, 0] ![0, 0] (adt dt a) zero reduceWindows_S4096x32_S4096x32_w4096s1p4095_0_w1s1p0_0 h_S_

/-- The running sums at each chunk's start. -/
def start (dt : FVec Ideal S4096x32 .f32) (a : FVec Ideal S32 .f32) : FVec Ideal S32x32 .f32 :=
  pad S32x32 ![1, 0] ![0, 0] ![0, 0] (Host.slice S31x32 ![127, 0] ![128, 1] (tot dt a) slicesBy_S4096x32_S31x32_127s128_0s1)
    (sitofp (F := Ideal) .f32 (constantI S_ 32 0#32)) pads_S31x32_S32x32_100_000 h_S_

/-- Which tokens come before which chunk. -/
def before : IVec S32x4096x32 1 :=
  cmpi .slt (iotaInDim S32x4096x32 32 1)
    (muli (iotaInDim S32x4096x32 32 0) (broadcastInDim S32x4096x32 ![] bcast_S_S32x4096x32 (constantI S_ 32 128#32)))

/-- The decay from each token to each chunk's start, nothing for the tokens from there on. -/
def gone (dt : FVec Ideal S4096x32 .f32) (a : FVec Ideal S32 .f32) : FVec Ideal S32x4096x32 .f32 :=
  Host.exp (select before
    (subf
      (broadcastInDim S32x4096x32 ![0, 1, 2] bcast_S32x1x32_S32x4096x32_0_1_2 (broadcastInDim S32x1x32 ![0, 2] bcast_S32x32_S32x1x32_0_2 (start dt a)))
      (broadcastInDim S32x4096x32 ![0, 1, 2] bcast_S1x4096x32_S32x4096x32_0_1_2 (broadcastInDim S1x4096x32 ![1, 2] bcast_S4096x32_S1x4096x32_1_2 (tot dt a))))
    (broadcastInDim S32x4096x32 ![] bcast_S_S32x4096x32 (constant (F := Ideal) S_ .f32 0xFF800000#32)))

/-- The scaled inputs. -/
def scaled (xbc : FVec Ideal S4096x3072 .f32) (dt : FVec Ideal S4096x32 .f32) : FVec Ideal S4096x2048 .f32 :=
  mulf (extractStridedSlice S4096x2048 ![0, 0] xbc slices_S4096x3072_S4096x2048_0_0) (rep dt)

/-- The scaled inputs, decayed to each chunk's start. -/
def sent (xbc : FVec Ideal S4096x3072 .f32) (dt : FVec Ideal S4096x32 .f32) (a : FVec Ideal S32 .f32) : FVec Ideal S32x4096x2048 .f32 :=
  mulf (shapeCast S32x4096x2048 (broadcastInDim S32x4096x32x64 ![0, 1, 2] bcast_S32x4096x32_S32x4096x32x64_0_1_2 (gone dt a)) shapeCasts_S32x4096x32x64_S32x4096x2048)
    (broadcastInDim S32x4096x2048 ![0, 1, 2] bcast_S1x4096x2048_S32x4096x2048_0_1_2 (broadcastInDim S1x4096x2048 ![1, 2] bcast_S4096x2048_S1x4096x2048_1_2 (scaled xbc dt)))

/-- The states before the lanes are put in order: group, chunk, lane of the group, state. -/
def gathered (xbc : FVec Ideal S4096x3072 .f32) (dt : FVec Ideal S4096x32 .f32) (a : FVec Ideal S32 .f32) : FVec Ideal S4x32x512x128 .f32 :=
  Host.dotGeneral dot_S32x4096x4x512_S4096x4x128_S4x32x512x128_1_0_03_2_2_1 none
    (shapeCast S32x4096x4x512 (sent xbc dt a) shapeCasts_S32x4096x2048_S32x4096x4x512)
    (shapeCast S4096x4x128 (extractStridedSlice S4096x512 ![0, 2048] xbc slices_S4096x3072_S4096x512_0_2048) shapeCasts_S4096x512_S4096x4x128)

/-- The states at each chunk's start. -/
def hin (xbc : FVec Ideal S4096x3072 .f32) (dt : FVec Ideal S4096x32 .f32) (a : FVec Ideal S32 .f32) : FVec Ideal S32x128x2048 .f32 :=
  shapeCast S32x128x2048 (transpose S32x128x4x512 [1, 3, 0, 2] (gathered xbc dt a) transposes_S4x32x512x128_S32x128x4x512_1_3_0_2) shapeCasts_S32x128x4x512_S32x128x2048

variable (m : (ℓ : Loc nD τ sig) → Buf (Elt Ideal) ℓ) (c : Dev nD)

theorem v37 : (V m c main_v37 : FVec Ideal S4096x2048 .f32) = rep (m ((c : Thread nD τ).loc main_arg1)) := by
  unfold V
  after_reads_simp
  rfl

theorem v39 : (V m c main_v39 : FVec Ideal S4096x2048 .f32) = rep (acs (m ((c : Thread nD τ).loc main_arg1)) (m ((c : Thread nD τ).loc main_arg2))) := by
  unfold V
  after_reads_simp
  simp -implicitDefEqProofs only [StableHlo.TRef.toBuf, StableHlo.TRef.ofBuf, cast_cast, cast_eq]
  rfl

theorem v40 : (V m c main_v40 : FVec Ideal S32x4096 .f32) = transpose S32x4096 [1, 0] (acs (m ((c : Thread nD τ).loc main_arg1)) (m ((c : Thread nD τ).loc main_arg2))) transposes_S4096x32_S32x4096_1_0 := by
  unfold V
  after_reads_simp
  simp -implicitDefEqProofs only [StableHlo.TRef.toBuf, StableHlo.TRef.ofBuf, cast_cast, cast_eq]
  rfl

theorem v43 : (V m c main_v43 : FVec Ideal S1x2048 .f32) = repRow (m ((c : Thread nD τ).loc main_arg3)) := by
  unfold V
  after_reads_simp
  rfl

theorem v46 : (V m c main_v46 : FVec Ideal S1x2048 .f32) = repRow (m ((c : Thread nD τ).loc main_arg2)) := by
  unfold V
  after_reads_simp
  rfl

theorem v35 : (V m c main_v35 : FVec Ideal S32x128x2048 .f32) = hin (m ((c : Thread nD τ).loc main_arg0)) (m ((c : Thread nD τ).loc main_arg1)) (m ((c : Thread nD τ).loc main_arg2)) := by
  unfold V
  after_reads_simp
  simp -implicitDefEqProofs only [StableHlo.TRef.toBuf, StableHlo.TRef.ofBuf, cast_cast, cast_eq]
  rfl

end

end Scan.Host
-- ==== Proof.Scan.Arrays.lean ====
/- Arrays of one, three or four axes that hold reals, and the running sums the host takes of them. -/
module

public import proofs.«01_k».proof.Proof.Scan.Reads

@[expose] public section

namespace Scan

open Idealize.ShloMosaic Idealize.ShloMosaic.ValueIdx Finset
open scoped BigOperators

noncomputable section

/-- The vector `v` holds the reals `f`. -/
def Is1 {M : ℕ} (v : (⟨1, ![M]⟩ : Shape).Idx → EReal) (f : ℕ → ℝ) : Prop :=
  ∀ r : Fin M, v (ix1 r) = ((f r.val : ℝ) : EReal)

/-- The array `v` of three axes holds the reals `f`. -/
def Is3 {A B C : ℕ} (v : (⟨3, ![A, B, C]⟩ : Shape).Idx → EReal) (f : ℕ → ℕ → ℕ → ℝ) : Prop :=
  ∀ (a : Fin A) (b : Fin B) (c : Fin C), v (ix3 a b c) = ((f a.val b.val c.val : ℝ) : EReal)

/-- The array `v` of four axes holds the reals `f`. -/
def Is4 {A B C D : ℕ} (v : (⟨4, ![A, B, C, D]⟩ : Shape).Idx → EReal) (f : ℕ → ℕ → ℕ → ℕ → ℝ) : Prop :=
  ∀ (a : Fin A) (b : Fin B) (c : Fin C) (d : Fin D), v (ix4 a b c d) = ((f a.val b.val c.val d.val : ℝ) : EReal)

theorem Is1.at {M : ℕ} {v : (⟨1, ![M]⟩ : Shape).Idx → EReal} {f : ℕ → ℝ} (hv : Is1 v f) (j : (⟨1, ![M]⟩ : Shape).Idx) :
    v j = ((f (j 0).val : ℝ) : EReal) := by
  conv_lhs => rw [eq_ix1 j]
  exact hv (j 0)

theorem Is3.at {A B C : ℕ} {v : (⟨3, ![A, B, C]⟩ : Shape).Idx → EReal} {f : ℕ → ℕ → ℕ → ℝ} (hv : Is3 v f)
    (j : (⟨3, ![A, B, C]⟩ : Shape).Idx) : v j = ((f (j 0).val (j 1).val (j 2).val : ℝ) : EReal) := by
  conv_lhs => rw [eq_ix3 j]
  exact hv (j 0) (j 1) (j 2)

theorem Is4.at {A B C D : ℕ} {v : (⟨4, ![A, B, C, D]⟩ : Shape).Idx → EReal} {f : ℕ → ℕ → ℕ → ℕ → ℝ} (hv : Is4 v f)
    (j : (⟨4, ![A, B, C, D]⟩ : Shape).Idx) : v j = ((f (j 0).val (j 1).val (j 2).val (j 3).val : ℝ) : EReal) := by
  conv_lhs => rw [eq_ix4 j]
  exact hv (j 0) (j 1) (j 2) (j 3)

/-- A sum taken one term after the other. -/
theorem foldl_sum {n : ℕ} (g : Fin n → EReal) (v : EReal) : (List.finRange n).foldl (fun r k => r + g k) v = v + ∑ k, g k := by
  rw [Fin.sum_univ_def]
  generalize List.finRange n = l
  induction l generalizing v with
  | nil => simp
  | cons k l ih => rw [List.foldl_cons, ih, List.map_cons, List.sum_cons, add_assoc]

/-- A window sum from zero is a sum over the window's positions. -/
theorem window_sum {s t u : Shape} {φ : FTy} (window strides lo hi : Fin s.rank → ℕ) (x : FVec Ideal s φ) (init : FVec Ideal u φ)
    (h : s.ReduceWindows window strides lo hi t) (hu : 0 < u.numel) (h0 : init (Shape.Idx.first hu) = 0) (j : t.Idx) :
    Host.reduceWindowAdd (F := Ideal) window strides lo hi x init h hu j
      = ∑ w : (⟨s.rank, window⟩ : Shape).Idx,
          if hin : ∀ a, lo a ≤ (j (a.cast h.1.symm)).val * strides a + (w a).val ∧ (j (a.cast h.1.symm)).val * strides a + (w a).val - lo a < s.size a
          then x (fun a => ⟨(j (a.cast h.1.symm)).val * strides a + (w a).val - lo a, (hin a).2⟩) else 0 := by
  show Ideal.hostReduceWindowAdd window strides lo hi h x (init (Shape.Idx.first hu)) j = _
  rw [h0]
  unfold Ideal.hostReduceWindowAdd Host.reduceWindow
  let g : (⟨s.rank, window⟩ : Shape).Idx → EReal := fun w =>
    if hin : ∀ a, lo a ≤ (j (a.cast h.1.symm)).val * strides a + (w a).val ∧ (j (a.cast h.1.symm)).val * strides a + (w a).val - lo a < s.size a
    then x (fun a => ⟨(j (a.cast h.1.symm)).val * strides a + (w a).val - lo a, (hin a).2⟩) else 0
  dsimp only
  refine Eq.trans ?_ ((foldl_sum (fun n => g ((⟨s.rank, window⟩ : Shape).rowMajor.symm n)) 0).trans ((zero_add _).trans (Equiv.sum_comp (⟨s.rank, window⟩ : Shape).rowMajor.symm g)))
  congr 1
  funext r k
  congr 1
  exact dite_congr rfl (fun _ => rfl) (fun _ => rfl)

/-- The terms up to `t`, counted through a window that ends there. -/
theorem sum_low {N M t : ℕ} (hN : M + 1 = N) (ht : t < N) (f : ℕ → ℝ) :
    ∑ k : Fin N, (if M ≤ t + k.val then ((f (t + k.val - M) : ℝ) : EReal) else 0) = ((∑ s ∈ range (t + 1), f s : ℝ) : EReal) := by
  have e : ∀ k : Fin N, (if M ≤ t + k.val then ((f (t + k.val - M) : ℝ) : EReal) else 0) = (((if M ≤ t + k.val then f (t + k.val - M) else 0) : ℝ) : EReal) := by
    intro k; split <;> simp
  rw [sum_congr rfl fun k _ => e k, sum_coe N fun k => if M ≤ t + k then f (t + k - M) else 0,
    show N = (M - t) + (t + 1) by omega, sum_range_add]
  congr 1
  rw [sum_eq_zero fun k hk => if_neg (by have := mem_range.mp hk; omega), zero_add]
  exact sum_congr rfl fun k hk => by rw [if_pos (by omega), show t + (M - t + k) - M = k by omega]

/-- The terms from `t` on, counted through a window that begins there. -/
theorem sum_high {N t : ℕ} (ht : t < N) (f : ℕ → ℝ) :
    ∑ k : Fin N, (if t + k.val < N then ((f (t + k.val) : ℝ) : EReal) else 0) = ((∑ s ∈ Ico t N, f s : ℝ) : EReal) := by
  have e : ∀ k : Fin N, (if t + k.val < N then ((f (t + k.val) : ℝ) : EReal) else 0) = (((if t + k.val < N then f (t + k.val) else 0) : ℝ) : EReal) := by
    intro k; split <;> simp
  rw [sum_congr rfl fun k _ => e k, sum_coe N fun k => if t + k < N then f (t + k) else 0, sum_Ico_eq_sum_range]
  congr 1
  have hs := sum_range_add (fun k => if t + k < N then f (t + k) else 0) (N - t) t
  rw [show N - t + t = N by omega] at hs
  rw [hs, sum_congr rfl fun k hk => if_pos (by have := mem_range.mp hk; omega),
    sum_eq_zero (s := range t) fun k hk => if_neg (by omega), add_zero]

/-- A window of `N` rows and one column has `N` positions. -/
theorem sum_col {N : ℕ} (g : (⟨2, ![N, 1]⟩ : Shape).Idx → EReal) : ∑ w, g w = ∑ k : Fin N, g (ix2 k 0) :=
  (Fintype.sum_bijective (fun k : Fin N => (ix2 k 0 : (⟨2, ![N, 1]⟩ : Shape).Idx))
    ⟨fun a b e => congrFun e 0, fun w => ⟨w 0, by
      conv_rhs => rw [eq_ix2 w, Fin.fin_one_eq_zero (w 1)]
      rfl⟩⟩ _ _ fun _ => rfl).symm

/-- A window along the first of three axes. -/
theorem sum_first {N : ℕ} (g : (⟨3, ![N, 1, 1]⟩ : Shape).Idx → EReal) : ∑ w, g w = ∑ k : Fin N, g (ix3 k 0 0) :=
  (Fintype.sum_bijective (fun k : Fin N => (ix3 k 0 0 : (⟨3, ![N, 1, 1]⟩ : Shape).Idx))
    ⟨fun a b e => congrFun e 0, fun w => ⟨w 0, by
      conv_rhs => rw [eq_ix3 w, Fin.fin_one_eq_zero (w 1), Fin.fin_one_eq_zero (w 2)]
      rfl⟩⟩ _ _ fun _ => rfl).symm

/-- A window along the middle of three axes. -/
theorem sum_middle {N : ℕ} (g : (⟨3, ![1, N, 1]⟩ : Shape).Idx → EReal) : ∑ w, g w = ∑ k : Fin N, g (ix3 0 k 0) :=
  (Fintype.sum_bijective (fun k : Fin N => (ix3 0 k 0 : (⟨3, ![1, N, 1]⟩ : Shape).Idx))
    ⟨fun a b e => congrFun e 1, fun w => ⟨w 1, by
      conv_rhs => rw [eq_ix3 w, Fin.fin_one_eq_zero (w 0), Fin.fin_one_eq_zero (w 2)]
      rfl⟩⟩ _ _ fun _ => rfl).symm

variable {u : Shape} {φ : FTy} {N M : ℕ}

/-- Running sums down the rows. -/
theorem Is.cumsum {C : ℕ} (hN : M + 1 = N) {x : FVec Ideal ⟨2, ![N, C]⟩ φ} {f : ℕ → ℕ → ℝ} (hx : Is x f) {init : FVec Ideal u φ}
    (h : (⟨2, ![N, C]⟩ : Shape).ReduceWindows ![N, 1] ![1, 1] ![M, 0] ![0, 0] ⟨2, ![N, C]⟩) (hu : 0 < u.numel) (h0 : init (Shape.Idx.first hu) = 0) :
    Is (Host.reduceWindowAdd (F := Ideal) (s := ⟨2, ![N, C]⟩) (t := ⟨2, ![N, C]⟩) ![N, 1] ![1, 1] ![M, 0] ![0, 0] x init h hu) fun t c => ∑ s ∈ range (t + 1), f s c := by
  intro t c
  rw [window_sum _ _ _ _ _ _ h hu h0]
  refine ((sum_col (N := N) _).trans (sum_congr rfl fun k _ => ?_)).trans (sum_low hN t.isLt fun s => f s c.val)
  have hk := k.isLt
  have ht := t.isLt
  by_cases hm : M ≤ t.val + k.val
  · rw [if_pos hm]
    refine (dif_pos fun a => match a with
      | ⟨0, _⟩ => ⟨show M ≤ t.val * 1 + k.val by omega, show t.val * 1 + k.val - M < N by omega⟩
      | ⟨1, _⟩ => ⟨Nat.zero_le _, show c.val * 1 + 0 - 0 < C by have := c.isLt; omega⟩).trans ?_
    refine (hx.at _).trans ?_
    show ((f (t.val * 1 + k.val - M) (c.val * 1 + 0 - 0) : ℝ) : EReal) = _
    rw [show t.val * 1 + k.val - M = t.val + k.val - M by omega, show c.val * 1 + 0 - 0 = c.val by omega]
  · rw [if_neg hm]
    exact dif_neg fun hin => hm (by have : M ≤ t.val * 1 + k.val := (hin 0).1; omega)

/-- Running sums along the first of three axes. -/
theorem Is3.cumsum {K J : ℕ} (hN : M + 1 = N) {x : FVec Ideal ⟨3, ![N, K, J]⟩ φ} {f : ℕ → ℕ → ℕ → ℝ} (hx : Is3 x f) {init : FVec Ideal u φ}
    (h : (⟨3, ![N, K, J]⟩ : Shape).ReduceWindows ![N, 1, 1] ![1, 1, 1] ![M, 0, 0] ![0, 0, 0] ⟨3, ![N, K, J]⟩) (hu : 0 < u.numel) (h0 : init (Shape.Idx.first hu) = 0) :
    Is3 (Host.reduceWindowAdd (F := Ideal) (s := ⟨3, ![N, K, J]⟩) (t := ⟨3, ![N, K, J]⟩) ![N, 1, 1] ![1, 1, 1] ![M, 0, 0] ![0, 0, 0] x init h hu)
      fun t g j => ∑ s ∈ range (t + 1), f s g j := by
  intro t g j
  rw [window_sum _ _ _ _ _ _ h hu h0]
  refine ((sum_first (N := N) _).trans (sum_congr rfl fun k _ => ?_)).trans (sum_low hN t.isLt fun s => f s g.val j.val)
  have hk := k.isLt
  have ht := t.isLt
  by_cases hm : M ≤ t.val + k.val
  · rw [if_pos hm]
    refine (dif_pos fun a => match a with
      | ⟨0, _⟩ => ⟨show M ≤ t.val * 1 + k.val by omega, show t.val * 1 + k.val - M < N by omega⟩
      | ⟨1, _⟩ => ⟨Nat.zero_le _, show g.val * 1 + 0 - 0 < K by have := g.isLt; omega⟩
      | ⟨2, _⟩ => ⟨Nat.zero_le _, show j.val * 1 + 0 - 0 < J by have := j.isLt; omega⟩).trans ?_
    refine (hx.at _).trans ?_
    show ((f (t.val * 1 + k.val - M) (g.val * 1 + 0 - 0) (j.val * 1 + 0 - 0) : ℝ) : EReal) = _
    rw [show t.val * 1 + k.val - M = t.val + k.val - M by omega, show g.val * 1 + 0 - 0 = g.val by omega, show j.val * 1 + 0 - 0 = j.val by omega]
  · rw [if_neg hm]
    exact dif_neg fun hin => hm (by have : M ≤ t.val * 1 + k.val := (hin 0).1; omega)

/-- Running sums along the first of three axes, from the end. -/
theorem Is3.cumsumBack {K J : ℕ} (hN : M + 1 = N) {x : FVec Ideal ⟨3, ![N, K, J]⟩ φ} {f : ℕ → ℕ → ℕ → ℝ} (hx : Is3 x f) {init : FVec Ideal u φ}
    (h : (⟨3, ![N, K, J]⟩ : Shape).ReduceWindows ![N, 1, 1] ![1, 1, 1] ![0, 0, 0] ![M, 0, 0] ⟨3, ![N, K, J]⟩) (hu : 0 < u.numel) (h0 : init (Shape.Idx.first hu) = 0) :
    Is3 (Host.reduceWindowAdd (F := Ideal) (s := ⟨3, ![N, K, J]⟩) (t := ⟨3, ![N, K, J]⟩) ![N, 1, 1] ![1, 1, 1] ![0, 0, 0] ![M, 0, 0] x init h hu)
      fun t g j => ∑ s ∈ Ico t N, f s g j := by
  intro t g j
  rw [window_sum _ _ _ _ _ _ h hu h0]
  refine ((sum_first (N := N) _).trans (sum_congr rfl fun k _ => ?_)).trans (sum_high t.isLt fun s => f s g.val j.val)
  by_cases hm : t.val + k.val < N
  · rw [if_pos hm]
    refine (dif_pos fun a => match a with
      | ⟨0, _⟩ => ⟨Nat.zero_le _, show t.val * 1 + k.val - 0 < N by omega⟩
      | ⟨1, _⟩ => ⟨Nat.zero_le _, show g.val * 1 + 0 - 0 < K by have := g.isLt; omega⟩
      | ⟨2, _⟩ => ⟨Nat.zero_le _, show j.val * 1 + 0 - 0 < J by have := j.isLt; omega⟩).trans ?_
    refine (hx.at _).trans ?_
    show ((f (t.val * 1 + k.val - 0) (g.val * 1 + 0 - 0) (j.val * 1 + 0 - 0) : ℝ) : EReal) = _
    rw [show t.val * 1 + k.val - 0 = t.val + k.val by omega, show g.val * 1 + 0 - 0 = g.val by omega, show j.val * 1 + 0 - 0 = j.val by omega]
  · rw [if_neg hm]
    exact dif_neg fun hin => hm (by have : t.val * 1 + k.val - 0 < N := (hin 0).2; omega)

/-- Running sums along the middle of three axes. -/
theorem Is3.cumsumMiddle {K J : ℕ} (hN : M + 1 = N) {x : FVec Ideal ⟨3, ![K, N, J]⟩ φ} {f : ℕ → ℕ → ℕ → ℝ} (hx : Is3 x f) {init : FVec Ideal u φ}
    (h : (⟨3, ![K, N, J]⟩ : Shape).ReduceWindows ![1, N, 1] ![1, 1, 1] ![0, M, 0] ![0, 0, 0] ⟨3, ![K, N, J]⟩) (hu : 0 < u.numel) (h0 : init (Shape.Idx.first hu) = 0) :
    Is3 (Host.reduceWindowAdd (F := Ideal) (s := ⟨3, ![K, N, J]⟩) (t := ⟨3, ![K, N, J]⟩) ![1, N, 1] ![1, 1, 1] ![0, M, 0] ![0, 0, 0] x init h hu)
      fun g t j => ∑ s ∈ range (t + 1), f g s j := by
  intro g t j
  rw [window_sum _ _ _ _ _ _ h hu h0]
  refine ((sum_middle (N := N) _).trans (sum_congr rfl fun k _ => ?_)).trans (sum_low hN t.isLt fun s => f g.val s j.val)
  have hk := k.isLt
  have ht := t.isLt
  by_cases hm : M ≤ t.val + k.val
  · rw [if_pos hm]
    refine (dif_pos fun a => match a with
      | ⟨0, _⟩ => ⟨Nat.zero_le _, show g.val * 1 + 0 - 0 < K by have := g.isLt; omega⟩
      | ⟨1, _⟩ => ⟨show M ≤ t.val * 1 + k.val by omega, show t.val * 1 + k.val - M < N by omega⟩
      | ⟨2, _⟩ => ⟨Nat.zero_le _, show j.val * 1 + 0 - 0 < J by have := j.isLt; omega⟩).trans ?_
    refine (hx.at _).trans ?_
    show ((f (g.val * 1 + 0 - 0) (t.val * 1 + k.val - M) (j.val * 1 + 0 - 0) : ℝ) : EReal) = _
    rw [show t.val * 1 + k.val - M = t.val + k.val - M by omega, show g.val * 1 + 0 - 0 = g.val by omega, show j.val * 1 + 0 - 0 = j.val by omega]
  · rw [if_neg hm]
    exact dif_neg fun hin => hm (by have : M ≤ t.val * 1 + k.val := (hin 1).1; omega)

end

end Scan
-- ==== Proof.Scan.Given.lean ====
/- The five argument arrays as arrays of reals. -/
module

public import proofs.«01_k».proof.Proof.Scan.Arrays
public import proofs.«01_k».proof.Proof.Scan.Model

@[expose] public section

namespace Scan

open Idealize.ShloMosaic Idealize.ShloMosaic.ValueIdx

/-- The arrays hold the reals of `A`: the first has the inputs and the two projections side by side. -/
structure Given (A : Args) (x0 : FVec Ideal ⟨2, ![4096, 3072]⟩ .f32) (x1 : FVec Ideal ⟨2, ![4096, 32]⟩ .f32) (x2 x3 : FVec Ideal ⟨1, ![32]⟩ .f32)
    (x4 : FVec Ideal ⟨2, ![4096, 2048]⟩ .f32) : Prop where
  xbc : Is x0 fun t q => if q < 2048 then A.x t q else if q < 2560 then A.b t (q - 2048) else A.c t (q - 2560)
  dt : Is x1 A.dt
  a : Is1 x2 A.a
  d : Is1 x3 A.d
  dy : Is x4 A.dy

end Scan
-- ==== Proof.Scan.HostReads.lean ====
/- What the host hands the backward call holds, over the reals. -/
module

public import proofs.«01_k».proof.Proof.Scan.HostTerms
public import proofs.«01_k».proof.Proof.Scan.Given

@[expose] public section

namespace Scan.Host

open Idealize.ShloMosaic hiding ix1 ix2 ix3
open Idealize.ShloMosaic.ValueIdx Finset
open Cert.KernelIdeal Cert.KernelIdeal.Gen
open scoped BigOperators

noncomputable section

variable {A : Args} {x0 : FVec Ideal S4096x3072 .f32} {x1 : FVec Ideal S4096x32 .f32} {x2 x3 : FVec Ideal S32 .f32} {x4 : FVec Ideal S4096x2048 .f32}

theorem is_adt (H : Given A x0 x1 x2 x3 x4) : Is (M := 4096) (N := 32) (adt x1 x2) fun t h => A.dt t h * A.a h := by
  refine Is.mulf (M := 4096) (N := 32) H.dt (g := fun _ h => A.a h) fun r c => ?_
  rw [broadcastInDim_apply _ bcast_S1x32_S4096x32_0_1 _ (ix2 r c) (ix2 0 c) (fun d => match d with | ⟨0, _⟩ => rfl | ⟨1, _⟩ => rfl),
    broadcastInDim_apply _ bcast_S32_S1x32_1 _ (ix2 0 c) (ix1 c) (fun d => match d with | ⟨0, _⟩ => rfl)]
  exact H.a c

theorem zero_first : zero (Shape.Idx.first h_S_) = 0 := by
  show Ideal.ofBits .f32 0x00000000#32 = _
  exact Ideal.ofBits_zero_f32

theorem is_acs (H : Given A x0 x1 x2 x3 x4) : Is (M := 4096) (N := 32) (acs x1 x2) fun t h => A.P h (t + 1) - A.P h (128 * (t / 128)) := by
  have h3 : Is3 (A := 32) (B := 128) (C := 32) (shapeCast S32x128x32 (adt x1 x2) shapeCasts_S4096x32_S32x128x32) fun k l h => A.dt (128 * k + l) h * A.a h := by
    intro k l h
    rw [shapeCast_apply _ shapeCasts_S4096x32_S32x128x32 (ix3 k l h) (ix2 ⟨128 * k.val + l.val, by omega⟩ h) (by
      rw [Shape.rowMajor_val_two, Shape.rowMajor_val_three]; show (128 * k.val + l.val) * 32 + h.val = (k.val * 128 + l.val) * 32 + h.val; ring)]
    exact is_adt H _ _
  have h4 := Is3.cumsumMiddle (N := 128) (M := 127) rfl h3 reduceWindows_S32x128x32_S32x128x32_w1s1p0_0_w128s1p127_0_w1s1p0_0 h_S_ zero_first
  intro t h
  have ht := t.isLt
  unfold acs
  rw [shapeCast_apply _ shapeCasts_S32x128x32_S4096x32 (ix2 t h) (ix3 ⟨t.val / 128, by omega⟩ ⟨t.val % 128, by omega⟩ h) (by
    rw [Shape.rowMajor_val_two, Shape.rowMajor_val_three]; show (t.val / 128 * 128 + t.val % 128) * 32 + h.val = t.val * 32 + h.val; omega)]
  refine (h4 _ _ _).trans ?_
  show ((∑ s ∈ range (t.val % 128 + 1), A.dt (128 * (t.val / 128) + s) h.val * A.a h.val : ℝ) : EReal) = _
  show _ = ((A.P h.val (t.val + 1) - A.P h.val (128 * (t.val / 128)) : ℝ) : EReal)
  rw [show t.val + 1 = 128 * (t.val / 128) + (t.val % 128 + 1) by omega]
  unfold Args.P
  rw [sum_range_add _ (128 * (t.val / 128)), add_sub_cancel_left]

theorem is_rep {v : FVec Ideal S4096x32 .f32} {f : ℕ → ℕ → ℝ} (hv : Is (M := 4096) (N := 32) v f) : Is (M := 4096) (N := 2048) (rep v) fun t q => f t (q / 64) := by
  intro t q
  have hq := q.isLt
  unfold rep
  rw [shapeCast_apply _ shapeCasts_S4096x32x64_S4096x2048 (ix2 t q) (ix3 t ⟨q.val / 64, by omega⟩ ⟨q.val % 64, by omega⟩) (by
    rw [Shape.rowMajor_val_two, Shape.rowMajor_val_three]; show (t.val * 32 + q.val / 64) * 64 + q.val % 64 = t.val * 2048 + q.val; omega),
    broadcastInDim_apply _ bcast_S4096x32_S4096x32x64_0_1 _ _ (ix2 t ⟨q.val / 64, by omega⟩) (fun d => match d with | ⟨0, _⟩ => rfl | ⟨1, _⟩ => rfl)]
  exact hv _ _

theorem is_repRow {v : FVec Ideal S32 .f32} {f : ℕ → ℝ} (hv : Is1 (M := 32) v f) : Is (M := 1) (N := 2048) (repRow v) fun _ q => f (q / 64) := by
  intro t q
  have hq := q.isLt
  unfold repRow
  rw [broadcastInDim_apply _ bcast_S2048_S1x2048_1 _ (ix2 t q) (ix1 q) (fun d => match d with | ⟨0, _⟩ => rfl),
    shapeCast_apply _ shapeCasts_S32x64_S2048 (ix1 q) (ix2 ⟨q.val / 64, by omega⟩ ⟨q.val % 64, by omega⟩) (by
    rw [Shape.rowMajor_val_two, Shape.rowMajor_val_one]; show q.val / 64 * 64 + q.val % 64 = q.val; omega),
    broadcastInDim_apply _ bcast_S32_S32x64_0 _ _ (ix1 ⟨q.val / 64, by omega⟩) (fun d => match d with | ⟨0, _⟩ => rfl)]
  exact hv _

theorem is_tot (H : Given A x0 x1 x2 x3 x4) : Is (M := 4096) (N := 32) (tot x1 x2) fun t h => A.P h (t + 1) :=
  Is.cumsum (N := 4096) (M := 4095) rfl (is_adt H) reduceWindows_S4096x32_S4096x32_w4096s1p4095_0_w1s1p0_0 h_S_ zero_first

theorem is_start (H : Given A x0 x1 x2 x3 x4) : Is (M := 32) (N := 32) (start x1 x2) fun k h => A.P h (128 * k) := by
  intro k h
  have hk := k.isLt
  unfold start
  by_cases h0 : k.val = 0
  · rw [pad_apply_of_not_inside _ _ _ _ _ pads_S31x32_S32x32_100_000 h_S_ (ix2 k h) 0 (by
      intro hh; have : 1 ≤ k.val := hh.1; omega)]
    show (((0#32 : BitVec 32).toInt : ℝ) : EReal) = _
    rw [h0]
    simp [Args.P]
  · rw [pad_apply_of_inside _ _ _ _ _ pads_S31x32_S32x32_100_000 h_S_ (ix2 k h) (ix2 ⟨k.val - 1, by omega⟩ h) (fun d => match d with
      | ⟨0, _⟩ => (show k.val = 1 + (k.val - 1) * (0 + 1) by omega) | ⟨1, _⟩ => (show h.val = 0 + h.val * (0 + 1) by omega))]
    refine ((is_tot H).at _).trans ?_
    show ((A.P (0 + 1 * h.val) (127 + 128 * (k.val - 1) + 1) : ℝ) : EReal) = _
    rw [show 0 + 1 * h.val = h.val by omega, show 127 + 128 * (k.val - 1) + 1 = 128 * k.val by omega]

theorem before_at (k : Fin 32) (t : Fin 4096) (h : Fin 32) : before (ix3 k t h) = if t.val < 128 * k.val then 1#1 else 0#1 := by
  have hk := k.isLt
  have ht := t.isLt
  show (BitVec.ofBool (BitVec.slt (BitVec.ofNat 32 t.val) (BitVec.ofNat 32 k.val * 128#32))) = _
  have e : BitVec.slt (BitVec.ofNat 32 t.val) (BitVec.ofNat 32 k.val * 128#32) = decide (t.val < 128 * k.val) := by
    have e1 : BitVec.ofNat 32 k.val * 128#32 = BitVec.ofNat 32 (128 * k.val) := by
      rw [show (128#32 : BitVec 32) = BitVec.ofNat 32 128 from rfl, ← BitVec.ofNat_mul, mul_comm]
    rw [e1, BitVec.slt_eq_decide, BitVec.toInt_eq_toNat_of_lt, BitVec.toInt_eq_toNat_of_lt, BitVec.toNat_ofNat, BitVec.toNat_ofNat,
      Nat.mod_eq_of_lt (by omega), Nat.mod_eq_of_lt (by omega)]
    · rw [decide_eq_decide]; omega
    · rw [BitVec.toNat_ofNat, Nat.mod_eq_of_lt (by omega)]; omega
    · rw [BitVec.toNat_ofNat, Nat.mod_eq_of_lt (by omega)]; omega
  rw [e]
  by_cases hh : t.val < 128 * k.val <;> simp [hh]

theorem negInf : Ideal.ofBits .f32 0xFF800000#32 = ⊥ := by simp [Ideal.ofBits, Ideal.ieee]

/-- The decay from token `t` to the start of chunk `k`. -/
def goneR (A : Args) (k t h : ℕ) : ℝ := if t < 128 * k then Real.exp (A.P h (128 * k) - A.P h (t + 1)) else 0

theorem is_gone (H : Given A x0 x1 x2 x3 x4) : Is3 (A := 32) (B := 4096) (C := 32) (gone x1 x2) (goneR A) := by
  intro k t h
  show Ideal.exp (Scalar.select (before (ix3 k t h)) (_ - _) (Ideal.ofBits .f32 0xFF800000#32)) = _
  rw [before_at, negInf]
  unfold goneR
  by_cases hh : t.val < 128 * k.val
  · rw [if_pos hh, if_pos hh, select_one,
      broadcastInDim_apply _ bcast_S32x1x32_S32x4096x32_0_1_2 _ (ix3 k t h) (ix3 k 0 h) (fun d => match d with | ⟨0, _⟩ => rfl | ⟨1, _⟩ => rfl | ⟨2, _⟩ => rfl),
      broadcastInDim_apply _ bcast_S32x32_S32x1x32_0_2 _ _ (ix2 k h) (fun d => match d with | ⟨0, _⟩ => rfl | ⟨1, _⟩ => rfl),
      broadcastInDim_apply _ bcast_S1x4096x32_S32x4096x32_0_1_2 _ (ix3 k t h) (ix3 0 t h) (fun d => match d with | ⟨0, _⟩ => rfl | ⟨1, _⟩ => rfl | ⟨2, _⟩ => rfl),
      broadcastInDim_apply _ bcast_S4096x32_S1x4096x32_1_2 _ _ (ix2 t h) (fun d => match d with | ⟨0, _⟩ => rfl | ⟨1, _⟩ => rfl)]
    rw [is_start H k h, is_tot H t h, ← EReal.coe_sub]
    rfl
  · rw [if_neg hh, if_neg hh, select_zero]
    rfl

theorem is_scaled (H : Given A x0 x1 x2 x3 x4) : Is (M := 4096) (N := 2048) (scaled x0 x1) fun t q => A.x t q * A.dt t (q / 64) := by
  refine Is.mulf (M := 4096) (N := 2048) ((Is.slice (M := 4096) (N := 3072) (M' := 4096) (N' := 2048) H.xbc 0 0 slices_S4096x3072_S4096x2048_0_0).congr
    fun r _ q hq => ?_) (is_rep H.dt)
  rw [if_pos (by omega), zero_add, zero_add]

end

end Scan.Host
-- ==== Proof.Scan.HostStates.lean ====
/- What the host's states at the chunks' starts hold, over the reals. -/
module

public import proofs.«01_k».proof.Proof.Scan.HostReads

@[expose] public section

namespace Scan.Host

open Idealize.ShloMosaic hiding ix1 ix2 ix3 ix4
open Idealize.ShloMosaic.ValueIdx Finset
open Cert.KernelIdeal Cert.KernelIdeal.Gen
open scoped BigOperators

noncomputable section

variable {A : Args} {x0 : FVec Ideal S4096x3072 .f32} {x1 : FVec Ideal S4096x32 .f32} {x2 x3 : FVec Ideal S32 .f32} {x4 : FVec Ideal S4096x2048 .f32}

/-- A product of two arrays of three axes. -/
theorem Is3.mulf {L M N : ℕ} {x y : FVec Ideal ⟨3, ![L, M, N]⟩ .f32} {f g : ℕ → ℕ → ℕ → ℝ} (hx : Is3 x f) (hy : Is3 y g) :
    Is3 (Idealize.ShloMosaic.mulf x y) fun a b c => f a b c * g a b c := by
  intro a b c
  rw [EReal.coe_mul, ← hx, ← hy]
  rfl

theorem is_goneWide (H : Given A x0 x1 x2 x3 x4) :
    Is3 (A := 32) (B := 4096) (C := 2048) (shapeCast S32x4096x2048 (broadcastInDim S32x4096x32x64 ![0, 1, 2] bcast_S32x4096x32_S32x4096x32x64_0_1_2 (gone x1 x2))
      shapeCasts_S32x4096x32x64_S32x4096x2048) fun k t q => goneR A k t (q / 64) := by
  intro k t q
  have hq := q.isLt
  generalize hg : gone x1 x2 = y
  have hy : Is3 (A := 32) (B := 4096) (C := 32) y (goneR A) := hg ▸ is_gone H
  rw [shapeCast_apply _ shapeCasts_S32x4096x32x64_S32x4096x2048 (ix3 k t q) (ix4 k t ⟨q.val / 64, by omega⟩ ⟨q.val % 64, by omega⟩) (by
    rw [Shape.rowMajor_val_three, Shape.rowMajor_val_four]
    show ((k.val * 4096 + t.val) * 32 + q.val / 64) * 64 + q.val % 64 = (k.val * 4096 + t.val) * 2048 + q.val; omega),
    broadcastInDim_apply _ bcast_S32x4096x32_S32x4096x32x64_0_1_2 _ _ (ix3 k t ⟨q.val / 64, by omega⟩) (fun d => match d with | ⟨0, _⟩ => rfl | ⟨1, _⟩ => rfl | ⟨2, _⟩ => rfl)]
  exact hy _ _ _

theorem is_scaledWide (H : Given A x0 x1 x2 x3 x4) :
    Is3 (A := 32) (B := 4096) (C := 2048) (broadcastInDim S32x4096x2048 ![0, 1, 2] bcast_S1x4096x2048_S32x4096x2048_0_1_2
      (broadcastInDim S1x4096x2048 ![1, 2] bcast_S4096x2048_S1x4096x2048_1_2 (scaled x0 x1))) fun _ t q => A.x t q * A.dt t (q / 64) := by
  intro k t q
  generalize hg : scaled x0 x1 = y
  have hy : Is (M := 4096) (N := 2048) y fun t q => A.x t q * A.dt t (q / 64) := hg ▸ is_scaled H
  rw [broadcastInDim_apply _ bcast_S1x4096x2048_S32x4096x2048_0_1_2 _ (ix3 k t q) (ix3 0 t q) (fun d => match d with | ⟨0, _⟩ => rfl | ⟨1, _⟩ => rfl | ⟨2, _⟩ => rfl),
    broadcastInDim_apply _ bcast_S4096x2048_S1x4096x2048_1_2 _ _ (ix2 t q) (fun d => match d with | ⟨0, _⟩ => rfl | ⟨1, _⟩ => rfl)]
  exact hy _ _

theorem is_sent (H : Given A x0 x1 x2 x3 x4) :
    Is3 (A := 32) (B := 4096) (C := 2048) (sent x0 x1 x2) fun k t q => goneR A k t (q / 64) * (A.x t q * A.dt t (q / 64)) := by
  unfold sent
  exact Is3.mulf (L := 32) (M := 4096) (N := 2048) (is_goneWide H) (is_scaledWide H)

theorem is_bGroups (H : Given A x0 x1 x2 x3 x4) :
    Is3 (A := 4096) (B := 4) (C := 128) (shapeCast S4096x4x128 (extractStridedSlice S4096x512 ![0, 2048] x0 slices_S4096x3072_S4096x512_0_2048) shapeCasts_S4096x512_S4096x4x128)
      fun t g n => A.b t (128 * g + n) := by
  intro t g n
  have hg := g.isLt
  have hn := n.isLt
  have e := (Is.slice (M := 4096) (N := 3072) (M' := 4096) (N' := 512) H.xbc 0 2048 slices_S4096x3072_S4096x512_0_2048)
  rw [shapeCast_apply _ shapeCasts_S4096x512_S4096x4x128 (ix3 t g n) (ix2 t ⟨128 * g.val + n.val, by omega⟩) (by
    rw [Shape.rowMajor_val_two, Shape.rowMajor_val_three]
    show t.val * 512 + (128 * g.val + n.val) = (t.val * 4 + g.val) * 128 + n.val; ring)]
  refine (e _ _).trans (congrArg _ ?_)
  show (if 2048 + (128 * g.val + n.val) < 2048 then _ else if 2048 + (128 * g.val + n.val) < 2560 then A.b (0 + t.val) (2048 + (128 * g.val + n.val) - 2048) else _) = _
  rw [if_neg (by omega), if_pos (by omega), zero_add, Nat.add_sub_cancel_left]

theorem is_sentGroups (H : Given A x0 x1 x2 x3 x4) :
    Is4 (A := 32) (B := 4096) (C := 4) (D := 512) (shapeCast S32x4096x4x512 (sent x0 x1 x2) shapeCasts_S32x4096x2048_S32x4096x4x512)
      fun k t g l => goneR A k t ((512 * g + l) / 64) * (A.x t (512 * g + l) * A.dt t ((512 * g + l) / 64)) := by
  intro k t g l
  have hg := g.isLt
  have hl := l.isLt
  have hs := is_sent H
  generalize sent x0 x1 x2 = y at hs ⊢
  rw [shapeCast_apply _ shapeCasts_S32x4096x2048_S32x4096x4x512 (ix4 k t g l) (ix3 k t ⟨512 * g.val + l.val, by omega⟩) (by
    rw [Shape.rowMajor_val_three, Shape.rowMajor_val_four]
    show (k.val * 4096 + t.val) * 2048 + (512 * g.val + l.val) = ((k.val * 4096 + t.val) * 4 + g.val) * 512 + l.val; ring)]
  exact hs _ _ _

abbrev dotG := dot_S32x4096x4x512_S4096x4x128_S4x32x512x128_1_0_03_2_2_1

theorem dotG_l0 (i : S4x32x512x128.Idx) (q : dotG.contr.Idx) : (dotG.lhsIdx i q 0).val = (i 1).val := by
  unfold DotDims.lhsIdx
  rw [dif_neg (show ¬(0 : Fin S32x4096x4x512.rank) ∈ dotG.lhsBatch by decide), dif_pos (show (0 : Fin S32x4096x4x512.rank) ∈ dotG.lhsNonContracting by decide)]
  rfl
theorem dotG_l1 (i : S4x32x512x128.Idx) (q : dotG.contr.Idx) : (dotG.lhsIdx i q 1).val = (q ⟨0, by decide⟩).val :=
  dotG.lhsIdx_val_of_single rfl i q
theorem dotG_l2 (i : S4x32x512x128.Idx) (q : dotG.contr.Idx) : (dotG.lhsIdx i q 2).val = (i 0).val := by
  unfold DotDims.lhsIdx
  rw [dif_pos (show (2 : Fin S32x4096x4x512.rank) ∈ dotG.lhsBatch by decide)]
  rfl
theorem dotG_l3 (i : S4x32x512x128.Idx) (q : dotG.contr.Idx) : (dotG.lhsIdx i q 3).val = (i 2).val := by
  unfold DotDims.lhsIdx
  rw [dif_neg (show ¬(3 : Fin S32x4096x4x512.rank) ∈ dotG.lhsBatch by decide), dif_pos (show (3 : Fin S32x4096x4x512.rank) ∈ dotG.lhsNonContracting by decide)]
  rfl
theorem dotG_r0 (i : S4x32x512x128.Idx) (q : dotG.contr.Idx) : (dotG.rhsIdx i q 0).val = (q ⟨0, by decide⟩).val :=
  dotG.rhsIdx_val_of_single rfl i q
theorem dotG_r1 (i : S4x32x512x128.Idx) (q : dotG.contr.Idx) : (dotG.rhsIdx i q 1).val = (i 0).val := by
  unfold DotDims.rhsIdx
  rw [dif_pos (show (1 : Fin S4096x4x128.rank) ∈ dotG.rhsBatch by decide)]
  rfl
theorem dotG_r2 (i : S4x32x512x128.Idx) (q : dotG.contr.Idx) : (dotG.rhsIdx i q 2).val = (i 3).val := by
  unfold DotDims.rhsIdx
  rw [dif_neg (show ¬(2 : Fin S4096x4x128.rank) ∈ dotG.rhsBatch by decide), dif_pos (show (2 : Fin S4096x4x128.rank) ∈ dotG.rhsNonContracting by decide)]
  rfl

theorem dotG_apply (y0 : FVec Ideal S32x4096x4x512 .f32) (y1 : FVec Ideal S4096x4x128 .f32) (g : Fin 4) (k : Fin 32) (l : Fin 512) (n : Fin 128) :
    Host.dotGeneral (F := Ideal) dotG none y0 y1 (ix4 g k l n) = ∑ t : Fin 4096, y0 (ix4 k t g l) * y1 (ix3 t g n) := by
  simp only [Host.dotGeneral]
  rw [Ideal.dotGeneral_apply, ← Equiv.sum_comp (ValueIdx.contrEquiv1 dotG 4096 rfl rfl).symm]
  refine Finset.sum_congr rfl fun t _ => ?_
  have hk := ValueIdx.contrEquiv1_symm_val dotG 4096 rfl rfl t
  have el : dotG.lhsIdx (ix4 g k l n) ((ValueIdx.contrEquiv1 dotG 4096 rfl rfl).symm t) = ix4 k t g l := funext fun a => Fin.ext (by
    match a with
    | ⟨0, _⟩ => exact dotG_l0 _ _
    | ⟨1, _⟩ => exact (dotG_l1 _ _).trans hk
    | ⟨2, _⟩ => exact dotG_l2 _ _
    | ⟨3, _⟩ => exact dotG_l3 _ _)
  have er : dotG.rhsIdx (ix4 g k l n) ((ValueIdx.contrEquiv1 dotG 4096 rfl rfl).symm t) = ix3 t g n := funext fun a => Fin.ext (by
    match a with
    | ⟨0, _⟩ => exact (dotG_r0 _ _).trans hk
    | ⟨1, _⟩ => exact dotG_r1 _ _
    | ⟨2, _⟩ => exact dotG_r2 _ _)
  rw [el, er]

theorem is_gathered (H : Given A x0 x1 x2 x3 x4) : Is4 (A := 4) (B := 32) (C := 512) (D := 128) (gathered x0 x1 x2) fun g k l n =>
    ∑ t ∈ range 4096, goneR A k t ((512 * g + l) / 64) * (A.x t (512 * g + l) * A.dt t ((512 * g + l) / 64)) * A.b t (128 * g + n) := by
  intro g k l n
  have h0 := is_sentGroups H
  have h1 := is_bGroups H
  unfold gathered
  generalize shapeCast S32x4096x4x512 (sent x0 x1 x2) shapeCasts_S32x4096x2048_S32x4096x4x512 = y0 at h0 ⊢
  generalize shapeCast S4096x4x128 (extractStridedSlice S4096x512 ![0, 2048] x0 slices_S4096x3072_S4096x512_0_2048) shapeCasts_S4096x512_S4096x4x128 = y1 at h1 ⊢
  refine (dotG_apply y0 y1 g k l n).trans ?_
  rw [← sum_coe 4096 fun t => goneR A k t ((512 * g + l) / 64) * (A.x t (512 * g + l) * A.dt t ((512 * g + l) / 64)) * A.b t (128 * g + n)]
  exact sum_congr rfl fun t _ => by rw [h0, h1]; exact (EReal.coe_mul _ _).symm

/-- Only the tokens before the chunk count. -/
theorem sum_before (N M : ℕ) (h : M ≤ N) (f : ℕ → ℝ) : ∑ t ∈ range N, (if t < M then f t else 0) = ∑ t ∈ range M, f t := by
  rw [← sum_filter]
  refine sum_congr ?_ fun _ _ => rfl
  ext t
  simp only [mem_filter, mem_range]
  omega

theorem is_hin (H : Given A x0 x1 x2 x3 x4) : Is3 (A := 32) (B := 128) (C := 2048) (hin x0 x1 x2) fun k n q =>
    enter (A.P (q / 64)) (A.B (q / 64)) (A.X (q / 64)) (128 * k) n (q % 64) := by
  intro k n q
  have hk := k.isLt
  have hq := q.isLt
  have hg := is_gathered H
  unfold hin
  generalize gathered x0 x1 x2 = y at hg ⊢
  rw [shapeCast_apply _ shapeCasts_S32x128x4x512_S32x128x2048 (ix3 k n q) (ix4 k n ⟨q.val / 512, by omega⟩ ⟨q.val % 512, by omega⟩) (by
    rw [Shape.rowMajor_val_three, Shape.rowMajor_val_four]
    show ((k.val * 128 + n.val) * 4 + q.val / 512) * 512 + q.val % 512 = (k.val * 128 + n.val) * 2048 + q.val; omega),
    transpose_apply _ _ transposes_S4x32x512x128_S32x128x4x512_1_3_0_2 _ (ix4 ⟨q.val / 512, by omega⟩ k ⟨q.val % 512, by omega⟩ n) (fun d => match d with
      | ⟨0, _⟩ => rfl | ⟨1, _⟩ => rfl | ⟨2, _⟩ => rfl | ⟨3, _⟩ => rfl)]
  refine (hg _ _ _ _).trans (congrArg _ ?_)
  show ∑ t ∈ range 4096, goneR A k.val t ((512 * (q.val / 512) + q.val % 512) / 64) * (A.x t (512 * (q.val / 512) + q.val % 512) * A.dt t ((512 * (q.val / 512) + q.val % 512) / 64))
    * A.b t (128 * (q.val / 512) + n.val) = enter (A.P (q.val / 64)) (A.B (q.val / 64)) (A.X (q.val / 64)) (128 * k.val) n.val (q.val % 64)
  rw [show 512 * (q.val / 512) + q.val % 512 = q.val by omega]
  unfold enter
  rw [← sum_before 4096 (128 * k.val) (by omega)]
  refine sum_congr rfl fun t _ => ?_
  unfold goneR Args.B Args.X
  rw [show q.val / 64 / 8 = q.val / 512 by omega, show 64 * (q.val / 64) + q.val % 64 = q.val by omega]
  split <;> ring

end

end Scan.Host
-- ==== Proof.Scan.Blocks.lean ====
/- The windows' blocks at each grid point, read off the arrays. -/
module

public import proofs.«01_k».proof.Proof.Scan.HostStates
public import proofs.«01_k».proof.Proof.Scan.Steps

@[expose] public section

namespace Scan

open Idealize.ShloMosaic hiding ix1 ix2 ix3 ix4
open Idealize.ShloMosaic.ValueIdx Finset
open Idealize.ShloMosaic.Pipeline
open Cert.KernelIdeal Cert.KernelIdeal.Gen
open scoped BigOperators

noncomputable section

variable (m : (ℓ : Loc nD τ sig) → Buf (Elt Ideal) ℓ) (c : Dev nD)

theorem row_lt {t r : ℕ} (hr : r < 128) : 128 * (31 - t) + r < 4096 := by omega

theorem chunk_lt (t : ℕ) : 31 - t < 32 := by omega

theorem idx0 : ∀ t : Fin cfg0.N, win0_0.index t (0 : Fin 2) = 31 - t.val ∧ win0_0.index t (1 : Fin 2) = 0 :=
  (by decide +kernel : ∀ t : Fin grid0.N, win0_0.index t (0 : Fin 2) = 31 - t.val ∧ win0_0.index t (1 : Fin 2) = 0)

theorem emb0 (t : Fin cfg0.N) (r : Fin 128) (q : Fin 3072) : (win0_0.rect t).emb (ix2 r q) = ix2 ⟨128 * (31 - t.val) + r.val, row_lt r.isLt⟩ q := by
  obtain ⟨e0, e1⟩ := idx0 t
  refine funext fun a => Fin.ext ?_
  match a with
  | ⟨0, _⟩ =>
    refine (Window.rect_emb_val win0_0 t (ix2 r q) 0).trans ?_
    rw [e0]; show (31 - t.val) * 128 + r.val = 128 * (31 - t.val) + r.val; ring
  | ⟨1, _⟩ => exact Window.rect_emb_val_of_index_zero win0_0 t 1 e1 (ix2 r q)

theorem read0 (x : (⟨2, ![4096, 3072]⟩ : Shape).Idx → EReal) (t : Fin cfg0.N) (r : Fin 128) (q : Fin 3072) :
    (win0_0.blk t).view.read (Elt Ideal) x (ix2 r q) = x ((win0_0.rect t).emb (ix2 r q)) := rfl

theorem blk0 (t : Fin cfg0.N) (r : Fin 128) (q : Fin 3072) : iblk m c 0 t (ix2 r q) = V m c main_arg0 (ix2 ⟨128 * (31 - t.val) + r.val, row_lt r.isLt⟩ q) := by
  unfold iblk
  exact (read0 (V m c main_arg0) t r q).trans (congrArg _ (emb0 t r q))

theorem idx1 : ∀ t : Fin cfg0.N, win0_1.index t (0 : Fin 2) = 31 - t.val ∧ win0_1.index t (1 : Fin 2) = 0 :=
  (by decide +kernel : ∀ t : Fin grid0.N, win0_1.index t (0 : Fin 2) = 31 - t.val ∧ win0_1.index t (1 : Fin 2) = 0)

theorem emb1 (t : Fin cfg0.N) (r : Fin 128) (q : Fin 2048) : (win0_1.rect t).emb (ix2 r q) = ix2 ⟨128 * (31 - t.val) + r.val, row_lt r.isLt⟩ q := by
  obtain ⟨e0, e1⟩ := idx1 t
  refine funext fun a => Fin.ext ?_
  match a with
  | ⟨0, _⟩ =>
    refine (Window.rect_emb_val win0_1 t (ix2 r q) 0).trans ?_
    rw [e0]; show (31 - t.val) * 128 + r.val = 128 * (31 - t.val) + r.val; ring
  | ⟨1, _⟩ => exact Window.rect_emb_val_of_index_zero win0_1 t 1 e1 (ix2 r q)

theorem read1 (x : (⟨2, ![4096, 2048]⟩ : Shape).Idx → EReal) (t : Fin cfg0.N) (r : Fin 128) (q : Fin 2048) :
    (win0_1.blk t).view.read (Elt Ideal) x (ix2 r q) = x ((win0_1.rect t).emb (ix2 r q)) := rfl

theorem blk1 (t : Fin cfg0.N) (r : Fin 128) (q : Fin 2048) : iblk m c 1 t (ix2 r q) = V m c main_v37 (ix2 ⟨128 * (31 - t.val) + r.val, row_lt r.isLt⟩ q) := by
  unfold iblk
  exact (read1 (V m c main_v37) t r q).trans (congrArg _ (emb1 t r q))

theorem idx2 : ∀ t : Fin cfg0.N, win0_2.index t (0 : Fin 2) = 31 - t.val ∧ win0_2.index t (1 : Fin 2) = 0 :=
  (by decide +kernel : ∀ t : Fin grid0.N, win0_2.index t (0 : Fin 2) = 31 - t.val ∧ win0_2.index t (1 : Fin 2) = 0)

theorem emb2 (t : Fin cfg0.N) (r : Fin 128) (q : Fin 2048) : (win0_2.rect t).emb (ix2 r q) = ix2 ⟨128 * (31 - t.val) + r.val, row_lt r.isLt⟩ q := by
  obtain ⟨e0, e1⟩ := idx2 t
  refine funext fun a => Fin.ext ?_
  match a with
  | ⟨0, _⟩ =>
    refine (Window.rect_emb_val win0_2 t (ix2 r q) 0).trans ?_
    rw [e0]; show (31 - t.val) * 128 + r.val = 128 * (31 - t.val) + r.val; ring
  | ⟨1, _⟩ => exact Window.rect_emb_val_of_index_zero win0_2 t 1 e1 (ix2 r q)

theorem read2 (x : (⟨2, ![4096, 2048]⟩ : Shape).Idx → EReal) (t : Fin cfg0.N) (r : Fin 128) (q : Fin 2048) :
    (win0_2.blk t).view.read (Elt Ideal) x (ix2 r q) = x ((win0_2.rect t).emb (ix2 r q)) := rfl

theorem blk2 (t : Fin cfg0.N) (r : Fin 128) (q : Fin 2048) : iblk m c 2 t (ix2 r q) = V m c main_v39 (ix2 ⟨128 * (31 - t.val) + r.val, row_lt r.isLt⟩ q) := by
  unfold iblk
  exact (read2 (V m c main_v39) t r q).trans (congrArg _ (emb2 t r q))

theorem idx3 : ∀ t : Fin cfg0.N, win0_3.index t (0 : Fin 2) = 0 ∧ win0_3.index t (1 : Fin 2) = 31 - t.val :=
  (by decide +kernel : ∀ t : Fin grid0.N, win0_3.index t (0 : Fin 2) = 0 ∧ win0_3.index t (1 : Fin 2) = 31 - t.val)

theorem emb3 (t : Fin cfg0.N) (r : Fin 32) (q : Fin 128) : (win0_3.rect t).emb (ix2 r q) = ix2 r ⟨128 * (31 - t.val) + q.val, row_lt q.isLt⟩ := by
  obtain ⟨e0, e1⟩ := idx3 t
  refine funext fun a => Fin.ext ?_
  match a with
  | ⟨0, _⟩ => exact Window.rect_emb_val_of_index_zero win0_3 t 0 e0 (ix2 r q)
  | ⟨1, _⟩ =>
    refine (Window.rect_emb_val win0_3 t (ix2 r q) 1).trans ?_
    rw [e1]; show (31 - t.val) * 128 + q.val = 128 * (31 - t.val) + q.val; ring

theorem read3 (x : (⟨2, ![32, 4096]⟩ : Shape).Idx → EReal) (t : Fin cfg0.N) (r : Fin 32) (q : Fin 128) :
    (win0_3.blk t).view.read (Elt Ideal) x (ix2 r q) = x ((win0_3.rect t).emb (ix2 r q)) := rfl

theorem blk3 (t : Fin cfg0.N) (r : Fin 32) (q : Fin 128) : iblk m c 3 t (ix2 r q) = V m c main_v40 (ix2 r ⟨128 * (31 - t.val) + q.val, row_lt q.isLt⟩) := by
  unfold iblk
  exact (read3 (V m c main_v40) t r q).trans (congrArg _ (emb3 t r q))

theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

theorem emb4 (t : Fin cfg0.N) (r : Fin 1) (q : Fin 2048) : (win0_4.rect t).emb (ix2 r q) = ix2 r q := by
  obtain ⟨e0, e1⟩ := idx4 t
  refine funext fun a => Fin.ext ?_
  match a with
  | ⟨0, _⟩ => exact Window.rect_emb_val_of_index_zero win0_4 t 0 e0 (ix2 r q)
  | ⟨1, _⟩ => exact Window.rect_emb_val_of_index_zero win0_4 t 1 e1 (ix2 r q)

theorem read4 (x : (⟨2, ![1, 2048]⟩ : Shape).Idx → EReal) (t : Fin cfg0.N) (r : Fin 1) (q : Fin 2048) :
    (win0_4.blk t).view.read (Elt Ideal) x (ix2 r q) = x ((win0_4.rect t).emb (ix2 r q)) := rfl

theorem blk4 (t : Fin cfg0.N) (r : Fin 1) (q : Fin 2048) : iblk m c 4 t (ix2 r q) = V m c main_v43 (ix2 r q) := by
  unfold iblk
  exact (read4 (V m c main_v43) t r q).trans (congrArg _ (emb4 t r q))

theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

theorem emb5 (t : Fin cfg0.N) (r : Fin 1) (q : Fin 2048) : (win0_5.rect t).emb (ix2 r q) = ix2 r q := by
  obtain ⟨e0, e1⟩ := idx5 t
  refine funext fun a => Fin.ext ?_
  match a with
  | ⟨0, _⟩ => exact Window.rect_emb_val_of_index_zero win0_5 t 0 e0 (ix2 r q)
  | ⟨1, _⟩ => exact Window.rect_emb_val_of_index_zero win0_5 t 1 e1 (ix2 r q)

theorem read5 (x : (⟨2, ![1, 2048]⟩ : Shape).Idx → EReal) (t : Fin cfg0.N) (r : Fin 1) (q : Fin 2048) :
    (win0_5.blk t).view.read (Elt Ideal) x (ix2 r q) = x ((win0_5.rect t).emb (ix2 r q)) := rfl

theorem blk5 (t : Fin cfg0.N) (r : Fin 1) (q : Fin 2048) : iblk m c 5 t (ix2 r q) = V m c main_v46 (ix2 r q) := by
  unfold iblk
  exact (read5 (V m c main_v46) t r q).trans (congrArg _ (emb5 t r q))

theorem idx7 : ∀ t : Fin cfg0.N, win0_7.index t (0 : Fin 2) = 31 - t.val ∧ win0_7.index t (1 : Fin 2) = 0 :=
  (by decide +kernel : ∀ t : Fin grid0.N, win0_7.index t (0 : Fin 2) = 31 - t.val ∧ win0_7.index t (1 : Fin 2) = 0)

theorem emb7 (t : Fin cfg0.N) (r : Fin 128) (q : Fin 2048) : (win0_7.rect t).emb (ix2 r q) = ix2 ⟨128 * (31 - t.val) + r.val, row_lt r.isLt⟩ q := by
  obtain ⟨e0, e1⟩ := idx7 t
  refine funext fun a => Fin.ext ?_
  match a with
  | ⟨0, _⟩ =>
    refine (Window.rect_emb_val win0_7 t (ix2 r q) 0).trans ?_
    rw [e0]; show (31 - t.val) * 128 + r.val = 128 * (31 - t.val) + r.val; ring
  | ⟨1, _⟩ => exact Window.rect_emb_val_of_index_zero win0_7 t 1 e1 (ix2 r q)

theorem read7 (x : (⟨2, ![4096, 2048]⟩ : Shape).Idx → EReal) (t : Fin cfg0.N) (r : Fin 128) (q : Fin 2048) :
    (win0_7.blk t).view.read (Elt Ideal) x (ix2 r q) = x ((win0_7.rect t).emb (ix2 r q)) := rfl

theorem blk7 (t : Fin cfg0.N) (r : Fin 128) (q : Fin 2048) : iblk m c 7 t (ix2 r q) = V m c main_arg4 (ix2 ⟨128 * (31 - t.val) + r.val, row_lt r.isLt⟩ q) := by
  unfold iblk
  exact (read7 (V m c main_arg4) t r q).trans (congrArg _ (emb7 t r q))

theorem idx6 : ∀ t : Fin cfg0.N, win0_6.index t (0 : Fin 3) = 31 - t.val ∧ win0_6.index t (1 : Fin 3) = 0 ∧ win0_6.index t (2 : Fin 3) = 0 :=
  (by decide +kernel : ∀ t : Fin grid0.N, win0_6.index t (0 : Fin 3) = 31 - t.val ∧ win0_6.index t (1 : Fin 3) = 0 ∧ win0_6.index t (2 : Fin 3) = 0)

theorem emb6a (t : Fin cfg0.N) (n : Fin 128) (q : Fin 2048) :
    (((win0_6.rect t).emb (ix3 (0 : Fin 1) n q) (0 : Fin 3)).val) = 31 - t.val := by
  obtain ⟨e0, e1, e2⟩ := idx6 t
  refine (Window.rect_emb_val win0_6 t (ix3 (0 : Fin 1) n q) 0).trans ?_
  rw [e0]; show (31 - t.val) * 1 + 0 = 31 - t.val; ring

theorem emb6b (t : Fin cfg0.N) (n : Fin 128) (q : Fin 2048) :
    (((win0_6.rect t).emb (ix3 (0 : Fin 1) n q) (1 : Fin 3)).val) = n.val := by
  obtain ⟨e0, e1, e2⟩ := idx6 t
  exact Window.rect_emb_val_of_index_zero win0_6 t 1 e1 (ix3 (0 : Fin 1) n q)

theorem emb6c (t : Fin cfg0.N) (n : Fin 128) (q : Fin 2048) :
    (((win0_6.rect t).emb (ix3 (0 : Fin 1) n q) (2 : Fin 3)).val) = q.val := by
  obtain ⟨e0, e1, e2⟩ := idx6 t
  exact Window.rect_emb_val_of_index_zero win0_6 t 2 e2 (ix3 (0 : Fin 1) n q)

theorem emb6d (t : Fin cfg0.N) (n : Fin 128) (q : Fin 2048) :
    (win0_6.rect t).emb (ix3 (0 : Fin 1) n q) = ix3 ⟨31 - t.val, chunk_lt _⟩ n q := by
  refine funext fun a => Fin.ext ?_
  match a with
  | ⟨0, _⟩ => exact emb6a t n q
  | ⟨1, _⟩ => exact emb6b t n q
  | ⟨2, _⟩ => exact emb6c t n q

theorem read6 (x : S32x128x2048.Idx → EReal) (t : Fin cfg0.N) (n : Fin 128) (q : Fin 2048) :
    (win0_6.blk t).view.read (Elt Ideal) x (ix3 (0 : Fin 1) n q) = x ((win0_6.rect t).emb (ix3 (0 : Fin 1) n q)) := rfl

theorem blk6 (t : Fin cfg0.N) (n : Fin 128) (q : Fin 2048) :
    iblk m c 6 t (ix3 (0 : Fin 1) n q) = V m c main_v35 (ix3 ⟨31 - t.val, chunk_lt _⟩ n q) := by
  unfold iblk
  exact (read6 (V m c main_v35) t n q).trans (congrArg _ (emb6d t n q))

end

end Scan
-- ==== Proof.Scan.Feeds.lean ====
/- The windows' blocks hold what the model says. -/
module

public import proofs.«01_k».proof.Proof.Scan.Blocks

@[expose] public section

namespace Scan

open Idealize.ShloMosaic hiding ix1 ix2 ix3 ix4
open Idealize.ShloMosaic.ValueIdx Finset
open Idealize.ShloMosaic.Pipeline Idealize.ShloMosaic.TcCoe
open Cert.KernelIdeal Cert.KernelIdeal.Gen
open scoped BigOperators

noncomputable section

variable {m : (ℓ : Loc nD τ sig) → Buf (Elt Ideal) ℓ} {c : Dev nD} {A : Args}

theorem fed0 (H : Given A (m ((c : Thread nD τ).loc main_arg0)) (m ((c : Thread nD τ).loc main_arg1)) (m ((c : Thread nD τ).loc main_arg2)) (m ((c : Thread nD τ).loc main_arg3))
    (m ((c : Thread nD τ).loc main_arg4))) (t : Fin cfg0.N) :
    Is (M := 128) (N := 3072) (iblk m c 0 t) (fun r q => if q < 2048 then A.x (128 * (31 - t.val) + r) q else if q < 2560 then A.b (128 * (31 - t.val) + r) (q - 2048) else A.c (128 * (31 - t.val) + r) (q - 2560)) := by
  intro r q
  rw [blk0, V_main_arg0]
  exact H.xbc _ _

theorem fed1 (H : Given A (m ((c : Thread nD τ).loc main_arg0)) (m ((c : Thread nD τ).loc main_arg1)) (m ((c : Thread nD τ).loc main_arg2)) (m ((c : Thread nD τ).loc main_arg3))
    (m ((c : Thread nD τ).loc main_arg4))) (t : Fin cfg0.N) :
    Is (M := 128) (N := 2048) (iblk m c 1 t) (fun r q => A.dt (128 * (31 - t.val) + r) (q / 64)) := by
  intro r q
  rw [blk1, Host.v37]
  exact Host.is_rep H.dt _ _

theorem fed2 (H : Given A (m ((c : Thread nD τ).loc main_arg0)) (m ((c : Thread nD τ).loc main_arg1)) (m ((c : Thread nD τ).loc main_arg2)) (m ((c : Thread nD τ).loc main_arg3))
    (m ((c : Thread nD τ).loc main_arg4))) (t : Fin cfg0.N) :
    Is (M := 128) (N := 2048) (iblk m c 2 t) (fun r q => A.P (q / 64) (128 * (31 - t.val) + r + 1) - A.P (q / 64) (128 * (31 - t.val))) := by
  intro r q
  rw [blk2, Host.v39, Host.is_rep (Host.is_acs H)]
  refine congrArg _ ?_
  show A.P (q.val / 64) (128 * (31 - t.val) + r.val + 1) - A.P (q.val / 64) (128 * ((128 * (31 - t.val) + r.val) / 128)) = _ - A.P (q.val / 64) (128 * (31 - t.val))
  rw [show (128 * (31 - t.val) + r.val) / 128 = 31 - t.val by omega]

theorem fed3 (H : Given A (m ((c : Thread nD τ).loc main_arg0)) (m ((c : Thread nD τ).loc main_arg1)) (m ((c : Thread nD τ).loc main_arg2)) (m ((c : Thread nD τ).loc main_arg3))
    (m ((c : Thread nD τ).loc main_arg4))) (t : Fin cfg0.N) :
    Is (M := 32) (N := 128) (iblk m c 3 t) (fun h l => A.P h (128 * (31 - t.val) + l + 1) - A.P h (128 * (31 - t.val))) := by
  intro r q
  rw [blk3, Host.v40, Is.transpose (M := 4096) (N := 32) (Host.is_acs H) transposes_S4096x32_S32x4096_1_0]
  refine congrArg _ ?_
  show A.P r.val (128 * (31 - t.val) + q.val + 1) - A.P r.val (128 * ((128 * (31 - t.val) + q.val) / 128)) = _ - A.P r.val (128 * (31 - t.val))
  rw [show (128 * (31 - t.val) + q.val) / 128 = 31 - t.val by omega]

theorem fed4 (H : Given A (m ((c : Thread nD τ).loc main_arg0)) (m ((c : Thread nD τ).loc main_arg1)) (m ((c : Thread nD τ).loc main_arg2)) (m ((c : Thread nD τ).loc main_arg3))
    (m ((c : Thread nD τ).loc main_arg4))) (t : Fin cfg0.N) :
    Is (M := 1) (N := 2048) (iblk m c 4 t) (fun _ q => A.d (q / 64)) := by
  intro r q
  rw [blk4, Host.v43]
  exact Host.is_repRow H.d _ _

theorem fed5 (H : Given A (m ((c : Thread nD τ).loc main_arg0)) (m ((c : Thread nD τ).loc main_arg1)) (m ((c : Thread nD τ).loc main_arg2)) (m ((c : Thread nD τ).loc main_arg3))
    (m ((c : Thread nD τ).loc main_arg4))) (t : Fin cfg0.N) :
    Is (M := 1) (N := 2048) (iblk m c 5 t) (fun _ q => A.a (q / 64)) := by
  intro r q
  rw [blk5, Host.v46]
  exact Host.is_repRow H.a _ _

theorem fed7 (H : Given A (m ((c : Thread nD τ).loc main_arg0)) (m ((c : Thread nD τ).loc main_arg1)) (m ((c : Thread nD τ).loc main_arg2)) (m ((c : Thread nD τ).loc main_arg3))
    (m ((c : Thread nD τ).loc main_arg4))) (t : Fin cfg0.N) :
    Is (M := 128) (N := 2048) (iblk m c 7 t) (fun r q => A.dy (128 * (31 - t.val) + r) q) := by
  intro r q
  rw [blk7, V_main_arg4]
  exact H.dy _ _

theorem fed6 (H : Given A (m ((c : Thread nD τ).loc main_arg0)) (m ((c : Thread nD τ).loc main_arg1)) (m ((c : Thread nD τ).loc main_arg2)) (m ((c : Thread nD τ).loc main_arg3))
    (m ((c : Thread nD τ).loc main_arg4))) (t : Fin cfg0.N) (n : Fin 128) (q : Fin 2048) :
    iblk m c 6 t (ix3 (0 : Fin 1) n q) = ((enter (A.P (q.val / 64)) (A.B (q.val / 64)) (A.X (q.val / 64)) (128 * (31 - t.val)) n.val (q.val % 64) : ℝ) : EReal) := by
  rw [blk6, Host.v35]
  exact Host.is_hin H _ _ _

/-- What the arguments say about the blocks each grid point is fed. -/
theorem fed (H : Given A (m ((c : Thread nD τ).loc main_arg0)) (m ((c : Thread nD τ).loc main_arg1)) (m ((c : Thread nD τ).loc main_arg2)) (m ((c : Thread nD τ).loc main_arg3))
    (m ((c : Thread nD τ).loc main_arg4))) : Fed A m c :=
  fun t _ _ => ⟨fed0 H t, fed1 H t, fed2 H t, fed3 H t, fed4 H t, fed5 H t, fed6 H t, fed7 H t⟩

end

end Scan
-- ==== Proof.Scan.RefLeaves.lean ====
/- The reference's operands, spread over groups, heads and lanes. -/
module

public import proofs.«01_k».proof.Proof.Scan.Given
public import proofs.«01_k».proof.Proof.Gen.ReferenceIdeal.Read

@[expose] public section

namespace Scan.Ref

open Idealize.ShloMosaic Idealize.ShloMosaic.ValueIdx Finset
open Cert.ReferenceIdeal Cert.ReferenceIdeal.Gen Cert.ReferenceIdeal.Read
open scoped BigOperators

noncomputable section

variable {A : Args} {x0 : FVec Ideal S4096x3072 .f32} {x1 : FVec Ideal S4096x32 .f32} {x2 x3 : FVec Ideal S32 .f32} {x4 : FVec Ideal S4096x2048 .f32}

theorem Is3.mulf {L M N : ℕ} {x y : FVec Ideal ⟨3, ![L, M, N]⟩ .f32} {f g : ℕ → ℕ → ℕ → ℝ} (hx : Is3 x f) (hy : Is3 y g) :
    Is3 (Idealize.ShloMosaic.mulf x y) fun a b c => f a b c * g a b c := by
  intro a b c
  rw [EReal.coe_mul, ← hx, ← hy]
  rfl

theorem Is3.addf {L M N : ℕ} {x y : FVec Ideal ⟨3, ![L, M, N]⟩ .f32} {f g : ℕ → ℕ → ℕ → ℝ} (hx : Is3 x f) (hy : Is3 y g) :
    Is3 (Idealize.ShloMosaic.addf x y) fun a b c => f a b c + g a b c := by
  intro a b c
  rw [EReal.coe_add, ← hx, ← hy]
  rfl

theorem Is3.subf {L M N : ℕ} {x y : FVec Ideal ⟨3, ![L, M, N]⟩ .f32} {f g : ℕ → ℕ → ℕ → ℝ} (hx : Is3 x f) (hy : Is3 y g) :
    Is3 (Idealize.ShloMosaic.subf x y) fun a b c => f a b c - g a b c := by
  intro a b c
  rw [EReal.coe_sub, ← hx, ← hy]
  rfl

theorem Is4.mulf {L M N O : ℕ} {x y : FVec Ideal ⟨4, ![L, M, N, O]⟩ .f32} {f g : ℕ → ℕ → ℕ → ℕ → ℝ} (hx : Is4 x f) (hy : Is4 y g) :
    Is4 (Idealize.ShloMosaic.mulf x y) fun a b c d => f a b c d * g a b c d := by
  intro a b c d
  rw [EReal.coe_mul, ← hx, ← hy]
  rfl

theorem Is4.addf {L M N O : ℕ} {x y : FVec Ideal ⟨4, ![L, M, N, O]⟩ .f32} {f g : ℕ → ℕ → ℕ → ℕ → ℝ} (hx : Is4 x f) (hy : Is4 y g) :
    Is4 (Idealize.ShloMosaic.addf x y) fun a b c d => f a b c d + g a b c d := by
  intro a b c d
  rw [EReal.coe_add, ← hx, ← hy]
  rfl

theorem Is4.subf {L M N O : ℕ} {x y : FVec Ideal ⟨4, ![L, M, N, O]⟩ .f32} {f g : ℕ → ℕ → ℕ → ℕ → ℝ} (hx : Is4 x f) (hy : Is4 y g) :
    Is4 (Idealize.ShloMosaic.subf x y) fun a b c d => f a b c d - g a b c d := by
  intro a b c d
  rw [EReal.coe_sub, ← hx, ← hy]
  rfl

/-- A sum over a last or an outer axis that starts from the constant zero. -/
theorem fromZero {x : EReal} : (FloatOps.ofBits (F := Ideal) .f32 0x00000000#32 : EReal) + x = x := by
  show Ideal.ofBits .f32 0x00000000#32 + x = x
  rw [Ideal.ofBits_zero_f32, zero_add]

theorem isv0 (H : Given A x0 x1 x2 x3 x4) : Is (M := 4096) (N := 2048) (val_main_v0 (F := Ideal) x0) A.x := by
  intro a b
  have ha := a.isLt
  have hb := b.isLt
  refine (val_main_v0_apply (F := Ideal) x0 (ix2 a b)).trans ((H.xbc.at _).trans (congrArg _ ?_))
  have e : (idx_main_v0 (ix2 a b) 1).val = b.val := rfl
  show (if b.val < 2048 then A.x a.val b.val else _) = _
  rw [if_pos hb]

theorem isv1 (H : Given A x0 x1 x2 x3 x4) : Is (M := 4096) (N := 512) (val_main_v1 (F := Ideal) x0) A.b := by
  intro a b
  have ha := a.isLt
  have hb := b.isLt
  refine (val_main_v1_apply (F := Ideal) x0 (ix2 a b)).trans ((H.xbc.at _).trans (congrArg _ ?_))
  show (if 2048 + b.val < 2048 then _ else if 2048 + b.val < 2560 then A.b a.val (2048 + b.val - 2048) else _) = _
  rw [if_neg (by omega), if_pos (by omega), Nat.add_sub_cancel_left]

theorem isv2 (H : Given A x0 x1 x2 x3 x4) : Is (M := 4096) (N := 512) (val_main_v2 (F := Ideal) x0) A.c := by
  intro a b
  have ha := a.isLt
  have hb := b.isLt
  refine (val_main_v2_apply (F := Ideal) x0 (ix2 a b)).trans ((H.xbc.at _).trans (congrArg _ ?_))
  show (if 2560 + b.val < 2048 then _ else if 2560 + b.val < 2560 then _ else A.c a.val (2560 + b.val - 2560)) = _
  rw [if_neg (by omega), if_neg (by omega), Nat.add_sub_cancel_left]

theorem isv3 (H : Given A x0 x1 x2 x3 x4) : Is4 (A := 4096) (B := 4) (C := 8) (D := 64) (val_main_v3 (F := Ideal) x0) fun t g j p => A.x t (64 * (8 * g + j) + p) := by
  intro a b c d
  have ha := a.isLt
  have hb := b.isLt
  have hc := c.isLt
  have hd := d.isLt
  refine (val_main_v3_apply (F := Ideal) x0 (ix4 a b c d)).trans (((isv0 H).at _).trans (congrArg _ ?_))
  show A.x ((((a.val * 4 + b.val) * 8 + c.val) * 64 + d.val) / 2048) ((((a.val * 4 + b.val) * 8 + c.val) * 64 + d.val) % 2048) = A.x a.val (64 * (8 * b.val + c.val) + d.val)
  rw [show (((a.val * 4 + b.val) * 8 + c.val) * 64 + d.val) / 2048 = a.val by omega, show (((a.val * 4 + b.val) * 8 + c.val) * 64 + d.val) % 2048 = 64 * (8 * b.val + c.val) + d.val by omega]

theorem isv4 (H : Given A x0 x1 x2 x3 x4) : Is3 (A := 4096) (B := 4) (C := 128) (val_main_v4 (F := Ideal) x0) fun t g n => A.b t (128 * g + n) := by
  intro a b c
  have ha := a.isLt
  have hb := b.isLt
  have hc := c.isLt
  refine (val_main_v4_apply (F := Ideal) x0 (ix3 a b c)).trans (((isv1 H).at _).trans (congrArg _ ?_))
  show A.b (((a.val * 4 + b.val) * 128 + c.val) / 512) (((a.val * 4 + b.val) * 128 + c.val) % 512) = A.b a.val (128 * b.val + c.val)
  rw [show ((a.val * 4 + b.val) * 128 + c.val) / 512 = a.val by omega, show ((a.val * 4 + b.val) * 128 + c.val) % 512 = 128 * b.val + c.val by omega]

theorem isv5 (H : Given A x0 x1 x2 x3 x4) : Is3 (A := 4096) (B := 4) (C := 128) (val_main_v5 (F := Ideal) x0) fun t g n => A.c t (128 * g + n) := by
  intro a b c
  have ha := a.isLt
  have hb := b.isLt
  have hc := c.isLt
  refine (val_main_v5_apply (F := Ideal) x0 (ix3 a b c)).trans (((isv2 H).at _).trans (congrArg _ ?_))
  show A.c (((a.val * 4 + b.val) * 128 + c.val) / 512) (((a.val * 4 + b.val) * 128 + c.val) % 512) = A.c a.val (128 * b.val + c.val)
  rw [show ((a.val * 4 + b.val) * 128 + c.val) / 512 = a.val by omega, show ((a.val * 4 + b.val) * 128 + c.val) % 512 = 128 * b.val + c.val by omega]

theorem isv6 (H : Given A x0 x1 x2 x3 x4) : Is3 (A := 4096) (B := 4) (C := 8) (val_main_v6 (F := Ideal) x1) fun t g j => A.dt t (8 * g + j) := by
  intro a b c
  have ha := a.isLt
  have hb := b.isLt
  have hc := c.isLt
  refine (val_main_v6_apply (F := Ideal) x1 (ix3 a b c)).trans ((H.dt.at _).trans (congrArg _ ?_))
  show A.dt (((a.val * 4 + b.val) * 8 + c.val) / 32) (((a.val * 4 + b.val) * 8 + c.val) % 32) = A.dt a.val (8 * b.val + c.val)
  rw [show ((a.val * 4 + b.val) * 8 + c.val) / 32 = a.val by omega, show ((a.val * 4 + b.val) * 8 + c.val) % 32 = 8 * b.val + c.val by omega]

theorem isv7 (H : Given A x0 x1 x2 x3 x4) : Is4 (A := 4096) (B := 4) (C := 8) (D := 1) (val_main_v7 (F := Ideal) x1) fun t g j _ => A.dt t (8 * g + j) := by
  intro a b c d
  exact (val_main_v7_apply (F := Ideal) x1 (ix4 a b c d)).trans ((isv6 H).at _)

theorem isv8 (H : Given A x0 x1 x2 x3 x4) : Is4 (A := 4096) (B := 4) (C := 8) (D := 64) (val_main_v8 (F := Ideal) x1) fun t g j _ => A.dt t (8 * g + j) := by
  intro a b c d
  exact (val_main_v8_apply (F := Ideal) x1 (ix4 a b c d)).trans ((isv7 H).at _)

theorem isv9 (H : Given A x0 x1 x2 x3 x4) : Is4 (A := 4096) (B := 4) (C := 8) (D := 64) (val_main_v9 (F := Ideal) x0 x1) fun t g j p => A.X (8 * g + j) t p :=
  Is4.mulf (isv3 H) (isv8 H)

theorem isv10 (H : Given A x0 x1 x2 x3 x4) : Is (M := 4) (N := 8) (val_main_v10 (F := Ideal) x2) fun g j => A.a (8 * g + j) := by
  intro a b
  have ha := a.isLt
  have hb := b.isLt
  refine (val_main_v10_apply (F := Ideal) x2 (ix2 a b)).trans ((H.a.at _).trans (congrArg _ ?_))
  show A.a (a.val * 8 + b.val) = A.a (8 * a.val + b.val)
  rw [mul_comm]

theorem isv11 (H : Given A x0 x1 x2 x3 x4) : Is3 (A := 1) (B := 4) (C := 8) (val_main_v11 (F := Ideal) x2) fun _ g j => A.a (8 * g + j) := by
  intro a b c
  exact (val_main_v11_apply (F := Ideal) x2 (ix3 a b c)).trans ((isv10 H).at _)

theorem isv12 (H : Given A x0 x1 x2 x3 x4) : Is3 (A := 4096) (B := 4) (C := 8) (val_main_v12 (F := Ideal) x2) fun _ g j => A.a (8 * g + j) := by
  intro a b c
  exact (val_main_v12_apply (F := Ideal) x2 (ix3 a b c)).trans ((isv11 H).at _)

theorem isv13 (H : Given A x0 x1 x2 x3 x4) : Is3 (A := 4096) (B := 4) (C := 8) (val_main_v13 (F := Ideal) x1 x2) fun t g j => A.dt t (8 * g + j) * A.a (8 * g + j) :=
  Is3.mulf (isv6 H) (isv12 H)

theorem zero0 : (val_main_call0_call0_v0 (F := Ideal)) (Shape.Idx.first h_S_) = (0 : EReal) := by
  show Ideal.ofBits .f32 0x00000000#32 = _
  exact Ideal.ofBits_zero_f32

theorem isv14 (H : Given A x0 x1 x2 x3 x4) : Is3 (A := 4096) (B := 4) (C := 8) (val_main_v14 (F := Ideal) x1 x2) fun t g j => A.P (8 * g + j) (t + 1) :=
  Is3.cumsum (N := 4096) (M := 4095) rfl (isv13 H) reduceWindows_S4096x4x8_S4096x4x8_w4096s1p4095_0_w1s1p0_0_w1s1p0_0 h_S_ zero0

theorem isv15 (H : Given A x0 x1 x2 x3 x4) : Is3 (A := 4) (B := 8) (C := 4096) (val_main_v15 (F := Ideal) x1 x2) fun g j t => A.P (8 * g + j) (t + 1) := by
  intro a b c
  exact (val_main_v15_apply (F := Ideal) x1 x2 (ix3 a b c)).trans ((isv14 H).at _)

theorem isv18 (H : Given A x0 x1 x2 x3 x4) : Is4 (A := 4) (B := 8) (C := 4096) (D := 1) (val_main_v18 (F := Ideal) x1 x2) fun g j t _ => A.P (8 * g + j) (t + 1) := by
  intro a b c d
  exact (val_main_v18_apply (F := Ideal) x1 x2 (ix4 a b c d)).trans ((isv15 H).at _)

theorem isv19 (H : Given A x0 x1 x2 x3 x4) : Is4 (A := 4) (B := 8) (C := 1) (D := 4096) (val_main_v19 (F := Ideal) x1 x2) fun g j _ s => A.P (8 * g + j) (s + 1) := by
  intro a b c d
  exact (val_main_v19_apply (F := Ideal) x1 x2 (ix4 a b c d)).trans ((isv15 H).at _)

theorem isv20 (H : Given A x0 x1 x2 x3 x4) : Is4 (A := 4) (B := 8) (C := 4096) (D := 4096) (val_main_v20 (F := Ideal) x1 x2) fun g j t _ => A.P (8 * g + j) (t + 1) := by
  intro a b c d
  exact (val_main_v20_apply (F := Ideal) x1 x2 (ix4 a b c d)).trans ((isv18 H).at _)

theorem isv21 (H : Given A x0 x1 x2 x3 x4) : Is4 (A := 4) (B := 8) (C := 4096) (D := 4096) (val_main_v21 (F := Ideal) x1 x2) fun g j _ s => A.P (8 * g + j) (s + 1) := by
  intro a b c d
  exact (val_main_v21_apply (F := Ideal) x1 x2 (ix4 a b c d)).trans ((isv19 H).at _)

theorem isv22 (H : Given A x0 x1 x2 x3 x4) : Is4 (A := 4) (B := 8) (C := 4096) (D := 4096) (val_main_v22 (F := Ideal) x1 x2) fun g j t s => A.P (8 * g + j) (t + 1) - A.P (8 * g + j) (s + 1) :=
  Is4.subf (isv20 H) (isv21 H)

theorem isv31 (H : Given A x0 x1 x2 x3 x4) : Is (M := 4) (N := 8) (val_main_v31 (F := Ideal) x3) fun g j => A.d (8 * g + j) := by
  intro a b
  have ha := a.isLt
  have hb := b.isLt
  refine (val_main_v31_apply (F := Ideal) x3 (ix2 a b)).trans ((H.d.at _).trans (congrArg _ ?_))
  show A.d (a.val * 8 + b.val) = A.d (8 * a.val + b.val)
  rw [mul_comm]

theorem isv32 (H : Given A x0 x1 x2 x3 x4) : Is3 (A := 4) (B := 8) (C := 1) (val_main_v32 (F := Ideal) x3) fun g j _ => A.d (8 * g + j) := by
  intro a b c
  exact (val_main_v32_apply (F := Ideal) x3 (ix3 a b c)).trans ((isv31 H).at _)

theorem isv33 (H : Given A x0 x1 x2 x3 x4) : Is4 (A := 1) (B := 4) (C := 8) (D := 1) (val_main_v33 (F := Ideal) x3) fun _ g j _ => A.d (8 * g + j) := by
  intro a b c d
  exact (val_main_v33_apply (F := Ideal) x3 (ix4 a b c d)).trans ((isv32 H).at _)

theorem isv38 (H : Given A x0 x1 x2 x3 x4) : Is4 (A := 4096) (B := 4) (C := 8) (D := 64) (val_main_v38 (F := Ideal) x4) fun t g j p => A.Y (8 * g + j) t p := by
  intro a b c d
  have ha := a.isLt
  have hb := b.isLt
  have hc := c.isLt
  have hd := d.isLt
  refine (val_main_v38_apply (F := Ideal) x4 (ix4 a b c d)).trans ((H.dy.at _).trans (congrArg _ ?_))
  show A.dy ((((a.val * 4 + b.val) * 8 + c.val) * 64 + d.val) / 2048) ((((a.val * 4 + b.val) * 8 + c.val) * 64 + d.val) % 2048) = A.dy a.val (64 * (8 * b.val + c.val) + d.val)
  rw [show (((a.val * 4 + b.val) * 8 + c.val) * 64 + d.val) / 2048 = a.val by omega, show (((a.val * 4 + b.val) * 8 + c.val) * 64 + d.val) % 2048 = 64 * (8 * b.val + c.val) + d.val by omega]

theorem isv42 (H : Given A x0 x1 x2 x3 x4) : Is4 (A := 4096) (B := 4) (C := 8) (D := 64) (val_main_v42 (F := Ideal) x3) fun _ g j _ => A.d (8 * g + j) := by
  intro a b c d
  exact (val_main_v42_apply (F := Ideal) x3 (ix4 a b c d)).trans ((isv33 H).at _)

theorem isv43 (H : Given A x0 x1 x2 x3 x4) : Is4 (A := 4096) (B := 4) (C := 8) (D := 64) (val_main_v43 (F := Ideal) x3 x4) fun t g j p => A.Y (8 * g + j) t p * A.d (8 * g + j) :=
  Is4.mulf (isv38 H) (isv42 H)

theorem isv48 (H : Given A x0 x1 x2 x3 x4) : Is4 (A := 4) (B := 8) (C := 64) (D := 4096) (val_main_v48 (F := Ideal) x4) fun g j p t => A.Y (8 * g + j) t p := by
  intro a b c d
  exact (val_main_v48_apply (F := Ideal) x4 (ix4 a b c d)).trans ((isv38 H).at _)

theorem isv84 (H : Given A x0 x1 x2 x3 x4) : Is4 (A := 4096) (B := 4) (C := 8) (D := 64) (val_main_v84 (F := Ideal) x1) fun t g j _ => A.dt t (8 * g + j) := by
  intro a b c d
  exact (val_main_v84_apply (F := Ideal) x1 (ix4 a b c d)).trans ((isv7 H).at _)

theorem isv77 (H : Given A x0 x1 x2 x3 x4) : Is3 (A := 4096) (B := 4) (C := 8) (val_main_v77 (F := Ideal) x2) fun _ g j => A.a (8 * g + j) := by
  intro a b c
  exact (val_main_v77_apply (F := Ideal) x2 (ix3 a b c)).trans ((isv11 H).at _)

end

end Scan.Ref
-- ==== Proof.Scan.RefScores.lean ====
/- The reference's table of decays, of scores and of pairings, and how much flows between two tokens. -/
module

public import proofs.«01_k».proof.Proof.Scan.RefLeaves

@[expose] public section

namespace Scan.Ref

open Idealize.ShloMosaic Idealize.ShloMosaic.ValueIdx Finset
open Cert.ReferenceIdeal Cert.ReferenceIdeal.Gen Cert.ReferenceIdeal.Read
open scoped BigOperators

noncomputable section

variable {A : Args} {x0 : FVec Ideal S4096x3072 .f32} {x1 : FVec Ideal S4096x32 .f32} {x2 x3 : FVec Ideal S32 .f32} {x4 : FVec Ideal S4096x2048 .f32}

/-- A dot of two lines of reals. -/
theorem dotLine {K : ℕ} {f g : Fin K → EReal} {p q : ℕ → ℝ} (hf : ∀ k, f k = ((p k.val : ℝ) : EReal)) (hg : ∀ k, g k = ((q k.val : ℝ) : EReal)) :
    ∑ k : Fin K, f k * g k = ((∑ k ∈ range K, p k * q k : ℝ) : EReal) := by
  rw [← sum_coe K fun k => p k * q k]
  exact sum_congr rfl fun k _ => by rw [hf, hg]; exact (EReal.coe_mul _ _).symm

/-- A sum of a line of reals, started from zero. -/
theorem sumLine {K : ℕ} {f : Fin K → EReal} {p : ℕ → ℝ} (hf : ∀ k, f k = ((p k.val : ℝ) : EReal)) :
    (FloatOps.ofBits (F := Ideal) .f32 0x00000000#32 : EReal) + ∑ k : Fin K, f k = ((∑ k ∈ range K, p k : ℝ) : EReal) := by
  rw [fromZero, ← sum_coe K p]
  exact sum_congr rfl fun k _ => hf k

/-- A sum of one real, started from zero. -/
theorem sumOne {f : Fin 1 → EReal} {p : ℝ} (hf : f 0 = ((p : ℝ) : EReal)) :
    (FloatOps.ofBits (F := Ideal) .f32 0x00000000#32 : EReal) + ∑ k : Fin 1, f k = ((p : ℝ) : EReal) := by
  rw [fromZero, Fin.sum_univ_one, hf]

/-- How strongly token `t` reads, in group `g`, what token `s` wrote. -/
def gr (A : Args) (g t s : ℕ) : ℝ := ∑ n ∈ range 128, A.c t (128 * g + n) * A.b s (128 * g + n)
/-- The arriving gradient at `t` against the scaled input at `s`. -/
def pr (A : Args) (h t s : ℕ) : ℝ := ∑ p ∈ range 64, A.Y h t p * A.X h s p
/-- What is left at `t` of what `s` wrote. -/
def de (A : Args) (h t s : ℕ) : ℝ := decay (A.P h) t s

theorem gram_group {A : Args} {g j : ℕ} (hj : j < 8) (t s : ℕ) : gram 128 (A.C (8 * g + j)) (A.B (8 * g + j)) t s = gr A g t s := by
  unfold gram gr Args.C Args.B
  rw [show (8 * g + j) / 8 = g by omega]

theorem negInf : Ideal.ofBits .f32 0xFF800000#32 = ⊥ := by simp [Ideal.ofBits, Ideal.ieee]

theorem small (n : ℕ) (hn : n < 4096) : (BitVec.ofNat 32 n).toInt = n := by
  rw [BitVec.toInt_eq_toNat_of_lt (by rw [BitVec.toNat_ofNat, Nat.mod_eq_of_lt (by omega)]; omega), BitVec.toNat_ofNat, Nat.mod_eq_of_lt (by omega)]

/-- The triangle of ones. -/
theorem mask (t s : Fin 4096) : (s.val ≤ t.val → (val_main_v17 (F := Ideal)) (ix2 t s) = 1#1) ∧ (¬ s.val ≤ t.val → (val_main_v17 (F := Ideal)) (ix2 t s) = 0#1) := by
  have e : (val_main_v17 (F := Ideal)) (ix2 t s)
      = Scalar.select (IntOp.cmpi .sge (IntOp.addi (BitVec.ofNat 32 t.val) 0#32) (BitVec.ofNat 32 s.val)) 1#1 0#1 := by
    rw [val_main_v17_apply, val_main_call1_v4_apply, val_main_call1_v2_apply, val_main_call1_v1_apply, val_main_call1_v5_apply, val_main_v16_apply]
    rfl
  have h : IntOp.cmpi .sge (IntOp.addi (BitVec.ofNat 32 t.val) 0#32) (BitVec.ofNat 32 s.val) = if s.val ≤ t.val then 1#1 else 0#1 := by
    have ht := t.isLt
    have hs := s.isLt
    show BitVec.ofBool (BitVec.sle (BitVec.ofNat 32 s.val) (BitVec.ofNat 32 t.val + 0#32)) = _
    have hle : BitVec.sle (BitVec.ofNat 32 s.val) (BitVec.ofNat 32 t.val + 0#32) = decide (s.val ≤ t.val) := by
      have e1 : (BitVec.ofNat 32 s.val).toInt = s.val := by
        exact small _ (by omega)
      have e2 : (BitVec.ofNat 32 t.val).toInt = t.val := by
        exact small _ (by omega)
      rw [BitVec.add_zero, BitVec.sle, e1, e2]
      exact decide_eq_decide.2 Int.ofNat_le
    rw [hle]
    by_cases hp : s.val ≤ t.val
    · simp [hp]
    · simp [hp]
  rw [e, h]
  exact ⟨fun hp => by rw [if_pos hp]; exact select_one _ _, fun hp => by rw [if_neg hp]; exact select_zero _ _⟩

theorem maskAll (a : Fin 4) (b : Fin 8) (t s : Fin 4096) :
    (s.val ≤ t.val → (val_main_v23_1 (F := Ideal)) (ix4 a b t s) = 1#1) ∧ (¬ s.val ≤ t.val → (val_main_v23_1 (F := Ideal)) (ix4 a b t s) = 0#1) := by
  have e : (val_main_v23_1 (F := Ideal)) (ix4 a b t s) = (val_main_v17 (F := Ideal)) (ix2 t s) :=
    (val_main_v23_1_apply (F := Ideal) (ix4 a b t s)).trans (congrArg _ (eq_ix2 _))
  rw [e]
  exact mask t s

theorem isv24 (H : Given A x0 x1 x2 x3 x4) : Is4 (A := 4) (B := 8) (C := 4096) (D := 4096) (val_main_v24 (F := Ideal) x1 x2) fun g j t s => de A (8 * g + j) t s := by
  intro a b t s
  have e : (val_main_v24 (F := Ideal) x1 x2) (ix4 a b t s)
      = Ideal.exp (Scalar.select ((val_main_v23_1 (F := Ideal)) (ix4 a b t s)) ((val_main_v22 (F := Ideal) x1 x2) (ix4 a b t s)) (Ideal.ofBits .f32 0xFF800000#32)) := by
    rw [val_main_v24_apply, val_main_v23_0_apply, val_main_call2_v2_apply]
    rfl
  rw [e]
  show _ = ((decay (A.P (8 * a.val + b.val)) t.val s.val : ℝ) : EReal)
  unfold decay
  by_cases hp : s.val ≤ t.val
  · rw [(maskAll a b t s).1 hp, select_one, isv22 H a b t s, if_pos hp]; rfl
  · rw [(maskAll a b t s).2 hp, select_zero, if_neg hp, negInf]; rfl

theorem isv25 (H : Given A x0 x1 x2 x3 x4) : Is3 (A := 4) (B := 4096) (C := 4096) (val_main_v25 (F := Ideal) x0) fun g t s => gr A g t s := by
  intro a b c
  exact (val_main_v25_apply x0 (ix3 a b c)).trans (dotLine (p := fun k => A.c b.val (128 * a.val + k)) (q := fun k => A.b c.val (128 * a.val + k)) (fun k => (isv5 H).at _) fun k => (isv4 H).at _)

theorem isv26 (H : Given A x0 x1 x2 x3 x4) : Is4 (A := 4) (B := 1) (C := 4096) (D := 4096) (val_main_v26 (F := Ideal) x0) fun g _ t s => gr A g t s := by
  intro a b c d
  exact (val_main_v26_apply (F := Ideal) x0 (ix4 a b c d)).trans ((isv25 H).at _)

theorem isv27 (H : Given A x0 x1 x2 x3 x4) : Is4 (A := 4) (B := 8) (C := 4096) (D := 4096) (val_main_v27 (F := Ideal) x0) fun g _ t s => gr A g t s := by
  intro a b c d
  exact (val_main_v27_apply (F := Ideal) x0 (ix4 a b c d)).trans ((isv26 H).at _)

theorem isv52 (H : Given A x0 x1 x2 x3 x4) : Is4 (A := 4) (B := 8) (C := 4096) (D := 4096) (val_main_v52 (F := Ideal) x0) fun g _ t s => gr A g t s := by
  intro a b c d
  exact (val_main_v52_apply (F := Ideal) x0 (ix4 a b c d)).trans ((isv26 H).at _)

theorem isv28 (H : Given A x0 x1 x2 x3 x4) : Is4 (A := 4) (B := 8) (C := 4096) (D := 4096) (val_main_v28 (F := Ideal) x0 x1 x2) fun g j t s => gr A g t s * de A (8 * g + j) t s :=
  Is4.mulf (isv27 H) (isv24 H)

theorem isv49 (H : Given A x0 x1 x2 x3 x4) : Is4 (A := 4) (B := 8) (C := 4096) (D := 4096) (val_main_v49 (F := Ideal) x0 x1 x4) fun g j t s => pr A (8 * g + j) t s := by
  intro a b c d
  exact (val_main_v49_apply x0 x1 x4 (ix4 a b c d)).trans (dotLine (p := fun k => A.Y (8 * a.val + b.val) c.val k) (q := fun k => A.X (8 * a.val + b.val) d.val k) (fun k => (isv48 H).at _) fun k => (isv9 H).at _)

theorem isv53 (H : Given A x0 x1 x2 x3 x4) : Is4 (A := 4) (B := 8) (C := 4096) (D := 4096) (val_main_v53 (F := Ideal) x0 x1 x4) fun g j t s => gr A g t s * pr A (8 * g + j) t s :=
  Is4.mulf (isv52 H) (isv49 H)

theorem isv54 (H : Given A x0 x1 x2 x3 x4) : Is4 (A := 4) (B := 8) (C := 4096) (D := 4096) (val_main_v54 (F := Ideal) x0 x1 x2 x4) fun g j t s => pr A (8 * g + j) t s * de A (8 * g + j) t s :=
  Is4.mulf (isv49 H) (isv24 H)

theorem isv62 (H : Given A x0 x1 x2 x3 x4) : Is4 (A := 4) (B := 8) (C := 4096) (D := 4096) (val_main_v62 (F := Ideal) x0 x1 x2 x4) fun g j t s => gr A g t s * pr A (8 * g + j) t s * de A (8 * g + j) t s :=
  Is4.mulf (isv53 H) (isv24 H)

/-- The flow in a head, written with the group's scores. -/
theorem flow_group {g j : ℕ} (hj : j < 8) (t s : ℕ) : A.fl (8 * g + j) t s = gr A g t s * pr A (8 * g + j) t s * de A (8 * g + j) t s := by
  show decay _ t s * gram 128 _ _ t s * pair 64 _ _ t s = _
  rw [gram_group hj]
  show de A (8 * g + j) t s * gr A g t s * pr A (8 * g + j) t s = _
  ring

theorem isv63 (H : Given A x0 x1 x2 x3 x4) : Is4 (A := 4) (B := 8) (C := 4096) (D := 4096) (val_main_v63 (F := Ideal) x0 x1 x2 x4) fun g j t s => A.fl (8 * g + j) t s := by
  intro a b t s
  rw [val_main_v63_apply, val_main_call3_v0_apply]
  show _ = ((A.fl (8 * a.val + b.val) t.val s.val : ℝ) : EReal)
  rw [flow_group b.isLt]
  by_cases hp : s.val ≤ t.val
  · rw [(maskAll a b t s).1 hp, select_one]
    exact isv62 H a b t s
  · rw [(maskAll a b t s).2 hp, select_zero, show de A (8 * a.val + b.val) t.val s.val = 0 from if_neg hp, mul_zero]
    exact Ideal.ofBits_zero_f32

end

end Scan.Ref
-- ==== Proof.Scan.RefGrads.lean ====
/- The reference's gradients of the scaled input and of the two projections, and the net flow into each token. -/
module

public import proofs.«01_k».proof.Proof.Scan.RefScores

@[expose] public section

namespace Scan.Ref

open Idealize.ShloMosaic Idealize.ShloMosaic.ValueIdx Finset
open Cert.ReferenceIdeal Cert.ReferenceIdeal.Gen Cert.ReferenceIdeal.Read
open scoped BigOperators

noncomputable section

variable {A : Args} {x0 : FVec Ideal S4096x3072 .f32} {x1 : FVec Ideal S4096x32 .f32} {x2 x3 : FVec Ideal S32 .f32} {x4 : FVec Ideal S4096x2048 .f32}

/-- A head's share of a group's scores' gradient, over the group's heads. -/
def sc (A : Args) (g t s : ℕ) : ℝ := ∑ j ∈ range 8, pr A (8 * g + j) t s * de A (8 * g + j) t s

theorem isv50 (H : Given A x0 x1 x2 x3 x4) : Is4 (A := 4) (B := 8) (C := 64) (D := 4096) (val_main_v50 (F := Ideal) x0 x1 x2 x4) fun g j p s => ∑ t ∈ range 4096, A.Y (8 * g + j) t p * (gr A g t s * de A (8 * g + j) t s) := by
  intro a b c d
  exact (val_main_v50_apply x0 x1 x2 x4 (ix4 a b c d)).trans (dotLine (p := fun k => A.Y (8 * a.val + b.val) k c.val) (q := fun k => gr A a.val k d.val * de A (8 * a.val + b.val) k d.val) (fun k => (isv48 H).at _) fun k => (isv28 H).at _)

theorem isv51 (H : Given A x0 x1 x2 x3 x4) : Is4 (A := 4096) (B := 4) (C := 8) (D := 64) (val_main_v51 (F := Ideal) x0 x1 x2 x4) fun s g j p => A.inG (8 * g + j) s p := by
  intro a b c d
  refine (val_main_v51_apply (F := Ideal) x0 x1 x2 x4 (ix4 a b c d)).trans (((isv50 H).at _).trans (congrArg _ ?_))
  show (∑ t ∈ range 4096, A.Y (8 * b.val + c.val) t d.val * (gr A b.val t a.val * de A (8 * b.val + c.val) t a.val)) = A.inG (8 * b.val + c.val) a.val d.val
  unfold Args.inG
  refine sum_congr rfl fun t _ => ?_
  rw [gram_group c.isLt]
  show _ = de A (8 * b.val + c.val) t a.val * gr A b.val t a.val * A.Y (8 * b.val + c.val) t d.val
  ring

theorem isv55 (H : Given A x0 x1 x2 x3 x4) : Is3 (A := 4) (B := 4096) (C := 4096) (val_main_v55 (F := Ideal) x0 x1 x2 x4) fun g t s => sc A g t s := by
  intro a b c
  exact (val_main_v55_apply x0 x1 x2 x4 (ix3 a b c)).trans (sumLine (p := fun k => pr A (8 * a.val + k) b.val c.val * de A (8 * a.val + k) b.val c.val) fun k => (isv54 H).at _)

theorem isv56 (H : Given A x0 x1 x2 x3 x4) : Is4 (A := 4) (B := 1) (C := 4096) (D := 4096) (val_main_v56 (F := Ideal) x0 x1 x2 x4) fun g _ t s => sc A g t s := by
  intro a b c d
  have ha := a.isLt
  have hb := b.isLt
  have hc := c.isLt
  have hd := d.isLt
  refine (val_main_v56_apply (F := Ideal) x0 x1 x2 x4 (ix4 a b c d)).trans (((isv55 H).at _).trans (congrArg _ ?_))
  show sc A ((((a.val * 1 + b.val) * 4096 + c.val) * 4096 + d.val) / 16777216) ((((a.val * 1 + b.val) * 4096 + c.val) * 4096 + d.val) / 4096 % 4096) ((((a.val * 1 + b.val) * 4096 + c.val) * 4096 + d.val) % 4096) = sc A a.val c.val d.val
  rw [show (((a.val * 1 + b.val) * 4096 + c.val) * 4096 + d.val) / 16777216 = a.val by omega,
    show (((a.val * 1 + b.val) * 4096 + c.val) * 4096 + d.val) / 4096 % 4096 = c.val by omega,
    show (((a.val * 1 + b.val) * 4096 + c.val) * 4096 + d.val) % 4096 = d.val by omega]

theorem isv57 (H : Given A x0 x1 x2 x3 x4) : Is3 (A := 4) (B := 4096) (C := 4096) (val_main_v57 (F := Ideal) x0 x1 x2 x4) fun g t s => sc A g t s := by
  intro a b c
  exact (val_main_v57_apply x0 x1 x2 x4 (ix3 a b c)).trans (sumOne ((isv56 H).at _))

theorem isv58 (H : Given A x0 x1 x2 x3 x4) : Is3 (A := 4) (B := 4096) (C := 128) (val_main_v58 (F := Ideal) x0 x1 x2 x4) fun g s n => ∑ t ∈ range 4096, sc A g t s * A.c t (128 * g + n) := by
  intro a b c
  exact (val_main_v58_apply x0 x1 x2 x4 (ix3 a b c)).trans (dotLine (p := fun k => sc A a.val k b.val) (q := fun k => A.c k (128 * a.val + c.val)) (fun k => (isv57 H).at _) fun k => (isv5 H).at _)

theorem isv60 (H : Given A x0 x1 x2 x3 x4) : Is3 (A := 4) (B := 4096) (C := 128) (val_main_v60 (F := Ideal) x0 x1 x2 x4) fun g t n => ∑ s ∈ range 4096, sc A g t s * A.b s (128 * g + n) := by
  intro a b c
  exact (val_main_v60_apply x0 x1 x2 x4 (ix3 a b c)).trans (dotLine (p := fun k => sc A a.val b.val k) (q := fun k => A.b k (128 * a.val + c.val)) (fun k => (isv57 H).at _) fun k => (isv4 H).at _)

theorem isv59 (H : Given A x0 x1 x2 x3 x4) : Is3 (A := 4096) (B := 4) (C := 128) (val_main_v59 (F := Ideal) x0 x1 x2 x4) fun t g n => A.bG g t n := by
  intro a b c
  refine (val_main_v59_apply (F := Ideal) x0 x1 x2 x4 (ix3 a b c)).trans (((isv58 H).at _).trans (congrArg _ ?_))
  show (∑ k ∈ range 4096, sc A b.val k a.val * A.c k (128 * b.val + c.val)) = A.bG b.val a.val c.val
  unfold Args.bG
  rw [sum_comm]
  refine sum_congr rfl fun k _ => ?_
  unfold sc
  rw [sum_mul]
  rfl

theorem isv61 (H : Given A x0 x1 x2 x3 x4) : Is3 (A := 4096) (B := 4) (C := 128) (val_main_v61 (F := Ideal) x0 x1 x2 x4) fun t g n => A.cG g t n := by
  intro a b c
  refine (val_main_v61_apply (F := Ideal) x0 x1 x2 x4 (ix3 a b c)).trans (((isv60 H).at _).trans (congrArg _ ?_))
  show (∑ k ∈ range 4096, sc A b.val a.val k * A.b k (128 * b.val + c.val)) = A.cG b.val a.val c.val
  unfold Args.cG
  rw [sum_comm]
  refine sum_congr rfl fun k _ => ?_
  unfold sc
  rw [sum_mul]
  rfl

/-- What leaves a token's past and what it receives, in one head. -/
def got (A : Args) (h t : ℕ) : ℝ := ∑ s ∈ range 4096, A.fl h t s
def lost (A : Args) (h s : ℕ) : ℝ := ∑ t ∈ range 4096, -A.fl h t s

theorem isv64 (H : Given A x0 x1 x2 x3 x4) : Is3 (A := 4) (B := 8) (C := 4096) (val_main_v64 (F := Ideal) x0 x1 x2 x4) fun g j t => got A (8 * g + j) t := by
  intro a b c
  exact (val_main_v64_apply x0 x1 x2 x4 (ix3 a b c)).trans (sumLine (p := fun k => A.fl (8 * a.val + b.val) c.val k) fun k => (isv63 H).at _)

theorem isv65 (H : Given A x0 x1 x2 x3 x4) : Is4 (A := 4) (B := 8) (C := 4096) (D := 1) (val_main_v65 (F := Ideal) x0 x1 x2 x4) fun g j t _ => got A (8 * g + j) t := by
  intro a b c d
  have ha := a.isLt
  have hb := b.isLt
  have hc := c.isLt
  have hd := d.isLt
  refine (val_main_v65_apply (F := Ideal) x0 x1 x2 x4 (ix4 a b c d)).trans (((isv64 H).at _).trans (congrArg _ ?_))
  show got A (8 * ((((a.val * 8 + b.val) * 4096 + c.val) * 1 + d.val) / 32768) + (((a.val * 8 + b.val) * 4096 + c.val) * 1 + d.val) / 4096 % 8) ((((a.val * 8 + b.val) * 4096 + c.val) * 1 + d.val) % 4096) = got A (8 * a.val + b.val) c.val
  rw [show (((a.val * 8 + b.val) * 4096 + c.val) * 1 + d.val) / 32768 = a.val by omega, show (((a.val * 8 + b.val) * 4096 + c.val) * 1 + d.val) / 4096 % 8 = b.val by omega, show (((a.val * 8 + b.val) * 4096 + c.val) * 1 + d.val) % 4096 = c.val by omega]

theorem isv66 (H : Given A x0 x1 x2 x3 x4) : Is4 (A := 4) (B := 8) (C := 4096) (D := 4096) (val_main_v66 (F := Ideal) x0 x1 x2 x4) fun g j t s => -A.fl (8 * g + j) t s := by
  intro a b c d
  rw [EReal.coe_neg, ← isv63 H a b c d]
  rfl

theorem isv67 (H : Given A x0 x1 x2 x3 x4) : Is3 (A := 4) (B := 8) (C := 4096) (val_main_v67 (F := Ideal) x0 x1 x2 x4) fun g j s => lost A (8 * g + j) s := by
  intro a b c
  exact (val_main_v67_apply x0 x1 x2 x4 (ix3 a b c)).trans (sumLine (p := fun k => -A.fl (8 * a.val + b.val) k c.val) fun k => (isv66 H).at _)

theorem isv68 (H : Given A x0 x1 x2 x3 x4) : Is4 (A := 4) (B := 8) (C := 1) (D := 4096) (val_main_v68 (F := Ideal) x0 x1 x2 x4) fun g j _ s => lost A (8 * g + j) s := by
  intro a b c d
  have ha := a.isLt
  have hb := b.isLt
  have hc := c.isLt
  have hd := d.isLt
  refine (val_main_v68_apply (F := Ideal) x0 x1 x2 x4 (ix4 a b c d)).trans (((isv67 H).at _).trans (congrArg _ ?_))
  show lost A (8 * ((((a.val * 8 + b.val) * 1 + c.val) * 4096 + d.val) / 32768) + (((a.val * 8 + b.val) * 1 + c.val) * 4096 + d.val) / 4096 % 8) ((((a.val * 8 + b.val) * 1 + c.val) * 4096 + d.val) % 4096) = lost A (8 * a.val + b.val) d.val
  rw [show (((a.val * 8 + b.val) * 1 + c.val) * 4096 + d.val) / 32768 = a.val by omega, show (((a.val * 8 + b.val) * 1 + c.val) * 4096 + d.val) / 4096 % 8 = b.val by omega, show (((a.val * 8 + b.val) * 1 + c.val) * 4096 + d.val) % 4096 = d.val by omega]

theorem isv69 (H : Given A x0 x1 x2 x3 x4) : Is3 (A := 4) (B := 8) (C := 4096) (val_main_v69 (F := Ideal) x0 x1 x2 x4) fun g j s => lost A (8 * g + j) s := by
  intro a b c
  exact (val_main_v69_apply x0 x1 x2 x4 (ix3 a b c)).trans (sumOne ((isv68 H).at _))

theorem isv70 (H : Given A x0 x1 x2 x3 x4) : Is3 (A := 4) (B := 8) (C := 4096) (val_main_v70 (F := Ideal) x0 x1 x2 x4) fun g j s => got A (8 * g + j) s := by
  intro a b c
  exact (val_main_v70_apply x0 x1 x2 x4 (ix3 a b c)).trans (sumOne ((isv65 H).at _))

theorem isv71 (H : Given A x0 x1 x2 x3 x4) : Is3 (A := 4) (B := 8) (C := 4096) (val_main_v71 (F := Ideal) x0 x1 x2 x4) fun g j t => lost A (8 * g + j) t + got A (8 * g + j) t :=
  Is3.addf (isv69 H) (isv70 H)

theorem isv72 (H : Given A x0 x1 x2 x3 x4) : Is3 (A := 4096) (B := 4) (C := 8) (val_main_v72 (F := Ideal) x0 x1 x2 x4) fun t g j => lost A (8 * g + j) t + got A (8 * g + j) t := by
  intro a b c
  exact (val_main_v72_apply (F := Ideal) x0 x1 x2 x4 (ix3 a b c)).trans ((isv71 H).at _)

theorem zero4 : (val_main_call4_call0_v0 (F := Ideal)) (Shape.Idx.first h_S_) = (0 : EReal) := by
  show Ideal.ofBits .f32 0x00000000#32 = _
  exact Ideal.ofBits_zero_f32

theorem tail_eq (h t : ℕ) : ∑ v ∈ Ico t 4096, (lost A h v + got A h v) = A.tl h t := by
  unfold Args.tl
  refine sum_congr rfl fun v _ => ?_
  unfold lost got
  rw [sum_neg_distrib]
  ring

theorem isv73 (H : Given A x0 x1 x2 x3 x4) : Is3 (A := 4096) (B := 4) (C := 8) (val_main_v73 (F := Ideal) x0 x1 x2 x4) fun t g j => A.tl (8 * g + j) t := by
  intro a b c
  have e := Is3.cumsumBack (φ := .f32) (N := 4096) (M := 4095) rfl (isv72 H) reduceWindows_S4096x4x8_S4096x4x8_w4096s1p0_4095_w1s1p0_0_w1s1p0_0 h_S_ zero4 a b c
  exact e.trans (congrArg _ (tail_eq _ _))

end

end Scan.Ref
-- ==== Proof.Scan.RefOuts.lean ====
/- The reference's four results. -/
module

public import proofs.«01_k».proof.Proof.Scan.RefGrads

@[expose] public section

namespace Scan.Ref

open Idealize.ShloMosaic Idealize.ShloMosaic.ValueIdx Finset
open Cert.ReferenceIdeal Cert.ReferenceIdeal.Gen Cert.ReferenceIdeal.Read
open scoped BigOperators

noncomputable section

variable {A : Args} {x0 : FVec Ideal S4096x3072 .f32} {x1 : FVec Ideal S4096x32 .f32} {x2 x3 : FVec Ideal S32 .f32} {x4 : FVec Ideal S4096x2048 .f32}

theorem isv74 (H : Given A x0 x1 x2 x3 x4) : Is3 (A := 4096) (B := 4) (C := 8) (val_main_v74 (F := Ideal) x0 x1 x2 x4) fun t g j => A.dt t (8 * g + j) * A.tl (8 * g + j) t :=
  Is3.mulf (isv6 H) (isv73 H)

theorem isv75 (H : Given A x0 x1 x2 x3 x4) : Is (M := 4) (N := 8) (val_main_v75 (F := Ideal) x0 x1 x2 x4) fun g j => A.aG (8 * g + j) := by
  intro a b
  refine ((val_main_v75_apply x0 x1 x2 x4 (ix2 a b)).trans (sumLine (p := fun k => A.dt k (8 * a.val + b.val) * A.tl (8 * a.val + b.val) k) fun k => (isv74 H).at _)).trans (congrArg _ ?_)
  show _ = A.aG (8 * a.val + b.val)
  exact sum_congr rfl fun k _ => mul_comm _ _

theorem isv76 (H : Given A x0 x1 x2 x3 x4) : Is3 (A := 1) (B := 4) (C := 8) (val_main_v76 (F := Ideal) x0 x1 x2 x4) fun _ g j => A.aG (8 * g + j) := by
  intro a b c
  have ha := a.isLt
  have hb := b.isLt
  have hc := c.isLt
  refine (val_main_v76_apply (F := Ideal) x0 x1 x2 x4 (ix3 a b c)).trans (((isv75 H).at _).trans (congrArg _ ?_))
  show A.aG (8 * (((a.val * 4 + b.val) * 8 + c.val) / 8) + ((a.val * 4 + b.val) * 8 + c.val) % 8) = A.aG (8 * b.val + c.val)
  congr 1; omega

theorem isv79 (H : Given A x0 x1 x2 x3 x4) : Is (M := 4) (N := 8) (val_main_v79 (F := Ideal) x0 x1 x2 x4) fun g j => A.aG (8 * g + j) := by
  intro a b
  exact (val_main_v79_apply x0 x1 x2 x4 (ix2 a b)).trans (sumOne ((isv76 H).at _))

theorem isv80 (H : Given A x0 x1 x2 x3 x4) : Is1 (M := 32) (val_main_v80 (F := Ideal) x0 x1 x2 x4) fun h => A.aG h := by
  intro a
  have ha := a.isLt
  refine (val_main_v80_apply (F := Ideal) x0 x1 x2 x4 (ix1 a)).trans (((isv79 H).at _).trans (congrArg _ ?_))
  show A.aG (8 * (a.val / 8) + a.val % 8) = A.aG a.val
  congr 1; omega

theorem isv78 (H : Given A x0 x1 x2 x3 x4) : Is3 (A := 4096) (B := 4) (C := 8) (val_main_v78 (F := Ideal) x0 x1 x2 x4) fun t g j => A.tl (8 * g + j) t * A.a (8 * g + j) :=
  Is3.mulf (isv73 H) (isv77 H)

/-- The part of a step's gradient that comes through the scaled input. -/
def through (A : Args) (t h : ℕ) : ℝ := ∑ p ∈ range 64, A.x t (64 * h + p) * A.inG h t p

theorem isv81 (H : Given A x0 x1 x2 x3 x4) : Is4 (A := 4096) (B := 4) (C := 8) (D := 64) (val_main_v81 (F := Ideal) x0 x1 x2 x4) fun t g j p => A.x t (64 * (8 * g + j) + p) * A.inG (8 * g + j) t p :=
  Is4.mulf (isv3 H) (isv51 H)

theorem isv82 (H : Given A x0 x1 x2 x3 x4) : Is3 (A := 4096) (B := 4) (C := 8) (val_main_v82 (F := Ideal) x0 x1 x2 x4) fun t g j => through A t (8 * g + j) := by
  intro a b c
  exact (val_main_v82_apply x0 x1 x2 x4 (ix3 a b c)).trans (sumLine (p := fun k => A.x a.val (64 * (8 * b.val + c.val) + k) * A.inG (8 * b.val + c.val) a.val k) fun k => (isv81 H).at _)

theorem isv83 (H : Given A x0 x1 x2 x3 x4) : Is4 (A := 4096) (B := 4) (C := 8) (D := 1) (val_main_v83 (F := Ideal) x0 x1 x2 x4) fun t g j _ => through A t (8 * g + j) := by
  intro a b c d
  have ha := a.isLt
  have hb := b.isLt
  have hc := c.isLt
  have hd := d.isLt
  refine (val_main_v83_apply (F := Ideal) x0 x1 x2 x4 (ix4 a b c d)).trans (((isv82 H).at _).trans (congrArg _ ?_))
  show through A ((((a.val * 4 + b.val) * 8 + c.val) * 1 + d.val) / 32) (8 * ((((a.val * 4 + b.val) * 8 + c.val) * 1 + d.val) / 8 % 4) + (((a.val * 4 + b.val) * 8 + c.val) * 1 + d.val) % 8) = through A a.val (8 * b.val + c.val)
  rw [show (((a.val * 4 + b.val) * 8 + c.val) * 1 + d.val) / 32 = a.val by omega, show (((a.val * 4 + b.val) * 8 + c.val) * 1 + d.val) / 8 % 4 = b.val by omega, show (((a.val * 4 + b.val) * 8 + c.val) * 1 + d.val) % 8 = c.val by omega]

theorem isv87 (H : Given A x0 x1 x2 x3 x4) : Is3 (A := 4096) (B := 4) (C := 8) (val_main_v87 (F := Ideal) x0 x1 x2 x4) fun t g j => through A t (8 * g + j) := by
  intro a b c
  exact (val_main_v87_apply x0 x1 x2 x4 (ix3 a b c)).trans (sumOne ((isv83 H).at _))

theorem isv88 (H : Given A x0 x1 x2 x3 x4) : Is3 (A := 4096) (B := 4) (C := 8) (val_main_v88 (F := Ideal) x0 x1 x2 x4) fun t g j => A.tl (8 * g + j) t * A.a (8 * g + j) + through A t (8 * g + j) :=
  Is3.addf (isv78 H) (isv87 H)

theorem isv89 (H : Given A x0 x1 x2 x3 x4) : Is (M := 4096) (N := 32) (val_main_v89 (F := Ideal) x0 x1 x2 x4) fun t h => A.stepG t h := by
  intro a b
  have ha := a.isLt
  have hb := b.isLt
  refine (val_main_v89_apply (F := Ideal) x0 x1 x2 x4 (ix2 a b)).trans (((isv88 H).at _).trans (congrArg _ ?_))
  have e0 : (a.val * 32 + b.val) / 32 = a.val := by omega
  have e1 : 8 * ((a.val * 32 + b.val) / 8 % 4) + (a.val * 32 + b.val) % 8 = b.val := by omega
  show A.tl (8 * ((a.val * 32 + b.val) / 8 % 4) + (a.val * 32 + b.val) % 8) ((a.val * 32 + b.val) / 32) * A.a (8 * ((a.val * 32 + b.val) / 8 % 4) + (a.val * 32 + b.val) % 8)
    + through A ((a.val * 32 + b.val) / 32) (8 * ((a.val * 32 + b.val) / 8 % 4) + (a.val * 32 + b.val) % 8) = A.stepG a.val b.val
  rw [e0, e1]
  unfold Args.stepG through
  congr 1
  exact sum_congr rfl fun p _ => mul_comm _ _

theorem isv85 (H : Given A x0 x1 x2 x3 x4) : Is4 (A := 4096) (B := 4) (C := 8) (D := 64) (val_main_v85 (F := Ideal) x0 x1 x2 x4) fun t g j p => A.inG (8 * g + j) t p * A.dt t (8 * g + j) :=
  Is4.mulf (isv51 H) (isv84 H)

theorem isv86 (H : Given A x0 x1 x2 x3 x4) : Is4 (A := 4096) (B := 4) (C := 8) (D := 64) (val_main_v86 (F := Ideal) x0 x1 x2 x3 x4) fun t g j p => A.Y (8 * g + j) t p * A.d (8 * g + j) + A.inG (8 * g + j) t p * A.dt t (8 * g + j) :=
  Is4.addf (isv43 H) (isv85 H)

theorem isv92 (H : Given A x0 x1 x2 x3 x4) : Is (M := 4096) (N := 2048) (val_main_v92 (F := Ideal) x0 x1 x2 x3 x4)
    fun t q => A.inG (q / 64) t (q % 64) * A.dt t (q / 64) + A.dy t q * A.d (q / 64) := by
  intro a b
  have ha := a.isLt
  have hb := b.isLt
  refine (val_main_v92_apply (F := Ideal) x0 x1 x2 x3 x4 (ix2 a b)).trans (((isv86 H).at _).trans (congrArg _ ?_))
  have e0 : (a.val * 2048 + b.val) / 2048 = a.val := by omega
  have e1 : 8 * ((a.val * 2048 + b.val) / 512 % 4) + (a.val * 2048 + b.val) / 64 % 8 = b.val / 64 := by omega
  have e2 : (a.val * 2048 + b.val) % 64 = b.val % 64 := by omega
  have key : ∀ t h p : ℕ, t = a.val → h = b.val / 64 → p = b.val % 64 →
      A.Y h t p * A.d h + A.inG h t p * A.dt t h
        = A.inG (b.val / 64) a.val (b.val % 64) * A.dt a.val (b.val / 64) + A.dy a.val b.val * A.d (b.val / 64) := by
    rintro t h p rfl rfl rfl
    rw [show A.Y (b.val / 64) a.val (b.val % 64) = A.dy a.val b.val from congrArg (A.dy a.val) (by omega)]
    exact add_comm _ _
  exact key _ _ _ e0 e1 e2

theorem isv91 (H : Given A x0 x1 x2 x3 x4) : Is (M := 4096) (N := 512) (val_main_v91 (F := Ideal) x0 x1 x2 x4) fun t q => A.bG (q / 128) t (q % 128) := by
  intro a b
  have ha := a.isLt
  have hb := b.isLt
  refine (val_main_v91_apply (F := Ideal) x0 x1 x2 x4 (ix2 a b)).trans (((isv59 H).at _).trans (congrArg _ ?_))
  show A.bG ((a.val * 512 + b.val) / 128 % 4) ((a.val * 512 + b.val) / 512) ((a.val * 512 + b.val) % 128) = A.bG (b.val / 128) a.val (b.val % 128)
  rw [show (a.val * 512 + b.val) / 128 % 4 = b.val / 128 by omega, show (a.val * 512 + b.val) / 512 = a.val by omega,
    show (a.val * 512 + b.val) % 128 = b.val % 128 by omega]

theorem isv90 (H : Given A x0 x1 x2 x3 x4) : Is (M := 4096) (N := 512) (val_main_v90 (F := Ideal) x0 x1 x2 x4) fun t q => A.cG (q / 128) t (q % 128) := by
  intro a b
  have ha := a.isLt
  have hb := b.isLt
  refine (val_main_v90_apply (F := Ideal) x0 x1 x2 x4 (ix2 a b)).trans (((isv61 H).at _).trans (congrArg _ ?_))
  show A.cG ((a.val * 512 + b.val) / 128 % 4) ((a.val * 512 + b.val) / 512) ((a.val * 512 + b.val) % 128) = A.cG (b.val / 128) a.val (b.val % 128)
  rw [show (a.val * 512 + b.val) / 128 % 4 = b.val / 128 by omega, show (a.val * 512 + b.val) / 512 = a.val by omega,
    show (a.val * 512 + b.val) % 128 = b.val % 128 by omega]

/-- The gradients of the packed operand. -/
theorem ref93 (H : Given A x0 x1 x2 x3 x4) : Is (M := 4096) (N := 3072) (val_main_v93 (F := Ideal) x0 x1 x2 x3 x4) A.outG := by
  intro t q
  have hq := q.isLt
  have h92 := isv92 H
  have h91 := isv91 H
  have h90 := isv90 H
  unfold val_main_v93
  generalize val_main_v92 (F := Ideal) x0 x1 x2 x3 x4 = y92 at h92 ⊢
  generalize val_main_v91 (F := Ideal) x0 x1 x2 x4 = y91 at h91 ⊢
  generalize val_main_v90 (F := Ideal) x0 x1 x2 x4 = y90 at h90 ⊢
  unfold Args.outG
  by_cases h1 : q.val < 2048
  · rw [if_pos h1]
    refine (concatenate_apply_piece (t := S4096x3072) 1 [⟨S4096x2048, y92⟩, ⟨S4096x512, y91⟩, ⟨S4096x512, y90⟩] concatenates_S4096x2048_S4096x512_S4096x512_S4096x3072_d1 (ix2 t q) 0 (show 0 < 3 by decide) S4096x2048 y92 rfl rfl 0 rfl (ix2 t ⟨q.val, h1⟩) (fun b hb => ?_) ?_).trans (h92 t ⟨q.val, h1⟩)
    · match b, hb with
      | ⟨0, _⟩, _ => rfl
      | ⟨1, _⟩, hb => exact absurd rfl hb
    · exact Nat.zero_add q.val
  · rw [if_neg h1]
    by_cases h2 : q.val < 2560
    · rw [if_pos h2]
      obtain ⟨r, hr⟩ : ∃ r, r = q.val - 2048 := ⟨_, rfl⟩
      have hq' : r < 512 := by omega
      have he : 2048 + r = q.val := by omega
      show _ = ((A.bG ((q.val - 2048) / 128) t.val ((q.val - 2048) % 128) : ℝ) : EReal)
      rw [← hr]
      refine (concatenate_apply_piece (t := S4096x3072) 1 [⟨S4096x2048, y92⟩, ⟨S4096x512, y91⟩, ⟨S4096x512, y90⟩] concatenates_S4096x2048_S4096x512_S4096x512_S4096x3072_d1 (ix2 t q) 1 (show 1 < 3 by decide) S4096x512 y91 rfl rfl 2048 rfl (ix2 t ⟨r, hq'⟩) (fun b hb => ?_) ?_).trans (h91 t ⟨r, hq'⟩)
      · match b, hb with
        | ⟨0, _⟩, _ => rfl
        | ⟨1, _⟩, hb => exact absurd rfl hb
      · exact he
    · rw [if_neg h2]
      obtain ⟨r, hr⟩ : ∃ r, r = q.val - 2560 := ⟨_, rfl⟩
      have hq' : r < 512 := by omega
      have he : 2560 + r = q.val := by omega
      show _ = ((A.cG ((q.val - 2560) / 128) t.val ((q.val - 2560) % 128) : ℝ) : EReal)
      rw [← hr]
      refine (concatenate_apply_piece (t := S4096x3072) 1 [⟨S4096x2048, y92⟩, ⟨S4096x512, y91⟩, ⟨S4096x512, y90⟩] concatenates_S4096x2048_S4096x512_S4096x512_S4096x3072_d1 (ix2 t q) 2 (show 2 < 3 by decide) S4096x512 y90 rfl rfl 2560 rfl (ix2 t ⟨r, hq'⟩) (fun b hb => ?_) ?_).trans (h90 t ⟨r, hq'⟩)
      · match b, hb with
        | ⟨0, _⟩, _ => rfl
        | ⟨1, _⟩, hb => exact absurd rfl hb
      · exact he

/-- The gradients of the steps, one lane tile wide. -/
theorem ref94 (H : Given A x0 x1 x2 x3 x4) : Is (M := 4096) (N := 128) (val_main_v94 (F := Ideal) x0 x1 x2 x4) fun t h => if h < 32 then A.stepG t h else 0 := by
  intro t h
  have h89 := isv89 H
  unfold val_main_v94
  generalize val_main_v89 (F := Ideal) x0 x1 x2 x4 = y at h89 ⊢
  by_cases hh : h.val < 32
  · rw [pad_apply_of_inside _ _ _ _ _ pads_S4096x32_S4096x128_000_0960 h_S_ (ix2 t h) (ix2 t ⟨h.val, hh⟩) (fun d => match d with
      | ⟨0, _⟩ => (show t.val = 0 + t.val * (0 + 1) by omega) | ⟨1, _⟩ => (show h.val = 0 + h.val * (0 + 1) by omega))]
    show _ = ((if h.val < 32 then A.stepG t.val h.val else 0 : ℝ) : EReal)
    rw [if_pos hh]
    exact h89 t ⟨h.val, hh⟩
  · rw [pad_apply_of_not_inside _ _ _ _ _ pads_S4096x32_S4096x128_000_0960 h_S_ (ix2 t h) 1 (by
      intro hc; have : (h.val - 0) / 1 < 32 := hc.2.2; omega)]
    show (((0#32 : BitVec 32).toInt : ℝ) : EReal) = ((if h.val < 32 then A.stepG t.val h.val else 0 : ℝ) : EReal)
    rw [if_neg hh]
    simp

theorem isv95 (H : Given A x0 x1 x2 x3 x4) : Is (M := 32) (N := 64) (val_main_v95 (F := Ideal) x0 x1 x2 x4) fun h _ => A.aG h := by
  intro a b
  exact (val_main_v95_apply (F := Ideal) x0 x1 x2 x4 (ix2 a b)).trans ((isv80 H).at _)

theorem isv96 (H : Given A x0 x1 x2 x3 x4) : Is1 (M := 2048) (val_main_v96 (F := Ideal) x0 x1 x2 x4) fun q => A.aG (q / 64) := by
  intro a
  exact (val_main_v96_apply (F := Ideal) x0 x1 x2 x4 (ix1 a)).trans ((isv95 H).at _)

/-- The gradient of the decay rates. -/
theorem ref97 (H : Given A x0 x1 x2 x3 x4) : Is (M := 1) (N := 2048) (val_main_v97 (F := Ideal) x0 x1 x2 x4) fun _ q => A.aG (q / 64) := by
  intro a b
  exact (val_main_v97_apply (F := Ideal) x0 x1 x2 x4 (ix2 a b)).trans ((isv96 H).at _)

/-- A sum over the outermost and the innermost of four axes. -/
theorem sumOuterInner {T G J W : ℕ} (h : (⟨4, ![T, G, J, W]⟩ : Shape).ReducesTo [0, 3] ⟨2, ![G, J]⟩)
    (hd : ∀ (t : Fin T) (g : Fin G) (j : Fin J) (p : Fin W), h.drop (ix4 t g j p) = ix2 g j)
    (x : (⟨4, ![T, G, J, W]⟩ : Shape).Idx → EReal) (z : EReal) (g : Fin G) (j : Fin J) :
    Ideal.hostReduceAdd h x z (ix2 g j) = z + ∑ t : Fin T, ∑ p : Fin W, x (ix4 t g j p) := by
  unfold Ideal.hostReduceAdd
  refine congrArg (z + ·) ?_
  rw [← Fintype.sum_prod_type' fun (t : Fin T) (p : Fin W) => x (ix4 t g j p)]
  symm
  refine sum_nbij (fun k => ix4 k.1 g j k.2) (fun k _ => mem_filter.2 ⟨mem_univ _, hd _ _ _ _⟩) (fun k _ k' _ e => ?_) (fun i hi => ?_) (fun k _ => rfl)
  · exact Prod.ext (congrFun e 0) (congrFun e 3)
  · have hi := (mem_filter.1 (mem_coe.1 hi)).2
    refine ⟨(i 0, i 3), mem_coe.2 (mem_univ _), ?_⟩
    have e : ix2 (i 1) (i 2) = ix2 g j := (hd (i 0) (i 1) (i 2) (i 3)).symm.trans ((congrArg h.drop (eq_ix4 i).symm).trans hi)
    have e1 : i 1 = g := congrFun e 0
    have e2 : i 2 = j := congrFun e 1
    show ix4 (i 0) g j (i 3) = i
    rw [← e1, ← e2]
    exact (eq_ix4 i).symm

theorem isv39 (H : Given A x0 x1 x2 x3 x4) : Is4 (A := 4096) (B := 4) (C := 8) (D := 64) (val_main_v39 (F := Ideal) x0 x4) fun t g j p => A.x t (64 * (8 * g + j) + p) * A.dy t (64 * (8 * g + j) + p) :=
  Is4.mulf (isv3 H) (isv38 H)

theorem isv40 (H : Given A x0 x1 x2 x3 x4) : Is (M := 4) (N := 8) (val_main_v40 (F := Ideal) x0 x4) fun g j => A.dG (8 * g + j) := by
  intro g j
  have h39 := isv39 H
  unfold val_main_v40
  generalize val_main_v39 (F := Ideal) x0 x4 = y at h39 ⊢
  simp only [Host.reduceAdd, Ideal.hostReduceAdd_def]
  rw [sumOuterInner (T := 4096) (G := 4) (J := 8) (W := 64) reducesTo_S4096x4x8x64_S4x8_d0_3
    (fun t g j p => funext fun b => match b with | ⟨0, _⟩ => rfl | ⟨1, _⟩ => rfl)]
  refine fromZero.trans ?_
  show _ = ((A.dG (8 * g.val + j.val) : ℝ) : EReal)
  unfold Args.dG
  rw [← sum_coe 4096 fun t => ∑ p ∈ range 64, A.dy t (64 * (8 * g.val + j.val) + p) * A.x t (64 * (8 * g.val + j.val) + p)]
  refine sum_congr rfl fun t _ => ?_
  rw [← sum_coe 64 fun p => A.dy t.val (64 * (8 * g.val + j.val) + p) * A.x t.val (64 * (8 * g.val + j.val) + p)]
  refine sum_congr rfl fun p _ => ?_
  rw [h39 t g j p]
  exact congrArg _ (mul_comm _ _)

theorem isv41 (H : Given A x0 x1 x2 x3 x4) : Is4 (A := 1) (B := 4) (C := 8) (D := 1) (val_main_v41 (F := Ideal) x0 x4) fun _ g j _ => A.dG (8 * g + j) := by
  intro a b c d
  have ha := a.isLt
  have hb := b.isLt
  have hc := c.isLt
  have hd := d.isLt
  refine (val_main_v41_apply (F := Ideal) x0 x4 (ix4 a b c d)).trans (((isv40 H).at _).trans (congrArg _ ?_))
  show A.dG (8 * ((((a.val * 4 + b.val) * 8 + c.val) * 1 + d.val) / 8) + (((a.val * 4 + b.val) * 8 + c.val) * 1 + d.val) % 8) = A.dG (8 * b.val + c.val)
  congr 1; omega

theorem isv44 (H : Given A x0 x1 x2 x3 x4) : Is (M := 4) (N := 8) (val_main_v44 (F := Ideal) x0 x4) fun g j => A.dG (8 * g + j) := by
  intro g j
  have h41 := isv41 H
  unfold val_main_v44
  generalize val_main_v41 (F := Ideal) x0 x4 = y at h41 ⊢
  simp only [Host.reduceAdd, Ideal.hostReduceAdd_def]
  rw [sumOuterInner (T := 1) (G := 4) (J := 8) (W := 1) reducesTo_S1x4x8x1_S4x8_d0_3
    (fun t g j p => funext fun b => match b with | ⟨0, _⟩ => rfl | ⟨1, _⟩ => rfl)]
  refine fromZero.trans ?_
  rw [Fin.sum_univ_one, Fin.sum_univ_one]
  exact h41 0 g j 0

theorem isv45 (H : Given A x0 x1 x2 x3 x4) : Is3 (A := 4) (B := 8) (C := 1) (val_main_v45 (F := Ideal) x0 x4) fun g j _ => A.dG (8 * g + j) := by
  intro a b c
  exact (val_main_v45_apply (F := Ideal) x0 x4 (ix3 a b c)).trans ((isv44 H).at _)

theorem isv46 (H : Given A x0 x1 x2 x3 x4) : Is (M := 4) (N := 8) (val_main_v46 (F := Ideal) x0 x4) fun g j => A.dG (8 * g + j) := by
  intro a b
  exact (val_main_v46_apply x0 x4 (ix2 a b)).trans (sumOne ((isv45 H).at _))

theorem isv47 (H : Given A x0 x1 x2 x3 x4) : Is1 (M := 32) (val_main_v47 (F := Ideal) x0 x4) fun h => A.dG h := by
  intro a
  have ha := a.isLt
  refine (val_main_v47_apply (F := Ideal) x0 x4 (ix1 a)).trans (((isv46 H).at _).trans (congrArg _ ?_))
  show A.dG (8 * (a.val / 8) + a.val % 8) = A.dG a.val
  congr 1; omega

theorem isv98 (H : Given A x0 x1 x2 x3 x4) : Is (M := 32) (N := 64) (val_main_v98 (F := Ideal) x0 x4) fun h _ => A.dG h := by
  intro a b
  exact (val_main_v98_apply (F := Ideal) x0 x4 (ix2 a b)).trans ((isv47 H).at _)

theorem isv99 (H : Given A x0 x1 x2 x3 x4) : Is1 (M := 2048) (val_main_v99 (F := Ideal) x0 x4) fun q => A.dG (q / 64) := by
  intro a
  exact (val_main_v99_apply (F := Ideal) x0 x4 (ix1 a)).trans ((isv98 H).at _)

/-- The gradient of the skip weights. -/
theorem ref100 (H : Given A x0 x1 x2 x3 x4) : Is (M := 1) (N := 2048) (val_main_v100 (F := Ideal) x0 x4) fun _ q => A.dG (q / 64) := by
  intro a b
  exact (val_main_v100_apply (F := Ideal) x0 x4 (ix2 a b)).trans ((isv99 H).at _)

end

end Scan.Ref
-- ==== Proof.Scan.Numbers.lean ====
/- Arrays whose entries are numbers hold reals. -/
module

public import proofs.«01_k».proof.Proof.Scan.Arrays

@[expose] public section

namespace Scan

open Idealize.ShloMosaic Idealize.ShloMosaic.ValueIdx

noncomputable section

/-- The entries of a matrix and of a vector as reals, zero outside. -/
def get2 {M N : ℕ} (x : (⟨2, ![M, N]⟩ : Shape).Idx → EReal) (t q : ℕ) : ℝ :=
  if h : t < M ∧ q < N then (x (ix2 ⟨t, h.1⟩ ⟨q, h.2⟩)).toReal else 0
def get1 {M : ℕ} (x : (⟨1, ![M]⟩ : Shape).Idx → EReal) (t : ℕ) : ℝ :=
  if h : t < M then (x (ix1 ⟨t, h⟩)).toReal else 0

theorem is_get2 {M N : ℕ} {x : (⟨2, ![M, N]⟩ : Shape).Idx → EReal} (h : ∀ i, x i = ((x i).toReal : EReal)) : Is x (get2 x) := by
  intro t q
  unfold get2
  rw [dif_pos ⟨t.isLt, q.isLt⟩]
  exact h _

theorem is_get1 {M : ℕ} {x : (⟨1, ![M]⟩ : Shape).Idx → EReal} (h : ∀ i, x i = ((x i).toReal : EReal)) : Is1 x (get1 x) := by
  intro t
  unfold get1
  rw [dif_pos t.isLt]
  exact h _

/-- Two matrices that hold the same reals are the same. -/
theorem Is.ext {M N : ℕ} {v w : (⟨2, ![M, N]⟩ : Shape).Idx → EReal} {f : ℕ → ℕ → ℝ} (hv : Is v f) (hw : Is w f) : v = w :=
  funext fun j => (hv.at j).trans (hw.at j).symm

/-- A number whose absolute value is below infinity is real. -/
theorem real_of_lt {x : EReal} (h : Ideal.cmp .olt (max x (-x)) (Ideal.ofBits .f32 0x7F800000#32) = 1#1) : x = (x.toReal : EReal) := by
  have e : Ideal.ofBits .f32 0x7F800000#32 = ⊤ := by simp [Ideal.ofBits, Ideal.ieee]
  rw [e] at h
  induction x with
  | bot => simp [Ideal.cmp] at h
  | top => simp [Ideal.cmp] at h
  | coe r => rfl

end

end Scan
-- ==== Proof.Scan.Entries.lean ====
/- Finite arguments hold reals: what the precondition gives. -/
module

public import proofs.«01_k».proof.Proof.Scan.Given
public import proofs.«01_k».proof.Proof.Scan.Numbers
public import proofs.«01_k».proof.Proof.Gen.Pre_finite
public import Idealize.ShloMosaic.Lib.ReduceAll

@[expose] public section

namespace Scan

open Idealize.ShloMosaic Idealize.ShloMosaic.ValueIdx

noncomputable section

/-- The reals of the five argument arrays. -/
def argsOf (x0 : FVec Ideal ⟨2, ![4096, 3072]⟩ .f32) (x1 : FVec Ideal ⟨2, ![4096, 32]⟩ .f32) (x2 x3 : FVec Ideal ⟨1, ![32]⟩ .f32)
    (x4 : FVec Ideal ⟨2, ![4096, 2048]⟩ .f32) : Args where
  x := get2 (M := 4096) (N := 3072) x0
  b t n := get2 (M := 4096) (N := 3072) x0 t (2048 + n)
  c t n := get2 (M := 4096) (N := 3072) x0 t (2560 + n)
  dt := get2 (M := 4096) (N := 32) x1
  a := get1 (M := 32) x2
  d := get1 (M := 32) x3
  dy := get2 (M := 4096) (N := 2048) x4

open Cert.Pre_finite in
theorem given {x0 : FVec Ideal ⟨2, ![4096, 3072]⟩ .f32} {x1 : FVec Ideal ⟨2, ![4096, 32]⟩ .f32} {x2 x3 : FVec Ideal ⟨1, ![32]⟩ .f32}
    {x4 : FVec Ideal ⟨2, ![4096, 2048]⟩ .f32} (h : fn (F := Ideal) x0 x1 x2 x3 x4 = fun _ => 1#1) :
    Given (argsOf x0 x1 x2 x3 x4) x0 x1 x2 x3 x4 := by
  haveI : Subsingleton S_.Idx := ⟨fun a b => funext fun k => k.elim0⟩
  have e := congrFun h (Shape.Idx.first Facts.h_S_)
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  have r0 : ∀ i, x0 i = ((x0 i).toReal : EReal) := fun i => real_of_lt (Host.reduce_andi_all _ _ _ _ _ e0 i)
  have r1 : ∀ i, x1 i = ((x1 i).toReal : EReal) := fun i => real_of_lt (Host.reduce_andi_all _ _ _ _ _ e1 i)
  have r2 : ∀ i, x2 i = ((x2 i).toReal : EReal) := fun i => real_of_lt (Host.reduce_andi_all _ _ _ _ _ e2 i)
  have r3 : ∀ i, x3 i = ((x3 i).toReal : EReal) := fun i => real_of_lt (Host.reduce_andi_all _ _ _ _ _ e3 i)
  have r4 : ∀ i, x4 i = ((x4 i).toReal : EReal) := fun i => real_of_lt (Host.reduce_andi_all _ _ _ _ _ e4 i)
  refine ⟨?_, is_get2 (M := 4096) (N := 32) r1, is_get1 (M := 32) r2, is_get1 (M := 32) r3, is_get2 (M := 4096) (N := 2048) r4⟩
  intro t q
  refine (is_get2 (M := 4096) (N := 3072) r0 t q).trans (congrArg _ ?_)
  show get2 (M := 4096) (N := 3072) x0 t.val q.val = if q.val < 2048 then get2 (M := 4096) (N := 3072) x0 t.val q.val
    else if q.val < 2560 then get2 (M := 4096) (N := 3072) x0 t.val (2048 + (q.val - 2048)) else get2 (M := 4096) (N := 3072) x0 t.val (2560 + (q.val - 2560))
  by_cases h1 : q.val < 2048
  · rw [if_pos h1]
  · rw [if_neg h1, Nat.add_sub_cancel' (not_lt.1 h1)]
    by_cases h2 : q.val < 2560
    · rw [if_pos h2]
    · rw [if_neg h2, Nat.add_sub_cancel' (not_lt.1 h2)]

end

end Scan
-- ==== Proof.Scan.Agree.lean ====
/- The kernel's four results are the reference's, from finite arguments. -/
module

public import proofs.«01_k».proof.Defs
public import proofs.«01_k».proof.Proof.Scan.Outs2
public import proofs.«01_k».proof.Proof.Scan.Feeds
public import proofs.«01_k».proof.Proof.Scan.RefOuts
public import proofs.«01_k».proof.Proof.Scan.Entries
public import proofs.«01_k».proof.Proof.Gen.ReferenceIdeal.Run

@[expose] public section

namespace Scan

open Idealize.ShloMosaic
open Idealize.ShloMosaic.TcCoe Idealize.SL.Sem

noncomputable section

theorem last10 {m : (ℓ : Loc Cert.KernelIdeal.nD Cert.KernelIdeal.τ Cert.KernelIdeal.sig) → Buf (Elt Ideal) ℓ} {c : Dev Cert.KernelIdeal.nD} {A : Args} (F : Fed A m c) :
    Is (M := 1) (N := 2048) ((Cert.KernelIdeal.Gen.dats m 0 c).arrAt 10 Cert.KernelIdeal.cfg0.N) fun _ q => A.aG (q / 64) :=
  (out10 F).congr fun _ _ q _ => sumA_all q

theorem last11 {m : (ℓ : Loc Cert.KernelIdeal.nD Cert.KernelIdeal.τ Cert.KernelIdeal.sig) → Buf (Elt Ideal) ℓ} {c : Dev Cert.KernelIdeal.nD} {A : Args} (F : Fed A m c) :
    Is (M := 1) (N := 2048) ((Cert.KernelIdeal.Gen.dats m 0 c).arrAt 11 Cert.KernelIdeal.cfg0.N) fun _ q => A.dG (q / 64) :=
  (out11 F).congr fun r _ q _ => sumD_all r q

theorem agree : Cert.algebraic_KernelIdeal_ReferenceIdeal_pre_finite := by
  intro m g m' g' hpre hargs
  have H := fun c => given (hpre c)
  refine ⟨fun c => (Cert.KernelIdeal.Gen.dats m 0 c).arrAt 8 Cert.KernelIdeal.cfg0.N, fun c => (Cert.KernelIdeal.Gen.dats m 0 c).arrAt 9 Cert.KernelIdeal.cfg0.N,
    fun c => (Cert.KernelIdeal.Gen.dats m 0 c).arrAt 10 Cert.KernelIdeal.cfg0.N, fun c => (Cert.KernelIdeal.Gen.dats m 0 c).arrAt 11 Cert.KernelIdeal.cfg0.N, ?_, ?_⟩
  · exact Cert.KernelIdeal.Value.run_blocks m g
  · refine (θ_run _ _ _).mono (fun r h c => ?_) (Cert.ReferenceIdeal.Value.run (F := Ideal) m' g')
    obtain ⟨h0, h1, h2, h3, k⟩ := h c
    obtain ⟨a0, a1, a2, a3, a4⟩ := hargs c
    have F := fed (H c)
    refine ⟨h0.trans ?_, h1.trans ?_, h2.trans ?_, h3.trans ?_, k⟩
    · rw [Cert.ReferenceIdeal.Read.val_main_v93_eq, a0, a1, a2, a3, a4]
      exact Is.ext (Ref.ref93 (H c)) (out8 F)
    · rw [Cert.ReferenceIdeal.Read.val_main_v94_eq, a0, a1, a2, a4]
      exact Is.ext (Ref.ref94 (H c)) (out9 F)
    · rw [Cert.ReferenceIdeal.Read.val_main_v97_eq, a0, a1, a2, a4]
      exact Is.ext (Ref.ref97 (H c)) (last10 F)
    · refine (Cert.ReferenceIdeal.Read.val_main_v100_eq (F := Ideal) _ _).trans ?_
      rw [a0, a4]
      exact Is.ext (Ref.ref100 (H c)) (last11 F)

end

end Scan
-- ==== Proof.Weights.Product.lean ====
/- The product of one matrix's transpose with another, entry by entry, whole and in tiles. -/
module

public import Idealize.ShloMosaic.PureOps.Ideal.Laws
public import Idealize.ShloMosaic.Lib.ValueIdxCore
public import Idealize.ShloMosaic.Lib.Pipeline.ValueKit.Tiles
public import Idealize.ShloMosaic.Lib.WholeRead
public import Idealize.ShloMosaic.Lib.VecWindow
public import Mathlib.Tactic.FinCases

@[expose] public section

namespace Weights

open Idealize.ShloMosaic
open Idealize.ShloMosaic.ValueIdx
open scoped BigOperators

noncomputable section

/-- The entries of `xᵀ y`: a weight matrix's gradient, from what the matrix met and what came back. -/
def prod {K M N : ℕ} (x : (⟨2, ![K, M]⟩ : Shape).Idx → EReal) (y : (⟨2, ![K, N]⟩ : Shape).Idx → EReal) : (⟨2, ![M, N]⟩ : Shape).Idx → EReal :=
  fun j => ∑ k : Fin K, x (ix2 k (j 0)) * y (ix2 k (j 1))

/-- Both matrices are contracted on their rows. -/
def tn (K M N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

theorem tn_sum {K M N : ℕ} (x : (⟨2, ![K, M]⟩ : Shape).Idx → EReal) (y : (⟨2, ![K, N]⟩ : Shape).Idx → EReal) (j : (⟨2, ![M, N]⟩ : Shape).Idx) :
    (∑ k : (tn K M N).contr.Idx, x ((tn K M N).lhsIdx j k) * y ((tn K M N).rhsIdx j k)) = prod x y j := by
  rw [← Equiv.sum_comp (contrEquiv1 (tn K M N) K rfl rfl).symm]
  refine Finset.sum_congr rfl fun k _ => ?_
  have hk := contrEquiv1_symm_val (tn K M N) K rfl rfl k
  have el : (tn K M N).lhsIdx j ((contrEquiv1 (tn K M N) K rfl rfl).symm k) = ix2 k (j 0) := by
    funext a; apply Fin.ext
    match a with
    | ⟨0, _⟩ => exact hk
    | ⟨1, _⟩ => rfl
  have er : (tn K M N).rhsIdx j ((contrEquiv1 (tn K M N) K rfl rfl).symm k) = ix2 k (j 1) := by
    funext a; apply Fin.ext
    match a with
    | ⟨0, _⟩ => exact hk
    | ⟨1, _⟩ => rfl
  exact congrArg₂ (fun p q => x p * y q) el er

/-- A kernel's product onto zero. -/
theorem matmul_tn {K M N : ℕ} {φ₁ φ₂ : FTy} (x : FVec Ideal ⟨2, ![K, M]⟩ φ₁) (y : FVec Ideal ⟨2, ![K, N]⟩ φ₂) :
    FloatOps.matmul (tn K M N) none x y (constant (F := Ideal) ⟨2, ![M, N]⟩ .f32 0x00000000#32) = prod x y := by
  funext j
  rw [Ideal.matmul_apply, tn_sum]
  have h0 : (constant (F := Ideal) ⟨2, ![M, N]⟩ .f32 0x00000000#32 j : EReal) = 0 := Ideal.ofBits_zero_f32
  rw [h0, zero_add]

/-- The reference's product. -/
theorem host_tn {K M N : ℕ} {φ₁ φ₂ : FTy} (x : FVec Ideal ⟨2, ![K, M]⟩ φ₁) (y : FVec Ideal ⟨2, ![K, N]⟩ φ₂) :
    Host.dotGeneral (F := Ideal) (tn K M N) none x y = prod x y := by
  funext j
  simp only [Host.dotGeneral]
  rw [Ideal.dotGeneral_apply, tn_sum]

/-- The transpose of `xᵀ y` is `yᵀ x`. -/
theorem transpose_prod {K M N : ℕ} (x : (⟨2, ![K, M]⟩ : Shape).Idx → EReal) (y : (⟨2, ![K, N]⟩ : Shape).Idx → EReal)
    (h : Shape.Transposes ⟨2, ![M, N]⟩ [1, 0] ⟨2, ![N, M]⟩) : transpose ⟨2, ![N, M]⟩ [1, 0] (prod x y) h = prod y x := by
  funext j
  refine (transpose_apply [1, 0] (prod x y) h j (ix2 (j 1) (j 0)) ?_).trans ?_
  · intro a
    match a with
    | ⟨0, _⟩ => rfl
    | ⟨1, _⟩ => rfl
  · exact Finset.sum_congr rfl fun k _ => mul_comm _ _

/-- The reference's gradient of `x @ w`, as the transformation spells it. -/
theorem host_swapped {K M N : ℕ} {φ₁ φ₂ : FTy} (x : FVec Ideal ⟨2, ![K, M]⟩ φ₁) (y : FVec Ideal ⟨2, ![K, N]⟩ φ₂)
    (h : Shape.Transposes ⟨2, ![N, M]⟩ [1, 0] ⟨2, ![M, N]⟩) :
    transpose ⟨2, ![M, N]⟩ [1, 0] (Host.dotGeneral (F := Ideal) (tn K N M) none y x) h = prod x y := by
  rw [host_tn, transpose_prod]

/-- The same of a matrix kept transposed. -/
theorem host_turned {K M N : ℕ} {φ₁ φ₂ : FTy} (x : FVec Ideal ⟨2, ![K, M]⟩ φ₁) (y : FVec Ideal ⟨2, ![K, N]⟩ φ₂)
    (h : Shape.Transposes ⟨2, ![M, N]⟩ [1, 0] ⟨2, ![N, M]⟩) (h' : Shape.Transposes ⟨2, ![N, M]⟩ [1, 0] ⟨2, ![M, N]⟩) :
    transpose ⟨2, ![M, N]⟩ [1, 0] (transpose ⟨2, ![N, M]⟩ [1, 0] (Host.dotGeneral (F := Ideal) (tn K M N) none x y) h) h' = prod x y := by
  rw [host_tn, transpose_prod, transpose_prod]

/-- Two arrays that agree on every tile agree. Tile `t` of `n` in a row lies at row `t / n` and column `t % n`. -/
theorem of_cover {M N a b G : ℕ} (n : ℕ) (ha : 0 < a) (hb : 0 < b) (hn : N ≤ n * b) (hG : ∀ i, i < M → i / a * n + n ≤ G)
    {out g : (⟨2, ![M, N]⟩ : Shape).Idx → EReal} (eo : Fin G → (⟨2, ![a, b]⟩ : Shape).Idx → (⟨2, ![M, N]⟩ : Shape).Idx)
    (o0 : ∀ t i, (eo t i 0).val = t.val / n * a + (i 0).val) (o1 : ∀ t i, (eo t i 1).val = t.val % n * b + (i 1).val)
    (h : ∀ t i, out (eo t i) = g (eo t i)) : out = g := by
  funext j
  have h0 : (j 0).val < M := (j 0).isLt
  have h1 : (j 1).val < N := (j 1).isLt
  have hq : (j 1).val / b < n := (Nat.div_lt_iff_lt_mul hb).2 (lt_of_lt_of_le h1 hn)
  have hn0 : 0 < n := lt_of_le_of_lt (Nat.zero_le _) hq
  have ht : (j 0).val / a * n + (j 1).val / b < G := lt_of_lt_of_le (Nat.add_lt_add_left hq _) (hG _ h0)
  have f0 : ((j 0).val / a * n + (j 1).val / b) / n * a + (j 0).val % a = (j 0).val := by
    rw [Nat.add_comm (_ * n), Nat.add_mul_div_right _ _ hn0, Nat.div_eq_of_lt hq, Nat.zero_add, Nat.div_add_mod']
  have f1 : ((j 0).val / a * n + (j 1).val / b) % n * b + (j 1).val % b = (j 1).val := by
    rw [Nat.add_comm (_ * n), Nat.add_mul_mod_self_right, Nat.mod_eq_of_lt hq, Nat.div_add_mod']
  let t : Fin G := ⟨_, ht⟩
  let i : (⟨2, ![a, b]⟩ : Shape).Idx := ix2 ⟨_, Nat.mod_lt (j 0).val ha⟩ ⟨_, Nat.mod_lt (j 1).val hb⟩
  have ej : eo t i = j := funext fun q => Fin.ext (by
    match q with
    | ⟨0, _⟩ => exact (o0 t i).trans f0
    | ⟨1, _⟩ => exact (o1 t i).trans f1)
  exact ej ▸ h t i

/-- An array each of whose tiles is the product of a block of columns of `x` with one of `y` is the product.
    `ex`, `ey`, `eo` say where a block's entries lie. -/
theorem of_tiles {K M N a b G : ℕ} (n : ℕ) (ha : 0 < a) (hb : 0 < b) (hn : N ≤ n * b) (hG : ∀ i, i < M → i / a * n + n ≤ G)
    {x : (⟨2, ![K, M]⟩ : Shape).Idx → EReal} {y : (⟨2, ![K, N]⟩ : Shape).Idx → EReal} {out : (⟨2, ![M, N]⟩ : Shape).Idx → EReal}
    {bx : Fin G → (⟨2, ![K, a]⟩ : Shape).Idx → EReal} {bz : Fin G → (⟨2, ![K, b]⟩ : Shape).Idx → EReal}
    (ex : Fin G → (⟨2, ![K, a]⟩ : Shape).Idx → (⟨2, ![K, M]⟩ : Shape).Idx) (ey : Fin G → (⟨2, ![K, b]⟩ : Shape).Idx → (⟨2, ![K, N]⟩ : Shape).Idx)
    (eo : Fin G → (⟨2, ![a, b]⟩ : Shape).Idx → (⟨2, ![M, N]⟩ : Shape).Idx)
    (hx : ∀ t i, bx t i = x (ex t i)) (hy : ∀ t i, bz t i = y (ey t i)) (ho : ∀ t i, out (eo t i) = prod (bx t) (bz t) i)
    (x0 : ∀ t i, (ex t i 0).val = (i 0).val) (x1 : ∀ t i, (ex t i 1).val = t.val / n * a + (i 1).val)
    (y0 : ∀ t i, (ey t i 0).val = (i 0).val) (y1 : ∀ t i, (ey t i 1).val = t.val % n * b + (i 1).val)
    (o0 : ∀ t i, (eo t i 0).val = t.val / n * a + (i 0).val) (o1 : ∀ t i, (eo t i 1).val = t.val % n * b + (i 1).val) : out = prod x y :=
  of_cover n ha hb hn hG eo o0 o1 fun t i =>
    (ho t i).trans (Finset.sum_congr rfl fun k _ => congrArg₂ (· * ·)
      ((hx t _).trans (congrArg x (funext fun q => Fin.ext (by
        match q with
        | ⟨0, _⟩ => exact x0 t _
        | ⟨1, _⟩ => exact (x1 t _).trans (o0 t i).symm))))
      ((hy t _).trans (congrArg y (funext fun q => Fin.ext (by
        match q with
        | ⟨0, _⟩ => exact y0 t _
        | ⟨1, _⟩ => exact (y1 t _).trans (o1 t i).symm)))))

section Whole

variable {sig : RefSig} {κ : Kind} {sp : Space} {s : Shape} {e : EltTy} {Val : EltTy → Type}

/-- A load of the whole of a buffer reads what it holds. -/
theorem loaded {m : Memref sig κ sp s e} (h : m.IsWhole) (X : s.Idx → Val e) {off : Fin s.rank → ℕ} (inb : ∀ i, off i + s.size i ≤ s.size i) :
    View.readAt Val m.view (Rect.unit off s.size inb).toLoadRect (h.unread X) = X :=
  funext fun z => (h.readAt_unread X _ z).trans (congrArg X (Rect.emb_unit_full inb z))

/-- One store of the whole of a buffer is what it then holds. -/
theorem kept (v : View sig κ sp s e) (f : v.ty.Contents Val) {off : Fin s.rank → ℕ} (inb : ∀ i, off i + s.size i ≤ s.size i) (w : s.Idx → Val e) :
    v.read Val (v.writes Val f [⟨Rect.unit off s.size inb, w⟩]) = w := by
  funext z
  have h := View.read_writes_cons_emb (v := v) (f := f) (Rect.unit off s.size inb) w [] z
  rw [Rect.emb_unit_full] at h
  exact h

end Whole

end

end Weights
-- ==== Proof.Weights.Down.lean ====
/- The gradient of the matrix that leaves the feed-forward layer. -/
module

public import proofs.«01_k».proof.Defs
public import proofs.«01_k».proof.Proof.Weights.Product
public import proofs.«01_k».proof.Proof.Gen.DownIdeal.Value
public import proofs.«01_k».proof.Proof.Gen.DownRefIdeal.Run

@[expose] public section

namespace Weights.Down

open Idealize.ShloMosaic
open Idealize.ShloMosaic.TcCoe Idealize.SL.Sem
open Idealize.ShloMosaic.ValueIdx
open Idealize.ShloMosaic.Pipeline
open Cert.DownIdeal Cert.DownIdeal.Gen

noncomputable section

/-- The launch's four points are the tiles, row by row. -/
theorem at_point : ∀ t : Fin cfg0.N, win0_0.index t (0 : Fin 2) = 0 ∧ win0_0.index t (1 : Fin 2) = t.val / 2 ∧ win0_1.index t (0 : Fin 2) = 0
    ∧ win0_1.index t (1 : Fin 2) = t.val % 2 ∧ win0_2.index t (0 : Fin 2) = t.val / 2 ∧ win0_2.index t (1 : Fin 2) = t.val % 2 ∧ win0_2.flush t = true :=
  (by decide +kernel : ∀ t : Fin grid0.N, _)

variable (m : (ℓ : Loc nD τ sig) → Buf (Elt Ideal) ℓ) (c : Dev nD)

theorem tile (t : Fin cfg0.N) : outsAt0 m c t = prod (K := 4096) (M := 1408) (N := 512) (iblk m c 0 t) (iblk m c 1 t) := by
  unfold outsAt0 out0_A_2 kernelRun0_A
  rw [kept, loaded, loaded]
  exact matmul_tn (φ₁ := .bf16) (φ₂ := .bf16) _ _

theorem entries : (dats m 0 c).arrAt 2 cfg0.N = prod (K := 4096) (M := 2816) (N := 1024) (V m c main_arg0) (V m c main_arg1) :=
  of_tiles (a := 1408) (b := 512) (G := cfg0.N) 2 (by decide) (by decide) (by decide) (fun i hi => show i / 1408 * 2 + 2 ≤ 4 by omega)
    (fun t => (win0_0.rect t).emb) (fun t => (win0_1.rect t).emb) (fun t => (win0_2.rect t).emb) (bx := fun t => iblk m c 0 t) (bz := fun t => iblk m c 1 t)
    (fun _ _ => rfl) (fun _ _ => rfl)
    (fun t i => congrFun (((Value.blocks2 m c t (at_point t).2.2.2.2.2.2).trans (Value.flushed2 m c t)).trans (tile m c t)) i)
    (fun t i => Window.rect_emb_val_of_index_zero win0_0 t 0 (at_point t).1 i)
    (fun t i => (Window.rect_emb_val win0_0 t i 1).trans (congrArg (· * 1408 + (i 1).val) (at_point t).2.1))
    (fun t i => Window.rect_emb_val_of_index_zero win0_1 t 0 (at_point t).2.2.1 i)
    (fun t i => (Window.rect_emb_val win0_1 t i 1).trans (congrArg (· * 512 + (i 1).val) (at_point t).2.2.2.1))
    (fun t i => (Window.rect_emb_val win0_2 t i 0).trans (congrArg (· * 1408 + (i 0).val) (at_point t).2.2.2.2.1))
    (fun t i => (Window.rect_emb_val win0_2 t i 1).trans (congrArg (· * 512 + (i 1).val) (at_point t).2.2.2.2.2.1))

theorem agree : Cert.algebraic_DownIdeal_DownRefIdeal := by
  intro m g m' g' _ hargs
  refine ⟨fun c => (dats m 0 c).arrAt 2 cfg0.N, Value.run_blocks m g, ?_⟩
  refine (θ_run _ _ _).mono (fun r h c => ⟨(h c).1.trans ?_, (h c).2⟩) (Cert.DownRefIdeal.Value.run (F := Ideal) m' g')
  rw [(hargs c).1, (hargs c).2]
  exact (host_swapped (φ₁ := .f32) (φ₂ := .f32) _ _ _).trans (entries m c).symm

end

end Weights.Down
-- ==== Proof.Weights.Gate.lean ====
/- The gradient of a matrix that enters the feed-forward layer, kept transposed. -/
module

public import proofs.«01_k».proof.Defs
public import proofs.«01_k».proof.Proof.Weights.Product
public import proofs.«01_k».proof.Proof.Gen.GateIdeal.Value
public import proofs.«01_k».proof.Proof.Gen.GateRefIdeal.Run

@[expose] public section

namespace Weights.Gate

open Idealize.ShloMosaic
open Idealize.ShloMosaic.TcCoe Idealize.SL.Sem
open Idealize.ShloMosaic.ValueIdx
open Idealize.ShloMosaic.Pipeline
open Cert.GateIdeal Cert.GateIdeal.Gen

noncomputable section

/-- The launch's four points are the tiles, row by row. -/
theorem at_point : ∀ t : Fin cfg0.N, win0_0.index t (0 : Fin 2) = 0 ∧ win0_0.index t (1 : Fin 2) = t.val / 2 ∧ win0_1.index t (0 : Fin 2) = 0
    ∧ win0_1.index t (1 : Fin 2) = t.val % 2 ∧ win0_2.index t (0 : Fin 2) = t.val / 2 ∧ win0_2.index t (1 : Fin 2) = t.val % 2 ∧ win0_2.flush t = true :=
  (by decide +kernel : ∀ t : Fin grid0.N, _)

variable (m : (ℓ : Loc nD τ sig) → Buf (Elt Ideal) ℓ) (c : Dev nD)

theorem tile (t : Fin cfg0.N) : outsAt0 m c t = prod (K := 4096) (M := 1408) (N := 512) (iblk m c 0 t) (iblk m c 1 t) := by
  unfold outsAt0 out0_A_2 kernelRun0_A
  rw [kept, loaded, loaded]
  exact matmul_tn (φ₁ := .bf16) (φ₂ := .bf16) _ _

theorem entries : (dats m 0 c).arrAt 2 cfg0.N = prod (K := 4096) (M := 2816) (N := 1024) (V m c main_arg0) (V m c main_arg1) :=
  of_tiles (a := 1408) (b := 512) (G := cfg0.N) 2 (by decide) (by decide) (by decide) (fun i hi => show i / 1408 * 2 + 2 ≤ 4 by omega)
    (fun t => (win0_0.rect t).emb) (fun t => (win0_1.rect t).emb) (fun t => (win0_2.rect t).emb) (bx := fun t => iblk m c 0 t) (bz := fun t => iblk m c 1 t)
    (fun _ _ => rfl) (fun _ _ => rfl)
    (fun t i => congrFun (((Value.blocks2 m c t (at_point t).2.2.2.2.2.2).trans (Value.flushed2 m c t)).trans (tile m c t)) i)
    (fun t i => Window.rect_emb_val_of_index_zero win0_0 t 0 (at_point t).1 i)
    (fun t i => (Window.rect_emb_val win0_0 t i 1).trans (congrArg (· * 1408 + (i 1).val) (at_point t).2.1))
    (fun t i => Window.rect_emb_val_of_index_zero win0_1 t 0 (at_point t).2.2.1 i)
    (fun t i => (Window.rect_emb_val win0_1 t i 1).trans (congrArg (· * 512 + (i 1).val) (at_point t).2.2.2.1))
    (fun t i => (Window.rect_emb_val win0_2 t i 0).trans (congrArg (· * 1408 + (i 0).val) (at_point t).2.2.2.2.1))
    (fun t i => (Window.rect_emb_val win0_2 t i 1).trans (congrArg (· * 512 + (i 1).val) (at_point t).2.2.2.2.2.1))

theorem agree : Cert.algebraic_GateIdeal_GateRefIdeal := by
  intro m g m' g' _ hargs
  refine ⟨fun c => (dats m 0 c).arrAt 2 cfg0.N, Value.run_blocks m g, ?_⟩
  refine (θ_run _ _ _).mono (fun r h c => ⟨(h c).1.trans ?_, (h c).2⟩) (Cert.GateRefIdeal.Value.run (F := Ideal) m' g')
  rw [(hargs c).1, (hargs c).2]
  exact (host_turned (φ₁ := .f32) (φ₂ := .f32) _ _ _ _).trans (entries m c).symm

end

end Weights.Gate
-- ==== Proof.Weights.Qkv.lean ====
/- The gradient of the attention's input matrix, kept transposed. -/
module

public import proofs.«01_k».proof.Defs
public import proofs.«01_k».proof.Proof.Weights.Product
public import proofs.«01_k».proof.Proof.Gen.QkvIdeal.Value
public import proofs.«01_k».proof.Proof.Gen.QkvRefIdeal.Run

@[expose] public section

namespace Weights.Qkv

open Idealize.ShloMosaic
open Idealize.ShloMosaic.TcCoe Idealize.SL.Sem
open Idealize.ShloMosaic.ValueIdx
open Idealize.ShloMosaic.Pipeline
open Cert.QkvIdeal Cert.QkvIdeal.Gen

noncomputable section

/-- The launch's sixteen points are the tiles, row by row. -/
theorem at_point : ∀ t : Fin cfg0.N, win0_0.index t (0 : Fin 2) = 0 ∧ win0_0.index t (1 : Fin 2) = t.val / 2 ∧ win0_1.index t (0 : Fin 2) = 0
    ∧ win0_1.index t (1 : Fin 2) = t.val % 2 ∧ win0_2.index t (0 : Fin 2) = t.val / 2 ∧ win0_2.index t (1 : Fin 2) = t.val % 2 ∧ win0_2.flush t = true :=
  (by decide +kernel : ∀ t : Fin grid0.N, _)

variable (m : (ℓ : Loc nD τ sig) → Buf (Elt Ideal) ℓ) (c : Dev nD)

theorem tile (t : Fin cfg0.N) : outsAt0 m c t = prod (K := 4096) (M := 1152) (N := 512) (iblk m c 0 t) (iblk m c 1 t) := by
  unfold outsAt0 out0_A_2 kernelRun0_A
  rw [kept, loaded, loaded]
  exact matmul_tn (φ₁ := .bf16) (φ₂ := .bf16) _ _

theorem entries : (dats m 0 c).arrAt 2 cfg0.N = prod (K := 4096) (M := 9216) (N := 1024) (V m c main_arg0) (V m c main_arg1) :=
  of_tiles (a := 1152) (b := 512) (G := cfg0.N) 2 (by decide) (by decide) (by decide) (fun i hi => show i / 1152 * 2 + 2 ≤ 16 by omega)
    (fun t => (win0_0.rect t).emb) (fun t => (win0_1.rect t).emb) (fun t => (win0_2.rect t).emb) (bx := fun t => iblk m c 0 t) (bz := fun t => iblk m c 1 t)
    (fun _ _ => rfl) (fun _ _ => rfl)
    (fun t i => congrFun (((Value.blocks2 m c t (at_point t).2.2.2.2.2.2).trans (Value.flushed2 m c t)).trans (tile m c t)) i)
    (fun t i => Window.rect_emb_val_of_index_zero win0_0 t 0 (at_point t).1 i)
    (fun t i => (Window.rect_emb_val win0_0 t i 1).trans (congrArg (· * 1152 + (i 1).val) (at_point t).2.1))
    (fun t i => Window.rect_emb_val_of_index_zero win0_1 t 0 (at_point t).2.2.1 i)
    (fun t i => (Window.rect_emb_val win0_1 t i 1).trans (congrArg (· * 512 + (i 1).val) (at_point t).2.2.2.1))
    (fun t i => (Window.rect_emb_val win0_2 t i 0).trans (congrArg (· * 1152 + (i 0).val) (at_point t).2.2.2.2.1))
    (fun t i => (Window.rect_emb_val win0_2 t i 1).trans (congrArg (· * 512 + (i 1).val) (at_point t).2.2.2.2.2.1))

theorem agree : Cert.algebraic_QkvIdeal_QkvRefIdeal := by
  intro m g m' g' _ hargs
  refine ⟨fun c => (dats m 0 c).arrAt 2 cfg0.N, Value.run_blocks m g, ?_⟩
  refine (θ_run _ _ _).mono (fun r h c => ⟨(h c).1.trans ?_, (h c).2⟩) (Cert.QkvRefIdeal.Value.run (F := Ideal) m' g')
  rw [(hargs c).1, (hargs c).2]
  exact (host_turned (φ₁ := .f32) (φ₂ := .f32) _ _ _ _).trans (entries m c).symm

end

end Weights.Qkv
-- ==== Proof.Weights.XbcIn.lean ====
/- The gradient of the matrix that feeds the convolution, kept transposed. -/
module

public import proofs.«01_k».proof.Defs
public import proofs.«01_k».proof.Proof.Weights.Product
public import proofs.«01_k».proof.Proof.Gen.XbcInIdeal.Value
public import proofs.«01_k».proof.Proof.Gen.XbcInRefIdeal.Run

@[expose] public section

namespace Weights.XbcIn

open Idealize.ShloMosaic
open Idealize.ShloMosaic.TcCoe Idealize.SL.Sem
open Idealize.ShloMosaic.ValueIdx
open Idealize.ShloMosaic.Pipeline
open Cert.XbcInIdeal Cert.XbcInIdeal.Gen

noncomputable section

/-- The launch's six points are the tiles, row by row. -/
theorem at_point : ∀ t : Fin cfg0.N, win0_0.index t (0 : Fin 2) = 0 ∧ win0_0.index t (1 : Fin 2) = t.val / 2 ∧ win0_1.index t (0 : Fin 2) = 0
    ∧ win0_1.index t (1 : Fin 2) = t.val % 2 ∧ win0_2.index t (0 : Fin 2) = t.val / 2 ∧ win0_2.index t (1 : Fin 2) = t.val % 2 ∧ win0_2.flush t = true :=
  (by decide +kernel : ∀ t : Fin grid0.N, _)

variable (m : (ℓ : Loc nD τ sig) → Buf (Elt Ideal) ℓ) (c : Dev nD)

theorem tile (t : Fin cfg0.N) : outsAt0 m c t = prod (K := 4096) (M := 1024) (N := 512) (iblk m c 0 t) (iblk m c 1 t) := by
  unfold outsAt0 out0_A_2 kernelRun0_A
  rw [kept, loaded, loaded]
  exact matmul_tn (φ₁ := .bf16) (φ₂ := .bf16) _ _

theorem entries : (dats m 0 c).arrAt 2 cfg0.N = prod (K := 4096) (M := 3072) (N := 1024) (V m c main_arg0) (V m c main_arg1) :=
  of_tiles (a := 1024) (b := 512) (G := cfg0.N) 2 (by decide) (by decide) (by decide) (fun i hi => show i / 1024 * 2 + 2 ≤ 6 by omega)
    (fun t => (win0_0.rect t).emb) (fun t => (win0_1.rect t).emb) (fun t => (win0_2.rect t).emb) (bx := fun t => iblk m c 0 t) (bz := fun t => iblk m c 1 t)
    (fun _ _ => rfl) (fun _ _ => rfl)
    (fun t i => congrFun (((Value.blocks2 m c t (at_point t).2.2.2.2.2.2).trans (Value.flushed2 m c t)).trans (tile m c t)) i)
    (fun t i => Window.rect_emb_val_of_index_zero win0_0 t 0 (at_point t).1 i)
    (fun t i => (Window.rect_emb_val win0_0 t i 1).trans (congrArg (· * 1024 + (i 1).val) (at_point t).2.1))
    (fun t i => Window.rect_emb_val_of_index_zero win0_1 t 0 (at_point t).2.2.1 i)
    (fun t i => (Window.rect_emb_val win0_1 t i 1).trans (congrArg (· * 512 + (i 1).val) (at_point t).2.2.2.1))
    (fun t i => (Window.rect_emb_val win0_2 t i 0).trans (congrArg (· * 1024 + (i 0).val) (at_point t).2.2.2.2.1))
    (fun t i => (Window.rect_emb_val win0_2 t i 1).trans (congrArg (· * 512 + (i 1).val) (at_point t).2.2.2.2.2.1))

theorem agree : Cert.algebraic_XbcInIdeal_XbcInRefIdeal := by
  intro m g m' g' _ hargs
  refine ⟨fun c => (dats m 0 c).arrAt 2 cfg0.N, Value.run_blocks m g, ?_⟩
  refine (θ_run _ _ _).mono (fun r h c => ⟨(h c).1.trans ?_, (h c).2⟩) (Cert.XbcInRefIdeal.Value.run (F := Ideal) m' g')
  rw [(hargs c).1, (hargs c).2]
  exact (host_turned (φ₁ := .f32) (φ₂ := .f32) _ _ _ _).trans (entries m c).symm

end

end Weights.XbcIn
-- ==== Proof.Weights.ZIn.lean ====
/- The gradient of the matrix that feeds the state-space layer's gate, kept transposed. -/
module

public import proofs.«01_k».proof.Defs
public import proofs.«01_k».proof.Proof.Weights.Product
public import proofs.«01_k».proof.Proof.Gen.ZInIdeal.Value
public import proofs.«01_k».proof.Proof.Gen.ZInRefIdeal.Run

@[expose] public section

namespace Weights.ZIn

open Idealize.ShloMosaic
open Idealize.ShloMosaic.TcCoe Idealize.SL.Sem
open Idealize.ShloMosaic.ValueIdx
open Idealize.ShloMosaic.Pipeline
open Cert.ZInIdeal Cert.ZInIdeal.Gen

noncomputable section

/-- The launch's four points are the tiles, row by row. -/
theorem at_point : ∀ t : Fin cfg0.N, win0_0.index t (0 : Fin 2) = 0 ∧ win0_0.index t (1 : Fin 2) = t.val / 2 ∧ win0_1.index t (0 : Fin 2) = 0
    ∧ win0_1.index t (1 : Fin 2) = t.val % 2 ∧ win0_2.index t (0 : Fin 2) = t.val / 2 ∧ win0_2.index t (1 : Fin 2) = t.val % 2 ∧ win0_2.flush t = true :=
  (by decide +kernel : ∀ t : Fin grid0.N, _)

variable (m : (ℓ : Loc nD τ sig) → Buf (Elt Ideal) ℓ) (c : Dev nD)

theorem tile (t : Fin cfg0.N) : outsAt0 m c t = prod (K := 4096) (M := 1024) (N := 512) (iblk m c 0 t) (iblk m c 1 t) := by
  unfold outsAt0 out0_A_2 kernelRun0_A
  rw [kept, loaded, loaded]
  exact matmul_tn (φ₁ := .bf16) (φ₂ := .bf16) _ _

theorem entries : (dats m 0 c).arrAt 2 cfg0.N = prod (K := 4096) (M := 2048) (N := 1024) (V m c main_arg0) (V m c main_arg1) :=
  of_tiles (a := 1024) (b := 512) (G := cfg0.N) 2 (by decide) (by decide) (by decide) (fun i hi => show i / 1024 * 2 + 2 ≤ 4 by omega)
    (fun t => (win0_0.rect t).emb) (fun t => (win0_1.rect t).emb) (fun t => (win0_2.rect t).emb) (bx := fun t => iblk m c 0 t) (bz := fun t => iblk m c 1 t)
    (fun _ _ => rfl) (fun _ _ => rfl)
    (fun t i => congrFun (((Value.blocks2 m c t (at_point t).2.2.2.2.2.2).trans (Value.flushed2 m c t)).trans (tile m c t)) i)
    (fun t i => Window.rect_emb_val_of_index_zero win0_0 t 0 (at_point t).1 i)
    (fun t i => (Window.rect_emb_val win0_0 t i 1).trans (congrArg (· * 1024 + (i 1).val) (at_point t).2.1))
    (fun t i => Window.rect_emb_val_of_index_zero win0_1 t 0 (at_point t).2.2.1 i)
    (fun t i => (Window.rect_emb_val win0_1 t i 1).trans (congrArg (· * 512 + (i 1).val) (at_point t).2.2.2.1))
    (fun t i => (Window.rect_emb_val win0_2 t i 0).trans (congrArg (· * 1024 + (i 0).val) (at_point t).2.2.2.2.1))
    (fun t i => (Window.rect_emb_val win0_2 t i 1).trans (congrArg (· * 512 + (i 1).val) (at_point t).2.2.2.2.2.1))

theorem agree : Cert.algebraic_ZInIdeal_ZInRefIdeal := by
  intro m g m' g' _ hargs
  refine ⟨fun c => (dats m 0 c).arrAt 2 cfg0.N, Value.run_blocks m g, ?_⟩
  refine (θ_run _ _ _).mono (fun r h c => ⟨(h c).1.trans ?_, (h c).2⟩) (Cert.ZInRefIdeal.Value.run (F := Ideal) m' g')
  rw [(hargs c).1, (hargs c).2]
  exact (host_turned (φ₁ := .f32) (φ₂ := .f32) _ _ _ _).trans (entries m c).symm

end

end Weights.ZIn
-- ==== Proof.Weights.DtIn.lean ====
/- The gradient of the matrix that feeds the time steps, kept transposed. -/
module

public import proofs.«01_k».proof.Defs
public import proofs.«01_k».proof.Proof.Weights.Product
public import proofs.«01_k».proof.Proof.Gen.DtInIdeal.Value
public import proofs.«01_k».proof.Proof.Gen.DtInRefIdeal.Run

@[expose] public section

namespace Weights.DtIn

open Idealize.ShloMosaic
open Idealize.ShloMosaic.TcCoe Idealize.SL.Sem
open Idealize.ShloMosaic.ValueIdx
open Idealize.ShloMosaic.Pipeline
open Cert.DtInIdeal Cert.DtInIdeal.Gen

noncomputable section

/-- The launch's two points are the tiles, row by row. -/
theorem at_point : ∀ t : Fin cfg0.N, win0_0.index t (0 : Fin 2) = 0 ∧ win0_0.index t (1 : Fin 2) = t.val / 2 ∧ win0_1.index t (0 : Fin 2) = 0
    ∧ win0_1.index t (1 : Fin 2) = t.val % 2 ∧ win0_2.index t (0 : Fin 2) = t.val / 2 ∧ win0_2.index t (1 : Fin 2) = t.val % 2 ∧ win0_2.flush t = true :=
  (by decide +kernel : ∀ t : Fin grid0.N, _)

variable (m : (ℓ : Loc nD τ sig) → Buf (Elt Ideal) ℓ) (c : Dev nD)

theorem tile (t : Fin cfg0.N) : outsAt0 m c t = prod (K := 4096) (M := 128) (N := 512) (iblk m c 0 t) (iblk m c 1 t) := by
  unfold outsAt0 out0_A_2 kernelRun0_A
  rw [kept, loaded, loaded]
  exact matmul_tn (φ₁ := .bf16) (φ₂ := .bf16) _ _

theorem entries : (dats m 0 c).arrAt 2 cfg0.N = prod (K := 4096) (M := 128) (N := 1024) (V m c main_arg0) (V m c main_arg1) :=
  of_tiles (a := 128) (b := 512) (G := cfg0.N) 2 (by decide) (by decide) (by decide) (fun i hi => show i / 128 * 2 + 2 ≤ 2 by omega)
    (fun t => (win0_0.rect t).emb) (fun t => (win0_1.rect t).emb) (fun t => (win0_2.rect t).emb) (bx := fun t => iblk m c 0 t) (bz := fun t => iblk m c 1 t)
    (fun _ _ => rfl) (fun _ _ => rfl)
    (fun t i => congrFun (((Value.blocks2 m c t (at_point t).2.2.2.2.2.2).trans (Value.flushed2 m c t)).trans (tile m c t)) i)
    (fun t i => Window.rect_emb_val_of_index_zero win0_0 t 0 (at_point t).1 i)
    (fun t i => (Window.rect_emb_val win0_0 t i 1).trans (congrArg (· * 128 + (i 1).val) (at_point t).2.1))
    (fun t i => Window.rect_emb_val_of_index_zero win0_1 t 0 (at_point t).2.2.1 i)
    (fun t i => (Window.rect_emb_val win0_1 t i 1).trans (congrArg (· * 512 + (i 1).val) (at_point t).2.2.2.1))
    (fun t i => (Window.rect_emb_val win0_2 t i 0).trans (congrArg (· * 128 + (i 0).val) (at_point t).2.2.2.2.1))
    (fun t i => (Window.rect_emb_val win0_2 t i 1).trans (congrArg (· * 512 + (i 1).val) (at_point t).2.2.2.2.2.1))

theorem agree : Cert.algebraic_DtInIdeal_DtInRefIdeal := by
  intro m g m' g' _ hargs
  refine ⟨fun c => (dats m 0 c).arrAt 2 cfg0.N, Value.run_blocks m g, ?_⟩
  refine (θ_run _ _ _).mono (fun r h c => ⟨(h c).1.trans ?_, (h c).2⟩) (Cert.DtInRefIdeal.Value.run (F := Ideal) m' g')
  rw [(hargs c).1, (hargs c).2]
  exact (host_turned (φ₁ := .f32) (φ₂ := .f32) _ _ _ _).trans (entries m c).symm

end

end Weights.DtIn
-- ==== Proof.Weights.SsmOut.lean ====
/- The gradient of the matrix that leaves the state-space layer. -/
module

public import proofs.«01_k».proof.Defs
public import proofs.«01_k».proof.Proof.Weights.Product
public import proofs.«01_k».proof.Proof.Gen.SsmOutIdeal.Value
public import proofs.«01_k».proof.Proof.Gen.SsmOutRefIdeal.Run

@[expose] public section

namespace Weights.SsmOut

open Idealize.ShloMosaic
open Idealize.ShloMosaic.TcCoe Idealize.SL.Sem
open Idealize.ShloMosaic.ValueIdx
open Idealize.ShloMosaic.Pipeline
open Cert.SsmOutIdeal Cert.SsmOutIdeal.Gen

noncomputable section

/-- The launch's four points are the tiles, row by row. -/
theorem at_point : ∀ t : Fin cfg0.N, win0_0.index t (0 : Fin 2) = 0 ∧ win0_0.index t (1 : Fin 2) = t.val / 2 ∧ win0_1.index t (0 : Fin 2) = 0
    ∧ win0_1.index t (1 : Fin 2) = t.val % 2 ∧ win0_2.index t (0 : Fin 2) = t.val / 2 ∧ win0_2.index t (1 : Fin 2) = t.val % 2 ∧ win0_2.flush t = true :=
  (by decide +kernel : ∀ t : Fin grid0.N, _)

variable (m : (ℓ : Loc nD τ sig) → Buf (Elt Ideal) ℓ) (c : Dev nD)

theorem tile (t : Fin cfg0.N) : outsAt0 m c t = prod (K := 4096) (M := 1024) (N := 512) (iblk m c 0 t) (iblk m c 1 t) := by
  unfold outsAt0 out0_A_2 kernelRun0_A
  rw [kept, loaded, loaded]
  exact matmul_tn (φ₁ := .bf16) (φ₂ := .bf16) _ _

theorem entries : (dats m 0 c).arrAt 2 cfg0.N = prod (K := 4096) (M := 2048) (N := 1024) (V m c main_arg0) (V m c main_arg1) :=
  of_tiles (a := 1024) (b := 512) (G := cfg0.N) 2 (by decide) (by decide) (by decide) (fun i hi => show i / 1024 * 2 + 2 ≤ 4 by omega)
    (fun t => (win0_0.rect t).emb) (fun t => (win0_1.rect t).emb) (fun t => (win0_2.rect t).emb) (bx := fun t => iblk m c 0 t) (bz := fun t => iblk m c 1 t)
    (fun _ _ => rfl) (fun _ _ => rfl)
    (fun t i => congrFun (((Value.blocks2 m c t (at_point t).2.2.2.2.2.2).trans (Value.flushed2 m c t)).trans (tile m c t)) i)
    (fun t i => Window.rect_emb_val_of_index_zero win0_0 t 0 (at_point t).1 i)
    (fun t i => (Window.rect_emb_val win0_0 t i 1).trans (congrArg (· * 1024 + (i 1).val) (at_point t).2.1))
    (fun t i => Window.rect_emb_val_of_index_zero win0_1 t 0 (at_point t).2.2.1 i)
    (fun t i => (Window.rect_emb_val win0_1 t i 1).trans (congrArg (· * 512 + (i 1).val) (at_point t).2.2.2.1))
    (fun t i => (Window.rect_emb_val win0_2 t i 0).trans (congrArg (· * 1024 + (i 0).val) (at_point t).2.2.2.2.1))
    (fun t i => (Window.rect_emb_val win0_2 t i 1).trans (congrArg (· * 512 + (i 1).val) (at_point t).2.2.2.2.2.1))

theorem agree : Cert.algebraic_SsmOutIdeal_SsmOutRefIdeal := by
  intro m g m' g' _ hargs
  refine ⟨fun c => (dats m 0 c).arrAt 2 cfg0.N, Value.run_blocks m g, ?_⟩
  refine (θ_run _ _ _).mono (fun r h c => ⟨(h c).1.trans ?_, (h c).2⟩) (Cert.SsmOutRefIdeal.Value.run (F := Ideal) m' g')
  rw [(hargs c).1, (hargs c).2]
  exact (host_swapped (φ₁ := .f32) (φ₂ := .f32) _ _ _).trans (entries m c).symm

end

end Weights.SsmOut
-- ==== Proof.Weights.AttOut.lean ====
/- The gradient of the matrix that leaves the attention. -/
module

public import proofs.«01_k».proof.Defs
public import proofs.«01_k».proof.Proof.Weights.Product
public import proofs.«01_k».proof.Proof.Gen.AttOutIdeal.Value
public import proofs.«01_k».proof.Proof.Gen.AttOutRefIdeal.Run

@[expose] public section

namespace Weights.AttOut

open Idealize.ShloMosaic
open Idealize.ShloMosaic.TcCoe Idealize.SL.Sem
open Idealize.ShloMosaic.ValueIdx
open Idealize.ShloMosaic.Pipeline
open Cert.AttOutIdeal Cert.AttOutIdeal.Gen

noncomputable section

/-- The launch's two points are the tiles, row by row. -/
theorem at_point : ∀ t : Fin cfg0.N, win0_0.index t (0 : Fin 2) = 0 ∧ win0_0.index t (1 : Fin 2) = t.val / 2 ∧ win0_1.index t (0 : Fin 2) = 0
    ∧ win0_1.index t (1 : Fin 2) = t.val % 2 ∧ win0_2.index t (0 : Fin 2) = t.val / 2 ∧ win0_2.index t (1 : Fin 2) = t.val % 2 ∧ win0_2.flush t = true :=
  (by decide +kernel : ∀ t : Fin grid0.N, _)

variable (m : (ℓ : Loc nD τ sig) → Buf (Elt Ideal) ℓ) (c : Dev nD)

theorem tile (t : Fin cfg0.N) : outsAt0 m c t = prod (K := 4096) (M := 1024) (N := 512) (iblk m c 0 t) (iblk m c 1 t) := by
  unfold outsAt0 out0_A_2 kernelRun0_A
  rw [kept, loaded, loaded]
  exact matmul_tn (φ₁ := .bf16) (φ₂ := .bf16) _ _

theorem entries : (dats m 0 c).arrAt 2 cfg0.N = prod (K := 4096) (M := 1024) (N := 1024) (V m c main_arg0) (V m c main_arg1) :=
  of_tiles (a := 1024) (b := 512) (G := cfg0.N) 2 (by decide) (by decide) (by decide) (fun i hi => show i / 1024 * 2 + 2 ≤ 2 by omega)
    (fun t => (win0_0.rect t).emb) (fun t => (win0_1.rect t).emb) (fun t => (win0_2.rect t).emb) (bx := fun t => iblk m c 0 t) (bz := fun t => iblk m c 1 t)
    (fun _ _ => rfl) (fun _ _ => rfl)
    (fun t i => congrFun (((Value.blocks2 m c t (at_point t).2.2.2.2.2.2).trans (Value.flushed2 m c t)).trans (tile m c t)) i)
    (fun t i => Window.rect_emb_val_of_index_zero win0_0 t 0 (at_point t).1 i)
    (fun t i => (Window.rect_emb_val win0_0 t i 1).trans (congrArg (· * 1024 + (i 1).val) (at_point t).2.1))
    (fun t i => Window.rect_emb_val_of_index_zero win0_1 t 0 (at_point t).2.2.1 i)
    (fun t i => (Window.rect_emb_val win0_1 t i 1).trans (congrArg (· * 512 + (i 1).val) (at_point t).2.2.2.1))
    (fun t i => (Window.rect_emb_val win0_2 t i 0).trans (congrArg (· * 1024 + (i 0).val) (at_point t).2.2.2.2.1))
    (fun t i => (Window.rect_emb_val win0_2 t i 1).trans (congrArg (· * 512 + (i 1).val) (at_point t).2.2.2.2.2.1))

theorem agree : Cert.algebraic_AttOutIdeal_AttOutRefIdeal := by
  intro m g m' g' _ hargs
  refine ⟨fun c => (dats m 0 c).arrAt 2 cfg0.N, Value.run_blocks m g, ?_⟩
  refine (θ_run _ _ _).mono (fun r h c => ⟨(h c).1.trans ?_, (h c).2⟩) (Cert.AttOutRefIdeal.Value.run (F := Ideal) m' g')
  rw [(hargs c).1, (hargs c).2]
  exact (host_swapped (φ₁ := .f32) (φ₂ := .f32) _ _ _).trans (entries m c).symm

end

end Weights.AttOut
-- ==== Proof.Weights.PleGate.lean ====
/- The gradient of the matrix that gates the per-layer embedding. -/
module

public import proofs.«01_k».proof.Defs
public import proofs.«01_k».proof.Proof.Weights.Product
public import proofs.«01_k».proof.Proof.Gen.PleGateIdeal.Value
public import proofs.«01_k».proof.Proof.Gen.PleGateRefIdeal.Run

@[expose] public section

namespace Weights.PleGate

open Idealize.ShloMosaic
open Idealize.ShloMosaic.TcCoe Idealize.SL.Sem
open Idealize.ShloMosaic.ValueIdx
open Idealize.ShloMosaic.Pipeline
open Cert.PleGateIdeal Cert.PleGateIdeal.Gen

noncomputable section

/-- The launch's two points are the tiles, row by row. -/
theorem at_point : ∀ t : Fin cfg0.N, win0_0.index t (0 : Fin 2) = 0 ∧ win0_0.index t (1 : Fin 2) = t.val / 2 ∧ win0_1.index t (0 : Fin 2) = 0
    ∧ win0_1.index t (1 : Fin 2) = t.val % 2 ∧ win0_2.index t (0 : Fin 2) = t.val / 2 ∧ win0_2.index t (1 : Fin 2) = t.val % 2 ∧ win0_2.flush t = true :=
  (by decide +kernel : ∀ t : Fin grid0.N, _)

variable (m : (ℓ : Loc nD τ sig) → Buf (Elt Ideal) ℓ) (c : Dev nD)

theorem tile (t : Fin cfg0.N) : outsAt0 m c t = prod (K := 4096) (M := 1024) (N := 512) (iblk m c 0 t) (iblk m c 1 t) := by
  unfold outsAt0 out0_A_2 kernelRun0_A
  rw [kept, loaded, loaded]
  exact matmul_tn (φ₁ := .bf16) (φ₂ := .bf16) _ _

theorem entries : (dats m 0 c).arrAt 2 cfg0.N = prod (K := 4096) (M := 1024) (N := 1024) (V m c main_arg0) (V m c main_arg1) :=
  of_tiles (a := 1024) (b := 512) (G := cfg0.N) 2 (by decide) (by decide) (by decide) (fun i hi => show i / 1024 * 2 + 2 ≤ 2 by omega)
    (fun t => (win0_0.rect t).emb) (fun t => (win0_1.rect t).emb) (fun t => (win0_2.rect t).emb) (bx := fun t => iblk m c 0 t) (bz := fun t => iblk m c 1 t)
    (fun _ _ => rfl) (fun _ _ => rfl)
    (fun t i => congrFun (((Value.blocks2 m c t (at_point t).2.2.2.2.2.2).trans (Value.flushed2 m c t)).trans (tile m c t)) i)
    (fun t i => Window.rect_emb_val_of_index_zero win0_0 t 0 (at_point t).1 i)
    (fun t i => (Window.rect_emb_val win0_0 t i 1).trans (congrArg (· * 1024 + (i 1).val) (at_point t).2.1))
    (fun t i => Window.rect_emb_val_of_index_zero win0_1 t 0 (at_point t).2.2.1 i)
    (fun t i => (Window.rect_emb_val win0_1 t i 1).trans (congrArg (· * 512 + (i 1).val) (at_point t).2.2.2.1))
    (fun t i => (Window.rect_emb_val win0_2 t i 0).trans (congrArg (· * 1024 + (i 0).val) (at_point t).2.2.2.2.1))
    (fun t i => (Window.rect_emb_val win0_2 t i 1).trans (congrArg (· * 512 + (i 1).val) (at_point t).2.2.2.2.2.1))

theorem agree : Cert.algebraic_PleGateIdeal_PleGateRefIdeal := by
  intro m g m' g' _ hargs
  refine ⟨fun c => (dats m 0 c).arrAt 2 cfg0.N, Value.run_blocks m g, ?_⟩
  refine (θ_run _ _ _).mono (fun r h c => ⟨(h c).1.trans ?_, (h c).2⟩) (Cert.PleGateRefIdeal.Value.run (F := Ideal) m' g')
  rw [(hargs c).1, (hargs c).2]
  exact (host_swapped (φ₁ := .f32) (φ₂ := .f32) _ _ _).trans (entries m c).symm

end

end Weights.PleGate
-- ==== Proof.Weights.PleProj.lean ====
/- The gradient of the matrix that projects the per-layer embedding, kept transposed. -/
module

public import proofs.«01_k».proof.Defs
public import proofs.«01_k».proof.Proof.Weights.Product
public import proofs.«01_k».proof.Proof.Gen.PleProjIdeal.Value
public import proofs.«01_k».proof.Proof.Gen.PleProjRefIdeal.Run

@[expose] public section

namespace Weights.PleProj

open Idealize.ShloMosaic
open Idealize.ShloMosaic.TcCoe Idealize.SL.Sem
open Idealize.ShloMosaic.ValueIdx
open Idealize.ShloMosaic.Pipeline
open Cert.PleProjIdeal Cert.PleProjIdeal.Gen

noncomputable section

/-- The launch's one point is the whole. -/
theorem at_point : ∀ t : Fin cfg0.N, win0_0.index t (0 : Fin 2) = 0 ∧ win0_0.index t (1 : Fin 2) = t.val / 1 ∧ win0_1.index t (0 : Fin 2) = 0
    ∧ win0_1.index t (1 : Fin 2) = t.val % 1 ∧ win0_2.index t (0 : Fin 2) = t.val / 1 ∧ win0_2.index t (1 : Fin 2) = t.val % 1 ∧ win0_2.flush t = true :=
  (by decide +kernel : ∀ t : Fin grid0.N, _)

variable (m : (ℓ : Loc nD τ sig) → Buf (Elt Ideal) ℓ) (c : Dev nD)

theorem tile (t : Fin cfg0.N) : outsAt0 m c t = prod (K := 4096) (M := 1024) (N := 256) (iblk m c 0 t) (iblk m c 1 t) := by
  unfold outsAt0 out0_A_2 kernelRun0_A
  rw [kept, loaded, loaded]
  exact matmul_tn (φ₁ := .bf16) (φ₂ := .bf16) _ _

theorem entries : (dats m 0 c).arrAt 2 cfg0.N = prod (K := 4096) (M := 1024) (N := 256) (V m c main_arg0) (V m c main_arg1) :=
  of_tiles (a := 1024) (b := 256) (G := cfg0.N) 1 (by decide) (by decide) (by decide) (fun i hi => show i / 1024 * 1 + 1 ≤ 1 by omega)
    (fun t => (win0_0.rect t).emb) (fun t => (win0_1.rect t).emb) (fun t => (win0_2.rect t).emb) (bx := fun t => iblk m c 0 t) (bz := fun t => iblk m c 1 t)
    (fun _ _ => rfl) (fun _ _ => rfl)
    (fun t i => congrFun (((Value.blocks2 m c t (at_point t).2.2.2.2.2.2).trans (Value.flushed2 m c t)).trans (tile m c t)) i)
    (fun t i => Window.rect_emb_val_of_index_zero win0_0 t 0 (at_point t).1 i)
    (fun t i => (Window.rect_emb_val win0_0 t i 1).trans (congrArg (· * 1024 + (i 1).val) (at_point t).2.1))
    (fun t i => Window.rect_emb_val_of_index_zero win0_1 t 0 (at_point t).2.2.1 i)
    (fun t i => (Window.rect_emb_val win0_1 t i 1).trans (congrArg (· * 256 + (i 1).val) (at_point t).2.2.2.1))
    (fun t i => (Window.rect_emb_val win0_2 t i 0).trans (congrArg (· * 1024 + (i 0).val) (at_point t).2.2.2.2.1))
    (fun t i => (Window.rect_emb_val win0_2 t i 1).trans (congrArg (· * 256 + (i 1).val) (at_point t).2.2.2.2.2.1))

theorem agree : Cert.algebraic_PleProjIdeal_PleProjRefIdeal := by
  intro m g m' g' _ hargs
  refine ⟨fun c => (dats m 0 c).arrAt 2 cfg0.N, Value.run_blocks m g, ?_⟩
  refine (θ_run _ _ _).mono (fun r h c => ⟨(h c).1.trans ?_, (h c).2⟩) (Cert.PleProjRefIdeal.Value.run (F := Ideal) m' g')
  rw [(hargs c).1, (hargs c).2]
  exact (host_turned (φ₁ := .f32) (φ₂ := .f32) _ _ _ _).trans (entries m c).symm

end

end Weights.PleProj
-- ==== Proof.Weights.Rows.lean ====
/- Products of rows with a matrix, kept as it is or transposed, whole and in tiles. -/
module

public import proofs.«01_k».proof.Proof.Weights.Product
public import Idealize.ShloMosaic.Lib.MatmulPlain

@[expose] public section

namespace Weights

open Idealize.ShloMosaic
open Idealize.ShloMosaic.ValueIdx
open scoped BigOperators

noncomputable section

/-- The entries of `x w`. -/
def rows {M K N : ℕ} (x : (⟨2, ![M, K]⟩ : Shape).Idx → EReal) (w : (⟨2, ![K, N]⟩ : Shape).Idx → EReal) : (⟨2, ![M, N]⟩ : Shape).Idx → EReal :=
  fun j => ∑ k : Fin K, x (ix2 (j 0) k) * w (ix2 k (j 1))

/-- The entries of `x wᵀ`. -/
def turned {M K N : ℕ} (x : (⟨2, ![M, K]⟩ : Shape).Idx → EReal) (w : (⟨2, ![N, K]⟩ : Shape).Idx → EReal) : (⟨2, ![M, N]⟩ : Shape).Idx → EReal :=
  fun j => ∑ k : Fin K, x (ix2 (j 0) k) * w (ix2 (j 1) k)

/-- An index of a two-axis array is the pair of its coordinates. -/
theorem pair {M N : ℕ} (j : (⟨2, ![M, N]⟩ : Shape).Idx) : ∃ (r : Fin M) (c : Fin N), j = ix2 r c :=
  ⟨j 0, j 1, funext fun q => Fin.ext (by
    match q with
    | ⟨0, _⟩ => rfl
    | ⟨1, _⟩ => rfl)⟩

theorem matmul_rows {M K N : ℕ} {φ₁ φ₂ : FTy} (x : FVec Ideal ⟨2, ![M, K]⟩ φ₁) (w : FVec Ideal ⟨2, ![K, N]⟩ φ₂) :
    FloatOps.matmul (DotDims.plain M K N) none x w (constant (F := Ideal) ⟨2, ![M, N]⟩ .f32 0x00000000#32) = rows x w := by
  funext j
  obtain ⟨r, c, rfl⟩ := pair j
  rw [Ideal.matmul_plain_apply]
  have h0 : (constant (F := Ideal) ⟨2, ![M, N]⟩ .f32 0x00000000#32 (ix2 r c) : EReal) = 0 := Ideal.ofBits_zero_f32
  rw [h0, zero_add]
  rfl

theorem matmul_turned {M K N : ℕ} {φ₁ φ₂ : FTy} (x : FVec Ideal ⟨2, ![M, K]⟩ φ₁) (w : FVec Ideal ⟨2, ![N, K]⟩ φ₂) :
    FloatOps.matmul (DotDims.transposedRhs M K N) none x w (constant (F := Ideal) ⟨2, ![M, N]⟩ .f32 0x00000000#32) = turned x w := by
  funext j
  obtain ⟨r, c, rfl⟩ := pair j
  rw [Ideal.matmul_transposedRhs_apply]
  have h0 : (constant (F := Ideal) ⟨2, ![M, N]⟩ .f32 0x00000000#32 (ix2 r c) : EReal) = 0 := Ideal.ofBits_zero_f32
  rw [h0, zero_add]
  rfl

/-- A host's product is a kernel's onto zero. -/
theorem host_eq {s₁ s₂ s : Shape} {φ₁ φ₂ : FTy} (d : DotDims s₁ s₂ s) (x : FVec Ideal s₁ φ₁) (w : FVec Ideal s₂ φ₂) :
    Host.dotGeneral (F := Ideal) d none x w = FloatOps.matmul d none x w (constant (F := Ideal) s .f32 0x00000000#32) := by
  funext j
  simp only [Host.dotGeneral]
  have h0 : (constant (F := Ideal) s .f32 0x00000000#32 j : EReal) = 0 := Ideal.ofBits_zero_f32
  rw [Ideal.dotGeneral_apply, Ideal.matmul_apply, h0, zero_add]

theorem host_rows {M K N : ℕ} {φ₁ φ₂ : FTy} (x : FVec Ideal ⟨2, ![M, K]⟩ φ₁) (w : FVec Ideal ⟨2, ![K, N]⟩ φ₂) :
    Host.dotGeneral (F := Ideal) (DotDims.plain M K N) none x w = rows x w :=
  (host_eq _ x w).trans (matmul_rows x w)

theorem transpose_at {M N : ℕ} (w : (⟨2, ![M, N]⟩ : Shape).Idx → EReal) (h : Shape.Transposes ⟨2, ![M, N]⟩ [1, 0] ⟨2, ![N, M]⟩) (p : Fin N) (q : Fin M) :
    transpose ⟨2, ![N, M]⟩ [1, 0] w h (ix2 p q) = w (ix2 q p) :=
  transpose_apply [1, 0] w h (ix2 p q) (ix2 q p) (fun a => by
    match a with
    | ⟨0, _⟩ => rfl
    | ⟨1, _⟩ => rfl)

/-- The reference's product with a matrix kept transposed. -/
theorem host_kept {M K N : ℕ} {φ₁ φ₂ : FTy} (x : FVec Ideal ⟨2, ![M, K]⟩ φ₁) (w : FVec Ideal ⟨2, ![N, K]⟩ φ₂)
    (h : Shape.Transposes ⟨2, ![N, K]⟩ [1, 0] ⟨2, ![K, N]⟩) :
    Host.dotGeneral (F := Ideal) (φ₁ := φ₁) (φ₂ := φ₂) (DotDims.plain M K N) none x (transpose ⟨2, ![K, N]⟩ [1, 0] w h) = turned x w :=
  (host_rows x _).trans (funext fun _ => Finset.sum_congr rfl fun k _ => congrArg (_ * ·) (transpose_at w h k _))

/-- What comes back through it, as the transformation spells it. -/
theorem host_back {M K N : ℕ} {φ₁ φ₂ : FTy} (x : FVec Ideal ⟨2, ![M, K]⟩ φ₁) (w : FVec Ideal ⟨2, ![K, N]⟩ φ₂)
    (h : Shape.Transposes ⟨2, ![K, N]⟩ [1, 0] ⟨2, ![N, K]⟩) :
    Host.dotGeneral (F := Ideal) (φ₁ := φ₁) (φ₂ := φ₂) (DotDims.transposedRhs M K N) none x (transpose ⟨2, ![N, K]⟩ [1, 0] w h) = rows x w :=
  ((host_eq _ x _).trans (matmul_turned x _)).trans (funext fun _ => Finset.sum_congr rfl fun k _ => congrArg (_ * ·) (transpose_at w h _ k))

section Tile

variable {M K N a b : ℕ} {x : (⟨2, ![M, K]⟩ : Shape).Idx → EReal} {bx : (⟨2, ![a, K]⟩ : Shape).Idx → EReal}
  {ex : (⟨2, ![a, K]⟩ : Shape).Idx → (⟨2, ![M, K]⟩ : Shape).Idx} {eo : (⟨2, ![a, b]⟩ : Shape).Idx → (⟨2, ![M, N]⟩ : Shape).Idx} {p q : ℕ}

/-- A block of rows times a block of the transposed matrix's rows is a tile of the product. -/
theorem turned_tile {w : (⟨2, ![N, K]⟩ : Shape).Idx → EReal} {bw : (⟨2, ![b, K]⟩ : Shape).Idx → EReal}
    {ew : (⟨2, ![b, K]⟩ : Shape).Idx → (⟨2, ![N, K]⟩ : Shape).Idx} (hx : ∀ i, bx i = x (ex i)) (hw : ∀ i, bw i = w (ew i))
    (x0 : ∀ i, (ex i 0).val = p + (i 0).val) (x1 : ∀ i, (ex i 1).val = (i 1).val)
    (w0 : ∀ i, (ew i 0).val = q + (i 0).val) (w1 : ∀ i, (ew i 1).val = (i 1).val)
    (o0 : ∀ i, (eo i 0).val = p + (i 0).val) (o1 : ∀ i, (eo i 1).val = q + (i 1).val) (i) : turned bx bw i = turned x w (eo i) := by
  refine Finset.sum_congr rfl fun k _ => congrArg₂ (· * ·) ((hx _).trans (congrArg x ?_)) ((hw _).trans (congrArg w ?_))
  · refine funext fun r => Fin.ext ?_
    match r with
    | ⟨0, _⟩ => exact (x0 _).trans (o0 i).symm
    | ⟨1, _⟩ => exact x1 _
  · refine funext fun r => Fin.ext ?_
    match r with
    | ⟨0, _⟩ => exact (w0 _).trans (o1 i).symm
    | ⟨1, _⟩ => exact w1 _

/-- A block of rows times a block of the matrix's columns is a tile of the product. -/
theorem rows_tile {w : (⟨2, ![K, N]⟩ : Shape).Idx → EReal} {bw : (⟨2, ![K, b]⟩ : Shape).Idx → EReal}
    {ew : (⟨2, ![K, b]⟩ : Shape).Idx → (⟨2, ![K, N]⟩ : Shape).Idx} (hx : ∀ i, bx i = x (ex i)) (hw : ∀ i, bw i = w (ew i))
    (x0 : ∀ i, (ex i 0).val = p + (i 0).val) (x1 : ∀ i, (ex i 1).val = (i 1).val)
    (w0 : ∀ i, (ew i 0).val = (i 0).val) (w1 : ∀ i, (ew i 1).val = q + (i 1).val)
    (o0 : ∀ i, (eo i 0).val = p + (i 0).val) (o1 : ∀ i, (eo i 1).val = q + (i 1).val) (i) : rows bx bw i = rows x w (eo i) := by
  refine Finset.sum_congr rfl fun k _ => congrArg₂ (· * ·) ((hx _).trans (congrArg x ?_)) ((hw _).trans (congrArg w ?_))
  · refine funext fun r => Fin.ext ?_
    match r with
    | ⟨0, _⟩ => exact (x0 _).trans (o0 i).symm
    | ⟨1, _⟩ => exact x1 _
  · refine funext fun r => Fin.ext ?_
    match r with
    | ⟨0, _⟩ => exact w0 _
    | ⟨1, _⟩ => exact (w1 _).trans (o1 i).symm

/-- The block of a third array at the tile's place. -/
theorem same_tile {z : (⟨2, ![M, N]⟩ : Shape).Idx → EReal} {bz : (⟨2, ![a, b]⟩ : Shape).Idx → EReal}
    {ez : (⟨2, ![a, b]⟩ : Shape).Idx → (⟨2, ![M, N]⟩ : Shape).Idx} (hz : ∀ i, bz i = z (ez i))
    (z0 : ∀ i, (ez i 0).val = p + (i 0).val) (z1 : ∀ i, (ez i 1).val = q + (i 1).val)
    (o0 : ∀ i, (eo i 0).val = p + (i 0).val) (o1 : ∀ i, (eo i 1).val = q + (i 1).val) (i) : bz i = z (eo i) := by
  refine (hz i).trans (congrArg z (funext fun r => Fin.ext ?_))
  match r with
  | ⟨0, _⟩ => exact (z0 i).trans (o0 i).symm
  | ⟨1, _⟩ => exact (z1 i).trans (o1 i).symm

end Tile

end

end Weights
-- ==== Proof.Weights.ZProj.lean ====
/- The product that feeds the state-space layer's gate. -/
module

public import proofs.«01_k».proof.Defs
public import proofs.«01_k».proof.Proof.Weights.Rows
public import proofs.«01_k».proof.Proof.Gen.ZProjIdeal.Value
public import proofs.«01_k».proof.Proof.Gen.ZProjRefIdeal.Run

@[expose] public section

namespace Weights.ZProj

open Idealize.ShloMosaic
open Idealize.ShloMosaic.TcCoe Idealize.SL.Sem
open Idealize.ShloMosaic.ValueIdx
open Idealize.ShloMosaic.Pipeline
open Cert.ZProjIdeal Cert.ZProjIdeal.Gen

noncomputable section

/-- The launch's points are the tiles, row by row. -/
theorem at_point : ∀ t : Fin cfg0.N, win0_0.index t (0 : Fin 2) = t.val / 4 ∧ win0_0.index t (1 : Fin 2) = 0 ∧ win0_1.index t (0 : Fin 2) = t.val % 4
    ∧ win0_1.index t (1 : Fin 2) = 0 ∧ win0_2.index t (0 : Fin 2) = t.val / 4 ∧ win0_2.index t (1 : Fin 2) = t.val % 4 ∧ win0_2.flush t = true :=
  (by decide +kernel : ∀ t : Fin grid0.N, _)

variable (m : (ℓ : Loc nD τ sig) → Buf (Elt Ideal) ℓ) (c : Dev nD)

theorem tile (t : Fin cfg0.N) : outsAt0 m c t = turned (M := 1024) (K := 1024) (N := 512) (iblk m c 0 t) (iblk m c 1 t) := by
  unfold outsAt0 out0_A_2 kernelRun0_A kernelRun0_A.sl.v12 kernelRun0_A.sl.HS0_1
  rw [kept]
  refine (View.readCov_full _ _ _ _ _).trans ?_
  unfold k0_pay2
  rw [loaded, loaded, shapeCast_self]
  exact matmul_turned (φ₁ := .bf16) (φ₂ := .bf16) _ _

theorem out_row (t i) : ((win0_2.rect t).emb i 0).val = t.val / 4 * 1024 + (i 0).val :=
  (Window.rect_emb_val win0_2 t i 0).trans (congrArg (· * 1024 + (i 0).val) (at_point t).2.2.2.2.1)

theorem out_column (t i) : ((win0_2.rect t).emb i 1).val = t.val % 4 * 512 + (i 1).val :=
  (Window.rect_emb_val win0_2 t i 1).trans (congrArg (· * 512 + (i 1).val) (at_point t).2.2.2.2.2.1)

theorem entries : (dats m 0 c).arrAt 2 cfg0.N = turned (M := 4096) (K := 1024) (N := 2048) (V m c main_arg0) (V m c main_arg1) :=
  of_cover (a := 1024) (b := 512) (G := cfg0.N) 4 (by decide) (by decide) (by decide) (fun i hi => show i / 1024 * 4 + 4 ≤ 16 by omega)
    (fun t => (win0_2.rect t).emb) out_row out_column fun t i =>
    (congrFun (((Value.blocks2 m c t (at_point t).2.2.2.2.2.2).trans (Value.flushed2 m c t)).trans (tile m c t)) i).trans
      (turned_tile (ex := (win0_0.rect t).emb) (ew := (win0_1.rect t).emb) (eo := (win0_2.rect t).emb) (bx := iblk m c 0 t) (bw := iblk m c 1 t)
        (fun _ => rfl) (fun _ => rfl)
        (fun i => (Window.rect_emb_val win0_0 t i 0).trans (congrArg (· * 1024 + (i 0).val) (at_point t).1))
        (fun i => Window.rect_emb_val_of_index_zero win0_0 t 1 (at_point t).2.1 i)
        (fun i => (Window.rect_emb_val win0_1 t i 0).trans (congrArg (· * 512 + (i 0).val) (at_point t).2.2.1))
        (fun i => Window.rect_emb_val_of_index_zero win0_1 t 1 (at_point t).2.2.2.1 i)
        (out_row t) (out_column t) i)

theorem agree : Cert.algebraic_ZProjIdeal_ZProjRefIdeal := by
  intro m g m' g' _ hargs
  refine ⟨fun c => (dats m 0 c).arrAt 2 cfg0.N, Value.run_blocks m g, ?_⟩
  refine (θ_run _ _ _).mono (fun r h c => ⟨(h c).1.trans ?_, (h c).2⟩) (Cert.ZProjRefIdeal.Value.run (F := Ideal) m' g')
  rw [(hargs c).1, (hargs c).2]
  exact (host_kept (φ₁ := .f32) (φ₂ := .f32) _ _ _).trans (entries m c).symm

end

end Weights.ZProj
-- ==== Proof.Weights.XbcProj.lean ====
/- The product that feeds the convolution. -/
module

public import proofs.«01_k».proof.Defs
public import proofs.«01_k».proof.Proof.Weights.Rows
public import proofs.«01_k».proof.Proof.Gen.XbcProjIdeal.Value
public import proofs.«01_k».proof.Proof.Gen.XbcProjRefIdeal.Run

@[expose] public section

namespace Weights.XbcProj

open Idealize.ShloMosaic
open Idealize.ShloMosaic.TcCoe Idealize.SL.Sem
open Idealize.ShloMosaic.ValueIdx
open Idealize.ShloMosaic.Pipeline
open Cert.XbcProjIdeal Cert.XbcProjIdeal.Gen

noncomputable section

/-- The launch's points are the tiles, row by row. -/
theorem at_point : ∀ t : Fin cfg0.N, win0_0.index t (0 : Fin 2) = t.val / 6 ∧ win0_0.index t (1 : Fin 2) = 0 ∧ win0_1.index t (0 : Fin 2) = t.val % 6
    ∧ win0_1.index t (1 : Fin 2) = 0 ∧ win0_2.index t (0 : Fin 2) = t.val / 6 ∧ win0_2.index t (1 : Fin 2) = t.val % 6 ∧ win0_2.flush t = true :=
  (by decide +kernel : ∀ t : Fin grid0.N, _)

variable (m : (ℓ : Loc nD τ sig) → Buf (Elt Ideal) ℓ) (c : Dev nD)

theorem tile (t : Fin cfg0.N) : outsAt0 m c t = turned (M := 1024) (K := 1024) (N := 512) (iblk m c 0 t) (iblk m c 1 t) := by
  unfold outsAt0 out0_A_2 kernelRun0_A kernelRun0_A.sl.v12 kernelRun0_A.sl.HS0_1
  rw [kept]
  refine (View.readCov_full _ _ _ _ _).trans ?_
  unfold k0_pay2
  rw [loaded, loaded, shapeCast_self]
  exact matmul_turned (φ₁ := .bf16) (φ₂ := .bf16) _ _

theorem out_row (t i) : ((win0_2.rect t).emb i 0).val = t.val / 6 * 1024 + (i 0).val :=
  (Window.rect_emb_val win0_2 t i 0).trans (congrArg (· * 1024 + (i 0).val) (at_point t).2.2.2.2.1)

theorem out_column (t i) : ((win0_2.rect t).emb i 1).val = t.val % 6 * 512 + (i 1).val :=
  (Window.rect_emb_val win0_2 t i 1).trans (congrArg (· * 512 + (i 1).val) (at_point t).2.2.2.2.2.1)

theorem entries : (dats m 0 c).arrAt 2 cfg0.N = turned (M := 4096) (K := 1024) (N := 3072) (V m c main_arg0) (V m c main_arg1) :=
  of_cover (a := 1024) (b := 512) (G := cfg0.N) 6 (by decide) (by decide) (by decide) (fun i hi => show i / 1024 * 6 + 6 ≤ 24 by omega)
    (fun t => (win0_2.rect t).emb) out_row out_column fun t i =>
    (congrFun (((Value.blocks2 m c t (at_point t).2.2.2.2.2.2).trans (Value.flushed2 m c t)).trans (tile m c t)) i).trans
      (turned_tile (ex := (win0_0.rect t).emb) (ew := (win0_1.rect t).emb) (eo := (win0_2.rect t).emb) (bx := iblk m c 0 t) (bw := iblk m c 1 t)
        (fun _ => rfl) (fun _ => rfl)
        (fun i => (Window.rect_emb_val win0_0 t i 0).trans (congrArg (· * 1024 + (i 0).val) (at_point t).1))
        (fun i => Window.rect_emb_val_of_index_zero win0_0 t 1 (at_point t).2.1 i)
        (fun i => (Window.rect_emb_val win0_1 t i 0).trans (congrArg (· * 512 + (i 0).val) (at_point t).2.2.1))
        (fun i => Window.rect_emb_val_of_index_zero win0_1 t 1 (at_point t).2.2.2.1 i)
        (out_row t) (out_column t) i)

theorem agree : Cert.algebraic_XbcProjIdeal_XbcProjRefIdeal := by
  intro m g m' g' _ hargs
  refine ⟨fun c => (dats m 0 c).arrAt 2 cfg0.N, Value.run_blocks m g, ?_⟩
  refine (θ_run _ _ _).mono (fun r h c => ⟨(h c).1.trans ?_, (h c).2⟩) (Cert.XbcProjRefIdeal.Value.run (F := Ideal) m' g')
  rw [(hargs c).1, (hargs c).2]
  exact (host_kept (φ₁ := .f32) (φ₂ := .f32) _ _ _).trans (entries m c).symm

end

end Weights.XbcProj
-- ==== Proof.Weights.DtProj.lean ====
/- The product that feeds the time steps. -/
module

public import proofs.«01_k».proof.Defs
public import proofs.«01_k».proof.Proof.Weights.Rows
public import proofs.«01_k».proof.Proof.Gen.DtProjIdeal.Value
public import proofs.«01_k».proof.Proof.Gen.DtProjRefIdeal.Run

@[expose] public section

namespace Weights.DtProj

open Idealize.ShloMosaic
open Idealize.ShloMosaic.TcCoe Idealize.SL.Sem
open Idealize.ShloMosaic.ValueIdx
open Idealize.ShloMosaic.Pipeline
open Cert.DtProjIdeal Cert.DtProjIdeal.Gen

noncomputable section

/-- The launch's points are the tiles, row by row. -/
theorem at_point : ∀ t : Fin cfg0.N, win0_0.index t (0 : Fin 2) = t.val / 1 ∧ win0_0.index t (1 : Fin 2) = 0 ∧ win0_1.index t (0 : Fin 2) = t.val % 1
    ∧ win0_1.index t (1 : Fin 2) = 0 ∧ win0_2.index t (0 : Fin 2) = t.val / 1 ∧ win0_2.index t (1 : Fin 2) = t.val % 1 ∧ win0_2.flush t = true :=
  (by decide +kernel : ∀ t : Fin grid0.N, _)

variable (m : (ℓ : Loc nD τ sig) → Buf (Elt Ideal) ℓ) (c : Dev nD)

theorem tile (t : Fin cfg0.N) : outsAt0 m c t = turned (M := 1024) (K := 1024) (N := 128) (iblk m c 0 t) (iblk m c 1 t) := by
  unfold outsAt0 out0_A_2 kernelRun0_A kernelRun0_A.sl.v12 kernelRun0_A.sl.HS0_1
  rw [kept]
  refine (View.readCov_full _ _ _ _ _).trans ?_
  unfold k0_pay2
  rw [loaded, loaded, shapeCast_self]
  exact matmul_turned (φ₁ := .bf16) (φ₂ := .bf16) _ _

theorem out_row (t i) : ((win0_2.rect t).emb i 0).val = t.val / 1 * 1024 + (i 0).val :=
  (Window.rect_emb_val win0_2 t i 0).trans (congrArg (· * 1024 + (i 0).val) (at_point t).2.2.2.2.1)

theorem out_column (t i) : ((win0_2.rect t).emb i 1).val = t.val % 1 * 128 + (i 1).val :=
  (Window.rect_emb_val win0_2 t i 1).trans (congrArg (· * 128 + (i 1).val) (at_point t).2.2.2.2.2.1)

theorem entries : (dats m 0 c).arrAt 2 cfg0.N = turned (M := 4096) (K := 1024) (N := 128) (V m c main_arg0) (V m c main_arg1) :=
  of_cover (a := 1024) (b := 128) (G := cfg0.N) 1 (by decide) (by decide) (by decide) (fun i hi => show i / 1024 * 1 + 1 ≤ 4 by omega)
    (fun t => (win0_2.rect t).emb) out_row out_column fun t i =>
    (congrFun (((Value.blocks2 m c t (at_point t).2.2.2.2.2.2).trans (Value.flushed2 m c t)).trans (tile m c t)) i).trans
      (turned_tile (ex := (win0_0.rect t).emb) (ew := (win0_1.rect t).emb) (eo := (win0_2.rect t).emb) (bx := iblk m c 0 t) (bw := iblk m c 1 t)
        (fun _ => rfl) (fun _ => rfl)
        (fun i => (Window.rect_emb_val win0_0 t i 0).trans (congrArg (· * 1024 + (i 0).val) (at_point t).1))
        (fun i => Window.rect_emb_val_of_index_zero win0_0 t 1 (at_point t).2.1 i)
        (fun i => (Window.rect_emb_val win0_1 t i 0).trans (congrArg (· * 128 + (i 0).val) (at_point t).2.2.1))
        (fun i => Window.rect_emb_val_of_index_zero win0_1 t 1 (at_point t).2.2.2.1 i)
        (out_row t) (out_column t) i)

theorem agree : Cert.algebraic_DtProjIdeal_DtProjRefIdeal := by
  intro m g m' g' _ hargs
  refine ⟨fun c => (dats m 0 c).arrAt 2 cfg0.N, Value.run_blocks m g, ?_⟩
  refine (θ_run _ _ _).mono (fun r h c => ⟨(h c).1.trans ?_, (h c).2⟩) (Cert.DtProjRefIdeal.Value.run (F := Ideal) m' g')
  rw [(hargs c).1, (hargs c).2]
  exact (host_kept (φ₁ := .f32) (φ₂ := .f32) _ _ _).trans (entries m c).symm

end

end Weights.DtProj
-- ==== Proof.Weights.FfnIn.lean ====
/- The two products that enter the feed-forward layer, and the second one weighed by the first one's `silu`. -/
module

public import proofs.«01_k».proof.Defs
public import proofs.«01_k».proof.Proof.Weights.Rows
public import proofs.«01_k».proof.Proof.Gen.FfnInIdeal.Value
public import proofs.«01_k».proof.Proof.Gen.FfnInRefIdeal.Run

@[expose] public section

namespace Weights.FfnIn

open Idealize.ShloMosaic
open Idealize.ShloMosaic.TcCoe Idealize.SL.Sem
open Idealize.ShloMosaic.ValueIdx
open Idealize.ShloMosaic.Pipeline
open Cert.FfnInIdeal Cert.FfnInIdeal.Gen

noncomputable section

/-- The launch's points are the tiles, row by row. -/
theorem at_point : ∀ t : Fin cfg0.N, (win0_0.index t (0 : Fin 2) = t.val / 11 ∧ win0_0.index t (1 : Fin 2) = 0)
    ∧ (win0_1.index t (0 : Fin 2) = t.val % 11 ∧ win0_1.index t (1 : Fin 2) = 0) ∧ (win0_2.index t (0 : Fin 2) = t.val % 11 ∧ win0_2.index t (1 : Fin 2) = 0)
    ∧ (win0_3.index t (0 : Fin 2) = t.val / 11 ∧ win0_3.index t (1 : Fin 2) = t.val % 11 ∧ win0_3.flush t = true)
    ∧ (win0_4.index t (0 : Fin 2) = t.val / 11 ∧ win0_4.index t (1 : Fin 2) = t.val % 11 ∧ win0_4.flush t = true)
    ∧ (win0_5.index t (0 : Fin 2) = t.val / 11 ∧ win0_5.index t (1 : Fin 2) = t.val % 11 ∧ win0_5.flush t = true) :=
  (by decide +kernel : ∀ t : Fin grid0.N, _)

/-- `silu g * u`. -/
def gated (g u : EReal) : EReal :=
  g * Ideal.div (Scalar.ofBits (F := Ideal) .f32 0x3F800000#32) (Scalar.ofBits (F := Ideal) .f32 0x3F800000#32 + Ideal.exp (-g)) * u

theorem zeros : (![0, 0] : Fin 2 → ℕ) = fun _ => 0 := by decide

section Tile

variable (x : FVec Ideal S1024x1024 .bf16) (w v : FVec Ideal S256x1024 .bf16)

theorem first_tile : out0_3 (F := Ideal) x w v = turned (M := 1024) (K := 1024) (N := 256) x w := by
  unfold out0_3
  rw [View.canon_unit_zero zeros, View.ld_unit_zero zeros, View.ld_unit_zero zeros]
  exact matmul_turned (φ₁ := .bf16) (φ₂ := .bf16) _ _

theorem second_tile : out0_4 (F := Ideal) x w v = turned (M := 1024) (K := 1024) (N := 256) x v := by
  unfold out0_4
  rw [View.canon_unit_zero zeros, View.ld_unit_zero zeros, View.ld_unit_zero zeros]
  exact matmul_turned (φ₁ := .bf16) (φ₂ := .bf16) _ _

theorem third_tile : out0_5 (F := Ideal) x w v = fun i => gated (turned (M := 1024) (K := 1024) (N := 256) x w i) (turned (M := 1024) (K := 1024) (N := 256) x v i) := by
  unfold out0_5
  rw [View.canon_unit_zero zeros, View.ld_unit_zero zeros, View.ld_unit_zero zeros, View.ld_unit_zero zeros]
  have hw : k0_pay1 (F := Ideal) x w = turned (M := 1024) (K := 1024) (N := 256) x w := matmul_turned (φ₁ := .bf16) (φ₂ := .bf16) _ _
  have hv : k0_pay2 (F := Ideal) x v = turned (M := 1024) (K := 1024) (N := 256) x v := matmul_turned (φ₁ := .bf16) (φ₂ := .bf16) _ _
  unfold k0_pay5
  rw [hw, hv]
  funext i
  have hz : ∀ a : EReal, (Scalar.ofBits (F := Ideal) .f32 0x00000000#32 : EReal) - a = -a := fun a =>
    (congrArg (· - a) Ideal.ofBits_zero_f32).trans (zero_sub a)
  exact congrArg (fun e => _ * Ideal.div _ (_ + Ideal.exp e) * _) (hz _)

end Tile

variable (m : (ℓ : Loc nD τ sig) → Buf (Elt Ideal) ℓ) (c : Dev nD)

/-! The three outputs' tiles lie at the same places. -/

theorem first_row (t i) : ((win0_3.rect t).emb i 0).val = t.val / 11 * 1024 + (i 0).val :=
  (Window.rect_emb_val win0_3 t i 0).trans (congrArg (· * 1024 + (i 0).val) (at_point t).2.2.2.1.1)

theorem first_column (t i) : ((win0_3.rect t).emb i 1).val = t.val % 11 * 256 + (i 1).val :=
  (Window.rect_emb_val win0_3 t i 1).trans (congrArg (· * 256 + (i 1).val) (at_point t).2.2.2.1.2.1)

theorem second_row (t i) : ((win0_4.rect t).emb i 0).val = t.val / 11 * 1024 + (i 0).val :=
  (Window.rect_emb_val win0_4 t i 0).trans (congrArg (· * 1024 + (i 0).val) (at_point t).2.2.2.2.1.1)

theorem second_column (t i) : ((win0_4.rect t).emb i 1).val = t.val % 11 * 256 + (i 1).val :=
  (Window.rect_emb_val win0_4 t i 1).trans (congrArg (· * 256 + (i 1).val) (at_point t).2.2.2.2.1.2.1)

theorem third_row (t i) : ((win0_5.rect t).emb i 0).val = t.val / 11 * 1024 + (i 0).val :=
  (Window.rect_emb_val win0_5 t i 0).trans (congrArg (· * 1024 + (i 0).val) (at_point t).2.2.2.2.2.1)

theorem third_column (t i) : ((win0_5.rect t).emb i 1).val = t.val % 11 * 256 + (i 1).val :=
  (Window.rect_emb_val win0_5 t i 1).trans (congrArg (· * 256 + (i 1).val) (at_point t).2.2.2.2.2.2.1)

section Product

variable {eo : Fin cfg0.N → S1024x256.Idx → S4096x2816.Idx} (o0 : ∀ t i, (eo t i 0).val = t.val / 11 * 1024 + (i 0).val)
  (o1 : ∀ t i, (eo t i 1).val = t.val % 11 * 256 + (i 1).val)

include o0 o1 in
/-- A tile of the product with the gate matrix. -/
theorem gate_tile (t i) : turned (M := 1024) (K := 1024) (N := 256) (iblk m c 0 t) (iblk m c 1 t) i
    = turned (M := 4096) (K := 1024) (N := 2816) (V m c main_arg0) (V m c main_arg1) (eo t i) :=
  turned_tile (ex := (win0_0.rect t).emb) (ew := (win0_1.rect t).emb) (eo := eo t) (bx := iblk m c 0 t) (bw := iblk m c 1 t) (fun _ => rfl) (fun _ => rfl)
    (fun i => (Window.rect_emb_val win0_0 t i 0).trans (congrArg (· * 1024 + (i 0).val) (at_point t).1.1))
    (fun i => Window.rect_emb_val_of_index_zero win0_0 t 1 (at_point t).1.2 i)
    (fun i => (Window.rect_emb_val win0_1 t i 0).trans (congrArg (· * 256 + (i 0).val) (at_point t).2.1.1))
    (fun i => Window.rect_emb_val_of_index_zero win0_1 t 1 (at_point t).2.1.2 i)
    (o0 t) (o1 t) i

include o0 o1 in
/-- A tile of the product with the up matrix. -/
theorem up_tile (t i) : turned (M := 1024) (K := 1024) (N := 256) (iblk m c 0 t) (iblk m c 2 t) i
    = turned (M := 4096) (K := 1024) (N := 2816) (V m c main_arg0) (V m c main_arg2) (eo t i) :=
  turned_tile (ex := (win0_0.rect t).emb) (ew := (win0_2.rect t).emb) (eo := eo t) (bx := iblk m c 0 t) (bw := iblk m c 2 t) (fun _ => rfl) (fun _ => rfl)
    (fun i => (Window.rect_emb_val win0_0 t i 0).trans (congrArg (· * 1024 + (i 0).val) (at_point t).1.1))
    (fun i => Window.rect_emb_val_of_index_zero win0_0 t 1 (at_point t).1.2 i)
    (fun i => (Window.rect_emb_val win0_2 t i 0).trans (congrArg (· * 256 + (i 0).val) (at_point t).2.2.1.1))
    (fun i => Window.rect_emb_val_of_index_zero win0_2 t 1 (at_point t).2.2.1.2 i)
    (o0 t) (o1 t) i

include o0 o1 in
/-- An array with the value `g` at every tile is `g`. -/
theorem covered {out g : S4096x2816.Idx → EReal} (h : ∀ t i, out (eo t i) = g (eo t i)) : out = g :=
  of_cover (a := 1024) (b := 256) (G := cfg0.N) 11 (by decide) (by decide) (by decide) (fun i hi => show i / 1024 * 11 + 11 ≤ 44 by omega) eo o0 o1 h

end Product

theorem first_entries : (dats m 0 c).arrAt 3 cfg0.N = turned (M := 4096) (K := 1024) (N := 2816) (V m c main_arg0) (V m c main_arg1) :=
  covered first_row first_column fun t i =>
    (congrFun (((Value.blocks3 m c t (at_point t).2.2.2.1.2.2).trans (Value.flushed3 m c t)).trans (first_tile _ _ _)) i).trans
      (gate_tile m c first_row first_column t i)

theorem second_entries : (dats m 0 c).arrAt 4 cfg0.N = turned (M := 4096) (K := 1024) (N := 2816) (V m c main_arg0) (V m c main_arg2) :=
  covered second_row second_column fun t i =>
    (congrFun (((Value.blocks4 m c t (at_point t).2.2.2.2.1.2.2).trans (Value.flushed4 m c t)).trans (second_tile _ _ _)) i).trans
      (up_tile m c second_row second_column t i)

theorem third_entries : (dats m 0 c).arrAt 5 cfg0.N = fun j => gated (turned (M := 4096) (K := 1024) (N := 2816) (V m c main_arg0) (V m c main_arg1) j)
    (turned (M := 4096) (K := 1024) (N := 2816) (V m c main_arg0) (V m c main_arg2) j) :=
  covered third_row third_column fun t i =>
    (congrFun (((Value.blocks5 m c t (at_point t).2.2.2.2.2.2.2).trans (Value.flushed5 m c t)).trans (third_tile _ _ _)) i).trans
      (congrArg₂ gated (gate_tile m c third_row third_column t i) (up_tile m c third_row third_column t i))

theorem agree : Cert.algebraic_FfnInIdeal_FfnInRefIdeal := by
  intro m g m' g' _ hargs
  refine ⟨fun c => (dats m 0 c).arrAt 3 cfg0.N, fun c => (dats m 0 c).arrAt 4 cfg0.N, fun c => (dats m 0 c).arrAt 5 cfg0.N, Value.run_blocks m g, ?_⟩
  refine (θ_run _ _ _).mono (fun r h c => ⟨(h c).1.trans ?_, (h c).2.1.trans ?_, (h c).2.2.1.trans ?_, (h c).2.2.2⟩)
    (Cert.FfnInRefIdeal.Value.run (F := Ideal) m' g')
  all_goals rw [(hargs c).1]
  · rw [(hargs c).2.1]
    exact (host_kept (φ₁ := .f32) (φ₂ := .f32) _ _ _).trans (first_entries m c).symm
  · rw [(hargs c).2.2]
    exact (host_kept (φ₁ := .f32) (φ₂ := .f32) _ _ _).trans (second_entries m c).symm
  · rw [(hargs c).2.1, (hargs c).2.2]
    refine Eq.trans (funext fun j => ?_) (third_entries m c).symm
    exact congrArg₂ gated (congrFun (host_kept (φ₁ := .f32) (φ₂ := .f32) _ _ _) j) (congrFun (host_kept (φ₁ := .f32) (φ₂ := .f32) _ _ _) j)

end

end Weights.FfnIn
-- ==== Proof.Weights.DownProj.lean ====
/- The product that leaves the feed-forward layer, onto its input. -/
module

public import proofs.«01_k».proof.Defs
public import proofs.«01_k».proof.Proof.Weights.Rows
public import proofs.«01_k».proof.Proof.Gen.DownProjIdeal.Value
public import proofs.«01_k».proof.Proof.Gen.DownProjRefIdeal.Run

@[expose] public section

namespace Weights.DownProj

open Idealize.ShloMosaic
open Idealize.ShloMosaic.TcCoe Idealize.SL.Sem
open Idealize.ShloMosaic.ValueIdx
open Idealize.ShloMosaic.Pipeline
open Cert.DownProjIdeal Cert.DownProjIdeal.Gen

noncomputable section

/-- The launch's points are the tiles, row by row. -/
theorem at_point : ∀ t : Fin cfg0.N, win0_0.index t (0 : Fin 2) = t.val / 2 ∧ win0_0.index t (1 : Fin 2) = 0 ∧ win0_1.index t (0 : Fin 2) = 0
    ∧ win0_1.index t (1 : Fin 2) = t.val % 2 ∧ win0_3.index t (0 : Fin 2) = t.val / 2 ∧ win0_3.index t (1 : Fin 2) = t.val % 2 ∧ win0_3.flush t = true
    ∧ win0_2.index t (0 : Fin 2) = t.val / 2 ∧ win0_2.index t (1 : Fin 2) = t.val % 2 :=
  (by decide +kernel : ∀ t : Fin grid0.N, _)

variable (m : (ℓ : Loc nD τ sig) → Buf (Elt Ideal) ℓ) (c : Dev nD)

theorem tile (t : Fin cfg0.N) : outsAt0 m c t = fun i => rows (M := 1024) (K := 2816) (N := 512) (iblk m c 0 t) (iblk m c 1 t) i + iblk m c 2 t i := by
  unfold outsAt0 out0_A_3 kernelRun0_A kernelRun0_A.sl.v12 kernelRun0_A.sl.HS0_1
  rw [kept]
  refine congrArg₂ (addf (F := Ideal) (φ := .f32)) ((View.readCov_full _ _ _ _ _).trans ?_) (loaded _ _ _)
  unfold k0_pay2
  rw [loaded, loaded, shapeCast_self]
  exact matmul_rows (φ₁ := .bf16) (φ₂ := .bf16) _ _

theorem out_row (t i) : ((win0_3.rect t).emb i 0).val = t.val / 2 * 1024 + (i 0).val :=
  (Window.rect_emb_val win0_3 t i 0).trans (congrArg (· * 1024 + (i 0).val) (at_point t).2.2.2.2.1)

theorem out_column (t i) : ((win0_3.rect t).emb i 1).val = t.val % 2 * 512 + (i 1).val :=
  (Window.rect_emb_val win0_3 t i 1).trans (congrArg (· * 512 + (i 1).val) (at_point t).2.2.2.2.2.1)

theorem entries : (dats m 0 c).arrAt 3 cfg0.N = fun j => rows (M := 4096) (K := 2816) (N := 1024) (V m c main_arg0) (V m c main_arg1) j + V m c main_arg2 j :=
  of_cover (a := 1024) (b := 512) (G := cfg0.N) 2 (by decide) (by decide) (by decide) (fun i hi => show i / 1024 * 2 + 2 ≤ 8 by omega)
    (fun t => (win0_3.rect t).emb) out_row out_column fun t i =>
    (congrFun (((Value.blocks3 m c t (at_point t).2.2.2.2.2.2.1).trans (Value.flushed3 m c t)).trans (tile m c t)) i).trans (congrArg₂ (· + ·)
      (rows_tile (ex := (win0_0.rect t).emb) (ew := (win0_1.rect t).emb) (eo := (win0_3.rect t).emb) (bx := iblk m c 0 t) (bw := iblk m c 1 t)
        (fun _ => rfl) (fun _ => rfl)
        (fun i => (Window.rect_emb_val win0_0 t i 0).trans (congrArg (· * 1024 + (i 0).val) (at_point t).1))
        (fun i => Window.rect_emb_val_of_index_zero win0_0 t 1 (at_point t).2.1 i)
        (fun i => Window.rect_emb_val_of_index_zero win0_1 t 0 (at_point t).2.2.1 i)
        (fun i => (Window.rect_emb_val win0_1 t i 1).trans (congrArg (· * 512 + (i 1).val) (at_point t).2.2.2.1))
        (out_row t) (out_column t) i)
      (same_tile (ez := (win0_2.rect t).emb) (eo := (win0_3.rect t).emb) (bz := iblk m c 2 t) (fun _ => rfl)
        (fun i => (Window.rect_emb_val win0_2 t i 0).trans (congrArg (· * 1024 + (i 0).val) (at_point t).2.2.2.2.2.2.2.1))
        (fun i => (Window.rect_emb_val win0_2 t i 1).trans (congrArg (· * 512 + (i 1).val) (at_point t).2.2.2.2.2.2.2.2))
        (out_row t) (out_column t) i))

theorem agree : Cert.algebraic_DownProjIdeal_DownProjRefIdeal := by
  intro m g m' g' _ hargs
  refine ⟨fun c => (dats m 0 c).arrAt 3 cfg0.N, Value.run_blocks m g, ?_⟩
  refine (θ_run _ _ _).mono (fun r h c => ⟨(h c).1.trans ?_, (h c).2⟩) (Cert.DownProjRefIdeal.Value.run (F := Ideal) m' g')
  rw [(hargs c).1, (hargs c).2.1, (hargs c).2.2]
  refine Eq.trans (funext fun j => ?_) (entries m c).symm
  exact (add_comm _ _).trans (congrArg (· + _) (congrFun (host_rows (φ₁ := .f32) (φ₂ := .f32) _ _) j))

end

end Weights.DownProj
-- ==== Proof.Weights.ZBack.lean ====
/- What comes back to the state-space layer's input through the gate's matrix. -/
module

public import proofs.«01_k».proof.Defs
public import proofs.«01_k».proof.Proof.Weights.Rows
public import proofs.«01_k».proof.Proof.Gen.ZBackIdeal.Value
public import proofs.«01_k».proof.Proof.Gen.ZBackRefIdeal.Run

@[expose] public section

namespace Weights.ZBack

open Idealize.ShloMosaic
open Idealize.ShloMosaic.TcCoe Idealize.SL.Sem
open Idealize.ShloMosaic.ValueIdx
open Idealize.ShloMosaic.Pipeline
open Cert.ZBackIdeal Cert.ZBackIdeal.Gen

noncomputable section

/-- The launch's points are the tiles, row by row. -/
theorem at_point : ∀ t : Fin cfg0.N, win0_0.index t (0 : Fin 2) = t.val / 2 ∧ win0_0.index t (1 : Fin 2) = 0 ∧ win0_1.index t (0 : Fin 2) = 0
    ∧ win0_1.index t (1 : Fin 2) = t.val % 2 ∧ win0_2.index t (0 : Fin 2) = t.val / 2 ∧ win0_2.index t (1 : Fin 2) = t.val % 2 ∧ win0_2.flush t = true :=
  (by decide +kernel : ∀ t : Fin grid0.N, _)

variable (m : (ℓ : Loc nD τ sig) → Buf (Elt Ideal) ℓ) (c : Dev nD)

theorem tile (t : Fin cfg0.N) : outsAt0 m c t = rows (M := 1024) (K := 2048) (N := 512) (iblk m c 0 t) (iblk m c 1 t) := by
  unfold outsAt0 out0_A_2 kernelRun0_A kernelRun0_A.sl.v12 kernelRun0_A.sl.HS0_1
  rw [kept]
  refine (View.readCov_full _ _ _ _ _).trans ?_
  unfold k0_pay2
  rw [loaded, loaded, shapeCast_self]
  exact matmul_rows (φ₁ := .bf16) (φ₂ := .bf16) _ _

theorem out_row (t i) : ((win0_2.rect t).emb i 0).val = t.val / 2 * 1024 + (i 0).val :=
  (Window.rect_emb_val win0_2 t i 0).trans (congrArg (· * 1024 + (i 0).val) (at_point t).2.2.2.2.1)

theorem out_column (t i) : ((win0_2.rect t).emb i 1).val = t.val % 2 * 512 + (i 1).val :=
  (Window.rect_emb_val win0_2 t i 1).trans (congrArg (· * 512 + (i 1).val) (at_point t).2.2.2.2.2.1)

theorem entries : (dats m 0 c).arrAt 2 cfg0.N = rows (M := 4096) (K := 2048) (N := 1024) (V m c main_arg0) (V m c main_arg1) :=
  of_cover (a := 1024) (b := 512) (G := cfg0.N) 2 (by decide) (by decide) (by decide) (fun i hi => show i / 1024 * 2 + 2 ≤ 8 by omega)
    (fun t => (win0_2.rect t).emb) out_row out_column fun t i =>
    (congrFun (((Value.blocks2 m c t (at_point t).2.2.2.2.2.2).trans (Value.flushed2 m c t)).trans (tile m c t)) i).trans
      (rows_tile (ex := (win0_0.rect t).emb) (ew := (win0_1.rect t).emb) (eo := (win0_2.rect t).emb) (bx := iblk m c 0 t) (bw := iblk m c 1 t)
        (fun _ => rfl) (fun _ => rfl)
        (fun i => (Window.rect_emb_val win0_0 t i 0).trans (congrArg (· * 1024 + (i 0).val) (at_point t).1))
        (fun i => Window.rect_emb_val_of_index_zero win0_0 t 1 (at_point t).2.1 i)
        (fun i => Window.rect_emb_val_of_index_zero win0_1 t 0 (at_point t).2.2.1 i)
        (fun i => (Window.rect_emb_val win0_1 t i 1).trans (congrArg (· * 512 + (i 1).val) (at_point t).2.2.2.1))
        (out_row t) (out_column t) i)

theorem agree : Cert.algebraic_ZBackIdeal_ZBackRefIdeal := by
  intro m g m' g' _ hargs
  refine ⟨fun c => (dats m 0 c).arrAt 2 cfg0.N, Value.run_blocks m g, ?_⟩
  refine (θ_run _ _ _).mono (fun r h c => ⟨(h c).1.trans ?_, (h c).2⟩) (Cert.ZBackRefIdeal.Value.run (F := Ideal) m' g')
  rw [(hargs c).1, (hargs c).2]
  exact (host_back (φ₁ := .f32) (φ₂ := .f32) _ _ _).trans (entries m c).symm

end

end Weights.ZBack
-- ==== Proof.Weights.XbcBack.lean ====
/- What comes back to the state-space layer's input through the convolution's matrix, onto what has come back already. -/
module

public import proofs.«01_k».proof.Defs
public import proofs.«01_k».proof.Proof.Weights.Rows
public import proofs.«01_k».proof.Proof.Gen.XbcBackIdeal.Value
public import proofs.«01_k».proof.Proof.Gen.XbcBackRefIdeal.Run

@[expose] public section

namespace Weights.XbcBack

open Idealize.ShloMosaic
open Idealize.ShloMosaic.TcCoe Idealize.SL.Sem
open Idealize.ShloMosaic.ValueIdx
open Idealize.ShloMosaic.Pipeline
open Cert.XbcBackIdeal Cert.XbcBackIdeal.Gen

noncomputable section

/-- The launch's points are the tiles, row by row. -/
theorem at_point : ∀ t : Fin cfg0.N, win0_0.index t (0 : Fin 2) = t.val / 2 ∧ win0_0.index t (1 : Fin 2) = 0 ∧ win0_1.index t (0 : Fin 2) = 0
    ∧ win0_1.index t (1 : Fin 2) = t.val % 2 ∧ win0_3.index t (0 : Fin 2) = t.val / 2 ∧ win0_3.index t (1 : Fin 2) = t.val % 2 ∧ win0_3.flush t = true
    ∧ win0_2.index t (0 : Fin 2) = t.val / 2 ∧ win0_2.index t (1 : Fin 2) = t.val % 2 :=
  (by decide +kernel : ∀ t : Fin grid0.N, _)

variable (m : (ℓ : Loc nD τ sig) → Buf (Elt Ideal) ℓ) (c : Dev nD)

theorem tile (t : Fin cfg0.N) : outsAt0 m c t = fun i => rows (M := 1024) (K := 3072) (N := 512) (iblk m c 0 t) (iblk m c 1 t) i + iblk m c 2 t i := by
  unfold outsAt0 out0_A_3 kernelRun0_A kernelRun0_A.sl.v12 kernelRun0_A.sl.HS0_1
  rw [kept]
  refine congrArg₂ (addf (F := Ideal) (φ := .f32)) ((View.readCov_full _ _ _ _ _).trans ?_) (loaded _ _ _)
  unfold k0_pay2
  rw [loaded, loaded, shapeCast_self]
  exact matmul_rows (φ₁ := .bf16) (φ₂ := .bf16) _ _

theorem out_row (t i) : ((win0_3.rect t).emb i 0).val = t.val / 2 * 1024 + (i 0).val :=
  (Window.rect_emb_val win0_3 t i 0).trans (congrArg (· * 1024 + (i 0).val) (at_point t).2.2.2.2.1)

theorem out_column (t i) : ((win0_3.rect t).emb i 1).val = t.val % 2 * 512 + (i 1).val :=
  (Window.rect_emb_val win0_3 t i 1).trans (congrArg (· * 512 + (i 1).val) (at_point t).2.2.2.2.2.1)

theorem entries : (dats m 0 c).arrAt 3 cfg0.N = fun j => rows (M := 4096) (K := 3072) (N := 1024) (V m c main_arg0) (V m c main_arg1) j + V m c main_arg2 j :=
  of_cover (a := 1024) (b := 512) (G := cfg0.N) 2 (by decide) (by decide) (by decide) (fun i hi => show i / 1024 * 2 + 2 ≤ 8 by omega)
    (fun t => (win0_3.rect t).emb) out_row out_column fun t i =>
    (congrFun (((Value.blocks3 m c t (at_point t).2.2.2.2.2.2.1).trans (Value.flushed3 m c t)).trans (tile m c t)) i).trans (congrArg₂ (· + ·)
      (rows_tile (ex := (win0_0.rect t).emb) (ew := (win0_1.rect t).emb) (eo := (win0_3.rect t).emb) (bx := iblk m c 0 t) (bw := iblk m c 1 t)
        (fun _ => rfl) (fun _ => rfl)
        (fun i => (Window.rect_emb_val win0_0 t i 0).trans (congrArg (· * 1024 + (i 0).val) (at_point t).1))
        (fun i => Window.rect_emb_val_of_index_zero win0_0 t 1 (at_point t).2.1 i)
        (fun i => Window.rect_emb_val_of_index_zero win0_1 t 0 (at_point t).2.2.1 i)
        (fun i => (Window.rect_emb_val win0_1 t i 1).trans (congrArg (· * 512 + (i 1).val) (at_point t).2.2.2.1))
        (out_row t) (out_column t) i)
      (same_tile (ez := (win0_2.rect t).emb) (eo := (win0_3.rect t).emb) (bz := iblk m c 2 t) (fun _ => rfl)
        (fun i => (Window.rect_emb_val win0_2 t i 0).trans (congrArg (· * 1024 + (i 0).val) (at_point t).2.2.2.2.2.2.2.1))
        (fun i => (Window.rect_emb_val win0_2 t i 1).trans (congrArg (· * 512 + (i 1).val) (at_point t).2.2.2.2.2.2.2.2))
        (out_row t) (out_column t) i))

theorem agree : Cert.algebraic_XbcBackIdeal_XbcBackRefIdeal := by
  intro m g m' g' _ hargs
  refine ⟨fun c => (dats m 0 c).arrAt 3 cfg0.N, Value.run_blocks m g, ?_⟩
  refine (θ_run _ _ _).mono (fun r h c => ⟨(h c).1.trans ?_, (h c).2⟩) (Cert.XbcBackRefIdeal.Value.run (F := Ideal) m' g')
  rw [(hargs c).1, (hargs c).2.1, (hargs c).2.2]
  refine Eq.trans (funext fun j => ?_) (entries m c).symm
  exact congrArg (· + _) (congrFun (host_back (φ₁ := .f32) (φ₂ := .f32) _ _ _) j)

end

end Weights.XbcBack
-- ==== Proof.Back.Reals.lean ====
/- Arrays of reals: quotients, literals, and the blocks of a launch. -/
module

public import proofs.«01_k».proof.Proof.Scan.Numbers
public import proofs.«01_k».proof.Proof.Weights.Rows

@[expose] public section

namespace Scan

open Idealize.ShloMosaic Idealize.ShloMosaic.ValueIdx Finset
open scoped BigOperators

noncomputable section

theorem div_real (a : ℝ) {b : ℝ} (hb : b ≠ 0) : Ideal.div (a : EReal) (b : EReal) = ((a / b : ℝ) : EReal) := by
  have : (b : EReal) ≠ 0 := by exact_mod_cast hb
  unfold Ideal.div
  rw [if_neg this, div_eq_mul_inv, EReal.coe_mul, EReal.coe_inv]

variable {M N : ℕ} {f g : ℕ → ℕ → ℝ}

theorem Is.splat {φ : FTy} {a : ℝ} (z : Ideal φ) (hz : z = ((a : ℝ) : EReal)) : Is (M := M) (N := N) (broadcast ⟨2, ![M, N]⟩ z) fun _ _ => a :=
  fun _ _ => hz

theorem Is.over {x y : FVec Ideal ⟨2, ![M, N]⟩ .f32} (hx : Is x f) (hy : Is y g) (h : ∀ r c, g r c ≠ 0) : Is (divf x y) fun r c => f r c / g r c :=
  fun r c => by show Ideal.div (x _) (y _) = _; rw [hx, hy, div_real _ (h _ _)]

theorem Is.hostOver {x y : FVec Ideal ⟨2, ![M, N]⟩ .f32} (hx : Is x f) (hy : Is y g) (h : ∀ r c, g r c ≠ 0) : Is (Host.divf x y) fun r c => f r c / g r c :=
  hx.over hy h

/-- The block at row `p` and column `q`, and whole rows. -/
theorem Is.block {A B : ℕ} {v : (⟨2, ![M, N]⟩ : Shape).Idx → EReal} {b : (⟨2, ![A, B]⟩ : Shape).Idx → EReal} (hv : Is v f)
    (e : (⟨2, ![A, B]⟩ : Shape).Idx → (⟨2, ![M, N]⟩ : Shape).Idx) (hb : ∀ i, b i = v (e i)) {p q : ℕ}
    (h0 : ∀ i, (e i 0).val = p + (i 0).val) (h1 : ∀ i, (e i 1).val = q + (i 1).val) : Is b fun r c => f (p + r) (q + c) :=
  fun r c => (hb _).trans ((hv.at _).trans (by rw [h0, h1]; rfl))

theorem Is.band {A B : ℕ} {v : (⟨2, ![M, N]⟩ : Shape).Idx → EReal} {b : (⟨2, ![A, B]⟩ : Shape).Idx → EReal} (hv : Is v f)
    (e : (⟨2, ![A, B]⟩ : Shape).Idx → (⟨2, ![M, N]⟩ : Shape).Idx) (hb : ∀ i, b i = v (e i)) {p : ℕ}
    (h0 : ∀ i, (e i 0).val = p + (i 0).val) (h1 : ∀ i, (e i 1).val = (i 1).val) : Is b fun r c => f (p + r) c :=
  fun r c => (hb _).trans ((hv.at _).trans (by rw [h0, h1]; rfl))

/-- An array with a matrix of reals' entries at every tile holds the matrix. -/
theorem Is.cover {a b G : ℕ} (n : ℕ) (ha : 0 < a) (hb : 0 < b) (hn : N ≤ n * b) (hG : ∀ i, i < M → i / a * n + n ≤ G)
    {out : (⟨2, ![M, N]⟩ : Shape).Idx → EReal} (eo : Fin G → (⟨2, ![a, b]⟩ : Shape).Idx → (⟨2, ![M, N]⟩ : Shape).Idx)
    (o0 : ∀ t i, (eo t i 0).val = t.val / n * a + (i 0).val) (o1 : ∀ t i, (eo t i 1).val = t.val % n * b + (i 1).val)
    (h : ∀ t, Is (fun i => out (eo t i)) fun r c => f (t.val / n * a + r) (t.val % n * b + c)) : Is out f := by
  have e := Weights.of_cover n ha hb hn hG (out := out) (g := fun j => ((f (j 0).val (j 1).val : ℝ) : EReal)) eo o0 o1 fun t i => by
    rw [o0, o1]
    exact (h t).at i
  rw [e]
  exact fun r c => rfl

/-- A literal copied everywhere. -/
theorem Is.literal {b : BitVec 32} {a : ℝ} (h : Ideal.ofBits .f32 b = ((a : ℝ) : EReal)) {u : Shape} {q} (hb : u.BroadcastsInDim ⟨2, ![M, N]⟩ q) :
    Is (M := M) (N := N) (broadcastInDim ⟨2, ![M, N]⟩ q hb (constant (F := Ideal) u .f32 b)) fun _ _ => a :=
  fun _ _ => h

end

end Scan
-- ==== Proof.Back.FfnBack.lean ====
/- What comes back through the feed-forward layer's gate: the kernel's two results are the transformation's. -/
module

public import proofs.«01_k».proof.Defs
public import proofs.«01_k».proof.Proof.Back.Reals
public import proofs.«01_k».proof.Proof.Gen.FfnBackIdeal.Value
public import proofs.«01_k».proof.Proof.Gen.FfnBackRefIdeal.Run
public import proofs.«01_k».proof.Proof.Gen.FfnBackRefIdeal.Read
public import proofs.«01_k».proof.Proof.Gen.Pre_ffn_back_finite
public import Idealize.ShloMosaic.Lib.ReduceAll

@[expose] public section

namespace Back.FfnBack

open Idealize.ShloMosaic
open Idealize.ShloMosaic.TcCoe Idealize.SL.Sem
open Idealize.ShloMosaic.ValueIdx
open Idealize.ShloMosaic.Pipeline
open Scan Weights Finset
open scoped BigOperators

noncomputable section

theorem one_of : Ideal.ofBits .f32 0x3F800000#32 = ((1 : ℝ) : EReal) := by
  simp [Ideal.ofBits, Ideal.ieee, -EReal.coe_mul]
  norm_num

variable {A W G U : ℕ → ℕ → ℝ}

/-- What comes back through the matrix, the gate's sigmoid, and the two gradients as the kernel writes them. -/
def through (A W : ℕ → ℕ → ℝ) (r c : ℕ) : ℝ := ∑ k ∈ range 1024, A r k * W c k
def sigmoid (G : ℕ → ℕ → ℝ) (r c : ℕ) : ℝ := 1 / (1 + Real.exp (-G r c))
def toGate (P G U : ℕ → ℕ → ℝ) (r c : ℕ) : ℝ := P r c * U r c * sigmoid G r c * (1 + G r c * (1 - sigmoid G r c))
def toUp (P G : ℕ → ℕ → ℝ) (r c : ℕ) : ℝ := P r c * G r c * sigmoid G r c

theorem sigmoid_den (G : ℕ → ℕ → ℝ) (r c : ℕ) : 1 + Real.exp (-G r c) ≠ 0 := (add_pos one_pos (Real.exp_pos _)).ne'

theorem is_through {M N : ℕ} {x : (⟨2, ![M, 1024]⟩ : Shape).Idx → EReal} {w : (⟨2, ![N, 1024]⟩ : Shape).Idx → EReal} (hx : Is x A) (hw : Is w W) :
    Is (turned x w) (through A W) := by
  intro r c
  show ∑ k : Fin 1024, x (ix2 r k) * w (ix2 c k) = _
  unfold through
  rw [← sum_coe 1024 fun k => A r.val k * W c.val k]
  exact Finset.sum_congr rfl fun k _ => by rw [hx, hw, EReal.coe_mul]

section Reference

open Cert.FfnBackRefIdeal Cert.FfnBackRefIdeal.Gen Cert.FfnBackRefIdeal.Read

variable {x0 : FVec Ideal S4096x1024 .f32} {x1 : FVec Ideal S2816x1024 .bf16} {x2 x3 : FVec Ideal S4096x2816 .bf16}

theorem ref_through (h0 : Is (M := 4096) (N := 1024) x0 A) (h1 : Is (M := 2816) (N := 1024) x1 W) :
    Is (M := 4096) (N := 2816) (val_main_v6 (F := Ideal) x0 x1) (through A W) := by
  have e : val_main_v6 (F := Ideal) x0 x1 = turned (M := 4096) (K := 1024) (N := 2816) x0 x1 :=
    (host_eq (φ₁ := .f32) (φ₂ := .f32) _ _ _).trans (matmul_turned (φ₁ := .f32) (φ₂ := .f32) _ _)
  rw [e]
  exact is_through h0 h1

theorem ref_sigmoid (h2 : Is (M := 4096) (N := 2816) x2 G) : Is (M := 4096) (N := 2816) (val_main_v2_2 (F := Ideal) x2) (sigmoid G) := by
  have n : Is (M := 4096) (N := 2816) (val_main_call0_v0 (F := Ideal) x2) fun r c => -G r c := fun r c => by
    show -(x2 (ix2 r c) : EReal) = _
    rw [h2, EReal.coe_neg]
  have e : Is (M := 4096) (N := 2816) (val_main_call0_v1 (F := Ideal) x2) fun r c => Real.exp (-G r c) := Is.exp (φ := .f32) n
  exact Is.hostOver (Is.literal one_of bcast_S_S4096x2816) (Is.addf (Is.literal one_of bcast_S_S4096x2816) e) (sigmoid_den G)

theorem ref_gate (h0 : Is (M := 4096) (N := 1024) x0 A) (h1 : Is (M := 2816) (N := 1024) x1 W) (h2 : Is (M := 4096) (N := 2816) x2 G)
    (h3 : Is (M := 4096) (N := 2816) x3 U) : Is (M := 4096) (N := 2816) (val_main_v10 (F := Ideal) x0 x1 x2 x3) (toGate (through A W) G U) := by
  have s := ref_sigmoid h2
  have p : Is (M := 4096) (N := 2816) (val_main_v8 (F := Ideal) x0 x1 x3) fun r c => through A W r c * U r c := Is.mulf (ref_through h0 h1) h3
  have a : Is (M := 4096) (N := 2816) (val_main_v10 (F := Ideal) x0 x1 x2 x3) _ :=
    Is.addf (φ := .f32) (Is.mulf p s) (Is.mulf (Is.mulf (φ := .f32) h2 p) (Is.mulf s (Is.subf (Is.literal one_of bcast_S_S4096x2816) s)))
  refine a.congr fun r _ c _ => ?_
  unfold toGate
  ring

theorem ref_up (h0 : Is (M := 4096) (N := 1024) x0 A) (h1 : Is (M := 2816) (N := 1024) x1 W) (h2 : Is (M := 4096) (N := 2816) x2 G) :
    Is (M := 4096) (N := 2816) (val_main_v11 (F := Ideal) x0 x1 x2) (toUp (through A W) G) := by
  have a : Is (M := 4096) (N := 2816) (val_main_v11 (F := Ideal) x0 x1 x2) _ :=
    Is.mulf (φ := .f32) (Is.mulf (φ := .f32) h2 (ref_sigmoid h2)) (ref_through h0 h1)
  refine a.congr fun r _ c _ => ?_
  unfold toUp
  ring

end Reference

open Cert.FfnBackIdeal Cert.FfnBackIdeal.Gen

/-- The launch's points are the tiles, row by row. -/
theorem at_point : ∀ t : Fin cfg0.N, (win0_0.index t (0 : Fin 2) = t.val / 11 ∧ win0_0.index t (1 : Fin 2) = 0)
    ∧ (win0_1.index t (0 : Fin 2) = t.val % 11 ∧ win0_1.index t (1 : Fin 2) = 0) ∧ (win0_2.index t (0 : Fin 2) = t.val / 11 ∧ win0_2.index t (1 : Fin 2) = t.val % 11)
    ∧ (win0_3.index t (0 : Fin 2) = t.val / 11 ∧ win0_3.index t (1 : Fin 2) = t.val % 11)
    ∧ (win0_4.index t (0 : Fin 2) = t.val / 11 ∧ win0_4.index t (1 : Fin 2) = t.val % 11 ∧ win0_4.flush t = true)
    ∧ (win0_5.index t (0 : Fin 2) = t.val / 11 ∧ win0_5.index t (1 : Fin 2) = t.val % 11 ∧ win0_5.flush t = true) :=
  (by decide +kernel : ∀ t : Fin grid0.N, _)

theorem zeros : (![0, 0] : Fin 2 → ℕ) = fun _ => 0 := by decide

section Tile

variable {x : FVec Ideal S1024x1024 .f32} {w : FVec Ideal S256x1024 .bf16} {g u : FVec Ideal S1024x256 .bf16}

theorem tile_through (hx : Is (M := 1024) (N := 1024) x A) (hw : Is (M := 256) (N := 1024) w W) :
    Is (M := 1024) (N := 256) (k0_pay1 (F := Ideal) x w) (through A W) := by
  have e : k0_pay1 (F := Ideal) x w = turned (M := 1024) (K := 1024) (N := 256) x w := matmul_turned (φ₁ := .bf16) (φ₂ := .bf16) _ _
  rw [e]
  exact is_through hx hw

theorem tile_sigmoid (hg : Is (M := 1024) (N := 256) g G) : Is (M := 1024) (N := 256) (k0_pay3 (F := Ideal) g) (sigmoid G) := by
  have n : Is (M := 1024) (N := 256) (subf (broadcast S1024x256 (Scalar.ofBits (F := Ideal) .f32 0x00000000#32)) (k0_pay2 (F := Ideal) g)) fun r c => -G r c :=
    (Is.subf (φ := .f32) (Is.splat (a := 0) _ Ideal.ofBits_zero_f32) hg).congr fun r _ c _ => zero_sub _
  exact Is.over (Is.splat _ one_of) (Is.addf (Is.splat _ one_of) (Is.exp n)) (sigmoid_den G)

theorem tile_gate (hx : Is (M := 1024) (N := 1024) x A) (hw : Is (M := 256) (N := 1024) w W) (hg : Is (M := 1024) (N := 256) g G) (hu : Is (M := 1024) (N := 256) u U) :
    Is (M := 1024) (N := 256) (out0_4 (F := Ideal) x w g u) (toGate (through A W) G U) := by
  unfold out0_4
  rw [View.canon_unit_zero zeros, View.ld_unit_zero zeros, View.ld_unit_zero zeros, View.ld_unit_zero zeros, View.ld_unit_zero zeros]
  have s := tile_sigmoid hg
  exact Is.mulf (φ := .f32) (Is.mulf (φ := .f32) (Is.mulf (φ := .f32) (tile_through hx hw) hu) s)
    (Is.addf (φ := .f32) (Is.splat _ one_of) (Is.mulf (φ := .f32) hg (Is.subf (φ := .f32) (Is.splat _ one_of) s)))

theorem tile_up (hx : Is (M := 1024) (N := 1024) x A) (hw : Is (M := 256) (N := 1024) w W) (hg : Is (M := 1024) (N := 256) g G) :
    Is (M := 1024) (N := 256) (out0_5 (F := Ideal) x w g u) (toUp (through A W) G) := by
  unfold out0_5
  rw [View.canon_unit_zero zeros, View.ld_unit_zero zeros, View.ld_unit_zero zeros, View.ld_unit_zero zeros]
  exact Is.mulf (φ := .f32) (Is.mulf (φ := .f32) (tile_through hx hw) hg) (tile_sigmoid hg)

end Tile

variable (m : (ℓ : Loc nD τ sig) → Buf (Elt Ideal) ℓ) (c : Dev nD)

section Entries

variable (h0 : Is (M := 4096) (N := 1024) (V m c main_arg0) A) (h1 : Is (M := 2816) (N := 1024) (V m c main_arg1) W)
  (h2 : Is (M := 4096) (N := 2816) (V m c main_arg2) G) (h3 : Is (M := 4096) (N := 2816) (V m c main_arg3) U) (t : Fin cfg0.N)

/-! The blocks at a tile. -/

include h0 in
theorem rows_block : Is (M := 1024) (N := 1024) (iblk m c 0 t) fun r k => A (t.val / 11 * 1024 + r) k :=
  Is.band (A := 1024) (B := 1024) (b := iblk m c 0 t) h0 (win0_0.rect t).emb (fun _ => rfl)
    (fun i => (Window.rect_emb_val win0_0 t i 0).trans (congrArg (· * 1024 + (i 0).val) (at_point t).1.1))
    (fun i => Window.rect_emb_val_of_index_zero win0_0 t 1 (at_point t).1.2 i)

include h1 in
theorem matrix_block : Is (M := 256) (N := 1024) (iblk m c 1 t) fun r k => W (t.val % 11 * 256 + r) k :=
  Is.band (A := 256) (B := 1024) (b := iblk m c 1 t) h1 (win0_1.rect t).emb (fun _ => rfl)
    (fun i => (Window.rect_emb_val win0_1 t i 0).trans (congrArg (· * 256 + (i 0).val) (at_point t).2.1.1))
    (fun i => Window.rect_emb_val_of_index_zero win0_1 t 1 (at_point t).2.1.2 i)

include h2 in
theorem gate_block : Is (M := 1024) (N := 256) (iblk m c 2 t) fun r k => G (t.val / 11 * 1024 + r) (t.val % 11 * 256 + k) :=
  Is.block (A := 1024) (B := 256) (b := iblk m c 2 t) h2 (win0_2.rect t).emb (fun _ => rfl)
    (fun i => (Window.rect_emb_val win0_2 t i 0).trans (congrArg (· * 1024 + (i 0).val) (at_point t).2.2.1.1))
    (fun i => (Window.rect_emb_val win0_2 t i 1).trans (congrArg (· * 256 + (i 1).val) (at_point t).2.2.1.2))

include h3 in
theorem up_block : Is (M := 1024) (N := 256) (iblk m c 3 t) fun r k => U (t.val / 11 * 1024 + r) (t.val % 11 * 256 + k) :=
  Is.block (A := 1024) (B := 256) (b := iblk m c 3 t) h3 (win0_3.rect t).emb (fun _ => rfl)
    (fun i => (Window.rect_emb_val win0_3 t i 0).trans (congrArg (· * 1024 + (i 0).val) (at_point t).2.2.2.1.1))
    (fun i => (Window.rect_emb_val win0_3 t i 1).trans (congrArg (· * 256 + (i 1).val) (at_point t).2.2.2.1.2))

include h0 h1 h2 h3 in
theorem gate_entries : Is (M := 4096) (N := 2816) ((dats m 0 c).arrAt 4 cfg0.N) (toGate (through A W) G U) := by
  refine Is.cover (a := 1024) (b := 256) (G := cfg0.N) 11 (by decide) (by decide) (by decide) (fun i hi => show i / 1024 * 11 + 11 ≤ 44 by omega)
    (fun t => (win0_4.rect t).emb)
    (fun t i => (Window.rect_emb_val win0_4 t i 0).trans (congrArg (· * 1024 + (i 0).val) (at_point t).2.2.2.2.1.1))
    (fun t i => (Window.rect_emb_val win0_4 t i 1).trans (congrArg (· * 256 + (i 1).val) (at_point t).2.2.2.2.1.2.1)) fun t => ?_
  have k := tile_gate (rows_block m c h0 t) (matrix_block m c h1 t) (gate_block m c h2 t) (up_block m c h3 t)
  exact fun r q => (congrFun ((Value.blocks4 m c t (at_point t).2.2.2.2.1.2.2).trans (Value.flushed4 m c t)) (ix2 r q)).trans (k r q)

include h0 h1 h2 in
theorem up_entries : Is (M := 4096) (N := 2816) ((dats m 0 c).arrAt 5 cfg0.N) (toUp (through A W) G) := by
  refine Is.cover (a := 1024) (b := 256) (G := cfg0.N) 11 (by decide) (by decide) (by decide) (fun i hi => show i / 1024 * 11 + 11 ≤ 44 by omega)
    (fun t => (win0_5.rect t).emb)
    (fun t i => (Window.rect_emb_val win0_5 t i 0).trans (congrArg (· * 1024 + (i 0).val) (at_point t).2.2.2.2.2.1))
    (fun t i => (Window.rect_emb_val win0_5 t i 1).trans (congrArg (· * 256 + (i 1).val) (at_point t).2.2.2.2.2.2.1)) fun t => ?_
  have k := tile_up (u := iblk m c 3 t) (rows_block m c h0 t) (matrix_block m c h1 t) (gate_block m c h2 t)
  exact fun r q => (congrFun ((Value.blocks5 m c t (at_point t).2.2.2.2.2.2.2).trans (Value.flushed5 m c t)) (ix2 r q)).trans (k r q)

end Entries

open Cert.Pre_ffn_back_finite in
theorem given {x0 : FVec Ideal ⟨2, ![4096, 1024]⟩ .f32} {x1 : FVec Ideal ⟨2, ![2816, 1024]⟩ .bf16} {x2 x3 : FVec Ideal ⟨2, ![4096, 2816]⟩ .bf16}
    (h : fn (F := Ideal) x0 x1 x2 x3 = fun _ => 1#1) : Is x0 (get2 x0) ∧ Is x1 (get2 x1) ∧ Is x2 (get2 x2) ∧ Is x3 (get2 x3) := by
  haveI : Subsingleton Cert.Pre_ffn_back_finite.S_.Idx := ⟨fun a b => funext fun k => k.elim0⟩
  have e := congrFun h (Shape.Idx.first Facts.h_S_)
  obtain ⟨e, e3⟩ := IntOp.andi_eq_one.1 e
  obtain ⟨e, e2⟩ := IntOp.andi_eq_one.1 e
  obtain ⟨e0, e1⟩ := IntOp.andi_eq_one.1 e
  exact ⟨is_get2 fun i => real_of_lt (Host.reduce_andi_all _ _ _ _ _ e0 i), is_get2 fun i => real_of_lt (Host.reduce_andi_all _ _ _ _ _ e1 i),
    is_get2 fun i => real_of_lt (Host.reduce_andi_all _ _ _ _ _ e2 i), is_get2 fun i => real_of_lt (Host.reduce_andi_all _ _ _ _ _ e3 i)⟩

theorem agree : Cert.algebraic_FfnBackIdeal_FfnBackRefIdeal_pre_ffn_back_finite := by
  intro m g m' g' hpre hargs
  refine ⟨fun c => (dats m 0 c).arrAt 4 cfg0.N, fun c => (dats m 0 c).arrAt 5 cfg0.N, Value.run_blocks m g, ?_⟩
  refine (θ_run _ _ _).mono (fun r h c => ⟨(h c).1.trans ?_, (h c).2.1.trans ?_, (h c).2.2⟩) (Cert.FfnBackRefIdeal.Value.run (F := Ideal) m' g')
  all_goals
    obtain ⟨h0, h1, h2, h3⟩ := given (hpre c)
    obtain ⟨a0, a1, a2, a3⟩ := hargs c
  · refine (Cert.FfnBackRefIdeal.Read.val_main_v10_eq (F := Ideal) _ _ _ _).trans ?_
    rw [a0, a1, a2, a3]
    exact Is.ext (ref_gate h0 h1 h2 h3) (gate_entries m c h0 h1 h2 h3)
  · refine (Cert.FfnBackRefIdeal.Read.val_main_v11_eq (F := Ideal) _ _ _).trans ?_
    rw [a0, a1, a2]
    exact Is.ext (ref_up h0 h1 h2) (up_entries m c h0 h1 h2)

end

end Back.FfnBack
-- ==== Proof.Back.Norm.lean ====
/- The derivative of the root-mean-square norm, as the kernel factors it and as the transformation spells it, on all extended reals. -/
module

public import proofs.«01_k».proof.Proof.Weights.Rows
public import proofs.«01_k».proof.Proof.Back.Reals

@[expose] public section

namespace Back

open Idealize.ShloMosaic Idealize.ShloMosaic.ValueIdx
open scoped BigOperators

noncomputable section

/-! The literals of the norm: the width of a row, what is added to the mean square, and minus a half. -/

def width : EReal := Ideal.ofBits .f32 0x44800000#32
def eps : EReal := Ideal.ofBits .f32 0x358637BD#32
def half : EReal := Ideal.ofBits .f32 0xBF000000#32

theorem width_of : width = ((1024 : ℝ) : EReal) := by
  unfold width
  simp [Ideal.ofBits, Ideal.ieee, -EReal.coe_mul]; norm_num

theorem half_of : half = ((-(1 / 2) : ℝ) : EReal) := by
  unfold half
  simp [Ideal.ofBits, Ideal.ieee, -EReal.coe_mul, -EReal.coe_neg]; norm_num

theorem eps_of : ∃ e : ℝ, eps = (e : EReal) ∧ 0 < e := by
  have h : eps = (((2 ^ 23 + 407485 : ℕ) * (2 : ℝ) ^ (-43 : ℤ) : ℝ) : EReal) := by
    unfold eps
    simp [Ideal.ofBits, Ideal.ieee, -EReal.coe_mul]
  exact ⟨_, h, by positivity⟩

/-! An entry of the gradient. -/

/-- A row's mean square and one over its root. -/
def square (x : Fin 1024 → EReal) : EReal := Ideal.div (∑ k, x k * x k) width + eps
def scale (x : Fin 1024 → EReal) : EReal := Ideal.rsqrt (square x)

/-- As the kernel factors it. -/
def factored (x q : Fin 1024 → EReal) (c : Fin 1024) (d : EReal) : EReal :=
  d + scale x * (q c - x c * scale x * Ideal.div (∑ k, q k * (x k * scale x)) width)

/-- What a row's mean square passes on, and the entry as the transformation spells it. -/
def passed (x q : Fin 1024 → EReal) : EReal := Ideal.div ((∑ k, x k * q k) * (half * Ideal.div (scale x) (square x))) width
def spelled (x q : Fin 1024 → EReal) (c : Fin 1024) (d : EReal) : EReal := d + (q c * scale x + x c * passed x q + passed x q * x c)

theorem square_nonneg (a : EReal) : 0 ≤ a * a := by
  induction a with
  | bot => simp
  | top => simp
  | coe r => rw [← EReal.coe_mul]; exact_mod_cast mul_self_nonneg r

theorem double_of_nonneg (a : EReal) {r : ℝ} (h : 0 ≤ r) : a * (r : EReal) + a * (r : EReal) = a * ((2 * r : ℝ) : EReal) := by
  have h' : (0 : EReal) ≤ (r : EReal) := by exact_mod_cast h
  rw [← EReal.left_distrib_of_nonneg h' h', ← EReal.coe_add, two_mul]

theorem double (a : EReal) (r : ℝ) : a * (r : EReal) + a * (r : EReal) = a * ((2 * r : ℝ) : EReal) := by
  rcases le_total 0 r with h | h
  · exact double_of_nonneg a h
  · have e := double_of_nonneg (-a) (r := -r) (by linarith)
    simpa [mul_neg, neg_mul] using e

theorem sum_scaled {n : ℕ} (f : Fin n → EReal) {s : ℝ} (h : 0 ≤ s) : ∑ k, f k * (s : EReal) = (∑ k, f k) * (s : EReal) := by
  have h' : (0 : EReal) ≤ (s : EReal) := by exact_mod_cast h
  exact (map_sum (⟨⟨fun v : EReal => v * (s : EReal), zero_mul _⟩, fun a b => EReal.right_distrib_of_nonneg_of_ne_top h' (EReal.coe_ne_top s) a b⟩ : EReal →+ EReal) f _).symm

theorem div_width (a : EReal) : Ideal.div a width = a * ((1024⁻¹ : ℝ) : EReal) := by
  rw [width_of]
  unfold Ideal.div
  rw [if_neg (by norm_num), EReal.coe_inv]

/-- The two agree: an infinite entry of the row makes both the residual, and otherwise the row's scale is a positive real. -/
theorem factored_eq (x q : Fin 1024 → EReal) (c : Fin 1024) (d : EReal) : factored x q c d = spelled x q c d := by
  obtain ⟨e, he, hpos⟩ := eps_of
  unfold factored spelled
  congr 1
  by_cases h : ∃ j, x j = ⊤ ∨ x j = ⊥
  · obtain ⟨j, hj⟩ := h
    have hs : ∑ k, x k * x k = ⊤ := by
      refine top_le_iff.1 (le_trans (b := x j * x j) ?_ (Finset.single_le_sum (fun k _ => square_nonneg (x k)) (Finset.mem_univ j)))
      rcases hj with h | h <;> rw [h] <;> simp
    have hq : square x = ⊤ := by
      unfold square
      rw [hs, div_width, he, EReal.top_mul_coe_of_pos (by norm_num)]
      rfl
    have h0 : scale x = 0 := by
      unfold scale
      rw [hq]
      rfl
    have hp : passed x q = 0 := by
      unfold passed
      rw [h0, hq, div_width]
      simp [Ideal.div]
    rw [hp, h0]
    simp
  · have hx : ∀ k, x k = ((x k).toReal : EReal) := fun k => (EReal.coe_toReal (fun h' => h ⟨k, .inl h'⟩) (fun h' => h ⟨k, .inr h'⟩)).symm
    obtain ⟨X, hX⟩ : ∃ X : Fin 1024 → ℝ, ∀ k, x k = (X k : EReal) := ⟨fun k => (x k).toReal, hx⟩
    obtain ⟨S, hS, hSpos⟩ : ∃ S : ℝ, square x = (S : EReal) ∧ 0 < S := by
      refine ⟨(∑ k, X k * X k) * 1024⁻¹ + e, ?_, add_pos_of_nonneg_of_pos (mul_nonneg (Finset.sum_nonneg fun _ _ => mul_self_nonneg _) (by norm_num)) hpos⟩
      unfold square
      have hs : ∑ k, x k * x k = ((∑ k, X k * X k : ℝ) : EReal) := by
        rw [Scan.coe_sum]
        exact Finset.sum_congr rfl fun k _ => by rw [hX, EReal.coe_mul]
      rw [hs, div_width, he, EReal.coe_add, EReal.coe_mul]
    have hr : scale x = (((√S)⁻¹ : ℝ) : EReal) := by
      unfold scale
      rw [hS, Ideal.rsqrt_coe, if_neg hSpos.le.not_gt, if_neg hSpos.ne']
    have hσ : 0 ≤ (√S)⁻¹ := inv_nonneg.2 (Real.sqrt_nonneg _)
    have hcube : (√S)⁻¹ / S = (√S)⁻¹ * (√S)⁻¹ * (√S)⁻¹ := by
      rw [div_eq_mul_inv, mul_assoc, ← mul_inv (√S) (√S), Real.mul_self_sqrt hSpos.le]
    have hsum : ∑ k, q k * (x k * scale x) = (∑ k, x k * q k) * scale x := by
      rw [hr, ← sum_scaled _ hσ]
      exact Finset.sum_congr rfl fun k _ => by rw [← mul_assoc, mul_comm (q k)]
    have hp : passed x q = (∑ k, x k * q k) * ((-(1 / 2) * ((√S)⁻¹ / S) * 1024⁻¹ : ℝ) : EReal) := by
      unfold passed
      rw [hr, hS, Scan.div_real _ hSpos.ne', half_of, div_width, ← EReal.coe_mul, mul_assoc, ← EReal.coe_mul]
    rw [hsum, hp, hX c, hr, div_width]
    generalize ∑ k, x k * q k = A
    generalize hs : (√S)⁻¹ = σ at *
    have e1 : (X c : EReal) * σ * (A * σ * ((1024⁻¹ : ℝ) : EReal)) = A * ((X c * σ * σ * 1024⁻¹ : ℝ) : EReal) := by
      push_cast
      ac_rfl
    have e2 : (X c : EReal) * (A * ((-(1 / 2) * (σ / S) * 1024⁻¹ : ℝ) : EReal)) = A * ((X c * (-(1 / 2) * (σ / S) * 1024⁻¹) : ℝ) : EReal) := by
      rw [EReal.coe_mul (X c)]
      ac_rfl
    have e3 : A * ((-(1 / 2) * (σ / S) * 1024⁻¹ : ℝ) : EReal) * (X c : EReal) = A * ((X c * (-(1 / 2) * (σ / S) * 1024⁻¹) : ℝ) : EReal) := by
      rw [EReal.coe_mul (X c)]
      ac_rfl
    have hσ' : (0 : EReal) ≤ (σ : EReal) := by exact_mod_cast hσ
    rw [e1, e2, e3, add_assoc, double, sub_eq_add_neg, EReal.left_distrib_of_nonneg_of_ne_top hσ' (EReal.coe_ne_top σ), mul_comm (σ : EReal) (q c), ← mul_neg, ← EReal.coe_neg,
      mul_left_comm, ← EReal.coe_mul]
    congr 3
    rw [hcube]
    ring

/-! The gradient as an array. -/

variable {M N : ℕ}

/-- The kernel's, of the rows of `x`, the norm's gain, what comes back and what is added. -/
def normed (x : (⟨2, ![M, 1024]⟩ : Shape).Idx → EReal) (gain : (⟨2, ![1, 1024]⟩ : Shape).Idx → EReal) (p d : (⟨2, ![M, 1024]⟩ : Shape).Idx → EReal) :
    (⟨2, ![M, 1024]⟩ : Shape).Idx → EReal :=
  fun j => factored (fun k => x (ix2 (j 0) k)) (fun k => p (ix2 (j 0) k) * gain (ix2 0 k)) (j 1) (d j)

/-- An index of a block of whole rows, and of the whole array. -/
theorem band {A B : ℕ} {e : (⟨2, ![A, B]⟩ : Shape).Idx → (⟨2, ![M, N]⟩ : Shape).Idx} {p : ℕ} (h0 : ∀ i, (e i 0).val = p + (i 0).val) (h1 : ∀ i, (e i 1).val = (i 1).val)
    (r : Fin A) (k : Fin B) (hr : p + r.val < M) (hk : k.val < N) : e (ix2 r k) = ix2 ⟨p + r.val, hr⟩ ⟨k.val, hk⟩ := by
  refine funext fun q => Fin.ext ?_
  match q with
  | ⟨0, _⟩ => exact h0 _
  | ⟨1, _⟩ => exact h1 _

theorem whole {e : (⟨2, ![M, N]⟩ : Shape).Idx → (⟨2, ![M, N]⟩ : Shape).Idx} (h0 : ∀ i, (e i 0).val = (i 0).val) (h1 : ∀ i, (e i 1).val = (i 1).val) (i) : e i = i := by
  refine funext fun q => Fin.ext ?_
  match q with
  | ⟨0, _⟩ => exact h0 _
  | ⟨1, _⟩ => exact h1 _

/-- A block of rows of it is it of the blocks of rows. -/
theorem normed_band {a p : ℕ} {x q d : (⟨2, ![M, 1024]⟩ : Shape).Idx → EReal} {bx bq bd : (⟨2, ![a, 1024]⟩ : Shape).Idx → EReal} {gain bg : (⟨2, ![1, 1024]⟩ : Shape).Idx → EReal}
    (hp : ∀ r : Fin a, p + r.val < M) (hx : ∀ r k, bx (ix2 r k) = x (ix2 ⟨p + r.val, hp r⟩ k)) (hq : ∀ r k, bq (ix2 r k) = q (ix2 ⟨p + r.val, hp r⟩ k))
    (hd : ∀ r k, bd (ix2 r k) = d (ix2 ⟨p + r.val, hp r⟩ k)) (hg : ∀ k, bg (ix2 0 k) = gain (ix2 0 k)) (r : Fin a) (c : Fin 1024) :
    normed bx bg bq bd (ix2 r c) = normed x gain q d (ix2 ⟨p + r.val, hp r⟩ c) := by
  show factored (fun k => bx (ix2 r k)) (fun k => bq (ix2 r k) * bg (ix2 0 k)) c (bd (ix2 r c)) = factored (fun k => x (ix2 _ k)) (fun k => q (ix2 _ k) * gain (ix2 0 k)) c (d (ix2 _ c))
  rw [hd]
  simp only [hx, hq, hg]
  rfl

/-! The kernel's operations at an index. -/

theorem rows_at {v : (⟨2, ![1, N]⟩ : Shape).Idx → EReal} (hN : N ≠ 1) (hb : (⟨2, ![1, N]⟩ : Shape).Broadcasts ⟨2, ![M, N]⟩) (r c) :
    broadcastTo ⟨2, ![M, N]⟩ v hb (ix2 r c) = v (ix2 0 c) :=
  broadcastTo_apply v hb (ix2 r c) (ix2 0 c) (fun d => match d with | ⟨0, _⟩ => rfl | ⟨1, _⟩ => (if_neg hN).symm)

theorem cols_at {v : (⟨2, ![M, 1]⟩ : Shape).Idx → EReal} (hM : M ≠ 1) (hb : (⟨2, ![M, 1]⟩ : Shape).Broadcasts ⟨2, ![M, N]⟩) (r c) :
    broadcastTo ⟨2, ![M, N]⟩ v hb (ix2 r c) = v (ix2 r 0) :=
  broadcastTo_apply v hb (ix2 r c) (ix2 r 0) (fun d => match d with | ⟨0, _⟩ => (if_neg hM).symm | ⟨1, _⟩ => rfl)

theorem reshaped_at {v : (⟨1, ![M]⟩ : Shape).Idx → EReal} (hs : (⟨1, ![M]⟩ : Shape).ShapeCasts ⟨2, ![M, 1]⟩) (r c) :
    shapeCast ⟨2, ![M, 1]⟩ v hs (ix2 r c) = v (ix1 r) :=
  shapeCast_apply _ hs (ix2 r c) (ix1 r) (by
    rw [Shape.rowMajor_val_one, Shape.rowMajor_val_two]; have := c.isLt; show r.val = r.val * 1 + c.val; omega)

theorem summed_at {v : FVec Ideal ⟨2, ![M, N]⟩ .f32} (hr : (⟨2, ![M, N]⟩ : Shape).Reduces [1] ⟨1, ![M]⟩) (hφ : FKind.Formats .f32)
    (hacc : (0x00000000#32 : BitVec 32) = FKind.add.neutral .f32 hφ) (r) : multiReduction .add [1] ⟨1, ![M]⟩ v 0x00000000#32 hr hφ hacc (ix1 r) = ∑ k, v (ix2 r k) := by
  rw [Ideal.multiReduction_add_single]
  refine Finset.sum_congr rfl fun k _ => congrArg v (funext fun q => Fin.ext ?_)
  match q with
  | ⟨0, _⟩ => rfl
  | ⟨1, _⟩ => rfl

/-- The kernel's body. -/
theorem kernel_normed {x p d : FVec Ideal ⟨2, ![M, 1024]⟩ .f32} {gain : FVec Ideal ⟨2, ![1, 1024]⟩ .f32}
    (hM : M ≠ 1) (hr : (⟨2, ![M, 1024]⟩ : Shape).Reduces [1] ⟨1, ![M]⟩) (hφ : FKind.Formats .f32) (hacc : (0x00000000#32 : BitVec 32) = FKind.add.neutral .f32 hφ)
    (hs : (⟨1, ![M]⟩ : Shape).ShapeCasts ⟨2, ![M, 1]⟩) (hb : (⟨2, ![M, 1]⟩ : Shape).Broadcasts ⟨2, ![M, 1024]⟩) (hb' : (⟨2, ![1, 1024]⟩ : Shape).Broadcasts ⟨2, ![M, 1024]⟩) :
    let wide : FVec Ideal ⟨2, ![M, 1]⟩ .f32 := broadcast ⟨2, ![M, 1]⟩ (Scalar.ofBits (F := Ideal) .f32 0x44800000#32)
    let mean := fun v : FVec Ideal ⟨2, ![M, 1024]⟩ .f32 => divf (shapeCast ⟨2, ![M, 1]⟩ (multiReduction .add [1] ⟨1, ![M]⟩ v 0x00000000#32 hr hφ hacc) hs) wide
    let s := rsqrt (addf (mean (mulf x x)) (broadcast ⟨2, ![M, 1]⟩ (Scalar.ofBits (F := Ideal) .f32 0x358637BD#32)))
    let n := mulf x (broadcastTo ⟨2, ![M, 1024]⟩ s hb)
    let q := mulf p (broadcastTo ⟨2, ![M, 1024]⟩ gain hb')
    addf d (mulf (broadcastTo ⟨2, ![M, 1024]⟩ s hb) (subf q (mulf n (broadcastTo ⟨2, ![M, 1024]⟩ (mean (mulf q n)) hb)))) = normed x gain p d := by
  intro wide mean s n q
  have hmean : ∀ v r, mean v (ix2 r 0) = Ideal.div (∑ k, v (ix2 r k)) width := fun v r => by
    show Ideal.div (shapeCast ⟨2, ![M, 1]⟩ (multiReduction .add [1] ⟨1, ![M]⟩ v 0x00000000#32 hr hφ hacc) hs (ix2 r 0)) width = _
    rw [reshaped_at, summed_at]
  have hscale : ∀ r, s (ix2 r 0) = scale fun k => x (ix2 r k) := fun r => by
    show Ideal.rsqrt (mean (mulf x x) (ix2 r 0) + eps) = _
    rw [hmean]
    rfl
  have hn : ∀ r k, n (ix2 r k) = x (ix2 r k) * scale fun k => x (ix2 r k) := fun r k => by
    show x _ * broadcastTo ⟨2, ![M, 1024]⟩ s hb (ix2 r k) = _
    rw [cols_at hM, hscale]
  have hq : ∀ r k, q (ix2 r k) = p (ix2 r k) * gain (ix2 0 k) := fun r k => by
    show p _ * broadcastTo ⟨2, ![M, 1024]⟩ gain hb' (ix2 r k) = _
    rw [rows_at (by decide)]
  funext j
  obtain ⟨r, c, rfl⟩ := Weights.pair j
  show d (ix2 r c) + broadcastTo ⟨2, ![M, 1024]⟩ s hb (ix2 r c) * (q (ix2 r c) - n (ix2 r c) * broadcastTo ⟨2, ![M, 1024]⟩ (mean (mulf q n)) hb (ix2 r c)) = _
  rw [cols_at hM, cols_at hM, hmean, hscale, hq, hn]
  have e : ∑ k, mulf q n (ix2 r k) = ∑ k, p (ix2 r k) * gain (ix2 0 k) * (x (ix2 r k) * scale fun k => x (ix2 r k)) :=
    Finset.sum_congr rfl fun k _ => by
      show q _ * n _ = _
      rw [hq, hn]
  rw [e]
  rfl

/-! The host's. -/

theorem along_at {v : FVec Ideal ⟨2, ![M, N]⟩ .f32} {u : Shape} {init : FVec Ideal u .f32}
    (h : (⟨2, ![M, N]⟩ : Shape).ReducesTo [1] ⟨1, ![M]⟩) (hr : (⟨2, ![M, N]⟩ : Shape).Reduces [1] ⟨1, ![M]⟩) (hu : 0 < u.numel) (h0 : init (Shape.Idx.first hu) = 0) (r) :
    Host.reduceAdd (F := Ideal) (s := ⟨2, ![M, N]⟩) (t := ⟨1, ![M]⟩) v init h hu (ix1 r) = ∑ k, v (ix2 r k) := by
  simp only [Host.reduceAdd, Ideal.hostReduceAdd_def]
  rw [Ideal.hostReduceAdd_single h hr, h0, zero_add]
  refine Finset.sum_congr rfl fun k _ => congrArg v (funext fun q => Fin.ext ?_)
  match q with
  | ⟨0, _⟩ => rfl
  | ⟨1, _⟩ => rfl

theorem column_at {v : (⟨1, ![M]⟩ : Shape).Idx → EReal} (hM : M ≠ 1) (hb : (⟨1, ![M]⟩ : Shape).BroadcastsInDim ⟨2, ![M, N]⟩ ![0]) (r c) :
    broadcastInDim ⟨2, ![M, N]⟩ ![0] hb v (ix2 r c) = v (ix1 r) :=
  broadcastInDim_apply _ hb v (ix2 r c) (ix1 r) (fun a => match a with | ⟨0, _⟩ => (if_neg hM).symm)

theorem copied_at {v : (⟨2, ![M, 1]⟩ : Shape).Idx → EReal} (hM : M ≠ 1) (hb : (⟨2, ![M, 1]⟩ : Shape).BroadcastsInDim ⟨2, ![M, N]⟩ ![0, 1]) (r c) :
    broadcastInDim ⟨2, ![M, N]⟩ ![0, 1] hb v (ix2 r c) = v (ix2 r 0) :=
  broadcastInDim_apply _ hb v (ix2 r c) (ix2 r 0) (fun a => match a with | ⟨0, _⟩ => (if_neg hM).symm | ⟨1, _⟩ => rfl)

theorem repeated_at {v : (⟨2, ![1, N]⟩ : Shape).Idx → EReal} (hN : N ≠ 1) (hb : (⟨2, ![1, N]⟩ : Shape).BroadcastsInDim ⟨2, ![M, N]⟩ ![0, 1]) (r c) :
    broadcastInDim ⟨2, ![M, N]⟩ ![0, 1] hb v (ix2 r c) = v (ix2 0 c) :=
  broadcastInDim_apply _ hb v (ix2 r c) (ix2 0 c) (fun a => match a with | ⟨0, _⟩ => rfl | ⟨1, _⟩ => (if_neg hN).symm)

section Host

variable {x p d : FVec Ideal ⟨2, ![M, 1024]⟩ .f32} {gain : FVec Ideal ⟨2, ![1, 1024]⟩ .f32} (hu : 0 < (⟨0, ![]⟩ : Shape).numel)
  (h : (⟨2, ![M, 1024]⟩ : Shape).ReducesTo [1] ⟨1, ![M]⟩) (h1 : (⟨2, ![M, 1]⟩ : Shape).ReducesTo [1] ⟨1, ![M]⟩)
  (hc : (⟨1, ![M]⟩ : Shape).BroadcastsInDim ⟨2, ![M, 1]⟩ ![0]) (hl : (⟨0, ![]⟩ : Shape).BroadcastsInDim ⟨2, ![M, 1]⟩ ![])
  (hg : (⟨2, ![1, 1024]⟩ : Shape).BroadcastsInDim ⟨2, ![M, 1024]⟩ ![0, 1]) (hs : (⟨1, ![M]⟩ : Shape).ShapeCasts ⟨2, ![M, 1]⟩)
  (hw : (⟨1, ![M]⟩ : Shape).BroadcastsInDim ⟨2, ![M, 1024]⟩ ![0]) (hk : (⟨2, ![M, 1]⟩ : Shape).BroadcastsInDim ⟨2, ![M, 1024]⟩ ![0, 1])
  (hr : (⟨2, ![M, 1024]⟩ : Shape).Reduces [1] ⟨1, ![M]⟩) (hr1 : (⟨2, ![M, 1]⟩ : Shape).Reduces [1] ⟨1, ![M]⟩) (hM : M ≠ 1)

include hr hr1 hM in
theorem host_normed :
    let zero : FVec Ideal ⟨0, ![]⟩ .f32 := constant (F := Ideal) ⟨0, ![]⟩ .f32 0x00000000#32
    let lit := fun b : BitVec 32 => (broadcastInDim ⟨2, ![M, 1]⟩ ![] hl (constant (F := Ideal) ⟨0, ![]⟩ .f32 b) : FVec Ideal ⟨2, ![M, 1]⟩ .f32)
    let sq := addf (Host.divf (broadcastInDim ⟨2, ![M, 1]⟩ ![0] hc (Host.reduceAdd (F := Ideal) (t := ⟨1, ![M]⟩) (mulf x x) zero h hu)) (lit 0x44800000#32)) (lit 0x358637BD#32)
    let s := Host.rsqrt sq
    let q := mulf p (broadcastInDim ⟨2, ![M, 1024]⟩ ![0, 1] hg gain)
    let b := broadcastInDim ⟨2, ![M, 1024]⟩ ![0] hw (Host.reduceAdd (F := Ideal) (t := ⟨1, ![M]⟩)
      (Host.divf (mulf (shapeCast ⟨2, ![M, 1]⟩ (Host.reduceAdd (F := Ideal) (t := ⟨1, ![M]⟩) (mulf x q) zero h hu) hs) (mulf (lit 0xBF000000#32) (Host.divf s sq))) (lit 0x44800000#32)) zero h1 hu)
    addf d (addf (addf (mulf q (broadcastInDim ⟨2, ![M, 1024]⟩ ![0, 1] hk s)) (mulf x b)) (mulf b x)) = normed x gain p d := by
  intro zero lit sq s q b
  have z : zero (Shape.Idx.first hu) = 0 := Ideal.ofBits_zero_f32
  have hsq : ∀ r, sq (ix2 r 0) = square fun k => x (ix2 r k) := fun r => by
    show Ideal.div (broadcastInDim ⟨2, ![M, 1]⟩ ![0] hc (Host.reduceAdd (F := Ideal) (t := ⟨1, ![M]⟩) (mulf x x) zero h hu) (ix2 r 0)) width + eps = _
    rw [column_at hM, along_at h hr hu z]
    rfl
  have hscale : ∀ r, s (ix2 r 0) = scale fun k => x (ix2 r k) := fun r => by
    show Ideal.rsqrt (sq (ix2 r 0)) = _
    rw [hsq]
    rfl
  have hq : ∀ r k, q (ix2 r k) = p (ix2 r k) * gain (ix2 0 k) := fun r k => by
    show p _ * broadcastInDim ⟨2, ![M, 1024]⟩ ![0, 1] hg gain (ix2 r k) = _
    rw [repeated_at (by decide)]
  have hpass : ∀ r c, b (ix2 r c) = passed (fun k => x (ix2 r k)) fun k => p (ix2 r k) * gain (ix2 0 k) := fun r c => by
    refine (column_at hM hw r c).trans ((along_at h1 hr1 hu z r).trans ((Fin.sum_univ_one _).trans ?_))
    show Ideal.div (shapeCast ⟨2, ![M, 1]⟩ (Host.reduceAdd (F := Ideal) (t := ⟨1, ![M]⟩) (mulf x q) zero h hu) hs (ix2 r 0) * (half * Ideal.div (s (ix2 r 0)) (sq (ix2 r 0)))) width = _
    rw [reshaped_at, along_at h hr hu z, hscale, hsq]
    have e : ∑ k, mulf x q (ix2 r k) = ∑ k, x (ix2 r k) * (p (ix2 r k) * gain (ix2 0 k)) :=
      Finset.sum_congr rfl fun k _ => by
        show x _ * q _ = _
        rw [hq]
    rw [e]
    rfl
  funext j
  obtain ⟨r, c, rfl⟩ := Weights.pair j
  show d (ix2 r c) + (q (ix2 r c) * broadcastInDim ⟨2, ![M, 1024]⟩ ![0, 1] hk s (ix2 r c) + x (ix2 r c) * b (ix2 r c) + b (ix2 r c) * x (ix2 r c)) = _
  rw [copied_at hM, hscale, hq, hpass]
  exact (factored_eq (fun k => x (ix2 r k)) (fun k => p (ix2 r k) * gain (ix2 0 k)) c (d (ix2 r c))).symm

end Host

end

end Back
-- ==== Proof.Back.FfnDh.lean ====
/- What comes back through the feed-forward layer's two matrices and its norm: the kernel's result is the transformation's. -/
module

public import proofs.«01_k».proof.Defs
public import proofs.«01_k».proof.Proof.Back.Norm
public import proofs.«01_k».proof.Proof.Gen.FfnDhIdeal.Value
public import proofs.«01_k».proof.Proof.Gen.FfnDhRefIdeal.Run
public import proofs.«01_k».proof.Proof.Gen.FfnDhRefIdeal.Read

@[expose] public section

namespace Back.FfnDh

open Idealize.ShloMosaic
open Idealize.ShloMosaic.TcCoe Idealize.SL.Sem
open Idealize.ShloMosaic.ValueIdx
open Idealize.ShloMosaic.Pipeline
open Weights

noncomputable section

/-- What comes back through the two matrices, the gate's first. -/
def through {M : ℕ} (e u : (⟨2, ![M, 2816]⟩ : Shape).Idx → EReal) (w v : (⟨2, ![2816, 1024]⟩ : Shape).Idx → EReal) : (⟨2, ![M, 1024]⟩ : Shape).Idx → EReal :=
  fun j => rows e w j + rows u v j

open Cert.FfnDhRefIdeal Cert.FfnDhRefIdeal.Gen Cert.FfnDhRefIdeal.Read in
theorem result (x0 x1 : FVec Ideal S4096x2816 .bf16) (x2 x3 : FVec Ideal S2816x1024 .bf16) (x4 : FVec Ideal S4096x1024 .f32) (x5 : FVec Ideal S1x1024 .f32)
    (x6 : FVec Ideal S4096x1024 .f32) : val_main_v42 (F := Ideal) x0 x1 x2 x3 x4 x5 x6 = normed (M := 4096) x4 x5 (through (M := 4096) x0 x1 x2 x3) x6 := by
  have e1 : val_main_v23 (F := Ideal) x1 x3 = rows (M := 4096) (K := 2816) (N := 1024) x1 x3 := host_back (φ₁ := .f32) (φ₂ := .f32) _ _ _
  have e0 : val_main_v24 (F := Ideal) x0 x2 = rows (M := 4096) (K := 2816) (N := 1024) x0 x2 := host_back (φ₁ := .f32) (φ₂ := .f32) _ _ _
  have e : val_main_v25 (F := Ideal) x0 x1 x2 x3 = through (M := 4096) x0 x1 x2 x3 := by
    funext j
    show val_main_v23 (F := Ideal) x1 x3 j + val_main_v24 (F := Ideal) x0 x2 j = _
    rw [e1, e0]
    exact add_comm (G := EReal) _ _
  rw [← e]
  exact host_normed (M := 4096) h_S_ reducesTo_S4096x1024_S4096_d1 reducesTo_S4096x1_S4096_d1 bcast_S4096_S4096x1_0 bcast_S_S4096x1 bcast_S1x1024_S4096x1024_0_1
    shapeCasts_S4096_S4096x1 bcast_S4096_S4096x1024_0 bcast_S4096x1_S4096x1024_0_1 (by decide) (by decide) (by decide)

open Cert.FfnDhIdeal Cert.FfnDhIdeal.Gen

/-- The launch's points are the blocks of 256 rows. -/
theorem at_point : ∀ t : Fin cfg0.N, (win0_0.index t (0 : Fin 2) = t.val ∧ win0_0.index t (1 : Fin 2) = 0)
    ∧ (win0_1.index t (0 : Fin 2) = 0 ∧ win0_1.index t (1 : Fin 2) = 0) ∧ (win0_2.index t (0 : Fin 2) = t.val ∧ win0_2.index t (1 : Fin 2) = 0)
    ∧ (win0_3.index t (0 : Fin 2) = 0 ∧ win0_3.index t (1 : Fin 2) = 0) ∧ (win0_4.index t (0 : Fin 2) = t.val ∧ win0_4.index t (1 : Fin 2) = 0)
    ∧ (win0_5.index t (0 : Fin 2) = 0 ∧ win0_5.index t (1 : Fin 2) = 0) ∧ (win0_6.index t (0 : Fin 2) = t.val ∧ win0_6.index t (1 : Fin 2) = 0)
    ∧ (win0_7.index t (0 : Fin 2) = t.val ∧ win0_7.index t (1 : Fin 2) = 0 ∧ win0_7.flush t = true) :=
  (by decide +kernel : ∀ t : Fin grid0.N, _)

/-- The body at a block. -/
def body (x0 x2 : FVec Ideal S256x2816 .bf16) (x1 x3 : FVec Ideal S2816x1024 .bf16) (x4 x6 : FVec Ideal S256x1024 .f32) (x5 : FVec Ideal S1x1024 .f32) :
    FVec Ideal S256x1024 .f32 := k0_pay6 (F := Ideal) (k0_pay1 (F := Ideal) x0 x1 x2 x3) x4 x5 x6

theorem body_eq (x0 x2 : FVec Ideal S256x2816 .bf16) (x1 x3 : FVec Ideal S2816x1024 .bf16) (x4 x6 : FVec Ideal S256x1024 .f32) (x5 : FVec Ideal S1x1024 .f32) :
    body x0 x2 x1 x3 x4 x6 x5 = normed (M := 256) x4 x5 (through (M := 256) x0 x2 x1 x3) x6 := by
  have p : k0_pay1 (F := Ideal) x0 x1 x2 x3 = through (M := 256) x0 x2 x1 x3 := by
    have e1 : FloatOps.matmul dot_S256x2816_S2816x1024_S256x1024_1_0_0_1_n_n none x0 x1 (constant (F := Ideal) S256x1024 .f32 0x00000000#32)
      = rows (M := 256) (K := 2816) (N := 1024) x0 x1 := matmul_rows (φ₁ := .bf16) (φ₂ := .bf16) _ _
    have e2 : FloatOps.matmul dot_S256x2816_S2816x1024_S256x1024_1_0_0_1_n_n none x2 x3 (constant (F := Ideal) S256x1024 .f32 0x00000000#32)
      = rows (M := 256) (K := 2816) (N := 1024) x2 x3 := matmul_rows (φ₁ := .bf16) (φ₂ := .bf16) _ _
    show addf (FloatOps.matmul _ none x0 x1 _) (FloatOps.matmul _ none x2 x3 _) = _
    rw [e1, e2]
    rfl
  rw [← p]
  exact kernel_normed (M := 256) (by decide) reduces_S256x1024_S256 (.inl rfl) rfl shapeCasts_S256_S256x1 broadcasts_S256x1_S256x1024 broadcasts_S1x1024_S256x1024

variable (m : (ℓ : Loc nD τ sig) → Buf (Elt Ideal) ℓ) (c : Dev nD)

theorem tile (t : Fin cfg0.N) : (outsAt0 m c t.val t.isLt).1
    = body (iblk m c 0 t) (iblk m c 2 t) (iblk m c 1 t) (iblk m c 3 t) (iblk m c 4 t) (iblk m c 6 t) (iblk m c 5 t) := by
  by_cases h : t.val = 0
  · rw [outsAt0_A m c t (by omega) (by omega)]
    unfold out0_A_7 kernelRun0_A kernelRun0_A.sl.v16 kernelRun0_A.sl.HS0_1
    dsimp only
    rw [kept, loaded, loaded, loaded, View.readCov_full _ _ _ _ _]
    unfold k0_pay2
    rw [loaded, loaded, loaded, loaded, shapeCast_self]
    rfl
  · have ht : t.val < 16 := t.isLt
    rw [outsAt0_B m c t (by omega) (by omega)]
    unfold out0_B_7 kernelRun0_B kernelRun0_B.sl.v16 kernelRun0_B.sl.HS0_1
    dsimp only
    rw [kept, loaded, loaded, loaded, View.readCov_full _ _ _ _ _]
    unfold k0_pay2
    rw [loaded, loaded, loaded, loaded, shapeCast_self]
    rfl

theorem out_row (t i) : ((win0_7.rect t).emb i 0).val = t.val / 1 * 256 + (i 0).val :=
  (Window.rect_emb_val win0_7 t i 0).trans (congrArg (· * 256 + (i 0).val) ((at_point t).2.2.2.2.2.2.2.1.trans (Nat.div_one _).symm))

theorem out_column (t i) : ((win0_7.rect t).emb i 1).val = t.val % 1 * 1024 + (i 1).val :=
  (Window.rect_emb_val win0_7 t i 1).trans (congrArg (· * 1024 + (i 1).val) ((at_point t).2.2.2.2.2.2.2.2.1.trans (Nat.mod_one _).symm))

theorem part (t : Fin cfg0.N) (r : Fin 256) (k : Fin 1024) (hr : t.val * 256 + r.val < 4096) :
    through (M := 256) (iblk m c 0 t) (iblk m c 2 t) (iblk m c 1 t) (iblk m c 3 t) (ix2 r k)
      = through (M := 4096) (V m c main_arg0) (V m c main_arg1) (V m c main_arg2) (V m c main_arg3) (ix2 ⟨t.val * 256 + r.val, hr⟩ k) := by
  refine congrArg₂ (· + ·) (Finset.sum_congr rfl fun i _ => congrArg₂ (· * ·) (congrArg (V m c main_arg0) ?_) (congrArg (V m c main_arg2) ?_))
    (Finset.sum_congr rfl fun i _ => congrArg₂ (· * ·) (congrArg (V m c main_arg1) ?_) (congrArg (V m c main_arg3) ?_))
  · exact band (e := (win0_0.rect t).emb) (fun i => (Window.rect_emb_val win0_0 t i 0).trans (congrArg (· * 256 + (i 0).val) (at_point t).1.1))
      (fun i => Window.rect_emb_val_of_index_zero win0_0 t 1 (at_point t).1.2 i) r i hr i.isLt
  · exact whole (e := (win0_1.rect t).emb) (fun i => Window.rect_emb_val_of_index_zero win0_1 t 0 (at_point t).2.1.1 i)
      (fun i => Window.rect_emb_val_of_index_zero win0_1 t 1 (at_point t).2.1.2 i) (ix2 i k)
  · exact band (e := (win0_2.rect t).emb) (fun i => (Window.rect_emb_val win0_2 t i 0).trans (congrArg (· * 256 + (i 0).val) (at_point t).2.2.1.1))
      (fun i => Window.rect_emb_val_of_index_zero win0_2 t 1 (at_point t).2.2.1.2 i) r i hr i.isLt
  · exact whole (e := (win0_3.rect t).emb) (fun i => Window.rect_emb_val_of_index_zero win0_3 t 0 (at_point t).2.2.2.1.1 i)
      (fun i => Window.rect_emb_val_of_index_zero win0_3 t 1 (at_point t).2.2.2.1.2 i) (ix2 i k)

theorem entries : (dats m 0 c).arrAt 7 cfg0.N = normed (M := 4096) (V m c main_arg4) (V m c main_arg5)
    (through (M := 4096) (V m c main_arg0) (V m c main_arg1) (V m c main_arg2) (V m c main_arg3)) (V m c main_arg6) := by
  refine of_cover (M := 4096) (N := 1024) (a := 256) (b := 1024) (G := cfg0.N) 1 (by decide) (by decide) (by decide) (fun i hi => show i / 256 * 1 + 1 ≤ 16 by omega)
    (fun t => (win0_7.rect t).emb) out_row out_column fun t i => ?_
  have e : (fun i => (dats m 0 c).arrAt 7 cfg0.N ((win0_7.rect t).emb i)) = _ :=
    (((Value.blocks7 m c t (at_point t).2.2.2.2.2.2.2.2.2).trans (Value.flushed7 m c t)).trans (tile m c t)).trans (body_eq _ _ _ _ _ _ _)
  obtain ⟨r, k, rfl⟩ := pair i
  have ht : t.val < 16 := t.isLt
  have hr : ∀ r : Fin 256, t.val * 256 + r.val < 4096 := fun r => by omega
  have b4 : ∀ r k, iblk m c 4 t (ix2 r k) = V m c main_arg4 (ix2 ⟨t.val * 256 + r.val, hr r⟩ k) := fun r k => congrArg (V m c main_arg4) (band (e := (win0_4.rect t).emb)
    (fun i => (Window.rect_emb_val win0_4 t i 0).trans (congrArg (· * 256 + (i 0).val) (at_point t).2.2.2.2.1.1))
    (fun i => Window.rect_emb_val_of_index_zero win0_4 t 1 (at_point t).2.2.2.2.1.2 i) r k (hr r) k.isLt)
  have b5 : ∀ k, iblk m c 5 t (ix2 0 k) = V m c main_arg5 (ix2 0 k) := fun k => congrArg (V m c main_arg5) (whole (e := (win0_5.rect t).emb)
    (fun i => Window.rect_emb_val_of_index_zero win0_5 t 0 (at_point t).2.2.2.2.2.1.1 i)
    (fun i => Window.rect_emb_val_of_index_zero win0_5 t 1 (at_point t).2.2.2.2.2.1.2 i) (ix2 0 k))
  have b6 : ∀ r k, iblk m c 6 t (ix2 r k) = V m c main_arg6 (ix2 ⟨t.val * 256 + r.val, hr r⟩ k) := fun r k => congrArg (V m c main_arg6) (band (e := (win0_6.rect t).emb)
    (fun i => (Window.rect_emb_val win0_6 t i 0).trans (congrArg (· * 256 + (i 0).val) (at_point t).2.2.2.2.2.2.1.1))
    (fun i => Window.rect_emb_val_of_index_zero win0_6 t 1 (at_point t).2.2.2.2.2.2.1.2 i) r k (hr r) k.isLt)
  have b7 : (win0_7.rect t).emb (ix2 r k) = ix2 ⟨t.val * 256 + r.val, hr r⟩ k := band (e := (win0_7.rect t).emb) (fun i => (out_row t i).trans (by rw [Nat.div_one]))
    (fun i => (out_column t i).trans (by rw [Nat.mod_one, Nat.zero_mul, Nat.zero_add])) r k (hr r) k.isLt
  have n := normed_band (x := V m c main_arg4) (bx := iblk m c 4 t) (gain := V m c main_arg5) (bg := iblk m c 5 t) (d := V m c main_arg6) (bd := iblk m c 6 t)
    hr b4 (fun r k => part m c t r k (hr r)) b6 b5 r k
  exact (congrFun e (ix2 r k)).trans (n.trans (congrArg (normed (M := 4096) (V m c main_arg4) (V m c main_arg5)
    (through (M := 4096) (V m c main_arg0) (V m c main_arg1) (V m c main_arg2) (V m c main_arg3)) (V m c main_arg6)) b7.symm))

theorem agree : Cert.algebraic_FfnDhIdeal_FfnDhRefIdeal := by
  intro m g m' g' _ hargs
  refine ⟨fun c => (dats m 0 c).arrAt 7 cfg0.N, ?_, ?_⟩
  · exact (θ_run _ _ _).mono (fun r h c => ⟨(h c).1, (h c).2.2⟩) (Value.run_blocks m g)
  refine (θ_run _ _ _).mono (fun r h c => ⟨(h c).1.trans ?_, (h c).2⟩) (Cert.FfnDhRefIdeal.Value.run (F := Ideal) m' g')
  obtain ⟨a0, a1, a2, a3, a4, a5, a6⟩ := hargs c
  rw [Cert.FfnDhRefIdeal.Read.val_main_v42_eq, a0, a1, a2, a3, a4, a5, a6]
  exact (result _ _ _ _ _ _ _).trans (entries m c).symm

end

end Back.FfnDh
-- ==== Proof.Back.QkvDx.lean ====
/- What comes back through the attention's joined projection and its norm: the kernel's result is the transformation's. -/
module

public import proofs.«01_k».proof.Defs
public import proofs.«01_k».proof.Proof.Back.Norm
public import proofs.«01_k».proof.Proof.Gen.QkvDxIdeal.Value
public import proofs.«01_k».proof.Proof.Gen.QkvDxRefIdeal.Run
public import proofs.«01_k».proof.Proof.Gen.QkvDxRefIdeal.Read

@[expose] public section

namespace Back.QkvDx

open Idealize.ShloMosaic
open Idealize.ShloMosaic.TcCoe Idealize.SL.Sem
open Idealize.ShloMosaic.ValueIdx
open Idealize.ShloMosaic.Pipeline
open Weights
open scoped BigOperators

noncomputable section

open Cert.QkvDxRefIdeal Cert.QkvDxRefIdeal.Gen Cert.QkvDxRefIdeal.Read in
theorem result (x0 : FVec Ideal S4096x9216 .bf16) (x1 : FVec Ideal S9216x1024 .bf16) (x2 : FVec Ideal S4096x1024 .f32) (x3 : FVec Ideal S1x1024 .f32)
    (x4 : FVec Ideal S4096x1024 .f32) : val_main_v36 (F := Ideal) x0 x1 x2 x3 x4 = normed (M := 4096) x2 x3 (rows (M := 4096) (K := 9216) (N := 1024) x0 x1) x4 := by
  have e : val_main_v19 (F := Ideal) x0 x1 = rows (M := 4096) (K := 9216) (N := 1024) x0 x1 := host_back (φ₁ := .f32) (φ₂ := .f32) _ _ _
  rw [← e]
  exact host_normed (M := 4096) h_S_ reducesTo_S4096x1024_S4096_d1 reducesTo_S4096x1_S4096_d1 bcast_S4096_S4096x1_0 bcast_S_S4096x1 bcast_S1x1024_S4096x1024_0_1
    shapeCasts_S4096_S4096x1 bcast_S4096_S4096x1024_0 bcast_S4096x1_S4096x1024_0_1 (by decide) (by decide) (by decide)

open Cert.QkvDxIdeal Cert.QkvDxIdeal.Gen

/-- The launch's points are the blocks of 512 rows, each in three steps over the matrix's rows. -/
theorem at_point : ∀ t : Fin cfg0.N, (win0_0.index t (0 : Fin 2) = t.val / 3 ∧ win0_0.index t (1 : Fin 2) = t.val % 3)
    ∧ (win0_1.index t (0 : Fin 2) = t.val % 3 ∧ win0_1.index t (1 : Fin 2) = 0) ∧ (win0_2.index t (0 : Fin 2) = t.val / 3 ∧ win0_2.index t (1 : Fin 2) = 0)
    ∧ (win0_3.index t (0 : Fin 2) = 0 ∧ win0_3.index t (1 : Fin 2) = 0) ∧ (win0_4.index t (0 : Fin 2) = t.val / 3 ∧ win0_4.index t (1 : Fin 2) = 0)
    ∧ (win0_5.index t (0 : Fin 2) = t.val / 3 ∧ win0_5.index t (1 : Fin 2) = 0 ∧ (t.val % 3 = 2 → win0_5.flush t = true)) :=
  (by decide +kernel : ∀ t : Fin grid0.N, _)

/-- The product of two blocks. -/
theorem step (x : FVec Ideal S512x3072 .bf16) (w : FVec Ideal S3072x1024 .bf16) : k0_pay1 (F := Ideal) x w = rows (M := 512) (K := 3072) (N := 1024) x w :=
  matmul_rows (φ₁ := .bf16) (φ₂ := .bf16) _ _

/-- Adding it to the scratch. -/
theorem added (x : FVec Ideal S512x3072 .bf16) (w : FVec Ideal S3072x1024 .bf16) (v : FVec Ideal S512x1024 .f32) :
    k0_pay3 (F := Ideal) x w v = fun i => v i + rows (M := 512) (K := 3072) (N := 1024) x w i := by
  refine (shapeCast_self (addf v (k0_pay1 (F := Ideal) x w)) shapeCasts_S512x1024_S512x1024).trans ?_
  rw [step]
  rfl

variable (m : (ℓ : Loc nD τ sig) → Buf (Elt Ideal) ℓ) (c : Dev nD)

/-- What the scratch holds after a point. -/
theorem first (t : Fin cfg0.N) (h : t.val % 3 = 0) : (outsAt0 m c t.val t.isLt).2.2 = rows (M := 512) (K := 3072) (N := 1024) (iblk m c 0 t) (iblk m c 1 t) := by
  rw [outsAt0_A m c t h (by omega) (by omega)]
  unfold sout0_A_0 kernelRun0_A
  dsimp only
  rw [kept]
  unfold k0_pay2
  rw [loaded, loaded, shapeCast_self]
  exact step _ _

theorem second (t : Fin cfg0.N) (h : t.val % 3 = 1) : (outsAt0 m c t.val t.isLt).2.2
    = fun i => (outsAt0 m c (t.val - 1) (Nat.lt_of_le_of_lt (Nat.sub_le _ _) t.isLt)).2.2 i + rows (M := 512) (K := 3072) (N := 1024) (iblk m c 0 t) (iblk m c 1 t) i := by
  rw [outsAt0_B m c t (by omega) (by omega) (by omega)]
  unfold sout0_B_0 kernelRun0_B
  dsimp only
  rw [kept]
  refine (added _ _ _).trans ?_
  rw [loaded, loaded]
  exact congrArg (fun v : FVec Ideal S512x1024 .f32 => fun i => v i + rows (M := 512) (K := 3072) (N := 1024) (iblk m c 0 t) (iblk m c 1 t) i)
    (loaded (Memref.isWhole_whole _) _ _)

theorem third (t : Fin cfg0.N) (h : t.val % 3 = 2) : (outsAt0 m c t.val t.isLt).1 = k0_pay6 (F := Ideal)
    (fun i => (outsAt0 m c (t.val - 1) (Nat.lt_of_le_of_lt (Nat.sub_le _ _) t.isLt)).2.2 i + rows (M := 512) (K := 3072) (N := 1024) (iblk m c 0 t) (iblk m c 1 t) i)
    (iblk m c 2 t) (iblk m c 3 t) (iblk m c 4 t) := by
  by_cases h3 : t.val < 3
  · rw [outsAt0_C m c t (by omega) (by omega) h h3 (by omega)]
    unfold out0_C_5 kernelRun0_C
    dsimp only
    unfold kernelRun0_C.sl.v12 kernelRun0_C.sl.HS0_1
    rw [kept, loaded, loaded, loaded, View.readCov_full _ _ _ _ _]
    rw [added, loaded, loaded, loaded]
  · rw [outsAt0_D m c t (by omega) (by omega) h h3 (by omega)]
    unfold out0_D_5 kernelRun0_D
    dsimp only
    unfold kernelRun0_D.sl.v12 kernelRun0_D.sl.HS0_1
    rw [kept, loaded, loaded, loaded, View.readCov_full _ _ _ _ _]
    rw [added, loaded, loaded, loaded]

/-- A term of an entry of the whole product. -/
def term (x : (⟨2, ![4096, 9216]⟩ : Shape).Idx → EReal) (w : (⟨2, ![9216, 1024]⟩ : Shape).Idx → EReal) (r : Fin 4096) (k : Fin 1024) (i : Fin 9216) : EReal :=
  x (ix2 r i) * w (ix2 i k)

/-- A point's product, of blocks of its rows and of the matrix's. -/
theorem part (t : Fin cfg0.N) {q n : ℕ} (hq : t.val / 3 = q) (hn : t.val % 3 = n) (r : Fin 512) (k : Fin 1024) (hr : q * 512 + r.val < 4096) (hk : ∀ i : Fin 3072, n * 3072 + i.val < 9216) :
    rows (M := 512) (K := 3072) (N := 1024) (iblk m c 0 t) (iblk m c 1 t) (ix2 r k)
      = ∑ i : Fin 3072, term (V m c main_arg0) (V m c main_arg1) ⟨q * 512 + r.val, hr⟩ k ⟨n * 3072 + i.val, hk i⟩ := by
  subst hq hn
  refine Finset.sum_congr rfl fun i _ => congrArg₂ (· * ·) (congrArg (V m c main_arg0) (funext fun a => Fin.ext ?_)) (congrArg (V m c main_arg1) (funext fun a => Fin.ext ?_))
  · match a with
    | ⟨0, _⟩ => exact (Window.rect_emb_val win0_0 t (ix2 r i) 0).trans (congrArg (· * 512 + r.val) (at_point t).1.1)
    | ⟨1, _⟩ => exact (Window.rect_emb_val win0_0 t (ix2 r i) 1).trans (congrArg (· * 3072 + i.val) (at_point t).1.2)
  · match a with
    | ⟨0, _⟩ => exact (Window.rect_emb_val win0_1 t (ix2 i k) 0).trans (congrArg (· * 3072 + i.val) (at_point t).2.1.1)
    | ⟨1, _⟩ => exact Window.rect_emb_val_of_index_zero win0_1 t 1 (at_point t).2.1.2 (ix2 i k)

/-- The three steps' sums are the whole product. -/
theorem steps (f : Fin 9216 → EReal) : (∑ k : Fin 3072, f ⟨0 * 3072 + k.val, by omega⟩) + (∑ k : Fin 3072, f ⟨1 * 3072 + k.val, by omega⟩)
    + (∑ k : Fin 3072, f ⟨2 * 3072 + k.val, by omega⟩) = ∑ k, f k := by
  rw [Fin.sum_univ_add (a := 6144) (b := 3072) f, Fin.sum_univ_add (a := 3072) (b := 3072)]
  refine congrArg₂ (· + ·) (congrArg₂ (· + ·) ?_ ?_) ?_ <;> exact Finset.sum_congr rfl fun k _ => congrArg f (Fin.ext (by simp <;> omega))

theorem tile (t : Fin cfg0.N) (h : t.val % 3 = 2) (hr : ∀ r : Fin 512, t.val / 3 * 512 + r.val < 4096) (r : Fin 512) (k : Fin 1024) :
    (outsAt0 m c t.val t.isLt).1 (ix2 r k) = normed (M := 4096) (V m c main_arg2) (V m c main_arg3)
      (rows (M := 4096) (K := 9216) (N := 1024) (V m c main_arg0) (V m c main_arg1)) (V m c main_arg4) (ix2 ⟨t.val / 3 * 512 + r.val, hr r⟩ k) := by
  have l1 : t.val - 1 < cfg0.N := Nat.lt_of_le_of_lt (Nat.sub_le _ _) t.isLt
  have l2 : t.val - 1 - 1 < cfg0.N := Nat.lt_of_le_of_lt (Nat.sub_le _ _) l1
  rw [third m c t h]
  have b2 : ∀ r k, iblk m c 2 t (ix2 r k) = V m c main_arg2 (ix2 ⟨t.val / 3 * 512 + r.val, hr r⟩ k) := fun r k => congrArg (V m c main_arg2) (band (e := (win0_2.rect t).emb)
    (fun i => (Window.rect_emb_val win0_2 t i 0).trans (congrArg (· * 512 + (i 0).val) (at_point t).2.2.1.1))
    (fun i => Window.rect_emb_val_of_index_zero win0_2 t 1 (at_point t).2.2.1.2 i) r k (hr r) k.isLt)
  have b3 : ∀ k, iblk m c 3 t (ix2 0 k) = V m c main_arg3 (ix2 0 k) := fun k => congrArg (V m c main_arg3) (whole (e := (win0_3.rect t).emb)
    (fun i => Window.rect_emb_val_of_index_zero win0_3 t 0 (at_point t).2.2.2.1.1 i)
    (fun i => Window.rect_emb_val_of_index_zero win0_3 t 1 (at_point t).2.2.2.1.2 i) (ix2 0 k))
  have b4 : ∀ r k, iblk m c 4 t (ix2 r k) = V m c main_arg4 (ix2 ⟨t.val / 3 * 512 + r.val, hr r⟩ k) := fun r k => congrArg (V m c main_arg4) (band (e := (win0_4.rect t).emb)
    (fun i => (Window.rect_emb_val win0_4 t i 0).trans (congrArg (· * 512 + (i 0).val) (at_point t).2.2.2.2.1.1))
    (fun i => Window.rect_emb_val_of_index_zero win0_4 t 1 (at_point t).2.2.2.2.1.2 i) r k (hr r) k.isLt)
  refine (congrFun (kernel_normed (M := 512) (by decide) reduces_S512x1024_S512 (.inl rfl) rfl shapeCasts_S512_S512x1 broadcasts_S512x1_S512x1024 broadcasts_S1x1024_S512x1024) _).trans
    (normed_band (x := V m c main_arg2) (bx := iblk m c 2 t) (gain := V m c main_arg3) (bg := iblk m c 3 t) (d := V m c main_arg4) (bd := iblk m c 4 t)
      hr b2 (fun r k => ?_) b4 b3 r k)
  rw [second m c ⟨t.val - 1, l1⟩ (by show (t.val - 1) % 3 = 1; omega), first m c ⟨t.val - 1 - 1, l2⟩ (by show (t.val - 1 - 1) % 3 = 0; omega)]
  dsimp only
  rw [part m c ⟨t.val - 1 - 1, l2⟩ (q := t.val / 3) (n := 0) (by show (t.val - 1 - 1) / 3 = _; omega) (by show (t.val - 1 - 1) % 3 = 0; omega) r k (hr r) (fun i => by omega),
    part m c ⟨t.val - 1, l1⟩ (q := t.val / 3) (n := 1) (by show (t.val - 1) / 3 = _; omega) (by show (t.val - 1) % 3 = 1; omega) r k (hr r) (fun i => by omega),
    part m c t rfl h r k (hr r) (fun i => by omega)]
  exact steps (term (V m c main_arg0) (V m c main_arg1) ⟨t.val / 3 * 512 + r.val, hr r⟩ k)

/-- The point that writes a block of rows. -/
def last (q : Fin 8) : Fin cfg0.N := ⟨3 * q.val + 2, (by omega : 3 * q.val + 2 < 24)⟩

theorem last_of (q : Fin 8) : (last q).val / 3 = q.val ∧ (last q).val % 3 = 2 := by
  show (3 * q.val + 2) / 3 = _ ∧ (3 * q.val + 2) % 3 = 2
  omega

theorem out_row (q i) : ((win0_5.rect (last q)).emb i 0).val = q.val / 1 * 512 + (i 0).val :=
  (Window.rect_emb_val win0_5 (last q) i 0).trans (congrArg (· * 512 + (i 0).val) (((at_point (last q)).2.2.2.2.2.1.trans (last_of q).1).trans (Nat.div_one _).symm))

theorem out_column (q : Fin 8) (i) : ((win0_5.rect (last q)).emb i 1).val = q.val % 1 * 1024 + (i 1).val :=
  (Window.rect_emb_val win0_5 (last q) i 1).trans (congrArg (· * 1024 + (i 1).val) ((at_point (last q)).2.2.2.2.2.2.1.trans (Nat.mod_one _).symm))

theorem entries : (dats m 0 c).arrAt 5 cfg0.N = normed (M := 4096) (V m c main_arg2) (V m c main_arg3)
    (rows (M := 4096) (K := 9216) (N := 1024) (V m c main_arg0) (V m c main_arg1)) (V m c main_arg4) := by
  refine of_cover (M := 4096) (N := 1024) (a := 512) (b := 1024) (G := 8) 1 (by decide) (by decide) (by decide) (fun i hi => by omega)
    (fun q => (win0_5.rect (last q)).emb) out_row out_column fun q i => ?_
  have e : (fun i => (dats m 0 c).arrAt 5 cfg0.N ((win0_5.rect (last q)).emb i)) = _ :=
    ((congrArg (((cfg0.win 5).blk (last q)).view.read (Elt Ideal)) (Value.final5 m c)).trans
      (Value.flushed5_eq m c (last q) ((at_point (last q)).2.2.2.2.2.2.2 (last_of q).2)).symm).trans (Value.flushed5 m c (last q))
  obtain ⟨r, k, rfl⟩ := pair i
  have hr : ∀ r : Fin 512, (last q).val / 3 * 512 + r.val < 4096 := fun r => by rw [(last_of q).1]; omega
  have b5 : (win0_5.rect (last q)).emb (ix2 r k) = ix2 ⟨(last q).val / 3 * 512 + r.val, hr r⟩ k := band (e := (win0_5.rect (last q)).emb)
    (fun i => (out_row q i).trans (by rw [(last_of q).1, Nat.div_one])) (fun i => (out_column q i).trans (by rw [Nat.mod_one, Nat.zero_mul, Nat.zero_add])) r k (hr r) k.isLt
  exact (congrFun e (ix2 r k)).trans ((tile m c (last q) (last_of q).2 hr r k).trans (congrArg (normed (M := 4096) (V m c main_arg2) (V m c main_arg3)
    (rows (M := 4096) (K := 9216) (N := 1024) (V m c main_arg0) (V m c main_arg1)) (V m c main_arg4)) b5.symm))

theorem agree : Cert.algebraic_QkvDxIdeal_QkvDxRefIdeal := by
  intro m g m' g' _ hargs
  refine ⟨fun c => (dats m 0 c).arrAt 5 cfg0.N, ?_, ?_⟩
  · exact (θ_run _ _ _).mono (fun r h c => ⟨(h c).1, (h c).2.2⟩) (Value.run_blocks m g)
  refine (θ_run _ _ _).mono (fun r h c => ⟨(h c).1.trans ?_, (h c).2⟩) (Cert.QkvDxRefIdeal.Value.run (F := Ideal) m' g')
  obtain ⟨a0, a1, a2, a3, a4⟩ := hargs c
  rw [Cert.QkvDxRefIdeal.Read.val_main_v36_eq, a0, a1, a2, a3, a4]
  exact (result _ _ _ _ _).trans (entries m c).symm

end

end Back.QkvDx
-- ==== Proof.Weights.References.lean ====
/- The references of the products run, leave their arguments unchanged and end quiescent. -/
module

public import proofs.«01_k».proof.Defs
public import proofs.«01_k».proof.Proof.Gen.DownRefIdeal.Run
public import proofs.«01_k».proof.Proof.Gen.GateRefIdeal.Run
public import proofs.«01_k».proof.Proof.Gen.QkvRefIdeal.Run
public import proofs.«01_k».proof.Proof.Gen.XbcInRefIdeal.Run
public import proofs.«01_k».proof.Proof.Gen.ZInRefIdeal.Run
public import proofs.«01_k».proof.Proof.Gen.DtInRefIdeal.Run
public import proofs.«01_k».proof.Proof.Gen.SsmOutRefIdeal.Run
public import proofs.«01_k».proof.Proof.Gen.AttOutRefIdeal.Run
public import proofs.«01_k».proof.Proof.Gen.PleGateRefIdeal.Run
public import proofs.«01_k».proof.Proof.Gen.PleProjRefIdeal.Run
public import proofs.«01_k».proof.Proof.Gen.ZProjRefIdeal.Run
public import proofs.«01_k».proof.Proof.Gen.XbcProjRefIdeal.Run
public import proofs.«01_k».proof.Proof.Gen.DtProjRefIdeal.Run
public import proofs.«01_k».proof.Proof.Gen.FfnBackRefIdeal.Run
public import proofs.«01_k».proof.Proof.Gen.FfnDhRefIdeal.Run
public import proofs.«01_k».proof.Proof.Gen.QkvDxRefIdeal.Run
public import proofs.«01_k».proof.Proof.Gen.FfnInRefIdeal.Run
public import proofs.«01_k».proof.Proof.Gen.DownProjRefIdeal.Run
public import proofs.«01_k».proof.Proof.Gen.ZBackRefIdeal.Run
public import proofs.«01_k».proof.Proof.Gen.XbcBackRefIdeal.Run
public import Idealize.ShloMosaic.Lib.Quiescent

@[expose] public section

namespace Weights

open Idealize.ShloMosaic Idealize.ShloMosaic.TcCoe Idealize.SL.Sem

/-! The references are host code without semaphores: every counter is zero. -/

theorem down_reference : Cert.quiescent_DownRefIdeal := fun m ρ _ =>
  (θ_run (Cert.DownRefIdeal.defs (F := Ideal)) _ _).mono (fun r h => ⟨fun c => (h c).2, sem_eq_zero_of_no_sems (by decide) r.2⟩)
    (Cert.DownRefIdeal.Value.run (F := Ideal) m ρ)

theorem gate_reference : Cert.quiescent_GateRefIdeal := fun m ρ _ =>
  (θ_run (Cert.GateRefIdeal.defs (F := Ideal)) _ _).mono (fun r h => ⟨fun c => (h c).2, sem_eq_zero_of_no_sems (by decide) r.2⟩)
    (Cert.GateRefIdeal.Value.run (F := Ideal) m ρ)

theorem qkv_reference : Cert.quiescent_QkvRefIdeal := fun m ρ _ =>
  (θ_run (Cert.QkvRefIdeal.defs (F := Ideal)) _ _).mono (fun r h => ⟨fun c => (h c).2, sem_eq_zero_of_no_sems (by decide) r.2⟩)
    (Cert.QkvRefIdeal.Value.run (F := Ideal) m ρ)

theorem xbcIn_reference : Cert.quiescent_XbcInRefIdeal := fun m ρ _ =>
  (θ_run (Cert.XbcInRefIdeal.defs (F := Ideal)) _ _).mono (fun r h => ⟨fun c => (h c).2, sem_eq_zero_of_no_sems (by decide) r.2⟩)
    (Cert.XbcInRefIdeal.Value.run (F := Ideal) m ρ)

theorem zIn_reference : Cert.quiescent_ZInRefIdeal := fun m ρ _ =>
  (θ_run (Cert.ZInRefIdeal.defs (F := Ideal)) _ _).mono (fun r h => ⟨fun c => (h c).2, sem_eq_zero_of_no_sems (by decide) r.2⟩)
    (Cert.ZInRefIdeal.Value.run (F := Ideal) m ρ)

theorem dtIn_reference : Cert.quiescent_DtInRefIdeal := fun m ρ _ =>
  (θ_run (Cert.DtInRefIdeal.defs (F := Ideal)) _ _).mono (fun r h => ⟨fun c => (h c).2, sem_eq_zero_of_no_sems (by decide) r.2⟩)
    (Cert.DtInRefIdeal.Value.run (F := Ideal) m ρ)

theorem ssmOut_reference : Cert.quiescent_SsmOutRefIdeal := fun m ρ _ =>
  (θ_run (Cert.SsmOutRefIdeal.defs (F := Ideal)) _ _).mono (fun r h => ⟨fun c => (h c).2, sem_eq_zero_of_no_sems (by decide) r.2⟩)
    (Cert.SsmOutRefIdeal.Value.run (F := Ideal) m ρ)

theorem attOut_reference : Cert.quiescent_AttOutRefIdeal := fun m ρ _ =>
  (θ_run (Cert.AttOutRefIdeal.defs (F := Ideal)) _ _).mono (fun r h => ⟨fun c => (h c).2, sem_eq_zero_of_no_sems (by decide) r.2⟩)
    (Cert.AttOutRefIdeal.Value.run (F := Ideal) m ρ)

theorem pleGate_reference : Cert.quiescent_PleGateRefIdeal := fun m ρ _ =>
  (θ_run (Cert.PleGateRefIdeal.defs (F := Ideal)) _ _).mono (fun r h => ⟨fun c => (h c).2, sem_eq_zero_of_no_sems (by decide) r.2⟩)
    (Cert.PleGateRefIdeal.Value.run (F := Ideal) m ρ)

theorem pleProj_reference : Cert.quiescent_PleProjRefIdeal := fun m ρ _ =>
  (θ_run (Cert.PleProjRefIdeal.defs (F := Ideal)) _ _).mono (fun r h => ⟨fun c => (h c).2, sem_eq_zero_of_no_sems (by decide) r.2⟩)
    (Cert.PleProjRefIdeal.Value.run (F := Ideal) m ρ)

theorem zProj_reference : Cert.quiescent_ZProjRefIdeal := fun m ρ _ =>
  (θ_run (Cert.ZProjRefIdeal.defs (F := Ideal)) _ _).mono (fun r h => ⟨fun c => (h c).2, sem_eq_zero_of_no_sems (by decide) r.2⟩)
    (Cert.ZProjRefIdeal.Value.run (F := Ideal) m ρ)

theorem xbcProj_reference : Cert.quiescent_XbcProjRefIdeal := fun m ρ _ =>
  (θ_run (Cert.XbcProjRefIdeal.defs (F := Ideal)) _ _).mono (fun r h => ⟨fun c => (h c).2, sem_eq_zero_of_no_sems (by decide) r.2⟩)
    (Cert.XbcProjRefIdeal.Value.run (F := Ideal) m ρ)

theorem dtProj_reference : Cert.quiescent_DtProjRefIdeal := fun m ρ _ =>
  (θ_run (Cert.DtProjRefIdeal.defs (F := Ideal)) _ _).mono (fun r h => ⟨fun c => (h c).2, sem_eq_zero_of_no_sems (by decide) r.2⟩)
    (Cert.DtProjRefIdeal.Value.run (F := Ideal) m ρ)

theorem ffnIn_reference : Cert.quiescent_FfnInRefIdeal := fun m ρ _ =>
  (θ_run (Cert.FfnInRefIdeal.defs (F := Ideal)) _ _).mono (fun r h => ⟨fun c => (h c).2.2.2, sem_eq_zero_of_no_sems (by decide) r.2⟩)
    (Cert.FfnInRefIdeal.Value.run (F := Ideal) m ρ)

theorem downProj_reference : Cert.quiescent_DownProjRefIdeal := fun m ρ _ =>
  (θ_run (Cert.DownProjRefIdeal.defs (F := Ideal)) _ _).mono (fun r h => ⟨fun c => (h c).2, sem_eq_zero_of_no_sems (by decide) r.2⟩)
    (Cert.DownProjRefIdeal.Value.run (F := Ideal) m ρ)

theorem zBack_reference : Cert.quiescent_ZBackRefIdeal := fun m ρ _ =>
  (θ_run (Cert.ZBackRefIdeal.defs (F := Ideal)) _ _).mono (fun r h => ⟨fun c => (h c).2, sem_eq_zero_of_no_sems (by decide) r.2⟩)
    (Cert.ZBackRefIdeal.Value.run (F := Ideal) m ρ)

theorem xbcBack_reference : Cert.quiescent_XbcBackRefIdeal := fun m ρ _ =>
  (θ_run (Cert.XbcBackRefIdeal.defs (F := Ideal)) _ _).mono (fun r h => ⟨fun c => (h c).2, sem_eq_zero_of_no_sems (by decide) r.2⟩)
    (Cert.XbcBackRefIdeal.Value.run (F := Ideal) m ρ)

theorem ffnBack_reference : Cert.quiescent_FfnBackRefIdeal := fun m ρ _ =>
  (θ_run (Cert.FfnBackRefIdeal.defs (F := Ideal)) _ _).mono (fun r h => ⟨fun c => (h c).2.2, sem_eq_zero_of_no_sems (by decide) r.2⟩)
    (Cert.FfnBackRefIdeal.Value.run (F := Ideal) m ρ)

theorem ffnDh_reference : Cert.quiescent_FfnDhRefIdeal := fun m ρ _ =>
  (θ_run (Cert.FfnDhRefIdeal.defs (F := Ideal)) _ _).mono (fun r h => ⟨fun c => (h c).2, sem_eq_zero_of_no_sems (by decide) r.2⟩)
    (Cert.FfnDhRefIdeal.Value.run (F := Ideal) m ρ)

theorem qkvDx_reference : Cert.quiescent_QkvDxRefIdeal := fun m ρ _ =>
  (θ_run (Cert.QkvDxRefIdeal.defs (F := Ideal)) _ _).mono (fun r h => ⟨fun c => (h c).2, sem_eq_zero_of_no_sems (by decide) r.2⟩)
    (Cert.QkvDxRefIdeal.Value.run (F := Ideal) m ρ)

end Weights
-- ==== Proof.lean ====
/- The proof of the claims. The scan's frames are in `Frames`; that its four gradients are the reference's is
   `Scan.agree`, put together from the models of the two programs in `Scan`. The weight gradients and the products with the weights are
   in `Weights`, what comes back through a layer and its norm in `Back`. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.Pre_ffn_back_finite
public import proofs.«01_k».proof.Proof.Frames
public import proofs.«01_k».proof.Proof.Scan.Agree
public import proofs.«01_k».proof.Proof.Gen.Down.Frame
public import proofs.«01_k».proof.Proof.Gen.Gate.Frame
public import proofs.«01_k».proof.Proof.Gen.Qkv.Frame
public import proofs.«01_k».proof.Proof.Gen.XbcIn.Frame
public import proofs.«01_k».proof.Proof.Gen.ZIn.Frame
public import proofs.«01_k».proof.Proof.Gen.DtIn.Frame
public import proofs.«01_k».proof.Proof.Gen.SsmOut.Frame
public import proofs.«01_k».proof.Proof.Gen.AttOut.Frame
public import proofs.«01_k».proof.Proof.Gen.PleGate.Frame
public import proofs.«01_k».proof.Proof.Gen.PleProj.Frame
public import proofs.«01_k».proof.Proof.Gen.ZProj.Frame
public import proofs.«01_k».proof.Proof.Gen.XbcProj.Frame
public import proofs.«01_k».proof.Proof.Gen.DtProj.Frame
public import proofs.«01_k».proof.Proof.Gen.FfnIn.Frame
public import proofs.«01_k».proof.Proof.Gen.DownProj.Frame
public import proofs.«01_k».proof.Proof.Gen.ZBack.Frame
public import proofs.«01_k».proof.Proof.Gen.XbcBack.Frame
public import proofs.«01_k».proof.Proof.Gen.FfnBack.Frame
public import proofs.«01_k».proof.Proof.Gen.FfnDh.Frame
public import proofs.«01_k».proof.Proof.Gen.QkvDx.Frame
public import proofs.«01_k».proof.Proof.Weights.Down
public import proofs.«01_k».proof.Proof.Weights.Gate
public import proofs.«01_k».proof.Proof.Weights.Qkv
public import proofs.«01_k».proof.Proof.Weights.XbcIn
public import proofs.«01_k».proof.Proof.Weights.ZIn
public import proofs.«01_k».proof.Proof.Weights.DtIn
public import proofs.«01_k».proof.Proof.Weights.SsmOut
public import proofs.«01_k».proof.Proof.Weights.AttOut
public import proofs.«01_k».proof.Proof.Weights.PleGate
public import proofs.«01_k».proof.Proof.Weights.PleProj
public import proofs.«01_k».proof.Proof.Weights.ZProj
public import proofs.«01_k».proof.Proof.Weights.XbcProj
public import proofs.«01_k».proof.Proof.Weights.DtProj
public import proofs.«01_k».proof.Proof.Weights.FfnIn
public import proofs.«01_k».proof.Proof.Weights.DownProj
public import proofs.«01_k».proof.Proof.Weights.ZBack
public import proofs.«01_k».proof.Proof.Weights.XbcBack
public import proofs.«01_k».proof.Proof.Back.FfnBack
public import proofs.«01_k».proof.Proof.Back.FfnDh
public import proofs.«01_k».proof.Proof.Back.QkvDx
public import proofs.«01_k».proof.Proof.Weights.References

@[expose] public section

namespace Cert.Proof

open Idealize.ShloMosaic Idealize.SL.Sem

theorem claim : Cert.Claim :=
  ⟨Cert.Kernel.Gen.facts, Cert.KernelIdeal.Gen.facts, Cert.ReferenceIdeal.Gen.facts,
    Cert.Down.Gen.facts, Cert.DownIdeal.Gen.facts, Cert.DownRefIdeal.Gen.facts,
    Cert.Gate.Gen.facts, Cert.GateIdeal.Gen.facts, Cert.GateRefIdeal.Gen.facts,
    Cert.Qkv.Gen.facts, Cert.QkvIdeal.Gen.facts, Cert.QkvRefIdeal.Gen.facts,
    Cert.XbcIn.Gen.facts, Cert.XbcInIdeal.Gen.facts, Cert.XbcInRefIdeal.Gen.facts,
    Cert.ZIn.Gen.facts, Cert.ZInIdeal.Gen.facts, Cert.ZInRefIdeal.Gen.facts,
    Cert.DtIn.Gen.facts, Cert.DtInIdeal.Gen.facts, Cert.DtInRefIdeal.Gen.facts,
    Cert.SsmOut.Gen.facts, Cert.SsmOutIdeal.Gen.facts, Cert.SsmOutRefIdeal.Gen.facts,
    Cert.AttOut.Gen.facts, Cert.AttOutIdeal.Gen.facts, Cert.AttOutRefIdeal.Gen.facts,
    Cert.PleGate.Gen.facts, Cert.PleGateIdeal.Gen.facts, Cert.PleGateRefIdeal.Gen.facts,
    Cert.PleProj.Gen.facts, Cert.PleProjIdeal.Gen.facts, Cert.PleProjRefIdeal.Gen.facts,
    Cert.ZProj.Gen.facts, Cert.ZProjIdeal.Gen.facts, Cert.ZProjRefIdeal.Gen.facts,
    Cert.XbcProj.Gen.facts, Cert.XbcProjIdeal.Gen.facts, Cert.XbcProjRefIdeal.Gen.facts,
    Cert.DtProj.Gen.facts, Cert.DtProjIdeal.Gen.facts, Cert.DtProjRefIdeal.Gen.facts,
    Cert.DownProj.Gen.facts, Cert.DownProjIdeal.Gen.facts, Cert.DownProjRefIdeal.Gen.facts,
    Cert.ZBack.Gen.facts, Cert.ZBackIdeal.Gen.facts, Cert.ZBackRefIdeal.Gen.facts,
    Cert.XbcBack.Gen.facts, Cert.XbcBackIdeal.Gen.facts, Cert.XbcBackRefIdeal.Gen.facts,
    Cert.FfnIn.Gen.facts, Cert.FfnInIdeal.Gen.facts, Cert.FfnInRefIdeal.Gen.facts,
    Cert.FfnBack.Gen.facts, Cert.FfnBackIdeal.Gen.facts, Cert.FfnBackRefIdeal.Gen.facts,
    Cert.FfnDh.Gen.facts, Cert.FfnDhIdeal.Gen.facts, Cert.FfnDhRefIdeal.Gen.facts,
    Cert.QkvDx.Gen.facts, Cert.QkvDxIdeal.Gen.facts, Cert.QkvDxRefIdeal.Gen.facts,
    Cert.Pre_finite.Gen.facts, Cert.Pre_ffn_back_finite.Gen.facts,
    kernel_frame, ideal_frame, fun m ρ _ => ideal_frame m ρ trivial, reference_frame, fun m ρ _ => reference_frame m ρ trivial,
    fun m ρ _ => Cert.Down.Gen.frame m ρ, fun m ρ _ => Cert.DownIdeal.Gen.frame m ρ, Weights.down_reference,
    fun m ρ _ => Cert.Gate.Gen.frame m ρ, fun m ρ _ => Cert.GateIdeal.Gen.frame m ρ, Weights.gate_reference,
    fun m ρ _ => Cert.Qkv.Gen.frame m ρ, fun m ρ _ => Cert.QkvIdeal.Gen.frame m ρ, Weights.qkv_reference,
    fun m ρ _ => Cert.XbcIn.Gen.frame m ρ, fun m ρ _ => Cert.XbcInIdeal.Gen.frame m ρ, Weights.xbcIn_reference,
    fun m ρ _ => Cert.ZIn.Gen.frame m ρ, fun m ρ _ => Cert.ZInIdeal.Gen.frame m ρ, Weights.zIn_reference,
    fun m ρ _ => Cert.DtIn.Gen.frame m ρ, fun m ρ _ => Cert.DtInIdeal.Gen.frame m ρ, Weights.dtIn_reference,
    fun m ρ _ => Cert.SsmOut.Gen.frame m ρ, fun m ρ _ => Cert.SsmOutIdeal.Gen.frame m ρ, Weights.ssmOut_reference,
    fun m ρ _ => Cert.AttOut.Gen.frame m ρ, fun m ρ _ => Cert.AttOutIdeal.Gen.frame m ρ, Weights.attOut_reference,
    fun m ρ _ => Cert.PleGate.Gen.frame m ρ, fun m ρ _ => Cert.PleGateIdeal.Gen.frame m ρ, Weights.pleGate_reference,
    fun m ρ _ => Cert.PleProj.Gen.frame m ρ, fun m ρ _ => Cert.PleProjIdeal.Gen.frame m ρ, Weights.pleProj_reference,
    fun m ρ _ => Cert.ZProj.Gen.frame m ρ, fun m ρ _ => Cert.ZProjIdeal.Gen.frame m ρ, Weights.zProj_reference,
    fun m ρ _ => Cert.XbcProj.Gen.frame m ρ, fun m ρ _ => Cert.XbcProjIdeal.Gen.frame m ρ, Weights.xbcProj_reference,
    fun m ρ _ => Cert.DtProj.Gen.frame m ρ, fun m ρ _ => Cert.DtProjIdeal.Gen.frame m ρ, Weights.dtProj_reference,
    fun m ρ _ => Cert.DownProj.Gen.frame m ρ, fun m ρ _ => Cert.DownProjIdeal.Gen.frame m ρ, Weights.downProj_reference,
    fun m ρ _ => Cert.ZBack.Gen.frame m ρ, fun m ρ _ => Cert.ZBackIdeal.Gen.frame m ρ, Weights.zBack_reference,
    fun m ρ _ => Cert.XbcBack.Gen.frame m ρ, fun m ρ _ => Cert.XbcBackIdeal.Gen.frame m ρ, Weights.xbcBack_reference,
    fun m ρ _ => Cert.FfnIn.Gen.frame m ρ, fun m ρ _ => Cert.FfnInIdeal.Gen.frame m ρ, Weights.ffnIn_reference,
    fun m ρ _ => Cert.FfnBack.Gen.frame m ρ, fun m ρ _ => Cert.FfnBackIdeal.Gen.frame m ρ, fun m ρ _ => Cert.FfnBackIdeal.Gen.frame m ρ,
    Weights.ffnBack_reference, fun m ρ _ => Weights.ffnBack_reference m ρ trivial,
    fun m ρ _ => Cert.FfnDh.Gen.frame m ρ, fun m ρ _ => Cert.FfnDhIdeal.Gen.frame m ρ, Weights.ffnDh_reference,
    fun m ρ _ => Cert.QkvDx.Gen.frame m ρ, fun m ρ _ => Cert.QkvDxIdeal.Gen.frame m ρ, Weights.qkvDx_reference,
    mask_named, Scan.agree,
    trivial, Weights.Down.agree,
    trivial, Weights.Gate.agree,
    trivial, Weights.Qkv.agree,
    trivial, Weights.XbcIn.agree,
    trivial, Weights.ZIn.agree,
    trivial, Weights.DtIn.agree,
    trivial, Weights.SsmOut.agree,
    trivial, Weights.AttOut.agree,
    trivial, Weights.PleGate.agree,
    trivial, Weights.PleProj.agree,
    trivial, Weights.ZProj.agree,
    trivial, Weights.XbcProj.agree,
    trivial, Weights.DtProj.agree,
    trivial, Weights.DownProj.agree,
    trivial, Weights.ZBack.agree,
    trivial, Weights.XbcBack.agree,
    trivial, Weights.FfnIn.agree,
    trivial, Back.FfnBack.agree,
    trivial, Back.FfnDh.agree,
    trivial, Back.QkvDx.agree⟩

end Cert.Proof
